-- ==== Defs.lean ====
def Pre_MixP (m : (ℓ : Loc Cert.MixP.nD Cert.MixP.τ Cert.MixP.sig) → Buf (Elt Bits) ℓ) : Prop :=
  True

def Pre_MixPIdeal (m : (ℓ : Loc Cert.MixPIdeal.nD Cert.MixPIdeal.τ Cert.MixPIdeal.sig) → Buf (Elt Ideal) ℓ) : Prop :=
  True

def Pre_MixPRefIdeal (m : (ℓ : Loc Cert.MixPRefIdeal.nD Cert.MixPRefIdeal.τ Cert.MixPRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_KvqP (m : (ℓ : Loc Cert.KvqP.nD Cert.KvqP.τ Cert.KvqP.sig) → Buf (Elt Bits) ℓ) : Prop :=
  True

def Pre_KvqPIdeal (m : (ℓ : Loc Cert.KvqPIdeal.nD Cert.KvqPIdeal.τ Cert.KvqPIdeal.sig) → Buf (Elt Ideal) ℓ) : Prop :=
  True

def Pre_KvqPRefIdeal (m : (ℓ : Loc Cert.KvqPRefIdeal.nD Cert.KvqPRefIdeal.τ Cert.KvqPRefIdeal.sig) → Buf (Elt Ideal) ℓ) : Prop :=
  True

def Pre_KvqS (m : (ℓ : Loc Cert.KvqS.nD Cert.KvqS.τ Cert.KvqS.sig) → Buf (Elt Bits) ℓ) : Prop :=
  True

def Pre_KvqSIdeal (m : (ℓ : Loc Cert.KvqSIdeal.nD Cert.KvqSIdeal.τ Cert.KvqSIdeal.sig) → Buf (Elt Ideal) ℓ) : Prop :=
  True

def Pre_KvqSRefIdeal (m : (ℓ : Loc Cert.KvqSRefIdeal.nD Cert.KvqSRefIdeal.τ Cert.KvqSRefIdeal.sig) → Buf (Elt Ideal) ℓ) : Prop :=
  True

def Pre_ProjP (m : (ℓ : Loc Cert.ProjP.nD Cert.ProjP.τ Cert.ProjP.sig) → Buf (Elt Bits) ℓ) : Prop :=
  True

def Pre_ProjPIdeal (m : (ℓ : Loc Cert.ProjPIdeal.nD Cert.ProjPIdeal.τ Cert.ProjPIdeal.sig) → Buf (Elt Ideal) ℓ) : Prop :=
  True

def Pre_ProjPRefIdeal (m : (ℓ : Loc Cert.ProjPRefIdeal.nD Cert.ProjPRefIdeal.τ Cert.ProjPRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_FinalP (m : (ℓ : Loc Cert.FinalP.nD Cert.FinalP.τ Cert.FinalP.sig) → Buf (Elt Bits) ℓ) : Prop :=
  True

def Pre_FinalPIdeal (m : (ℓ : Loc Cert.FinalPIdeal.nD Cert.FinalPIdeal.τ Cert.FinalPIdeal.sig) → Buf (Elt Ideal) ℓ) : Prop :=
  True

def Pre_FinalPRefIdeal (m : (ℓ : Loc Cert.FinalPRefIdeal.nD Cert.FinalPRefIdeal.τ Cert.FinalPRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_RouteS (m : (ℓ : Loc Cert.RouteS.nD Cert.RouteS.τ Cert.RouteS.sig) → Buf (Elt Bits) ℓ) : Prop :=
  True

def Pre_RouteSIdeal (m : (ℓ : Loc Cert.RouteSIdeal.nD Cert.RouteSIdeal.τ Cert.RouteSIdeal.sig) → Buf (Elt Ideal) ℓ) : Prop :=
  True

def Pre_RouteSRefIdeal (m : (ℓ : Loc Cert.RouteSRefIdeal.nD Cert.RouteSRefIdeal.τ Cert.RouteSRefIdeal.sig) → Buf (Elt Ideal) ℓ) : Prop :=
  True

def Pre_RouteU (m : (ℓ : Loc Cert.RouteU.nD Cert.RouteU.τ Cert.RouteU.sig) → Buf (Elt Bits) ℓ) : Prop :=
  True

def Pre_RouteUIdeal (m : (ℓ : Loc Cert.RouteUIdeal.nD Cert.RouteUIdeal.τ Cert.RouteUIdeal.sig) → Buf (Elt Ideal) ℓ) : Prop :=
  True

def Pre_RouteURefIdeal (m : (ℓ : Loc Cert.RouteURefIdeal.nD Cert.RouteURefIdeal.τ Cert.RouteURefIdeal.sig) → Buf (Elt Ideal) ℓ) : Prop :=
  True

def Pre_RouteV (m : (ℓ : Loc Cert.RouteV.nD Cert.RouteV.τ Cert.RouteV.sig) → Buf (Elt Bits) ℓ) : Prop :=
  True

def Pre_RouteVIdeal (m : (ℓ : Loc Cert.RouteVIdeal.nD Cert.RouteVIdeal.τ Cert.RouteVIdeal.sig) → Buf (Elt Ideal) ℓ) : Prop :=
  True

def Pre_RouteVRefIdeal (m : (ℓ : Loc Cert.RouteVRefIdeal.nD Cert.RouteVRefIdeal.τ Cert.RouteVRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_TrQ (m : (ℓ : Loc Cert.TrQ.nD Cert.TrQ.τ Cert.TrQ.sig) → Buf (Elt Bits) ℓ) : Prop :=
  True

def Pre_TrQIdeal (m : (ℓ : Loc Cert.TrQIdeal.nD Cert.TrQIdeal.τ Cert.TrQIdeal.sig) → Buf (Elt Ideal) ℓ) : Prop :=
  True

def Pre_TrQRefIdeal (m : (ℓ : Loc Cert.TrQRefIdeal.nD Cert.TrQRefIdeal.τ Cert.TrQRefIdeal.sig) → Buf (Elt Ideal) ℓ) : Prop :=
  True

def Pre_TrV (m : (ℓ : Loc Cert.TrV.nD Cert.TrV.τ Cert.TrV.sig) → Buf (Elt Bits) ℓ) : Prop :=
  True

def Pre_TrVIdeal (m : (ℓ : Loc Cert.TrVIdeal.nD Cert.TrVIdeal.τ Cert.TrVIdeal.sig) → Buf (Elt Ideal) ℓ) : Prop :=
  True

def Pre_TrVRefIdeal (m : (ℓ : Loc Cert.TrVRefIdeal.nD Cert.TrVRefIdeal.τ Cert.TrVRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_distinct_gates [hPre_distinct_gates : Cert.Pre_distinct_gates.Facts] (m : (ℓ : Loc Cert.AttnIdeal.nD Cert.AttnIdeal.τ Cert.AttnIdeal.sig) → Buf (Elt Ideal) ℓ) : Prop :=
  ∀ c : Dev Cert.AttnIdeal.nD,
    (Cert.Pre_distinct_gates.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_distinct_gates [hPre_distinct_gates : Cert.Pre_distinct_gates.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_distinct_gates.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def quiescent_MixP [hMixP : Cert.MixP.Facts] : Prop :=
  ∀ (m : (ℓ : Loc Cert.MixP.nD Cert.MixP.τ Cert.MixP.sig) → Buf (Elt Bits) ℓ) (g : Dev Cert.MixP.nD → PrngReg), Pre_MixP m →
    θ_run (Cert.MixP.defs (F := Bits)) (onTc (τ := Cert.MixP.τ) (Cert.MixP.main (F := Bits))) ⟨m, fun _ => 0, g⟩ (fun r => (∀ c : Dev Cert.MixP.nD,
      r.2.mem ((c.tc : Thread Cert.MixP.nD Cert.MixP.τ).loc Cert.MixP.main_arg0) = m ((c.tc : Thread Cert.MixP.nD Cert.MixP.τ).loc Cert.MixP.main_arg0)
      ∧ r.2.mem ((c.tc : Thread Cert.MixP.nD Cert.MixP.τ).loc Cert.MixP.main_arg1) = m ((c.tc : Thread Cert.MixP.nD Cert.MixP.τ).loc Cert.MixP.main_arg1)
      ∧ r.2.mem ((c.tc : Thread Cert.MixP.nD Cert.MixP.τ).loc Cert.MixP.main_arg2) = m ((c.tc : Thread Cert.MixP.nD Cert.MixP.τ).loc Cert.MixP.main_arg2)
      ∧ r.2.mem ((c.tc : Thread Cert.MixP.nD Cert.MixP.τ).loc Cert.MixP.main_arg3) = m ((c.tc : Thread Cert.MixP.nD Cert.MixP.τ).loc Cert.MixP.main_arg3)
      ∧ r.2.mem ((c.tc : Thread Cert.MixP.nD Cert.MixP.τ).loc Cert.MixP.main_arg4) = m ((c.tc : Thread Cert.MixP.nD Cert.MixP.τ).loc Cert.MixP.main_arg4)
      ∧ r.2.mem ((c.tc : Thread Cert.MixP.nD Cert.MixP.τ).loc Cert.MixP.main_arg5) = m ((c.tc : Thread Cert.MixP.nD Cert.MixP.τ).loc Cert.MixP.main_arg5)
      ∧ r.2.mem ((c.tc : Thread Cert.MixP.nD Cert.MixP.τ).loc Cert.MixP.main_arg6) = m ((c.tc : Thread Cert.MixP.nD Cert.MixP.τ).loc Cert.MixP.main_arg6)
      ∧ r.2.mem ((c.tc : Thread Cert.MixP.nD Cert.MixP.τ).loc Cert.MixP.main_arg7) = m ((c.tc : Thread Cert.MixP.nD Cert.MixP.τ).loc Cert.MixP.main_arg7)
      ∧ r.2.mem ((c.tc : Thread Cert.MixP.nD Cert.MixP.τ).loc Cert.MixP.main_arg8) = m ((c.tc : Thread Cert.MixP.nD Cert.MixP.τ).loc Cert.MixP.main_arg8)
      ∧ r.2.mem ((c.tc : Thread Cert.MixP.nD Cert.MixP.τ).loc Cert.MixP.main_arg9) = m ((c.tc : Thread Cert.MixP.nD Cert.MixP.τ).loc Cert.MixP.main_arg9))
      ∧ r.2.sem = fun _ => 0)

def quiescent_MixPIdeal [hMixPIdeal : Cert.MixPIdeal.Facts] : Prop :=
  ∀ (m : (ℓ : Loc Cert.MixPIdeal.nD Cert.MixPIdeal.τ Cert.MixPIdeal.sig) → Buf (Elt Ideal) ℓ) (g : Dev Cert.MixPIdeal.nD → PrngReg), Pre_MixPIdeal m →
    θ_run (Cert.MixPIdeal.defs (F := Ideal)) (onTc (τ := Cert.MixPIdeal.τ) (Cert.MixPIdeal.main (F := Ideal))) ⟨m, fun _ => 0, g⟩ (fun r => (∀ c : Dev Cert.MixPIdeal.nD,
      r.2.mem ((c.tc : Thread Cert.MixPIdeal.nD Cert.MixPIdeal.τ).loc Cert.MixPIdeal.main_arg0) = m ((c.tc : Thread Cert.MixPIdeal.nD Cert.MixPIdeal.τ).loc Cert.MixPIdeal.main_arg0)
      ∧ r.2.mem ((c.tc : Thread Cert.MixPIdeal.nD Cert.MixPIdeal.τ).loc Cert.MixPIdeal.main_arg1) = m ((c.tc : Thread Cert.MixPIdeal.nD Cert.MixPIdeal.τ).loc Cert.MixPIdeal.main_arg1)
      ∧ r.2.mem ((c.tc : Thread Cert.MixPIdeal.nD Cert.MixPIdeal.τ).loc Cert.MixPIdeal.main_arg2) = m ((c.tc : Thread Cert.MixPIdeal.nD Cert.MixPIdeal.τ).loc Cert.MixPIdeal.main_arg2)
      ∧ r.2.mem ((c.tc : Thread Cert.MixPIdeal.nD Cert.MixPIdeal.τ).loc Cert.MixPIdeal.main_arg3) = m ((c.tc : Thread Cert.MixPIdeal.nD Cert.MixPIdeal.τ).loc Cert.MixPIdeal.main_arg3)
      ∧ r.2.mem ((c.tc : Thread Cert.MixPIdeal.nD Cert.MixPIdeal.τ).loc Cert.MixPIdeal.main_arg4) = m ((c.tc : Thread Cert.MixPIdeal.nD Cert.MixPIdeal.τ).loc Cert.MixPIdeal.main_arg4)
      ∧ r.2.mem ((c.tc : Thread Cert.MixPIdeal.nD Cert.MixPIdeal.τ).loc Cert.MixPIdeal.main_arg5) = m ((c.tc : Thread Cert.MixPIdeal.nD Cert.MixPIdeal.τ).loc Cert.MixPIdeal.main_arg5)
      ∧ r.2.mem ((c.tc : Thread Cert.MixPIdeal.nD Cert.MixPIdeal.τ).loc Cert.MixPIdeal.main_arg6) = m ((c.tc : Thread Cert.MixPIdeal.nD Cert.MixPIdeal.τ).loc Cert.MixPIdeal.main_arg6)
      ∧ r.2.mem ((c.tc : Thread Cert.MixPIdeal.nD Cert.MixPIdeal.τ).loc Cert.MixPIdeal.main_arg7) = m ((c.tc : Thread Cert.MixPIdeal.nD Cert.MixPIdeal.τ).loc Cert.MixPIdeal.main_arg7)
      ∧ r.2.mem ((c.tc : Thread Cert.MixPIdeal.nD Cert.MixPIdeal.τ).loc Cert.MixPIdeal.main_arg8) = m ((c.tc : Thread Cert.MixPIdeal.nD Cert.MixPIdeal.τ).loc Cert.MixPIdeal.main_arg8)
      ∧ r.2.mem ((c.tc : Thread Cert.MixPIdeal.nD Cert.MixPIdeal.τ).loc Cert.MixPIdeal.main_arg9) = m ((c.tc : Thread Cert.MixPIdeal.nD Cert.MixPIdeal.τ).loc Cert.MixPIdeal.main_arg9))
      ∧ r.2.sem = fun _ => 0)

def quiescent_MixPRefIdeal [hMixPRefIdeal : Cert.MixPRefIdeal.Facts] : Prop :=
  ∀ (m : (ℓ : Loc Cert.MixPRefIdeal.nD Cert.MixPRefIdeal.τ Cert.MixPRefIdeal.sig) → Buf (Elt Ideal) ℓ) (g : Dev Cert.MixPRefIdeal.nD → PrngReg), Pre_MixPRefIdeal m →
    θ_run (Cert.MixPRefIdeal.defs (F := Ideal)) (onTc (τ := Cert.MixPRefIdeal.τ) (Cert.MixPRefIdeal.main (F := Ideal))) ⟨m, fun _ => 0, g⟩ (fun r => (∀ c : Dev Cert.MixPRefIdeal.nD,
      r.2.mem ((c.tc : Thread Cert.MixPRefIdeal.nD Cert.MixPRefIdeal.τ).loc Cert.MixPRefIdeal.main_arg0) = m ((c.tc : Thread Cert.MixPRefIdeal.nD Cert.MixPRefIdeal.τ).loc Cert.MixPRefIdeal.main_arg0)
      ∧ r.2.mem ((c.tc : Thread Cert.MixPRefIdeal.nD Cert.MixPRefIdeal.τ).loc Cert.MixPRefIdeal.main_arg1) = m ((c.tc : Thread Cert.MixPRefIdeal.nD Cert.MixPRefIdeal.τ).loc Cert.MixPRefIdeal.main_arg1)
      ∧ r.2.mem ((c.tc : Thread Cert.MixPRefIdeal.nD Cert.MixPRefIdeal.τ).loc Cert.MixPRefIdeal.main_arg2) = m ((c.tc : Thread Cert.MixPRefIdeal.nD Cert.MixPRefIdeal.τ).loc Cert.MixPRefIdeal.main_arg2)
      ∧ r.2.mem ((c.tc : Thread Cert.MixPRefIdeal.nD Cert.MixPRefIdeal.τ).loc Cert.MixPRefIdeal.main_arg3) = m ((c.tc : Thread Cert.MixPRefIdeal.nD Cert.MixPRefIdeal.τ).loc Cert.MixPRefIdeal.main_arg3)
      ∧ r.2.mem ((c.tc : Thread Cert.MixPRefIdeal.nD Cert.MixPRefIdeal.τ).loc Cert.MixPRefIdeal.main_arg4) = m ((c.tc : Thread Cert.MixPRefIdeal.nD Cert.MixPRefIdeal.τ).loc Cert.MixPRefIdeal.main_arg4)
      ∧ r.2.mem ((c.tc : Thread Cert.MixPRefIdeal.nD Cert.MixPRefIdeal.τ).loc Cert.MixPRefIdeal.main_arg5) = m ((c.tc : Thread Cert.MixPRefIdeal.nD Cert.MixPRefIdeal.τ).loc Cert.MixPRefIdeal.main_arg5)
      ∧ r.2.mem ((c.tc : Thread Cert.MixPRefIdeal.nD Cert.MixPRefIdeal.τ).loc Cert.MixPRefIdeal.main_arg6) = m ((c.tc : Thread Cert.MixPRefIdeal.nD Cert.MixPRefIdeal.τ).loc Cert.MixPRefIdeal.main_arg6)
      ∧ r.2.mem ((c.tc : Thread Cert.MixPRefIdeal.nD Cert.MixPRefIdeal.τ).loc Cert.MixPRefIdeal.main_arg7) = m ((c.tc : Thread Cert.MixPRefIdeal.nD Cert.MixPRefIdeal.τ).loc Cert.MixPRefIdeal.main_arg7)
      ∧ r.2.mem ((c.tc : Thread Cert.MixPRefIdeal.nD Cert.MixPRefIdeal.τ).loc Cert.MixPRefIdeal.main_arg8) = m ((c.tc : Thread Cert.MixPRefIdeal.nD Cert.MixPRefIdeal.τ).loc Cert.MixPRefIdeal.main_arg8)
      ∧ r.2.mem ((c.tc : Thread Cert.MixPRefIdeal.nD Cert.MixPRefIdeal.τ).loc Cert.MixPRefIdeal.main_arg9) = m ((c.tc : Thread Cert.MixPRefIdeal.nD Cert.MixPRefIdeal.τ).loc Cert.MixPRefIdeal.main_arg9))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7)
      ∧ r.2.mem ((c.tc : Thread Cert.MixS.nD Cert.MixS.τ).loc Cert.MixS.main_arg8) = m ((c.tc : Thread Cert.MixS.nD Cert.MixS.τ).loc Cert.MixS.main_arg8)
      ∧ r.2.mem ((c.tc : Thread Cert.MixS.nD Cert.MixS.τ).loc Cert.MixS.main_arg9) = m ((c.tc : Thread Cert.MixS.nD Cert.MixS.τ).loc Cert.MixS.main_arg9))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
      ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8)
      ∧ r.2.mem ((c.tc : Thread Cert.MixSIdeal.nD Cert.MixSIdeal.τ).loc Cert.MixSIdeal.main_arg9) = m ((c.tc : Thread Cert.MixSIdeal.nD Cert.MixSIdeal.τ).loc Cert.MixSIdeal.main_arg9))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7)
      ∧ r.2.mem ((c.tc : Thread Cert.MixSRefIdeal.nD Cert.MixSRefIdeal.τ).loc Cert.MixSRefIdeal.main_arg8) = m ((c.tc : Thread Cert.MixSRefIdeal.nD Cert.MixSRefIdeal.τ).loc Cert.MixSRefIdeal.main_arg8)
      ∧ r.2.mem ((c.tc : Thread Cert.MixSRefIdeal.nD Cert.MixSRefIdeal.τ).loc Cert.MixSRefIdeal.main_arg9) = m ((c.tc : Thread Cert.MixSRefIdeal.nD Cert.MixSRefIdeal.τ).loc Cert.MixSRefIdeal.main_arg9))
      ∧ r.2.sem = fun _ => 0)

def quiescent_KvqP [hKvqP : Cert.KvqP.Facts] : Prop :=
  ∀ (m : (ℓ : Loc Cert.KvqP.nD Cert.KvqP.τ Cert.KvqP.sig) → Buf (Elt Bits) ℓ) (g : Dev Cert.KvqP.nD → PrngReg), Pre_KvqP m →
    θ_run (Cert.KvqP.defs (F := Bits)) (onTc (τ := Cert.KvqP.τ) (Cert.KvqP.main (F := Bits))) ⟨m, fun _ => 0, g⟩ (fun r => (∀ c : Dev Cert.KvqP.nD,
      r.2.mem ((c.tc : Thread Cert.KvqP.nD Cert.KvqP.τ).loc Cert.KvqP.main_arg0) = m ((c.tc : Thread Cert.KvqP.nD Cert.KvqP.τ).loc Cert.KvqP.main_arg0)
      ∧ r.2.mem ((c.tc : Thread Cert.KvqP.nD Cert.KvqP.τ).loc Cert.KvqP.main_arg1) = m ((c.tc : Thread Cert.KvqP.nD Cert.KvqP.τ).loc Cert.KvqP.main_arg1)
      ∧ r.2.mem ((c.tc : Thread Cert.KvqP.nD Cert.KvqP.τ).loc Cert.KvqP.main_arg2) = m ((c.tc : Thread Cert.KvqP.nD Cert.KvqP.τ).loc Cert.KvqP.main_arg2)
      ∧ r.2.mem ((c.tc : Thread Cert.KvqP.nD Cert.KvqP.τ).loc Cert.KvqP.main_arg3) = m ((c.tc : Thread Cert.KvqP.nD Cert.KvqP.τ).loc Cert.KvqP.main_arg3)
      ∧ r.2.mem ((c.tc : Thread Cert.KvqP.nD Cert.KvqP.τ).loc Cert.KvqP.main_arg4) = m ((c.tc : Thread Cert.KvqP.nD Cert.KvqP.τ).loc Cert.KvqP.main_arg4)
      ∧ r.2.mem ((c.tc : Thread Cert.KvqP.nD Cert.KvqP.τ).loc Cert.KvqP.main_arg5) = m ((c.tc : Thread Cert.KvqP.nD Cert.KvqP.τ).loc Cert.KvqP.main_arg5)
      ∧ r.2.mem ((c.tc : Thread Cert.KvqP.nD Cert.KvqP.τ).loc Cert.KvqP.main_arg6) = m ((c.tc : Thread Cert.KvqP.nD Cert.KvqP.τ).loc Cert.KvqP.main_arg6)
      ∧ r.2.mem ((c.tc : Thread Cert.KvqP.nD Cert.KvqP.τ).loc Cert.KvqP.main_arg7) = m ((c.tc : Thread Cert.KvqP.nD Cert.KvqP.τ).loc Cert.KvqP.main_arg7)
      ∧ r.2.mem ((c.tc : Thread Cert.KvqP.nD Cert.KvqP.τ).loc Cert.KvqP.main_arg8) = m ((c.tc : Thread Cert.KvqP.nD Cert.KvqP.τ).loc Cert.KvqP.main_arg8))
      ∧ r.2.sem = fun _ => 0)

def quiescent_KvqPIdeal [hKvqPIdeal : Cert.KvqPIdeal.Facts] : Prop :=
  ∀ (m : (ℓ : Loc Cert.KvqPIdeal.nD Cert.KvqPIdeal.τ Cert.KvqPIdeal.sig) → Buf (Elt Ideal) ℓ) (g : Dev Cert.KvqPIdeal.nD → PrngReg), Pre_KvqPIdeal m →
    θ_run (Cert.KvqPIdeal.defs (F := Ideal)) (onTc (τ := Cert.KvqPIdeal.τ) (Cert.KvqPIdeal.main (F := Ideal))) ⟨m, fun _ => 0, g⟩ (fun r => (∀ c : Dev Cert.KvqPIdeal.nD,
      r.2.mem ((c.tc : Thread Cert.KvqPIdeal.nD Cert.KvqPIdeal.τ).loc Cert.KvqPIdeal.main_arg0) = m ((c.tc : Thread Cert.KvqPIdeal.nD Cert.KvqPIdeal.τ).loc Cert.KvqPIdeal.main_arg0)
      ∧ r.2.mem ((c.tc : Thread Cert.KvqPIdeal.nD Cert.KvqPIdeal.τ).loc Cert.KvqPIdeal.main_arg1) = m ((c.tc : Thread Cert.KvqPIdeal.nD Cert.KvqPIdeal.τ).loc Cert.KvqPIdeal.main_arg1)
      ∧ r.2.mem ((c.tc : Thread Cert.KvqPIdeal.nD Cert.KvqPIdeal.τ).loc Cert.KvqPIdeal.main_arg2) = m ((c.tc : Thread Cert.KvqPIdeal.nD Cert.KvqPIdeal.τ).loc Cert.KvqPIdeal.main_arg2)
      ∧ r.2.mem ((c.tc : Thread Cert.KvqPIdeal.nD Cert.KvqPIdeal.τ).loc Cert.KvqPIdeal.main_arg3) = m ((c.tc : Thread Cert.KvqPIdeal.nD Cert.KvqPIdeal.τ).loc Cert.KvqPIdeal.main_arg3)
      ∧ r.2.mem ((c.tc : Thread Cert.KvqPIdeal.nD Cert.KvqPIdeal.τ).loc Cert.KvqPIdeal.main_arg4) = m ((c.tc : Thread Cert.KvqPIdeal.nD Cert.KvqPIdeal.τ).loc Cert.KvqPIdeal.main_arg4)
      ∧ r.2.mem ((c.tc : Thread Cert.KvqPIdeal.nD Cert.KvqPIdeal.τ).loc Cert.KvqPIdeal.main_arg5) = m ((c.tc : Thread Cert.KvqPIdeal.nD Cert.KvqPIdeal.τ).loc Cert.KvqPIdeal.main_arg5)
      ∧ r.2.mem ((c.tc : Thread Cert.KvqPIdeal.nD Cert.KvqPIdeal.τ).loc Cert.KvqPIdeal.main_arg6) = m ((c.tc : Thread Cert.KvqPIdeal.nD Cert.KvqPIdeal.τ).loc Cert.KvqPIdeal.main_arg6)
      ∧ r.2.mem ((c.tc : Thread Cert.KvqPIdeal.nD Cert.KvqPIdeal.τ).loc Cert.KvqPIdeal.main_arg7) = m ((c.tc : Thread Cert.KvqPIdeal.nD Cert.KvqPIdeal.τ).loc Cert.KvqPIdeal.main_arg7)
      ∧ r.2.mem ((c.tc : Thread Cert.KvqPIdeal.nD Cert.KvqPIdeal.τ).loc Cert.KvqPIdeal.main_arg8) = m ((c.tc : Thread Cert.KvqPIdeal.nD Cert.KvqPIdeal.τ).loc Cert.KvqPIdeal.main_arg8))
      ∧ r.2.sem = fun _ => 0)

def quiescent_KvqPRefIdeal [hKvqPRefIdeal : Cert.KvqPRefIdeal.Facts] : Prop :=
  ∀ (m : (ℓ : Loc Cert.KvqPRefIdeal.nD Cert.KvqPRefIdeal.τ Cert.KvqPRefIdeal.sig) → Buf (Elt Ideal) ℓ) (g : Dev Cert.KvqPRefIdeal.nD → PrngReg), Pre_KvqPRefIdeal m →
    θ_run (Cert.KvqPRefIdeal.defs (F := Ideal)) (onTc (τ := Cert.KvqPRefIdeal.τ) (Cert.KvqPRefIdeal.main (F := Ideal))) ⟨m, fun _ => 0, g⟩ (fun r => (∀ c : Dev Cert.KvqPRefIdeal.nD,
      r.2.mem ((c.tc : Thread Cert.KvqPRefIdeal.nD Cert.KvqPRefIdeal.τ).loc Cert.KvqPRefIdeal.main_arg0) = m ((c.tc : Thread Cert.KvqPRefIdeal.nD Cert.KvqPRefIdeal.τ).loc Cert.KvqPRefIdeal.main_arg0)
      ∧ r.2.mem ((c.tc : Thread Cert.KvqPRefIdeal.nD Cert.KvqPRefIdeal.τ).loc Cert.KvqPRefIdeal.main_arg1) = m ((c.tc : Thread Cert.KvqPRefIdeal.nD Cert.KvqPRefIdeal.τ).loc Cert.KvqPRefIdeal.main_arg1)
      ∧ r.2.mem ((c.tc : Thread Cert.KvqPRefIdeal.nD Cert.KvqPRefIdeal.τ).loc Cert.KvqPRefIdeal.main_arg2) = m ((c.tc : Thread Cert.KvqPRefIdeal.nD Cert.KvqPRefIdeal.τ).loc Cert.KvqPRefIdeal.main_arg2)
      ∧ r.2.mem ((c.tc : Thread Cert.KvqPRefIdeal.nD Cert.KvqPRefIdeal.τ).loc Cert.KvqPRefIdeal.main_arg3) = m ((c.tc : Thread Cert.KvqPRefIdeal.nD Cert.KvqPRefIdeal.τ).loc Cert.KvqPRefIdeal.main_arg3)
      ∧ r.2.mem ((c.tc : Thread Cert.KvqPRefIdeal.nD Cert.KvqPRefIdeal.τ).loc Cert.KvqPRefIdeal.main_arg4) = m ((c.tc : Thread Cert.KvqPRefIdeal.nD Cert.KvqPRefIdeal.τ).loc Cert.KvqPRefIdeal.main_arg4)
      ∧ r.2.mem ((c.tc : Thread Cert.KvqPRefIdeal.nD Cert.KvqPRefIdeal.τ).loc Cert.KvqPRefIdeal.main_arg5) = m ((c.tc : Thread Cert.KvqPRefIdeal.nD Cert.KvqPRefIdeal.τ).loc Cert.KvqPRefIdeal.main_arg5)
      ∧ r.2.mem ((c.tc : Thread Cert.KvqPRefIdeal.nD Cert.KvqPRefIdeal.τ).loc Cert.KvqPRefIdeal.main_arg6) = m ((c.tc : Thread Cert.KvqPRefIdeal.nD Cert.KvqPRefIdeal.τ).loc Cert.KvqPRefIdeal.main_arg6)
      ∧ r.2.mem ((c.tc : Thread Cert.KvqPRefIdeal.nD Cert.KvqPRefIdeal.τ).loc Cert.KvqPRefIdeal.main_arg7) = m ((c.tc : Thread Cert.KvqPRefIdeal.nD Cert.KvqPRefIdeal.τ).loc Cert.KvqPRefIdeal.main_arg7)
      ∧ r.2.mem ((c.tc : Thread Cert.KvqPRefIdeal.nD Cert.KvqPRefIdeal.τ).loc Cert.KvqPRefIdeal.main_arg8) = m ((c.tc : Thread Cert.KvqPRefIdeal.nD Cert.KvqPRefIdeal.τ).loc Cert.KvqPRefIdeal.main_arg8))
      ∧ r.2.sem = fun _ => 0)

def quiescent_KvqS [hKvqS : Cert.KvqS.Facts] : Prop :=
  ∀ (m : (ℓ : Loc Cert.KvqS.nD Cert.KvqS.τ Cert.KvqS.sig) → Buf (Elt Bits) ℓ) (g : Dev Cert.KvqS.nD → PrngReg), Pre_KvqS m →
    θ_run (Cert.KvqS.defs (F := Bits)) (onTc (τ := Cert.KvqS.τ) (Cert.KvqS.main (F := Bits))) ⟨m, fun _ => 0, g⟩ (fun r => (∀ c : Dev Cert.KvqS.nD,
      r.2.mem ((c.tc : Thread Cert.KvqS.nD Cert.KvqS.τ).loc Cert.KvqS.main_arg0) = m ((c.tc : Thread Cert.KvqS.nD Cert.KvqS.τ).loc Cert.KvqS.main_arg0)
      ∧ r.2.mem ((c.tc : Thread Cert.KvqS.nD Cert.KvqS.τ).loc Cert.KvqS.main_arg1) = m ((c.tc : Thread Cert.KvqS.nD Cert.KvqS.τ).loc Cert.KvqS.main_arg1)
      ∧ r.2.mem ((c.tc : Thread Cert.KvqS.nD Cert.KvqS.τ).loc Cert.KvqS.main_arg2) = m ((c.tc : Thread Cert.KvqS.nD Cert.KvqS.τ).loc Cert.KvqS.main_arg2)
      ∧ r.2.mem ((c.tc : Thread Cert.KvqS.nD Cert.KvqS.τ).loc Cert.KvqS.main_arg3) = m ((c.tc : Thread Cert.KvqS.nD Cert.KvqS.τ).loc Cert.KvqS.main_arg3)
      ∧ r.2.mem ((c.tc : Thread Cert.KvqS.nD Cert.KvqS.τ).loc Cert.KvqS.main_arg4) = m ((c.tc : Thread Cert.KvqS.nD Cert.KvqS.τ).loc Cert.KvqS.main_arg4)
      ∧ r.2.mem ((c.tc : Thread Cert.KvqS.nD Cert.KvqS.τ).loc Cert.KvqS.main_arg5) = m ((c.tc : Thread Cert.KvqS.nD Cert.KvqS.τ).loc Cert.KvqS.main_arg5)
      ∧ r.2.mem ((c.tc : Thread Cert.KvqS.nD Cert.KvqS.τ).loc Cert.KvqS.main_arg6) = m ((c.tc : Thread Cert.KvqS.nD Cert.KvqS.τ).loc Cert.KvqS.main_arg6)
      ∧ r.2.mem ((c.tc : Thread Cert.KvqS.nD Cert.KvqS.τ).loc Cert.KvqS.main_arg7) = m ((c.tc : Thread Cert.KvqS.nD Cert.KvqS.τ).loc Cert.KvqS.main_arg7)
      ∧ r.2.mem ((c.tc : Thread Cert.KvqS.nD Cert.KvqS.τ).loc Cert.KvqS.main_arg8) = m ((c.tc : Thread Cert.KvqS.nD Cert.KvqS.τ).loc Cert.KvqS.main_arg8))
      ∧ r.2.sem = fun _ => 0)

def quiescent_KvqSIdeal [hKvqSIdeal : Cert.KvqSIdeal.Facts] : Prop :=
  ∀ (m : (ℓ : Loc Cert.KvqSIdeal.nD Cert.KvqSIdeal.τ Cert.KvqSIdeal.sig) → Buf (Elt Ideal) ℓ) (g : Dev Cert.KvqSIdeal.nD → PrngReg), Pre_KvqSIdeal m →
    θ_run (Cert.KvqSIdeal.defs (F := Ideal)) (onTc (τ := Cert.KvqSIdeal.τ) (Cert.KvqSIdeal.main (F := Ideal))) ⟨m, fun _ => 0, g⟩ (fun r => (∀ c : Dev Cert.KvqSIdeal.nD,
      r.2.mem ((c.tc : Thread Cert.KvqSIdeal.nD Cert.KvqSIdeal.τ).loc Cert.KvqSIdeal.main_arg0) = m ((c.tc : Thread Cert.KvqSIdeal.nD Cert.KvqSIdeal.τ).loc Cert.KvqSIdeal.main_arg0)
      ∧ r.2.mem ((c.tc : Thread Cert.KvqSIdeal.nD Cert.KvqSIdeal.τ).loc Cert.KvqSIdeal.main_arg1) = m ((c.tc : Thread Cert.KvqSIdeal.nD Cert.KvqSIdeal.τ).loc Cert.KvqSIdeal.main_arg1)
      ∧ r.2.mem ((c.tc : Thread Cert.KvqSIdeal.nD Cert.KvqSIdeal.τ).loc Cert.KvqSIdeal.main_arg2) = m ((c.tc : Thread Cert.KvqSIdeal.nD Cert.KvqSIdeal.τ).loc Cert.KvqSIdeal.main_arg2)
      ∧ r.2.mem ((c.tc : Thread Cert.KvqSIdeal.nD Cert.KvqSIdeal.τ).loc Cert.KvqSIdeal.main_arg3) = m ((c.tc : Thread Cert.KvqSIdeal.nD Cert.KvqSIdeal.τ).loc Cert.KvqSIdeal.main_arg3)
      ∧ r.2.mem ((c.tc : Thread Cert.KvqSIdeal.nD Cert.KvqSIdeal.τ).loc Cert.KvqSIdeal.main_arg4) = m ((c.tc : Thread Cert.KvqSIdeal.nD Cert.KvqSIdeal.τ).loc Cert.KvqSIdeal.main_arg4)
      ∧ r.2.mem ((c.tc : Thread Cert.KvqSIdeal.nD Cert.KvqSIdeal.τ).loc Cert.KvqSIdeal.main_arg5) = m ((c.tc : Thread Cert.KvqSIdeal.nD Cert.KvqSIdeal.τ).loc Cert.KvqSIdeal.main_arg5)
      ∧ r.2.mem ((c.tc : Thread Cert.KvqSIdeal.nD Cert.KvqSIdeal.τ).loc Cert.KvqSIdeal.main_arg6) = m ((c.tc : Thread Cert.KvqSIdeal.nD Cert.KvqSIdeal.τ).loc Cert.KvqSIdeal.main_arg6)
      ∧ r.2.mem ((c.tc : Thread Cert.KvqSIdeal.nD Cert.KvqSIdeal.τ).loc Cert.KvqSIdeal.main_arg7) = m ((c.tc : Thread Cert.KvqSIdeal.nD Cert.KvqSIdeal.τ).loc Cert.KvqSIdeal.main_arg7)
      ∧ r.2.mem ((c.tc : Thread Cert.KvqSIdeal.nD Cert.KvqSIdeal.τ).loc Cert.KvqSIdeal.main_arg8) = m ((c.tc : Thread Cert.KvqSIdeal.nD Cert.KvqSIdeal.τ).loc Cert.KvqSIdeal.main_arg8))
      ∧ r.2.sem = fun _ => 0)

def quiescent_KvqSRefIdeal [hKvqSRefIdeal : Cert.KvqSRefIdeal.Facts] : Prop :=
  ∀ (m : (ℓ : Loc Cert.KvqSRefIdeal.nD Cert.KvqSRefIdeal.τ Cert.KvqSRefIdeal.sig) → Buf (Elt Ideal) ℓ) (g : Dev Cert.KvqSRefIdeal.nD → PrngReg), Pre_KvqSRefIdeal m →
    θ_run (Cert.KvqSRefIdeal.defs (F := Ideal)) (onTc (τ := Cert.KvqSRefIdeal.τ) (Cert.KvqSRefIdeal.main (F := Ideal))) ⟨m, fun _ => 0, g⟩ (fun r => (∀ c : Dev Cert.KvqSRefIdeal.nD,
      r.2.mem ((c.tc : Thread Cert.KvqSRefIdeal.nD Cert.KvqSRefIdeal.τ).loc Cert.KvqSRefIdeal.main_arg0) = m ((c.tc : Thread Cert.KvqSRefIdeal.nD Cert.KvqSRefIdeal.τ).loc Cert.KvqSRefIdeal.main_arg0)
      ∧ r.2.mem ((c.tc : Thread Cert.KvqSRefIdeal.nD Cert.KvqSRefIdeal.τ).loc Cert.KvqSRefIdeal.main_arg1) = m ((c.tc : Thread Cert.KvqSRefIdeal.nD Cert.KvqSRefIdeal.τ).loc Cert.KvqSRefIdeal.main_arg1)
      ∧ r.2.mem ((c.tc : Thread Cert.KvqSRefIdeal.nD Cert.KvqSRefIdeal.τ).loc Cert.KvqSRefIdeal.main_arg2) = m ((c.tc : Thread Cert.KvqSRefIdeal.nD Cert.KvqSRefIdeal.τ).loc Cert.KvqSRefIdeal.main_arg2)
      ∧ r.2.mem ((c.tc : Thread Cert.KvqSRefIdeal.nD Cert.KvqSRefIdeal.τ).loc Cert.KvqSRefIdeal.main_arg3) = m ((c.tc : Thread Cert.KvqSRefIdeal.nD Cert.KvqSRefIdeal.τ).loc Cert.KvqSRefIdeal.main_arg3)
      ∧ r.2.mem ((c.tc : Thread Cert.KvqSRefIdeal.nD Cert.KvqSRefIdeal.τ).loc Cert.KvqSRefIdeal.main_arg4) = m ((c.tc : Thread Cert.KvqSRefIdeal.nD Cert.KvqSRefIdeal.τ).loc Cert.KvqSRefIdeal.main_arg4)
      ∧ r.2.mem ((c.tc : Thread Cert.KvqSRefIdeal.nD Cert.KvqSRefIdeal.τ).loc Cert.KvqSRefIdeal.main_arg5) = m ((c.tc : Thread Cert.KvqSRefIdeal.nD Cert.KvqSRefIdeal.τ).loc Cert.KvqSRefIdeal.main_arg5)
      ∧ r.2.mem ((c.tc : Thread Cert.KvqSRefIdeal.nD Cert.KvqSRefIdeal.τ).loc Cert.KvqSRefIdeal.main_arg6) = m ((c.tc : Thread Cert.KvqSRefIdeal.nD Cert.KvqSRefIdeal.τ).loc Cert.KvqSRefIdeal.main_arg6)
      ∧ r.2.mem ((c.tc : Thread Cert.KvqSRefIdeal.nD Cert.KvqSRefIdeal.τ).loc Cert.KvqSRefIdeal.main_arg7) = m ((c.tc : Thread Cert.KvqSRefIdeal.nD Cert.KvqSRefIdeal.τ).loc Cert.KvqSRefIdeal.main_arg7)
      ∧ r.2.mem ((c.tc : Thread Cert.KvqSRefIdeal.nD Cert.KvqSRefIdeal.τ).loc Cert.KvqSRefIdeal.main_arg8) = m ((c.tc : Thread Cert.KvqSRefIdeal.nD Cert.KvqSRefIdeal.τ).loc Cert.KvqSRefIdeal.main_arg8))
      ∧ r.2.sem = fun _ => 0)

def quiescent_ProjP [hProjP : Cert.ProjP.Facts] : Prop :=
  ∀ (m : (ℓ : Loc Cert.ProjP.nD Cert.ProjP.τ Cert.ProjP.sig) → Buf (Elt Bits) ℓ) (g : Dev Cert.ProjP.nD → PrngReg), Pre_ProjP m →
    θ_run (Cert.ProjP.defs (F := Bits)) (onTc (τ := Cert.ProjP.τ) (Cert.ProjP.main (F := Bits))) ⟨m, fun _ => 0, g⟩ (fun r => (∀ c : Dev Cert.ProjP.nD,
      r.2.mem ((c.tc : Thread Cert.ProjP.nD Cert.ProjP.τ).loc Cert.ProjP.main_arg0) = m ((c.tc : Thread Cert.ProjP.nD Cert.ProjP.τ).loc Cert.ProjP.main_arg0)
      ∧ r.2.mem ((c.tc : Thread Cert.ProjP.nD Cert.ProjP.τ).loc Cert.ProjP.main_arg1) = m ((c.tc : Thread Cert.ProjP.nD Cert.ProjP.τ).loc Cert.ProjP.main_arg1)
      ∧ r.2.mem ((c.tc : Thread Cert.ProjP.nD Cert.ProjP.τ).loc Cert.ProjP.main_arg2) = m ((c.tc : Thread Cert.ProjP.nD Cert.ProjP.τ).loc Cert.ProjP.main_arg2)
      ∧ r.2.mem ((c.tc : Thread Cert.ProjP.nD Cert.ProjP.τ).loc Cert.ProjP.main_arg3) = m ((c.tc : Thread Cert.ProjP.nD Cert.ProjP.τ).loc Cert.ProjP.main_arg3))
      ∧ r.2.sem = fun _ => 0)

def quiescent_ProjPIdeal [hProjPIdeal : Cert.ProjPIdeal.Facts] : Prop :=
  ∀ (m : (ℓ : Loc Cert.ProjPIdeal.nD Cert.ProjPIdeal.τ Cert.ProjPIdeal.sig) → Buf (Elt Ideal) ℓ) (g : Dev Cert.ProjPIdeal.nD → PrngReg), Pre_ProjPIdeal m →
    θ_run (Cert.ProjPIdeal.defs (F := Ideal)) (onTc (τ := Cert.ProjPIdeal.τ) (Cert.ProjPIdeal.main (F := Ideal))) ⟨m, fun _ => 0, g⟩ (fun r => (∀ c : Dev Cert.ProjPIdeal.nD,
      r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
      ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
      ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2)
      ∧ r.2.mem ((c.tc : Thread Cert.ProjPIdeal.nD Cert.ProjPIdeal.τ).loc Cert.ProjPIdeal.main_arg3) = m ((c.tc : Thread Cert.ProjPIdeal.nD Cert.ProjPIdeal.τ).loc Cert.ProjPIdeal.main_arg3))
      ∧ r.2.sem = fun _ => 0)

def quiescent_ProjPRefIdeal [hProjPRefIdeal : Cert.ProjPRefIdeal.Facts] : Prop :=
  ∀ (m : (ℓ : Loc Cert.ProjPRefIdeal.nD Cert.ProjPRefIdeal.τ Cert.ProjPRefIdeal.sig) → Buf (Elt Ideal) ℓ) (g : Dev Cert.ProjPRefIdeal.nD → PrngReg), Pre_ProjPRefIdeal m →
    θ_run (Cert.ProjPRefIdeal.defs (F := Ideal)) (onTc (τ := Cert.ProjPRefIdeal.τ) (Cert.ProjPRefIdeal.main (F := Ideal))) ⟨m, fun _ => 0, g⟩ (fun r => (∀ c : Dev Cert.ProjPRefIdeal.nD,
      r.2.mem ((c.tc : Thread Cert.ProjPRefIdeal.nD Cert.ProjPRefIdeal.τ).loc Cert.ProjPRefIdeal.main_arg0) = m ((c.tc : Thread Cert.ProjPRefIdeal.nD Cert.ProjPRefIdeal.τ).loc Cert.ProjPRefIdeal.main_arg0)
      ∧ r.2.mem ((c.tc : Thread Cert.ProjPRefIdeal.nD Cert.ProjPRefIdeal.τ).loc Cert.ProjPRefIdeal.main_arg1) = m ((c.tc : Thread Cert.ProjPRefIdeal.nD Cert.ProjPRefIdeal.τ).loc Cert.ProjPRefIdeal.main_arg1)
      ∧ r.2.mem ((c.tc : Thread Cert.ProjPRefIdeal.nD Cert.ProjPRefIdeal.τ).loc Cert.ProjPRefIdeal.main_arg2) = m ((c.tc : Thread Cert.ProjPRefIdeal.nD Cert.ProjPRefIdeal.τ).loc Cert.ProjPRefIdeal.main_arg2)
      ∧ r.2.mem ((c.tc : Thread Cert.ProjPRefIdeal.nD Cert.ProjPRefIdeal.τ).loc Cert.ProjPRefIdeal.main_arg3) = m ((c.tc : Thread Cert.ProjPRefIdeal.nD Cert.ProjPRefIdeal.τ).loc Cert.ProjPRefIdeal.main_arg3))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3))
      ∧ r.2.sem = fun _ => 0)

def quiescent_FinalP [hFinalP : Cert.FinalP.Facts] : Prop :=
  ∀ (m : (ℓ : Loc Cert.FinalP.nD Cert.FinalP.τ Cert.FinalP.sig) → Buf (Elt Bits) ℓ) (g : Dev Cert.FinalP.nD → PrngReg), Pre_FinalP m →
    θ_run (Cert.FinalP.defs (F := Bits)) (onTc (τ := Cert.FinalP.τ) (Cert.FinalP.main (F := Bits))) ⟨m, fun _ => 0, g⟩ (fun r => (∀ c : Dev Cert.FinalP.nD,
      r.2.mem ((c.tc : Thread Cert.FinalP.nD Cert.FinalP.τ).loc Cert.FinalP.main_arg0) = m ((c.tc : Thread Cert.FinalP.nD Cert.FinalP.τ).loc Cert.FinalP.main_arg0)
      ∧ r.2.mem ((c.tc : Thread Cert.FinalP.nD Cert.FinalP.τ).loc Cert.FinalP.main_arg1) = m ((c.tc : Thread Cert.FinalP.nD Cert.FinalP.τ).loc Cert.FinalP.main_arg1)
      ∧ r.2.mem ((c.tc : Thread Cert.FinalP.nD Cert.FinalP.τ).loc Cert.FinalP.main_arg2) = m ((c.tc : Thread Cert.FinalP.nD Cert.FinalP.τ).loc Cert.FinalP.main_arg2)
      ∧ r.2.mem ((c.tc : Thread Cert.FinalP.nD Cert.FinalP.τ).loc Cert.FinalP.main_arg3) = m ((c.tc : Thread Cert.FinalP.nD Cert.FinalP.τ).loc Cert.FinalP.main_arg3))
      ∧ r.2.sem = fun _ => 0)

def quiescent_FinalPIdeal [hFinalPIdeal : Cert.FinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg), Pre_FinalPIdeal m →
    θ_run (Cert.FinalPIdeal.defs (F := Ideal)) (onTc (τ := Cert.FinalPIdeal.τ) (Cert.FinalPIdeal.main (F := Ideal))) ⟨m, fun _ => 0, g⟩ (fun r => (∀ c : Dev Cert.FinalPIdeal.nD,
      r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
      ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
      ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2)
      ∧ r.2.mem ((c.tc : Thread Cert.FinalPIdeal.nD Cert.FinalPIdeal.τ).loc Cert.FinalPIdeal.main_arg3) = m ((c.tc : Thread Cert.FinalPIdeal.nD Cert.FinalPIdeal.τ).loc Cert.FinalPIdeal.main_arg3))
      ∧ r.2.sem = fun _ => 0)

def quiescent_FinalPRefIdeal [hFinalPRefIdeal : Cert.FinalPRefIdeal.Facts] : Prop :=
  ∀ (m : (ℓ : Loc Cert.FinalPRefIdeal.nD Cert.FinalPRefIdeal.τ Cert.FinalPRefIdeal.sig) → Buf (Elt Ideal) ℓ) (g : Dev Cert.FinalPRefIdeal.nD → PrngReg), Pre_FinalPRefIdeal m →
    θ_run (Cert.FinalPRefIdeal.defs (F := Ideal)) (onTc (τ := Cert.FinalPRefIdeal.τ) (Cert.FinalPRefIdeal.main (F := Ideal))) ⟨m, fun _ => 0, g⟩ (fun r => (∀ c : Dev Cert.FinalPRefIdeal.nD,
      r.2.mem ((c.tc : Thread Cert.FinalPRefIdeal.nD Cert.FinalPRefIdeal.τ).loc Cert.FinalPRefIdeal.main_arg0) = m ((c.tc : Thread Cert.FinalPRefIdeal.nD Cert.FinalPRefIdeal.τ).loc Cert.FinalPRefIdeal.main_arg0)
      ∧ r.2.mem ((c.tc : Thread Cert.FinalPRefIdeal.nD Cert.FinalPRefIdeal.τ).loc Cert.FinalPRefIdeal.main_arg1) = m ((c.tc : Thread Cert.FinalPRefIdeal.nD Cert.FinalPRefIdeal.τ).loc Cert.FinalPRefIdeal.main_arg1)
      ∧ r.2.mem ((c.tc : Thread Cert.FinalPRefIdeal.nD Cert.FinalPRefIdeal.τ).loc Cert.FinalPRefIdeal.main_arg2) = m ((c.tc : Thread Cert.FinalPRefIdeal.nD Cert.FinalPRefIdeal.τ).loc Cert.FinalPRefIdeal.main_arg2)
      ∧ r.2.mem ((c.tc : Thread Cert.FinalPRefIdeal.nD Cert.FinalPRefIdeal.τ).loc Cert.FinalPRefIdeal.main_arg3) = m ((c.tc : Thread Cert.FinalPRefIdeal.nD Cert.FinalPRefIdeal.τ).loc Cert.FinalPRefIdeal.main_arg3))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1)
      ∧ r.2.mem ((c.tc : Thread Cert.FinalS.nD Cert.FinalS.τ).loc Cert.FinalS.main_arg2) = m ((c.tc : Thread Cert.FinalS.nD Cert.FinalS.τ).loc Cert.FinalS.main_arg2)
      ∧ r.2.mem ((c.tc : Thread Cert.FinalS.nD Cert.FinalS.τ).loc Cert.FinalS.main_arg3) = m ((c.tc : Thread Cert.FinalS.nD Cert.FinalS.τ).loc Cert.FinalS.main_arg3))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
      ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2)
      ∧ r.2.mem ((c.tc : Thread Cert.FinalSIdeal.nD Cert.FinalSIdeal.τ).loc Cert.FinalSIdeal.main_arg3) = m ((c.tc : Thread Cert.FinalSIdeal.nD Cert.FinalSIdeal.τ).loc Cert.FinalSIdeal.main_arg3))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1)
      ∧ r.2.mem ((c.tc : Thread Cert.FinalSRefIdeal.nD Cert.FinalSRefIdeal.τ).loc Cert.FinalSRefIdeal.main_arg2) = m ((c.tc : Thread Cert.FinalSRefIdeal.nD Cert.FinalSRefIdeal.τ).loc Cert.FinalSRefIdeal.main_arg2)
      ∧ r.2.mem ((c.tc : Thread Cert.FinalSRefIdeal.nD Cert.FinalSRefIdeal.τ).loc Cert.FinalSRefIdeal.main_arg3) = m ((c.tc : Thread Cert.FinalSRefIdeal.nD Cert.FinalSRefIdeal.τ).loc Cert.FinalSRefIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5))
      ∧ r.2.sem = fun _ => 0)

def quiescent_RouteS [hRouteS : Cert.RouteS.Facts] : Prop :=
  ∀ (m : (ℓ : Loc Cert.RouteS.nD Cert.RouteS.τ Cert.RouteS.sig) → Buf (Elt Bits) ℓ) (g : Dev Cert.RouteS.nD → PrngReg), Pre_RouteS m →
    θ_run (Cert.RouteS.defs (F := Bits)) (onTc (τ := Cert.RouteS.τ) (Cert.RouteS.main (F := Bits))) ⟨m, fun _ => 0, g⟩ (fun r => (∀ c : Dev Cert.RouteS.nD,
      r.2.mem ((c.tc : Thread Cert.RouteS.nD Cert.RouteS.τ).loc Cert.RouteS.main_arg0) = m ((c.tc : Thread Cert.RouteS.nD Cert.RouteS.τ).loc Cert.RouteS.main_arg0)
      ∧ r.2.mem ((c.tc : Thread Cert.RouteS.nD Cert.RouteS.τ).loc Cert.RouteS.main_arg1) = m ((c.tc : Thread Cert.RouteS.nD Cert.RouteS.τ).loc Cert.RouteS.main_arg1)
      ∧ r.2.mem ((c.tc : Thread Cert.RouteS.nD Cert.RouteS.τ).loc Cert.RouteS.main_arg2) = m ((c.tc : Thread Cert.RouteS.nD Cert.RouteS.τ).loc Cert.RouteS.main_arg2)
      ∧ r.2.mem ((c.tc : Thread Cert.RouteS.nD Cert.RouteS.τ).loc Cert.RouteS.main_arg3) = m ((c.tc : Thread Cert.RouteS.nD Cert.RouteS.τ).loc Cert.RouteS.main_arg3)
      ∧ r.2.mem ((c.tc : Thread Cert.RouteS.nD Cert.RouteS.τ).loc Cert.RouteS.main_arg4) = m ((c.tc : Thread Cert.RouteS.nD Cert.RouteS.τ).loc Cert.RouteS.main_arg4)
      ∧ r.2.mem ((c.tc : Thread Cert.RouteS.nD Cert.RouteS.τ).loc Cert.RouteS.main_arg5) = m ((c.tc : Thread Cert.RouteS.nD Cert.RouteS.τ).loc Cert.RouteS.main_arg5))
      ∧ r.2.sem = fun _ => 0)

def quiescent_RouteSIdeal [hRouteSIdeal : Cert.RouteSIdeal.Facts] : Prop :=
  ∀ (m : (ℓ : Loc Cert.RouteSIdeal.nD Cert.RouteSIdeal.τ Cert.RouteSIdeal.sig) → Buf (Elt Ideal) ℓ) (g : Dev Cert.RouteSIdeal.nD → PrngReg), Pre_RouteSIdeal m →
    θ_run (Cert.RouteSIdeal.defs (F := Ideal)) (onTc (τ := Cert.RouteSIdeal.τ) (Cert.RouteSIdeal.main (F := Ideal))) ⟨m, fun _ => 0, g⟩ (fun r => (∀ c : Dev Cert.RouteSIdeal.nD,
      r.2.mem ((c.tc : Thread Cert.RouteSIdeal.nD Cert.RouteSIdeal.τ).loc Cert.RouteSIdeal.main_arg0) = m ((c.tc : Thread Cert.RouteSIdeal.nD Cert.RouteSIdeal.τ).loc Cert.RouteSIdeal.main_arg0)
      ∧ r.2.mem ((c.tc : Thread Cert.RouteSIdeal.nD Cert.RouteSIdeal.τ).loc Cert.RouteSIdeal.main_arg1) = m ((c.tc : Thread Cert.RouteSIdeal.nD Cert.RouteSIdeal.τ).loc Cert.RouteSIdeal.main_arg1)
      ∧ r.2.mem ((c.tc : Thread Cert.RouteSIdeal.nD Cert.RouteSIdeal.τ).loc Cert.RouteSIdeal.main_arg2) = m ((c.tc : Thread Cert.RouteSIdeal.nD Cert.RouteSIdeal.τ).loc Cert.RouteSIdeal.main_arg2)
      ∧ r.2.mem ((c.tc : Thread Cert.RouteSIdeal.nD Cert.RouteSIdeal.τ).loc Cert.RouteSIdeal.main_arg3) = m ((c.tc : Thread Cert.RouteSIdeal.nD Cert.RouteSIdeal.τ).loc Cert.RouteSIdeal.main_arg3)
      ∧ r.2.mem ((c.tc : Thread Cert.RouteSIdeal.nD Cert.RouteSIdeal.τ).loc Cert.RouteSIdeal.main_arg4) = m ((c.tc : Thread Cert.RouteSIdeal.nD Cert.RouteSIdeal.τ).loc Cert.RouteSIdeal.main_arg4)
      ∧ r.2.mem ((c.tc : Thread Cert.RouteSIdeal.nD Cert.RouteSIdeal.τ).loc Cert.RouteSIdeal.main_arg5) = m ((c.tc : Thread Cert.RouteSIdeal.nD Cert.RouteSIdeal.τ).loc Cert.RouteSIdeal.main_arg5))
      ∧ r.2.sem = fun _ => 0)

def quiescent_RouteSRefIdeal [hRouteSRefIdeal : Cert.RouteSRefIdeal.Facts] : Prop :=
  ∀ (m : (ℓ : Loc Cert.RouteSRefIdeal.nD Cert.RouteSRefIdeal.τ Cert.RouteSRefIdeal.sig) → Buf (Elt Ideal) ℓ) (g : Dev Cert.RouteSRefIdeal.nD → PrngReg), Pre_RouteSRefIdeal m →
    θ_run (Cert.RouteSRefIdeal.defs (F := Ideal)) (onTc (τ := Cert.RouteSRefIdeal.τ) (Cert.RouteSRefIdeal.main (F := Ideal))) ⟨m, fun _ => 0, g⟩ (fun r => (∀ c : Dev Cert.RouteSRefIdeal.nD,
      r.2.mem ((c.tc : Thread Cert.RouteSRefIdeal.nD Cert.RouteSRefIdeal.τ).loc Cert.RouteSRefIdeal.main_arg0) = m ((c.tc : Thread Cert.RouteSRefIdeal.nD Cert.RouteSRefIdeal.τ).loc Cert.RouteSRefIdeal.main_arg0)
      ∧ r.2.mem ((c.tc : Thread Cert.RouteSRefIdeal.nD Cert.RouteSRefIdeal.τ).loc Cert.RouteSRefIdeal.main_arg1) = m ((c.tc : Thread Cert.RouteSRefIdeal.nD Cert.RouteSRefIdeal.τ).loc Cert.RouteSRefIdeal.main_arg1)
      ∧ r.2.mem ((c.tc : Thread Cert.RouteSRefIdeal.nD Cert.RouteSRefIdeal.τ).loc Cert.RouteSRefIdeal.main_arg2) = m ((c.tc : Thread Cert.RouteSRefIdeal.nD Cert.RouteSRefIdeal.τ).loc Cert.RouteSRefIdeal.main_arg2)
      ∧ r.2.mem ((c.tc : Thread Cert.RouteSRefIdeal.nD Cert.RouteSRefIdeal.τ).loc Cert.RouteSRefIdeal.main_arg3) = m ((c.tc : Thread Cert.RouteSRefIdeal.nD Cert.RouteSRefIdeal.τ).loc Cert.RouteSRefIdeal.main_arg3)
      ∧ r.2.mem ((c.tc : Thread Cert.RouteSRefIdeal.nD Cert.RouteSRefIdeal.τ).loc Cert.RouteSRefIdeal.main_arg4) = m ((c.tc : Thread Cert.RouteSRefIdeal.nD Cert.RouteSRefIdeal.τ).loc Cert.RouteSRefIdeal.main_arg4)
      ∧ r.2.mem ((c.tc : Thread Cert.RouteSRefIdeal.nD Cert.RouteSRefIdeal.τ).loc Cert.RouteSRefIdeal.main_arg5) = m ((c.tc : Thread Cert.RouteSRefIdeal.nD Cert.RouteSRefIdeal.τ).loc Cert.RouteSRefIdeal.main_arg5))
      ∧ r.2.sem = fun _ => 0)

def quiescent_RouteU [hRouteU : Cert.RouteU.Facts] : Prop :=
  ∀ (m : (ℓ : Loc Cert.RouteU.nD Cert.RouteU.τ Cert.RouteU.sig) → Buf (Elt Bits) ℓ) (g : Dev Cert.RouteU.nD → PrngReg), Pre_RouteU m →
    θ_run (Cert.RouteU.defs (F := Bits)) (onTc (τ := Cert.RouteU.τ) (Cert.RouteU.main (F := Bits))) ⟨m, fun _ => 0, g⟩ (fun r => (∀ c : Dev Cert.RouteU.nD,
      r.2.mem ((c.tc : Thread Cert.RouteU.nD Cert.RouteU.τ).loc Cert.RouteU.main_arg0) = m ((c.tc : Thread Cert.RouteU.nD Cert.RouteU.τ).loc Cert.RouteU.main_arg0)
      ∧ r.2.mem ((c.tc : Thread Cert.RouteU.nD Cert.RouteU.τ).loc Cert.RouteU.main_arg1) = m ((c.tc : Thread Cert.RouteU.nD Cert.RouteU.τ).loc Cert.RouteU.main_arg1)
      ∧ r.2.mem ((c.tc : Thread Cert.RouteU.nD Cert.RouteU.τ).loc Cert.RouteU.main_arg2) = m ((c.tc : Thread Cert.RouteU.nD Cert.RouteU.τ).loc Cert.RouteU.main_arg2)
      ∧ r.2.mem ((c.tc : Thread Cert.RouteU.nD Cert.RouteU.τ).loc Cert.RouteU.main_arg3) = m ((c.tc : Thread Cert.RouteU.nD Cert.RouteU.τ).loc Cert.RouteU.main_arg3)
      ∧ r.2.mem ((c.tc : Thread Cert.RouteU.nD Cert.RouteU.τ).loc Cert.RouteU.main_arg4) = m ((c.tc : Thread Cert.RouteU.nD Cert.RouteU.τ).loc Cert.RouteU.main_arg4)
      ∧ r.2.mem ((c.tc : Thread Cert.RouteU.nD Cert.RouteU.τ).loc Cert.RouteU.main_arg5) = m ((c.tc : Thread Cert.RouteU.nD Cert.RouteU.τ).loc Cert.RouteU.main_arg5))
      ∧ r.2.sem = fun _ => 0)

def quiescent_RouteUIdeal [hRouteUIdeal : Cert.RouteUIdeal.Facts] : Prop :=
  ∀ (m : (ℓ : Loc Cert.RouteUIdeal.nD Cert.RouteUIdeal.τ Cert.RouteUIdeal.sig) → Buf (Elt Ideal) ℓ) (g : Dev Cert.RouteUIdeal.nD → PrngReg), Pre_RouteUIdeal m →
    θ_run (Cert.RouteUIdeal.defs (F := Ideal)) (onTc (τ := Cert.RouteUIdeal.τ) (Cert.RouteUIdeal.main (F := Ideal))) ⟨m, fun _ => 0, g⟩ (fun r => (∀ c : Dev Cert.RouteUIdeal.nD,
      r.2.mem ((c.tc : Thread Cert.RouteUIdeal.nD Cert.RouteUIdeal.τ).loc Cert.RouteUIdeal.main_arg0) = m ((c.tc : Thread Cert.RouteUIdeal.nD Cert.RouteUIdeal.τ).loc Cert.RouteUIdeal.main_arg0)
      ∧ r.2.mem ((c.tc : Thread Cert.RouteUIdeal.nD Cert.RouteUIdeal.τ).loc Cert.RouteUIdeal.main_arg1) = m ((c.tc : Thread Cert.RouteUIdeal.nD Cert.RouteUIdeal.τ).loc Cert.RouteUIdeal.main_arg1)
      ∧ r.2.mem ((c.tc : Thread Cert.RouteUIdeal.nD Cert.RouteUIdeal.τ).loc Cert.RouteUIdeal.main_arg2) = m ((c.tc : Thread Cert.RouteUIdeal.nD Cert.RouteUIdeal.τ).loc Cert.RouteUIdeal.main_arg2)
      ∧ r.2.mem ((c.tc : Thread Cert.RouteUIdeal.nD Cert.RouteUIdeal.τ).loc Cert.RouteUIdeal.main_arg3) = m ((c.tc : Thread Cert.RouteUIdeal.nD Cert.RouteUIdeal.τ).loc Cert.RouteUIdeal.main_arg3)
      ∧ r.2.mem ((c.tc : Thread Cert.RouteUIdeal.nD Cert.RouteUIdeal.τ).loc Cert.RouteUIdeal.main_arg4) = m ((c.tc : Thread Cert.RouteUIdeal.nD Cert.RouteUIdeal.τ).loc Cert.RouteUIdeal.main_arg4)
      ∧ r.2.mem ((c.tc : Thread Cert.RouteUIdeal.nD Cert.RouteUIdeal.τ).loc Cert.RouteUIdeal.main_arg5) = m ((c.tc : Thread Cert.RouteUIdeal.nD Cert.RouteUIdeal.τ).loc Cert.RouteUIdeal.main_arg5))
      ∧ r.2.sem = fun _ => 0)

def quiescent_RouteURefIdeal [hRouteURefIdeal : Cert.RouteURefIdeal.Facts] : Prop :=
  ∀ (m : (ℓ : Loc Cert.RouteURefIdeal.nD Cert.RouteURefIdeal.τ Cert.RouteURefIdeal.sig) → Buf (Elt Ideal) ℓ) (g : Dev Cert.RouteURefIdeal.nD → PrngReg), Pre_RouteURefIdeal m →
    θ_run (Cert.RouteURefIdeal.defs (F := Ideal)) (onTc (τ := Cert.RouteURefIdeal.τ) (Cert.RouteURefIdeal.main (F := Ideal))) ⟨m, fun _ => 0, g⟩ (fun r => (∀ c : Dev Cert.RouteURefIdeal.nD,
      r.2.mem ((c.tc : Thread Cert.RouteURefIdeal.nD Cert.RouteURefIdeal.τ).loc Cert.RouteURefIdeal.main_arg0) = m ((c.tc : Thread Cert.RouteURefIdeal.nD Cert.RouteURefIdeal.τ).loc Cert.RouteURefIdeal.main_arg0)
      ∧ r.2.mem ((c.tc : Thread Cert.RouteURefIdeal.nD Cert.RouteURefIdeal.τ).loc Cert.RouteURefIdeal.main_arg1) = m ((c.tc : Thread Cert.RouteURefIdeal.nD Cert.RouteURefIdeal.τ).loc Cert.RouteURefIdeal.main_arg1)
      ∧ r.2.mem ((c.tc : Thread Cert.RouteURefIdeal.nD Cert.RouteURefIdeal.τ).loc Cert.RouteURefIdeal.main_arg2) = m ((c.tc : Thread Cert.RouteURefIdeal.nD Cert.RouteURefIdeal.τ).loc Cert.RouteURefIdeal.main_arg2)
      ∧ r.2.mem ((c.tc : Thread Cert.RouteURefIdeal.nD Cert.RouteURefIdeal.τ).loc Cert.RouteURefIdeal.main_arg3) = m ((c.tc : Thread Cert.RouteURefIdeal.nD Cert.RouteURefIdeal.τ).loc Cert.RouteURefIdeal.main_arg3)
      ∧ r.2.mem ((c.tc : Thread Cert.RouteURefIdeal.nD Cert.RouteURefIdeal.τ).loc Cert.RouteURefIdeal.main_arg4) = m ((c.tc : Thread Cert.RouteURefIdeal.nD Cert.RouteURefIdeal.τ).loc Cert.RouteURefIdeal.main_arg4)
      ∧ r.2.mem ((c.tc : Thread Cert.RouteURefIdeal.nD Cert.RouteURefIdeal.τ).loc Cert.RouteURefIdeal.main_arg5) = m ((c.tc : Thread Cert.RouteURefIdeal.nD Cert.RouteURefIdeal.τ).loc Cert.RouteURefIdeal.main_arg5))
      ∧ r.2.sem = fun _ => 0)

def quiescent_RouteV [hRouteV : Cert.RouteV.Facts] : Prop :=
  ∀ (m : (ℓ : Loc Cert.RouteV.nD Cert.RouteV.τ Cert.RouteV.sig) → Buf (Elt Bits) ℓ) (g : Dev Cert.RouteV.nD → PrngReg), Pre_RouteV m →
    θ_run (Cert.RouteV.defs (F := Bits)) (onTc (τ := Cert.RouteV.τ) (Cert.RouteV.main (F := Bits))) ⟨m, fun _ => 0, g⟩ (fun r => (∀ c : Dev Cert.RouteV.nD,
      r.2.mem ((c.tc : Thread Cert.RouteV.nD Cert.RouteV.τ).loc Cert.RouteV.main_arg0) = m ((c.tc : Thread Cert.RouteV.nD Cert.RouteV.τ).loc Cert.RouteV.main_arg0)
      ∧ r.2.mem ((c.tc : Thread Cert.RouteV.nD Cert.RouteV.τ).loc Cert.RouteV.main_arg1) = m ((c.tc : Thread Cert.RouteV.nD Cert.RouteV.τ).loc Cert.RouteV.main_arg1)
      ∧ r.2.mem ((c.tc : Thread Cert.RouteV.nD Cert.RouteV.τ).loc Cert.RouteV.main_arg2) = m ((c.tc : Thread Cert.RouteV.nD Cert.RouteV.τ).loc Cert.RouteV.main_arg2)
      ∧ r.2.mem ((c.tc : Thread Cert.RouteV.nD Cert.RouteV.τ).loc Cert.RouteV.main_arg3) = m ((c.tc : Thread Cert.RouteV.nD Cert.RouteV.τ).loc Cert.RouteV.main_arg3)
      ∧ r.2.mem ((c.tc : Thread Cert.RouteV.nD Cert.RouteV.τ).loc Cert.RouteV.main_arg4) = m ((c.tc : Thread Cert.RouteV.nD Cert.RouteV.τ).loc Cert.RouteV.main_arg4)
      ∧ r.2.mem ((c.tc : Thread Cert.RouteV.nD Cert.RouteV.τ).loc Cert.RouteV.main_arg5) = m ((c.tc : Thread Cert.RouteV.nD Cert.RouteV.τ).loc Cert.RouteV.main_arg5))
      ∧ r.2.sem = fun _ => 0)

def quiescent_RouteVIdeal [hRouteVIdeal : Cert.RouteVIdeal.Facts] : Prop :=
  ∀ (m : (ℓ : Loc Cert.RouteVIdeal.nD Cert.RouteVIdeal.τ Cert.RouteVIdeal.sig) → Buf (Elt Ideal) ℓ) (g : Dev Cert.RouteVIdeal.nD → PrngReg), Pre_RouteVIdeal m →
    θ_run (Cert.RouteVIdeal.defs (F := Ideal)) (onTc (τ := Cert.RouteVIdeal.τ) (Cert.RouteVIdeal.main (F := Ideal))) ⟨m, fun _ => 0, g⟩ (fun r => (∀ c : Dev Cert.RouteVIdeal.nD,
      r.2.mem ((c.tc : Thread Cert.RouteVIdeal.nD Cert.RouteVIdeal.τ).loc Cert.RouteVIdeal.main_arg0) = m ((c.tc : Thread Cert.RouteVIdeal.nD Cert.RouteVIdeal.τ).loc Cert.RouteVIdeal.main_arg0)
      ∧ r.2.mem ((c.tc : Thread Cert.RouteVIdeal.nD Cert.RouteVIdeal.τ).loc Cert.RouteVIdeal.main_arg1) = m ((c.tc : Thread Cert.RouteVIdeal.nD Cert.RouteVIdeal.τ).loc Cert.RouteVIdeal.main_arg1)
      ∧ r.2.mem ((c.tc : Thread Cert.RouteVIdeal.nD Cert.RouteVIdeal.τ).loc Cert.RouteVIdeal.main_arg2) = m ((c.tc : Thread Cert.RouteVIdeal.nD Cert.RouteVIdeal.τ).loc Cert.RouteVIdeal.main_arg2)
      ∧ r.2.mem ((c.tc : Thread Cert.RouteVIdeal.nD Cert.RouteVIdeal.τ).loc Cert.RouteVIdeal.main_arg3) = m ((c.tc : Thread Cert.RouteVIdeal.nD Cert.RouteVIdeal.τ).loc Cert.RouteVIdeal.main_arg3)
      ∧ r.2.mem ((c.tc : Thread Cert.RouteVIdeal.nD Cert.RouteVIdeal.τ).loc Cert.RouteVIdeal.main_arg4) = m ((c.tc : Thread Cert.RouteVIdeal.nD Cert.RouteVIdeal.τ).loc Cert.RouteVIdeal.main_arg4)
      ∧ r.2.mem ((c.tc : Thread Cert.RouteVIdeal.nD Cert.RouteVIdeal.τ).loc Cert.RouteVIdeal.main_arg5) = m ((c.tc : Thread Cert.RouteVIdeal.nD Cert.RouteVIdeal.τ).loc Cert.RouteVIdeal.main_arg5))
      ∧ r.2.sem = fun _ => 0)

def quiescent_RouteVRefIdeal [hRouteVRefIdeal : Cert.RouteVRefIdeal.Facts] : Prop :=
  ∀ (m : (ℓ : Loc Cert.RouteVRefIdeal.nD Cert.RouteVRefIdeal.τ Cert.RouteVRefIdeal.sig) → Buf (Elt Ideal) ℓ) (g : Dev Cert.RouteVRefIdeal.nD → PrngReg), Pre_RouteVRefIdeal m →
    θ_run (Cert.RouteVRefIdeal.defs (F := Ideal)) (onTc (τ := Cert.RouteVRefIdeal.τ) (Cert.RouteVRefIdeal.main (F := Ideal))) ⟨m, fun _ => 0, g⟩ (fun r => (∀ c : Dev Cert.RouteVRefIdeal.nD,
      r.2.mem ((c.tc : Thread Cert.RouteVRefIdeal.nD Cert.RouteVRefIdeal.τ).loc Cert.RouteVRefIdeal.main_arg0) = m ((c.tc : Thread Cert.RouteVRefIdeal.nD Cert.RouteVRefIdeal.τ).loc Cert.RouteVRefIdeal.main_arg0)
      ∧ r.2.mem ((c.tc : Thread Cert.RouteVRefIdeal.nD Cert.RouteVRefIdeal.τ).loc Cert.RouteVRefIdeal.main_arg1) = m ((c.tc : Thread Cert.RouteVRefIdeal.nD Cert.RouteVRefIdeal.τ).loc Cert.RouteVRefIdeal.main_arg1)
      ∧ r.2.mem ((c.tc : Thread Cert.RouteVRefIdeal.nD Cert.RouteVRefIdeal.τ).loc Cert.RouteVRefIdeal.main_arg2) = m ((c.tc : Thread Cert.RouteVRefIdeal.nD Cert.RouteVRefIdeal.τ).loc Cert.RouteVRefIdeal.main_arg2)
      ∧ r.2.mem ((c.tc : Thread Cert.RouteVRefIdeal.nD Cert.RouteVRefIdeal.τ).loc Cert.RouteVRefIdeal.main_arg3) = m ((c.tc : Thread Cert.RouteVRefIdeal.nD Cert.RouteVRefIdeal.τ).loc Cert.RouteVRefIdeal.main_arg3)
      ∧ r.2.mem ((c.tc : Thread Cert.RouteVRefIdeal.nD Cert.RouteVRefIdeal.τ).loc Cert.RouteVRefIdeal.main_arg4) = m ((c.tc : Thread Cert.RouteVRefIdeal.nD Cert.RouteVRefIdeal.τ).loc Cert.RouteVRefIdeal.main_arg4)
      ∧ r.2.mem ((c.tc : Thread Cert.RouteVRefIdeal.nD Cert.RouteVRefIdeal.τ).loc Cert.RouteVRefIdeal.main_arg5) = m ((c.tc : Thread Cert.RouteVRefIdeal.nD Cert.RouteVRefIdeal.τ).loc Cert.RouteVRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_TrQ [hTrQ : Cert.TrQ.Facts] : Prop :=
  ∀ (m : (ℓ : Loc Cert.TrQ.nD Cert.TrQ.τ Cert.TrQ.sig) → Buf (Elt Bits) ℓ) (g : Dev Cert.TrQ.nD → PrngReg), Pre_TrQ m →
    θ_run (Cert.TrQ.defs (F := Bits)) (onTc (τ := Cert.TrQ.τ) (Cert.TrQ.main (F := Bits))) ⟨m, fun _ => 0, g⟩ (fun r => (∀ c : Dev Cert.TrQ.nD,
      r.2.mem ((c.tc : Thread Cert.TrQ.nD Cert.TrQ.τ).loc Cert.TrQ.main_arg0) = m ((c.tc : Thread Cert.TrQ.nD Cert.TrQ.τ).loc Cert.TrQ.main_arg0))
      ∧ r.2.sem = fun _ => 0)

def quiescent_TrQIdeal [hTrQIdeal : Cert.TrQIdeal.Facts] : Prop :=
  ∀ (m : (ℓ : Loc Cert.TrQIdeal.nD Cert.TrQIdeal.τ Cert.TrQIdeal.sig) → Buf (Elt Ideal) ℓ) (g : Dev Cert.TrQIdeal.nD → PrngReg), Pre_TrQIdeal m →
    θ_run (Cert.TrQIdeal.defs (F := Ideal)) (onTc (τ := Cert.TrQIdeal.τ) (Cert.TrQIdeal.main (F := Ideal))) ⟨m, fun _ => 0, g⟩ (fun r => (∀ c : Dev Cert.TrQIdeal.nD,
      r.2.mem ((c.tc : Thread Cert.TrQIdeal.nD Cert.TrQIdeal.τ).loc Cert.TrQIdeal.main_arg0) = m ((c.tc : Thread Cert.TrQIdeal.nD Cert.TrQIdeal.τ).loc Cert.TrQIdeal.main_arg0))
      ∧ r.2.sem = fun _ => 0)

def quiescent_TrQRefIdeal [hTrQRefIdeal : Cert.TrQRefIdeal.Facts] : Prop :=
  ∀ (m : (ℓ : Loc Cert.TrQRefIdeal.nD Cert.TrQRefIdeal.τ Cert.TrQRefIdeal.sig) → Buf (Elt Ideal) ℓ) (g : Dev Cert.TrQRefIdeal.nD → PrngReg), Pre_TrQRefIdeal m →
    θ_run (Cert.TrQRefIdeal.defs (F := Ideal)) (onTc (τ := Cert.TrQRefIdeal.τ) (Cert.TrQRefIdeal.main (F := Ideal))) ⟨m, fun _ => 0, g⟩ (fun r => (∀ c : Dev Cert.TrQRefIdeal.nD,
      r.2.mem ((c.tc : Thread Cert.TrQRefIdeal.nD Cert.TrQRefIdeal.τ).loc Cert.TrQRefIdeal.main_arg0) = m ((c.tc : Thread Cert.TrQRefIdeal.nD Cert.TrQRefIdeal.τ).loc Cert.TrQRefIdeal.main_arg0))
      ∧ r.2.sem = fun _ => 0)

def quiescent_TrV [hTrV : Cert.TrV.Facts] : Prop :=
  ∀ (m : (ℓ : Loc Cert.TrV.nD Cert.TrV.τ Cert.TrV.sig) → Buf (Elt Bits) ℓ) (g : Dev Cert.TrV.nD → PrngReg), Pre_TrV m →
    θ_run (Cert.TrV.defs (F := Bits)) (onTc (τ := Cert.TrV.τ) (Cert.TrV.main (F := Bits))) ⟨m, fun _ => 0, g⟩ (fun r => (∀ c : Dev Cert.TrV.nD,
      r.2.mem ((c.tc : Thread Cert.TrV.nD Cert.TrV.τ).loc Cert.TrV.main_arg0) = m ((c.tc : Thread Cert.TrV.nD Cert.TrV.τ).loc Cert.TrV.main_arg0))
      ∧ r.2.sem = fun _ => 0)

def quiescent_TrVIdeal [hTrVIdeal : Cert.TrVIdeal.Facts] : Prop :=
  ∀ (m : (ℓ : Loc Cert.TrVIdeal.nD Cert.TrVIdeal.τ Cert.TrVIdeal.sig) → Buf (Elt Ideal) ℓ) (g : Dev Cert.TrVIdeal.nD → PrngReg), Pre_TrVIdeal m →
    θ_run (Cert.TrVIdeal.defs (F := Ideal)) (onTc (τ := Cert.TrVIdeal.τ) (Cert.TrVIdeal.main (F := Ideal))) ⟨m, fun _ => 0, g⟩ (fun r => (∀ c : Dev Cert.TrVIdeal.nD,
      r.2.mem ((c.tc : Thread Cert.TrVIdeal.nD Cert.TrVIdeal.τ).loc Cert.TrVIdeal.main_arg0) = m ((c.tc : Thread Cert.TrVIdeal.nD Cert.TrVIdeal.τ).loc Cert.TrVIdeal.main_arg0))
      ∧ r.2.sem = fun _ => 0)

def quiescent_TrVRefIdeal [hTrVRefIdeal : Cert.TrVRefIdeal.Facts] : Prop :=
  ∀ (m : (ℓ : Loc Cert.TrVRefIdeal.nD Cert.TrVRefIdeal.τ Cert.TrVRefIdeal.sig) → Buf (Elt Ideal) ℓ) (g : Dev Cert.TrVRefIdeal.nD → PrngReg), Pre_TrVRefIdeal m →
    θ_run (Cert.TrVRefIdeal.defs (F := Ideal)) (onTc (τ := Cert.TrVRefIdeal.τ) (Cert.TrVRefIdeal.main (F := Ideal))) ⟨m, fun _ => 0, g⟩ (fun r => (∀ c : Dev Cert.TrVRefIdeal.nD,
      r.2.mem ((c.tc : Thread Cert.TrVRefIdeal.nD Cert.TrVRefIdeal.τ).loc Cert.TrVRefIdeal.main_arg0) = m ((c.tc : Thread Cert.TrVRefIdeal.nD Cert.TrVRefIdeal.τ).loc Cert.TrVRefIdeal.main_arg0))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_distinct_gates [hAttnIdeal : Cert.AttnIdeal.Facts] [hPre_distinct_gates : Cert.Pre_distinct_gates.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_distinct_gates m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_distinct_gates [hAttnRefIdeal : Cert.AttnRefIdeal.Facts] [hPre_distinct_gates : Cert.Pre_distinct_gates.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_distinct_gates m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def preserves_MixP_MixPIdeal : Prop :=
  True

def algebraic_MixPIdeal_MixPRefIdeal [hMixPIdeal : Cert.MixPIdeal.Facts] [hMixPRefIdeal : Cert.MixPRefIdeal.Facts] : Prop :=
  ∀ (m : (ℓ : Loc Cert.MixPIdeal.nD Cert.MixPIdeal.τ Cert.MixPIdeal.sig) → Buf (Elt Ideal) ℓ) (g : Dev Cert.MixPIdeal.nD → PrngReg)
    (m' : (ℓ : Loc Cert.MixPRefIdeal.nD Cert.MixPRefIdeal.τ Cert.MixPRefIdeal.sig) → Buf (Elt Ideal) ℓ) (g' : Dev Cert.MixPRefIdeal.nD → PrngReg), Pre_MixPIdeal m →
    (∀ c : Dev Cert.MixPIdeal.nD,
      m' ((c.tc : Thread Cert.MixPRefIdeal.nD Cert.MixPRefIdeal.τ).loc Cert.MixPRefIdeal.main_arg0) = m ((c.tc : Thread Cert.MixPIdeal.nD Cert.MixPIdeal.τ).loc Cert.MixPIdeal.main_arg0)
      ∧ m' ((c.tc : Thread Cert.MixPRefIdeal.nD Cert.MixPRefIdeal.τ).loc Cert.MixPRefIdeal.main_arg1) = m ((c.tc : Thread Cert.MixPIdeal.nD Cert.MixPIdeal.τ).loc Cert.MixPIdeal.main_arg1)
      ∧ m' ((c.tc : Thread Cert.MixPRefIdeal.nD Cert.MixPRefIdeal.τ).loc Cert.MixPRefIdeal.main_arg2) = m ((c.tc : Thread Cert.MixPIdeal.nD Cert.MixPIdeal.τ).loc Cert.MixPIdeal.main_arg2)
      ∧ m' ((c.tc : Thread Cert.MixPRefIdeal.nD Cert.MixPRefIdeal.τ).loc Cert.MixPRefIdeal.main_arg3) = m ((c.tc : Thread Cert.MixPIdeal.nD Cert.MixPIdeal.τ).loc Cert.MixPIdeal.main_arg3)
      ∧ m' ((c.tc : Thread Cert.MixPRefIdeal.nD Cert.MixPRefIdeal.τ).loc Cert.MixPRefIdeal.main_arg4) = m ((c.tc : Thread Cert.MixPIdeal.nD Cert.MixPIdeal.τ).loc Cert.MixPIdeal.main_arg4)
      ∧ m' ((c.tc : Thread Cert.MixPRefIdeal.nD Cert.MixPRefIdeal.τ).loc Cert.MixPRefIdeal.main_arg5) = m ((c.tc : Thread Cert.MixPIdeal.nD Cert.MixPIdeal.τ).loc Cert.MixPIdeal.main_arg5)
      ∧ m' ((c.tc : Thread Cert.MixPRefIdeal.nD Cert.MixPRefIdeal.τ).loc Cert.MixPRefIdeal.main_arg6) = m ((c.tc : Thread Cert.MixPIdeal.nD Cert.MixPIdeal.τ).loc Cert.MixPIdeal.main_arg6)
      ∧ m' ((c.tc : Thread Cert.MixPRefIdeal.nD Cert.MixPRefIdeal.τ).loc Cert.MixPRefIdeal.main_arg7) = m ((c.tc : Thread Cert.MixPIdeal.nD Cert.MixPIdeal.τ).loc Cert.MixPIdeal.main_arg7)
      ∧ m' ((c.tc : Thread Cert.MixPRefIdeal.nD Cert.MixPRefIdeal.τ).loc Cert.MixPRefIdeal.main_arg8) = m ((c.tc : Thread Cert.MixPIdeal.nD Cert.MixPIdeal.τ).loc Cert.MixPIdeal.main_arg8)
      ∧ m' ((c.tc : Thread Cert.MixPRefIdeal.nD Cert.MixPRefIdeal.τ).loc Cert.MixPRefIdeal.main_arg9) = m ((c.tc : Thread Cert.MixPIdeal.nD Cert.MixPIdeal.τ).loc Cert.MixPIdeal.main_arg9)) →
    ∃ (v0 : (c : Dev Cert.MixPIdeal.nD) → Buf (Elt Ideal) ((c.tc : Thread Cert.MixPIdeal.nD Cert.MixPIdeal.τ).loc Cert.MixPIdeal.main_v17_0)) (v1 : (c : Dev Cert.MixPIdeal.nD) → Buf (Elt Ideal) ((c.tc : Thread Cert.MixPIdeal.nD Cert.MixPIdeal.τ).loc Cert.MixPIdeal.main_v17_1)),
      θ_run (Cert.MixPIdeal.defs (F := Ideal)) (onTc (τ := Cert.MixPIdeal.τ) (Cert.MixPIdeal.main (F := Ideal))) ⟨m, fun _ => 0, g⟩ (fun r => ∀ c : Dev Cert.MixPIdeal.nD,
          r.2.mem ((c.tc : Thread Cert.MixPIdeal.nD Cert.MixPIdeal.τ).loc Cert.MixPIdeal.main_v17_0) = v0 c
          ∧ r.2.mem ((c.tc : Thread Cert.MixPIdeal.nD Cert.MixPIdeal.τ).loc Cert.MixPIdeal.main_v17_1) = v1 c
          ∧ r.2.mem ((c.tc : Thread Cert.MixPIdeal.nD Cert.MixPIdeal.τ).loc Cert.MixPIdeal.main_arg0) = m ((c.tc : Thread Cert.MixPIdeal.nD Cert.MixPIdeal.τ).loc Cert.MixPIdeal.main_arg0)
          ∧ r.2.mem ((c.tc : Thread Cert.MixPIdeal.nD Cert.MixPIdeal.τ).loc Cert.MixPIdeal.main_arg1) = m ((c.tc : Thread Cert.MixPIdeal.nD Cert.MixPIdeal.τ).loc Cert.MixPIdeal.main_arg1)
          ∧ r.2.mem ((c.tc : Thread Cert.MixPIdeal.nD Cert.MixPIdeal.τ).loc Cert.MixPIdeal.main_arg2) = m ((c.tc : Thread Cert.MixPIdeal.nD Cert.MixPIdeal.τ).loc Cert.MixPIdeal.main_arg2)
          ∧ r.2.mem ((c.tc : Thread Cert.MixPIdeal.nD Cert.MixPIdeal.τ).loc Cert.MixPIdeal.main_arg3) = m ((c.tc : Thread Cert.MixPIdeal.nD Cert.MixPIdeal.τ).loc Cert.MixPIdeal.main_arg3)
          ∧ r.2.mem ((c.tc : Thread Cert.MixPIdeal.nD Cert.MixPIdeal.τ).loc Cert.MixPIdeal.main_arg4) = m ((c.tc : Thread Cert.MixPIdeal.nD Cert.MixPIdeal.τ).loc Cert.MixPIdeal.main_arg4)
          ∧ r.2.mem ((c.tc : Thread Cert.MixPIdeal.nD Cert.MixPIdeal.τ).loc Cert.MixPIdeal.main_arg5) = m ((c.tc : Thread Cert.MixPIdeal.nD Cert.MixPIdeal.τ).loc Cert.MixPIdeal.main_arg5)
          ∧ r.2.mem ((c.tc : Thread Cert.MixPIdeal.nD Cert.MixPIdeal.τ).loc Cert.MixPIdeal.main_arg6) = m ((c.tc : Thread Cert.MixPIdeal.nD Cert.MixPIdeal.τ).loc Cert.MixPIdeal.main_arg6)
          ∧ r.2.mem ((c.tc : Thread Cert.MixPIdeal.nD Cert.MixPIdeal.τ).loc Cert.MixPIdeal.main_arg7) = m ((c.tc : Thread Cert.MixPIdeal.nD Cert.MixPIdeal.τ).loc Cert.MixPIdeal.main_arg7)
          ∧ r.2.mem ((c.tc : Thread Cert.MixPIdeal.nD Cert.MixPIdeal.τ).loc Cert.MixPIdeal.main_arg8) = m ((c.tc : Thread Cert.MixPIdeal.nD Cert.MixPIdeal.τ).loc Cert.MixPIdeal.main_arg8)
          ∧ r.2.mem ((c.tc : Thread Cert.MixPIdeal.nD Cert.MixPIdeal.τ).loc Cert.MixPIdeal.main_arg9) = m ((c.tc : Thread Cert.MixPIdeal.nD Cert.MixPIdeal.τ).loc Cert.MixPIdeal.main_arg9))
      ∧ θ_run (Cert.MixPRefIdeal.defs (F := Ideal)) (onTc (τ := Cert.MixPRefIdeal.τ) (Cert.MixPRefIdeal.main (F := Ideal))) ⟨m', fun _ => 0, g'⟩ (fun r => ∀ c : Dev Cert.MixPRefIdeal.nD,
          r.2.mem ((c.tc : Thread Cert.MixPRefIdeal.nD Cert.MixPRefIdeal.τ).loc Cert.MixPRefIdeal.main_v68) = v0 c
          ∧ r.2.mem ((c.tc : Thread Cert.MixPRefIdeal.nD Cert.MixPRefIdeal.τ).loc Cert.MixPRefIdeal.main_v69) = v1 c
          ∧ r.2.mem ((c.tc : Thread Cert.MixPRefIdeal.nD Cert.MixPRefIdeal.τ).loc Cert.MixPRefIdeal.main_arg0) = m' ((c.tc : Thread Cert.MixPRefIdeal.nD Cert.MixPRefIdeal.τ).loc Cert.MixPRefIdeal.main_arg0)
          ∧ r.2.mem ((c.tc : Thread Cert.MixPRefIdeal.nD Cert.MixPRefIdeal.τ).loc Cert.MixPRefIdeal.main_arg1) = m' ((c.tc : Thread Cert.MixPRefIdeal.nD Cert.MixPRefIdeal.τ).loc Cert.MixPRefIdeal.main_arg1)
          ∧ r.2.mem ((c.tc : Thread Cert.MixPRefIdeal.nD Cert.MixPRefIdeal.τ).loc Cert.MixPRefIdeal.main_arg2) = m' ((c.tc : Thread Cert.MixPRefIdeal.nD Cert.MixPRefIdeal.τ).loc Cert.MixPRefIdeal.main_arg2)
          ∧ r.2.mem ((c.tc : Thread Cert.MixPRefIdeal.nD Cert.MixPRefIdeal.τ).loc Cert.MixPRefIdeal.main_arg3) = m' ((c.tc : Thread Cert.MixPRefIdeal.nD Cert.MixPRefIdeal.τ).loc Cert.MixPRefIdeal.main_arg3)
          ∧ r.2.mem ((c.tc : Thread Cert.MixPRefIdeal.nD Cert.MixPRefIdeal.τ).loc Cert.MixPRefIdeal.main_arg4) = m' ((c.tc : Thread Cert.MixPRefIdeal.nD Cert.MixPRefIdeal.τ).loc Cert.MixPRefIdeal.main_arg4)
          ∧ r.2.mem ((c.tc : Thread Cert.MixPRefIdeal.nD Cert.MixPRefIdeal.τ).loc Cert.MixPRefIdeal.main_arg5) = m' ((c.tc : Thread Cert.MixPRefIdeal.nD Cert.MixPRefIdeal.τ).loc Cert.MixPRefIdeal.main_arg5)
          ∧ r.2.mem ((c.tc : Thread Cert.MixPRefIdeal.nD Cert.MixPRefIdeal.τ).loc Cert.MixPRefIdeal.main_arg6) = m' ((c.tc : Thread Cert.MixPRefIdeal.nD Cert.MixPRefIdeal.τ).loc Cert.MixPRefIdeal.main_arg6)
          ∧ r.2.mem ((c.tc : Thread Cert.MixPRefIdeal.nD Cert.MixPRefIdeal.τ).loc Cert.MixPRefIdeal.main_arg7) = m' ((c.tc : Thread Cert.MixPRefIdeal.nD Cert.MixPRefIdeal.τ).loc Cert.MixPRefIdeal.main_arg7)
          ∧ r.2.mem ((c.tc : Thread Cert.MixPRefIdeal.nD Cert.MixPRefIdeal.τ).loc Cert.MixPRefIdeal.main_arg8) = m' ((c.tc : Thread Cert.MixPRefIdeal.nD Cert.MixPRefIdeal.τ).loc Cert.MixPRefIdeal.main_arg8)
          ∧ r.2.mem ((c.tc : Thread Cert.MixPRefIdeal.nD Cert.MixPRefIdeal.τ).loc Cert.MixPRefIdeal.main_arg9) = m' ((c.tc : Thread Cert.MixPRefIdeal.nD Cert.MixPRefIdeal.τ).loc Cert.MixPRefIdeal.main_arg9))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)
      ∧ m' ((c.tc : Thread Cert.MixSRefIdeal.nD Cert.MixSRefIdeal.τ).loc Cert.MixSRefIdeal.main_arg6) = m ((c.tc : Thread Cert.MixSIdeal.nD Cert.MixSIdeal.τ).loc Cert.MixSIdeal.main_arg6)
      ∧ m' ((c.tc : Thread Cert.MixSRefIdeal.nD Cert.MixSRefIdeal.τ).loc Cert.MixSRefIdeal.main_arg7) = m ((c.tc : Thread Cert.MixSIdeal.nD Cert.MixSIdeal.τ).loc Cert.MixSIdeal.main_arg7)
      ∧ m' ((c.tc : Thread Cert.MixSRefIdeal.nD Cert.MixSRefIdeal.τ).loc Cert.MixSRefIdeal.main_arg8) = m ((c.tc : Thread Cert.MixSIdeal.nD Cert.MixSIdeal.τ).loc Cert.MixSIdeal.main_arg8)
      ∧ m' ((c.tc : Thread Cert.MixSRefIdeal.nD Cert.MixSRefIdeal.τ).loc Cert.MixSRefIdeal.main_arg9) = m ((c.tc : Thread Cert.MixSIdeal.nD Cert.MixSIdeal.τ).loc Cert.MixSIdeal.main_arg9)) →
    ∃ (v0 : (c : Dev Cert.MixSIdeal.nD) → Buf (Elt Ideal) ((c.tc : Thread Cert.MixSIdeal.nD Cert.MixSIdeal.τ).loc Cert.MixSIdeal.main_v37_0)) (v1 : (c : Dev Cert.MixSIdeal.nD) → Buf (Elt Ideal) ((c.tc : Thread Cert.MixSIdeal.nD Cert.MixSIdeal.τ).loc Cert.MixSIdeal.main_v37_1)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v37_0) = v0 c
          ∧ r.2.mem ((c.tc : Thread Cert.MixSIdeal.nD Cert.MixSIdeal.τ).loc Cert.MixSIdeal.main_v37_1) = v1 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
          ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
          ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8)
          ∧ r.2.mem ((c.tc : Thread Cert.MixSIdeal.nD Cert.MixSIdeal.τ).loc Cert.MixSIdeal.main_arg9) = m ((c.tc : Thread Cert.MixSIdeal.nD Cert.MixSIdeal.τ).loc Cert.MixSIdeal.main_arg9))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v70) = v0 c
          ∧ r.2.mem ((c.tc : Thread Cert.MixSRefIdeal.nD Cert.MixSRefIdeal.τ).loc Cert.MixSRefIdeal.main_v71) = v1 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5)
          ∧ r.2.mem ((c.tc : Thread Cert.MixSRefIdeal.nD Cert.MixSRefIdeal.τ).loc Cert.MixSRefIdeal.main_arg6) = m' ((c.tc : Thread Cert.MixSRefIdeal.nD Cert.MixSRefIdeal.τ).loc Cert.MixSRefIdeal.main_arg6)
          ∧ r.2.mem ((c.tc : Thread Cert.MixSRefIdeal.nD Cert.MixSRefIdeal.τ).loc Cert.MixSRefIdeal.main_arg7) = m' ((c.tc : Thread Cert.MixSRefIdeal.nD Cert.MixSRefIdeal.τ).loc Cert.MixSRefIdeal.main_arg7)
          ∧ r.2.mem ((c.tc : Thread Cert.MixSRefIdeal.nD Cert.MixSRefIdeal.τ).loc Cert.MixSRefIdeal.main_arg8) = m' ((c.tc : Thread Cert.MixSRefIdeal.nD Cert.MixSRefIdeal.τ).loc Cert.MixSRefIdeal.main_arg8)
          ∧ r.2.mem ((c.tc : Thread Cert.MixSRefIdeal.nD Cert.MixSRefIdeal.τ).loc Cert.MixSRefIdeal.main_arg9) = m' ((c.tc : Thread Cert.MixSRefIdeal.nD Cert.MixSRefIdeal.τ).loc Cert.MixSRefIdeal.main_arg9))

def preserves_KvqP_KvqPIdeal : Prop :=
  True

def algebraic_KvqPIdeal_KvqPRefIdeal [hKvqPIdeal : Cert.KvqPIdeal.Facts] [hKvqPRefIdeal : Cert.KvqPRefIdeal.Facts] : Prop :=
  ∀ (m : (ℓ : Loc Cert.KvqPIdeal.nD Cert.KvqPIdeal.τ Cert.KvqPIdeal.sig) → Buf (Elt Ideal) ℓ) (g : Dev Cert.KvqPIdeal.nD → PrngReg)
    (m' : (ℓ : Loc Cert.KvqPRefIdeal.nD Cert.KvqPRefIdeal.τ Cert.KvqPRefIdeal.sig) → Buf (Elt Ideal) ℓ) (g' : Dev Cert.KvqPRefIdeal.nD → PrngReg), Pre_KvqPIdeal m →
    (∀ c : Dev Cert.KvqPIdeal.nD,
      m' ((c.tc : Thread Cert.KvqPRefIdeal.nD Cert.KvqPRefIdeal.τ).loc Cert.KvqPRefIdeal.main_arg0) = m ((c.tc : Thread Cert.KvqPIdeal.nD Cert.KvqPIdeal.τ).loc Cert.KvqPIdeal.main_arg0)
      ∧ m' ((c.tc : Thread Cert.KvqPRefIdeal.nD Cert.KvqPRefIdeal.τ).loc Cert.KvqPRefIdeal.main_arg1) = m ((c.tc : Thread Cert.KvqPIdeal.nD Cert.KvqPIdeal.τ).loc Cert.KvqPIdeal.main_arg1)
      ∧ m' ((c.tc : Thread Cert.KvqPRefIdeal.nD Cert.KvqPRefIdeal.τ).loc Cert.KvqPRefIdeal.main_arg2) = m ((c.tc : Thread Cert.KvqPIdeal.nD Cert.KvqPIdeal.τ).loc Cert.KvqPIdeal.main_arg2)
      ∧ m' ((c.tc : Thread Cert.KvqPRefIdeal.nD Cert.KvqPRefIdeal.τ).loc Cert.KvqPRefIdeal.main_arg3) = m ((c.tc : Thread Cert.KvqPIdeal.nD Cert.KvqPIdeal.τ).loc Cert.KvqPIdeal.main_arg3)
      ∧ m' ((c.tc : Thread Cert.KvqPRefIdeal.nD Cert.KvqPRefIdeal.τ).loc Cert.KvqPRefIdeal.main_arg4) = m ((c.tc : Thread Cert.KvqPIdeal.nD Cert.KvqPIdeal.τ).loc Cert.KvqPIdeal.main_arg4)
      ∧ m' ((c.tc : Thread Cert.KvqPRefIdeal.nD Cert.KvqPRefIdeal.τ).loc Cert.KvqPRefIdeal.main_arg5) = m ((c.tc : Thread Cert.KvqPIdeal.nD Cert.KvqPIdeal.τ).loc Cert.KvqPIdeal.main_arg5)
      ∧ m' ((c.tc : Thread Cert.KvqPRefIdeal.nD Cert.KvqPRefIdeal.τ).loc Cert.KvqPRefIdeal.main_arg6) = m ((c.tc : Thread Cert.KvqPIdeal.nD Cert.KvqPIdeal.τ).loc Cert.KvqPIdeal.main_arg6)
      ∧ m' ((c.tc : Thread Cert.KvqPRefIdeal.nD Cert.KvqPRefIdeal.τ).loc Cert.KvqPRefIdeal.main_arg7) = m ((c.tc : Thread Cert.KvqPIdeal.nD Cert.KvqPIdeal.τ).loc Cert.KvqPIdeal.main_arg7)
      ∧ m' ((c.tc : Thread Cert.KvqPRefIdeal.nD Cert.KvqPRefIdeal.τ).loc Cert.KvqPRefIdeal.main_arg8) = m ((c.tc : Thread Cert.KvqPIdeal.nD Cert.KvqPIdeal.τ).loc Cert.KvqPIdeal.main_arg8)) →
    ∃ (v0 : (c : Dev Cert.KvqPIdeal.nD) → Buf (Elt Ideal) ((c.tc : Thread Cert.KvqPIdeal.nD Cert.KvqPIdeal.τ).loc Cert.KvqPIdeal.main_v7_0)) (v1 : (c : Dev Cert.KvqPIdeal.nD) → Buf (Elt Ideal) ((c.tc : Thread Cert.KvqPIdeal.nD Cert.KvqPIdeal.τ).loc Cert.KvqPIdeal.main_v7_1)) (v2 : (c : Dev Cert.KvqPIdeal.nD) → Buf (Elt Ideal) ((c.tc : Thread Cert.KvqPIdeal.nD Cert.KvqPIdeal.τ).loc Cert.KvqPIdeal.main_v7_2)) (v3 : (c : Dev Cert.KvqPIdeal.nD) → Buf (Elt Ideal) ((c.tc : Thread Cert.KvqPIdeal.nD Cert.KvqPIdeal.τ).loc Cert.KvqPIdeal.main_v7_3)) (v4 : (c : Dev Cert.KvqPIdeal.nD) → Buf (Elt Ideal) ((c.tc : Thread Cert.KvqPIdeal.nD Cert.KvqPIdeal.τ).loc Cert.KvqPIdeal.main_v7_4)) (v5 : (c : Dev Cert.KvqPIdeal.nD) → Buf (Elt Ideal) ((c.tc : Thread Cert.KvqPIdeal.nD Cert.KvqPIdeal.τ).loc Cert.KvqPIdeal.main_v7_5)) (v6 : (c : Dev Cert.KvqPIdeal.nD) → Buf (Elt Ideal) ((c.tc : Thread Cert.KvqPIdeal.nD Cert.KvqPIdeal.τ).loc Cert.KvqPIdeal.main_v7_6)),
      θ_run (Cert.KvqPIdeal.defs (F := Ideal)) (onTc (τ := Cert.KvqPIdeal.τ) (Cert.KvqPIdeal.main (F := Ideal))) ⟨m, fun _ => 0, g⟩ (fun r => ∀ c : Dev Cert.KvqPIdeal.nD,
          r.2.mem ((c.tc : Thread Cert.KvqPIdeal.nD Cert.KvqPIdeal.τ).loc Cert.KvqPIdeal.main_v7_0) = v0 c
          ∧ r.2.mem ((c.tc : Thread Cert.KvqPIdeal.nD Cert.KvqPIdeal.τ).loc Cert.KvqPIdeal.main_v7_1) = v1 c
          ∧ r.2.mem ((c.tc : Thread Cert.KvqPIdeal.nD Cert.KvqPIdeal.τ).loc Cert.KvqPIdeal.main_v7_2) = v2 c
          ∧ r.2.mem ((c.tc : Thread Cert.KvqPIdeal.nD Cert.KvqPIdeal.τ).loc Cert.KvqPIdeal.main_v7_3) = v3 c
          ∧ r.2.mem ((c.tc : Thread Cert.KvqPIdeal.nD Cert.KvqPIdeal.τ).loc Cert.KvqPIdeal.main_v7_4) = v4 c
          ∧ r.2.mem ((c.tc : Thread Cert.KvqPIdeal.nD Cert.KvqPIdeal.τ).loc Cert.KvqPIdeal.main_v7_5) = v5 c
          ∧ r.2.mem ((c.tc : Thread Cert.KvqPIdeal.nD Cert.KvqPIdeal.τ).loc Cert.KvqPIdeal.main_v7_6) = v6 c
          ∧ r.2.mem ((c.tc : Thread Cert.KvqPIdeal.nD Cert.KvqPIdeal.τ).loc Cert.KvqPIdeal.main_arg0) = m ((c.tc : Thread Cert.KvqPIdeal.nD Cert.KvqPIdeal.τ).loc Cert.KvqPIdeal.main_arg0)
          ∧ r.2.mem ((c.tc : Thread Cert.KvqPIdeal.nD Cert.KvqPIdeal.τ).loc Cert.KvqPIdeal.main_arg1) = m ((c.tc : Thread Cert.KvqPIdeal.nD Cert.KvqPIdeal.τ).loc Cert.KvqPIdeal.main_arg1)
          ∧ r.2.mem ((c.tc : Thread Cert.KvqPIdeal.nD Cert.KvqPIdeal.τ).loc Cert.KvqPIdeal.main_arg2) = m ((c.tc : Thread Cert.KvqPIdeal.nD Cert.KvqPIdeal.τ).loc Cert.KvqPIdeal.main_arg2)
          ∧ r.2.mem ((c.tc : Thread Cert.KvqPIdeal.nD Cert.KvqPIdeal.τ).loc Cert.KvqPIdeal.main_arg3) = m ((c.tc : Thread Cert.KvqPIdeal.nD Cert.KvqPIdeal.τ).loc Cert.KvqPIdeal.main_arg3)
          ∧ r.2.mem ((c.tc : Thread Cert.KvqPIdeal.nD Cert.KvqPIdeal.τ).loc Cert.KvqPIdeal.main_arg4) = m ((c.tc : Thread Cert.KvqPIdeal.nD Cert.KvqPIdeal.τ).loc Cert.KvqPIdeal.main_arg4)
          ∧ r.2.mem ((c.tc : Thread Cert.KvqPIdeal.nD Cert.KvqPIdeal.τ).loc Cert.KvqPIdeal.main_arg5) = m ((c.tc : Thread Cert.KvqPIdeal.nD Cert.KvqPIdeal.τ).loc Cert.KvqPIdeal.main_arg5)
          ∧ r.2.mem ((c.tc : Thread Cert.KvqPIdeal.nD Cert.KvqPIdeal.τ).loc Cert.KvqPIdeal.main_arg6) = m ((c.tc : Thread Cert.KvqPIdeal.nD Cert.KvqPIdeal.τ).loc Cert.KvqPIdeal.main_arg6)
          ∧ r.2.mem ((c.tc : Thread Cert.KvqPIdeal.nD Cert.KvqPIdeal.τ).loc Cert.KvqPIdeal.main_arg7) = m ((c.tc : Thread Cert.KvqPIdeal.nD Cert.KvqPIdeal.τ).loc Cert.KvqPIdeal.main_arg7)
          ∧ r.2.mem ((c.tc : Thread Cert.KvqPIdeal.nD Cert.KvqPIdeal.τ).loc Cert.KvqPIdeal.main_arg8) = m ((c.tc : Thread Cert.KvqPIdeal.nD Cert.KvqPIdeal.τ).loc Cert.KvqPIdeal.main_arg8))
      ∧ θ_run (Cert.KvqPRefIdeal.defs (F := Ideal)) (onTc (τ := Cert.KvqPRefIdeal.τ) (Cert.KvqPRefIdeal.main (F := Ideal))) ⟨m', fun _ => 0, g'⟩ (fun r => ∀ c : Dev Cert.KvqPRefIdeal.nD,
          r.2.mem ((c.tc : Thread Cert.KvqPRefIdeal.nD Cert.KvqPRefIdeal.τ).loc Cert.KvqPRefIdeal.main_v50) = v0 c
          ∧ r.2.mem ((c.tc : Thread Cert.KvqPRefIdeal.nD Cert.KvqPRefIdeal.τ).loc Cert.KvqPRefIdeal.main_v51) = v1 c
          ∧ r.2.mem ((c.tc : Thread Cert.KvqPRefIdeal.nD Cert.KvqPRefIdeal.τ).loc Cert.KvqPRefIdeal.main_v52) = v2 c
          ∧ r.2.mem ((c.tc : Thread Cert.KvqPRefIdeal.nD Cert.KvqPRefIdeal.τ).loc Cert.KvqPRefIdeal.main_v54) = v3 c
          ∧ r.2.mem ((c.tc : Thread Cert.KvqPRefIdeal.nD Cert.KvqPRefIdeal.τ).loc Cert.KvqPRefIdeal.main_v56) = v4 c
          ∧ r.2.mem ((c.tc : Thread Cert.KvqPRefIdeal.nD Cert.KvqPRefIdeal.τ).loc Cert.KvqPRefIdeal.main_v49) = v5 c
          ∧ r.2.mem ((c.tc : Thread Cert.KvqPRefIdeal.nD Cert.KvqPRefIdeal.τ).loc Cert.KvqPRefIdeal.main_v57) = v6 c
          ∧ r.2.mem ((c.tc : Thread Cert.KvqPRefIdeal.nD Cert.KvqPRefIdeal.τ).loc Cert.KvqPRefIdeal.main_arg0) = m' ((c.tc : Thread Cert.KvqPRefIdeal.nD Cert.KvqPRefIdeal.τ).loc Cert.KvqPRefIdeal.main_arg0)
          ∧ r.2.mem ((c.tc : Thread Cert.KvqPRefIdeal.nD Cert.KvqPRefIdeal.τ).loc Cert.KvqPRefIdeal.main_arg1) = m' ((c.tc : Thread Cert.KvqPRefIdeal.nD Cert.KvqPRefIdeal.τ).loc Cert.KvqPRefIdeal.main_arg1)
          ∧ r.2.mem ((c.tc : Thread Cert.KvqPRefIdeal.nD Cert.KvqPRefIdeal.τ).loc Cert.KvqPRefIdeal.main_arg2) = m' ((c.tc : Thread Cert.KvqPRefIdeal.nD Cert.KvqPRefIdeal.τ).loc Cert.KvqPRefIdeal.main_arg2)
          ∧ r.2.mem ((c.tc : Thread Cert.KvqPRefIdeal.nD Cert.KvqPRefIdeal.τ).loc Cert.KvqPRefIdeal.main_arg3) = m' ((c.tc : Thread Cert.KvqPRefIdeal.nD Cert.KvqPRefIdeal.τ).loc Cert.KvqPRefIdeal.main_arg3)
          ∧ r.2.mem ((c.tc : Thread Cert.KvqPRefIdeal.nD Cert.KvqPRefIdeal.τ).loc Cert.KvqPRefIdeal.main_arg4) = m' ((c.tc : Thread Cert.KvqPRefIdeal.nD Cert.KvqPRefIdeal.τ).loc Cert.KvqPRefIdeal.main_arg4)
          ∧ r.2.mem ((c.tc : Thread Cert.KvqPRefIdeal.nD Cert.KvqPRefIdeal.τ).loc Cert.KvqPRefIdeal.main_arg5) = m' ((c.tc : Thread Cert.KvqPRefIdeal.nD Cert.KvqPRefIdeal.τ).loc Cert.KvqPRefIdeal.main_arg5)
          ∧ r.2.mem ((c.tc : Thread Cert.KvqPRefIdeal.nD Cert.KvqPRefIdeal.τ).loc Cert.KvqPRefIdeal.main_arg6) = m' ((c.tc : Thread Cert.KvqPRefIdeal.nD Cert.KvqPRefIdeal.τ).loc Cert.KvqPRefIdeal.main_arg6)
          ∧ r.2.mem ((c.tc : Thread Cert.KvqPRefIdeal.nD Cert.KvqPRefIdeal.τ).loc Cert.KvqPRefIdeal.main_arg7) = m' ((c.tc : Thread Cert.KvqPRefIdeal.nD Cert.KvqPRefIdeal.τ).loc Cert.KvqPRefIdeal.main_arg7)
          ∧ r.2.mem ((c.tc : Thread Cert.KvqPRefIdeal.nD Cert.KvqPRefIdeal.τ).loc Cert.KvqPRefIdeal.main_arg8) = m' ((c.tc : Thread Cert.KvqPRefIdeal.nD Cert.KvqPRefIdeal.τ).loc Cert.KvqPRefIdeal.main_arg8))

def preserves_KvqS_KvqSIdeal : Prop :=
  True

def algebraic_KvqSIdeal_KvqSRefIdeal [hKvqSIdeal : Cert.KvqSIdeal.Facts] [hKvqSRefIdeal : Cert.KvqSRefIdeal.Facts] : Prop :=
  ∀ (m : (ℓ : Loc Cert.KvqSIdeal.nD Cert.KvqSIdeal.τ Cert.KvqSIdeal.sig) → Buf (Elt Ideal) ℓ) (g : Dev Cert.KvqSIdeal.nD → PrngReg)
    (m' : (ℓ : Loc Cert.KvqSRefIdeal.nD Cert.KvqSRefIdeal.τ Cert.KvqSRefIdeal.sig) → Buf (Elt Ideal) ℓ) (g' : Dev Cert.KvqSRefIdeal.nD → PrngReg), Pre_KvqSIdeal m →
    (∀ c : Dev Cert.KvqSIdeal.nD,
      m' ((c.tc : Thread Cert.KvqSRefIdeal.nD Cert.KvqSRefIdeal.τ).loc Cert.KvqSRefIdeal.main_arg0) = m ((c.tc : Thread Cert.KvqSIdeal.nD Cert.KvqSIdeal.τ).loc Cert.KvqSIdeal.main_arg0)
      ∧ m' ((c.tc : Thread Cert.KvqSRefIdeal.nD Cert.KvqSRefIdeal.τ).loc Cert.KvqSRefIdeal.main_arg1) = m ((c.tc : Thread Cert.KvqSIdeal.nD Cert.KvqSIdeal.τ).loc Cert.KvqSIdeal.main_arg1)
      ∧ m' ((c.tc : Thread Cert.KvqSRefIdeal.nD Cert.KvqSRefIdeal.τ).loc Cert.KvqSRefIdeal.main_arg2) = m ((c.tc : Thread Cert.KvqSIdeal.nD Cert.KvqSIdeal.τ).loc Cert.KvqSIdeal.main_arg2)
      ∧ m' ((c.tc : Thread Cert.KvqSRefIdeal.nD Cert.KvqSRefIdeal.τ).loc Cert.KvqSRefIdeal.main_arg3) = m ((c.tc : Thread Cert.KvqSIdeal.nD Cert.KvqSIdeal.τ).loc Cert.KvqSIdeal.main_arg3)
      ∧ m' ((c.tc : Thread Cert.KvqSRefIdeal.nD Cert.KvqSRefIdeal.τ).loc Cert.KvqSRefIdeal.main_arg4) = m ((c.tc : Thread Cert.KvqSIdeal.nD Cert.KvqSIdeal.τ).loc Cert.KvqSIdeal.main_arg4)
      ∧ m' ((c.tc : Thread Cert.KvqSRefIdeal.nD Cert.KvqSRefIdeal.τ).loc Cert.KvqSRefIdeal.main_arg5) = m ((c.tc : Thread Cert.KvqSIdeal.nD Cert.KvqSIdeal.τ).loc Cert.KvqSIdeal.main_arg5)
      ∧ m' ((c.tc : Thread Cert.KvqSRefIdeal.nD Cert.KvqSRefIdeal.τ).loc Cert.KvqSRefIdeal.main_arg6) = m ((c.tc : Thread Cert.KvqSIdeal.nD Cert.KvqSIdeal.τ).loc Cert.KvqSIdeal.main_arg6)
      ∧ m' ((c.tc : Thread Cert.KvqSRefIdeal.nD Cert.KvqSRefIdeal.τ).loc Cert.KvqSRefIdeal.main_arg7) = m ((c.tc : Thread Cert.KvqSIdeal.nD Cert.KvqSIdeal.τ).loc Cert.KvqSIdeal.main_arg7)
      ∧ m' ((c.tc : Thread Cert.KvqSRefIdeal.nD Cert.KvqSRefIdeal.τ).loc Cert.KvqSRefIdeal.main_arg8) = m ((c.tc : Thread Cert.KvqSIdeal.nD Cert.KvqSIdeal.τ).loc Cert.KvqSIdeal.main_arg8)) →
    ∃ (v0 : (c : Dev Cert.KvqSIdeal.nD) → Buf (Elt Ideal) ((c.tc : Thread Cert.KvqSIdeal.nD Cert.KvqSIdeal.τ).loc Cert.KvqSIdeal.main_v13_0)) (v1 : (c : Dev Cert.KvqSIdeal.nD) → Buf (Elt Ideal) ((c.tc : Thread Cert.KvqSIdeal.nD Cert.KvqSIdeal.τ).loc Cert.KvqSIdeal.main_v13_1)) (v2 : (c : Dev Cert.KvqSIdeal.nD) → Buf (Elt Ideal) ((c.tc : Thread Cert.KvqSIdeal.nD Cert.KvqSIdeal.τ).loc Cert.KvqSIdeal.main_v13_2)) (v3 : (c : Dev Cert.KvqSIdeal.nD) → Buf (Elt Ideal) ((c.tc : Thread Cert.KvqSIdeal.nD Cert.KvqSIdeal.τ).loc Cert.KvqSIdeal.main_v13_6)),
      θ_run (Cert.KvqSIdeal.defs (F := Ideal)) (onTc (τ := Cert.KvqSIdeal.τ) (Cert.KvqSIdeal.main (F := Ideal))) ⟨m, fun _ => 0, g⟩ (fun r => ∀ c : Dev Cert.KvqSIdeal.nD,
          r.2.mem ((c.tc : Thread Cert.KvqSIdeal.nD Cert.KvqSIdeal.τ).loc Cert.KvqSIdeal.main_v13_0) = v0 c
          ∧ r.2.mem ((c.tc : Thread Cert.KvqSIdeal.nD Cert.KvqSIdeal.τ).loc Cert.KvqSIdeal.main_v13_1) = v1 c
          ∧ r.2.mem ((c.tc : Thread Cert.KvqSIdeal.nD Cert.KvqSIdeal.τ).loc Cert.KvqSIdeal.main_v13_2) = v2 c
          ∧ r.2.mem ((c.tc : Thread Cert.KvqSIdeal.nD Cert.KvqSIdeal.τ).loc Cert.KvqSIdeal.main_v13_6) = v3 c
          ∧ r.2.mem ((c.tc : Thread Cert.KvqSIdeal.nD Cert.KvqSIdeal.τ).loc Cert.KvqSIdeal.main_arg0) = m ((c.tc : Thread Cert.KvqSIdeal.nD Cert.KvqSIdeal.τ).loc Cert.KvqSIdeal.main_arg0)
          ∧ r.2.mem ((c.tc : Thread Cert.KvqSIdeal.nD Cert.KvqSIdeal.τ).loc Cert.KvqSIdeal.main_arg1) = m ((c.tc : Thread Cert.KvqSIdeal.nD Cert.KvqSIdeal.τ).loc Cert.KvqSIdeal.main_arg1)
          ∧ r.2.mem ((c.tc : Thread Cert.KvqSIdeal.nD Cert.KvqSIdeal.τ).loc Cert.KvqSIdeal.main_arg2) = m ((c.tc : Thread Cert.KvqSIdeal.nD Cert.KvqSIdeal.τ).loc Cert.KvqSIdeal.main_arg2)
          ∧ r.2.mem ((c.tc : Thread Cert.KvqSIdeal.nD Cert.KvqSIdeal.τ).loc Cert.KvqSIdeal.main_arg3) = m ((c.tc : Thread Cert.KvqSIdeal.nD Cert.KvqSIdeal.τ).loc Cert.KvqSIdeal.main_arg3)
          ∧ r.2.mem ((c.tc : Thread Cert.KvqSIdeal.nD Cert.KvqSIdeal.τ).loc Cert.KvqSIdeal.main_arg4) = m ((c.tc : Thread Cert.KvqSIdeal.nD Cert.KvqSIdeal.τ).loc Cert.KvqSIdeal.main_arg4)
          ∧ r.2.mem ((c.tc : Thread Cert.KvqSIdeal.nD Cert.KvqSIdeal.τ).loc Cert.KvqSIdeal.main_arg5) = m ((c.tc : Thread Cert.KvqSIdeal.nD Cert.KvqSIdeal.τ).loc Cert.KvqSIdeal.main_arg5)
          ∧ r.2.mem ((c.tc : Thread Cert.KvqSIdeal.nD Cert.KvqSIdeal.τ).loc Cert.KvqSIdeal.main_arg6) = m ((c.tc : Thread Cert.KvqSIdeal.nD Cert.KvqSIdeal.τ).loc Cert.KvqSIdeal.main_arg6)
          ∧ r.2.mem ((c.tc : Thread Cert.KvqSIdeal.nD Cert.KvqSIdeal.τ).loc Cert.KvqSIdeal.main_arg7) = m ((c.tc : Thread Cert.KvqSIdeal.nD Cert.KvqSIdeal.τ).loc Cert.KvqSIdeal.main_arg7)
          ∧ r.2.mem ((c.tc : Thread Cert.KvqSIdeal.nD Cert.KvqSIdeal.τ).loc Cert.KvqSIdeal.main_arg8) = m ((c.tc : Thread Cert.KvqSIdeal.nD Cert.KvqSIdeal.τ).loc Cert.KvqSIdeal.main_arg8))
      ∧ θ_run (Cert.KvqSRefIdeal.defs (F := Ideal)) (onTc (τ := Cert.KvqSRefIdeal.τ) (Cert.KvqSRefIdeal.main (F := Ideal))) ⟨m', fun _ => 0, g'⟩ (fun r => ∀ c : Dev Cert.KvqSRefIdeal.nD,
          r.2.mem ((c.tc : Thread Cert.KvqSRefIdeal.nD Cert.KvqSRefIdeal.τ).loc Cert.KvqSRefIdeal.main_v45) = v0 c
          ∧ r.2.mem ((c.tc : Thread Cert.KvqSRefIdeal.nD Cert.KvqSRefIdeal.τ).loc Cert.KvqSRefIdeal.main_v46) = v1 c
          ∧ r.2.mem ((c.tc : Thread Cert.KvqSRefIdeal.nD Cert.KvqSRefIdeal.τ).loc Cert.KvqSRefIdeal.main_v47) = v2 c
          ∧ r.2.mem ((c.tc : Thread Cert.KvqSRefIdeal.nD Cert.KvqSRefIdeal.τ).loc Cert.KvqSRefIdeal.main_v48) = v3 c
          ∧ r.2.mem ((c.tc : Thread Cert.KvqSRefIdeal.nD Cert.KvqSRefIdeal.τ).loc Cert.KvqSRefIdeal.main_arg0) = m' ((c.tc : Thread Cert.KvqSRefIdeal.nD Cert.KvqSRefIdeal.τ).loc Cert.KvqSRefIdeal.main_arg0)
          ∧ r.2.mem ((c.tc : Thread Cert.KvqSRefIdeal.nD Cert.KvqSRefIdeal.τ).loc Cert.KvqSRefIdeal.main_arg1) = m' ((c.tc : Thread Cert.KvqSRefIdeal.nD Cert.KvqSRefIdeal.τ).loc Cert.KvqSRefIdeal.main_arg1)
          ∧ r.2.mem ((c.tc : Thread Cert.KvqSRefIdeal.nD Cert.KvqSRefIdeal.τ).loc Cert.KvqSRefIdeal.main_arg2) = m' ((c.tc : Thread Cert.KvqSRefIdeal.nD Cert.KvqSRefIdeal.τ).loc Cert.KvqSRefIdeal.main_arg2)
          ∧ r.2.mem ((c.tc : Thread Cert.KvqSRefIdeal.nD Cert.KvqSRefIdeal.τ).loc Cert.KvqSRefIdeal.main_arg3) = m' ((c.tc : Thread Cert.KvqSRefIdeal.nD Cert.KvqSRefIdeal.τ).loc Cert.KvqSRefIdeal.main_arg3)
          ∧ r.2.mem ((c.tc : Thread Cert.KvqSRefIdeal.nD Cert.KvqSRefIdeal.τ).loc Cert.KvqSRefIdeal.main_arg4) = m' ((c.tc : Thread Cert.KvqSRefIdeal.nD Cert.KvqSRefIdeal.τ).loc Cert.KvqSRefIdeal.main_arg4)
          ∧ r.2.mem ((c.tc : Thread Cert.KvqSRefIdeal.nD Cert.KvqSRefIdeal.τ).loc Cert.KvqSRefIdeal.main_arg5) = m' ((c.tc : Thread Cert.KvqSRefIdeal.nD Cert.KvqSRefIdeal.τ).loc Cert.KvqSRefIdeal.main_arg5)
          ∧ r.2.mem ((c.tc : Thread Cert.KvqSRefIdeal.nD Cert.KvqSRefIdeal.τ).loc Cert.KvqSRefIdeal.main_arg6) = m' ((c.tc : Thread Cert.KvqSRefIdeal.nD Cert.KvqSRefIdeal.τ).loc Cert.KvqSRefIdeal.main_arg6)
          ∧ r.2.mem ((c.tc : Thread Cert.KvqSRefIdeal.nD Cert.KvqSRefIdeal.τ).loc Cert.KvqSRefIdeal.main_arg7) = m' ((c.tc : Thread Cert.KvqSRefIdeal.nD Cert.KvqSRefIdeal.τ).loc Cert.KvqSRefIdeal.main_arg7)
          ∧ r.2.mem ((c.tc : Thread Cert.KvqSRefIdeal.nD Cert.KvqSRefIdeal.τ).loc Cert.KvqSRefIdeal.main_arg8) = m' ((c.tc : Thread Cert.KvqSRefIdeal.nD Cert.KvqSRefIdeal.τ).loc Cert.KvqSRefIdeal.main_arg8))

def preserves_ProjP_ProjPIdeal : Prop :=
  True

def algebraic_ProjPIdeal_ProjPRefIdeal [hProjPIdeal : Cert.ProjPIdeal.Facts] [hProjPRefIdeal : Cert.ProjPRefIdeal.Facts] : Prop :=
  ∀ (m : (ℓ : Loc Cert.ProjPIdeal.nD Cert.ProjPIdeal.τ Cert.ProjPIdeal.sig) → Buf (Elt Ideal) ℓ) (g : Dev Cert.ProjPIdeal.nD → PrngReg)
    (m' : (ℓ : Loc Cert.ProjPRefIdeal.nD Cert.ProjPRefIdeal.τ Cert.ProjPRefIdeal.sig) → Buf (Elt Ideal) ℓ) (g' : Dev Cert.ProjPRefIdeal.nD → PrngReg), Pre_ProjPIdeal m →
    (∀ c : Dev Cert.ProjPIdeal.nD,
      m' ((c.tc : Thread Cert.ProjPRefIdeal.nD Cert.ProjPRefIdeal.τ).loc Cert.ProjPRefIdeal.main_arg0) = m ((c.tc : Thread Cert.ProjPIdeal.nD Cert.ProjPIdeal.τ).loc Cert.ProjPIdeal.main_arg0)
      ∧ m' ((c.tc : Thread Cert.ProjPRefIdeal.nD Cert.ProjPRefIdeal.τ).loc Cert.ProjPRefIdeal.main_arg1) = m ((c.tc : Thread Cert.ProjPIdeal.nD Cert.ProjPIdeal.τ).loc Cert.ProjPIdeal.main_arg1)
      ∧ m' ((c.tc : Thread Cert.ProjPRefIdeal.nD Cert.ProjPRefIdeal.τ).loc Cert.ProjPRefIdeal.main_arg2) = m ((c.tc : Thread Cert.ProjPIdeal.nD Cert.ProjPIdeal.τ).loc Cert.ProjPIdeal.main_arg2)
      ∧ m' ((c.tc : Thread Cert.ProjPRefIdeal.nD Cert.ProjPRefIdeal.τ).loc Cert.ProjPRefIdeal.main_arg3) = m ((c.tc : Thread Cert.ProjPIdeal.nD Cert.ProjPIdeal.τ).loc Cert.ProjPIdeal.main_arg3)) →
    ∃ (v0 : (c : Dev Cert.ProjPIdeal.nD) → Buf (Elt Ideal) ((c.tc : Thread Cert.ProjPIdeal.nD Cert.ProjPIdeal.τ).loc Cert.ProjPIdeal.main_v2)),
      θ_run (Cert.ProjPIdeal.defs (F := Ideal)) (onTc (τ := Cert.ProjPIdeal.τ) (Cert.ProjPIdeal.main (F := Ideal))) ⟨m, fun _ => 0, g⟩ (fun r => ∀ c : Dev Cert.ProjPIdeal.nD,
          r.2.mem ((c.tc : Thread Cert.ProjPIdeal.nD Cert.ProjPIdeal.τ).loc Cert.ProjPIdeal.main_v2) = v0 c
          ∧ r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
          ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
          ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2)
          ∧ r.2.mem ((c.tc : Thread Cert.ProjPIdeal.nD Cert.ProjPIdeal.τ).loc Cert.ProjPIdeal.main_arg3) = m ((c.tc : Thread Cert.ProjPIdeal.nD Cert.ProjPIdeal.τ).loc Cert.ProjPIdeal.main_arg3))
      ∧ θ_run (Cert.ProjPRefIdeal.defs (F := Ideal)) (onTc (τ := Cert.ProjPRefIdeal.τ) (Cert.ProjPRefIdeal.main (F := Ideal))) ⟨m', fun _ => 0, g'⟩ (fun r => ∀ c : Dev Cert.ProjPRefIdeal.nD,
          r.2.mem ((c.tc : Thread Cert.ProjPRefIdeal.nD Cert.ProjPRefIdeal.τ).loc Cert.ProjPRefIdeal.main_v8) = v0 c
          ∧ r.2.mem ((c.tc : Thread Cert.ProjPRefIdeal.nD Cert.ProjPRefIdeal.τ).loc Cert.ProjPRefIdeal.main_arg0) = m' ((c.tc : Thread Cert.ProjPRefIdeal.nD Cert.ProjPRefIdeal.τ).loc Cert.ProjPRefIdeal.main_arg0)
          ∧ r.2.mem ((c.tc : Thread Cert.ProjPRefIdeal.nD Cert.ProjPRefIdeal.τ).loc Cert.ProjPRefIdeal.main_arg1) = m' ((c.tc : Thread Cert.ProjPRefIdeal.nD Cert.ProjPRefIdeal.τ).loc Cert.ProjPRefIdeal.main_arg1)
          ∧ r.2.mem ((c.tc : Thread Cert.ProjPRefIdeal.nD Cert.ProjPRefIdeal.τ).loc Cert.ProjPRefIdeal.main_arg2) = m' ((c.tc : Thread Cert.ProjPRefIdeal.nD Cert.ProjPRefIdeal.τ).loc Cert.ProjPRefIdeal.main_arg2)
          ∧ r.2.mem ((c.tc : Thread Cert.ProjPRefIdeal.nD Cert.ProjPRefIdeal.τ).loc Cert.ProjPRefIdeal.main_arg3) = m' ((c.tc : Thread Cert.ProjPRefIdeal.nD Cert.ProjPRefIdeal.τ).loc Cert.ProjPRefIdeal.main_arg3))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)) →
    ∃ (v0 : (c : Dev Cert.ProjSIdeal.nD) → Buf (Elt Ideal) ((c.tc : Thread Cert.ProjSIdeal.nD Cert.ProjSIdeal.τ).loc Cert.ProjSIdeal.main_v4)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v4) = v0 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v7) = v0 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3))

def preserves_FinalP_FinalPIdeal : Prop :=
  True

def algebraic_FinalPIdeal_FinalPRefIdeal [hFinalPIdeal : Cert.FinalPIdeal.Facts] [hFinalPRefIdeal : Cert.FinalPRefIdeal.Facts] : Prop :=
  ∀ (m : (ℓ : Loc Cert.FinalPIdeal.nD Cert.FinalPIdeal.τ Cert.FinalPIdeal.sig) → Buf (Elt Ideal) ℓ) (g : Dev Cert.FinalPIdeal.nD → PrngReg)
    (m' : (ℓ : Loc Cert.FinalPRefIdeal.nD Cert.FinalPRefIdeal.τ Cert.FinalPRefIdeal.sig) → Buf (Elt Ideal) ℓ) (g' : Dev Cert.FinalPRefIdeal.nD → PrngReg), Pre_FinalPIdeal m →
    (∀ c : Dev Cert.FinalPIdeal.nD,
      m' ((c.tc : Thread Cert.FinalPRefIdeal.nD Cert.FinalPRefIdeal.τ).loc Cert.FinalPRefIdeal.main_arg0) = m ((c.tc : Thread Cert.FinalPIdeal.nD Cert.FinalPIdeal.τ).loc Cert.FinalPIdeal.main_arg0)
      ∧ m' ((c.tc : Thread Cert.FinalPRefIdeal.nD Cert.FinalPRefIdeal.τ).loc Cert.FinalPRefIdeal.main_arg1) = m ((c.tc : Thread Cert.FinalPIdeal.nD Cert.FinalPIdeal.τ).loc Cert.FinalPIdeal.main_arg1)
      ∧ m' ((c.tc : Thread Cert.FinalPRefIdeal.nD Cert.FinalPRefIdeal.τ).loc Cert.FinalPRefIdeal.main_arg2) = m ((c.tc : Thread Cert.FinalPIdeal.nD Cert.FinalPIdeal.τ).loc Cert.FinalPIdeal.main_arg2)
      ∧ m' ((c.tc : Thread Cert.FinalPRefIdeal.nD Cert.FinalPRefIdeal.τ).loc Cert.FinalPRefIdeal.main_arg3) = m ((c.tc : Thread Cert.FinalPIdeal.nD Cert.FinalPIdeal.τ).loc Cert.FinalPIdeal.main_arg3)) →
    ∃ (v0 : (c : Dev Cert.FinalPIdeal.nD) → Buf (Elt Ideal) ((c.tc : Thread Cert.FinalPIdeal.nD Cert.FinalPIdeal.τ).loc Cert.FinalPIdeal.main_v2)),
      θ_run (Cert.FinalPIdeal.defs (F := Ideal)) (onTc (τ := Cert.FinalPIdeal.τ) (Cert.FinalPIdeal.main (F := Ideal))) ⟨m, fun _ => 0, g⟩ (fun r => ∀ c : Dev Cert.FinalPIdeal.nD,
          r.2.mem ((c.tc : Thread Cert.FinalPIdeal.nD Cert.FinalPIdeal.τ).loc Cert.FinalPIdeal.main_v2) = v0 c
          ∧ r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
          ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
          ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2)
          ∧ r.2.mem ((c.tc : Thread Cert.FinalPIdeal.nD Cert.FinalPIdeal.τ).loc Cert.FinalPIdeal.main_arg3) = m ((c.tc : Thread Cert.FinalPIdeal.nD Cert.FinalPIdeal.τ).loc Cert.FinalPIdeal.main_arg3))
      ∧ θ_run (Cert.FinalPRefIdeal.defs (F := Ideal)) (onTc (τ := Cert.FinalPRefIdeal.τ) (Cert.FinalPRefIdeal.main (F := Ideal))) ⟨m', fun _ => 0, g'⟩ (fun r => ∀ c : Dev Cert.FinalPRefIdeal.nD,
          r.2.mem ((c.tc : Thread Cert.FinalPRefIdeal.nD Cert.FinalPRefIdeal.τ).loc Cert.FinalPRefIdeal.main_v20) = v0 c
          ∧ r.2.mem ((c.tc : Thread Cert.FinalPRefIdeal.nD Cert.FinalPRefIdeal.τ).loc Cert.FinalPRefIdeal.main_arg0) = m' ((c.tc : Thread Cert.FinalPRefIdeal.nD Cert.FinalPRefIdeal.τ).loc Cert.FinalPRefIdeal.main_arg0)
          ∧ r.2.mem ((c.tc : Thread Cert.FinalPRefIdeal.nD Cert.FinalPRefIdeal.τ).loc Cert.FinalPRefIdeal.main_arg1) = m' ((c.tc : Thread Cert.FinalPRefIdeal.nD Cert.FinalPRefIdeal.τ).loc Cert.FinalPRefIdeal.main_arg1)
          ∧ r.2.mem ((c.tc : Thread Cert.FinalPRefIdeal.nD Cert.FinalPRefIdeal.τ).loc Cert.FinalPRefIdeal.main_arg2) = m' ((c.tc : Thread Cert.FinalPRefIdeal.nD Cert.FinalPRefIdeal.τ).loc Cert.FinalPRefIdeal.main_arg2)
          ∧ r.2.mem ((c.tc : Thread Cert.FinalPRefIdeal.nD Cert.FinalPRefIdeal.τ).loc Cert.FinalPRefIdeal.main_arg3) = m' ((c.tc : Thread Cert.FinalPRefIdeal.nD Cert.FinalPRefIdeal.τ).loc Cert.FinalPRefIdeal.main_arg3))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)
      ∧ m' ((c.tc : Thread Cert.FinalSRefIdeal.nD Cert.FinalSRefIdeal.τ).loc Cert.FinalSRefIdeal.main_arg2) = m ((c.tc : Thread Cert.FinalSIdeal.nD Cert.FinalSIdeal.τ).loc Cert.FinalSIdeal.main_arg2)
      ∧ m' ((c.tc : Thread Cert.FinalSRefIdeal.nD Cert.FinalSRefIdeal.τ).loc Cert.FinalSRefIdeal.main_arg3) = m ((c.tc : Thread Cert.FinalSIdeal.nD Cert.FinalSIdeal.τ).loc Cert.FinalSIdeal.main_arg3)) →
    ∃ (v0 : (c : Dev Cert.FinalSIdeal.nD) → Buf (Elt Ideal) ((c.tc : Thread Cert.FinalSIdeal.nD Cert.FinalSIdeal.τ).loc Cert.FinalSIdeal.main_v4)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v4) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
          ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2)
          ∧ r.2.mem ((c.tc : Thread Cert.FinalSIdeal.nD Cert.FinalSIdeal.τ).loc Cert.FinalSIdeal.main_arg3) = m ((c.tc : Thread Cert.FinalSIdeal.nD Cert.FinalSIdeal.τ).loc Cert.FinalSIdeal.main_arg3))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v20) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1)
          ∧ r.2.mem ((c.tc : Thread Cert.FinalSRefIdeal.nD Cert.FinalSRefIdeal.τ).loc Cert.FinalSRefIdeal.main_arg2) = m' ((c.tc : Thread Cert.FinalSRefIdeal.nD Cert.FinalSRefIdeal.τ).loc Cert.FinalSRefIdeal.main_arg2)
          ∧ r.2.mem ((c.tc : Thread Cert.FinalSRefIdeal.nD Cert.FinalSRefIdeal.τ).loc Cert.FinalSRefIdeal.main_arg3) = m' ((c.tc : Thread Cert.FinalSRefIdeal.nD Cert.FinalSRefIdeal.τ).loc Cert.FinalSRefIdeal.main_arg3))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)) →
    ∃ (v0 : (c : Dev Cert.RouteIdeal.nD) → Buf (Elt Ideal) ((c.tc : Thread Cert.RouteIdeal.nD Cert.RouteIdeal.τ).loc Cert.RouteIdeal.main_v4_0)) (v1 : (c : Dev Cert.RouteIdeal.nD) → Buf (Elt Ideal) ((c.tc : Thread Cert.RouteIdeal.nD Cert.RouteIdeal.τ).loc Cert.RouteIdeal.main_v4_1)) (v2 : (c : Dev Cert.RouteIdeal.nD) → Buf (Elt Ideal) ((c.tc : Thread Cert.RouteIdeal.nD Cert.RouteIdeal.τ).loc Cert.RouteIdeal.main_v4_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v4_0) = v0 c
          ∧ r.2.mem ((c.tc : Thread Cert.RouteIdeal.nD Cert.RouteIdeal.τ).loc Cert.RouteIdeal.main_v4_1) = v1 c
          ∧ r.2.mem ((c.tc : Thread Cert.RouteIdeal.nD Cert.RouteIdeal.τ).loc Cert.RouteIdeal.main_v4_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v34) = v0 c
          ∧ r.2.mem ((c.tc : Thread Cert.RouteRefIdeal.nD Cert.RouteRefIdeal.τ).loc Cert.RouteRefIdeal.main_v38) = v1 c
          ∧ r.2.mem ((c.tc : Thread Cert.RouteRefIdeal.nD Cert.RouteRefIdeal.τ).loc Cert.RouteRefIdeal.main_v42) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5))

def preserves_RouteS_RouteSIdeal : Prop :=
  True

def algebraic_RouteSIdeal_RouteSRefIdeal [hRouteSIdeal : Cert.RouteSIdeal.Facts] [hRouteSRefIdeal : Cert.RouteSRefIdeal.Facts] : Prop :=
  ∀ (m : (ℓ : Loc Cert.RouteSIdeal.nD Cert.RouteSIdeal.τ Cert.RouteSIdeal.sig) → Buf (Elt Ideal) ℓ) (g : Dev Cert.RouteSIdeal.nD → PrngReg)
    (m' : (ℓ : Loc Cert.RouteSRefIdeal.nD Cert.RouteSRefIdeal.τ Cert.RouteSRefIdeal.sig) → Buf (Elt Ideal) ℓ) (g' : Dev Cert.RouteSRefIdeal.nD → PrngReg), Pre_RouteSIdeal m →
    (∀ c : Dev Cert.RouteSIdeal.nD,
      m' ((c.tc : Thread Cert.RouteSRefIdeal.nD Cert.RouteSRefIdeal.τ).loc Cert.RouteSRefIdeal.main_arg0) = m ((c.tc : Thread Cert.RouteSIdeal.nD Cert.RouteSIdeal.τ).loc Cert.RouteSIdeal.main_arg0)
      ∧ m' ((c.tc : Thread Cert.RouteSRefIdeal.nD Cert.RouteSRefIdeal.τ).loc Cert.RouteSRefIdeal.main_arg1) = m ((c.tc : Thread Cert.RouteSIdeal.nD Cert.RouteSIdeal.τ).loc Cert.RouteSIdeal.main_arg1)
      ∧ m' ((c.tc : Thread Cert.RouteSRefIdeal.nD Cert.RouteSRefIdeal.τ).loc Cert.RouteSRefIdeal.main_arg2) = m ((c.tc : Thread Cert.RouteSIdeal.nD Cert.RouteSIdeal.τ).loc Cert.RouteSIdeal.main_arg2)
      ∧ m' ((c.tc : Thread Cert.RouteSRefIdeal.nD Cert.RouteSRefIdeal.τ).loc Cert.RouteSRefIdeal.main_arg3) = m ((c.tc : Thread Cert.RouteSIdeal.nD Cert.RouteSIdeal.τ).loc Cert.RouteSIdeal.main_arg3)
      ∧ m' ((c.tc : Thread Cert.RouteSRefIdeal.nD Cert.RouteSRefIdeal.τ).loc Cert.RouteSRefIdeal.main_arg4) = m ((c.tc : Thread Cert.RouteSIdeal.nD Cert.RouteSIdeal.τ).loc Cert.RouteSIdeal.main_arg4)
      ∧ m' ((c.tc : Thread Cert.RouteSRefIdeal.nD Cert.RouteSRefIdeal.τ).loc Cert.RouteSRefIdeal.main_arg5) = m ((c.tc : Thread Cert.RouteSIdeal.nD Cert.RouteSIdeal.τ).loc Cert.RouteSIdeal.main_arg5)) →
    ∃ (v0 : (c : Dev Cert.RouteSIdeal.nD) → Buf (Elt Ideal) ((c.tc : Thread Cert.RouteSIdeal.nD Cert.RouteSIdeal.τ).loc Cert.RouteSIdeal.main_v8_0)) (v1 : (c : Dev Cert.RouteSIdeal.nD) → Buf (Elt Ideal) ((c.tc : Thread Cert.RouteSIdeal.nD Cert.RouteSIdeal.τ).loc Cert.RouteSIdeal.main_v8_1)) (v2 : (c : Dev Cert.RouteSIdeal.nD) → Buf (Elt Ideal) ((c.tc : Thread Cert.RouteSIdeal.nD Cert.RouteSIdeal.τ).loc Cert.RouteSIdeal.main_v8_2)),
      θ_run (Cert.RouteSIdeal.defs (F := Ideal)) (onTc (τ := Cert.RouteSIdeal.τ) (Cert.RouteSIdeal.main (F := Ideal))) ⟨m, fun _ => 0, g⟩ (fun r => ∀ c : Dev Cert.RouteSIdeal.nD,
          r.2.mem ((c.tc : Thread Cert.RouteSIdeal.nD Cert.RouteSIdeal.τ).loc Cert.RouteSIdeal.main_v8_0) = v0 c
          ∧ r.2.mem ((c.tc : Thread Cert.RouteSIdeal.nD Cert.RouteSIdeal.τ).loc Cert.RouteSIdeal.main_v8_1) = v1 c
          ∧ r.2.mem ((c.tc : Thread Cert.RouteSIdeal.nD Cert.RouteSIdeal.τ).loc Cert.RouteSIdeal.main_v8_2) = v2 c
          ∧ r.2.mem ((c.tc : Thread Cert.RouteSIdeal.nD Cert.RouteSIdeal.τ).loc Cert.RouteSIdeal.main_arg0) = m ((c.tc : Thread Cert.RouteSIdeal.nD Cert.RouteSIdeal.τ).loc Cert.RouteSIdeal.main_arg0)
          ∧ r.2.mem ((c.tc : Thread Cert.RouteSIdeal.nD Cert.RouteSIdeal.τ).loc Cert.RouteSIdeal.main_arg1) = m ((c.tc : Thread Cert.RouteSIdeal.nD Cert.RouteSIdeal.τ).loc Cert.RouteSIdeal.main_arg1)
          ∧ r.2.mem ((c.tc : Thread Cert.RouteSIdeal.nD Cert.RouteSIdeal.τ).loc Cert.RouteSIdeal.main_arg2) = m ((c.tc : Thread Cert.RouteSIdeal.nD Cert.RouteSIdeal.τ).loc Cert.RouteSIdeal.main_arg2)
          ∧ r.2.mem ((c.tc : Thread Cert.RouteSIdeal.nD Cert.RouteSIdeal.τ).loc Cert.RouteSIdeal.main_arg3) = m ((c.tc : Thread Cert.RouteSIdeal.nD Cert.RouteSIdeal.τ).loc Cert.RouteSIdeal.main_arg3)
          ∧ r.2.mem ((c.tc : Thread Cert.RouteSIdeal.nD Cert.RouteSIdeal.τ).loc Cert.RouteSIdeal.main_arg4) = m ((c.tc : Thread Cert.RouteSIdeal.nD Cert.RouteSIdeal.τ).loc Cert.RouteSIdeal.main_arg4)
          ∧ r.2.mem ((c.tc : Thread Cert.RouteSIdeal.nD Cert.RouteSIdeal.τ).loc Cert.RouteSIdeal.main_arg5) = m ((c.tc : Thread Cert.RouteSIdeal.nD Cert.RouteSIdeal.τ).loc Cert.RouteSIdeal.main_arg5))
      ∧ θ_run (Cert.RouteSRefIdeal.defs (F := Ideal)) (onTc (τ := Cert.RouteSRefIdeal.τ) (Cert.RouteSRefIdeal.main (F := Ideal))) ⟨m', fun _ => 0, g'⟩ (fun r => ∀ c : Dev Cert.RouteSRefIdeal.nD,
          r.2.mem ((c.tc : Thread Cert.RouteSRefIdeal.nD Cert.RouteSRefIdeal.τ).loc Cert.RouteSRefIdeal.main_v34) = v0 c
          ∧ r.2.mem ((c.tc : Thread Cert.RouteSRefIdeal.nD Cert.RouteSRefIdeal.τ).loc Cert.RouteSRefIdeal.main_v38) = v1 c
          ∧ r.2.mem ((c.tc : Thread Cert.RouteSRefIdeal.nD Cert.RouteSRefIdeal.τ).loc Cert.RouteSRefIdeal.main_v42) = v2 c
          ∧ r.2.mem ((c.tc : Thread Cert.RouteSRefIdeal.nD Cert.RouteSRefIdeal.τ).loc Cert.RouteSRefIdeal.main_arg0) = m' ((c.tc : Thread Cert.RouteSRefIdeal.nD Cert.RouteSRefIdeal.τ).loc Cert.RouteSRefIdeal.main_arg0)
          ∧ r.2.mem ((c.tc : Thread Cert.RouteSRefIdeal.nD Cert.RouteSRefIdeal.τ).loc Cert.RouteSRefIdeal.main_arg1) = m' ((c.tc : Thread Cert.RouteSRefIdeal.nD Cert.RouteSRefIdeal.τ).loc Cert.RouteSRefIdeal.main_arg1)
          ∧ r.2.mem ((c.tc : Thread Cert.RouteSRefIdeal.nD Cert.RouteSRefIdeal.τ).loc Cert.RouteSRefIdeal.main_arg2) = m' ((c.tc : Thread Cert.RouteSRefIdeal.nD Cert.RouteSRefIdeal.τ).loc Cert.RouteSRefIdeal.main_arg2)
          ∧ r.2.mem ((c.tc : Thread Cert.RouteSRefIdeal.nD Cert.RouteSRefIdeal.τ).loc Cert.RouteSRefIdeal.main_arg3) = m' ((c.tc : Thread Cert.RouteSRefIdeal.nD Cert.RouteSRefIdeal.τ).loc Cert.RouteSRefIdeal.main_arg3)
          ∧ r.2.mem ((c.tc : Thread Cert.RouteSRefIdeal.nD Cert.RouteSRefIdeal.τ).loc Cert.RouteSRefIdeal.main_arg4) = m' ((c.tc : Thread Cert.RouteSRefIdeal.nD Cert.RouteSRefIdeal.τ).loc Cert.RouteSRefIdeal.main_arg4)
          ∧ r.2.mem ((c.tc : Thread Cert.RouteSRefIdeal.nD Cert.RouteSRefIdeal.τ).loc Cert.RouteSRefIdeal.main_arg5) = m' ((c.tc : Thread Cert.RouteSRefIdeal.nD Cert.RouteSRefIdeal.τ).loc Cert.RouteSRefIdeal.main_arg5))

def preserves_RouteU_RouteUIdeal : Prop :=
  True

def algebraic_RouteUIdeal_RouteURefIdeal [hRouteUIdeal : Cert.RouteUIdeal.Facts] [hRouteURefIdeal : Cert.RouteURefIdeal.Facts] : Prop :=
  ∀ (m : (ℓ : Loc Cert.RouteUIdeal.nD Cert.RouteUIdeal.τ Cert.RouteUIdeal.sig) → Buf (Elt Ideal) ℓ) (g : Dev Cert.RouteUIdeal.nD → PrngReg)
    (m' : (ℓ : Loc Cert.RouteURefIdeal.nD Cert.RouteURefIdeal.τ Cert.RouteURefIdeal.sig) → Buf (Elt Ideal) ℓ) (g' : Dev Cert.RouteURefIdeal.nD → PrngReg), Pre_RouteUIdeal m →
    (∀ c : Dev Cert.RouteUIdeal.nD,
      m' ((c.tc : Thread Cert.RouteURefIdeal.nD Cert.RouteURefIdeal.τ).loc Cert.RouteURefIdeal.main_arg0) = m ((c.tc : Thread Cert.RouteUIdeal.nD Cert.RouteUIdeal.τ).loc Cert.RouteUIdeal.main_arg0)
      ∧ m' ((c.tc : Thread Cert.RouteURefIdeal.nD Cert.RouteURefIdeal.τ).loc Cert.RouteURefIdeal.main_arg1) = m ((c.tc : Thread Cert.RouteUIdeal.nD Cert.RouteUIdeal.τ).loc Cert.RouteUIdeal.main_arg1)
      ∧ m' ((c.tc : Thread Cert.RouteURefIdeal.nD Cert.RouteURefIdeal.τ).loc Cert.RouteURefIdeal.main_arg2) = m ((c.tc : Thread Cert.RouteUIdeal.nD Cert.RouteUIdeal.τ).loc Cert.RouteUIdeal.main_arg2)
      ∧ m' ((c.tc : Thread Cert.RouteURefIdeal.nD Cert.RouteURefIdeal.τ).loc Cert.RouteURefIdeal.main_arg3) = m ((c.tc : Thread Cert.RouteUIdeal.nD Cert.RouteUIdeal.τ).loc Cert.RouteUIdeal.main_arg3)
      ∧ m' ((c.tc : Thread Cert.RouteURefIdeal.nD Cert.RouteURefIdeal.τ).loc Cert.RouteURefIdeal.main_arg4) = m ((c.tc : Thread Cert.RouteUIdeal.nD Cert.RouteUIdeal.τ).loc Cert.RouteUIdeal.main_arg4)
      ∧ m' ((c.tc : Thread Cert.RouteURefIdeal.nD Cert.RouteURefIdeal.τ).loc Cert.RouteURefIdeal.main_arg5) = m ((c.tc : Thread Cert.RouteUIdeal.nD Cert.RouteUIdeal.τ).loc Cert.RouteUIdeal.main_arg5)) →
    ∃ (v0 : (c : Dev Cert.RouteUIdeal.nD) → Buf (Elt Ideal) ((c.tc : Thread Cert.RouteUIdeal.nD Cert.RouteUIdeal.τ).loc Cert.RouteUIdeal.main_v4_0)) (v1 : (c : Dev Cert.RouteUIdeal.nD) → Buf (Elt Ideal) ((c.tc : Thread Cert.RouteUIdeal.nD Cert.RouteUIdeal.τ).loc Cert.RouteUIdeal.main_v4_1)) (v2 : (c : Dev Cert.RouteUIdeal.nD) → Buf (Elt Ideal) ((c.tc : Thread Cert.RouteUIdeal.nD Cert.RouteUIdeal.τ).loc Cert.RouteUIdeal.main_v4_2)),
      θ_run (Cert.RouteUIdeal.defs (F := Ideal)) (onTc (τ := Cert.RouteUIdeal.τ) (Cert.RouteUIdeal.main (F := Ideal))) ⟨m, fun _ => 0, g⟩ (fun r => ∀ c : Dev Cert.RouteUIdeal.nD,
          r.2.mem ((c.tc : Thread Cert.RouteUIdeal.nD Cert.RouteUIdeal.τ).loc Cert.RouteUIdeal.main_v4_0) = v0 c
          ∧ r.2.mem ((c.tc : Thread Cert.RouteUIdeal.nD Cert.RouteUIdeal.τ).loc Cert.RouteUIdeal.main_v4_1) = v1 c
          ∧ r.2.mem ((c.tc : Thread Cert.RouteUIdeal.nD Cert.RouteUIdeal.τ).loc Cert.RouteUIdeal.main_v4_2) = v2 c
          ∧ r.2.mem ((c.tc : Thread Cert.RouteUIdeal.nD Cert.RouteUIdeal.τ).loc Cert.RouteUIdeal.main_arg0) = m ((c.tc : Thread Cert.RouteUIdeal.nD Cert.RouteUIdeal.τ).loc Cert.RouteUIdeal.main_arg0)
          ∧ r.2.mem ((c.tc : Thread Cert.RouteUIdeal.nD Cert.RouteUIdeal.τ).loc Cert.RouteUIdeal.main_arg1) = m ((c.tc : Thread Cert.RouteUIdeal.nD Cert.RouteUIdeal.τ).loc Cert.RouteUIdeal.main_arg1)
          ∧ r.2.mem ((c.tc : Thread Cert.RouteUIdeal.nD Cert.RouteUIdeal.τ).loc Cert.RouteUIdeal.main_arg2) = m ((c.tc : Thread Cert.RouteUIdeal.nD Cert.RouteUIdeal.τ).loc Cert.RouteUIdeal.main_arg2)
          ∧ r.2.mem ((c.tc : Thread Cert.RouteUIdeal.nD Cert.RouteUIdeal.τ).loc Cert.RouteUIdeal.main_arg3) = m ((c.tc : Thread Cert.RouteUIdeal.nD Cert.RouteUIdeal.τ).loc Cert.RouteUIdeal.main_arg3)
          ∧ r.2.mem ((c.tc : Thread Cert.RouteUIdeal.nD Cert.RouteUIdeal.τ).loc Cert.RouteUIdeal.main_arg4) = m ((c.tc : Thread Cert.RouteUIdeal.nD Cert.RouteUIdeal.τ).loc Cert.RouteUIdeal.main_arg4)
          ∧ r.2.mem ((c.tc : Thread Cert.RouteUIdeal.nD Cert.RouteUIdeal.τ).loc Cert.RouteUIdeal.main_arg5) = m ((c.tc : Thread Cert.RouteUIdeal.nD Cert.RouteUIdeal.τ).loc Cert.RouteUIdeal.main_arg5))
      ∧ θ_run (Cert.RouteURefIdeal.defs (F := Ideal)) (onTc (τ := Cert.RouteURefIdeal.τ) (Cert.RouteURefIdeal.main (F := Ideal))) ⟨m', fun _ => 0, g'⟩ (fun r => ∀ c : Dev Cert.RouteURefIdeal.nD,
          r.2.mem ((c.tc : Thread Cert.RouteURefIdeal.nD Cert.RouteURefIdeal.τ).loc Cert.RouteURefIdeal.main_v34) = v0 c
          ∧ r.2.mem ((c.tc : Thread Cert.RouteURefIdeal.nD Cert.RouteURefIdeal.τ).loc Cert.RouteURefIdeal.main_v38) = v1 c
          ∧ r.2.mem ((c.tc : Thread Cert.RouteURefIdeal.nD Cert.RouteURefIdeal.τ).loc Cert.RouteURefIdeal.main_v42) = v2 c
          ∧ r.2.mem ((c.tc : Thread Cert.RouteURefIdeal.nD Cert.RouteURefIdeal.τ).loc Cert.RouteURefIdeal.main_arg0) = m' ((c.tc : Thread Cert.RouteURefIdeal.nD Cert.RouteURefIdeal.τ).loc Cert.RouteURefIdeal.main_arg0)
          ∧ r.2.mem ((c.tc : Thread Cert.RouteURefIdeal.nD Cert.RouteURefIdeal.τ).loc Cert.RouteURefIdeal.main_arg1) = m' ((c.tc : Thread Cert.RouteURefIdeal.nD Cert.RouteURefIdeal.τ).loc Cert.RouteURefIdeal.main_arg1)
          ∧ r.2.mem ((c.tc : Thread Cert.RouteURefIdeal.nD Cert.RouteURefIdeal.τ).loc Cert.RouteURefIdeal.main_arg2) = m' ((c.tc : Thread Cert.RouteURefIdeal.nD Cert.RouteURefIdeal.τ).loc Cert.RouteURefIdeal.main_arg2)
          ∧ r.2.mem ((c.tc : Thread Cert.RouteURefIdeal.nD Cert.RouteURefIdeal.τ).loc Cert.RouteURefIdeal.main_arg3) = m' ((c.tc : Thread Cert.RouteURefIdeal.nD Cert.RouteURefIdeal.τ).loc Cert.RouteURefIdeal.main_arg3)
          ∧ r.2.mem ((c.tc : Thread Cert.RouteURefIdeal.nD Cert.RouteURefIdeal.τ).loc Cert.RouteURefIdeal.main_arg4) = m' ((c.tc : Thread Cert.RouteURefIdeal.nD Cert.RouteURefIdeal.τ).loc Cert.RouteURefIdeal.main_arg4)
          ∧ r.2.mem ((c.tc : Thread Cert.RouteURefIdeal.nD Cert.RouteURefIdeal.τ).loc Cert.RouteURefIdeal.main_arg5) = m' ((c.tc : Thread Cert.RouteURefIdeal.nD Cert.RouteURefIdeal.τ).loc Cert.RouteURefIdeal.main_arg5))

def preserves_RouteV_RouteVIdeal : Prop :=
  True

def algebraic_RouteVIdeal_RouteVRefIdeal [hRouteVIdeal : Cert.RouteVIdeal.Facts] [hRouteVRefIdeal : Cert.RouteVRefIdeal.Facts] : Prop :=
  ∀ (m : (ℓ : Loc Cert.RouteVIdeal.nD Cert.RouteVIdeal.τ Cert.RouteVIdeal.sig) → Buf (Elt Ideal) ℓ) (g : Dev Cert.RouteVIdeal.nD → PrngReg)
    (m' : (ℓ : Loc Cert.RouteVRefIdeal.nD Cert.RouteVRefIdeal.τ Cert.RouteVRefIdeal.sig) → Buf (Elt Ideal) ℓ) (g' : Dev Cert.RouteVRefIdeal.nD → PrngReg), Pre_RouteVIdeal m →
    (∀ c : Dev Cert.RouteVIdeal.nD,
      m' ((c.tc : Thread Cert.RouteVRefIdeal.nD Cert.RouteVRefIdeal.τ).loc Cert.RouteVRefIdeal.main_arg0) = m ((c.tc : Thread Cert.RouteVIdeal.nD Cert.RouteVIdeal.τ).loc Cert.RouteVIdeal.main_arg0)
      ∧ m' ((c.tc : Thread Cert.RouteVRefIdeal.nD Cert.RouteVRefIdeal.τ).loc Cert.RouteVRefIdeal.main_arg1) = m ((c.tc : Thread Cert.RouteVIdeal.nD Cert.RouteVIdeal.τ).loc Cert.RouteVIdeal.main_arg1)
      ∧ m' ((c.tc : Thread Cert.RouteVRefIdeal.nD Cert.RouteVRefIdeal.τ).loc Cert.RouteVRefIdeal.main_arg2) = m ((c.tc : Thread Cert.RouteVIdeal.nD Cert.RouteVIdeal.τ).loc Cert.RouteVIdeal.main_arg2)
      ∧ m' ((c.tc : Thread Cert.RouteVRefIdeal.nD Cert.RouteVRefIdeal.τ).loc Cert.RouteVRefIdeal.main_arg3) = m ((c.tc : Thread Cert.RouteVIdeal.nD Cert.RouteVIdeal.τ).loc Cert.RouteVIdeal.main_arg3)
      ∧ m' ((c.tc : Thread Cert.RouteVRefIdeal.nD Cert.RouteVRefIdeal.τ).loc Cert.RouteVRefIdeal.main_arg4) = m ((c.tc : Thread Cert.RouteVIdeal.nD Cert.RouteVIdeal.τ).loc Cert.RouteVIdeal.main_arg4)
      ∧ m' ((c.tc : Thread Cert.RouteVRefIdeal.nD Cert.RouteVRefIdeal.τ).loc Cert.RouteVRefIdeal.main_arg5) = m ((c.tc : Thread Cert.RouteVIdeal.nD Cert.RouteVIdeal.τ).loc Cert.RouteVIdeal.main_arg5)) →
    ∃ (v0 : (c : Dev Cert.RouteVIdeal.nD) → Buf (Elt Ideal) ((c.tc : Thread Cert.RouteVIdeal.nD Cert.RouteVIdeal.τ).loc Cert.RouteVIdeal.main_v8_0)) (v1 : (c : Dev Cert.RouteVIdeal.nD) → Buf (Elt Ideal) ((c.tc : Thread Cert.RouteVIdeal.nD Cert.RouteVIdeal.τ).loc Cert.RouteVIdeal.main_v8_1)) (v2 : (c : Dev Cert.RouteVIdeal.nD) → Buf (Elt Ideal) ((c.tc : Thread Cert.RouteVIdeal.nD Cert.RouteVIdeal.τ).loc Cert.RouteVIdeal.main_v8_2)),
      θ_run (Cert.RouteVIdeal.defs (F := Ideal)) (onTc (τ := Cert.RouteVIdeal.τ) (Cert.RouteVIdeal.main (F := Ideal))) ⟨m, fun _ => 0, g⟩ (fun r => ∀ c : Dev Cert.RouteVIdeal.nD,
          r.2.mem ((c.tc : Thread Cert.RouteVIdeal.nD Cert.RouteVIdeal.τ).loc Cert.RouteVIdeal.main_v8_0) = v0 c
          ∧ r.2.mem ((c.tc : Thread Cert.RouteVIdeal.nD Cert.RouteVIdeal.τ).loc Cert.RouteVIdeal.main_v8_1) = v1 c
          ∧ r.2.mem ((c.tc : Thread Cert.RouteVIdeal.nD Cert.RouteVIdeal.τ).loc Cert.RouteVIdeal.main_v8_2) = v2 c
          ∧ r.2.mem ((c.tc : Thread Cert.RouteVIdeal.nD Cert.RouteVIdeal.τ).loc Cert.RouteVIdeal.main_arg0) = m ((c.tc : Thread Cert.RouteVIdeal.nD Cert.RouteVIdeal.τ).loc Cert.RouteVIdeal.main_arg0)
          ∧ r.2.mem ((c.tc : Thread Cert.RouteVIdeal.nD Cert.RouteVIdeal.τ).loc Cert.RouteVIdeal.main_arg1) = m ((c.tc : Thread Cert.RouteVIdeal.nD Cert.RouteVIdeal.τ).loc Cert.RouteVIdeal.main_arg1)
          ∧ r.2.mem ((c.tc : Thread Cert.RouteVIdeal.nD Cert.RouteVIdeal.τ).loc Cert.RouteVIdeal.main_arg2) = m ((c.tc : Thread Cert.RouteVIdeal.nD Cert.RouteVIdeal.τ).loc Cert.RouteVIdeal.main_arg2)
          ∧ r.2.mem ((c.tc : Thread Cert.RouteVIdeal.nD Cert.RouteVIdeal.τ).loc Cert.RouteVIdeal.main_arg3) = m ((c.tc : Thread Cert.RouteVIdeal.nD Cert.RouteVIdeal.τ).loc Cert.RouteVIdeal.main_arg3)
          ∧ r.2.mem ((c.tc : Thread Cert.RouteVIdeal.nD Cert.RouteVIdeal.τ).loc Cert.RouteVIdeal.main_arg4) = m ((c.tc : Thread Cert.RouteVIdeal.nD Cert.RouteVIdeal.τ).loc Cert.RouteVIdeal.main_arg4)
          ∧ r.2.mem ((c.tc : Thread Cert.RouteVIdeal.nD Cert.RouteVIdeal.τ).loc Cert.RouteVIdeal.main_arg5) = m ((c.tc : Thread Cert.RouteVIdeal.nD Cert.RouteVIdeal.τ).loc Cert.RouteVIdeal.main_arg5))
      ∧ θ_run (Cert.RouteVRefIdeal.defs (F := Ideal)) (onTc (τ := Cert.RouteVRefIdeal.τ) (Cert.RouteVRefIdeal.main (F := Ideal))) ⟨m', fun _ => 0, g'⟩ (fun r => ∀ c : Dev Cert.RouteVRefIdeal.nD,
          r.2.mem ((c.tc : Thread Cert.RouteVRefIdeal.nD Cert.RouteVRefIdeal.τ).loc Cert.RouteVRefIdeal.main_v34) = v0 c
          ∧ r.2.mem ((c.tc : Thread Cert.RouteVRefIdeal.nD Cert.RouteVRefIdeal.τ).loc Cert.RouteVRefIdeal.main_v38) = v1 c
          ∧ r.2.mem ((c.tc : Thread Cert.RouteVRefIdeal.nD Cert.RouteVRefIdeal.τ).loc Cert.RouteVRefIdeal.main_v42) = v2 c
          ∧ r.2.mem ((c.tc : Thread Cert.RouteVRefIdeal.nD Cert.RouteVRefIdeal.τ).loc Cert.RouteVRefIdeal.main_arg0) = m' ((c.tc : Thread Cert.RouteVRefIdeal.nD Cert.RouteVRefIdeal.τ).loc Cert.RouteVRefIdeal.main_arg0)
          ∧ r.2.mem ((c.tc : Thread Cert.RouteVRefIdeal.nD Cert.RouteVRefIdeal.τ).loc Cert.RouteVRefIdeal.main_arg1) = m' ((c.tc : Thread Cert.RouteVRefIdeal.nD Cert.RouteVRefIdeal.τ).loc Cert.RouteVRefIdeal.main_arg1)
          ∧ r.2.mem ((c.tc : Thread Cert.RouteVRefIdeal.nD Cert.RouteVRefIdeal.τ).loc Cert.RouteVRefIdeal.main_arg2) = m' ((c.tc : Thread Cert.RouteVRefIdeal.nD Cert.RouteVRefIdeal.τ).loc Cert.RouteVRefIdeal.main_arg2)
          ∧ r.2.mem ((c.tc : Thread Cert.RouteVRefIdeal.nD Cert.RouteVRefIdeal.τ).loc Cert.RouteVRefIdeal.main_arg3) = m' ((c.tc : Thread Cert.RouteVRefIdeal.nD Cert.RouteVRefIdeal.τ).loc Cert.RouteVRefIdeal.main_arg3)
          ∧ r.2.mem ((c.tc : Thread Cert.RouteVRefIdeal.nD Cert.RouteVRefIdeal.τ).loc Cert.RouteVRefIdeal.main_arg4) = m' ((c.tc : Thread Cert.RouteVRefIdeal.nD Cert.RouteVRefIdeal.τ).loc Cert.RouteVRefIdeal.main_arg4)
          ∧ r.2.mem ((c.tc : Thread Cert.RouteVRefIdeal.nD Cert.RouteVRefIdeal.τ).loc Cert.RouteVRefIdeal.main_arg5) = m' ((c.tc : Thread Cert.RouteVRefIdeal.nD Cert.RouteVRefIdeal.τ).loc Cert.RouteVRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v12) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_TrQ_TrQIdeal : Prop :=
  True

def algebraic_TrQIdeal_TrQRefIdeal [hTrQIdeal : Cert.TrQIdeal.Facts] [hTrQRefIdeal : Cert.TrQRefIdeal.Facts] : Prop :=
  ∀ (m : (ℓ : Loc Cert.TrQIdeal.nD Cert.TrQIdeal.τ Cert.TrQIdeal.sig) → Buf (Elt Ideal) ℓ) (g : Dev Cert.TrQIdeal.nD → PrngReg)
    (m' : (ℓ : Loc Cert.TrQRefIdeal.nD Cert.TrQRefIdeal.τ Cert.TrQRefIdeal.sig) → Buf (Elt Ideal) ℓ) (g' : Dev Cert.TrQRefIdeal.nD → PrngReg), Pre_TrQIdeal m →
    (∀ c : Dev Cert.TrQIdeal.nD,
      m' ((c.tc : Thread Cert.TrQRefIdeal.nD Cert.TrQRefIdeal.τ).loc Cert.TrQRefIdeal.main_arg0) = m ((c.tc : Thread Cert.TrQIdeal.nD Cert.TrQIdeal.τ).loc Cert.TrQIdeal.main_arg0)) →
    ∃ (v0 : (c : Dev Cert.TrQIdeal.nD) → Buf (Elt Ideal) ((c.tc : Thread Cert.TrQIdeal.nD Cert.TrQIdeal.τ).loc Cert.TrQIdeal.main_v0)),
      θ_run (Cert.TrQIdeal.defs (F := Ideal)) (onTc (τ := Cert.TrQIdeal.τ) (Cert.TrQIdeal.main (F := Ideal))) ⟨m, fun _ => 0, g⟩ (fun r => ∀ c : Dev Cert.TrQIdeal.nD,
          r.2.mem ((c.tc : Thread Cert.TrQIdeal.nD Cert.TrQIdeal.τ).loc Cert.TrQIdeal.main_v0) = v0 c
          ∧ r.2.mem ((c.tc : Thread Cert.TrQIdeal.nD Cert.TrQIdeal.τ).loc Cert.TrQIdeal.main_arg0) = m ((c.tc : Thread Cert.TrQIdeal.nD Cert.TrQIdeal.τ).loc Cert.TrQIdeal.main_arg0))
      ∧ θ_run (Cert.TrQRefIdeal.defs (F := Ideal)) (onTc (τ := Cert.TrQRefIdeal.τ) (Cert.TrQRefIdeal.main (F := Ideal))) ⟨m', fun _ => 0, g'⟩ (fun r => ∀ c : Dev Cert.TrQRefIdeal.nD,
          r.2.mem ((c.tc : Thread Cert.TrQRefIdeal.nD Cert.TrQRefIdeal.τ).loc Cert.TrQRefIdeal.main_v1) = v0 c
          ∧ r.2.mem ((c.tc : Thread Cert.TrQRefIdeal.nD Cert.TrQRefIdeal.τ).loc Cert.TrQRefIdeal.main_arg0) = m' ((c.tc : Thread Cert.TrQRefIdeal.nD Cert.TrQRefIdeal.τ).loc Cert.TrQRefIdeal.main_arg0))

def preserves_TrV_TrVIdeal : Prop :=
  True

def algebraic_TrVIdeal_TrVRefIdeal [hTrVIdeal : Cert.TrVIdeal.Facts] [hTrVRefIdeal : Cert.TrVRefIdeal.Facts] : Prop :=
  ∀ (m : (ℓ : Loc Cert.TrVIdeal.nD Cert.TrVIdeal.τ Cert.TrVIdeal.sig) → Buf (Elt Ideal) ℓ) (g : Dev Cert.TrVIdeal.nD → PrngReg)
    (m' : (ℓ : Loc Cert.TrVRefIdeal.nD Cert.TrVRefIdeal.τ Cert.TrVRefIdeal.sig) → Buf (Elt Ideal) ℓ) (g' : Dev Cert.TrVRefIdeal.nD → PrngReg), Pre_TrVIdeal m →
    (∀ c : Dev Cert.TrVIdeal.nD,
      m' ((c.tc : Thread Cert.TrVRefIdeal.nD Cert.TrVRefIdeal.τ).loc Cert.TrVRefIdeal.main_arg0) = m ((c.tc : Thread Cert.TrVIdeal.nD Cert.TrVIdeal.τ).loc Cert.TrVIdeal.main_arg0)) →
    ∃ (v0 : (c : Dev Cert.TrVIdeal.nD) → Buf (Elt Ideal) ((c.tc : Thread Cert.TrVIdeal.nD Cert.TrVIdeal.τ).loc Cert.TrVIdeal.main_v0)),
      θ_run (Cert.TrVIdeal.defs (F := Ideal)) (onTc (τ := Cert.TrVIdeal.τ) (Cert.TrVIdeal.main (F := Ideal))) ⟨m, fun _ => 0, g⟩ (fun r => ∀ c : Dev Cert.TrVIdeal.nD,
          r.2.mem ((c.tc : Thread Cert.TrVIdeal.nD Cert.TrVIdeal.τ).loc Cert.TrVIdeal.main_v0) = v0 c
          ∧ r.2.mem ((c.tc : Thread Cert.TrVIdeal.nD Cert.TrVIdeal.τ).loc Cert.TrVIdeal.main_arg0) = m ((c.tc : Thread Cert.TrVIdeal.nD Cert.TrVIdeal.τ).loc Cert.TrVIdeal.main_arg0))
      ∧ θ_run (Cert.TrVRefIdeal.defs (F := Ideal)) (onTc (τ := Cert.TrVRefIdeal.τ) (Cert.TrVRefIdeal.main (F := Ideal))) ⟨m', fun _ => 0, g'⟩ (fun r => ∀ c : Dev Cert.TrVRefIdeal.nD,
          r.2.mem ((c.tc : Thread Cert.TrVRefIdeal.nD Cert.TrVRefIdeal.τ).loc Cert.TrVRefIdeal.main_v1) = v0 c
          ∧ r.2.mem ((c.tc : Thread Cert.TrVRefIdeal.nD Cert.TrVRefIdeal.τ).loc Cert.TrVRefIdeal.main_arg0) = m' ((c.tc : Thread Cert.TrVRefIdeal.nD Cert.TrVRefIdeal.τ).loc Cert.TrVRefIdeal.main_arg0))

def preserves_Attn_AttnIdeal : Prop :=
  IdealRules.named_const.Statement Cert.AttnIdeal.κ "mask" .f32 0xF149F2CA#32 ⊥

def algebraic_AttnIdeal_AttnRefIdeal_pre_distinct_gates [hAttnIdeal : Cert.AttnIdeal.Facts] [hAttnRefIdeal : Cert.AttnRefIdeal.Facts] [hPre_distinct_gates : Cert.Pre_distinct_gates.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_distinct_gates m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v77) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def Claim : Prop :=
  ∃ (hMixP : Cert.MixP.Facts) (hMixPIdeal : Cert.MixPIdeal.Facts) (hMixPRefIdeal : Cert.MixPRefIdeal.Facts) (hMixS : Cert.MixS.Facts) (hMixSIdeal : Cert.MixSIdeal.Facts) (hMixSRefIdeal : Cert.MixSRefIdeal.Facts) (hKvqP : Cert.KvqP.Facts) (hKvqPIdeal : Cert.KvqPIdeal.Facts) (hKvqPRefIdeal : Cert.KvqPRefIdeal.Facts) (hKvqS : Cert.KvqS.Facts) (hKvqSIdeal : Cert.KvqSIdeal.Facts) (hKvqSRefIdeal : Cert.KvqSRefIdeal.Facts) (hProjP : Cert.ProjP.Facts) (hProjPIdeal : Cert.ProjPIdeal.Facts) (hProjPRefIdeal : Cert.ProjPRefIdeal.Facts) (hProjS : Cert.ProjS.Facts) (hProjSIdeal : Cert.ProjSIdeal.Facts) (hProjSRefIdeal : Cert.ProjSRefIdeal.Facts) (hFinalP : Cert.FinalP.Facts) (hFinalPIdeal : Cert.FinalPIdeal.Facts) (hFinalPRefIdeal : Cert.FinalPRefIdeal.Facts) (hFinalS : Cert.FinalS.Facts) (hFinalSIdeal : Cert.FinalSIdeal.Facts) (hFinalSRefIdeal : Cert.FinalSRefIdeal.Facts) (hRoute : Cert.Route.Facts) (hRouteIdeal : Cert.RouteIdeal.Facts) (hRouteRefIdeal : Cert.RouteRefIdeal.Facts) (hRouteS : Cert.RouteS.Facts) (hRouteSIdeal : Cert.RouteSIdeal.Facts) (hRouteSRefIdeal : Cert.RouteSRefIdeal.Facts) (hRouteU : Cert.RouteU.Facts) (hRouteUIdeal : Cert.RouteUIdeal.Facts) (hRouteURefIdeal : Cert.RouteURefIdeal.Facts) (hRouteV : Cert.RouteV.Facts) (hRouteVIdeal : Cert.RouteVIdeal.Facts) (hRouteVRefIdeal : Cert.RouteVRefIdeal.Facts) (hAda : Cert.Ada.Facts) (hAdaIdeal : Cert.AdaIdeal.Facts) (hAdaRefIdeal : Cert.AdaRefIdeal.Facts) (hTrQ : Cert.TrQ.Facts) (hTrQIdeal : Cert.TrQIdeal.Facts) (hTrQRefIdeal : Cert.TrQRefIdeal.Facts) (hTrV : Cert.TrV.Facts) (hTrVIdeal : Cert.TrVIdeal.Facts) (hTrVRefIdeal : Cert.TrVRefIdeal.Facts) (hAttn : Cert.Attn.Facts) (hAttnIdeal : Cert.AttnIdeal.Facts) (hAttnRefIdeal : Cert.AttnRefIdeal.Facts) (hPre_distinct_gates : Cert.Pre_distinct_gates.Facts),
    quiescent_MixP (hMixP := hMixP)
    ∧ quiescent_MixPIdeal (hMixPIdeal := hMixPIdeal)
    ∧ quiescent_MixPRefIdeal (hMixPRefIdeal := hMixPRefIdeal)
    ∧ quiescent_MixS (hMixS := hMixS)
    ∧ quiescent_MixSIdeal (hMixSIdeal := hMixSIdeal)
    ∧ quiescent_MixSRefIdeal (hMixSRefIdeal := hMixSRefIdeal)
    ∧ quiescent_KvqP (hKvqP := hKvqP)
    ∧ quiescent_KvqPIdeal (hKvqPIdeal := hKvqPIdeal)
    ∧ quiescent_KvqPRefIdeal (hKvqPRefIdeal := hKvqPRefIdeal)
    ∧ quiescent_KvqS (hKvqS := hKvqS)
    ∧ quiescent_KvqSIdeal (hKvqSIdeal := hKvqSIdeal)
    ∧ quiescent_KvqSRefIdeal (hKvqSRefIdeal := hKvqSRefIdeal)
    ∧ quiescent_ProjP (hProjP := hProjP)
    ∧ quiescent_ProjPIdeal (hProjPIdeal := hProjPIdeal)
    ∧ quiescent_ProjPRefIdeal (hProjPRefIdeal := hProjPRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_FinalP (hFinalP := hFinalP)
    ∧ quiescent_FinalPIdeal (hFinalPIdeal := hFinalPIdeal)
    ∧ quiescent_FinalPRefIdeal (hFinalPRefIdeal := hFinalPRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_Route (hRoute := hRoute)
    ∧ quiescent_RouteIdeal (hRouteIdeal := hRouteIdeal)
    ∧ quiescent_RouteRefIdeal (hRouteRefIdeal := hRouteRefIdeal)
    ∧ quiescent_RouteS (hRouteS := hRouteS)
    ∧ quiescent_RouteSIdeal (hRouteSIdeal := hRouteSIdeal)
    ∧ quiescent_RouteSRefIdeal (hRouteSRefIdeal := hRouteSRefIdeal)
    ∧ quiescent_RouteU (hRouteU := hRouteU)
    ∧ quiescent_RouteUIdeal (hRouteUIdeal := hRouteUIdeal)
    ∧ quiescent_RouteURefIdeal (hRouteURefIdeal := hRouteURefIdeal)
    ∧ quiescent_RouteV (hRouteV := hRouteV)
    ∧ quiescent_RouteVIdeal (hRouteVIdeal := hRouteVIdeal)
    ∧ quiescent_RouteVRefIdeal (hRouteVRefIdeal := hRouteVRefIdeal)
    ∧ quiescent_Ada (hAda := hAda)
    ∧ quiescent_AdaIdeal (hAdaIdeal := hAdaIdeal)
    ∧ quiescent_AdaRefIdeal (hAdaRefIdeal := hAdaRefIdeal)
    ∧ quiescent_TrQ (hTrQ := hTrQ)
    ∧ quiescent_TrQIdeal (hTrQIdeal := hTrQIdeal)
    ∧ quiescent_TrQRefIdeal (hTrQRefIdeal := hTrQRefIdeal)
    ∧ quiescent_TrV (hTrV := hTrV)
    ∧ quiescent_TrVIdeal (hTrVIdeal := hTrVIdeal)
    ∧ quiescent_TrVRefIdeal (hTrVRefIdeal := hTrVRefIdeal)
    ∧ quiescent_Attn (hAttn := hAttn)
    ∧ quiescent_AttnIdeal (hAttnIdeal := hAttnIdeal)
    ∧ quiescent_AttnIdeal_pre_distinct_gates (hAttnIdeal := hAttnIdeal) (hPre_distinct_gates := hPre_distinct_gates)
    ∧ quiescent_AttnRefIdeal (hAttnRefIdeal := hAttnRefIdeal)
    ∧ quiescent_AttnRefIdeal_pre_distinct_gates (hAttnRefIdeal := hAttnRefIdeal) (hPre_distinct_gates := hPre_distinct_gates)
    ∧ preserves_MixP_MixPIdeal
    ∧ algebraic_MixPIdeal_MixPRefIdeal (hMixPIdeal := hMixPIdeal) (hMixPRefIdeal := hMixPRefIdeal)
    ∧ preserves_MixS_MixSIdeal
    ∧ algebraic_MixSIdeal_MixSRefIdeal (hMixSIdeal := hMixSIdeal) (hMixSRefIdeal := hMixSRefIdeal)
    ∧ preserves_KvqP_KvqPIdeal
    ∧ algebraic_KvqPIdeal_KvqPRefIdeal (hKvqPIdeal := hKvqPIdeal) (hKvqPRefIdeal := hKvqPRefIdeal)
    ∧ preserves_KvqS_KvqSIdeal
    ∧ algebraic_KvqSIdeal_KvqSRefIdeal (hKvqSIdeal := hKvqSIdeal) (hKvqSRefIdeal := hKvqSRefIdeal)
    ∧ preserves_ProjP_ProjPIdeal
    ∧ algebraic_ProjPIdeal_ProjPRefIdeal (hProjPIdeal := hProjPIdeal) (hProjPRefIdeal := hProjPRefIdeal)
    ∧ preserves_ProjS_ProjSIdeal
    ∧ algebraic_ProjSIdeal_ProjSRefIdeal (hProjSIdeal := hProjSIdeal) (hProjSRefIdeal := hProjSRefIdeal)
    ∧ preserves_FinalP_FinalPIdeal
    ∧ algebraic_FinalPIdeal_FinalPRefIdeal (hFinalPIdeal := hFinalPIdeal) (hFinalPRefIdeal := hFinalPRefIdeal)
    ∧ preserves_FinalS_FinalSIdeal
    ∧ algebraic_FinalSIdeal_FinalSRefIdeal (hFinalSIdeal := hFinalSIdeal) (hFinalSRefIdeal := hFinalSRefIdeal)
    ∧ preserves_Route_RouteIdeal
    ∧ algebraic_RouteIdeal_RouteRefIdeal (hRouteIdeal := hRouteIdeal) (hRouteRefIdeal := hRouteRefIdeal)
    ∧ preserves_RouteS_RouteSIdeal
    ∧ algebraic_RouteSIdeal_RouteSRefIdeal (hRouteSIdeal := hRouteSIdeal) (hRouteSRefIdeal := hRouteSRefIdeal)
    ∧ preserves_RouteU_RouteUIdeal
    ∧ algebraic_RouteUIdeal_RouteURefIdeal (hRouteUIdeal := hRouteUIdeal) (hRouteURefIdeal := hRouteURefIdeal)
    ∧ preserves_RouteV_RouteVIdeal
    ∧ algebraic_RouteVIdeal_RouteVRefIdeal (hRouteVIdeal := hRouteVIdeal) (hRouteVRefIdeal := hRouteVRefIdeal)
    ∧ preserves_Ada_AdaIdeal
    ∧ algebraic_AdaIdeal_AdaRefIdeal (hAdaIdeal := hAdaIdeal) (hAdaRefIdeal := hAdaRefIdeal)
    ∧ preserves_TrQ_TrQIdeal
    ∧ algebraic_TrQIdeal_TrQRefIdeal (hTrQIdeal := hTrQIdeal) (hTrQRefIdeal := hTrQRefIdeal)
    ∧ preserves_TrV_TrVIdeal
    ∧ algebraic_TrVIdeal_TrVRefIdeal (hTrVIdeal := hTrVIdeal) (hTrVRefIdeal := hTrVRefIdeal)
    ∧ preserves_Attn_AttnIdeal
    ∧ algebraic_AttnIdeal_AttnRefIdeal_pre_distinct_gates (hAttnIdeal := hAttnIdeal) (hAttnRefIdeal := hAttnRefIdeal) (hPre_distinct_gates := hPre_distinct_gates)
-- ==== Pre_distinct_gates.lean ====
abbrev S16384x1024 : Shape := ⟨2, ![16384, 1024]⟩
abbrev S64x1x1024 : Shape := ⟨3, ![64, 1, 1024]⟩
abbrev S8x512x256 : Shape := ⟨3, ![8, 512, 256]⟩
abbrev S16 : Shape := ⟨1, ![16]⟩
abbrev S8x2048x16x64 : Shape := ⟨4, ![8, 2048, 16, 64]⟩
abbrev S8x8x16x64 : Shape := ⟨4, ![8, 8, 16, 64]⟩
abbrev S8x16x2048x8 : Shape := ⟨4, ![8, 16, 2048, 8]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x256 : Shape := ⟨2, ![8, 256]⟩
abbrev S2048 : Shape := ⟨1, ![2048]⟩
abbrev S2048x1x1 : Shape := ⟨3, ![2048, 1, 1]⟩
abbrev S1x1x8 : Shape := ⟨3, ![1, 1, 8]⟩
abbrev S2048x1x8 : Shape := ⟨3, ![2048, 1, 8]⟩
abbrev S1x8x8 : Shape := ⟨3, ![1, 8, 8]⟩
abbrev S2048x8x8 : Shape := ⟨3, ![2048, 8, 8]⟩
abbrev S8x16x2048x8x1 : Shape := ⟨5, ![8, 16, 2048, 8, 1]⟩
abbrev S8x16x2048x1x8 : Shape := ⟨5, ![8, 16, 2048, 1, 8]⟩
abbrev S8x16x2048x8x8 : Shape := ⟨5, ![8, 16, 2048, 8, 8]⟩
abbrev S1x1x2048x8x8 : Shape := ⟨5, ![1, 1, 2048, 8, 8]⟩

class Facts : Prop where
  shapeCasts_S16384x1024_S8x2048x16x64 : S16384x1024.ShapeCasts S8x2048x16x64
  shapeCasts_S64x1x1024_S8x8x16x64 : S64x1x1024.ShapeCasts S8x8x16x64
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  shapeCasts_S8x256_S2048 : S8x256.ShapeCasts S2048
  bcast_S2048_S2048x1x1_0 : S2048.BroadcastsInDim S2048x1x1 (![0] : Fin 1 → Fin S2048x1x1.rank)
  bcast_S1x8_S1x1x8_1_2 : S1x8.BroadcastsInDim S1x1x8 (![1, 2] : Fin 2 → Fin S1x1x8.rank)
  bcast_S1x1x8_S2048x1x8_0_1_2 : S1x1x8.BroadcastsInDim S2048x1x8 (![0, 1, 2] : Fin 3 → Fin S2048x1x8.rank)
  bcast_S2048x1x1_S2048x1x8_0_1_2 : S2048x1x1.BroadcastsInDim S2048x1x8 (![0, 1, 2] : Fin 3 → Fin S2048x1x8.rank)
  bcast_S8x8_S1x8x8_1_2 : S8x8.BroadcastsInDim S1x8x8 (![1, 2] : Fin 2 → Fin S1x8x8.rank)
  bcast_S1x8x8_S2048x8x8_0_1_2 : S1x8x8.BroadcastsInDim S2048x8x8 (![0, 1, 2] : Fin 3 → Fin S2048x8x8.rank)
  bcast_S2048x1x8_S2048x8x8_0_1_2 : S2048x1x8.BroadcastsInDim S2048x8x8 (![0, 1, 2] : Fin 3 → Fin S2048x8x8.rank)
  bcast_S8x16x2048x8_S8x16x2048x8x1_0_1_2_3 : S8x16x2048x8.BroadcastsInDim S8x16x2048x8x1 (![0, 1, 2, 3] : Fin 4 → Fin S8x16x2048x8x1.rank)
  bcast_S8x16x2048x8_S8x16x2048x1x8_0_1_2_4 : S8x16x2048x8.BroadcastsInDim S8x16x2048x1x8 (![0, 1, 2, 4] : Fin 4 → Fin S8x16x2048x1x8.rank)
  bcast_S8x16x2048x8x1_S8x16x2048x8x8_0_1_2_3_4 : S8x16x2048x8x1.BroadcastsInDim S8x16x2048x8x8 (![0, 1, 2, 3, 4] : Fin 5 → Fin S8x16x2048x8x8.rank)
  bcast_S8x16x2048x1x8_S8x16x2048x8x8_0_1_2_3_4 : S8x16x2048x1x8.BroadcastsInDim S8x16x2048x8x8 (![0, 1, 2, 3, 4] : Fin 5 → Fin S8x16x2048x8x8.rank)
  bcast_S2048x8x8_S1x1x2048x8x8_2_3_4 : S2048x8x8.BroadcastsInDim S1x1x2048x8x8 (![2, 3, 4] : Fin 3 → Fin S1x1x2048x8x8.rank)
  bcast_S1x1x2048x8x8_S8x16x2048x8x8_0_1_2_3_4 : S1x1x2048x8x8.BroadcastsInDim S8x16x2048x8x8 (![0, 1, 2, 3, 4] : Fin 5 → Fin S8x16x2048x8x8.rank)
  dot_S8x2048x16x64_S8x8x16x64_S8x16x2048x8_3_3_1_1_02_02_wf : DotDims.WF S8x2048x16x64 S8x8x16x64 S8x16x2048x8 [3] [3] [1] [1] [0, 2] [0, 2]

variable [Facts]

def dot_S8x2048x16x64_S8x8x16x64_S8x16x2048x8_3_3_1_1_02_02 : DotDims S8x2048x16x64 S8x8x16x64 S8x16x2048x8 where
  lhsContracting := [3]
  rhsContracting := [3]
  lhsNonContracting := [1]
  rhsNonContracting := [1]
  lhsBatch := [0, 2]
  rhsBatch := [0, 2]
  wf := dot_S8x2048x16x64_S8x8x16x64_S8x16x2048x8_3_3_1_1_02_02_wf
def fn_part1 {F : FTy → Type} [FloatOps F] (main_v20 : IVec S2048x8x8 1) (main_v22 : FVec F S8x16x2048x1x8 .f32) (main_v23 : FVec F S8x16x2048x8x8 .f32) : IVec S8x16x2048x8x8 1 :=
  let main_v24 : FVec F S8x16x2048x8x8 .f32 := broadcastInDim S8x16x2048x8x8 ![0, 1, 2, 3, 4] bcast_S8x16x2048x1x8_S8x16x2048x8x8_0_1_2_3_4 main_v22
  let main_v25 : IVec S8x16x2048x8x8 1 := cmpf .une main_v23 main_v24
  let main_v26 : IVec S2048x8x8 1 := noti main_v20
  let main_v27 : IVec S1x1x2048x8x8 1 := broadcastInDim S1x1x2048x8x8 ![2, 3, 4] bcast_S2048x8x8_S1x1x2048x8x8_2_3_4 main_v26
  let main_v28 : IVec S8x16x2048x8x8 1 := broadcastInDim S8x16x2048x8x8 ![0, 1, 2, 3, 4] bcast_S1x1x2048x8x8_S8x16x2048x8x8_0_1_2_3_4 main_v27
  let main_v29 : IVec S8x16x2048x8x8 1 := ori main_v25 main_v28
  main_v29

def fn {F : FTy → Type} [FloatOps F] (main_arg0 : FVec F S16384x1024 .f32) (main_arg1 : FVec F S16384x1024 .bf16) (main_arg2 : FVec F S16384x1024 .bf16) (main_arg3 : FVec F S64x1x1024 .f32) (main_arg4 : FVec F S8x512x256 .f32) (main_arg5 : FVec F S8x512x256 .f32) (main_arg6 : FVec F S16 .f32) : IVec S8x16x2048x8x8 1 :=
  let main_v0 : FVec F S8x2048x16x64 .f32 := shapeCast S8x2048x16x64 main_arg0 shapeCasts_S16384x1024_S8x2048x16x64
  let main_v1 : FVec F S8x8x16x64 .f32 := shapeCast S8x8x16x64 main_arg3 shapeCasts_S64x1x1024_S8x8x16x64
  let main_v2 : FVec F S8x16x2048x8 .f32 := (fun l r => Host.dotGeneral dot_S8x2048x16x64_S8x8x16x64_S8x16x2048x8_3_3_1_1_02_02 none l r) main_v0 main_v1
  let main_v3 : IVec S8 32 := iotaInDim S8 32 0
  let main_v4 : IVec S8x1 32 := broadcastInDim S8x1 ![0] bcast_S8_S8x1_0 main_v3
  let main_v5 : IVec S1x8 32 := broadcastInDim S1x8 ![1] bcast_S8_S1x8_1 main_v3
  let main_v6 : IVec S8x8 32 := broadcastInDim S8x8 ![0, 1] bcast_S8x1_S8x8_0_1 main_v4
  let main_v7 : IVec S8x8 32 := broadcastInDim S8x8 ![0, 1] bcast_S1x8_S8x8_0_1 main_v5
  let main_v8 : IVec S8x8 1 := cmpi .slt main_v6 main_v7
  let main_v9 : IVec S1x8 32 := broadcastInDim S1x8 ![1] bcast_S8_S1x8_1 main_v3
  let main_v10 : IVec S8x256 32 := iotaInDim S8x256 32 0
  let main_v11 : IVec S2048 32 := shapeCast S2048 main_v10 shapeCasts_S8x256_S2048
  let main_v12 : IVec S2048x1x1 32 := broadcastInDim S2048x1x1 ![0] bcast_S2048_S2048x1x1_0 main_v11
  let main_v13 : IVec S1x1x8 32 := broadcastInDim S1x1x8 ![1, 2] bcast_S1x8_S1x1x8_1_2 main_v9
  let main_v14 : IVec S2048x1x8 32 := broadcastInDim S2048x1x8 ![0, 1, 2] bcast_S1x1x8_S2048x1x8_0_1_2 main_v13
  let main_v15 : IVec S2048x1x8 32 := broadcastInDim S2048x1x8 ![0, 1, 2] bcast_S2048x1x1_S2048x1x8_0_1_2 main_v12
  let main_v16 : IVec S2048x1x8 1 := cmpi .slt main_v14 main_v15
  let main_v17 : IVec S1x8x8 1 := broadcastInDim S1x8x8 ![1, 2] bcast_S8x8_S1x8x8_1_2 main_v8
  let main_v18 : IVec S2048x8x8 1 := broadcastInDim S2048x8x8 ![0, 1, 2] bcast_S1x8x8_S2048x8x8_0_1_2 main_v17
  let main_v19 : IVec S2048x8x8 1 := broadcastInDim S2048x8x8 ![0, 1, 2] bcast_S2048x1x8_S2048x8x8_0_1_2 main_v16
  let main_v20 : IVec S2048x8x8 1 := andi main_v18 main_v19
  let main_v21 : FVec F S8x16x2048x8x1 .f32 := broadcastInDim S8x16x2048x8x1 ![0, 1, 2, 3] bcast_S8x16x2048x8_S8x16x2048x8x1_0_1_2_3 main_v2
  let main_v22 : FVec F S8x16x2048x1x8 .f32 := broadcastInDim S8x16x2048x1x8 ![0, 1, 2, 4] bcast_S8x16x2048x8_S8x16x2048x1x8_0_1_2_4 main_v2
  let main_v23 : FVec F S8x16x2048x8x8 .f32 := broadcastInDim S8x16x2048x8x8 ![0, 1, 2, 3, 4] bcast_S8x16x2048x8x1_S8x16x2048x8x8_0_1_2_3_4 main_v21
  fn_part1 (F := F) main_v20 main_v22 main_v23
-- ==== MixP.lean ====
abbrev S16384x1024 : Shape := ⟨2, ![16384, 1024]⟩
abbrev S1024 : Shape := ⟨1, ![1024]⟩
abbrev S8x1024 : Shape := ⟨2, ![8, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S128x128 : Shape := ⟨2, ![128, 128]⟩
abbrev S128x8 : Shape := ⟨2, ![128, 8]⟩
abbrev S1x128x1x8 : Shape := ⟨4, ![1, 128, 1, 8]⟩
abbrev S128x8x128 : Shape := ⟨3, ![128, 8, 128]⟩
abbrev S128x1024 : Shape := ⟨2, ![128, 1024]⟩
abbrev S1x1024 : Shape := ⟨2, ![1, 1024]⟩
abbrev S8x1x1024 : Shape := ⟨3, ![8, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩

abbrev nBuf : Space → Nat
  | .hbm => 42
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x2048, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S_, .i1⟩
  | .hbm, ⟨11, _⟩ => ⟨S128x128, .i1⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S_, .i1⟩
  | .hbm, ⟨19, _⟩ => ⟨S128x128, .i1⟩
  | .hbm, ⟨20, _⟩ => ⟨S128x128, .i1⟩
  | .hbm, ⟨21, _⟩ => ⟨S_, .i32⟩
  | .hbm, ⟨22, _⟩ => ⟨S_, .f32⟩
  | .hbm, ⟨23, _⟩ => ⟨S8x128x128, .i1⟩
  | .hbm, ⟨24, _⟩ => ⟨S8x128x128, .f32⟩
  | .hbm, ⟨25, _⟩ => ⟨S8x128x128, .f32⟩
  | .hbm, ⟨26, _⟩ => ⟨S128x8, .f32⟩
  | .hbm, ⟨27, _⟩ => ⟨S1x128x1x8, .f32⟩
  | .hbm, ⟨28, _⟩ => ⟨S1x128x1x8, .f32⟩
  | .hbm, ⟨29, _⟩ => ⟨S128x8, .f32⟩
  | .hbm, ⟨30, _⟩ => ⟨S128x8x128, .f32⟩
  | .hbm, ⟨31, _⟩ => ⟨S128x1024, .f32⟩
  | .hbm, ⟨32, _⟩ => ⟨S8x128x128, .bf16⟩
  | .hbm, ⟨33, _⟩ => ⟨S1x1024, .f32⟩
  | .hbm, ⟨34, _⟩ => ⟨S1024x2048, .bf16⟩
  | .hbm, ⟨35, _⟩ => ⟨S1x1024, .f32⟩
  | .hbm, ⟨36, _⟩ => ⟨S1024x1024, .bf16⟩
  | .hbm, ⟨37, _⟩ => ⟨S8x1x1024, .f32⟩
  | .hbm, ⟨38, _⟩ => ⟨S8x1x1024, .f32⟩
  | .hbm, ⟨39, _⟩ => ⟨S8x1x1024, .f32⟩
  | .hbm, ⟨40, _⟩ => ⟨S16384x1024, .f32⟩
  | .hbm, ⟨41, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2048, .bf16⟩
  | .local _ .vmem, ⟨10, _⟩ => ⟨S1x1024, .f32⟩
  | .local _ .vmem, ⟨11, _⟩ => ⟨S8x128x128, .bf16⟩
  | .local _ .vmem, ⟨12, _⟩ => ⟨S128x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v1 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17_0 : Ref sig .tc := ⟨.hbm, 40, rfl⟩
abbrev main_v17_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixPRefIdeal.lean ====
abbrev S16384x1024 : Shape := ⟨2, ![16384, 1024]⟩
abbrev S1024 : Shape := ⟨1, ![1024]⟩
abbrev S8x1024 : Shape := ⟨2, ![8, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x2048 : Shape := ⟨3, ![8, 2048, 2048]⟩
abbrev S128x128 : Shape := ⟨2, ![128, 128]⟩
abbrev S8x16x128x8x128 : Shape := ⟨5, ![8, 16, 128, 8, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x2048, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S_, .i32⟩
  | .hbm, ⟨84, _⟩ => ⟨S_, .f32⟩
  | .hbm, ⟨85, _⟩ => ⟨S8x128x128, .i1⟩
  | .hbm, ⟨86, _⟩ => ⟨S8x128x128, .f32⟩
  | .hbm, ⟨87, _⟩ => ⟨S8x128x128, .f32⟩
  | .hbm, ⟨88, _⟩ => ⟨S8x16x128x8x128, .f32⟩
  | .hbm, ⟨89, _⟩ => ⟨S8x8x16x128x128, .f32⟩
  | .hbm, ⟨90, _⟩ => ⟨S8x16x128x8x128, .f32⟩
  | .hbm, ⟨91, _⟩ => ⟨S128x8, .f32⟩
  | .hbm, ⟨92, _⟩ => ⟨S1x1x128x8x1, .f32⟩
  | .hbm, ⟨93, _⟩ => ⟨S8x16x128x8x128, .f32⟩
  | .hbm, ⟨94, _⟩ => ⟨S8x16x128x8x128, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x1x1024, .f32⟩
  | .hbm, ⟨99, _⟩ => ⟨S8x2048x1024, .f32⟩
  | .hbm, ⟨100, _⟩ => ⟨S8x2048x1024, .f32⟩
  | .hbm, ⟨101, _⟩ => ⟨S8x2048x1024, .f32⟩
  | .hbm, ⟨102, _⟩ => ⟨S16384x1024, .f32⟩
  | .hbm, ⟨103, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c : Ref sig .tc := ⟨.hbm, 72, rfl⟩
abbrev main_v51 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v52 : Ref sig .tc := ⟨.hbm, 82, rfl⟩
abbrev main_c_10 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== MixS.lean ====
abbrev S1024x1024 : Shape := ⟨2, ![1024, 1024]⟩
abbrev S1024 : Shape := ⟨1, ![1024]⟩
abbrev S128x1024 : Shape := ⟨2, ![128, 1024]⟩
abbrev S1024x2048 : Shape := ⟨2, ![1024, 2048]⟩
abbrev S8x128x128 : Shape := ⟨3, ![8, 128, 128]⟩
abbrev S8x128 : Shape := ⟨2, ![8, 128]⟩
abbrev S_ : Shape := ⟨0, ![]⟩
abbrev S8x8 : Shape := ⟨2, ![8, 8]⟩
abbrev S8x8x8 : Shape := ⟨3, ![8, 8, 8]⟩
abbrev S16x16 : Shape := ⟨2, ![16, 16]⟩
abbrev S1x16x1x16x1 : Shape := ⟨5, ![1, 16, 1, 16, 1]⟩
abbrev S8x1x8x1x8 : Shape := ⟨5, ![8, 1, 8, 1, 8]⟩
abbrev S8x16x8x16x8 : Shape := ⟨5, ![8, 16, 8, 16, 8]⟩
abbrev S1x8x1x8 : Shape := ⟨4, ![1, 8, 1, 8]⟩
abbrev S16x8x1x8 : Shape := ⟨4, ![16, 8, 1, 8]⟩
abbrev S128x8 : Shape := ⟨2, ![128, 8]⟩
abbrev S128x8x128 : Shape := ⟨3, ![128, 8, 128]⟩
abbrev S1x1024 : Shape := ⟨2, ![1, 1024]⟩
abbrev S128x8x1024 : Shape := ⟨3, ![128, 8, 1024]⟩
abbrev S8x128x1024 : Shape := ⟨3, ![8, 128, 1024]⟩
abbrev S1x128x1024 : Shape := ⟨3, ![1, 128, 1024]⟩
abbrev S128 : Shape := ⟨1, ![128]⟩
abbrev S128x1 : Shape := ⟨2, ![128, 1]⟩
abbrev S128x2048 : Shape := ⟨2, ![128, 2048]⟩
abbrev S1x128x128 : Shape := ⟨3, ![1, 128, 128]⟩
abbrev S128x128 : Shape := ⟨2, ![128, 128]⟩

abbrev nBuf : Space → Nat
  | .hbm => 63
  | .vmem => 19
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x2048, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S_, .i1⟩
  | .hbm, ⟨11, _⟩ => ⟨S8x8, .i1⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S_, .i1⟩
  | .hbm, ⟨19, _⟩ => ⟨S8x8, .i1⟩
  | .hbm, ⟨20, _⟩ => ⟨S8x8, .i1⟩
  | .hbm, ⟨21, _⟩ => ⟨S8x8x8, .f32⟩
  | .hbm, ⟨22, _⟩ => ⟨S_, .i32⟩
  | .hbm, ⟨23, _⟩ => ⟨S_, .f32⟩
  | .hbm, ⟨24, _⟩ => ⟨S8x8x8, .i1⟩
  | .hbm, ⟨25, _⟩ => ⟨S8x8x8, .f32⟩
  | .hbm, ⟨26, _⟩ => ⟨S8x8x8, .f32⟩
  | .hbm, ⟨27, _⟩ => ⟨S16x16, .i32⟩
  | .hbm, ⟨28, _⟩ => ⟨S16x16, .i32⟩
  | .hbm, ⟨29, _⟩ => ⟨S_, .i32⟩
  | .hbm, ⟨30, _⟩ => ⟨S16x16, .i32⟩
  | .hbm, ⟨31, _⟩ => ⟨S16x16, .i32⟩
  | .hbm, ⟨32, _⟩ => ⟨S16x16, .i1⟩
  | .hbm, ⟨33, _⟩ => ⟨S16x16, .f32⟩
  | .hbm, ⟨34, _⟩ => ⟨S1x16x1x16x1, .f32⟩
  | .hbm, ⟨35, _⟩ => ⟨S8x1x8x1x8, .f32⟩
  | .hbm, ⟨36, _⟩ => ⟨S8x16x8x16x8, .f32⟩
  | .hbm, ⟨37, _⟩ => ⟨S8x16x8x16x8, .f32⟩
  | .hbm, ⟨38, _⟩ => ⟨S8x16x8x16x8, .f32⟩
  | .hbm, ⟨39, _⟩ => ⟨S8x128x128, .f32⟩
  | .hbm, ⟨40, _⟩ => ⟨S8x8, .f32⟩
  | .hbm, ⟨41, _⟩ => ⟨S8x8, .f32⟩
  | .hbm, ⟨42, _⟩ => ⟨S1x8x1x8, .f32⟩
  | .hbm, ⟨43, _⟩ => ⟨S16x8x1x8, .f32⟩
  | .hbm, ⟨44, _⟩ => ⟨S128x8, .f32⟩
  | .hbm, ⟨45, _⟩ => ⟨S128x8x128, .f32⟩
  | .hbm, ⟨46, _⟩ => ⟨S128x1024, .f32⟩
  | .hbm, ⟨47, _⟩ => ⟨S8x128x128, .bf16⟩
  | .hbm, ⟨48, _⟩ => ⟨S1x1024, .f32⟩
  | .hbm, ⟨49, _⟩ => ⟨S1024x2048, .bf16⟩
  | .hbm, ⟨50, _⟩ => ⟨S1x1024, .f32⟩
  | .hbm, ⟨51, _⟩ => ⟨S1024x1024, .bf16⟩
  | .hbm, ⟨52, _⟩ => ⟨S128x8x1024, .f32⟩
  | .hbm, ⟨53, _⟩ => ⟨S1024x1024, .f32⟩
  | .hbm, ⟨54, _⟩ => ⟨S8x128x1024, .f32⟩
  | .hbm, ⟨55, _⟩ => ⟨S128x8x1024, .f32⟩
  | .hbm, ⟨56, _⟩ => ⟨S1024x1024, .f32⟩
  | .hbm, ⟨57, _⟩ => ⟨S8x128x1024, .f32⟩
  | .hbm, ⟨58, _⟩ => ⟨S128x8x1024, .f32⟩
  | .hbm, ⟨59, _⟩ => ⟨S1024x1024, .f32⟩
  | .hbm, ⟨60, _⟩ => ⟨S8x128x1024, .f32⟩
  | .hbm, ⟨61, _⟩ => ⟨S1024x1024, .f32⟩
  | .hbm, ⟨62, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1024x2048, .bf16⟩
  | .local _ .vmem, ⟨10, _⟩ => ⟨S1x1024, .f32⟩
  | .local _ .vmem, ⟨11, _⟩ => ⟨S8x128x128, .bf16⟩
  | .local _ .vmem, ⟨12, _⟩ => ⟨S128x1024, .f32⟩
  | .local _ .vmem, ⟨13, _⟩ => ⟨S1024x1024, .bf16⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixSRefIdeal.lean ====
abbrev S1024x1024 : Shape := ⟨2, ![1024, 1024]⟩
abbrev S1024 : Shape := ⟨1, ![1024]⟩
abbrev S128x1024 : Shape := ⟨2, ![128, 1024]⟩
abbrev S1024x2048 : Shape := ⟨2, ![1024, 2048]⟩
abbrev S8x128x128 : Shape := ⟨3, ![8, 128, 128]⟩
abbrev S8x128 : Shape := ⟨2, ![8, 128]⟩
abbrev S128x8x1024 : Shape := ⟨3, ![128, 8, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S128x8x2048 : Shape := ⟨3, ![128, 8, 2048]⟩
abbrev S8x8 : Shape := ⟨2, ![8, 8]⟩
abbrev S8x8x8 : Shape := ⟨3, ![8, 8, 8]⟩
abbrev S128x1x8x8x128 : Shape := ⟨5, ![128, 1, 8, 8, 128]⟩
abbrev S8x128x1x128x8 : Shape := ⟨5, ![8, 128, 1, 128, 8]⟩
abbrev S1x1x8x8x1 : Shape := ⟨5, ![1, 1, 8, 8, 1]⟩

abbrev nBuf : Space → Nat
  | .hbm => 106
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x2048, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S128x8x1024, .f32⟩
  | .hbm, ⟨11, _⟩ => ⟨S128x8x1024, .f32⟩
  | .hbm, ⟨12, _⟩ => ⟨S_, .f32⟩
  | .hbm, ⟨13, _⟩ => ⟨S128x8, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S128x8x1, .f32⟩
  | .hbm, ⟨22, _⟩ => ⟨S128x8x1024, .f32⟩
  | .hbm, ⟨23, _⟩ => ⟨S128x8x1024, .f32⟩
  | .hbm, ⟨24, _⟩ => ⟨S1x1x1024, .f32⟩
  | .hbm, ⟨25, _⟩ => ⟨S128x8x1024, .f32⟩
  | .hbm, ⟨26, _⟩ => ⟨S128x8x1024, .f32⟩
  | .hbm, ⟨27, _⟩ => ⟨S128x1x1024, .f32⟩
  | .hbm, ⟨28, _⟩ => ⟨S_, .f32⟩
  | .hbm, ⟨29, _⟩ => ⟨S128x1x1024, .f32⟩
  | .hbm, ⟨30, _⟩ => ⟨S128x1x1024, .f32⟩
  | .hbm, ⟨31, _⟩ => ⟨S128x8x1024, .f32⟩
  | .hbm, ⟨32, _⟩ => ⟨S128x8x1024, .f32⟩
  | .hbm, ⟨33, _⟩ => ⟨S128x1x1024, .f32⟩
  | .hbm, ⟨34, _⟩ => ⟨S128x8x1024, .f32⟩
  | .hbm, ⟨35, _⟩ => ⟨S128x8x1024, .f32⟩
  | .hbm, ⟨36, _⟩ => ⟨S128x8x2048, .f32⟩
  | .hbm, ⟨37, _⟩ => ⟨S128x8x2048, .f32⟩
  | .hbm, ⟨38, _⟩ => ⟨S128x8x2048, .f32⟩
  | .hbm, ⟨39, _⟩ => ⟨S_, .f32⟩
  | .hbm, ⟨40, _⟩ => ⟨S128x8x2048, .f32⟩
  | .hbm, ⟨41, _⟩ => ⟨S128x8x2048, .f32⟩
  | .hbm, ⟨42, _⟩ => ⟨S128x8x2048, .f32⟩
  | .hbm, ⟨43, _⟩ => ⟨S_, .f32⟩
  | .hbm, ⟨44, _⟩ => ⟨S128x8x2048, .f32⟩
  | .hbm, ⟨45, _⟩ => ⟨S128x8x2048, .f32⟩
  | .hbm, ⟨46, _⟩ => ⟨S128x8x2048, .f32⟩
  | .hbm, ⟨47, _⟩ => ⟨S_, .f32⟩
  | .hbm, ⟨48, _⟩ => ⟨S128x8x2048, .f32⟩
  | .hbm, ⟨49, _⟩ => ⟨S128x8x2048, .f32⟩
  | .hbm, ⟨50, _⟩ => ⟨S_, .f32⟩
  | .hbm, ⟨51, _⟩ => ⟨S128x8x2048, .f32⟩
  | .hbm, ⟨52, _⟩ => ⟨S128x8x2048, .f32⟩
  | .hbm, ⟨53, _⟩ => ⟨S128x8x2048, .f32⟩
  | .hbm, ⟨54, _⟩ => ⟨S128x8x1024, .f32⟩
  | .hbm, ⟨55, _⟩ => ⟨S128x8x1024, .f32⟩
  | .hbm, ⟨56, _⟩ => ⟨S128x8x1024, .f32⟩
  | .hbm, ⟨57, _⟩ => ⟨S_, .f32⟩
  | .hbm, ⟨58, _⟩ => ⟨S128x8, .f32⟩
  | .hbm, ⟨59, _⟩ => ⟨S128x8x1, .f32⟩
  | .hbm, ⟨60, _⟩ => ⟨S_, .f32⟩
  | .hbm, ⟨61, _⟩ => ⟨S128x8x1, .f32⟩
  | .hbm, ⟨62, _⟩ => ⟨S128x8x1, .f32⟩
  | .hbm, ⟨63, _⟩ => ⟨S_, .f32⟩
  | .hbm, ⟨64, _⟩ => ⟨S128x8x1, .f32⟩
  | .hbm, ⟨65, _⟩ => ⟨S128x8x1, .f32⟩
  | .hbm, ⟨66, _⟩ => ⟨S128x8x1, .f32⟩
  | .hbm, ⟨67, _⟩ => ⟨S128x8x1024, .f32⟩
  | .hbm, ⟨68, _⟩ => ⟨S128x8x1024, .f32⟩
  | .hbm, ⟨69, _⟩ => ⟨S1x1x1024, .f32⟩
  | .hbm, ⟨70, _⟩ => ⟨S128x8x1024, .f32⟩
  | .hbm, ⟨71, _⟩ => ⟨S128x8x1024, .f32⟩
  | .hbm, ⟨72, _⟩ => ⟨S_, .i1⟩
  | .hbm, ⟨73, _⟩ => ⟨S8x8, .i1⟩
  | .hbm, ⟨74, _⟩ => ⟨S8x8, .i32⟩
  | .hbm, ⟨75, _⟩ => ⟨S_, .i32⟩
  | .hbm, ⟨76, _⟩ => ⟨S8x8, .i32⟩
  | .hbm, ⟨77, _⟩ => ⟨S8x8, .i32⟩
  | .hbm, ⟨78, _⟩ => ⟨S8x8, .i32⟩
  | .hbm, ⟨79, _⟩ => ⟨S8x8, .i1⟩
  | .hbm, ⟨80, _⟩ => ⟨S_, .i1⟩
  | .hbm, ⟨81, _⟩ => ⟨S8x8, .i1⟩
  | .hbm, ⟨82, _⟩ => ⟨S8x8, .i1⟩
  | .hbm, ⟨83, _⟩ => ⟨S8x8x8, .f32⟩
  | .hbm, ⟨84, _⟩ => ⟨S_, .i32⟩
  | .hbm, ⟨85, _⟩ => ⟨S_, .f32⟩
  | .hbm, ⟨86, _⟩ => ⟨S8x8x8, .i1⟩
  | .hbm, ⟨87, _⟩ => ⟨S8x8x8, .f32⟩
  | .hbm, ⟨88, _⟩ => ⟨S8x8x8, .f32⟩
  | .hbm, ⟨89, _⟩ => ⟨S128x1x8x8x128, .f32⟩
  | .hbm, ⟨90, _⟩ => ⟨S8x128x1x128x8, .f32⟩
  | .hbm, ⟨91, _⟩ => ⟨S128x1x8x8x128, .f32⟩
  | .hbm, ⟨92, _⟩ => ⟨S8x8, .f32⟩
  | .hbm, ⟨93, _⟩ => ⟨S8x8, .f32⟩
  | .hbm, ⟨94, _⟩ => ⟨S1x1x8x8x1, .f32⟩
  | .hbm, ⟨95, _⟩ => ⟨S128x1x8x8x128, .f32⟩
  | .hbm, ⟨96, _⟩ => ⟨S128x1x8x8x128, .f32⟩
  | .hbm, ⟨97, _⟩ => ⟨S128x8x1024, .f32⟩
  | .hbm, ⟨98, _⟩ => ⟨S128x8x1024, .f32⟩
  | .hbm, ⟨99, _⟩ => ⟨S128x8x1024, .f32⟩
  | .hbm, ⟨100, _⟩ => ⟨S128x1x1024, .f32⟩
  | .hbm, ⟨101, _⟩ => ⟨S128x8x1024, .f32⟩
  | .hbm, ⟨102, _⟩ => ⟨S128x8x1024, .f32⟩
  | .hbm, ⟨103, _⟩ => ⟨S128x8x1024, .f32⟩
  | .hbm, ⟨104, _⟩ => ⟨S1024x1024, .f32⟩
  | .hbm, ⟨105, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c : Ref sig .tc := ⟨.hbm, 72, rfl⟩
abbrev main_v51 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== KvqP.lean ====
abbrev S16384x1024 : Shape := ⟨2, ![16384, 1024]⟩
abbrev S1024x16384 : Shape := ⟨2, ![1024, 16384]⟩
abbrev S8x1024 : Shape := ⟨2, ![8, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S8x1x1024 : Shape := ⟨3, ![8, 1, 1024]⟩
abbrev S8x1024x2048 : Shape := ⟨3, ![8, 1024, 2048]⟩
abbrev S64x1x1024 : Shape := ⟨3, ![64, 1, 1024]⟩
abbrev S256x1024 : Shape := ⟨2, ![256, 1024]⟩
abbrev S1024x256 : Shape := ⟨2, ![1024, 256]⟩
abbrev S1x1x1024 : Shape := ⟨3, ![1, 1, 1024]⟩
abbrev S1x1024x256 : Shape := ⟨3, ![1, 1024, 256]⟩
abbrev S256 : Shape := ⟨1, ![256]⟩
abbrev S256x1 : Shape := ⟨2, ![256, 1]⟩
abbrev S256x2048 : Shape := ⟨2, ![256, 2048]⟩

abbrev nBuf : Space → Nat
  | .hbm => 23
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S8x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S8x1024, .f32⟩
  | .hbm, ⟨7, _⟩ => ⟨S8x1024, .f32⟩
  | .hbm, ⟨8, _⟩ => ⟨S1024x1024, .f32⟩
  | .hbm, ⟨9, _⟩ => ⟨S1x1024, .f32⟩
  | .hbm, ⟨10, _⟩ => ⟨S1024x2048, .bf16⟩
  | .hbm, ⟨11, _⟩ => ⟨S1x1024, .f32⟩
  | .hbm, ⟨12, _⟩ => ⟨S1024x1024, .bf16⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S16384x1024, .f32⟩
  | .hbm, ⟨17, _⟩ => ⟨S8x1024x2048, .f32⟩
  | .hbm, ⟨18, _⟩ => ⟨S8x1024x2048, .f32⟩
  | .hbm, ⟨19, _⟩ => ⟨S16384x1024, .bf16⟩
  | .hbm, ⟨20, _⟩ => ⟨S16384x1024, .bf16⟩
  | .hbm, ⟨21, _⟩ => ⟨S64x1x1024, .f32⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S1x1024x256, .f32⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S1x1x1024, .f32⟩
  | .local _ .vmem, ⟨25, _⟩ => ⟨S1x1x1024, .f32⟩
  | .local _ .vmem, ⟨26, _⟩ => ⟨S256x1024, .f32⟩
  | .local _ .vmem, ⟨27, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KvqPRefIdeal.lean ====
abbrev S16384x1024 : Shape := ⟨2, ![16384, 1024]⟩
abbrev S1024x16384 : Shape := ⟨2, ![1024, 16384]⟩
abbrev S8x1024 : Shape := ⟨2, ![8, 1024]⟩
abbrev S1024 : Shape := ⟨1, ![1024]⟩
abbrev S1024x2048 : Shape := ⟨2, ![1024, 2048]⟩
abbrev S1024x1024 : Shape := ⟨2, ![1024, 1024]⟩
abbrev S8x2048x1024 : Shape := ⟨3, ![8, 2048, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S64x256x1024 : Shape := ⟨3, ![64, 256, 1024]⟩
abbrev S64x1024 : Shape := ⟨2, ![64, 1024]⟩
abbrev S64x1x1024 : Shape := ⟨3, ![64, 1, 1024]⟩
abbrev S8x1024x2048 : Shape := ⟨3, ![8, 1024, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S8x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S8x1024, .f32⟩
  | .hbm, ⟨7, _⟩ => ⟨S8x1024, .f32⟩
  | .hbm, ⟨8, _⟩ => ⟨S1024x1024, .f32⟩
  | .hbm, ⟨9, _⟩ => ⟨S8x2048x1024, .f32⟩
  | .hbm, ⟨10, _⟩ => ⟨S8x1x1024, .f32⟩
  | .hbm, ⟨11, _⟩ => ⟨S16384x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x2048, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S8x1x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S8x2048x1024, .f32⟩
  | .hbm, ⟨56, _⟩ => ⟨S8x2048x1024, .f32⟩
  | .hbm, ⟨57, _⟩ => ⟨S8x1x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S64x256x1024, .f32⟩
  | .hbm, ⟨62, _⟩ => ⟨S_, .f32⟩
  | .hbm, ⟨63, _⟩ => ⟨S64x1024, .f32⟩
  | .hbm, ⟨64, _⟩ => ⟨S64x1x1024, .f32⟩
  | .hbm, ⟨65, _⟩ => ⟨S_, .f32⟩
  | .hbm, ⟨66, _⟩ => ⟨S64x1x1024, .f32⟩
  | .hbm, ⟨67, _⟩ => ⟨S64x1x1024, .f32⟩
  | .hbm, ⟨68, _⟩ => ⟨S16384x1024, .f32⟩
  | .hbm, ⟨69, _⟩ => ⟨S8x1024x2048, .f32⟩
  | .hbm, ⟨70, _⟩ => ⟨S8x1024x2048, .f32⟩
  | .hbm, ⟨71, _⟩ => ⟨S16384x1024, .f32⟩
  | .hbm, ⟨72, _⟩ => ⟨S16384x1024, .bf16⟩
  | .hbm, ⟨73, _⟩ => ⟨S16384x1024, .f32⟩
  | .hbm, ⟨74, _⟩ => ⟨S16384x1024, .bf16⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== KvqS.lean ====
abbrev S1024x1024 : Shape := ⟨2, ![1024, 1024]⟩
abbrev S128x1024 : Shape := ⟨2, ![128, 1024]⟩
abbrev S1024 : Shape := ⟨1, ![1024]⟩
abbrev S1024x2048 : Shape := ⟨2, ![1024, 2048]⟩
abbrev S1x1024 : Shape := ⟨2, ![1, 1024]⟩
abbrev S128x8x1024 : Shape := ⟨3, ![128, 8, 1024]⟩
abbrev S4x256x1024 : Shape := ⟨3, ![4, 256, 1024]⟩
abbrev S4x1x1024 : Shape := ⟨3, ![4, 1, 1024]⟩
abbrev S256x1024 : Shape := ⟨2, ![256, 1024]⟩
abbrev S1024x256 : Shape := ⟨2, ![1024, 256]⟩
abbrev S1x256x1024 : Shape := ⟨3, ![1, 256, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 29
  | .vmem => 28
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S128x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S128x1024, .f32⟩
  | .hbm, ⟨7, _⟩ => ⟨S128x1024, .f32⟩
  | .hbm, ⟨8, _⟩ => ⟨S1024x1024, .f32⟩
  | .hbm, ⟨9, _⟩ => ⟨S1x1024, .f32⟩
  | .hbm, ⟨10, _⟩ => ⟨S1024x2048, .bf16⟩
  | .hbm, ⟨11, _⟩ => ⟨S1x1024, .f32⟩
  | .hbm, ⟨12, _⟩ => ⟨S1024x1024, .bf16⟩
  | .hbm, ⟨13, _⟩ => ⟨S128x8x1024, .f32⟩
  | .hbm, ⟨14, _⟩ => ⟨S1024x1024, .f32⟩
  | .hbm, ⟨15, _⟩ => ⟨S4x256x1024, .f32⟩
  | .hbm, ⟨16, _⟩ => ⟨S128x8x1024, .f32⟩
  | .hbm, ⟨17, _⟩ => ⟨S1024x1024, .f32⟩
  | .hbm, ⟨18, _⟩ => ⟨S4x256x1024, .f32⟩
  | .hbm, ⟨19, _⟩ => ⟨S128x8x1024, .f32⟩
  | .hbm, ⟨20, _⟩ => ⟨S1024x1024, .f32⟩
  | .hbm, ⟨21, _⟩ => ⟨S4x256x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S1024x1024, .bf16⟩
  | .hbm, ⟨27, _⟩ => ⟨S4x1x1024, .f32⟩
  | .hbm, ⟨28, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S1024x2048, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S1x1x1024, .f32⟩
  | .local _ .vmem, ⟨25, _⟩ => ⟨S1x1x1024, .f32⟩
  | .local _ .vmem, ⟨26, _⟩ => ⟨S256x1024, .f32⟩
  | .local _ .vmem, ⟨27, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KvqSRefIdeal.lean ====
abbrev S1024x1024 : Shape := ⟨2, ![1024, 1024]⟩
abbrev S128x1024 : Shape := ⟨2, ![128, 1024]⟩
abbrev S1024 : Shape := ⟨1, ![1024]⟩
abbrev S1024x2048 : Shape := ⟨2, ![1024, 2048]⟩
abbrev S128x8x1024 : Shape := ⟨3, ![128, 8, 1024]⟩
abbrev S128x1x1024 : Shape := ⟨3, ![128, 1, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2048 : Shape := ⟨3, ![128, 8, 2048]⟩

abbrev nBuf : Space → Nat
  | .hbm => 65
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S128x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S128x1024, .f32⟩
  | .hbm, ⟨7, _⟩ => ⟨S128x1024, .f32⟩
  | .hbm, ⟨8, _⟩ => ⟨S1024x1024, .f32⟩
  | .hbm, ⟨9, _⟩ => ⟨S128x8x1024, .f32⟩
  | .hbm, ⟨10, _⟩ => ⟨S128x1x1024, .f32⟩
  | .hbm, ⟨11, _⟩ => ⟨S1024x1024, .f32⟩
  | .hbm, ⟨12, _⟩ => ⟨S128x8x1024, .f32⟩
  | .hbm, ⟨13, _⟩ => ⟨S128x8x1024, .f32⟩
  | .hbm, ⟨14, _⟩ => ⟨S128x8x1024, .f32⟩
  | .hbm, ⟨15, _⟩ => ⟨S128x8x1024, .f32⟩
  | .hbm, ⟨16, _⟩ => ⟨S128x8x1024, .f32⟩
  | .hbm, ⟨17, _⟩ => ⟨S_, .f32⟩
  | .hbm, ⟨18, _⟩ => ⟨S128x8, .f32⟩
  | .hbm, ⟨19, _⟩ => ⟨S128x8x1, .f32⟩
  | .hbm, ⟨20, _⟩ => ⟨S_, .f32⟩
  | .hbm, ⟨21, _⟩ => ⟨S128x8x1, .f32⟩
  | .hbm, ⟨22, _⟩ => ⟨S128x8x1, .f32⟩
  | .hbm, ⟨23, _⟩ => ⟨S_, .f32⟩
  | .hbm, ⟨24, _⟩ => ⟨S128x8x1, .f32⟩
  | .hbm, ⟨25, _⟩ => ⟨S128x8x1, .f32⟩
  | .hbm, ⟨26, _⟩ => ⟨S128x8x1, .f32⟩
  | .hbm, ⟨27, _⟩ => ⟨S128x8x1024, .f32⟩
  | .hbm, ⟨28, _⟩ => ⟨S128x8x1024, .f32⟩
  | .hbm, ⟨29, _⟩ => ⟨S1x1x1024, .f32⟩
  | .hbm, ⟨30, _⟩ => ⟨S128x8x1024, .f32⟩
  | .hbm, ⟨31, _⟩ => ⟨S128x8x1024, .f32⟩
  | .hbm, ⟨32, _⟩ => ⟨S128x8x2048, .f32⟩
  | .hbm, ⟨33, _⟩ => ⟨S128x8x1024, .f32⟩
  | .hbm, ⟨34, _⟩ => ⟨S128x8x1024, .f32⟩
  | .hbm, ⟨35, _⟩ => ⟨S128x8x1024, .f32⟩
  | .hbm, ⟨36, _⟩ => ⟨S_, .f32⟩
  | .hbm, ⟨37, _⟩ => ⟨S128x8, .f32⟩
  | .hbm, ⟨38, _⟩ => ⟨S128x8x1, .f32⟩
  | .hbm, ⟨39, _⟩ => ⟨S_, .f32⟩
  | .hbm, ⟨40, _⟩ => ⟨S128x8x1, .f32⟩
  | .hbm, ⟨41, _⟩ => ⟨S128x8x1, .f32⟩
  | .hbm, ⟨42, _⟩ => ⟨S_, .f32⟩
  | .hbm, ⟨43, _⟩ => ⟨S128x8x1, .f32⟩
  | .hbm, ⟨44, _⟩ => ⟨S128x8x1, .f32⟩
  | .hbm, ⟨45, _⟩ => ⟨S128x8x1, .f32⟩
  | .hbm, ⟨46, _⟩ => ⟨S128x8x1024, .f32⟩
  | .hbm, ⟨47, _⟩ => ⟨S128x8x1024, .f32⟩
  | .hbm, ⟨48, _⟩ => ⟨S1x1x1024, .f32⟩
  | .hbm, ⟨49, _⟩ => ⟨S128x8x1024, .f32⟩
  | .hbm, ⟨50, _⟩ => ⟨S128x8x1024, .f32⟩
  | .hbm, ⟨51, _⟩ => ⟨S128x1x1024, .f32⟩
  | .hbm, ⟨52, _⟩ => ⟨S_, .f32⟩
  | .hbm, ⟨53, _⟩ => ⟨S128x1x1024, .f32⟩
  | .hbm, ⟨54, _⟩ => ⟨S128x1x1024, .f32⟩
  | .hbm, ⟨55, _⟩ => ⟨S128x8x1024, .f32⟩
  | .hbm, ⟨56, _⟩ => ⟨S128x8x1024, .f32⟩
  | .hbm, ⟨57, _⟩ => ⟨S128x1x1024, .f32⟩
  | .hbm, ⟨58, _⟩ => ⟨S128x8x1024, .f32⟩
  | .hbm, ⟨59, _⟩ => ⟨S128x8x1024, .f32⟩
  | .hbm, ⟨60, _⟩ => ⟨S128x8x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== ProjP.lean ====
abbrev S16384x1024 : Shape := ⟨2, ![16384, 1024]⟩
abbrev S8x1024 : Shape := ⟨2, ![8, 1024]⟩
abbrev S1024x1024 : Shape := ⟨2, ![1024, 1024]⟩
abbrev S8x1x1024 : Shape := ⟨3, ![8, 1, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1024, .f32⟩
  | .hbm, ⟨3, _⟩ => ⟨S1024x1024, .f32⟩
  | .hbm, ⟨4, _⟩ => ⟨S1024x1024, .bf16⟩
  | .hbm, ⟨5, _⟩ => ⟨S8x1x1024, .f32⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjPRefIdeal.lean ====
abbrev S16384x1024 : Shape := ⟨2, ![16384, 1024]⟩
abbrev S8x1024 : Shape := ⟨2, ![8, 1024]⟩
abbrev S1024x1024 : Shape := ⟨2, ![1024, 1024]⟩
abbrev S8x2048x1024 : Shape := ⟨3, ![8, 2048, 1024]⟩
abbrev S8x1x1024 : Shape := ⟨3, ![8, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1024, .f32⟩
  | .hbm, ⟨3, _⟩ => ⟨S1024x1024, .f32⟩
  | .hbm, ⟨4, _⟩ => ⟨S8x2048x1024, .f32⟩
  | .hbm, ⟨5, _⟩ => ⟨S8x1x1024, .f32⟩
  | .hbm, ⟨6, _⟩ => ⟨S16384x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ProjS.lean ====
abbrev S1024x1024 : Shape := ⟨2, ![1024, 1024]⟩
abbrev S128x1024 : Shape := ⟨2, ![128, 1024]⟩
abbrev S128x8x1024 : Shape := ⟨3, ![128, 8, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S128x1024, .f32⟩
  | .hbm, ⟨3, _⟩ => ⟨S1024x1024, .f32⟩
  | .hbm, ⟨4, _⟩ => ⟨S1024x1024, .bf16⟩
  | .hbm, ⟨5, _⟩ => ⟨S128x8x1024, .f32⟩
  | .hbm, ⟨6, _⟩ => ⟨S1024x1024, .f32⟩
  | .hbm, ⟨7, _⟩ => ⟨S4x256x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjSRefIdeal.lean ====
abbrev S1024x1024 : Shape := ⟨2, ![1024, 1024]⟩
abbrev S128x1024 : Shape := ⟨2, ![128, 1024]⟩
abbrev S128x8x1024 : Shape := ⟨3, ![128, 8, 1024]⟩
abbrev S128x1x1024 : Shape := ⟨3, ![128, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S128x1024, .f32⟩
  | .hbm, ⟨3, _⟩ => ⟨S1024x1024, .f32⟩
  | .hbm, ⟨4, _⟩ => ⟨S128x8x1024, .f32⟩
  | .hbm, ⟨5, _⟩ => ⟨S128x1x1024, .f32⟩
  | .hbm, ⟨6, _⟩ => ⟨S128x8x1024, .f32⟩
  | .hbm, ⟨7, _⟩ => ⟨S128x8x1024, .f32⟩
  | .hbm, ⟨8, _⟩ => ⟨S128x8x1024, .f32⟩
  | .hbm, ⟨9, _⟩ => ⟨S128x8x1024, .f32⟩
  | .hbm, ⟨10, _⟩ => ⟨S128x8x1024, .f32⟩
  | .hbm, ⟨11, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FinalP.lean ====
abbrev S16384x1024 : Shape := ⟨2, ![16384, 1024]⟩
abbrev S1024x16384 : Shape := ⟨2, ![1024, 16384]⟩
abbrev S8x1024 : Shape := ⟨2, ![8, 1024]⟩
abbrev S1024 : Shape := ⟨1, ![1024]⟩
abbrev S1x1024 : Shape := ⟨2, ![1, 1024]⟩
abbrev S8x1x1024 : Shape := ⟨3, ![8, 1, 1024]⟩
abbrev S256x1024 : Shape := ⟨2, ![256, 1024]⟩
abbrev S1024x256 : Shape := ⟨2, ![1024, 256]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S8x1024, .f32⟩
  | .hbm, ⟨3, _⟩ => ⟨S1024, .f32⟩
  | .hbm, ⟨4, _⟩ => ⟨S1x1024, .f32⟩
  | .hbm, ⟨5, _⟩ => ⟨S8x1x1024, .f32⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalPRefIdeal.lean ====
abbrev S16384x1024 : Shape := ⟨2, ![16384, 1024]⟩
abbrev S1024x16384 : Shape := ⟨2, ![1024, 16384]⟩
abbrev S8x1024 : Shape := ⟨2, ![8, 1024]⟩
abbrev S1024 : Shape := ⟨1, ![1024]⟩
abbrev S8x2048x1024 : Shape := ⟨3, ![8, 2048, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S8x1024, .f32⟩
  | .hbm, ⟨3, _⟩ => ⟨S1024, .f32⟩
  | .hbm, ⟨4, _⟩ => ⟨S8x2048x1024, .f32⟩
  | .hbm, ⟨5, _⟩ => ⟨S8x1x1024, .f32⟩
  | .hbm, ⟨6, _⟩ => ⟨S16384x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== FinalS.lean ====
abbrev S1024x1024 : Shape := ⟨2, ![1024, 1024]⟩
abbrev S128x1024 : Shape := ⟨2, ![128, 1024]⟩
abbrev S1024 : Shape := ⟨1, ![1024]⟩
abbrev S1x1024 : Shape := ⟨2, ![1, 1024]⟩
abbrev S128x8x1024 : Shape := ⟨3, ![128, 8, 1024]⟩
abbrev S4x256x1024 : Shape := ⟨3, ![4, 256, 1024]⟩
abbrev S256x1024 : Shape := ⟨2, ![256, 1024]⟩
abbrev S1024x256 : Shape := ⟨2, ![1024, 256]⟩
abbrev S1x256x1024 : Shape := ⟨3, ![1, 256, 1024]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S128x1024, .f32⟩
  | .hbm, ⟨3, _⟩ => ⟨S1024, .f32⟩
  | .hbm, ⟨4, _⟩ => ⟨S1x1024, .f32⟩
  | .hbm, ⟨5, _⟩ => ⟨S128x8x1024, .f32⟩
  | .hbm, ⟨6, _⟩ => ⟨S1024x1024, .f32⟩
  | .hbm, ⟨7, _⟩ => ⟨S4x256x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalSRefIdeal.lean ====
abbrev S1024x1024 : Shape := ⟨2, ![1024, 1024]⟩
abbrev S128x1024 : Shape := ⟨2, ![128, 1024]⟩
abbrev S1024 : Shape := ⟨1, ![1024]⟩
abbrev S128x8x1024 : Shape := ⟨3, ![128, 8, 1024]⟩
abbrev S128x1x1024 : Shape := ⟨3, ![128, 1, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S128x1024, .f32⟩
  | .hbm, ⟨3, _⟩ => ⟨S1024, .f32⟩
  | .hbm, ⟨4, _⟩ => ⟨S128x8x1024, .f32⟩
  | .hbm, ⟨5, _⟩ => ⟨S128x1x1024, .f32⟩
  | .hbm, ⟨6, _⟩ => ⟨S1024x1024, .f32⟩
  | .hbm, ⟨7, _⟩ => ⟨S128x8x1024, .f32⟩
  | .hbm, ⟨8, _⟩ => ⟨S128x8x1024, .f32⟩
  | .hbm, ⟨9, _⟩ => ⟨S128x8x1024, .f32⟩
  | .hbm, ⟨10, _⟩ => ⟨S128x8x1024, .f32⟩
  | .hbm, ⟨11, _⟩ => ⟨S128x8x1024, .f32⟩
  | .hbm, ⟨12, _⟩ => ⟨S_, .f32⟩
  | .hbm, ⟨13, _⟩ => ⟨S128x8, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S128x8x1, .f32⟩
  | .hbm, ⟨22, _⟩ => ⟨S128x8x1024, .f32⟩
  | .hbm, ⟨23, _⟩ => ⟨S128x8x1024, .f32⟩
  | .hbm, ⟨24, _⟩ => ⟨S1x1x1024, .f32⟩
  | .hbm, ⟨25, _⟩ => ⟨S128x8x1024, .f32⟩
  | .hbm, ⟨26, _⟩ => ⟨S128x8x1024, .f32⟩
  | .hbm, ⟨27, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Route.lean ====
abbrev S16384x1024 : Shape := ⟨2, ![16384, 1024]⟩
abbrev S1024 : Shape := ⟨1, ![1024]⟩
abbrev S8x1024 : Shape := ⟨2, ![8, 1024]⟩
abbrev S2x2048x1024 : Shape := ⟨3, ![2, 2048, 1024]⟩
abbrev S2x2x8x128x128 : Shape := ⟨5, ![2, 2, 8, 128, 128]⟩
abbrev S1x1024 : Shape := ⟨2, ![1, 1024]⟩
abbrev S8x1x1024 : Shape := ⟨3, ![8, 1, 1024]⟩
abbrev S1024x16384 : Shape := ⟨2, ![1024, 16384]⟩
abbrev S128x8x128x128 : Shape := ⟨4, ![128, 8, 128, 128]⟩
abbrev S128x8x1x128 : Shape := ⟨4, ![128, 8, 1, 128]⟩
abbrev S256x1024 : Shape := ⟨2, ![256, 1024]⟩
abbrev S1x1x1024 : Shape := ⟨3, ![1, 1, 1024]⟩
abbrev S1x2048x1024 : Shape := ⟨3, ![1, 2048, 1024]⟩
abbrev S1x2x8x128x128 : Shape := ⟨5, ![1, 2, 8, 128, 128]⟩
abbrev S1024x256 : Shape := ⟨2, ![1024, 256]⟩
abbrev S2x8x128x128 : Shape := ⟨4, ![2, 8, 128, 128]⟩
abbrev S2x8x1x128 : Shape := ⟨4, ![2, 8, 1, 128]⟩
abbrev S2048x256 : Shape := ⟨2, ![2048, 256]⟩
abbrev S256 : Shape := ⟨1, ![256]⟩
abbrev S256x1 : Shape := ⟨2, ![256, 1]⟩
abbrev S2048x1024 : Shape := ⟨2, ![2048, 1024]⟩
abbrev S1x1x1x128x128 : Shape := ⟨5, ![1, 1, 1, 128, 128]⟩
abbrev S128x128 : Shape := ⟨2, ![128, 128]⟩
abbrev S128x256 : Shape := ⟨2, ![128, 256]⟩
abbrev S1x1x128x128 : Shape := ⟨4, ![1, 1, 128, 128]⟩
abbrev S8x128 : Shape := ⟨2, ![8, 128]⟩
abbrev S1x128 : Shape := ⟨2, ![1, 128]⟩
abbrev S1x1x1x128 : Shape := ⟨4, ![1, 1, 1, 128]⟩

abbrev nBuf : Space → Nat
  | .hbm => 16
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S2x2048x1024, .bf16⟩
  | .hbm, ⟨5, _⟩ => ⟨S2x2x8x128x128, .f32⟩
  | .hbm, ⟨6, _⟩ => ⟨S1x1024, .f32⟩
  | .hbm, ⟨7, _⟩ => ⟨S2x2x8x128x128, .bf16⟩
  | .hbm, ⟨8, _⟩ => ⟨S8x1x1024, .f32⟩
  | .hbm, ⟨9, _⟩ => ⟨S8x1x1024, .f32⟩
  | .hbm, ⟨10, _⟩ => ⟨S1024x16384, .bf16⟩
  | .hbm, ⟨11, _⟩ => ⟨S128x8x128x128, .f32⟩
  | .hbm, ⟨12, _⟩ => ⟨S128x8x128x128, .f32⟩
  | .hbm, ⟨13, _⟩ => ⟨S128x8x128x128, .f32⟩
  | .hbm, ⟨14, _⟩ => ⟨S128x8x128x128, .f32⟩
  | .hbm, ⟨15, _⟩ => ⟨S128x8x1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x2048x1024, .bf16⟩
  | .local _ .vmem, ⟨8, _⟩ => ⟨S1x2x8x128x128, .bf16⟩
  | .local _ .vmem, ⟨9, _⟩ => ⟨S1024x256, .bf16⟩
  | .local _ .vmem, ⟨10, _⟩ => ⟨S1024x256, .bf16⟩
  | .local _ .vmem, ⟨11, _⟩ => ⟨S2x8x128x128, .f32⟩
  | .local _ .vmem, ⟨12, _⟩ => ⟨S2x8x128x128, .f32⟩
  | .local _ .vmem, ⟨13, _⟩ => ⟨S2x8x128x128, .f32⟩
  | .local _ .vmem, ⟨14, _⟩ => ⟨S2x8x128x128, .f32⟩
  | .local _ .vmem, ⟨15, _⟩ => ⟨S2x8x128x128, .f32⟩
  | .local _ .vmem, ⟨16, _⟩ => ⟨S2x8x128x128, .f32⟩
  | .local _ .vmem, ⟨17, _⟩ => ⟨S2x8x128x128, .f32⟩
  | .local _ .vmem, ⟨18, _⟩ => ⟨S2x8x128x128, .f32⟩
  | .local _ .vmem, ⟨19, _⟩ => ⟨S2x8x1x128, .f32⟩
  | .local _ .vmem, ⟨20, _⟩ => ⟨S2x8x1x128, .f32⟩
  | .local _ .vmem, ⟨21, _⟩ => ⟨S2048x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v35 : BitVec 32 := Scalar.addi c0_i32 c8_i32
  let c1_i32 : BitVec 32 := 1#32
  ⟨c0_i32, v35, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32 : BitVec 32 := 2#32
  let v36 : BitVec 32 := Scalar.muli arg14 c2_i32
  let c0_i32_21 : BitVec 32 := 0#32
  let v37 : BitVec 32 := Scalar.addi v36 c0_i32_21
  let c128_i32 : BitVec 32 := 128#32
  let v38 : BitVec 32 := Scalar.muli v37 c128_i32
  v38
def k0_off1 (k0_t1 : Fin k0_t1_loop.trips) : Fin 5 → Nat :=
  let c0_22 : Index := 0#32
  let c0_23 : Index := 0#32
  let c0_i32 : BitVec 32 := 0#32
  let c1_i32 : BitVec 32 := 1#32
  let arg14 : BitVec 32 := Scf.iv c0_i32 c1_i32 k0_t1
  let v40 : Index := Scalar.indexCast arg14
  let c0_24 : Index := 0#32
  let c0_25 : Index := 0#32
  ![0, 0, v40.toNat, 0, 0]
def k0_off2 (k0_t1 : Fin k0_t1_loop.trips) (c0_i32_21 : BitVec 32) : Fin 2 → Nat :=
  let c0_i32 : BitVec 32 := 0#32
  let c1_i32 : BitVec 32 := 1#32
  let arg14 : BitVec 32 := Scf.iv c0_i32 c1_i32 k0_t1
  let c2_i32 : BitVec 32 := 2#32
  let v36 : BitVec 32 := Scalar.muli arg14 c2_i32
  let v37 : BitVec 32 := Scalar.addi v36 c0_i32_21
  let c128_i32 : BitVec 32 := 128#32
  let v38 : BitVec 32 := Scalar.muli v37 c128_i32
  let v39 : BitVec 32 := v38
  let v43 : Index := Scalar.indexCast v39
  let c0_26 : Index := 0#32
  ![v43.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_28 : BitVec 32 := 2#32
  let v46 : BitVec 32 := Scalar.muli arg14 c2_i32_28
  let c1_i32_29 : BitVec 32 := 1#32
  let v47 : BitVec 32 := Scalar.addi v46 c1_i32_29
  let c128_i32_30 : BitVec 32 := 128#32
  let v48 : BitVec 32 := Scalar.muli v47 c128_i32_30
  v48
def k0_off3 (k0_t1 : Fin k0_t1_loop.trips) : Fin 5 → Nat :=
  let c0_31 : Index := 0#32
  let c1 : Index := 1#32
  let c0_i32 : BitVec 32 := 0#32
  let c1_i32 : BitVec 32 := 1#32
  let arg14 : BitVec 32 := Scf.iv c0_i32 c1_i32 k0_t1
  let v50 : Index := Scalar.indexCast arg14
  let c0_32 : Index := 0#32
  let c0_33 : Index := 0#32
  ![0, 1, v50.toNat, 0, 0]
def k0_off4 (k0_t1 : Fin k0_t1_loop.trips) : Fin 4 → Nat :=
  let c0_36 : Index := 0#32
  let c0_i32 : BitVec 32 := 0#32
  let c1_i32 : BitVec 32 := 1#32
  let arg14 : BitVec 32 := Scf.iv c0_i32 c1_i32 k0_t1
  let v58 : Index := Scalar.indexCast arg14
  let c0_37 : Index := 0#32
  let c0_38 : Index := 0#32
  ![0, v58.toNat, 0, 0]
def k0_off5 (k0_t1 : Fin k0_t1_loop.trips) : Fin 4 → Nat :=
  let c0_217 : Index := 0#32
  let c0_i32 : BitVec 32 := 0#32
  let c1_i32 : BitVec 32 := 1#32
  let arg14 : BitVec 32 := Scf.iv c0_i32 c1_i32 k0_t1
  let v1486 : Index := Scalar.indexCast arg14
  let c0_218 : Index := 0#32
  let c0_219 : Index := 0#32
  ![0, v1486.toNat, 0, 0]
def k0_off6 (k0_t1 : Fin k0_t1_loop.trips) : Fin 4 → Nat :=
  let c1_227 : Index := 1#32
  let c0_i32 : BitVec 32 := 0#32
  let c1_i32 : BitVec 32 := 1#32
  let arg14 : BitVec 32 := Scf.iv c0_i32 c1_i32 k0_t1
  let v1513 : Index := Scalar.indexCast arg14
  let c0_228 : Index := 0#32
  let c0_229 : Index := 0#32
  ![1, v1513.toNat, 0, 0]
def k0_off7 (k0_t1 : Fin k0_t1_loop.trips) : Fin 4 → Nat :=
  let c1_412 : Index := 1#32
  let c0_i32 : BitVec 32 := 0#32
  let c1_i32 : BitVec 32 := 1#32
  let arg14 : BitVec 32 := Scf.iv c0_i32 c1_i32 k0_t1
  let v2941 : Index := Scalar.indexCast arg14
  let c0_413 : Index := 0#32
  let c0_414 : Index := 0#32
  ![1, v2941.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2x8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RouteRefIdeal.lean ====
abbrev S16384x1024 : Shape := ⟨2, ![16384, 1024]⟩
abbrev S1024 : Shape := ⟨1, ![1024]⟩
abbrev S8x1024 : Shape := ⟨2, ![8, 1024]⟩
abbrev S2x2048x1024 : Shape := ⟨3, ![2, 2048, 1024]⟩
abbrev S2x2x8x128x128 : Shape := ⟨5, ![2, 2, 8, 128, 128]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1x2048x1024 : Shape := ⟨3, ![1, 2048, 1024]⟩
abbrev S2048x1024 : Shape := ⟨2, ![2048, 1024]⟩
abbrev S1024x2048 : Shape := ⟨2, ![1024, 2048]⟩
abbrev S16384x2048 : Shape := ⟨2, ![16384, 2048]⟩
abbrev S16384x8x2x128 : Shape := ⟨4, ![16384, 8, 2, 128]⟩
abbrev S1x2x8x128x128 : Shape := ⟨5, ![1, 2, 8, 128, 128]⟩
abbrev S2x8x128x128 : Shape := ⟨4, ![2, 8, 128, 128]⟩
abbrev S8x2x128x16384 : Shape := ⟨4, ![8, 2, 128, 16384]⟩
abbrev S1024x16384 : Shape := ⟨2, ![1024, 16384]⟩
abbrev S16384x8x1x128 : Shape := ⟨4, ![16384, 8, 1, 128]⟩
abbrev S16384x8x128 : Shape := ⟨3, ![16384, 8, 128]⟩
abbrev S128x128x8x128 : Shape := ⟨4, ![128, 128, 8, 128]⟩
abbrev S128x8x128x128 : Shape := ⟨4, ![128, 8, 128, 128]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S2x2048x1024, .bf16⟩
  | .hbm, ⟨5, _⟩ => ⟨S2x2x8x128x128, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S16384x1024, .f32⟩
  | .hbm, ⟨33, _⟩ => ⟨S1x2048x1024, .bf16⟩
  | .hbm, ⟨34, _⟩ => ⟨S2048x1024, .bf16⟩
  | .hbm, ⟨35, _⟩ => ⟨S2048x1024, .f32⟩
  | .hbm, ⟨36, _⟩ => ⟨S1024x2048, .f32⟩
  | .hbm, ⟨37, _⟩ => ⟨S16384x2048, .f32⟩
  | .hbm, ⟨38, _⟩ => ⟨S16384x8x2x128, .f32⟩
  | .hbm, ⟨39, _⟩ => ⟨S1x2x8x128x128, .f32⟩
  | .hbm, ⟨40, _⟩ => ⟨S2x8x128x128, .f32⟩
  | .hbm, ⟨41, _⟩ => ⟨S8x2x128x16384, .f32⟩
  | .hbm, ⟨42, _⟩ => ⟨S16384x8x2x128, .f32⟩
  | .hbm, ⟨43, _⟩ => ⟨S1024x16384, .f32⟩
  | .hbm, ⟨44, _⟩ => ⟨S1024x16384, .bf16⟩
  | .hbm, ⟨45, _⟩ => ⟨S16384x8x1x128, .f32⟩
  | .hbm, ⟨46, _⟩ => ⟨S16384x8x128, .f32⟩
  | .hbm, ⟨47, _⟩ => ⟨S128x128x8x128, .f32⟩
  | .hbm, ⟨48, _⟩ => ⟨S128x8x128x128, .f32⟩
  | .hbm, ⟨49, _⟩ => ⟨S16384x8x1x128, .f32⟩
  | .hbm, ⟨50, _⟩ => ⟨S16384x8x128, .f32⟩
  | .hbm, ⟨51, _⟩ => ⟨S128x128x8x128, .f32⟩
  | .hbm, ⟨52, _⟩ => ⟨S128x8x128x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== RouteS.lean ====
abbrev S1024x1024 : Shape := ⟨2, ![1024, 1024]⟩
abbrev S1024 : Shape := ⟨1, ![1024]⟩
abbrev S128x1024 : Shape := ⟨2, ![128, 1024]⟩
abbrev S2x2048x1024 : Shape := ⟨3, ![2, 2048, 1024]⟩
abbrev S2x2x8x128x128 : Shape := ⟨5, ![2, 2, 8, 128, 128]⟩
abbrev S1x1024 : Shape := ⟨2, ![1, 1024]⟩
abbrev S128x8x1024 : Shape := ⟨3, ![128, 8, 1024]⟩
abbrev S4x256x1024 : Shape := ⟨3, ![4, 256, 1024]⟩
abbrev S8x8x128x128 : Shape := ⟨4, ![8, 8, 128, 128]⟩
abbrev S8x8x1x128 : Shape := ⟨4, ![8, 8, 1, 128]⟩
abbrev S256x1024 : Shape := ⟨2, ![256, 1024]⟩
abbrev S1x256x1024 : Shape := ⟨3, ![1, 256, 1024]⟩
abbrev S1x2048x1024 : Shape := ⟨3, ![1, 2048, 1024]⟩
abbrev S1x2x8x128x128 : Shape := ⟨5, ![1, 2, 8, 128, 128]⟩
abbrev S1024x256 : Shape := ⟨2, ![1024, 256]⟩
abbrev S2x8x128x128 : Shape := ⟨4, ![2, 8, 128, 128]⟩
abbrev S2x8x1x128 : Shape := ⟨4, ![2, 8, 1, 128]⟩
abbrev S2048x256 : Shape := ⟨2, ![2048, 256]⟩
abbrev S256 : Shape := ⟨1, ![256]⟩
abbrev S256x1 : Shape := ⟨2, ![256, 1]⟩
abbrev S2048x1024 : Shape := ⟨2, ![2048, 1024]⟩
abbrev S1x1x1x128x128 : Shape := ⟨5, ![1, 1, 1, 128, 128]⟩
abbrev S128x128 : Shape := ⟨2, ![128, 128]⟩
abbrev S128x256 : Shape := ⟨2, ![128, 256]⟩
abbrev S1x1x128x128 : Shape := ⟨4, ![1, 1, 128, 128]⟩
abbrev S8x128 : Shape := ⟨2, ![8, 128]⟩
abbrev S1x128 : Shape := ⟨2, ![1, 128]⟩
abbrev S1x1x1x128 : Shape := ⟨4, ![1, 1, 1, 128]⟩

abbrev nBuf : Space → Nat
  | .hbm => 20
  | .vmem => 22
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S2x2048x1024, .bf16⟩
  | .hbm, ⟨5, _⟩ => ⟨S2x2x8x128x128, .f32⟩
  | .hbm, ⟨6, _⟩ => ⟨S1x1024, .f32⟩
  | .hbm, ⟨7, _⟩ => ⟨S2x2x8x128x128, .bf16⟩
  | .hbm, ⟨8, _⟩ => ⟨S128x8x1024, .f32⟩
  | .hbm, ⟨9, _⟩ => ⟨S1024x1024, .f32⟩
  | .hbm, ⟨10, _⟩ => ⟨S4x256x1024, .f32⟩
  | .hbm, ⟨11, _⟩ => ⟨S128x8x1024, .f32⟩
  | .hbm, ⟨12, _⟩ => ⟨S1024x1024, .f32⟩
  | .hbm, ⟨13, _⟩ => ⟨S4x256x1024, .f32⟩
  | .hbm, ⟨14, _⟩ => ⟨S1024x1024, .bf16⟩
  | .hbm, ⟨15, _⟩ => ⟨S8x8x128x128, .f32⟩
  | .hbm, ⟨16, _⟩ => ⟨S8x8x128x128, .f32⟩
  | .hbm, ⟨17, _⟩ => ⟨S8x8x128x128, .f32⟩
  | .hbm, ⟨18, _⟩ => ⟨S8x8x128x128, .f32⟩
  | .hbm, ⟨19, _⟩ => ⟨S8x8x1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x2048x1024, .bf16⟩
  | .local _ .vmem, ⟨8, _⟩ => ⟨S1x2x8x128x128, .bf16⟩
  | .local _ .vmem, ⟨9, _⟩ => ⟨S1024x256, .bf16⟩
  | .local _ .vmem, ⟨10, _⟩ => ⟨S1024x256, .bf16⟩
  | .local _ .vmem, ⟨11, _⟩ => ⟨S2x8x128x128, .f32⟩
  | .local _ .vmem, ⟨12, _⟩ => ⟨S2x8x128x128, .f32⟩
  | .local _ .vmem, ⟨13, _⟩ => ⟨S2x8x128x128, .f32⟩
  | .local _ .vmem, ⟨14, _⟩ => ⟨S2x8x128x128, .f32⟩
  | .local _ .vmem, ⟨15, _⟩ => ⟨S2x8x128x128, .f32⟩
  | .local _ .vmem, ⟨16, _⟩ => ⟨S2x8x128x128, .f32⟩
  | .local _ .vmem, ⟨17, _⟩ => ⟨S2x8x128x128, .f32⟩
  | .local _ .vmem, ⟨18, _⟩ => ⟨S2x8x128x128, .f32⟩
  | .local _ .vmem, ⟨19, _⟩ => ⟨S2x8x1x128, .f32⟩
  | .local _ .vmem, ⟨20, _⟩ => ⟨S2x8x1x128, .f32⟩
  | .local _ .vmem, ⟨21, _⟩ => ⟨S2048x256, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v33 : BitVec 32 := Scalar.addi c0_i32 c8_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32 : BitVec 32 := 2#32
  let v34 : BitVec 32 := Scalar.muli arg14 c2_i32
  let c0_i32_21 : BitVec 32 := 0#32
  let v35 : BitVec 32 := Scalar.addi v34 c0_i32_21
  let c128_i32 : BitVec 32 := 128#32
  let v36 : BitVec 32 := Scalar.muli v35 c128_i32
  v36
def k0_off1 (k0_t1 : Fin k0_t1_loop.trips) : Fin 5 → Nat :=
  let c0_22 : Index := 0#32
  let c0_23 : Index := 0#32
  let c0_i32 : BitVec 32 := 0#32
  let c1_i32 : BitVec 32 := 1#32
  let arg14 : BitVec 32 := Scf.iv c0_i32 c1_i32 k0_t1
  let v38 : Index := Scalar.indexCast arg14
  let c0_24 : Index := 0#32
  let c0_25 : Index := 0#32
  ![0, 0, v38.toNat, 0, 0]
def k0_off2 (k0_t1 : Fin k0_t1_loop.trips) (c0_i32_21 : BitVec 32) : Fin 2 → Nat :=
  let c0_i32 : BitVec 32 := 0#32
  let c1_i32 : BitVec 32 := 1#32
  let arg14 : BitVec 32 := Scf.iv c0_i32 c1_i32 k0_t1
  let c2_i32 : BitVec 32 := 2#32
  let v34 : BitVec 32 := Scalar.muli arg14 c2_i32
  let v35 : BitVec 32 := Scalar.addi v34 c0_i32_21
  let c128_i32 : BitVec 32 := 128#32
  let v36 : BitVec 32 := Scalar.muli v35 c128_i32
  let v37 : BitVec 32 := v36
  let v41 : Index := Scalar.indexCast v37
  let c0_26 : Index := 0#32
  ![v41.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_28 : BitVec 32 := 2#32
  let v44 : BitVec 32 := Scalar.muli arg14 c2_i32_28
  let c1_i32_29 : BitVec 32 := 1#32
  let v45 : BitVec 32 := Scalar.addi v44 c1_i32_29
  let c128_i32_30 : BitVec 32 := 128#32
  let v46 : BitVec 32 := Scalar.muli v45 c128_i32_30
  v46
def k0_off3 (k0_t1 : Fin k0_t1_loop.trips) : Fin 5 → Nat :=
  let c0_31 : Index := 0#32
  let c1 : Index := 1#32
  let c0_i32 : BitVec 32 := 0#32
  let c1_i32 : BitVec 32 := 1#32
  let arg14 : BitVec 32 := Scf.iv c0_i32 c1_i32 k0_t1
  let v48 : Index := Scalar.indexCast arg14
  let c0_32 : Index := 0#32
  let c0_33 : Index := 0#32
  ![0, 1, v48.toNat, 0, 0]
def k0_off4 (k0_t1 : Fin k0_t1_loop.trips) : Fin 4 → Nat :=
  let c0_36 : Index := 0#32
  let c0_i32 : BitVec 32 := 0#32
  let c1_i32 : BitVec 32 := 1#32
  let arg14 : BitVec 32 := Scf.iv c0_i32 c1_i32 k0_t1
  let v56 : Index := Scalar.indexCast arg14
  let c0_37 : Index := 0#32
  let c0_38 : Index := 0#32
  ![0, v56.toNat, 0, 0]
def k0_off5 (k0_t1 : Fin k0_t1_loop.trips) : Fin 4 → Nat :=
  let c0_217 : Index := 0#32
  let c0_i32 : BitVec 32 := 0#32
  let c1_i32 : BitVec 32 := 1#32
  let arg14 : BitVec 32 := Scf.iv c0_i32 c1_i32 k0_t1
  let v1484 : Index := Scalar.indexCast arg14
  let c0_218 : Index := 0#32
  let c0_219 : Index := 0#32
  ![0, v1484.toNat, 0, 0]
def k0_off6 (k0_t1 : Fin k0_t1_loop.trips) : Fin 4 → Nat :=
  let c1_227 : Index := 1#32
  let c0_i32 : BitVec 32 := 0#32
  let c1_i32 : BitVec 32 := 1#32
  let arg14 : BitVec 32 := Scf.iv c0_i32 c1_i32 k0_t1
  let v1511 : Index := Scalar.indexCast arg14
  let c0_228 : Index := 0#32
  let c0_229 : Index := 0#32
  ![1, v1511.toNat, 0, 0]
def k0_off7 (k0_t1 : Fin k0_t1_loop.trips) : Fin 4 → Nat :=
  let c1_412 : Index := 1#32
  let c0_i32 : BitVec 32 := 0#32
  let c1_i32 : BitVec 32 := 1#32
  let arg14 : BitVec 32 := Scf.iv c0_i32 c1_i32 k0_t1
  let v2939 : Index := Scalar.indexCast arg14
  let c0_413 : Index := 0#32
  let c0_414 : Index := 0#32
  ![1, v2939.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2x8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RouteSRefIdeal.lean ====
abbrev S1024x1024 : Shape := ⟨2, ![1024, 1024]⟩
abbrev S1024 : Shape := ⟨1, ![1024]⟩
abbrev S128x1024 : Shape := ⟨2, ![128, 1024]⟩
abbrev S2x2048x1024 : Shape := ⟨3, ![2, 2048, 1024]⟩
abbrev S2x2x8x128x128 : Shape := ⟨5, ![2, 2, 8, 128, 128]⟩
abbrev S128x8x1024 : Shape := ⟨3, ![128, 8, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S1x2048x1024 : Shape := ⟨3, ![1, 2048, 1024]⟩
abbrev S2048x1024 : Shape := ⟨2, ![2048, 1024]⟩
abbrev S1024x2048 : Shape := ⟨2, ![1024, 2048]⟩
abbrev S1024x8x2x128 : Shape := ⟨4, ![1024, 8, 2, 128]⟩
abbrev S1x2x8x128x128 : Shape := ⟨5, ![1, 2, 8, 128, 128]⟩
abbrev S2x8x128x128 : Shape := ⟨4, ![2, 8, 128, 128]⟩
abbrev S8x2x128x1024 : Shape := ⟨4, ![8, 2, 128, 1024]⟩
abbrev S1024x8x1x128 : Shape := ⟨4, ![1024, 8, 1, 128]⟩
abbrev S1024x8x128 : Shape := ⟨3, ![1024, 8, 128]⟩
abbrev S8x128x8x128 : Shape := ⟨4, ![8, 128, 8, 128]⟩
abbrev S8x8x128x128 : Shape := ⟨4, ![8, 8, 128, 128]⟩

abbrev nBuf : Space → Nat
  | .hbm => 53
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S2x2048x1024, .bf16⟩
  | .hbm, ⟨5, _⟩ => ⟨S2x2x8x128x128, .f32⟩
  | .hbm, ⟨6, _⟩ => ⟨S128x8x1024, .f32⟩
  | .hbm, ⟨7, _⟩ => ⟨S128x8x1024, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x1024, .f32⟩
  | .hbm, ⟨19, _⟩ => ⟨S128x8x1024, .f32⟩
  | .hbm, ⟨20, _⟩ => ⟨S1x1x1024, .f32⟩
  | .hbm, ⟨21, _⟩ => ⟨S128x8x1024, .f32⟩
  | .hbm, ⟨22, _⟩ => ⟨S128x8x1024, .f32⟩
  | .hbm, ⟨23, _⟩ => ⟨S128x1x1024, .f32⟩
  | .hbm, ⟨24, _⟩ => ⟨S_, .f32⟩
  | .hbm, ⟨25, _⟩ => ⟨S128x1x1024, .f32⟩
  | .hbm, ⟨26, _⟩ => ⟨S128x1x1024, .f32⟩
  | .hbm, ⟨27, _⟩ => ⟨S128x8x1024, .f32⟩
  | .hbm, ⟨28, _⟩ => ⟨S128x8x1024, .f32⟩
  | .hbm, ⟨29, _⟩ => ⟨S128x1x1024, .f32⟩
  | .hbm, ⟨30, _⟩ => ⟨S128x8x1024, .f32⟩
  | .hbm, ⟨31, _⟩ => ⟨S128x8x1024, .f32⟩
  | .hbm, ⟨32, _⟩ => ⟨S1024x1024, .f32⟩
  | .hbm, ⟨33, _⟩ => ⟨S1x2048x1024, .bf16⟩
  | .hbm, ⟨34, _⟩ => ⟨S2048x1024, .bf16⟩
  | .hbm, ⟨35, _⟩ => ⟨S2048x1024, .f32⟩
  | .hbm, ⟨36, _⟩ => ⟨S1024x2048, .f32⟩
  | .hbm, ⟨37, _⟩ => ⟨S1024x2048, .f32⟩
  | .hbm, ⟨38, _⟩ => ⟨S1024x8x2x128, .f32⟩
  | .hbm, ⟨39, _⟩ => ⟨S1x2x8x128x128, .f32⟩
  | .hbm, ⟨40, _⟩ => ⟨S2x8x128x128, .f32⟩
  | .hbm, ⟨41, _⟩ => ⟨S8x2x128x1024, .f32⟩
  | .hbm, ⟨42, _⟩ => ⟨S1024x8x2x128, .f32⟩
  | .hbm, ⟨43, _⟩ => ⟨S1024x1024, .f32⟩
  | .hbm, ⟨44, _⟩ => ⟨S1024x1024, .bf16⟩
  | .hbm, ⟨45, _⟩ => ⟨S1024x8x1x128, .f32⟩
  | .hbm, ⟨46, _⟩ => ⟨S1024x8x128, .f32⟩
  | .hbm, ⟨47, _⟩ => ⟨S8x128x8x128, .f32⟩
  | .hbm, ⟨48, _⟩ => ⟨S8x8x128x128, .f32⟩
  | .hbm, ⟨49, _⟩ => ⟨S1024x8x1x128, .f32⟩
  | .hbm, ⟨50, _⟩ => ⟨S1024x8x128, .f32⟩
  | .hbm, ⟨51, _⟩ => ⟨S8x128x8x128, .f32⟩
  | .hbm, ⟨52, _⟩ => ⟨S8x8x128x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== RouteU.lean ====
abbrev S16384x1024 : Shape := ⟨2, ![16384, 1024]⟩
abbrev S1024 : Shape := ⟨1, ![1024]⟩
abbrev S8x1024 : Shape := ⟨2, ![8, 1024]⟩
abbrev S2x2048x1024 : Shape := ⟨3, ![2, 2048, 1024]⟩
abbrev S2x2x8x128x128 : Shape := ⟨5, ![2, 2, 8, 128, 128]⟩
abbrev S1x1024 : Shape := ⟨2, ![1, 1024]⟩
abbrev S8x1x1024 : Shape := ⟨3, ![8, 1, 1024]⟩
abbrev S1024x16384 : Shape := ⟨2, ![1024, 16384]⟩
abbrev S128x8x128x128 : Shape := ⟨4, ![128, 8, 128, 128]⟩
abbrev S128x8x1x128 : Shape := ⟨4, ![128, 8, 1, 128]⟩
abbrev S256x1024 : Shape := ⟨2, ![256, 1024]⟩
abbrev S1x1x1024 : Shape := ⟨3, ![1, 1, 1024]⟩
abbrev S1x2048x1024 : Shape := ⟨3, ![1, 2048, 1024]⟩
abbrev S1x2x8x128x128 : Shape := ⟨5, ![1, 2, 8, 128, 128]⟩
abbrev S1024x256 : Shape := ⟨2, ![1024, 256]⟩
abbrev S2x8x128x128 : Shape := ⟨4, ![2, 8, 128, 128]⟩
abbrev S2x8x1x128 : Shape := ⟨4, ![2, 8, 1, 128]⟩
abbrev S2048x256 : Shape := ⟨2, ![2048, 256]⟩
abbrev S256 : Shape := ⟨1, ![256]⟩
abbrev S256x1 : Shape := ⟨2, ![256, 1]⟩
abbrev S2048x1024 : Shape := ⟨2, ![2048, 1024]⟩
abbrev S1x1x1x128x128 : Shape := ⟨5, ![1, 1, 1, 128, 128]⟩
abbrev S128x128 : Shape := ⟨2, ![128, 128]⟩
abbrev S128x256 : Shape := ⟨2, ![128, 256]⟩
abbrev S1x1x128x128 : Shape := ⟨4, ![1, 1, 128, 128]⟩
abbrev S8x128 : Shape := ⟨2, ![8, 128]⟩
abbrev S1x128 : Shape := ⟨2, ![1, 128]⟩
abbrev S1x1x1x128 : Shape := ⟨4, ![1, 1, 1, 128]⟩

abbrev nBuf : Space → Nat
  | .hbm => 16
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S2x2048x1024, .bf16⟩
  | .hbm, ⟨5, _⟩ => ⟨S2x2x8x128x128, .f32⟩
  | .hbm, ⟨6, _⟩ => ⟨S1x1024, .f32⟩
  | .hbm, ⟨7, _⟩ => ⟨S2x2x8x128x128, .bf16⟩
  | .hbm, ⟨8, _⟩ => ⟨S8x1x1024, .f32⟩
  | .hbm, ⟨9, _⟩ => ⟨S8x1x1024, .f32⟩
  | .hbm, ⟨10, _⟩ => ⟨S1024x16384, .bf16⟩
  | .hbm, ⟨11, _⟩ => ⟨S128x8x128x128, .f32⟩
  | .hbm, ⟨12, _⟩ => ⟨S128x8x128x128, .f32⟩
  | .hbm, ⟨13, _⟩ => ⟨S128x8x128x128, .f32⟩
  | .hbm, ⟨14, _⟩ => ⟨S128x8x128x128, .f32⟩
  | .hbm, ⟨15, _⟩ => ⟨S128x8x1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x2048x1024, .bf16⟩
  | .local _ .vmem, ⟨8, _⟩ => ⟨S1x2x8x128x128, .bf16⟩
  | .local _ .vmem, ⟨9, _⟩ => ⟨S1024x256, .bf16⟩
  | .local _ .vmem, ⟨10, _⟩ => ⟨S1024x256, .bf16⟩
  | .local _ .vmem, ⟨11, _⟩ => ⟨S2x8x128x128, .f32⟩
  | .local _ .vmem, ⟨12, _⟩ => ⟨S2x8x128x128, .f32⟩
  | .local _ .vmem, ⟨13, _⟩ => ⟨S2x8x128x128, .f32⟩
  | .local _ .vmem, ⟨14, _⟩ => ⟨S2x8x128x128, .f32⟩
  | .local _ .vmem, ⟨15, _⟩ => ⟨S2x8x128x128, .f32⟩
  | .local _ .vmem, ⟨16, _⟩ => ⟨S2x8x128x128, .f32⟩
  | .local _ .vmem, ⟨17, _⟩ => ⟨S2x8x128x128, .f32⟩
  | .local _ .vmem, ⟨18, _⟩ => ⟨S2x8x128x128, .f32⟩
  | .local _ .vmem, ⟨19, _⟩ => ⟨S2x8x1x128, .f32⟩
  | .local _ .vmem, ⟨20, _⟩ => ⟨S2x8x1x128, .f32⟩
  | .local _ .vmem, ⟨21, _⟩ => ⟨S2048x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v35 : BitVec 32 := Scalar.addi c0_i32 c8_i32
  let c1_i32 : BitVec 32 := 1#32
  ⟨c0_i32, v35, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32 : BitVec 32 := 2#32
  let v36 : BitVec 32 := Scalar.muli arg14 c2_i32
  let c0_i32_21 : BitVec 32 := 0#32
  let v37 : BitVec 32 := Scalar.addi v36 c0_i32_21
  let c128_i32 : BitVec 32 := 128#32
  let v38 : BitVec 32 := Scalar.muli v37 c128_i32
  v38
def k0_off1 (k0_t1 : Fin k0_t1_loop.trips) : Fin 5 → Nat :=
  let c0_22 : Index := 0#32
  let c0_23 : Index := 0#32
  let c0_i32 : BitVec 32 := 0#32
  let c1_i32 : BitVec 32 := 1#32
  let arg14 : BitVec 32 := Scf.iv c0_i32 c1_i32 k0_t1
  let v40 : Index := Scalar.indexCast arg14
  let c0_24 : Index := 0#32
  let c0_25 : Index := 0#32
  ![0, 0, v40.toNat, 0, 0]
def k0_off2 (k0_t1 : Fin k0_t1_loop.trips) (c0_i32_21 : BitVec 32) : Fin 2 → Nat :=
  let c0_i32 : BitVec 32 := 0#32
  let c1_i32 : BitVec 32 := 1#32
  let arg14 : BitVec 32 := Scf.iv c0_i32 c1_i32 k0_t1
  let c2_i32 : BitVec 32 := 2#32
  let v36 : BitVec 32 := Scalar.muli arg14 c2_i32
  let v37 : BitVec 32 := Scalar.addi v36 c0_i32_21
  let c128_i32 : BitVec 32 := 128#32
  let v38 : BitVec 32 := Scalar.muli v37 c128_i32
  let v39 : BitVec 32 := v38
  let v43 : Index := Scalar.indexCast v39
  let c0_26 : Index := 0#32
  ![v43.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_28 : BitVec 32 := 2#32
  let v46 : BitVec 32 := Scalar.muli arg14 c2_i32_28
  let c1_i32_29 : BitVec 32 := 1#32
  let v47 : BitVec 32 := Scalar.addi v46 c1_i32_29
  let c128_i32_30 : BitVec 32 := 128#32
  let v48 : BitVec 32 := Scalar.muli v47 c128_i32_30
  v48
def k0_off3 (k0_t1 : Fin k0_t1_loop.trips) : Fin 5 → Nat :=
  let c0_31 : Index := 0#32
  let c1 : Index := 1#32
  let c0_i32 : BitVec 32 := 0#32
  let c1_i32 : BitVec 32 := 1#32
  let arg14 : BitVec 32 := Scf.iv c0_i32 c1_i32 k0_t1
  let v50 : Index := Scalar.indexCast arg14
  let c0_32 : Index := 0#32
  let c0_33 : Index := 0#32
  ![0, 1, v50.toNat, 0, 0]
def k0_off4 (k0_t1 : Fin k0_t1_loop.trips) : Fin 4 → Nat :=
  let c0_36 : Index := 0#32
  let c0_i32 : BitVec 32 := 0#32
  let c1_i32 : BitVec 32 := 1#32
  let arg14 : BitVec 32 := Scf.iv c0_i32 c1_i32 k0_t1
  let v58 : Index := Scalar.indexCast arg14
  let c0_37 : Index := 0#32
  let c0_38 : Index := 0#32
  ![0, v58.toNat, 0, 0]
def k0_off5 (k0_t1 : Fin k0_t1_loop.trips) : Fin 4 → Nat :=
  let c0_217 : Index := 0#32
  let c0_i32 : BitVec 32 := 0#32
  let c1_i32 : BitVec 32 := 1#32
  let arg14 : BitVec 32 := Scf.iv c0_i32 c1_i32 k0_t1
  let v1486 : Index := Scalar.indexCast arg14
  let c0_218 : Index := 0#32
  let c0_219 : Index := 0#32
  ![0, v1486.toNat, 0, 0]
def k0_off6 (k0_t1 : Fin k0_t1_loop.trips) : Fin 4 → Nat :=
  let c1_227 : Index := 1#32
  let c0_i32 : BitVec 32 := 0#32
  let c1_i32 : BitVec 32 := 1#32
  let arg14 : BitVec 32 := Scf.iv c0_i32 c1_i32 k0_t1
  let v1513 : Index := Scalar.indexCast arg14
  let c0_228 : Index := 0#32
  let c0_229 : Index := 0#32
  ![1, v1513.toNat, 0, 0]
def k0_off7 (k0_t1 : Fin k0_t1_loop.trips) : Fin 4 → Nat :=
  let c1_412 : Index := 1#32
  let c0_i32 : BitVec 32 := 0#32
  let c1_i32 : BitVec 32 := 1#32
  let arg14 : BitVec 32 := Scf.iv c0_i32 c1_i32 k0_t1
  let v2941 : Index := Scalar.indexCast arg14
  let c0_413 : Index := 0#32
  let c0_414 : Index := 0#32
  ![1, v2941.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2x8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RouteURefIdeal.lean ====
abbrev S16384x1024 : Shape := ⟨2, ![16384, 1024]⟩
abbrev S1024 : Shape := ⟨1, ![1024]⟩
abbrev S8x1024 : Shape := ⟨2, ![8, 1024]⟩
abbrev S2x2048x1024 : Shape := ⟨3, ![2, 2048, 1024]⟩
abbrev S2x2x8x128x128 : Shape := ⟨5, ![2, 2, 8, 128, 128]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1x2048x1024 : Shape := ⟨3, ![1, 2048, 1024]⟩
abbrev S2048x1024 : Shape := ⟨2, ![2048, 1024]⟩
abbrev S1024x2048 : Shape := ⟨2, ![1024, 2048]⟩
abbrev S16384x2048 : Shape := ⟨2, ![16384, 2048]⟩
abbrev S16384x8x2x128 : Shape := ⟨4, ![16384, 8, 2, 128]⟩
abbrev S1x2x8x128x128 : Shape := ⟨5, ![1, 2, 8, 128, 128]⟩
abbrev S2x8x128x128 : Shape := ⟨4, ![2, 8, 128, 128]⟩
abbrev S8x2x128x16384 : Shape := ⟨4, ![8, 2, 128, 16384]⟩
abbrev S1024x16384 : Shape := ⟨2, ![1024, 16384]⟩
abbrev S16384x8x1x128 : Shape := ⟨4, ![16384, 8, 1, 128]⟩
abbrev S16384x8x128 : Shape := ⟨3, ![16384, 8, 128]⟩
abbrev S128x128x8x128 : Shape := ⟨4, ![128, 128, 8, 128]⟩
abbrev S128x8x128x128 : Shape := ⟨4, ![128, 8, 128, 128]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S2x2048x1024, .bf16⟩
  | .hbm, ⟨5, _⟩ => ⟨S2x2x8x128x128, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S16384x1024, .f32⟩
  | .hbm, ⟨33, _⟩ => ⟨S1x2048x1024, .bf16⟩
  | .hbm, ⟨34, _⟩ => ⟨S2048x1024, .bf16⟩
  | .hbm, ⟨35, _⟩ => ⟨S2048x1024, .f32⟩
  | .hbm, ⟨36, _⟩ => ⟨S1024x2048, .f32⟩
  | .hbm, ⟨37, _⟩ => ⟨S16384x2048, .f32⟩
  | .hbm, ⟨38, _⟩ => ⟨S16384x8x2x128, .f32⟩
  | .hbm, ⟨39, _⟩ => ⟨S1x2x8x128x128, .f32⟩
  | .hbm, ⟨40, _⟩ => ⟨S2x8x128x128, .f32⟩
  | .hbm, ⟨41, _⟩ => ⟨S8x2x128x16384, .f32⟩
  | .hbm, ⟨42, _⟩ => ⟨S16384x8x2x128, .f32⟩
  | .hbm, ⟨43, _⟩ => ⟨S1024x16384, .f32⟩
  | .hbm, ⟨44, _⟩ => ⟨S1024x16384, .bf16⟩
  | .hbm, ⟨45, _⟩ => ⟨S16384x8x1x128, .f32⟩
  | .hbm, ⟨46, _⟩ => ⟨S16384x8x128, .f32⟩
  | .hbm, ⟨47, _⟩ => ⟨S128x128x8x128, .f32⟩
  | .hbm, ⟨48, _⟩ => ⟨S128x8x128x128, .f32⟩
  | .hbm, ⟨49, _⟩ => ⟨S16384x8x1x128, .f32⟩
  | .hbm, ⟨50, _⟩ => ⟨S16384x8x128, .f32⟩
  | .hbm, ⟨51, _⟩ => ⟨S128x128x8x128, .f32⟩
  | .hbm, ⟨52, _⟩ => ⟨S128x8x128x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== RouteV.lean ====
abbrev S1024x1024 : Shape := ⟨2, ![1024, 1024]⟩
abbrev S1024 : Shape := ⟨1, ![1024]⟩
abbrev S128x1024 : Shape := ⟨2, ![128, 1024]⟩
abbrev S2x2048x1024 : Shape := ⟨3, ![2, 2048, 1024]⟩
abbrev S2x2x8x128x128 : Shape := ⟨5, ![2, 2, 8, 128, 128]⟩
abbrev S1x1024 : Shape := ⟨2, ![1, 1024]⟩
abbrev S128x8x1024 : Shape := ⟨3, ![128, 8, 1024]⟩
abbrev S4x256x1024 : Shape := ⟨3, ![4, 256, 1024]⟩
abbrev S8x8x128x128 : Shape := ⟨4, ![8, 8, 128, 128]⟩
abbrev S8x8x1x128 : Shape := ⟨4, ![8, 8, 1, 128]⟩
abbrev S256x1024 : Shape := ⟨2, ![256, 1024]⟩
abbrev S1x256x1024 : Shape := ⟨3, ![1, 256, 1024]⟩
abbrev S1x2048x1024 : Shape := ⟨3, ![1, 2048, 1024]⟩
abbrev S1x2x8x128x128 : Shape := ⟨5, ![1, 2, 8, 128, 128]⟩
abbrev S1024x256 : Shape := ⟨2, ![1024, 256]⟩
abbrev S2x8x128x128 : Shape := ⟨4, ![2, 8, 128, 128]⟩
abbrev S2x8x1x128 : Shape := ⟨4, ![2, 8, 1, 128]⟩
abbrev S2048x256 : Shape := ⟨2, ![2048, 256]⟩
abbrev S256 : Shape := ⟨1, ![256]⟩
abbrev S256x1 : Shape := ⟨2, ![256, 1]⟩
abbrev S2048x1024 : Shape := ⟨2, ![2048, 1024]⟩
abbrev S1x1x1x128x128 : Shape := ⟨5, ![1, 1, 1, 128, 128]⟩
abbrev S128x128 : Shape := ⟨2, ![128, 128]⟩
abbrev S128x256 : Shape := ⟨2, ![128, 256]⟩
abbrev S1x1x128x128 : Shape := ⟨4, ![1, 1, 128, 128]⟩
abbrev S8x128 : Shape := ⟨2, ![8, 128]⟩
abbrev S1x128 : Shape := ⟨2, ![1, 128]⟩
abbrev S1x1x1x128 : Shape := ⟨4, ![1, 1, 1, 128]⟩

abbrev nBuf : Space → Nat
  | .hbm => 20
  | .vmem => 22
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S2x2048x1024, .bf16⟩
  | .hbm, ⟨5, _⟩ => ⟨S2x2x8x128x128, .f32⟩
  | .hbm, ⟨6, _⟩ => ⟨S1x1024, .f32⟩
  | .hbm, ⟨7, _⟩ => ⟨S2x2x8x128x128, .bf16⟩
  | .hbm, ⟨8, _⟩ => ⟨S128x8x1024, .f32⟩
  | .hbm, ⟨9, _⟩ => ⟨S1024x1024, .f32⟩
  | .hbm, ⟨10, _⟩ => ⟨S4x256x1024, .f32⟩
  | .hbm, ⟨11, _⟩ => ⟨S128x8x1024, .f32⟩
  | .hbm, ⟨12, _⟩ => ⟨S1024x1024, .f32⟩
  | .hbm, ⟨13, _⟩ => ⟨S4x256x1024, .f32⟩
  | .hbm, ⟨14, _⟩ => ⟨S1024x1024, .bf16⟩
  | .hbm, ⟨15, _⟩ => ⟨S8x8x128x128, .f32⟩
  | .hbm, ⟨16, _⟩ => ⟨S8x8x128x128, .f32⟩
  | .hbm, ⟨17, _⟩ => ⟨S8x8x128x128, .f32⟩
  | .hbm, ⟨18, _⟩ => ⟨S8x8x128x128, .f32⟩
  | .hbm, ⟨19, _⟩ => ⟨S8x8x1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x2048x1024, .bf16⟩
  | .local _ .vmem, ⟨8, _⟩ => ⟨S1x2x8x128x128, .bf16⟩
  | .local _ .vmem, ⟨9, _⟩ => ⟨S1024x256, .bf16⟩
  | .local _ .vmem, ⟨10, _⟩ => ⟨S1024x256, .bf16⟩
  | .local _ .vmem, ⟨11, _⟩ => ⟨S2x8x128x128, .f32⟩
  | .local _ .vmem, ⟨12, _⟩ => ⟨S2x8x128x128, .f32⟩
  | .local _ .vmem, ⟨13, _⟩ => ⟨S2x8x128x128, .f32⟩
  | .local _ .vmem, ⟨14, _⟩ => ⟨S2x8x128x128, .f32⟩
  | .local _ .vmem, ⟨15, _⟩ => ⟨S2x8x128x128, .f32⟩
  | .local _ .vmem, ⟨16, _⟩ => ⟨S2x8x128x128, .f32⟩
  | .local _ .vmem, ⟨17, _⟩ => ⟨S2x8x128x128, .f32⟩
  | .local _ .vmem, ⟨18, _⟩ => ⟨S2x8x128x128, .f32⟩
  | .local _ .vmem, ⟨19, _⟩ => ⟨S2x8x1x128, .f32⟩
  | .local _ .vmem, ⟨20, _⟩ => ⟨S2x8x1x128, .f32⟩
  | .local _ .vmem, ⟨21, _⟩ => ⟨S2048x256, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v33 : BitVec 32 := Scalar.addi c0_i32 c8_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32 : BitVec 32 := 2#32
  let v34 : BitVec 32 := Scalar.muli arg14 c2_i32
  let c0_i32_21 : BitVec 32 := 0#32
  let v35 : BitVec 32 := Scalar.addi v34 c0_i32_21
  let c128_i32 : BitVec 32 := 128#32
  let v36 : BitVec 32 := Scalar.muli v35 c128_i32
  v36
def k0_off1 (k0_t1 : Fin k0_t1_loop.trips) : Fin 5 → Nat :=
  let c0_22 : Index := 0#32
  let c0_23 : Index := 0#32
  let c0_i32 : BitVec 32 := 0#32
  let c1_i32 : BitVec 32 := 1#32
  let arg14 : BitVec 32 := Scf.iv c0_i32 c1_i32 k0_t1
  let v38 : Index := Scalar.indexCast arg14
  let c0_24 : Index := 0#32
  let c0_25 : Index := 0#32
  ![0, 0, v38.toNat, 0, 0]
def k0_off2 (k0_t1 : Fin k0_t1_loop.trips) (c0_i32_21 : BitVec 32) : Fin 2 → Nat :=
  let c0_i32 : BitVec 32 := 0#32
  let c1_i32 : BitVec 32 := 1#32
  let arg14 : BitVec 32 := Scf.iv c0_i32 c1_i32 k0_t1
  let c2_i32 : BitVec 32 := 2#32
  let v34 : BitVec 32 := Scalar.muli arg14 c2_i32
  let v35 : BitVec 32 := Scalar.addi v34 c0_i32_21
  let c128_i32 : BitVec 32 := 128#32
  let v36 : BitVec 32 := Scalar.muli v35 c128_i32
  let v37 : BitVec 32 := v36
  let v41 : Index := Scalar.indexCast v37
  let c0_26 : Index := 0#32
  ![v41.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_28 : BitVec 32 := 2#32
  let v44 : BitVec 32 := Scalar.muli arg14 c2_i32_28
  let c1_i32_29 : BitVec 32 := 1#32
  let v45 : BitVec 32 := Scalar.addi v44 c1_i32_29
  let c128_i32_30 : BitVec 32 := 128#32
  let v46 : BitVec 32 := Scalar.muli v45 c128_i32_30
  v46
def k0_off3 (k0_t1 : Fin k0_t1_loop.trips) : Fin 5 → Nat :=
  let c0_31 : Index := 0#32
  let c1 : Index := 1#32
  let c0_i32 : BitVec 32 := 0#32
  let c1_i32 : BitVec 32 := 1#32
  let arg14 : BitVec 32 := Scf.iv c0_i32 c1_i32 k0_t1
  let v48 : Index := Scalar.indexCast arg14
  let c0_32 : Index := 0#32
  let c0_33 : Index := 0#32
  ![0, 1, v48.toNat, 0, 0]
def k0_off4 (k0_t1 : Fin k0_t1_loop.trips) : Fin 4 → Nat :=
  let c0_36 : Index := 0#32
  let c0_i32 : BitVec 32 := 0#32
  let c1_i32 : BitVec 32 := 1#32
  let arg14 : BitVec 32 := Scf.iv c0_i32 c1_i32 k0_t1
  let v56 : Index := Scalar.indexCast arg14
  let c0_37 : Index := 0#32
  let c0_38 : Index := 0#32
  ![0, v56.toNat, 0, 0]
def k0_off5 (k0_t1 : Fin k0_t1_loop.trips) : Fin 4 → Nat :=
  let c0_217 : Index := 0#32
  let c0_i32 : BitVec 32 := 0#32
  let c1_i32 : BitVec 32 := 1#32
  let arg14 : BitVec 32 := Scf.iv c0_i32 c1_i32 k0_t1
  let v1484 : Index := Scalar.indexCast arg14
  let c0_218 : Index := 0#32
  let c0_219 : Index := 0#32
  ![0, v1484.toNat, 0, 0]
def k0_off6 (k0_t1 : Fin k0_t1_loop.trips) : Fin 4 → Nat :=
  let c1_227 : Index := 1#32
  let c0_i32 : BitVec 32 := 0#32
  let c1_i32 : BitVec 32 := 1#32
  let arg14 : BitVec 32 := Scf.iv c0_i32 c1_i32 k0_t1
  let v1511 : Index := Scalar.indexCast arg14
  let c0_228 : Index := 0#32
  let c0_229 : Index := 0#32
  ![1, v1511.toNat, 0, 0]
def k0_off7 (k0_t1 : Fin k0_t1_loop.trips) : Fin 4 → Nat :=
  let c1_412 : Index := 1#32
  let c0_i32 : BitVec 32 := 0#32
  let c1_i32 : BitVec 32 := 1#32
  let arg14 : BitVec 32 := Scf.iv c0_i32 c1_i32 k0_t1
  let v2939 : Index := Scalar.indexCast arg14
  let c0_413 : Index := 0#32
  let c0_414 : Index := 0#32
  ![1, v2939.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2x8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RouteVRefIdeal.lean ====
abbrev S1024x1024 : Shape := ⟨2, ![1024, 1024]⟩
abbrev S1024 : Shape := ⟨1, ![1024]⟩
abbrev S128x1024 : Shape := ⟨2, ![128, 1024]⟩
abbrev S2x2048x1024 : Shape := ⟨3, ![2, 2048, 1024]⟩
abbrev S2x2x8x128x128 : Shape := ⟨5, ![2, 2, 8, 128, 128]⟩
abbrev S128x8x1024 : Shape := ⟨3, ![128, 8, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S1x2048x1024 : Shape := ⟨3, ![1, 2048, 1024]⟩
abbrev S2048x1024 : Shape := ⟨2, ![2048, 1024]⟩
abbrev S1024x2048 : Shape := ⟨2, ![1024, 2048]⟩
abbrev S1024x8x2x128 : Shape := ⟨4, ![1024, 8, 2, 128]⟩
abbrev S1x2x8x128x128 : Shape := ⟨5, ![1, 2, 8, 128, 128]⟩
abbrev S2x8x128x128 : Shape := ⟨4, ![2, 8, 128, 128]⟩
abbrev S8x2x128x1024 : Shape := ⟨4, ![8, 2, 128, 1024]⟩
abbrev S1024x8x1x128 : Shape := ⟨4, ![1024, 8, 1, 128]⟩
abbrev S1024x8x128 : Shape := ⟨3, ![1024, 8, 128]⟩
abbrev S8x128x8x128 : Shape := ⟨4, ![8, 128, 8, 128]⟩
abbrev S8x8x128x128 : Shape := ⟨4, ![8, 8, 128, 128]⟩

abbrev nBuf : Space → Nat
  | .hbm => 53
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S2x2048x1024, .bf16⟩
  | .hbm, ⟨5, _⟩ => ⟨S2x2x8x128x128, .f32⟩
  | .hbm, ⟨6, _⟩ => ⟨S128x8x1024, .f32⟩
  | .hbm, ⟨7, _⟩ => ⟨S128x8x1024, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x1024, .f32⟩
  | .hbm, ⟨19, _⟩ => ⟨S128x8x1024, .f32⟩
  | .hbm, ⟨20, _⟩ => ⟨S1x1x1024, .f32⟩
  | .hbm, ⟨21, _⟩ => ⟨S128x8x1024, .f32⟩
  | .hbm, ⟨22, _⟩ => ⟨S128x8x1024, .f32⟩
  | .hbm, ⟨23, _⟩ => ⟨S128x1x1024, .f32⟩
  | .hbm, ⟨24, _⟩ => ⟨S_, .f32⟩
  | .hbm, ⟨25, _⟩ => ⟨S128x1x1024, .f32⟩
  | .hbm, ⟨26, _⟩ => ⟨S128x1x1024, .f32⟩
  | .hbm, ⟨27, _⟩ => ⟨S128x8x1024, .f32⟩
  | .hbm, ⟨28, _⟩ => ⟨S128x8x1024, .f32⟩
  | .hbm, ⟨29, _⟩ => ⟨S128x1x1024, .f32⟩
  | .hbm, ⟨30, _⟩ => ⟨S128x8x1024, .f32⟩
  | .hbm, ⟨31, _⟩ => ⟨S128x8x1024, .f32⟩
  | .hbm, ⟨32, _⟩ => ⟨S1024x1024, .f32⟩
  | .hbm, ⟨33, _⟩ => ⟨S1x2048x1024, .bf16⟩
  | .hbm, ⟨34, _⟩ => ⟨S2048x1024, .bf16⟩
  | .hbm, ⟨35, _⟩ => ⟨S2048x1024, .f32⟩
  | .hbm, ⟨36, _⟩ => ⟨S1024x2048, .f32⟩
  | .hbm, ⟨37, _⟩ => ⟨S1024x2048, .f32⟩
  | .hbm, ⟨38, _⟩ => ⟨S1024x8x2x128, .f32⟩
  | .hbm, ⟨39, _⟩ => ⟨S1x2x8x128x128, .f32⟩
  | .hbm, ⟨40, _⟩ => ⟨S2x8x128x128, .f32⟩
  | .hbm, ⟨41, _⟩ => ⟨S8x2x128x1024, .f32⟩
  | .hbm, ⟨42, _⟩ => ⟨S1024x8x2x128, .f32⟩
  | .hbm, ⟨43, _⟩ => ⟨S1024x1024, .f32⟩
  | .hbm, ⟨44, _⟩ => ⟨S1024x1024, .bf16⟩
  | .hbm, ⟨45, _⟩ => ⟨S1024x8x1x128, .f32⟩
  | .hbm, ⟨46, _⟩ => ⟨S1024x8x128, .f32⟩
  | .hbm, ⟨47, _⟩ => ⟨S8x128x8x128, .f32⟩
  | .hbm, ⟨48, _⟩ => ⟨S8x8x128x128, .f32⟩
  | .hbm, ⟨49, _⟩ => ⟨S1024x8x1x128, .f32⟩
  | .hbm, ⟨50, _⟩ => ⟨S1024x8x128, .f32⟩
  | .hbm, ⟨51, _⟩ => ⟨S8x128x8x128, .f32⟩
  | .hbm, ⟨52, _⟩ => ⟨S8x8x128x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Ada.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S2x1x6144 : Shape := ⟨3, ![2, 1, 6144]⟩
abbrev S2x136x6144 : Shape := ⟨3, ![2, 136, 6144]⟩
abbrev S1x1024x1536 : Shape := ⟨3, ![1, 1024, 1536]⟩
abbrev S1x1x1536 : Shape := ⟨3, ![1, 1, 1536]⟩
abbrev S1x136x1536 : Shape := ⟨3, ![1, 136, 1536]⟩
abbrev S1024x1536 : Shape := ⟨2, ![1024, 1536]⟩
abbrev S136x1536 : Shape := ⟨2, ![136, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S2x1x6144, .f32⟩
  | .hbm, ⟨6, _⟩ => ⟨S2x136x6144, .f32⟩
  | .local _ .vmem, ⟨0, _⟩ => ⟨S136x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x136x1536, .f32⟩
  | .local _ .vmem, ⟨6, _⟩ => ⟨S1x136x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩
abbrev S2x6144x128 : Shape := ⟨3, ![2, 6144, 128]⟩
abbrev S2x128x6144 : Shape := ⟨3, ![2, 128, 6144]⟩
abbrev S2x136x6144 : Shape := ⟨3, ![2, 136, 6144]⟩

abbrev nBuf : Space → Nat
  | .hbm => 33
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S2x6144x8, .f32⟩
  | .hbm, ⟨14, _⟩ => ⟨S2x8x6144, .f32⟩
  | .hbm, ⟨15, _⟩ => ⟨S2x1x6144, .f32⟩
  | .hbm, ⟨16, _⟩ => ⟨S2x8x6144, .f32⟩
  | .hbm, ⟨17, _⟩ => ⟨S2x8x6144, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S2x6144x128, .f32⟩
  | .hbm, ⟨28, _⟩ => ⟨S2x128x6144, .f32⟩
  | .hbm, ⟨29, _⟩ => ⟨S2x1x6144, .f32⟩
  | .hbm, ⟨30, _⟩ => ⟨S2x128x6144, .f32⟩
  | .hbm, ⟨31, _⟩ => ⟨S2x128x6144, .f32⟩
  | .hbm, ⟨32, _⟩ => ⟨S2x136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== TrQ.lean ====
abbrev S2x1024x2048 : Shape := ⟨3, ![2, 1024, 2048]⟩
abbrev S2x2048x1024 : Shape := ⟨3, ![2, 2048, 1024]⟩
abbrev S1x512x2048 : Shape := ⟨3, ![1, 512, 2048]⟩
abbrev S1x2048x512 : Shape := ⟨3, ![1, 2048, 512]⟩
abbrev S512x2048 : Shape := ⟨2, ![512, 2048]⟩
abbrev S2048x512 : Shape := ⟨2, ![2048, 512]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x2048, .f32⟩
  | .hbm, ⟨1, _⟩ => ⟨S2x2048x1024, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048x512, .bf16⟩
  | .local _ .vmem, ⟨3, _⟩ => ⟨S1x2048x512, .bf16⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== TrQRefIdeal.lean ====
abbrev S2x1024x2048 : Shape := ⟨3, ![2, 1024, 2048]⟩
abbrev S2x2048x1024 : Shape := ⟨3, ![2, 2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S2x2048x1024, .f32⟩
  | .hbm, ⟨2, _⟩ => ⟨S2x2048x1024, .bf16⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== TrV.lean ====
abbrev S2x16384x1024 : Shape := ⟨3, ![2, 16384, 1024]⟩
abbrev S2x1024x16384 : Shape := ⟨3, ![2, 1024, 16384]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩

abbrev nBuf : Space → Nat
  | .hbm => 2
  | .vmem => 4
  | .smem => 0
  | _ => 0

abbrev bufTy : (tb : Table) → Fin (tcTables nBuf tb) → BufTy
  | .hbm, ⟨0, _⟩ => ⟨S2x16384x1024, .f32⟩
  | .hbm, ⟨1, _⟩ => ⟨S2x1024x16384, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024x512, .bf16⟩
  | .local _ .vmem, ⟨3, _⟩ => ⟨S1x1024x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== TrVRefIdeal.lean ====
abbrev S2x16384x1024 : Shape := ⟨3, ![2, 16384, 1024]⟩
abbrev S2x1024x16384 : Shape := ⟨3, ![2, 1024, 16384]⟩

abbrev nBuf : Space → Nat
  | .hbm => 3
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024x16384, .f32⟩
  | .hbm, ⟨2, _⟩ => ⟨S2x1024x16384, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Attn.lean ====
abbrev S16384x1024 : Shape := ⟨2, ![16384, 1024]⟩
abbrev S64x1x1024 : Shape := ⟨3, ![64, 1, 1024]⟩
abbrev S8x512x256 : Shape := ⟨3, ![8, 512, 256]⟩
abbrev S16 : Shape := ⟨1, ![16]⟩
abbrev S8x8x1024 : Shape := ⟨3, ![8, 8, 1024]⟩
abbrev S2048x128 : Shape := ⟨2, ![2048, 128]⟩
abbrev S1x8x128 : Shape := ⟨3, ![1, 8, 128]⟩
abbrev S1x512x256 : Shape := ⟨3, ![1, 512, 256]⟩
abbrev S256x128 : Shape := ⟨2, ![256, 128]⟩
abbrev S512x1 : Shape := ⟨2, ![512, 1]⟩
abbrev S1 : Shape := ⟨1, ![1]⟩
abbrev S8x128 : Shape := ⟨2, ![8, 128]⟩
abbrev S120x128 : Shape := ⟨2, ![120, 128]⟩
abbrev S128x128 : Shape := ⟨2, ![128, 128]⟩
abbrev S512x128 : Shape := ⟨2, ![512, 128]⟩
abbrev S512x256 : Shape := ⟨2, ![512, 256]⟩
abbrev S512 : Shape := ⟨1, ![512]⟩

abbrev nBuf : Space → Nat
  | .hbm => 9
  | .vmem => 14
  | .smem => 1
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S64x1x1024, .f32⟩
  | .hbm, ⟨4, _⟩ => ⟨S8x512x256, .f32⟩
  | .hbm, ⟨5, _⟩ => ⟨S8x512x256, .f32⟩
  | .hbm, ⟨6, _⟩ => ⟨S16, .f32⟩
  | .hbm, ⟨7, _⟩ => ⟨S8x8x1024, .f32⟩
  | .hbm, ⟨8, _⟩ => ⟨S16384x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x8x128, .f32⟩
  | .local _ .vmem, ⟨7, _⟩ => ⟨S1x8x128, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S2048x128, .bf16⟩
  | .local _ .vmem, ⟨13, _⟩ => ⟨S2048x128, .bf16⟩
  | .local _ .smem, ⟨0, _⟩ => ⟨S16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_off1 (i : grid0.Coords) : Fin 1 → Nat :=
  let c2_i32 : BitVec 32 := 2#32
  let arg1 : BitVec 32 := BitVec.ofNat 32 (i 1).val
  let v4 : BitVec 32 := Scalar.muli c2_i32 arg1
  let v5 : Index := Scalar.indexCast v4
  ![v5.toNat]
def k0_off2 (i : grid0.Coords) : Fin 1 → Nat :=
  let c2_i32_0 : BitVec 32 := 2#32
  let arg1 : BitVec 32 := BitVec.ofNat 32 (i 1).val
  let v7 : BitVec 32 := Scalar.muli c2_i32_0 arg1
  let c1_i32 : BitVec 32 := 1#32
  let v8 : BitVec 32 := Scalar.addi v7 c1_i32
  let v9 : Index := Scalar.indexCast v8
  ![v9.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16384x1024 : Shape := ⟨2, ![16384, 1024]⟩
abbrev S64x1x1024 : Shape := ⟨3, ![64, 1, 1024]⟩
abbrev S8x512x256 : Shape := ⟨3, ![8, 512, 256]⟩
abbrev S16 : Shape := ⟨1, ![16]⟩
abbrev S8x2048x16x64 : Shape := ⟨4, ![8, 2048, 16, 64]⟩
abbrev S8 : Shape := ⟨1, ![8]⟩
abbrev S8x256 : Shape := ⟨2, ![8, 256]⟩
abbrev S2048 : Shape := ⟨1, ![2048]⟩
abbrev S1x8 : Shape := ⟨2, ![1, 8]⟩
abbrev S2048x1 : Shape := ⟨2, ![2048, 1]⟩
abbrev S2048x8 : Shape := ⟨2, ![2048, 8]⟩
abbrev S8x8x16x64 : Shape := ⟨4, ![8, 8, 16, 64]⟩
abbrev S8x16x2048x8 : Shape := ⟨4, ![8, 16, 2048, 8]⟩
abbrev S_ : Shape := ⟨0, ![]⟩
abbrev S8x16x2048x1x8 : Shape := ⟨5, ![8, 16, 2048, 1, 8]⟩
abbrev S8x16x2048x8x1 : Shape := ⟨5, ![8, 16, 2048, 8, 1]⟩
abbrev S8x16x2048x8x8 : Shape := ⟨5, ![8, 16, 2048, 8, 8]⟩
abbrev S1x1x2048x8 : Shape := ⟨4, ![1, 1, 2048, 8]⟩
abbrev S8x1x1x1 : Shape := ⟨4, ![8, 1, 1, 1]⟩
abbrev S1x1x8x1 : Shape := ⟨4, ![1, 1, 8, 1]⟩
abbrev S8x1x8x1 : Shape := ⟨4, ![8, 1, 8, 1]⟩
abbrev S16x1x256x1x256 : Shape := ⟨5, ![16, 1, 256, 1, 256]⟩
abbrev S16x1x1x1x1 : Shape := ⟨5, ![16, 1, 1, 1, 1]⟩
abbrev S16x8x256x8x256 : Shape := ⟨5, ![16, 8, 256, 8, 256]⟩
abbrev S16x2048x2048 : Shape := ⟨3, ![16, 2048, 2048]⟩
abbrev S8x16x2048x8x256 : Shape := ⟨5, ![8, 16, 2048, 8, 256]⟩
abbrev S8x16x2048x2048 : Shape := ⟨4, ![8, 16, 2048, 2048]⟩
abbrev S1x16x2048x2048 : Shape := ⟨4, ![1, 16, 2048, 2048]⟩
abbrev S8x16x2048 : Shape := ⟨3, ![8, 16, 2048]⟩
abbrev S8x16x2048x1 : Shape := ⟨4, ![8, 16, 2048, 1]⟩
abbrev S8x16x64x2048 : Shape := ⟨4, ![8, 16, 64, 2048]⟩
abbrev S8x2048x16 : Shape := ⟨3, ![8, 2048, 16]⟩
abbrev S8x2048x16x1 : Shape := ⟨4, ![8, 2048, 16, 1]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S64x1x1024, .f32⟩
  | .hbm, ⟨4, _⟩ => ⟨S8x512x256, .f32⟩
  | .hbm, ⟨5, _⟩ => ⟨S8x512x256, .f32⟩
  | .hbm, ⟨6, _⟩ => ⟨S16, .f32⟩
  | .hbm, ⟨7, _⟩ => ⟨S8x2048x16x64, .f32⟩
  | .hbm, ⟨8, _⟩ => ⟨S16384x1024, .f32⟩
  | .hbm, ⟨9, _⟩ => ⟨S8x2048x16x64, .f32⟩
  | .hbm, ⟨10, _⟩ => ⟨S16384x1024, .f32⟩
  | .hbm, ⟨11, _⟩ => ⟨S8x2048x16x64, .f32⟩
  | .hbm, ⟨12, _⟩ => ⟨S8, .i32⟩
  | .hbm, ⟨13, _⟩ => ⟨S8x256, .i32⟩
  | .hbm, ⟨14, _⟩ => ⟨S2048, .i32⟩
  | .hbm, ⟨15, _⟩ => ⟨S1x8, .i32⟩
  | .hbm, ⟨16, _⟩ => ⟨S2048x1, .i32⟩
  | .hbm, ⟨17, _⟩ => ⟨S2048x8, .i32⟩
  | .hbm, ⟨18, _⟩ => ⟨S2048x8, .i32⟩
  | .hbm, ⟨19, _⟩ => ⟨S2048x8, .i1⟩
  | .hbm, ⟨20, _⟩ => ⟨S8x2048x16x64, .f32⟩
  | .hbm, ⟨21, _⟩ => ⟨S8x8x16x64, .f32⟩
  | .hbm, ⟨22, _⟩ => ⟨S8x16x2048x8, .f32⟩
  | .hbm, ⟨23, _⟩ => ⟨S_, .f32⟩
  | .hbm, ⟨24, _⟩ => ⟨S_, .f32⟩
  | .hbm, ⟨25, _⟩ => ⟨S8x16x2048x8, .i1⟩
  | .hbm, ⟨26, _⟩ => ⟨S8x16x2048x8, .f32⟩
  | .hbm, ⟨27, _⟩ => ⟨S8x16x2048x8, .f32⟩
  | .hbm, ⟨28, _⟩ => ⟨S8x16x2048x1x8, .f32⟩
  | .hbm, ⟨29, _⟩ => ⟨S8x16x2048x8x1, .f32⟩
  | .hbm, ⟨30, _⟩ => ⟨S8x16x2048x8x8, .f32⟩
  | .hbm, ⟨31, _⟩ => ⟨S8x16x2048x8x8, .f32⟩
  | .hbm, ⟨32, _⟩ => ⟨S8x16x2048x8x8, .i1⟩
  | .hbm, ⟨33, _⟩ => ⟨S_, .f32⟩
  | .hbm, ⟨34, _⟩ => ⟨S_, .f32⟩
  | .hbm, ⟨35, _⟩ => ⟨S8x16x2048x8x8, .f32⟩
  | .hbm, ⟨36, _⟩ => ⟨S8x16x2048x8x8, .f32⟩
  | .hbm, ⟨37, _⟩ => ⟨S8x16x2048x8x8, .f32⟩
  | .hbm, ⟨38, _⟩ => ⟨S8x16x2048x8x8, .f32⟩
  | .hbm, ⟨39, _⟩ => ⟨S_, .f32⟩
  | .hbm, ⟨40, _⟩ => ⟨S8x16x2048x8, .f32⟩
  | .hbm, ⟨41, _⟩ => ⟨S_, .f32⟩
  | .hbm, ⟨42, _⟩ => ⟨S8x16x2048x8, .f32⟩
  | .hbm, ⟨43, _⟩ => ⟨S8x16x2048x8, .i1⟩
  | .hbm, ⟨44, _⟩ => ⟨S1x1x2048x8, .i1⟩
  | .hbm, ⟨45, _⟩ => ⟨S8x16x2048x8, .i1⟩
  | .hbm, ⟨46, _⟩ => ⟨S8x16x2048x8, .i1⟩
  | .hbm, ⟨47, _⟩ => ⟨S1x8, .i32⟩
  | .hbm, ⟨48, _⟩ => ⟨S2048x1, .i32⟩
  | .hbm, ⟨49, _⟩ => ⟨S2048x8, .i32⟩
  | .hbm, ⟨50, _⟩ => ⟨S2048x8, .i32⟩
  | .hbm, ⟨51, _⟩ => ⟨S2048x8, .i1⟩
  | .hbm, ⟨52, _⟩ => ⟨S1x1x2048x8, .i1⟩
  | .hbm, ⟨53, _⟩ => ⟨S8x16x2048x8, .i1⟩
  | .hbm, ⟨54, _⟩ => ⟨S8x16x2048x8, .i1⟩
  | .hbm, ⟨55, _⟩ => ⟨S8x1x1x1, .i32⟩
  | .hbm, ⟨56, _⟩ => ⟨S1x1x8x1, .i32⟩
  | .hbm, ⟨57, _⟩ => ⟨S8x1x8x1, .i32⟩
  | .hbm, ⟨58, _⟩ => ⟨S8x1x8x1, .i32⟩
  | .hbm, ⟨59, _⟩ => ⟨S8x1x8x1, .i1⟩
  | .hbm, ⟨60, _⟩ => ⟨S16x1x256x1x256, .f32⟩
  | .hbm, ⟨61, _⟩ => ⟨S_, .i32⟩
  | .hbm, ⟨62, _⟩ => ⟨S1x1x8x1, .i32⟩
  | .hbm, ⟨63, _⟩ => ⟨S1x1x8x1, .i32⟩
  | .hbm, ⟨64, _⟩ => ⟨S8x1x8x1, .i32⟩
  | .hbm, ⟨65, _⟩ => ⟨S8x1x8x1, .i32⟩
  | .hbm, ⟨66, _⟩ => ⟨S8x1x8x1, .i1⟩
  | .hbm, ⟨67, _⟩ => ⟨S16x1x256x1x256, .f32⟩
  | .hbm, ⟨68, _⟩ => ⟨S16x1x1x1x1, .f32⟩
  | .hbm, ⟨69, _⟩ => ⟨S16x8x256x8x256, .i1⟩
  | .hbm, ⟨70, _⟩ => ⟨S16x8x256x8x256, .f32⟩
  | .hbm, ⟨71, _⟩ => ⟨S16x8x256x8x256, .f32⟩
  | .hbm, ⟨72, _⟩ => ⟨S16x8x256x8x256, .f32⟩
  | .hbm, ⟨73, _⟩ => ⟨S16x8x256x8x256, .i1⟩
  | .hbm, ⟨74, _⟩ => ⟨S16x8x256x8x256, .f32⟩
  | .hbm, ⟨75, _⟩ => ⟨S16x8x256x8x256, .f32⟩
  | .hbm, ⟨76, _⟩ => ⟨S16x2048x2048, .f32⟩
  | .hbm, ⟨77, _⟩ => ⟨S8x16x2048x8x1, .i1⟩
  | .hbm, ⟨78, _⟩ => ⟨S8x16x2048x8x256, .i1⟩
  | .hbm, ⟨79, _⟩ => ⟨S8x16x2048x2048, .i1⟩
  | .hbm, ⟨80, _⟩ => ⟨S8x16x2048x2048, .f32⟩
  | .hbm, ⟨81, _⟩ => ⟨S_, .f32⟩
  | .hbm, ⟨82, _⟩ => ⟨S8x16x2048x2048, .f32⟩
  | .hbm, ⟨83, _⟩ => ⟨S8x16x2048x2048, .f32⟩
  | .hbm, ⟨84, _⟩ => ⟨S1x16x2048x2048, .f32⟩
  | .hbm, ⟨85, _⟩ => ⟨S8x16x2048x2048, .f32⟩
  | .hbm, ⟨86, _⟩ => ⟨S8x16x2048x2048, .f32⟩
  | .hbm, ⟨87, _⟩ => ⟨S_, .f32⟩
  | .hbm, ⟨88, _⟩ => ⟨S_, .f32⟩
  | .hbm, ⟨89, _⟩ => ⟨S8x16x2048x2048, .f32⟩
  | .hbm, ⟨90, _⟩ => ⟨S8x16x2048x2048, .f32⟩
  | .hbm, ⟨91, _⟩ => ⟨S_, .f32⟩
  | .hbm, ⟨92, _⟩ => ⟨S8x16x2048, .f32⟩
  | .hbm, ⟨93, _⟩ => ⟨S8x16x2048x1, .f32⟩
  | .hbm, ⟨94, _⟩ => ⟨S8x16x2048x2048, .f32⟩
  | .hbm, ⟨95, _⟩ => ⟨S8x16x2048x2048, .f32⟩
  | .hbm, ⟨96, _⟩ => ⟨S8x16x2048x2048, .f32⟩
  | .hbm, ⟨97, _⟩ => ⟨S8x16x64x2048, .f32⟩
  | .hbm, ⟨98, _⟩ => ⟨S8x2048x16x64, .f32⟩
  | .hbm, ⟨99, _⟩ => ⟨S_, .f32⟩
  | .hbm, ⟨100, _⟩ => ⟨S8x16x2048, .f32⟩
  | .hbm, ⟨101, _⟩ => ⟨S8x2048x16, .f32⟩
  | .hbm, ⟨102, _⟩ => ⟨S8x2048x16x1, .f32⟩
  | .hbm, ⟨103, _⟩ => ⟨S8x2048x16x64, .f32⟩
  | .hbm, ⟨104, _⟩ => ⟨S8x2048x16x64, .f32⟩
  | .hbm, ⟨105, _⟩ => ⟨S16384x1024, .f32⟩
  | .hbm, ⟨106, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v51 : Ref sig .tc := ⟨.hbm, 72, rfl⟩
abbrev main_call3_v0 : Ref sig .tc := ⟨.hbm, 73, rfl⟩
abbrev main_call3_v1 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_4 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_5 : Ref sig .tc := ⟨.hbm, 87, rfl⟩
abbrev main_call4_v0 : Ref sig .tc := ⟨.hbm, 88, rfl⟩
abbrev main_call4_v1 : Ref sig .tc := ⟨.hbm, 89, rfl⟩
abbrev main_v63 : Ref sig .tc := ⟨.hbm, 90, rfl⟩
abbrev main_cst_6 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_7 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]
-- ==== Proof.Math.lean ====
module

public import Idealize.ShloMosaic.Lib.Pointwise

/-! The mixer's arithmetic on one row, over the extended reals: what both the kernel and the reference compute. -/

@[expose] public section

noncomputable section

namespace Cert.Mix

open Idealize.ShloMosaic

/-- One element of a root-mean-square norm of the row `x`, scaled by the gain `g`. -/
def nrm (x : Fin 1024 → EReal) (g : EReal) (k : Fin 1024) : EReal :=
  x k * Ideal.rsqrt (Ideal.div (∑ j, x j * x j) (Ideal.ofBits FTy.f32 1149239296#32) + Ideal.ofBits FTy.f32 897988541#32) * g

/-- The tanh form of the Gaussian error unit. -/
def gel (z : EReal) : EReal :=
  z * (Ideal.ofBits FTy.f32 1056964608#32 * (1 + Ideal.tanh (Ideal.ofBits FTy.f32 1061962282#32 *
    (z + Ideal.ofBits FTy.f32 1027024659#32 * (z * (z * z))))))

/-- The modulated norm of a row. -/
def hid (x gm sc sh : Fin 1024 → EReal) (k : Fin 1024) : EReal := nrm x (gm k) k * (1 + sc k) + sh k

/-- The activated projection of a row on one column of the input weights. -/
def act (x gm sc sh : Fin 1024 → EReal) (w : Fin 1024 → Fin 2048 → EReal) (j : Fin 2048) : EReal :=
  gel (∑ k, hid x gm sc sh k * w k j)

/-- The first half of the activated projection. -/
def uAt (x gm sc sh : Fin 1024 → EReal) (w : Fin 1024 → Fin 2048 → EReal) (j : Fin 1024) : EReal :=
  act x gm sc sh w ⟨j.val, by omega⟩

/-- The normed second half of the activated projection. -/
def vAt (x gm sc sh : Fin 1024 → EReal) (w : Fin 1024 → Fin 2048 → EReal) (gv : Fin 1024 → EReal) (j : Fin 1024) : EReal :=
  nrm (fun k => act x gm sc sh w ⟨1024 + k.val, by omega⟩) (gv j) j

/-- The residual: the row plus the gated output projection of `a`. -/
def resAt (x g1 a : Fin 1024 → EReal) (w : Fin 1024 → Fin 1024 → EReal) (j : Fin 1024) : EReal :=
  x j + g1 j * ∑ k, a k * w k j

end Cert.Mix
-- ==== Proof.KerP.lean ====
module

public import proofs.«01_k».proof.Proof.Gen.MixPIdeal.Value
public import proofs.«01_k».proof.Proof.Math
public import Idealize.ShloMosaic.Lib.Claim
public import Idealize.ShloMosaic.Lib.Pointwise
public import Idealize.ShloMosaic.Lib.Pipeline.ReadBack
public import Idealize.ShloMosaic.Lib.Pipeline.ValueKit

/-! The prompt mixer's kernel: what one grid point leaves in its two output blocks. -/

@[expose] public section

noncomputable section

namespace Cert.Mix.KerP

open Cert.MixPIdeal Cert.MixPIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (v0 : Vec Ideal S512x1024 .f32) (v1 : Vec Ideal S1x1024 .f32) (v15 v20 : Vec Ideal S1x1x1024 .f32)
  (v24 : Vec Ideal S1024x2048 .bf16) (v42 : Vec Ideal S1x1024 .f32)

/-- The activated projection of row `r` of a block, at column `j`. -/
abbrev actB (r : Fin 512) (j : Fin 2048) : EReal :=
  act (fun k => v0 (ix2 r k)) (fun k => v1 (ix2 0 k)) (fun k => v15 (ix3 0 0 k)) (fun k => v20 (ix3 0 0 k)) (fun k j => v24 (ix2 k j)) j

/-- The normed second half of row `r` of a block, at column `j`. -/
abbrev vB (r : Fin 512) (j : Fin 1024) : EReal :=
  vAt (fun k => v0 (ix2 r k)) (fun k => v1 (ix2 0 k)) (fun k => v15 (ix3 0 0 k)) (fun k => v20 (ix3 0 0 k)) (fun k j => v24 (ix2 k j))
    (fun k => v42 (ix2 0 k)) j

theorem z_apply (r : Fin 512) (j : Fin 2048) :
    k0_pay2 v0 v1 v15 v20 v24 (ix2 r j)
      = ∑ k, hid (fun k => v0 (ix2 r k)) (fun k => v1 (ix2 0 k)) (fun k => v15 (ix3 0 0 k)) (fun k => v20 (ix3 0 0 k)) k * v24 (ix2 k j) := by
  pointwise [k0_pay2, dot_S512x1024_S1024x2048_S512x2048_1_0_0_1_n_n]
  rfl

theorem act_apply (r : Fin 512) (j : Fin 2048) :
    k0_pay4 (k0_pay2 v0 v1 v15 v20 v24) (k0_pay3 v0 v1 v15 v20 v24) (ix2 r j) = actB v0 v1 v15 v20 v24 r j := by
  pointwise [k0_pay4, k0_pay3]
  rw [z_apply]; rfl

theorem u_apply (r : Fin 512) (j : Fin 1024) :
    k0_pay5 (k0_pay2 v0 v1 v15 v20 v24) (k0_pay3 v0 v1 v15 v20 v24) (ix2 r j) = actB v0 v1 v15 v20 v24 r ⟨j.val, by omega⟩ := by
  pointwise [k0_pay5, act_apply]

theorem v_apply (r : Fin 512) (j : Fin 1024) :
    k0_pay6 (k0_pay2 v0 v1 v15 v20 v24) (k0_pay3 v0 v1 v15 v20 v24) v42 (ix2 r j) = vB v0 v1 v15 v20 v24 v42 r j := by
  pointwise [k0_pay6, act_apply]
  rfl

/-- A slab's product read at the whole array of slabs. -/
theorem slab (W : Vec Ideal S8x128x128 .bf16) (V : Fin 128 → Fin 1024 → EReal) (r : Fin 128) (j c : Fin 1024) (g : Fin 8)
    (h8 : j.val / 128 < 8) (hg : g.val = j.val / 128) (hc : c.val = j.val) :
    ∑ s, W (ix3 g r s) * V s c = ∑ s, W (ix3 ⟨j.val / 128, h8⟩ r s) * V s j := by
  obtain rfl : c = j := Fin.ext hc
  obtain rfl : g = ⟨c.val / 128, h8⟩ := Fin.ext hg
  rfl

/-- Both branches of a choice equal to one value. -/
theorem dite_both {p : Prop} [Decidable p] {f : p → EReal} {g : ¬p → EReal} {z : EReal} (hf : ∀ h, f h = z) (hg : ∀ h, g h = z) :
    dite p f g = z := by
  by_cases h : p
  · rw [dif_pos h, hf]
  · rw [dif_neg h, hg]

/-- The eight slabs' products laid side by side, read at the whole array of slabs. -/
theorem slabs (W : Vec Ideal S8x128x128 .bf16) (V : Fin 128 → Fin 1024 → EReal) (r : Fin 128) (j : Fin 1024) (h8 : j.val / 128 < 8) :
    (if h0 : j.val < 128 then ∑ x, W (ix3 0 r x) * V x j
        else if h1 : j.val - 128 < 128 then ∑ x, W (ix3 1 r x) * V x ⟨128 + (j.val - 128), by omega⟩
        else if h2 : j.val - 128 - 128 < 128 then ∑ x, W (ix3 2 r x) * V x ⟨256 + (j.val - 128 - 128), by omega⟩
        else if h3 : j.val - 128 - 128 - 128 < 128 then ∑ x, W (ix3 3 r x) * V x ⟨384 + (j.val - 128 - 128 - 128), by omega⟩
        else if h4 : j.val - 128 - 128 - 128 - 128 < 128 then ∑ x, W (ix3 4 r x) * V x ⟨512 + (j.val - 128 - 128 - 128 - 128), by omega⟩
        else if h5 : j.val - 128 - 128 - 128 - 128 - 128 < 128 then ∑ x, W (ix3 5 r x) * V x ⟨640 + (j.val - 128 - 128 - 128 - 128 - 128), by omega⟩
        else if h6 : j.val - 128 - 128 - 128 - 128 - 128 - 128 < 128 then ∑ x, W (ix3 6 r x) * V x ⟨768 + (j.val - 128 - 128 - 128 - 128 - 128 - 128), by omega⟩
        else ∑ x, W (ix3 7 r x) * V x ⟨896 + (j.val - 128 - 128 - 128 - 128 - 128 - 128 - 128), by omega⟩)
      = ∑ s, W (ix3 ⟨j.val / 128, h8⟩ r s) * V s j :=
  have key := slab W V r j
  dite_both (fun _ => key _ 0 (by omega) (by simp; omega) (by simp)) fun _ =>
    dite_both (fun _ => key _ 1 (by omega) (by simp; omega) (by simp; omega)) fun _ =>
    dite_both (fun _ => key _ 2 (by omega) (by simp; omega) (by simp; omega)) fun _ =>
    dite_both (fun _ => key _ 3 (by omega) (by simp; omega) (by simp; omega)) fun _ =>
    dite_both (fun _ => key _ 4 (by omega) (by simp; omega) (by simp; omega)) fun _ =>
    dite_both (fun _ => key _ 5 (by omega) (by simp; omega) (by simp; omega)) fun _ =>
    dite_both (fun _ => key _ 6 (by omega) (by simp; omega) (by simp; omega)) fun _ =>
    key _ 7 (by omega) (by simp; omega) (by simp; omega)

/-- The gated rows of the first chunk of a block; the next three theorems are the other chunks. -/
theorem gated0 (a b : FVec Ideal S512x2048 .f32) (W : Vec Ideal S8x128x128 .bf16) (v91 : Vec Ideal S128x1024 .f32) (r : Fin 128)
    (j : Fin 1024) (w0 w1 w2 w3 w4 w5 w6 w7 : Vec Ideal S1x128x128 .bf16)
    (hw : ∀ r s, w0 (ix3 0 r s) = W (ix3 0 r s) ∧ w1 (ix3 0 r s) = W (ix3 1 r s) ∧ w2 (ix3 0 r s) = W (ix3 2 r s)
      ∧ w3 (ix3 0 r s) = W (ix3 3 r s) ∧ w4 (ix3 0 r s) = W (ix3 4 r s) ∧ w5 (ix3 0 r s) = W (ix3 5 r s)
      ∧ w6 (ix3 0 r s) = W (ix3 6 r s) ∧ w7 (ix3 0 r s) = W (ix3 7 r s)) :
    k0_pay13 (F := Ideal) (k0_pay5 a b) (k0_pay7 a b v42) (k0_pay8 a b v42 w0) (k0_pay9 a b v42 w1) (k0_pay10 a b v42 w2) (k0_pay11 w3)
        (k0_pay12 a b v42) w4 w5 w6 w7 v91 (ix2 r j)
      = k0_pay5 a b (ix2 ⟨r.val, by omega⟩ j)
        * ((∑ s, W (ix3 ⟨j.val / 128, by omega⟩ r s) * k0_pay6 a b v42 (ix2 ⟨s.val, by omega⟩ j)) + v91 (ix2 r j)) := by
  obtain ⟨V, hV⟩ : ∃ V : Fin 512 → Fin 1024 → EReal, ∀ s j, k0_pay6 a b v42 (ix2 s j) = V s j := ⟨_, fun _ _ => rfl⟩
  obtain ⟨U, hU⟩ : ∃ U : Fin 512 → Fin 1024 → EReal, ∀ s j, k0_pay5 a b (ix2 s j) = U s j := ⟨_, fun _ _ => rfl⟩
  have hv : ∀ s j, k0_pay7 a b v42 (ix2 s j) = V s j := fun s j => hV s j
  pointwise [k0_pay13, k0_pay12, k0_pay11, k0_pay10, k0_pay9, k0_pay8, dot_S128x128_S128x128_S128x128_1_0_0_1_n_n, hw, hv, hU, hV]
  exact congrArg (fun z : EReal => _ * (z + _)) (slabs W (fun s => V ⟨s.val, by omega⟩) r j _)

theorem gated1 (a b : FVec Ideal S512x2048 .f32) (W : Vec Ideal S8x128x128 .bf16) (v91 : Vec Ideal S128x1024 .f32) (r : Fin 128)
    (j : Fin 1024) (w0 w1 w2 w3 w4 w5 w6 w7 : Vec Ideal S1x128x128 .bf16)
    (hw : ∀ r s, w0 (ix3 0 r s) = W (ix3 0 r s) ∧ w1 (ix3 0 r s) = W (ix3 1 r s) ∧ w2 (ix3 0 r s) = W (ix3 2 r s)
      ∧ w3 (ix3 0 r s) = W (ix3 3 r s) ∧ w4 (ix3 0 r s) = W (ix3 4 r s) ∧ w5 (ix3 0 r s) = W (ix3 5 r s)
      ∧ w6 (ix3 0 r s) = W (ix3 6 r s) ∧ w7 (ix3 0 r s) = W (ix3 7 r s)) :
    k0_pay17 (F := Ideal) (k0_pay15 (k0_pay7 a b v42) (k0_pay14 (k0_pay7 a b v42) w0) w1 w2 w3 w4 w5 w6 w7 v91) (k0_pay16 (k0_pay5 a b)) (ix2 r j)
      = k0_pay5 a b (ix2 ⟨128 + r.val, by omega⟩ j)
        * ((∑ s, W (ix3 ⟨j.val / 128, by omega⟩ r s) * k0_pay6 a b v42 (ix2 ⟨128 + s.val, by omega⟩ j)) + v91 (ix2 r j)) := by
  obtain ⟨V, hV⟩ : ∃ V : Fin 512 → Fin 1024 → EReal, ∀ s j, k0_pay6 a b v42 (ix2 s j) = V s j := ⟨_, fun _ _ => rfl⟩
  obtain ⟨U, hU⟩ : ∃ U : Fin 512 → Fin 1024 → EReal, ∀ s j, k0_pay5 a b (ix2 s j) = U s j := ⟨_, fun _ _ => rfl⟩
  have hv : ∀ s j, k0_pay7 a b v42 (ix2 s j) = V s j := fun s j => hV s j
  pointwise [k0_pay17, k0_pay16, k0_pay15, k0_pay14, dot_S128x128_S128x128_S128x128_1_0_0_1_n_n, hw, hv, hU, hV]
  exact congrArg (fun z : EReal => _ * (z + _)) (slabs W (fun s => V ⟨128 + s.val, by omega⟩) r j _)

theorem gated2 (a b : FVec Ideal S512x2048 .f32) (W : Vec Ideal S8x128x128 .bf16) (v91 : Vec Ideal S128x1024 .f32) (r : Fin 128)
    (j : Fin 1024) (w0 w1 w2 w3 w4 w5 w6 w7 : Vec Ideal S1x128x128 .bf16)
    (hw : ∀ r s, w0 (ix3 0 r s) = W (ix3 0 r s) ∧ w1 (ix3 0 r s) = W (ix3 1 r s) ∧ w2 (ix3 0 r s) = W (ix3 2 r s)
      ∧ w3 (ix3 0 r s) = W (ix3 3 r s) ∧ w4 (ix3 0 r s) = W (ix3 4 r s) ∧ w5 (ix3 0 r s) = W (ix3 5 r s)
      ∧ w6 (ix3 0 r s) = W (ix3 6 r s) ∧ w7 (ix3 0 r s) = W (ix3 7 r s)) :
    k0_pay24 (F := Ideal) (k0_pay5 a b) (k0_pay7 a b v42) (k0_pay18 (k0_pay7 a b v42) w0) (k0_pay19 (k0_pay7 a b v42) w1) (k0_pay20 (k0_pay7 a b v42) w2) (k0_pay21 (k0_pay7 a b v42) w3) (k0_pay22 (k0_pay7 a b v42) w4) (k0_pay23 (k0_pay7 a b v42) w5) w6 w7 v91 (ix2 r j)
      = k0_pay5 a b (ix2 ⟨256 + r.val, by omega⟩ j)
        * ((∑ s, W (ix3 ⟨j.val / 128, by omega⟩ r s) * k0_pay6 a b v42 (ix2 ⟨256 + s.val, by omega⟩ j)) + v91 (ix2 r j)) := by
  obtain ⟨V, hV⟩ : ∃ V : Fin 512 → Fin 1024 → EReal, ∀ s j, k0_pay6 a b v42 (ix2 s j) = V s j := ⟨_, fun _ _ => rfl⟩
  obtain ⟨U, hU⟩ : ∃ U : Fin 512 → Fin 1024 → EReal, ∀ s j, k0_pay5 a b (ix2 s j) = U s j := ⟨_, fun _ _ => rfl⟩
  have hv : ∀ s j, k0_pay7 a b v42 (ix2 s j) = V s j := fun s j => hV s j
  pointwise [k0_pay24, k0_pay18, k0_pay19, k0_pay20, k0_pay21, k0_pay22, k0_pay23, dot_S128x128_S128x128_S128x128_1_0_0_1_n_n, hw, hv, hU, hV]
  exact congrArg (fun z : EReal => _ * (z + _)) (slabs W (fun s => V ⟨256 + s.val, by omega⟩) r j _)

theorem gated3 (a b : FVec Ideal S512x2048 .f32) (W : Vec Ideal S8x128x128 .bf16) (v91 : Vec Ideal S128x1024 .f32) (r : Fin 128)
    (j : Fin 1024) (w0 w1 w2 w3 w4 w5 w6 w7 : Vec Ideal S1x128x128 .bf16)
    (hw : ∀ r s, w0 (ix3 0 r s) = W (ix3 0 r s) ∧ w1 (ix3 0 r s) = W (ix3 1 r s) ∧ w2 (ix3 0 r s) = W (ix3 2 r s)
      ∧ w3 (ix3 0 r s) = W (ix3 3 r s) ∧ w4 (ix3 0 r s) = W (ix3 4 r s) ∧ w5 (ix3 0 r s) = W (ix3 5 r s)
      ∧ w6 (ix3 0 r s) = W (ix3 6 r s) ∧ w7 (ix3 0 r s) = W (ix3 7 r s)) :
    k0_pay29 (F := Ideal) (k0_pay5 a b) (k0_pay7 a b v42) (k0_pay25 (k0_pay7 a b v42) w0) (k0_pay26 (k0_pay7 a b v42) w1) (k0_pay27 (k0_pay7 a b v42) w2) (k0_pay28 (k0_pay7 a b v42) w3) w4 w5 w6 w7 v91 (ix2 r j)
      = k0_pay5 a b (ix2 ⟨384 + r.val, by omega⟩ j)
        * ((∑ s, W (ix3 ⟨j.val / 128, by omega⟩ r s) * k0_pay6 a b v42 (ix2 ⟨384 + s.val, by omega⟩ j)) + v91 (ix2 r j)) := by
  obtain ⟨V, hV⟩ : ∃ V : Fin 512 → Fin 1024 → EReal, ∀ s j, k0_pay6 a b v42 (ix2 s j) = V s j := ⟨_, fun _ _ => rfl⟩
  obtain ⟨U, hU⟩ : ∃ U : Fin 512 → Fin 1024 → EReal, ∀ s j, k0_pay5 a b (ix2 s j) = U s j := ⟨_, fun _ _ => rfl⟩
  have hv : ∀ s j, k0_pay7 a b v42 (ix2 s j) = V s j := fun s j => hV s j
  pointwise [k0_pay29, k0_pay25, k0_pay26, k0_pay27, k0_pay28, dot_S128x128_S128x128_S128x128_1_0_0_1_n_n, hw, hv, hU, hV]
  exact congrArg (fun z : EReal => _ * (z + _)) (slabs W (fun s => V ⟨384 + s.val, by omega⟩) r j _)

end Payloads

/-- A chunk's row of a block, named by the block's row. -/
theorem piece_eq (x0 : Vec Ideal S512x1024 .f32) (x1 : Vec Ideal S1x1024 .f32) (x2 x3 : Vec Ideal S1x1x1024 .f32) (x5 : Vec Ideal S1024x2048 .bf16)
    (x6 : Vec Ideal S1x1024 .f32) (x7 : Vec Ideal S8x128x128 .bf16) (x8 : Vec Ideal S128x1024 .f32) (r : Fin 512) (k : Fin 1024)
    (x : S128x1024.Idx) (o : Nat) (h0 : r.val = o + (x 0).val) (h1 : k.val = (x 1).val) (ho : o % 128 = 0)
    (hb : ∀ a : Fin 128, o + a.val < 512) (hr : r.val % 128 < 128) (h2 : ∀ k : Fin 1024, k.val < 2048)
    (h8 : ∀ k : Fin 1024, k.val / 128 < 8) (hs : ∀ s : Fin 128, r.val / 128 * 128 + s.val < 512) (P : S128x1024.Idx → EReal)
    (hP : ∀ (a : Fin 128) (q : Fin 1024), P (ix2 a q) = actB x0 x1 x2 x3 x5 ⟨o + a.val, hb a⟩ ⟨q.val, h2 q⟩
      * ((∑ s, x7 (ix3 ⟨q.val / 128, h8 q⟩ a s) * vB x0 x1 x2 x3 x5 x6 ⟨o + s.val, hb s⟩ q) + x8 (ix2 a q))) :
    P x = actB x0 x1 x2 x3 x5 r ⟨k.val, h2 k⟩ * ((∑ s, x7 (ix3 ⟨k.val / 128, h8 k⟩ ⟨r.val % 128, hr⟩ s)
        * vB x0 x1 x2 x3 x5 x6 ⟨r.val / 128 * 128 + s.val, hs s⟩ k) + x8 (ix2 ⟨r.val % 128, hr⟩ k)) := by
  obtain ⟨a, q, rfl⟩ : ∃ (a : Fin 128) (q : Fin 1024), x = ix2 a q := ⟨x 0, x 1, eq_ix2 x⟩
  obtain rfl : k = q := Fin.ext h1
  have h0' : r.val = o + a.val := h0
  have ea : (⟨r.val % 128, hr⟩ : Fin 128) = a := Fin.ext (show r.val % 128 = a.val by omega)
  have er : (⟨o + a.val, hb a⟩ : Fin 512) = r := Fin.ext h0'.symm
  have es : ∀ s : Fin 128, (⟨r.val / 128 * 128 + s.val, hs s⟩ : Fin 512) = ⟨o + s.val, hb s⟩ := fun s =>
    Fin.ext (show r.val / 128 * 128 + s.val = o + s.val by omega)
  rw [hP, ea, er]
  simp only [es]

section Outputs

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x2048 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole)
    (x0 : Vec Ideal S512x1024 .f32) (x1 : Vec Ideal S1x1024 .f32) (x2 : Vec Ideal S1x1x1024 .f32) (x3 : Vec Ideal S1x1x1024 .f32) (x4 : Vec Ideal S1x1x1024 .f32) (x5 : Vec Ideal S1024x2048 .bf16) (x6 : Vec Ideal S1x1024 .f32) (x7 : Vec Ideal S8x128x128 .bf16) (x8 : Vec Ideal S128x1024 .f32) (x9 : Vec Ideal S1024x1024 .bf16)

theorem out11_apply (r : Fin 512) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 r j)
      = vB x0 x1 x2 x3 x5 x6 r j := by
  unfold out0_A_11
  rw [View.read_writes_eq_canon _ _ _ (cover0_A_11 c i _ _ _ _ _ _ _ _ _ _ _ _ _ _ _ _ _ _ _ _ _ _ _ _ _ _ _ _ _ _ _ _ _ _ _ _)]
  unfold kernelRun0_A
  dsimp only
  rw [View.canon_unit_zero hz2]
  sl_unfold_words
  simp only [View.readAt_eq_ld, Memref.IsWhole.read_unread, View.ld_unit_zero (S := S512x1024) hz2, View.ld_unit_zero (S := S1x1024) hz2,
    View.ld_unit_zero (S := S1x1x1024) hz3, View.ld_unit_zero (S := S1024x2048) hz2]
  exact v_apply ..

theorem out10_apply (r : Fin 512) (j : Fin 1024) (h8 : ∀ k : Fin 1024, k.val / 128 < 8) (hr : r.val % 128 < 128)
    (hs : ∀ s : Fin 128, r.val / 128 * 128 + s.val < 512) (h2 : ∀ k : Fin 1024, k.val < 2048) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 r j)
      = resAt (fun k => x0 (ix2 r k)) (fun k => x4 (ix3 0 0 k))
          (fun k => actB x0 x1 x2 x3 x5 r ⟨k.val, h2 k⟩ * ((∑ s, x7 (ix3 ⟨k.val / 128, h8 k⟩ ⟨r.val % 128, hr⟩ s)
            * vB x0 x1 x2 x3 x5 x6 ⟨r.val / 128 * 128 + s.val, hs s⟩ k) + x8 (ix2 ⟨r.val % 128, hr⟩ k)))
          (fun k j => x9 (ix2 k j)) j := by
  unfold out0_A_10
  rw [View.read_writes_eq_canon _ _ _ (cover0_A_10 c i _ _ _ _ _ _ _ _ _ _ _ _ _ _ _ _ _ _ _ _ _ _ _ _ _ _ _ _ _ _ _ _ _ _ _ _)]
  unfold kernelRun0_A
  dsimp only
  rw [View.canon_unit_zero hz2]
  sl_unfold_words
  simp only [View.readAt_eq_ld, Memref.IsWhole.read_unread, View.ld_unit_zero (S := S512x1024) hz2, View.ld_unit_zero (S := S1x1024) hz2,
    View.ld_unit_zero (S := S1x1x1024) hz3, View.ld_unit_zero (S := S1024x2048) hz2, View.ld_unit_zero (S := S1024x1024) hz2,
    View.ld_unit_zero (S := S128x1024) hz2]
  rw [View.readCov_eq_canon']
  generalize hG : View.canon (Val := Elt Ideal) (s := S512x1024) (e := .bf16) _ = G
  pointwise [k0_pay1, k0_pay30, k0_pay31, dot_S512x1024_S1024x1024_S512x1024_1_0_0_1_n_n]
  unfold resAt
  refine congrArg (fun z : EReal => _ + _ * z) (Finset.sum_congr rfl fun k _ => congrArg (fun z : EReal => z * _) ?_)
  subst hG
  canon_tiles x h
  · exact piece_eq x0 x1 x2 x3 x5 x6 x7 x8 r k x 384 h0 h1 (by norm_num) (by omega) hr h2 h8 hs _ fun a q => (gated3 x6 _ _ x7 x8 a q _ _ _ _ _ _ _ _ (fun a b => by pointwise)).trans
      (by simp only [u_apply, v_apply])
  · exact piece_eq x0 x1 x2 x3 x5 x6 x7 x8 r k x 256 h0 h1 (by norm_num) (by omega) hr h2 h8 hs _ fun a q => (gated2 x6 _ _ x7 x8 a q _ _ _ _ _ _ _ _ (fun a b => by pointwise)).trans
      (by simp only [u_apply, v_apply])
  · exact piece_eq x0 x1 x2 x3 x5 x6 x7 x8 r k x 128 h0 h1 (by norm_num) (by omega) hr h2 h8 hs _ fun a q => (gated1 x6 _ _ x7 x8 a q _ _ _ _ _ _ _ _ (fun a b => by pointwise)).trans
      (by simp only [u_apply, v_apply])
  · exact piece_eq x0 x1 x2 x3 x5 x6 x7 x8 r k x 0 (h0.trans (Nat.zero_add _).symm) h1 (by norm_num) (by omega) hr h2 h8 hs _ fun a q => (gated0 x6 _ _ x7 x8 a q _ _ _ _ _ _ _ _ (fun a b => by pointwise)).trans
      (by simp only [u_apply, v_apply, Nat.zero_add])

end Outputs

end Cert.Mix.KerP
-- ==== Proof.RefP.lean ====
module

public import proofs.«01_k».proof.Proof.Math
public import proofs.«01_k».proof.Proof.Gen.MixPRefIdeal.Read

/-! The prompt mixer's reference read at an index. -/

@[expose] public section

noncomputable section

namespace Cert.Mix.RefP

open Cert.MixPRefIdeal Cert.MixPRefIdeal.Read Idealize.ShloMosaic

variable (x0 : (⟨S16384x1024, .f32⟩ : BufTy).Contents (Elt Ideal)) (x1 : (⟨S1024, .f32⟩ : BufTy).Contents (Elt Ideal))
  (x2 x3 x4 : (⟨S8x1024, .f32⟩ : BufTy).Contents (Elt Ideal)) (x5 : (⟨S1024x2048, .f32⟩ : BufTy).Contents (Elt Ideal))
  (x6 : (⟨S1024, .f32⟩ : BufTy).Contents (Elt Ideal)) (x7 : (⟨S8x128x128, .f32⟩ : BufTy).Contents (Elt Ideal))
  (x8 : (⟨S8x128, .f32⟩ : BufTy).Contents (Elt Ideal)) (x9 : (⟨S1024x1024, .f32⟩ : BufTy).Contents (Elt Ideal))

/-- Row `t` of sequence `b`. -/
def row (b : Fin 8) (t : Fin 2048) : Fin 16384 := ⟨b.val * 2048 + t.val, by omega⟩

theorem x_apply (b : Fin 8) (t : Fin 2048) (k : Fin 1024) : val_main_v0 (F := Ideal) x0 (ix3 b t k) = x0 (ix2 (row b t) k) := by
  rw [val_main_v0_apply]; congr 1; funext a
  match a with
  | ⟨0, _⟩ => exact Fin.ext (show ((b.val * 2048 + t.val) * 1024 + k.val) / 1024 = b.val * 2048 + t.val by omega)
  | ⟨1, _⟩ => exact Fin.ext (show ((b.val * 2048 + t.val) * 1024 + k.val) % 1024 = k.val by omega)

theorem h_apply (b : Fin 8) (t : Fin 2048) (k : Fin 1024) :
    val_main_v21 (F := Ideal) x0 x1 x2 x3 (ix3 b t k)
      = hid (fun j => x0 (ix2 (row b t) j)) (fun j => x1 (ix1 j)) (fun j => x2 (ix2 b j)) (fun j => x3 (ix2 b j)) k := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_cst, val_main_cst_0, val_main_cst_1, val_main_cst_2, x_apply]
  rfl

theorem z_apply (b : Fin 8) (t : Fin 2048) (j : Fin 2048) :
    val_main_v22 (F := Ideal) x0 x1 x2 x3 x5 (ix3 b t j)
      = ∑ k, val_main_v21 (F := Ideal) x0 x1 x2 x3 (ix3 b t k) * x5 (ix2 k j) := by
  pointwise [val_main_v22, dot_S8x2048x1024_S1024x2048_S8x2048x2048_2_0_01_1_n_n]

theorem act_apply (b : Fin 8) (t : Fin 2048) (j : Fin 2048) :
    val_main_v35 (F := Ideal) x0 x1 x2 x3 x5 (ix3 b t j)
      = act (fun j => x0 (ix2 (row b t) j)) (fun j => x1 (ix1 j)) (fun j => x2 (ix2 b j)) (fun j => x3 (ix2 b j)) (fun k j => x5 (ix2 k j)) j := by
  have hz := z_apply x0 x1 x2 x3 x5 b t j
  simp only [h_apply] at hz
  pointwise [val_main_v35, val_main_v34, val_main_v33, val_main_v32, val_main_v31, val_main_v30, val_main_v29, val_main_v28,
    val_main_v27, val_main_v26, val_main_v25, val_main_v24, val_main_v23, val_main_cst_3, val_main_cst_4, val_main_cst_5, val_main_cst_6]
  rw [hz]; unfold act gel
  rw [mul_assoc (∑ k, _)]

theorem v_apply (b : Fin 8) (t : Fin 2048) (j : Fin 1024) :
    val_main_v50 (F := Ideal) x0 x1 x2 x3 x5 x6 (ix3 b t j)
      = vAt (fun j => x0 (ix2 (row b t) j)) (fun j => x1 (ix1 j)) (fun j => x2 (ix2 b j)) (fun j => x3 (ix2 b j)) (fun k j => x5 (ix2 k j)) (fun j => x6 (ix1 j)) j := by
  pointwise [val_main_v50, val_main_v49, val_main_v48, val_main_v47, val_main_v46, val_main_v45, val_main_v44, val_main_v43,
    val_main_v42, val_main_v41, val_main_v40, val_main_v39, val_main_v38, val_main_v37, val_main_cst_7, val_main_cst_8, val_main_cst_9, act_apply]
  rfl

/-- The causal gate weights of one chunk of 128 rows. -/
abbrev wts : S8x128x128.Idx → EReal := val_main_v53 (F := Ideal) x7

theorem s_apply (b : Fin 8) (t : Fin 2048) (j : Fin 1024) :
    val_main_v61 (F := Ideal) x0 x1 x2 x3 x5 x6 x7 x8 (ix3 b t j)
      = (∑ s : Fin 128, wts x7 (ix3 ⟨j.val / 128, by omega⟩ ⟨t.val % 128, by omega⟩ s)
            * val_main_v50 (F := Ideal) x0 x1 x2 x3 x5 x6 (ix3 b ⟨t.val / 128 * 128 + s.val, by omega⟩ j))
        + x8 (ix2 ⟨j.val / 128, by omega⟩ ⟨t.val % 128, by omega⟩) := by
  pointwise [val_main_v61, val_main_v60, val_main_v59, val_main_v58, val_main_v57, val_main_v56, val_main_v55, val_main_v54,
    dot_S8x16x128x8x128_S8x128x128_S8x8x16x128x128_2_2_014_1_3_0]
  exact congrArg (· + _) (Finset.sum_congr rfl fun _ _ => mul_comm _ _)

theorem out_apply (b : Fin 8) (t : Fin 2048) (j : Fin 1024) :
    val_main_v67 (F := Ideal) x0 x1 x2 x3 x4 x5 x6 x7 x8 x9 (ix3 b t j)
      = resAt (fun j => x0 (ix2 (row b t) j)) (fun j => x4 (ix2 b j))
          (fun j => val_main_v35 (F := Ideal) x0 x1 x2 x3 x5 (ix3 b t ⟨j.val, by omega⟩) * val_main_v61 (F := Ideal) x0 x1 x2 x3 x5 x6 x7 x8 (ix3 b t j))
          (fun k j => x9 (ix2 k j)) j := by
  pointwise [val_main_v67, val_main_v66, val_main_v65, val_main_v64, val_main_v63, val_main_v62, val_main_v36, x_apply,
    dot_S8x2048x1024_S1024x1024_S8x2048x1024_2_0_01_1_n_n]
  rfl

end Cert.Mix.RefP
-- ==== Proof.BlkP.lean ====
module

public import proofs.«01_k».proof.Proof.KerP
public import proofs.«01_k».proof.Proof.RefP
public import Idealize.ShloMosaic.Lib.Pipeline.ValueKit

/-! The prompt mixer's kernel: the blocks that a grid point reads. -/

@[expose] public section

noncomputable section

namespace Cert.Mix.BlkP

open Cert.MixPIdeal Cert.MixPIdeal.Gen Idealize.ShloMosaic Idealize.ShloMosaic.TcCoe Idealize.SL.Sem
open Cert.Mix.KerP Cert.MixPRefIdeal.Read

variable (m : (ℓ : Loc nD τ sig) → Buf (Elt Ideal) ℓ) (c : Dev nD) (t : Fin cfg0.N)

section Blocks

/-! ### The arguments -/

abbrev a0 : (⟨S16384x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S8x1024, .f32⟩ : BufTy).Contents (Elt Ideal) := m ((c : Thread nD τ).loc main_arg2)
abbrev a3 : (⟨S8x1024, .f32⟩ : BufTy).Contents (Elt Ideal) := m ((c : Thread nD τ).loc main_arg3)
abbrev a4 : (⟨S8x1024, .f32⟩ : BufTy).Contents (Elt Ideal) := m ((c : Thread nD τ).loc main_arg4)
abbrev a5 : (⟨S1024x2048, .f32⟩ : BufTy).Contents (Elt Ideal) := m ((c : Thread nD τ).loc main_arg5)
abbrev a6 : (⟨S1024, .f32⟩ : BufTy).Contents (Elt Ideal) := m ((c : Thread nD τ).loc main_arg6)
abbrev a7 : (⟨S8x128x128, .f32⟩ : BufTy).Contents (Elt Ideal) := m ((c : Thread nD τ).loc main_arg7)
abbrev a8 : (⟨S8x128, .f32⟩ : BufTy).Contents (Elt Ideal) := m ((c : Thread nD τ).loc main_arg8)
abbrev a9 : (⟨S1024x1024, .f32⟩ : BufTy).Contents (Elt Ideal) := m ((c : Thread nD τ).loc main_arg9)

theorem idx : ∀ t : Fin cfg0.N, win0_0.index t = ![t.val, 0] ∧ win0_1.index t = ![0, 0] ∧ win0_2.index t = ![t.val / 4, 0, 0]
    ∧ win0_3.index t = ![t.val / 4, 0, 0] ∧ win0_4.index t = ![t.val / 4, 0, 0] ∧ win0_5.index t = ![0, 0] ∧ win0_6.index t = ![0, 0]
    ∧ win0_7.index t = ![0, 0, 0] ∧ win0_8.index t = ![0, 0] ∧ win0_9.index t = ![0, 0] ∧ win0_10.index t = ![t.val, 0]
    ∧ win0_11.index t = ![t.val, 0] := by decide +kernel

theorem t_lt : t.val < 32 := t.isLt

theorem b0 (r : Fin 512) (k : Fin 1024) : iblk m c 0 t (ix2 r k)
    = a0 m c (ix2 ⟨512 * t.val + r.val, by have := t_lt t; omega⟩ k) := by
  blk_ext [iblk, idx t]

theorem b1 (k : Fin 1024) : iblk m c 1 t (ix2 0 k) = a1 m c (ix1 k) := by
  have e : (win0_1.blk t).view.emb (ix2 0 k) = (ix2 0 k : S1x1024.Idx) := by blk_ext [idx t]
  show V m c main_v10 ((win0_1.blk t).view.emb (ix2 0 k)) = _
  rw [e]
  simp only [V, hostOps0, hostOps0_1, hostOps0_2, hostOps0_3, hostOps0_4, List.flatten_cons, List.flatten_nil, List.append_nil,
    List.cons_append, List.nil_append]
  entry_read
  pointwise

theorem b2 (k : Fin 1024) : iblk m c 2 t (ix3 0 0 k) = a2 m c (ix2 ⟨t.val / 4, by have := t_lt t; omega⟩ k) := by
  have e : (win0_2.blk t).view.emb (ix3 0 0 k) = (ix3 ⟨t.val / 4, by have := t_lt t; omega⟩ 0 k : S8x1x1024.Idx) := by blk_ext [idx t]
  show V m c main_v14 ((win0_2.blk t).view.emb (ix3 0 0 k)) = _
  rw [e]
  simp only [V, hostOps0, hostOps0_1, hostOps0_2, hostOps0_3, hostOps0_4, List.flatten_cons, List.flatten_nil, List.append_nil,
    List.cons_append, List.nil_append]
  entry_read
  pointwise

theorem b3 (k : Fin 1024) : iblk m c 3 t (ix3 0 0 k) = a3 m c (ix2 ⟨t.val / 4, by have := t_lt t; omega⟩ k) := by
  have e : (win0_3.blk t).view.emb (ix3 0 0 k) = (ix3 ⟨t.val / 4, by have := t_lt t; omega⟩ 0 k : S8x1x1024.Idx) := by blk_ext [idx t]
  show V m c main_v15 ((win0_3.blk t).view.emb (ix3 0 0 k)) = _
  rw [e]
  simp only [V, hostOps0, hostOps0_1, hostOps0_2, hostOps0_3, hostOps0_4, List.flatten_cons, List.flatten_nil, List.append_nil,
    List.cons_append, List.nil_append]
  entry_read
  pointwise

theorem b4 (k : Fin 1024) : iblk m c 4 t (ix3 0 0 k) = a4 m c (ix2 ⟨t.val / 4, by have := t_lt t; omega⟩ k) := by
  have e : (win0_4.blk t).view.emb (ix3 0 0 k) = (ix3 ⟨t.val / 4, by have := t_lt t; omega⟩ 0 k : S8x1x1024.Idx) := by blk_ext [idx t]
  show V m c main_v16 ((win0_4.blk t).view.emb (ix3 0 0 k)) = _
  rw [e]
  simp only [V, hostOps0, hostOps0_1, hostOps0_2, hostOps0_3, hostOps0_4, List.flatten_cons, List.flatten_nil, List.append_nil,
    List.cons_append, List.nil_append]
  entry_read
  pointwise

theorem b5 (k : Fin 1024) (j : Fin 2048) : iblk m c 5 t (ix2 k j) = a5 m c (ix2 k j) := by
  have e : (win0_5.blk t).view.emb (ix2 k j) = (ix2 k j : S1024x2048.Idx) := by blk_ext [idx t]
  show V m c main_v11 ((win0_5.blk t).view.emb (ix2 k j)) = _
  rw [e]
  simp only [V, hostOps0, hostOps0_1, hostOps0_2, hostOps0_3, hostOps0_4, List.flatten_cons, List.flatten_nil, List.append_nil,
    List.cons_append, List.nil_append]
  entry_read
  pointwise

theorem b6 (k : Fin 1024) : iblk m c 6 t (ix2 0 k) = a6 m c (ix1 k) := by
  have e : (win0_6.blk t).view.emb (ix2 0 k) = (ix2 0 k : S1x1024.Idx) := by blk_ext [idx t]
  show V m c main_v12 ((win0_6.blk t).view.emb (ix2 0 k)) = _
  rw [e]
  simp only [V, hostOps0, hostOps0_1, hostOps0_2, hostOps0_3, hostOps0_4, List.flatten_cons, List.flatten_nil, List.append_nil,
    List.cons_append, List.nil_append]
  entry_read
  pointwise

/-- The gate weights: the causal weights of one chunk. -/
theorem b7 (g : Fin 8) (r s : Fin 128) : iblk m c 7 t (ix3 g r s) = RefP.wts (a7 m c) (ix3 g r s) := by
  have e : (win0_7.blk t).view.emb (ix3 g r s) = (ix3 g r s : S8x128x128.Idx) := by blk_ext [idx t]
  show V m c main_v9 ((win0_7.blk t).view.emb (ix3 g r s)) = _
  rw [e]
  simp only [V, hostOps0, hostOps0_1, hostOps0_2, hostOps0_3, hostOps0_4, List.flatten_cons, List.flatten_nil, List.append_nil,
    List.cons_append, List.nil_append]
  entry_read
  pointwise
  rfl

theorem b8 (r : Fin 128) (k : Fin 1024) : iblk m c 8 t (ix2 r k) = a8 m c (ix2 ⟨k.val / 128, by omega⟩ r) := by
  have e : (win0_8.blk t).view.emb (ix2 r k) = (ix2 r k : S128x1024.Idx) := by blk_ext [idx t]
  show V m c main_v8 ((win0_8.blk t).view.emb (ix2 r k)) = _
  rw [e]
  simp only [V, hostOps0, hostOps0_1, hostOps0_2, hostOps0_3, hostOps0_4, List.flatten_cons, List.flatten_nil, List.append_nil,
    List.cons_append, List.nil_append]
  entry_read
  pointwise

theorem b9 (k j : Fin 1024) : iblk m c 9 t (ix2 k j) = a9 m c (ix2 k j) := by
  have e : (win0_9.blk t).view.emb (ix2 k j) = (ix2 k j : S1024x1024.Idx) := by blk_ext [idx t]
  show V m c main_v13 ((win0_9.blk t).view.emb (ix2 k j)) = _
  rw [e]
  simp only [V, hostOps0, hostOps0_1, hostOps0_2, hostOps0_3, hostOps0_4, List.flatten_cons, List.flatten_nil, List.append_nil,
    List.cons_append, List.nil_append]
  entry_read
  pointwise

end Blocks

end Cert.Mix.BlkP
-- ==== Proof.ArrP.lean ====
module

public import proofs.«01_k».proof.Proof.BlkP

/-! The prompt mixer's kernel: its two output arrays are the reference's results. -/

@[expose] public section

noncomputable section

namespace Cert.Mix.ArrP

open Cert.MixPIdeal Cert.MixPIdeal.Gen Idealize.ShloMosaic Idealize.ShloMosaic.TcCoe Idealize.SL.Sem
open Cert.Mix.KerP Cert.Mix.BlkP Cert.MixPRefIdeal.Read

variable (m : (ℓ : Loc nD τ sig) → Buf (Elt Ideal) ℓ) (c : Dev nD) (t : Fin cfg0.N)

/-! ### The blocks' rows as rows of the whole -/

/-- The sequence of block `t`. -/
def bb : Fin 8 := ⟨t.val / 4, by have := t_lt t; omega⟩
/-- The sequence's row that is row `r` of block `t`. -/
def tt (r : Fin 512) : Fin 2048 := ⟨t.val % 4 * 512 + r.val, by omega⟩

theorem row_eq (r : Fin 512) : (⟨512 * t.val + r.val, by have := t_lt t; omega⟩ : Fin 16384) = RefP.row (bb t) (tt t r) :=
  Fin.ext (show 512 * t.val + r.val = t.val / 4 * 2048 + (t.val % 4 * 512 + r.val) by omega)

theorem act_block (r : Fin 512) (j : Fin 2048) :
    actB (iblk m c 0 t) (iblk m c 1 t) (iblk m c 2 t) (iblk m c 3 t) (iblk m c 5 t) r j
      = val_main_v35 (F := Ideal) (a0 m c) (a1 m c) (a2 m c) (a3 m c) (a5 m c) (ix3 (bb t) (tt t r) j) := by
  rw [RefP.act_apply, ← row_eq]
  simp only [actB, b0, b1, b2, b3, b5, bb]

theorem v_block (r : Fin 512) (j : Fin 1024) :
    vB (iblk m c 0 t) (iblk m c 1 t) (iblk m c 2 t) (iblk m c 3 t) (iblk m c 5 t) (iblk m c 6 t) r j
      = val_main_v50 (F := Ideal) (a0 m c) (a1 m c) (a2 m c) (a3 m c) (a5 m c) (a6 m c) (ix3 (bb t) (tt t r) j) := by
  rw [RefP.v_apply, ← row_eq]
  simp only [vB, b0, b1, b2, b3, b5, b6, bb]

theorem s_block (r : Fin 512) (k : Fin 1024) (h8 : k.val / 128 < 8) (hr : r.val % 128 < 128) (hs : ∀ s : Fin 128, r.val / 128 * 128 + s.val < 512) :
    HAdd.hAdd (α := EReal) (β := EReal) (∑ s : Fin 128, HMul.hMul (α := EReal) (β := EReal) (γ := EReal) (iblk m c 7 t (ix3 ⟨k.val / 128, h8⟩ ⟨r.val % 128, hr⟩ s))
        (vB (iblk m c 0 t) (iblk m c 1 t) (iblk m c 2 t) (iblk m c 3 t) (iblk m c 5 t) (iblk m c 6 t) ⟨r.val / 128 * 128 + s.val, hs s⟩ k)) (iblk m c 8 t (ix2 ⟨r.val % 128, hr⟩ k))
      = val_main_v61 (F := Ideal) (a0 m c) (a1 m c) (a2 m c) (a3 m c) (a5 m c) (a6 m c) (a7 m c) (a8 m c) (ix3 (bb t) (tt t r) k) := by
  have et : (⟨(tt t r).val % 128, by omega⟩ : Fin 128) = ⟨r.val % 128, hr⟩ :=
    Fin.ext (show (t.val % 4 * 512 + r.val) % 128 = r.val % 128 by omega)
  rw [RefP.s_apply, b8, et]
  refine congrArg (fun z : EReal => z + (a8 m c) (ix2 ⟨k.val / 128, h8⟩ ⟨r.val % 128, hr⟩)) (Finset.sum_congr rfl fun s _ => ?_)
  rw [b7, v_block]
  refine congrArg (fun z : EReal => _ * z) (congrArg (val_main_v50 (F := Ideal) (a0 m c) (a1 m c) (a2 m c) (a3 m c) (a5 m c) (a6 m c)) ?_)
  have es : tt t ⟨r.val / 128 * 128 + s.val, hs s⟩ = (⟨(tt t r).val / 128 * 128 + s.val, by have := (tt t r).isLt; omega⟩ : Fin 2048) :=
    Fin.ext (show t.val % 4 * 512 + (r.val / 128 * 128 + s.val) = (t.val % 4 * 512 + r.val) / 128 * 128 + s.val by omega)
  rw [es]

/-- The reference's rows, laid out in one axis. -/
theorem flat11 (n : Fin 16384) (j : Fin 1024) : val_main_v69 (F := Ideal) (a0 m c) (a1 m c) (a2 m c) (a3 m c) (a5 m c) (a6 m c) (ix2 n j)
    = val_main_v50 (F := Ideal) (a0 m c) (a1 m c) (a2 m c) (a3 m c) (a5 m c) (a6 m c) (ix3 ⟨n.val / 2048, by omega⟩ ⟨n.val % 2048, by omega⟩ j) := by
  pointwise [val_main_v69]

theorem flat10 (n : Fin 16384) (j : Fin 1024) : val_main_v68 (F := Ideal) (a0 m c) (a1 m c) (a2 m c) (a3 m c) (a4 m c) (a5 m c) (a6 m c) (a7 m c) (a8 m c) (a9 m c) (ix2 n j)
    = val_main_v67 (F := Ideal) (a0 m c) (a1 m c) (a2 m c) (a3 m c) (a4 m c) (a5 m c) (a6 m c) (a7 m c) (a8 m c) (a9 m c)
        (ix3 ⟨n.val / 2048, by omega⟩ ⟨n.val % 2048, by omega⟩ j) := by
  pointwise [val_main_v68]

/-- The layer's output rows. -/
theorem arr10 : (dats m 0 c).arrAt 10 cfg0.N = val_main_v68 (F := Ideal) (a0 m c) (a1 m c) (a2 m c) (a3 m c) (a4 m c) (a5 m c) (a6 m c) (a7 m c) (a8 m c) (a9 m c) := by
  refine (dats m 0 c).arrAt_eq_of_covers 10 _ (by decide +kernel) fun t hf y => ?_
  blk_simp
  rw [after0_10]
  obtain ⟨r, j, rfl⟩ : ∃ (r : Fin 512) (j : Fin 1024), y = ix2 r j := ⟨y 0, y 1, eq_ix2 y⟩
  have e : (win0_10.blk t).view.emb (ix2 r j) = (ix2 ⟨512 * t.val + r.val, by have := t_lt t; omega⟩ j : S16384x1024.Idx) := by
    blk_ext [idx t]
  rw [e, flat10]
  simp only [outsAt0]
  rw [out10_apply (h8 := fun k => by omega) (hr := by omega) (hs := fun s => by omega) (h2 := fun k => by omega)]
  rw [show val_main_v67 (F := Ideal) (a0 m c) (a1 m c) (a2 m c) (a3 m c) (a4 m c) (a5 m c) (a6 m c) (a7 m c) (a8 m c) (a9 m c)
      (ix3 ⟨(⟨512 * t.val + r.val, by have := t_lt t; omega⟩ : Fin 16384).val / 2048, by have := t_lt t; omega⟩
        ⟨(⟨512 * t.val + r.val, by have := t_lt t; omega⟩ : Fin 16384).val % 2048, by omega⟩ j)
      = val_main_v67 (F := Ideal) (a0 m c) (a1 m c) (a2 m c) (a3 m c) (a4 m c) (a5 m c) (a6 m c) (a7 m c) (a8 m c) (a9 m c)
      (ix3 (bb t) (tt t r) j) from congrArg _ (by blk_ext [bb, tt]), RefP.out_apply]
  unfold resAt
  refine congrArg₂ (fun x y : EReal => x + y) ?_ (congrArg₂ (fun x y : EReal => x * y) ?_ (Finset.sum_congr rfl fun k _ =>
    congrArg₂ (fun x y : EReal => x * y) (congrArg₂ (fun x y : EReal => x * y) (act_block m c t r _) (s_block m c t r k _ _ _)) ?_))
  · exact (b0 m c t r j).trans (by rw [row_eq])
  · exact b4 m c t j
  · exact b9 m c t k j

/-- The rows kept of the second half. -/
theorem arr11 : (dats m 0 c).arrAt 11 cfg0.N = val_main_v69 (F := Ideal) (a0 m c) (a1 m c) (a2 m c) (a3 m c) (a5 m c) (a6 m c) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 y⟩
  have e : (win0_11.blk t).view.emb (ix2 r j) = (ix2 ⟨512 * t.val + r.val, by have := t_lt t; omega⟩ j : S16384x1024.Idx) := by
    blk_ext [idx t]
  rw [e, flat11]
  simp only [outsAt0]
  rw [out11_apply, v_block]
  exact congrArg (val_main_v50 (F := Ideal) (a0 m c) (a1 m c) (a2 m c) (a3 m c) (a5 m c) (a6 m c)) (by blk_ext [bb, tt])

end Cert.Mix.ArrP
-- ==== Proof.ClaimP.lean ====
module

public import proofs.«01_k».proof.Defs
public import proofs.«01_k».proof.Proof.ArrP
public import proofs.«01_k».proof.Proof.Gen.MixPRefIdeal.Run

/-! The claim about the prompt mixer: the kernel's results are its reference's. -/

@[expose] public section

noncomputable section

namespace Cert.Mix.ClaimP

open Idealize.ShloMosaic Idealize.SL.Sem Cert.MixPRefIdeal.Read Cert.Mix.BlkP

theorem algebraic : Cert.algebraic_MixPIdeal_MixPRefIdeal := by
  intro m g m' g' _ hagree
  refine ⟨fun c => val_main_v68 (F := Ideal) (a0 m c) (a1 m c) (a2 m c) (a3 m c) (a4 m c) (a5 m c) (a6 m c) (a7 m c) (a8 m c) (a9 m c),
    fun c => val_main_v69 (F := Ideal) (a0 m c) (a1 m c) (a2 m c) (a3 m c) (a5 m c) (a6 m c), ?_, ?_⟩
  · refine (θ_run Cert.MixPIdeal.defs _ _).mono (fun r h c => ?_) (Cert.MixPIdeal.Value.run_blocks (F := Ideal) m g)
    obtain ⟨h0, h1, h2⟩ := h c
    exact ⟨h0.trans (ArrP.arr10 m c), h1.trans (ArrP.arr11 m c), h2⟩
  · refine (θ_run Cert.MixPRefIdeal.defs _ _).mono (fun r h c => ?_) (Cert.MixPRefIdeal.Value.run (F := Ideal) m' g')
    obtain ⟨h0, h1, h2⟩ := h c
    obtain ⟨e0, e1, e2, e3, e4, e5, e6, e7, e8, e9⟩ := hagree c
    refine ⟨h0.trans ((val_main_v68_eq m' c).trans ?_), h1.trans ((val_main_v69_eq m' c).trans ?_), h2⟩
    · rw [e0, e1, e2, e3, e4, e5, e6, e7, e8, e9]
    · rw [e0, e1, e2, e3, e5, e6]

theorem frameRef : Cert.quiescent_MixPRefIdeal := fun m ρ _ =>
  (θ_run Cert.MixPRefIdeal.defs _ _).mono (fun _ h => ⟨fun c => (h c).2.2, sem_eq_zero_of_no_sems (by decide) _⟩)
    (Cert.MixPRefIdeal.Value.run (F := Ideal) m ρ)

end Cert.Mix.ClaimP
-- ==== Proof.KerS.lean ====
module

public import proofs.«01_k».proof.Proof.Gen.MixSIdeal.Value
public import proofs.«01_k».proof.Proof.Math
public import Idealize.ShloMosaic.Lib.Claim
public import Idealize.ShloMosaic.Lib.Pointwise

/-! The sample mixer's kernel: what one grid point leaves in its two output blocks. -/

@[expose] public section

noncomputable section

namespace Cert.Mix.KerS

open Cert.MixSIdeal Cert.MixSIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (v0 : Vec Ideal S128x1024 .f32) (v1 : Vec Ideal S1x1024 .f32) (v15 v20 : Vec Ideal S1x128x1024 .f32)
  (v24 : Vec Ideal S1024x2048 .bf16) (v42 : Vec Ideal S1x1024 .f32)

/-- The activated projection of row `r` of a block, at column `j`. -/
abbrev actB (r : Fin 128) (j : Fin 2048) : EReal :=
  act (fun k => v0 (ix2 r k)) (fun k => v1 (ix2 0 k)) (fun k => v15 (ix3 0 r k)) (fun k => v20 (ix3 0 r k)) (fun k j => v24 (ix2 k j)) j

/-- The normed second half of row `r` of a block, at column `j`. -/
abbrev vB (r : Fin 128) (j : Fin 1024) : EReal :=
  vAt (fun k => v0 (ix2 r k)) (fun k => v1 (ix2 0 k)) (fun k => v15 (ix3 0 r k)) (fun k => v20 (ix3 0 r k)) (fun k j => v24 (ix2 k j))
    (fun k => v42 (ix2 0 k)) j

theorem z_apply (r : Fin 128) (j : Fin 2048) :
    k0_pay2 v0 v1 v15 v20 v24 (ix2 r j)
      = ∑ k, hid (fun k => v0 (ix2 r k)) (fun k => v1 (ix2 0 k)) (fun k => v15 (ix3 0 r k)) (fun k => v20 (ix3 0 r k)) k * v24 (ix2 k j) := by
  pointwise [k0_pay2, dot_S128x1024_S1024x2048_S128x2048_1_0_0_1_n_n]
  rfl

theorem act_apply (r : Fin 128) (j : Fin 2048) :
    k0_pay5 (k0_pay2 v0 v1 v15 v20 v24) (k0_pay3 v0 v1 v15 v20 v24) (k0_pay4 (F := Ideal)) (ix2 r j) = actB v0 v1 v15 v20 v24 r j := by
  pointwise [k0_pay5, k0_pay3, k0_pay4]
  rw [z_apply]; rfl

theorem v_apply (r : Fin 128) (j : Fin 1024) :
    k0_pay7 (k0_pay2 v0 v1 v15 v20 v24) (k0_pay3 v0 v1 v15 v20 v24) (k0_pay4 (F := Ideal)) v42 (ix2 r j) = vB v0 v1 v15 v20 v24 v42 r j := by
  pointwise [k0_pay7, act_apply]
  rfl

/-- A slab's product read at the whole array of slabs. -/
theorem slab (W : Vec Ideal S8x128x128 .bf16) (V : Fin 128 → Fin 1024 → EReal) (r : Fin 128) (j c : Fin 1024) (g : Fin 8)
    (h8 : j.val / 128 < 8) (hg : g.val = j.val / 128) (hc : c.val = j.val) :
    ∑ s, W (ix3 g r s) * V s c = ∑ s, W (ix3 ⟨j.val / 128, h8⟩ r s) * V s j := by
  obtain rfl : c = j := Fin.ext hc
  obtain rfl : g = ⟨c.val / 128, h8⟩ := Fin.ext hg
  rfl

/-- Both branches of a choice equal to one value. -/
theorem dite_both {p : Prop} [Decidable p] {f : p → EReal} {g : ¬p → EReal} {z : EReal} (hf : ∀ h, f h = z) (hg : ∀ h, g h = z) :
    dite p f g = z := by
  by_cases h : p
  · rw [dif_pos h, hf]
  · rw [dif_neg h, hg]

theorem gated_apply (a b c : FVec Ideal S128x2048 .f32) (W : Vec Ideal S8x128x128 .bf16) (v91 : Vec Ideal S128x1024 .f32) (r : Fin 128)
    (j : Fin 1024) (w0 w1 w2 w3 w4 w5 w6 w7 : Vec Ideal S1x128x128 .bf16)
    (h0 : ∀ r s, w0 (ix3 0 r s) = W (ix3 0 r s)) (h1 : ∀ r s, w1 (ix3 0 r s) = W (ix3 1 r s))
    (h2 : ∀ r s, w2 (ix3 0 r s) = W (ix3 2 r s)) (h3 : ∀ r s, w3 (ix3 0 r s) = W (ix3 3 r s))
    (h4 : ∀ r s, w4 (ix3 0 r s) = W (ix3 4 r s)) (h5 : ∀ r s, w5 (ix3 0 r s) = W (ix3 5 r s))
    (h6 : ∀ r s, w6 (ix3 0 r s) = W (ix3 6 r s)) (h7 : ∀ r s, w7 (ix3 0 r s) = W (ix3 7 r s)) :
    k0_pay13 (F := Ideal) (k0_pay6 a b c) (k0_pay8 a b c v42) (k0_pay9 a b c v42 w0) (k0_pay10 a b c v42 w1) (k0_pay11 a b c v42 w2)
        (k0_pay12 a b c v42 w3) w4 w5 w6 w7 v91 (ix2 r j)
      = k0_pay5 a b c (ix2 r ⟨j.val, by omega⟩)
        * ((∑ s, W (ix3 ⟨j.val / 128, by omega⟩ r s) * k0_pay7 a b c v42 (ix2 s j)) + v91 (ix2 r j)) := by
  obtain ⟨V, hV⟩ : ∃ V : Fin 128 → Fin 1024 → EReal, ∀ s j, k0_pay7 a b c v42 (ix2 s j) = V s j := ⟨_, fun _ _ => rfl⟩
  have key := slab W V r j
  pointwise [k0_pay13, k0_pay12, k0_pay11, k0_pay10, k0_pay9, k0_pay8, k0_pay6, dot_S128x128_S128x128_S128x128_1_0_0_1_n_n,
    h0, h1, h2, h3, h4, h5, h6, h7]
  simp only [hV]
  refine congrArg (fun z : EReal => _ * (z + _)) ?_
  refine dite_both (fun _ => key _ 0 (by omega) (by simp; omega) (by simp)) fun _ =>
    dite_both (fun _ => key _ 1 (by omega) (by simp; omega) (by simp; omega)) fun _ =>
    dite_both (fun _ => key _ 2 (by omega) (by simp; omega) (by simp; omega)) fun _ =>
    dite_both (fun _ => key _ 3 (by omega) (by simp; omega) (by simp; omega)) fun _ =>
    dite_both (fun _ => key _ 4 (by omega) (by simp; omega) (by simp; omega)) fun _ =>
    dite_both (fun _ => key _ 5 (by omega) (by simp; omega) (by simp; omega)) fun _ =>
    dite_both (fun _ => key _ 6 (by omega) (by simp; omega) (by simp; omega)) fun _ =>
    key _ 7 (by omega) (by simp; omega) (by simp; omega)

end Payloads

section Outputs

variable (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1024x2048 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S128x1024 .f32) (harg9 : arg9.IsWhole) (arg10 : Memref sig .tc .vmem S1024x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .bf16) (harg13 : arg13.IsWhole)
    (x0 : Vec Ideal S128x1024 .f32) (x1 : Vec Ideal S1x1024 .f32) (x2 : Vec Ideal S1x128x1024 .f32) (x3 : Vec Ideal S1x128x1024 .f32) (x4 : Vec Ideal S1x128x1024 .f32) (x5 : Vec Ideal S1024x2048 .bf16) (x6 : Vec Ideal S1x1024 .f32) (x7 : Vec Ideal S8x128x128 .bf16) (x8 : Vec Ideal S128x1024 .f32) (x9 : Vec Ideal S1024x1024 .bf16)

theorem out11_apply (r : Fin 128) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 r j)
      = vB x0 x1 x2 x3 x5 x6 r j := by
  unfold out0_A_11
  rw [View.read_writes_eq_canon _ _ _ (cover0_A_11 c i _ _ _ _ _ _ _ _ _ _ _ _ _ _ _ _ _ _ _ _ _ _ _ _ _ _ _ _ _ _ _ _ _ _ _ _)]
  unfold kernelRun0_A
  dsimp only
  rw [View.canon_unit_zero hz2]
  sl_unfold_words
  simp only [View.readAt_eq_ld, Memref.IsWhole.read_unread, View.ld_unit_zero (S := S128x1024) hz2, View.ld_unit_zero (S := S1x1024) hz2,
    View.ld_unit_zero (S := S1x128x1024) hz3, View.ld_unit_zero (S := S1024x2048) hz2]
  exact v_apply ..

theorem out10_apply (r : Fin 128) (j : Fin 1024) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 r j)
      = resAt (fun k => x0 (ix2 r k)) (fun k => x4 (ix3 0 r k))
          (fun k => actB x0 x1 x2 x3 x5 r ⟨k.val, by omega⟩ * ((∑ s, x7 (ix3 ⟨k.val / 128, by omega⟩ r s) * vB x0 x1 x2 x3 x5 x6 s k) + x8 (ix2 r k)))
          (fun k j => x9 (ix2 k j)) j := by
  unfold out0_A_10
  rw [View.read_writes_eq_canon _ _ _ (cover0_A_10 c i _ _ _ _ _ _ _ _ _ _ _ _ _ _ _ _ _ _ _ _ _ _ _ _ _ _ _ _ _ _ _ _ _ _ _ _)]
  unfold kernelRun0_A
  dsimp only
  rw [View.canon_unit_zero hz2]
  sl_unfold_words
  rw [View.readCov_unit_zero (S := S128x1024) _ hz2]
  simp only [View.readAt_eq_ld, Memref.IsWhole.read_unread, View.ld_unit_zero (S := S128x1024) hz2, View.ld_unit_zero (S := S1x1024) hz2,
    View.ld_unit_zero (S := S1x128x1024) hz3, View.ld_unit_zero (S := S1024x2048) hz2, View.ld_unit_zero (S := S1024x1024) hz2]
  pointwise [k0_pay1, k0_pay14, k0_pay15, dot_S128x1024_S1024x1024_S128x1024_1_0_0_1_n_n]
  unfold resAt
  congr 2
  refine Finset.sum_congr rfl fun k _ => ?_
  congr 1
  rw [gated_apply x6 _ _ _ x7 x8 r k _ _ _ _ _ _ _ _ (fun _ _ => by pointwise) (fun _ _ => by pointwise) (fun _ _ => by pointwise)
    (fun _ _ => by pointwise) (fun _ _ => by pointwise) (fun _ _ => by pointwise) (fun _ _ => by pointwise) (fun _ _ => by pointwise)]
  simp only [act_apply, v_apply]

end Outputs

end Cert.Mix.KerS
-- ==== Proof.RefS.lean ====
module

public import proofs.«01_k».proof.Proof.Math
public import proofs.«01_k».proof.Proof.Gen.MixSRefIdeal.Read

/-! The sample mixer's reference read at an index. -/

@[expose] public section

noncomputable section

namespace Cert.Mix.RefS

open Cert.MixSRefIdeal Cert.MixSRefIdeal.Read Idealize.ShloMosaic

variable (x0 : (⟨S1024x1024, .f32⟩ : BufTy).Contents (Elt Ideal)) (x1 : (⟨S1024, .f32⟩ : BufTy).Contents (Elt Ideal))
  (x2 x3 x4 : (⟨S128x1024, .f32⟩ : BufTy).Contents (Elt Ideal)) (x5 : (⟨S1024x2048, .f32⟩ : BufTy).Contents (Elt Ideal))
  (x6 : (⟨S1024, .f32⟩ : BufTy).Contents (Elt Ideal)) (x7 : (⟨S8x128x128, .f32⟩ : BufTy).Contents (Elt Ideal))
  (x8 : (⟨S8x128, .f32⟩ : BufTy).Contents (Elt Ideal)) (x9 : (⟨S1024x1024, .f32⟩ : BufTy).Contents (Elt Ideal))

/-- Row `t` of sample `b`. -/
def row (b : Fin 128) (t : Fin 8) : Fin 1024 := ⟨b.val * 8 + t.val, by omega⟩

theorem x_apply (b : Fin 128) (t : Fin 8) (k : Fin 1024) : val_main_v0 (F := Ideal) x0 (ix3 b t k) = x0 (ix2 (row b t) k) := by
  rw [val_main_v0_apply]; congr 1; funext a
  match a with
  | ⟨0, _⟩ => exact Fin.ext (show ((b.val * 8 + t.val) * 1024 + k.val) / 1024 = b.val * 8 + t.val by omega)
  | ⟨1, _⟩ => exact Fin.ext (show ((b.val * 8 + t.val) * 1024 + k.val) % 1024 = k.val by omega)

theorem h_apply (b : Fin 128) (t : Fin 8) (k : Fin 1024) :
    val_main_v21 (F := Ideal) x0 x1 x2 x3 (ix3 b t k)
      = hid (fun j => x0 (ix2 (row b t) j)) (fun j => x1 (ix1 j)) (fun j => x2 (ix2 b j)) (fun j => x3 (ix2 b j)) k := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_cst, val_main_cst_0, val_main_cst_1, val_main_cst_2, x_apply]
  rfl

theorem z_apply (b : Fin 128) (t : Fin 8) (j : Fin 2048) :
    val_main_v22 (F := Ideal) x0 x1 x2 x3 x5 (ix3 b t j)
      = ∑ k, val_main_v21 (F := Ideal) x0 x1 x2 x3 (ix3 b t k) * x5 (ix2 k j) := by
  pointwise [val_main_v22, dot_S128x8x1024_S1024x2048_S128x8x2048_2_0_01_1_n_n]

theorem act_apply (b : Fin 128) (t : Fin 8) (j : Fin 2048) :
    val_main_v35 (F := Ideal) x0 x1 x2 x3 x5 (ix3 b t j)
      = act (fun j => x0 (ix2 (row b t) j)) (fun j => x1 (ix1 j)) (fun j => x2 (ix2 b j)) (fun j => x3 (ix2 b j)) (fun k j => x5 (ix2 k j)) j := by
  have hz := z_apply x0 x1 x2 x3 x5 b t j
  simp only [h_apply] at hz
  pointwise [val_main_v35, val_main_v34, val_main_v33, val_main_v32, val_main_v31, val_main_v30, val_main_v29, val_main_v28,
    val_main_v27, val_main_v26, val_main_v25, val_main_v24, val_main_v23, val_main_cst_3, val_main_cst_4, val_main_cst_5, val_main_cst_6]
  rw [hz]; unfold act gel
  rw [mul_assoc (∑ k, _)]

theorem v_apply (b : Fin 128) (t : Fin 8) (j : Fin 1024) :
    val_main_v50 (F := Ideal) x0 x1 x2 x3 x5 x6 (ix3 b t j)
      = vAt (fun j => x0 (ix2 (row b t) j)) (fun j => x1 (ix1 j)) (fun j => x2 (ix2 b j)) (fun j => x3 (ix2 b j)) (fun k j => x5 (ix2 k j)) (fun j => x6 (ix1 j)) j := by
  pointwise [val_main_v50, val_main_v49, val_main_v48, val_main_v47, val_main_v46, val_main_v45, val_main_v44, val_main_v43,
    val_main_v42, val_main_v41, val_main_v40, val_main_v39, val_main_v38, val_main_v37, val_main_cst_7, val_main_cst_8, val_main_cst_9, act_apply]
  rfl

/-- The causal gate weights of one chunk of 8 rows. -/
abbrev wts : S8x8x8.Idx → EReal := val_main_v54 (F := Ideal) x7

theorem s_apply (b : Fin 128) (t : Fin 8) (j : Fin 1024) :
    val_main_v63 (F := Ideal) x0 x1 x2 x3 x5 x6 x7 x8 (ix3 b t j)
      = (∑ s : Fin 8, wts x7 (ix3 ⟨j.val / 128, by omega⟩ t s) * val_main_v50 (F := Ideal) x0 x1 x2 x3 x5 x6 (ix3 b s j))
        + x8 (ix2 ⟨j.val / 128, by omega⟩ ⟨t.val, by omega⟩) := by
  pointwise [val_main_v63, val_main_v62, val_main_v61, val_main_v60, val_main_v59, val_main_v58, val_main_v57, val_main_v56, val_main_v55,
    dot_S128x1x8x8x128_S8x8x8_S8x128x1x128x8_2_2_014_1_3_0]
  exact congrArg (· + _) (Finset.sum_congr rfl fun _ _ => mul_comm _ _)

theorem out_apply (b : Fin 128) (t : Fin 8) (j : Fin 1024) :
    val_main_v69 (F := Ideal) x0 x1 x2 x3 x4 x5 x6 x7 x8 x9 (ix3 b t j)
      = resAt (fun j => x0 (ix2 (row b t) j)) (fun j => x4 (ix2 b j))
          (fun j => val_main_v35 (F := Ideal) x0 x1 x2 x3 x5 (ix3 b t ⟨j.val, by omega⟩) * val_main_v63 (F := Ideal) x0 x1 x2 x3 x5 x6 x7 x8 (ix3 b t j))
          (fun k j => x9 (ix2 k j)) j := by
  pointwise [val_main_v69, val_main_v68, val_main_v67, val_main_v66, val_main_v65, val_main_v64, val_main_v36, x_apply,
    dot_S128x8x1024_S1024x1024_S128x8x1024_2_0_01_1_n_n]
  rfl

end Cert.Mix.RefS
-- ==== Proof.BlkS.lean ====
module

public import proofs.«01_k».proof.Proof.KerS
public import proofs.«01_k».proof.Proof.RefS
public import Idealize.ShloMosaic.Lib.Pipeline.ValueKit

/-! The sample mixer's kernel: the blocks that a grid point reads. -/

@[expose] public section

noncomputable section

namespace Cert.Mix.BlkS

open Cert.MixSIdeal Cert.MixSIdeal.Gen Idealize.ShloMosaic Idealize.ShloMosaic.TcCoe Idealize.SL.Sem
open Cert.Mix.KerS Cert.MixSRefIdeal.Read

variable (m : (ℓ : Loc nD τ sig) → Buf (Elt Ideal) ℓ) (c : Dev nD) (t : Fin cfg0.N)

section Blocks

/-! ### The arguments -/

abbrev a0 : (⟨S1024x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S128x1024, .f32⟩ : BufTy).Contents (Elt Ideal) := m ((c : Thread nD τ).loc main_arg2)
abbrev a3 : (⟨S128x1024, .f32⟩ : BufTy).Contents (Elt Ideal) := m ((c : Thread nD τ).loc main_arg3)
abbrev a4 : (⟨S128x1024, .f32⟩ : BufTy).Contents (Elt Ideal) := m ((c : Thread nD τ).loc main_arg4)
abbrev a5 : (⟨S1024x2048, .f32⟩ : BufTy).Contents (Elt Ideal) := m ((c : Thread nD τ).loc main_arg5)
abbrev a6 : (⟨S1024, .f32⟩ : BufTy).Contents (Elt Ideal) := m ((c : Thread nD τ).loc main_arg6)
abbrev a7 : (⟨S8x128x128, .f32⟩ : BufTy).Contents (Elt Ideal) := m ((c : Thread nD τ).loc main_arg7)
abbrev a8 : (⟨S8x128, .f32⟩ : BufTy).Contents (Elt Ideal) := m ((c : Thread nD τ).loc main_arg8)
abbrev a9 : (⟨S1024x1024, .f32⟩ : BufTy).Contents (Elt Ideal) := m ((c : Thread nD τ).loc main_arg9)

theorem idx : ∀ t : Fin cfg0.N, win0_0.index t = ![t.val, 0] ∧ win0_1.index t = ![0, 0] ∧ win0_2.index t = ![t.val, 0, 0]
    ∧ win0_3.index t = ![t.val, 0, 0] ∧ win0_4.index t = ![t.val, 0, 0] ∧ win0_5.index t = ![0, 0] ∧ win0_6.index t = ![0, 0]
    ∧ win0_7.index t = ![0, 0, 0] ∧ win0_8.index t = ![0, 0] ∧ win0_9.index t = ![0, 0] ∧ win0_10.index t = ![t.val, 0]
    ∧ win0_11.index t = ![t.val, 0] := by decide +kernel

theorem t_lt : t.val < 8 := t.isLt

theorem b0 (r : Fin 128) (k : Fin 1024) : iblk m c 0 t (ix2 r k)
    = a0 m c (ix2 ⟨128 * t.val + r.val, by have := t_lt t; omega⟩ k) := by
  blk_ext [iblk, idx t]

theorem b1 (k : Fin 1024) : iblk m c 1 t (ix2 0 k) = a1 m c (ix1 k) := by
  have e : (win0_1.blk t).view.emb (ix2 0 k) = (ix2 0 k : S1x1024.Idx) := by blk_ext [idx t]
  show V m c main_v24 ((win0_1.blk t).view.emb (ix2 0 k)) = _
  rw [e]
  simp only [V, hostOps0, hostOps0_1, hostOps0_2, hostOps0_3, hostOps0_4, List.flatten_cons, List.flatten_nil, List.append_nil,
    List.cons_append, List.nil_append]
  entry_read
  pointwise

theorem b2 (r : Fin 128) (k : Fin 1024) : iblk m c 2 t (ix3 0 r k)
    = a2 m c (ix2 ⟨(128 * t.val + r.val) / 8, by have := t_lt t; omega⟩ k) := by
  have e : (win0_2.blk t).view.emb (ix3 0 r k) = (ix3 ⟨t.val, t.isLt⟩ r k : S8x128x1024.Idx) := by blk_ext [idx t]
  show V m c main_v30 ((win0_2.blk t).view.emb (ix3 0 r k)) = _
  rw [e]
  simp only [V, hostOps0, hostOps0_1, hostOps0_2, hostOps0_3, hostOps0_4, List.flatten_cons, List.flatten_nil, List.append_nil,
    List.cons_append, List.nil_append]
  entry_read
  pointwise
  show m ((c : Thread nD τ).loc main_arg2) _ = _
  congr 2
  exact Fin.ext (show t.val * 16 + r.val / 8 = (128 * t.val + r.val) / 8 by omega)

theorem b3 (r : Fin 128) (k : Fin 1024) : iblk m c 3 t (ix3 0 r k)
    = a3 m c (ix2 ⟨(128 * t.val + r.val) / 8, by have := t_lt t; omega⟩ k) := by
  have e : (win0_3.blk t).view.emb (ix3 0 r k) = (ix3 ⟨t.val, t.isLt⟩ r k : S8x128x1024.Idx) := by blk_ext [idx t]
  show V m c main_v33 ((win0_3.blk t).view.emb (ix3 0 r k)) = _
  rw [e]
  simp only [V, hostOps0, hostOps0_1, hostOps0_2, hostOps0_3, hostOps0_4, List.flatten_cons, List.flatten_nil, List.append_nil,
    List.cons_append, List.nil_append]
  entry_read
  pointwise
  show m ((c : Thread nD τ).loc main_arg3) _ = _
  congr 2
  exact Fin.ext (show t.val * 16 + r.val / 8 = (128 * t.val + r.val) / 8 by omega)

theorem b4 (r : Fin 128) (k : Fin 1024) : iblk m c 4 t (ix3 0 r k)
    = a4 m c (ix2 ⟨(128 * t.val + r.val) / 8, by have := t_lt t; omega⟩ k) := by
  have e : (win0_4.blk t).view.emb (ix3 0 r k) = (ix3 ⟨t.val, t.isLt⟩ r k : S8x128x1024.Idx) := by blk_ext [idx t]
  show V m c main_v36 ((win0_4.blk t).view.emb (ix3 0 r k)) = _
  rw [e]
  simp only [V, hostOps0, hostOps0_1, hostOps0_2, hostOps0_3, hostOps0_4, List.flatten_cons, List.flatten_nil, List.append_nil,
    List.cons_append, List.nil_append]
  entry_read
  pointwise
  show m ((c : Thread nD τ).loc main_arg4) _ = _
  congr 2
  exact Fin.ext (show t.val * 16 + r.val / 8 = (128 * t.val + r.val) / 8 by omega)

theorem b5 (k : Fin 1024) (j : Fin 2048) : iblk m c 5 t (ix2 k j) = a5 m c (ix2 k j) := by
  have e : (win0_5.blk t).view.emb (ix2 k j) = (ix2 k j : S1024x2048.Idx) := by blk_ext [idx t]
  show V m c main_v25 ((win0_5.blk t).view.emb (ix2 k j)) = _
  rw [e]
  simp only [V, hostOps0, hostOps0_1, hostOps0_2, hostOps0_3, hostOps0_4, List.flatten_cons, List.flatten_nil, List.append_nil,
    List.cons_append, List.nil_append]
  entry_read
  pointwise

theorem b6 (k : Fin 1024) : iblk m c 6 t (ix2 0 k) = a6 m c (ix1 k) := by
  have e : (win0_6.blk t).view.emb (ix2 0 k) = (ix2 0 k : S1x1024.Idx) := by blk_ext [idx t]
  show V m c main_v26 ((win0_6.blk t).view.emb (ix2 0 k)) = _
  rw [e]
  simp only [V, hostOps0, hostOps0_1, hostOps0_2, hostOps0_3, hostOps0_4, List.flatten_cons, List.flatten_nil, List.append_nil,
    List.cons_append, List.nil_append]
  entry_read
  pointwise

/-- The gate weights of a block of 16 chunks: the chunk's weights on the diagonal, zeros off it. -/
theorem b7 (g : Fin 8) (r s : Fin 128) : iblk m c 7 t (ix3 g r s)
    = (if r.val / 8 = s.val / 8 then (1 : EReal) else 0)
      * RefS.wts (a7 m c) (ix3 g ⟨r.val % 8, by omega⟩ ⟨s.val % 8, by omega⟩) := by
  have e : (win0_7.blk t).view.emb (ix3 g r s) = (ix3 g r s : S8x128x128.Idx) := by blk_ext [idx t]
  show V m c main_v23 ((win0_7.blk t).view.emb (ix3 g r s)) = _
  rw [e]
  simp only [V, hostOps0, hostOps0_1, hostOps0_2, hostOps0_3, hostOps0_4, List.flatten_cons, List.flatten_nil, List.append_nil,
    List.cons_append, List.nil_append]
  entry_read
  pointwise
  have hd : FloatOps.uitofp (F := Ideal) FTy.f32
        (IntOp.cmpi CmpIPredicate.eq (IntOp.addi (BitVec.ofNat 32 (r.val / 8)) 0#32) (BitVec.ofNat 32 (s.val / 8)))
      = (if r.val / 8 = s.val / 8 then (1 : EReal) else 0) := by
    rw [show IntOp.addi (BitVec.ofNat 32 (r.val / 8)) 0#32 = BitVec.ofNat 32 (r.val / 8) from BitVec.add_zero _,
      WordCmp.cmpi_eq_ofNat (by omega) (by omega)]
    by_cases h : r.val / 8 = s.val / 8
    · simp [h, FloatOps.uitofp]
    · simp [h, FloatOps.uitofp]
  exact congrArg₂ (fun a b : EReal => a * b) hd rfl

theorem b8 (r : Fin 128) (k : Fin 1024) : iblk m c 8 t (ix2 r k)
    = a8 m c (ix2 ⟨k.val / 128, by omega⟩ ⟨r.val % 8, by omega⟩) := by
  have e : (win0_8.blk t).view.emb (ix2 r k) = (ix2 r k : S128x1024.Idx) := by blk_ext [idx t]
  show V m c main_v22 ((win0_8.blk t).view.emb (ix2 r k)) = _
  rw [e]
  simp only [V, hostOps0, hostOps0_1, hostOps0_2, hostOps0_3, hostOps0_4, List.flatten_cons, List.flatten_nil, List.append_nil,
    List.cons_append, List.nil_append]
  entry_read
  pointwise

theorem b9 (k : Fin 1024) (j : Fin 1024) : iblk m c 9 t (ix2 k j) = a9 m c (ix2 k j) := by
  have e : (win0_9.blk t).view.emb (ix2 k j) = (ix2 k j : S1024x1024.Idx) := by blk_ext [idx t]
  show V m c main_v27 ((win0_9.blk t).view.emb (ix2 k j)) = _
  rw [e]
  simp only [V, hostOps0, hostOps0_1, hostOps0_2, hostOps0_3, hostOps0_4, List.flatten_cons, List.flatten_nil, List.append_nil,
    List.cons_append, List.nil_append]
  entry_read
  pointwise

/-- Sums over a block's rows against block-diagonal weights are sums over the chunk's rows. -/
theorem sum_diag (w : Fin 8 → EReal) (v : Fin 128 → EReal) (q : Fin 16) :
    (∑ s : Fin 128, ((if q.val = s.val / 8 then (1 : EReal) else 0) * w ⟨s.val % 8, by omega⟩) * v s)
      = ∑ s : Fin 8, w s * v ⟨q.val * 8 + s.val, by omega⟩ := by
  rw [← Finset.sum_filter_add_sum_filter_not _ (fun s : Fin 128 => q.val = s.val / 8)]
  rw [Finset.sum_eq_zero (s := Finset.filter (fun s : Fin 128 => ¬ q.val = s.val / 8) _) (fun s hs => by
    rw [if_neg (Finset.mem_filter.mp hs).2, zero_mul, zero_mul]), add_zero]
  refine (Finset.sum_bij (fun (s : Fin 8) _ => (⟨q.val * 8 + s.val, by omega⟩ : Fin 128)) ?_ ?_ ?_ ?_).symm
  · intro s _; simp; omega
  · intro a _ b _ h; have := congrArg Fin.val h; simp at this; exact Fin.ext this
  · intro s hs; have h := (Finset.mem_filter.mp hs).2
    exact ⟨⟨s.val % 8, by omega⟩, Finset.mem_univ _, Fin.ext (show q.val * 8 + s.val % 8 = s.val by omega)⟩
  · intro s _
    rw [if_pos (show q.val = (q.val * 8 + s.val) / 8 by omega), one_mul]
    congr 2
    exact Fin.ext (show s.val = (q.val * 8 + s.val) % 8 by omega)

end Blocks

end Cert.Mix.BlkS
-- ==== Proof.ArrS.lean ====
module

public import proofs.«01_k».proof.Proof.BlkS

/-! The sample mixer's kernel: its two output arrays are the reference's results. -/

@[expose] public section

noncomputable section

namespace Cert.Mix.ArrS

open Cert.MixSIdeal Cert.MixSIdeal.Gen Idealize.ShloMosaic Idealize.ShloMosaic.TcCoe Idealize.SL.Sem
open Cert.Mix.KerS Cert.Mix.BlkS Cert.MixSRefIdeal.Read

variable (m : (ℓ : Loc nD τ sig) → Buf (Elt Ideal) ℓ) (c : Dev nD) (t : Fin cfg0.N)

/-! ### The blocks' rows as rows of the whole -/

/-- The sample of row `r` of block `t`. -/
def bb (r : Fin 128) : Fin 128 := ⟨(128 * t.val + r.val) / 8, by have := t_lt t; omega⟩
/-- The chunk row of row `r` of a block. -/
def tt (r : Fin 128) : Fin 8 := ⟨r.val % 8, by omega⟩

theorem row_eq (r : Fin 128) : (⟨128 * t.val + r.val, by have := t_lt t; omega⟩ : Fin 1024) = RefS.row (bb t r) (tt r) :=
  Fin.ext (show 128 * t.val + r.val = (128 * t.val + r.val) / 8 * 8 + r.val % 8 by omega)

theorem act_block (r : Fin 128) (j : Fin 2048) :
    actB (iblk m c 0 t) (iblk m c 1 t) (iblk m c 2 t) (iblk m c 3 t) (iblk m c 5 t) r j
      = val_main_v35 (F := Ideal) (a0 m c) (a1 m c) (a2 m c) (a3 m c) (a5 m c) (ix3 (bb t r) (tt r) j) := by
  rw [RefS.act_apply, ← row_eq]
  simp only [actB, b0, b1, b2, b3, b5, bb]

theorem v_block (r : Fin 128) (j : Fin 1024) :
    vB (iblk m c 0 t) (iblk m c 1 t) (iblk m c 2 t) (iblk m c 3 t) (iblk m c 5 t) (iblk m c 6 t) r j
      = val_main_v50 (F := Ideal) (a0 m c) (a1 m c) (a2 m c) (a3 m c) (a5 m c) (a6 m c) (ix3 (bb t r) (tt r) j) := by
  rw [RefS.v_apply, ← row_eq]
  simp only [vB, b0, b1, b2, b3, b5, b6, bb]

theorem s_block (r : Fin 128) (k : Fin 1024) :
    HAdd.hAdd (α := EReal) (β := EReal) (∑ s : Fin 128, HMul.hMul (α := EReal) (β := EReal) (γ := EReal) (iblk m c 7 t (ix3 ⟨k.val / 128, by omega⟩ r s))
        (vB (iblk m c 0 t) (iblk m c 1 t) (iblk m c 2 t) (iblk m c 3 t) (iblk m c 5 t) (iblk m c 6 t) s k)) (iblk m c 8 t (ix2 r k))
      = val_main_v63 (F := Ideal) (a0 m c) (a1 m c) (a2 m c) (a3 m c) (a5 m c) (a6 m c) (a7 m c) (a8 m c) (ix3 (bb t r) (tt r) k) := by
  rw [RefS.s_apply, b8]
  refine congrArg (fun z : EReal => z + (a8 m c) (ix2 ⟨k.val / 128, by omega⟩ ⟨r.val % 8, by omega⟩)) ?_
  have h := sum_diag (fun s => RefS.wts (a7 m c) (ix3 ⟨k.val / 128, by omega⟩ (tt r) s))
    (fun s => val_main_v50 (F := Ideal) (a0 m c) (a1 m c) (a2 m c) (a3 m c) (a5 m c) (a6 m c) (ix3 (bb t s) (tt s) k)) ⟨r.val / 8, by omega⟩
  refine Eq.trans (Finset.sum_congr rfl fun s _ => ?_) (h.trans (Finset.sum_congr rfl fun s _ => ?_))
  · rw [b7, v_block]; rfl
  · have e1 : bb t ⟨r.val / 8 * 8 + s.val, by omega⟩ = bb t r :=
      Fin.ext (show (128 * t.val + (r.val / 8 * 8 + s.val)) / 8 = (128 * t.val + r.val) / 8 by omega)
    have e2 : tt ⟨r.val / 8 * 8 + s.val, by omega⟩ = s := Fin.ext (show (r.val / 8 * 8 + s.val) % 8 = s.val by omega)
    simp only [e1, e2]

/-- The reference's rows, laid out in one axis. -/
theorem flat11 (n j : Fin 1024) : val_main_v71 (F := Ideal) (a0 m c) (a1 m c) (a2 m c) (a3 m c) (a5 m c) (a6 m c) (ix2 n j)
    = val_main_v50 (F := Ideal) (a0 m c) (a1 m c) (a2 m c) (a3 m c) (a5 m c) (a6 m c) (ix3 ⟨n.val / 8, by omega⟩ ⟨n.val % 8, by omega⟩ j) := by
  pointwise [val_main_v71]

theorem flat10 (n j : Fin 1024) : val_main_v70 (F := Ideal) (a0 m c) (a1 m c) (a2 m c) (a3 m c) (a4 m c) (a5 m c) (a6 m c) (a7 m c) (a8 m c) (a9 m c) (ix2 n j)
    = val_main_v69 (F := Ideal) (a0 m c) (a1 m c) (a2 m c) (a3 m c) (a4 m c) (a5 m c) (a6 m c) (a7 m c) (a8 m c) (a9 m c)
        (ix3 ⟨n.val / 8, by omega⟩ ⟨n.val % 8, by omega⟩ j) := by
  pointwise [val_main_v70]

/-- The layer's output rows. -/
theorem arr10 : (dats m 0 c).arrAt 10 cfg0.N = val_main_v70 (F := Ideal) (a0 m c) (a1 m c) (a2 m c) (a3 m c) (a4 m c) (a5 m c) (a6 m c) (a7 m c) (a8 m c) (a9 m c) := by
  refine (dats m 0 c).arrAt_eq_of_covers 10 _ (by decide +kernel) fun t hf y => ?_
  blk_simp
  rw [after0_10]
  obtain ⟨r, j, rfl⟩ : ∃ (r : Fin 128) (j : Fin 1024), y = ix2 r j := ⟨y 0, y 1, eq_ix2 y⟩
  have e : (win0_10.blk t).view.emb (ix2 r j) = (ix2 ⟨128 * t.val + r.val, by have := t_lt t; omega⟩ j : S1024x1024.Idx) := by
    blk_ext [idx t]
  rw [e, flat10]
  simp only [outsAt0]
  rw [out10_apply]
  rw [show val_main_v69 (F := Ideal) (a0 m c) (a1 m c) (a2 m c) (a3 m c) (a4 m c) (a5 m c) (a6 m c) (a7 m c) (a8 m c) (a9 m c)
      (ix3 ⟨(⟨128 * t.val + r.val, by have := t_lt t; omega⟩ : Fin 1024).val / 8, by have := t_lt t; omega⟩
        ⟨(⟨128 * t.val + r.val, by have := t_lt t; omega⟩ : Fin 1024).val % 8, by omega⟩ j)
      = val_main_v69 (F := Ideal) (a0 m c) (a1 m c) (a2 m c) (a3 m c) (a4 m c) (a5 m c) (a6 m c) (a7 m c) (a8 m c) (a9 m c)
      (ix3 (bb t r) (tt r) j) from congrArg _ (by blk_ext [bb, tt]), RefS.out_apply]
  unfold resAt
  refine congrArg₂ (fun x y : EReal => x + y) ?_ (congrArg₂ (fun x y : EReal => x * y) ?_ (Finset.sum_congr rfl fun k _ =>
    congrArg₂ (fun x y : EReal => x * y) (congrArg₂ (fun x y : EReal => x * y) (act_block m c t r _) (s_block m c t r k)) ?_))
  · exact (b0 m c t r j).trans (by rw [row_eq])
  · exact b4 m c t r j
  · exact b9 m c t k j

/-- The rows kept of the second half. -/
theorem arr11 : (dats m 0 c).arrAt 11 cfg0.N = val_main_v71 (F := Ideal) (a0 m c) (a1 m c) (a2 m c) (a3 m c) (a5 m c) (a6 m c) := by
  refine (dats m 0 c).arrAt_eq_of_covers 11 _ (by decide +kernel) fun t hf y => ?_
  blk_simp
  rw [after0_11]
  obtain ⟨r, j, rfl⟩ : ∃ (r : Fin 128) (j : Fin 1024), y = ix2 r j := ⟨y 0, y 1, eq_ix2 y⟩
  have e : (win0_11.blk t).view.emb (ix2 r j) = (ix2 ⟨128 * t.val + r.val, by have := t_lt t; omega⟩ j : S1024x1024.Idx) := by
    blk_ext [idx t]
  rw [e, flat11]
  simp only [outsAt0]
  rw [out11_apply, v_block]
  exact congrArg (val_main_v50 (F := Ideal) (a0 m c) (a1 m c) (a2 m c) (a3 m c) (a5 m c) (a6 m c)) (by blk_ext [bb, tt])

end Cert.Mix.ArrS
-- ==== Proof.ClaimS.lean ====
module

public import proofs.«01_k».proof.Defs
public import proofs.«01_k».proof.Proof.ArrS
public import proofs.«01_k».proof.Proof.Gen.MixSRefIdeal.Run

/-! The claim about the sample mixer: the kernel's results are its reference's. -/

@[expose] public section

noncomputable section

namespace Cert.Mix.ClaimS

open Idealize.ShloMosaic Idealize.SL.Sem Cert.MixSRefIdeal.Read Cert.Mix.BlkS

theorem algebraic : Cert.algebraic_MixSIdeal_MixSRefIdeal := by
  intro m g m' g' _ hagree
  refine ⟨fun c => val_main_v70 (F := Ideal) (a0 m c) (a1 m c) (a2 m c) (a3 m c) (a4 m c) (a5 m c) (a6 m c) (a7 m c) (a8 m c) (a9 m c),
    fun c => val_main_v71 (F := Ideal) (a0 m c) (a1 m c) (a2 m c) (a3 m c) (a5 m c) (a6 m c), ?_, ?_⟩
  · refine (θ_run Cert.MixSIdeal.defs _ _).mono (fun r h c => ?_) (Cert.MixSIdeal.Value.run_blocks (F := Ideal) m g)
    obtain ⟨h0, h1, h2⟩ := h c
    exact ⟨h0.trans (ArrS.arr10 m c), h1.trans (ArrS.arr11 m c), h2⟩
  · refine (θ_run Cert.MixSRefIdeal.defs _ _).mono (fun r h c => ?_) (Cert.MixSRefIdeal.Value.run (F := Ideal) m' g')
    obtain ⟨h0, h1, h2⟩ := h c
    obtain ⟨e0, e1, e2, e3, e4, e5, e6, e7, e8, e9⟩ := hagree c
    refine ⟨h0.trans ((val_main_v70_eq m' c).trans ?_), h1.trans ((val_main_v71_eq m' c).trans ?_), h2⟩
    · rw [e0, e1, e2, e3, e4, e5, e6, e7, e8, e9]
    · rw [e0, e1, e2, e3, e5, e6]

theorem frameRef : Cert.quiescent_MixSRefIdeal := fun m ρ _ =>
  (θ_run Cert.MixSRefIdeal.defs _ _).mono (fun _ h => ⟨fun c => (h c).2.2, sem_eq_zero_of_no_sems (by decide) _⟩)
    (Cert.MixSRefIdeal.Value.run (F := Ideal) m ρ)

end Cert.Mix.ClaimS
-- ==== Proof.MathK.lean ====
module

public import proofs.«01_k».proof.Proof.Math

/-! The attention input's arithmetic on one row, over the extended reals. -/

@[expose] public section

noncomputable section

namespace Cert.Mix

open Idealize.ShloMosaic

/-- The residual row after the peer's part is added. -/
def upd (x g p : Fin 1024 → EReal) (k : Fin 1024) : EReal := x k + g k * p k

/-- One column of the projection of a normed row. -/
def nproj (x g : Fin 1024 → EReal) (w : Fin 1024 → Fin 2048 → EReal) (j : Fin 2048) : EReal := ∑ k, nrm x (g k) k * w k j

/-- One column of the projection of a modulated normed row. -/
def hproj (x gm sc sh : Fin 1024 → EReal) (w : Fin 1024 → Fin 1024 → EReal) (j : Fin 1024) : EReal := ∑ k, hid x gm sc sh k * w k j

end Cert.Mix
-- ==== Proof.KerKP.lean ====
module

public import proofs.«01_k».proof.Proof.Gen.KvqPIdeal.Value
public import proofs.«01_k».proof.Proof.MathK
public import Idealize.ShloMosaic.Lib.Claim
public import Idealize.ShloMosaic.Lib.Pointwise
public import Idealize.ShloMosaic.Lib.Pipeline.ReadBack
public import Idealize.ShloMosaic.Lib.Pipeline.ValueKit

/-! The prompt attention input's kernel: what one grid point leaves in its output blocks. -/

@[expose] public section

noncomputable section

namespace Cert.Mix.KerKP

open Cert.KvqPIdeal Cert.KvqPIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (v0 : Vec Ideal S256x1024 .f32) (v1 v6 v7 : Vec Ideal S1x1x1024 .f32) (v3 : Vec Ideal S1024x256 .f32) (g gm : Vec Ideal S1x1024 .f32)
  (w : Vec Ideal S1024x2048 .bf16) (wq : Vec Ideal S1024x1024 .bf16)

/-- Row `r` of a block, the peer's part added. -/
abbrev updB (r : Fin 256) : Fin 1024 → EReal := upd (fun k => v0 (ix2 r k)) (fun k => v1 (ix3 0 0 k)) (fun k => v3 (ix2 k r))

/-- The projection of row `r` of a block. -/
abbrev kvB (r : Fin 256) (j : Fin 2048) : EReal := nproj (updB v0 v1 v3 r) (fun k => g (ix2 0 k)) (fun k j => w (ix2 k j)) j

/-- The query of row `r` of a block. -/
abbrev qB (r : Fin 256) (j : Fin 1024) : EReal :=
  hproj (updB v0 v1 v3 r) (fun k => gm (ix2 0 k)) (fun k => v6 (ix3 0 0 k)) (fun k => v7 (ix3 0 0 k)) (fun k j => wq (ix2 k j)) j

theorem upd_apply (r : Fin 256) (k : Fin 1024) : k0_pay2 v0 v1 v3 (ix2 r k) = updB v0 v1 v3 r k := by
  pointwise [k0_pay2]
  rfl

theorem kv_apply (r : Fin 256) (j : Fin 2048) : k0_pay3 v0 v1 v3 g w (ix2 r j) = kvB v0 v1 v3 g w r j := by
  pointwise [k0_pay3, upd_apply, dot_S256x1024_S1024x2048_S256x2048_1_0_0_1_n_n]
  rfl

theorem q_apply (r : Fin 256) (j : Fin 1024) : k0_pay1 (k0_pay12 (k0_pay2 v0 v1 v3) gm v6) v7 wq (ix2 r j) = qB v0 v1 v6 v7 v3 gm wq r j := by
  pointwise [k0_pay1, k0_pay12, upd_apply, dot_S256x1024_S1024x1024_S256x1024_1_0_0_1_n_n]
  rfl

end Payloads

section Outputs

variable (x0 : Vec Ideal S256x1024 .f32) (x1 : Vec Ideal S1024x256 .f32) (x2 : Vec Ideal S1x1x1024 .f32) (x3 : Vec Ideal S1x1024 .f32)
  (x4 : Vec Ideal S1024x2048 .bf16) (x5 : Vec Ideal S1x1024 .f32) (x6 x7 : Vec Ideal S1x1x1024 .f32) (x8 : Vec Ideal S1024x1024 .bf16)

theorem out9_apply (r : Fin 256) (j : Fin 1024) : out0_9 x0 x1 x2 x3 x4 x5 x6 x7 x8 (ix2 r j) = updB x0 x2 x1 r j := by
  unfold out0_9
  rw [View.canon_unit_zero hz2]
  simp only [View.ld_unit_zero (S := S256x1024) hz2, View.ld_unit_zero (S := S1x1024) hz2, View.ld_unit_zero (S := S1024x256) hz2,
    View.ld_unit_zero (S := S1x1x1024) hz3, View.ld_unit_zero (S := S1024x2048) hz2, View.ld_unit_zero (S := S1024x1024) hz2]
  exact upd_apply ..

theorem out10_apply (r : Fin 256) (j : Fin 1024) (hj : j.val < 2048) : out0_10 x0 x1 x2 x3 x4 x5 x6 x7 x8 (ix3 0 j r) = kvB x0 x2 x1 x3 x4 r ⟨j.val, hj⟩ := by
  unfold out0_10
  rw [View.canon_unit_zero hz3]
  simp only [View.ld_unit_zero (S := S256x1024) hz2, View.ld_unit_zero (S := S1x1024) hz2, View.ld_unit_zero (S := S1024x256) hz2,
    View.ld_unit_zero (S := S1x1x1024) hz3, View.ld_unit_zero (S := S1024x2048) hz2, View.ld_unit_zero (S := S1024x1024) hz2]
  pointwise [k0_pay6, k0_pay4, kv_apply]

theorem out11_apply (r : Fin 256) (j : Fin 1024) (hj : 1024 + j.val < 2048) : out0_11 x0 x1 x2 x3 x4 x5 x6 x7 x8 (ix3 0 j r) = kvB x0 x2 x1 x3 x4 r ⟨1024 + j.val, hj⟩ := by
  unfold out0_11
  rw [View.canon_unit_zero hz3]
  simp only [View.ld_unit_zero (S := S256x1024) hz2, View.ld_unit_zero (S := S1x1024) hz2, View.ld_unit_zero (S := S1024x256) hz2,
    View.ld_unit_zero (S := S1x1x1024) hz3, View.ld_unit_zero (S := S1024x2048) hz2, View.ld_unit_zero (S := S1024x1024) hz2]
  pointwise [k0_pay8, k0_pay7, k0_pay5, kv_apply]

theorem out12_apply (r : Fin 256) (j : Fin 1024) (hj : j.val < 2048) : out0_12 x0 x1 x2 x3 x4 x5 x6 x7 x8 (ix2 r j) = kvB x0 x2 x1 x3 x4 r ⟨j.val, hj⟩ := by
  unfold out0_12
  rw [View.canon_unit_zero hz2]
  simp only [k0_pay13, View.ld_unit_zero (S := S256x1024) hz2, View.ld_unit_zero (S := S1x1024) hz2, View.ld_unit_zero (S := S1024x256) hz2,
    View.ld_unit_zero (S := S1x1x1024) hz3, View.ld_unit_zero (S := S1024x2048) hz2, View.ld_unit_zero (S := S1024x1024) hz2]
  pointwise [k0_pay9, k0_pay4, kv_apply]

theorem out13_apply (r : Fin 256) (j : Fin 1024) (hj : 1024 + j.val < 2048) : out0_13 x0 x1 x2 x3 x4 x5 x6 x7 x8 (ix2 r j) = kvB x0 x2 x1 x3 x4 r ⟨1024 + j.val, hj⟩ := by
  unfold out0_13
  rw [View.canon_unit_zero hz2]
  simp only [View.ld_unit_zero (S := S256x1024) hz2, View.ld_unit_zero (S := S1x1024) hz2, View.ld_unit_zero (S := S1024x256) hz2,
    View.ld_unit_zero (S := S1x1x1024) hz3, View.ld_unit_zero (S := S1024x2048) hz2, View.ld_unit_zero (S := S1024x1024) hz2]
  pointwise [k0_pay10, k0_pay5, kv_apply]

theorem out14_apply (j : Fin 1024) (hj : j.val < 2048) : out0_14 x0 x1 x2 x3 x4 x5 x6 x7 x8 (ix3 0 0 j) = Ideal.div (∑ r : Fin 256, kvB x0 x2 x1 x3 x4 r ⟨j.val, hj⟩) (Ideal.ofBits FTy.f32 1132462080#32) := by
  unfold out0_14
  rw [View.canon_unit_zero hz3]
  simp only [k0_pay13, View.ld_unit_zero (S := S256x1024) hz2, View.ld_unit_zero (S := S1x1024) hz2, View.ld_unit_zero (S := S1024x256) hz2,
    View.ld_unit_zero (S := S1x1x1024) hz3, View.ld_unit_zero (S := S1024x2048) hz2, View.ld_unit_zero (S := S1024x1024) hz2]
  pointwise [k0_pay11, k0_pay4, kv_apply]

theorem out15_apply (r : Fin 256) (j : Fin 1024) : out0_15 x0 x1 x2 x3 x4 x5 x6 x7 x8 (ix2 r j) = qB x0 x2 x6 x7 x1 x5 x8 r j := by
  unfold out0_15
  rw [View.canon_unit_zero hz2]
  simp only [View.ld_unit_zero (S := S256x1024) hz2, View.ld_unit_zero (S := S1x1024) hz2, View.ld_unit_zero (S := S1024x256) hz2,
    View.ld_unit_zero (S := S1x1x1024) hz3, View.ld_unit_zero (S := S1024x2048) hz2, View.ld_unit_zero (S := S1024x1024) hz2]
  exact q_apply ..

end Outputs

end Cert.Mix.KerKP
-- ==== Proof.RefKP.lean ====
module

public import proofs.«01_k».proof.Proof.MathK
public import proofs.«01_k».proof.Proof.Gen.KvqPRefIdeal.Read

/-! The prompt attention input's reference read at an index. -/

@[expose] public section

noncomputable section

namespace Cert.Mix.RefKP

open Cert.KvqPRefIdeal Cert.KvqPRefIdeal.Read Idealize.ShloMosaic

variable (x0 : (⟨S16384x1024, .f32⟩ : BufTy).Contents (Elt Ideal)) (x1 : (⟨S1024x16384, .f32⟩ : BufTy).Contents (Elt Ideal))
  (x2 x6 x7 : (⟨S8x1024, .f32⟩ : BufTy).Contents (Elt Ideal)) (x3 x5 : (⟨S1024, .f32⟩ : BufTy).Contents (Elt Ideal))
  (x4 : (⟨S1024x2048, .f32⟩ : BufTy).Contents (Elt Ideal)) (x8 : (⟨S1024x1024, .f32⟩ : BufTy).Contents (Elt Ideal))

/-- Row `t` of sequence `b`. -/
def row (b : Fin 8) (t : Fin 2048) : Fin 16384 := ⟨b.val * 2048 + t.val, by omega⟩

/-- The updated row `n`. -/
abbrev updR (n : Fin 16384) (b : Fin 8) : Fin 1024 → EReal :=
  upd (fun k => x0 (ix2 n k)) (fun k => x2 (ix2 b k)) (fun k => x1 (ix2 k n))

theorem x_apply (b : Fin 8) (t : Fin 2048) (k : Fin 1024) : val_main_v0 (F := Ideal) x0 (ix3 b t k) = x0 (ix2 (row b t) k) := by
  rw [val_main_v0_apply]; congr 1; funext a
  match a with
  | ⟨0, _⟩ => exact Fin.ext (show ((b.val * 2048 + t.val) * 1024 + k.val) / 1024 = b.val * 2048 + t.val by omega)
  | ⟨1, _⟩ => exact Fin.ext (show ((b.val * 2048 + t.val) * 1024 + k.val) % 1024 = k.val by omega)

theorem p_apply (b : Fin 8) (t : Fin 2048) (k : Fin 1024) : val_main_v3 (F := Ideal) x1 (ix3 b t k) = x1 (ix2 k (row b t)) := by
  rw [val_main_v3_apply, val_main_v2_apply]; congr 1; funext a
  match a with
  | ⟨0, _⟩ => exact Fin.ext (show ((b.val * 2048 + t.val) * 1024 + k.val) % 1024 = k.val by omega)
  | ⟨1, _⟩ => exact Fin.ext (show ((b.val * 2048 + t.val) * 1024 + k.val) / 1024 = b.val * 2048 + t.val by omega)

theorem upd_apply (b : Fin 8) (t : Fin 2048) (k : Fin 1024) :
    val_main_v6 (F := Ideal) x0 x1 x2 (ix3 b t k) = updR x0 x1 x2 (row b t) b k := by
  pointwise [val_main_v6, val_main_v5, val_main_v4, val_main_v1, x_apply, p_apply]
  rfl

theorem kn_apply (b : Fin 8) (t : Fin 2048) (k : Fin 1024) :
    val_main_v19 (F := Ideal) x0 x1 x2 x3 (ix3 b t k) = nrm (updR x0 x1 x2 (row b t) b) (x3 (ix1 k)) k := by
  pointwise [val_main_v19, val_main_v18, val_main_v17, val_main_v16, val_main_v15, val_main_v14, val_main_v13, val_main_v12, val_main_v11,
    val_main_v10, val_main_v9, val_main_v8, val_main_v7, val_main_cst, val_main_cst_0, val_main_cst_1, upd_apply]
  rfl

theorem kv_apply (b : Fin 8) (t : Fin 2048) (j : Fin 2048) :
    val_main_v20 (F := Ideal) x0 x1 x2 x3 x4 (ix3 b t j)
      = nproj (updR x0 x1 x2 (row b t) b) (fun k => x3 (ix1 k)) (fun k j => x4 (ix2 k j)) j := by
  pointwise [val_main_v20, dot_S8x2048x1024_S1024x2048_S8x2048x2048_2_0_01_1_n_n, kn_apply]
  rfl

theorem h_apply (b : Fin 8) (t : Fin 2048) (k : Fin 1024) :
    val_main_v43 (F := Ideal) x0 x1 x2 x5 x6 x7 (ix3 b t k)
      = hid (updR x0 x1 x2 (row b t) b) (fun j => x5 (ix1 j)) (fun j => x6 (ix2 b j)) (fun j => x7 (ix2 b j)) k := by
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_cst_2, val_main_cst_3, val_main_cst_4, val_main_cst_5, upd_apply]
  rfl

theorem q_apply (b : Fin 8) (t : Fin 2048) (j : Fin 1024) :
    val_main_v44 (F := Ideal) x0 x1 x2 x5 x6 x7 x8 (ix3 b t j)
      = hproj (updR x0 x1 x2 (row b t) b) (fun j => x5 (ix1 j)) (fun j => x6 (ix2 b j)) (fun j => x7 (ix2 b j)) (fun k j => x8 (ix2 k j)) j := by
  pointwise [val_main_v44, dot_S8x2048x1024_S1024x1024_S8x2048x1024_2_0_01_1_n_n, h_apply]
  rfl

/-! ### The results, row by row -/

theorem row_at (n : Fin 16384) (h1 : n.val / 2048 < 8) (h2 : n.val % 2048 < 2048) : row ⟨n.val / 2048, h1⟩ ⟨n.val % 2048, h2⟩ = n :=
  Fin.ext (show n.val / 2048 * 2048 + n.val % 2048 = n.val by omega)

theorem xo_apply (n : Fin 16384) (j : Fin 1024) (hb : n.val / 2048 < 8) : val_main_v50 (F := Ideal) x0 x1 x2 (ix2 n j)
    = updR x0 x1 x2 n ⟨n.val / 2048, hb⟩ j := by
  pointwise [val_main_v50, upd_apply, row_at]

theorem kt_apply (b : Fin 8) (j : Fin 1024) (t : Fin 2048) (hj : j.val < 2048) : val_main_v51 (F := Ideal) x0 x1 x2 x3 x4 (ix3 b j t)
    = nproj (updR x0 x1 x2 (row b t) b) (fun k => x3 (ix1 k)) (fun k j => x4 (ix2 k j)) ⟨j.val, hj⟩ := by
  pointwise [val_main_v51, val_main_v21, kv_apply]

theorem vt_apply (b : Fin 8) (j : Fin 1024) (t : Fin 2048) (hj : 1024 + j.val < 2048) : val_main_v52 (F := Ideal) x0 x1 x2 x3 x4 (ix3 b j t)
    = nproj (updR x0 x1 x2 (row b t) b) (fun k => x3 (ix1 k)) (fun k j => x4 (ix2 k j)) ⟨1024 + j.val, hj⟩ := by
  pointwise [val_main_v52, val_main_v22, kv_apply]

theorem kb_apply (n : Fin 16384) (j : Fin 1024) (hb : n.val / 2048 < 8) (hj : j.val < 2048) : val_main_v54 (F := Ideal) x0 x1 x2 x3 x4 (ix2 n j)
    = nproj (updR x0 x1 x2 n ⟨n.val / 2048, hb⟩) (fun k => x3 (ix1 k)) (fun k j => x4 (ix2 k j)) ⟨j.val, hj⟩ := by
  pointwise [val_main_v54, val_main_v53, val_main_v21, kv_apply, row_at]

theorem vb_apply (n : Fin 16384) (j : Fin 1024) (hb : n.val / 2048 < 8) (hj : 1024 + j.val < 2048) : val_main_v56 (F := Ideal) x0 x1 x2 x3 x4 (ix2 n j)
    = nproj (updR x0 x1 x2 n ⟨n.val / 2048, hb⟩) (fun k => x3 (ix1 k)) (fun k j => x4 (ix2 k j)) ⟨1024 + j.val, hj⟩ := by
  pointwise [val_main_v56, val_main_v55, val_main_v22, kv_apply, row_at]

theorem km_apply (g : Fin 64) (j : Fin 1024) (hb : g.val / 8 < 8) (hr : ∀ r : Fin 256, g.val * 256 + r.val < 16384) (hj : j.val < 2048) :
    val_main_v49 (F := Ideal) x0 x1 x2 x3 x4 (ix3 g 0 j)
      = Ideal.div (∑ r : Fin 256, nproj (updR x0 x1 x2 ⟨g.val * 256 + r.val, hr r⟩ ⟨g.val / 8, hb⟩) (fun k => x3 (ix1 k)) (fun k j => x4 (ix2 k j)) ⟨j.val, hj⟩) (Ideal.ofBits FTy.f32 1132462080#32) := by
  pointwise [val_main_v49, val_main_v48, val_main_v47, val_main_v46, val_main_v45, val_main_v21, val_main_cst_6, val_main_cst_7, kv_apply]
  refine congrArg (fun z : EReal => Ideal.div z _) (Finset.sum_congr rfl fun r _ => ?_)
  rw [show row ⟨g.val / 8, hb⟩ ⟨g.val % 8 * 256 + r.val, by omega⟩ = ⟨g.val * 256 + r.val, hr r⟩ from
    Fin.ext (show g.val / 8 * 2048 + (g.val % 8 * 256 + r.val) = g.val * 256 + r.val by omega)]

theorem qo_apply (n : Fin 16384) (j : Fin 1024) (hb : n.val / 2048 < 8) : val_main_v57 (F := Ideal) x0 x1 x2 x5 x6 x7 x8 (ix2 n j)
    = hproj (updR x0 x1 x2 n ⟨n.val / 2048, hb⟩) (fun j => x5 (ix1 j)) (fun j => x6 (ix2 ⟨n.val / 2048, hb⟩ j)) (fun j => x7 (ix2 ⟨n.val / 2048, hb⟩ j)) (fun k j => x8 (ix2 k j)) j := by
  pointwise [val_main_v57, q_apply, row_at]

end Cert.Mix.RefKP
-- ==== Proof.ArrKP.lean ====
module

public import proofs.«01_k».proof.Proof.KerKP
public import proofs.«01_k».proof.Proof.RefKP

/-! The prompt attention input's kernel: its output arrays are the reference's results. -/

@[expose] public section

noncomputable section

namespace Cert.Mix.ArrKP

open Cert.KvqPIdeal Cert.KvqPIdeal.Gen Idealize.ShloMosaic Idealize.ShloMosaic.TcCoe Idealize.SL.Sem
open Cert.Mix.KerKP Cert.KvqPRefIdeal.Read

variable (m : (ℓ : Loc nD τ sig) → Buf (Elt Ideal) ℓ) (c : Dev nD) (t : Fin cfg0.N)

/-! ### The arguments -/

abbrev a0 : (⟨S16384x1024, .f32⟩ : BufTy).Contents (Elt Ideal) := m ((c : Thread nD τ).loc main_arg0)
abbrev a1 : (⟨S1024x16384, .f32⟩ : BufTy).Contents (Elt Ideal) := m ((c : Thread nD τ).loc main_arg1)
abbrev a2 : (⟨S8x1024, .f32⟩ : BufTy).Contents (Elt Ideal) := m ((c : Thread nD τ).loc main_arg2)
abbrev a3 : (⟨S1024, .f32⟩ : BufTy).Contents (Elt Ideal) := m ((c : Thread nD τ).loc main_arg3)
abbrev a4 : (⟨S1024x2048, .f32⟩ : BufTy).Contents (Elt Ideal) := m ((c : Thread nD τ).loc main_arg4)
abbrev a5 : (⟨S1024, .f32⟩ : BufTy).Contents (Elt Ideal) := m ((c : Thread nD τ).loc main_arg5)
abbrev a6 : (⟨S8x1024, .f32⟩ : BufTy).Contents (Elt Ideal) := m ((c : Thread nD τ).loc main_arg6)
abbrev a7 : (⟨S8x1024, .f32⟩ : BufTy).Contents (Elt Ideal) := m ((c : Thread nD τ).loc main_arg7)
abbrev a8 : (⟨S1024x1024, .f32⟩ : BufTy).Contents (Elt Ideal) := m ((c : Thread nD τ).loc main_arg8)

theorem idx : ∀ t : Fin cfg0.N, win0_0.index t = ![t.val, 0] ∧ win0_1.index t = ![0, t.val] ∧ win0_2.index t = ![t.val / 8, 0, 0]
    ∧ win0_3.index t = ![0, 0] ∧ win0_4.index t = ![0, 0] ∧ win0_5.index t = ![0, 0] ∧ win0_6.index t = ![t.val / 8, 0, 0]
    ∧ win0_7.index t = ![t.val / 8, 0, 0] ∧ win0_8.index t = ![0, 0] ∧ win0_9.index t = ![t.val, 0]
    ∧ win0_10.index t = ![t.val / 8, 0, t.val % 8] ∧ win0_11.index t = ![t.val / 8, 0, t.val % 8] ∧ win0_12.index t = ![t.val, 0]
    ∧ win0_13.index t = ![t.val, 0] ∧ win0_14.index t = ![t.val, 0, 0] ∧ win0_15.index t = ![t.val, 0] := by decide +kernel

theorem t_lt : t.val < 64 := t.isLt

/-- The row of the whole that is row `r` of block `t`. -/
def rowOf (r : Fin 256) : Fin 16384 := ⟨256 * t.val + r.val, by have := t_lt t; omega⟩

/-- The sequence of row `r` of block `t`. -/
def bw (r : Fin 256) : Fin 8 := ⟨(256 * t.val + r.val) / 2048, by have := t_lt t; omega⟩

/-! ### The blocks read -/

theorem b0 (r : Fin 256) (k : Fin 1024) : iblk m c 0 t (ix2 r k) = a0 m c (ix2 (rowOf t r) k) := by
  blk_ext [iblk, idx t, rowOf]

theorem b1 (r : Fin 256) (k : Fin 1024) : iblk m c 1 t (ix2 k r) = a1 m c (ix2 k (rowOf t r)) := by
  blk_ext [iblk, idx t, rowOf]

theorem b2 (r : Fin 256) (k : Fin 1024) : iblk m c 2 t (ix3 0 0 k) = a2 m c (ix2 (bw t r) k) := by
  have e : (win0_2.blk t).view.emb (ix3 0 0 k) = (ix3 (bw t r) 0 k : S8x1x1024.Idx) := by blk_ext [idx t, bw]
  show V m c main_v4 ((win0_2.blk t).view.emb (ix3 0 0 k)) = _
  rw [e]
  entry_read
  pointwise

theorem b6 (r : Fin 256) (k : Fin 1024) : iblk m c 6 t (ix3 0 0 k) = a6 m c (ix2 (bw t r) k) := by
  have e : (win0_6.blk t).view.emb (ix3 0 0 k) = (ix3 (bw t r) 0 k : S8x1x1024.Idx) := by blk_ext [idx t, bw]
  show V m c main_v5 ((win0_6.blk t).view.emb (ix3 0 0 k)) = _
  rw [e]
  entry_read
  pointwise

theorem b7 (r : Fin 256) (k : Fin 1024) : iblk m c 7 t (ix3 0 0 k) = a7 m c (ix2 (bw t r) k) := by
  have e : (win0_7.blk t).view.emb (ix3 0 0 k) = (ix3 (bw t r) 0 k : S8x1x1024.Idx) := by blk_ext [idx t, bw]
  show V m c main_v6 ((win0_7.blk t).view.emb (ix3 0 0 k)) = _
  rw [e]
  entry_read
  pointwise

theorem b3 (k : Fin 1024) : iblk m c 3 t (ix2 0 k) = a3 m c (ix1 k) := by
  have e : (win0_3.blk t).view.emb (ix2 0 k) = (ix2 0 k : S1x1024.Idx) := by blk_ext [idx t]
  show V m c main_v0 ((win0_3.blk t).view.emb (ix2 0 k)) = _
  rw [e]
  entry_read
  pointwise

theorem b5 (k : Fin 1024) : iblk m c 5 t (ix2 0 k) = a5 m c (ix1 k) := by
  have e : (win0_5.blk t).view.emb (ix2 0 k) = (ix2 0 k : S1x1024.Idx) := by blk_ext [idx t]
  show V m c main_v2 ((win0_5.blk t).view.emb (ix2 0 k)) = _
  rw [e]
  entry_read
  pointwise

theorem b4 (k : Fin 1024) (j : Fin 2048) : iblk m c 4 t (ix2 k j) = a4 m c (ix2 k j) := by
  have e : (win0_4.blk t).view.emb (ix2 k j) = (ix2 k j : S1024x2048.Idx) := by blk_ext [idx t]
  show V m c main_v1 ((win0_4.blk t).view.emb (ix2 k j)) = _
  rw [e]
  entry_read
  pointwise

theorem b8 (k : Fin 1024) (j : Fin 1024) : iblk m c 8 t (ix2 k j) = a8 m c (ix2 k j) := by
  have e : (win0_8.blk t).view.emb (ix2 k j) = (ix2 k j : S1024x1024.Idx) := by blk_ext [idx t]
  show V m c main_v3 ((win0_8.blk t).view.emb (ix2 k j)) = _
  rw [e]
  entry_read
  pointwise

theorem upd_block (r : Fin 256) : updB (iblk m c 0 t) (iblk m c 2 t) (iblk m c 1 t) r = RefKP.updR (a0 m c) (a1 m c) (a2 m c) (rowOf t r) (bw t r) := by
  funext k
  show upd _ _ _ k = upd _ _ _ k
  simp only [b0, b1, b2 m c t r]

theorem kv_block (r : Fin 256) (j : Fin 2048) : kvB (iblk m c 0 t) (iblk m c 2 t) (iblk m c 1 t) (iblk m c 3 t) (iblk m c 4 t) r j
    = nproj (RefKP.updR (a0 m c) (a1 m c) (a2 m c) (rowOf t r) (bw t r)) (fun k => a3 m c (ix1 k)) (fun k j => a4 m c (ix2 k j)) j := by
  unfold kvB
  rw [upd_block]
  simp only [b3, b4]

theorem q_block (r : Fin 256) (j : Fin 1024) :
    qB (iblk m c 0 t) (iblk m c 2 t) (iblk m c 6 t) (iblk m c 7 t) (iblk m c 1 t) (iblk m c 5 t) (iblk m c 8 t) r j
      = hproj (RefKP.updR (a0 m c) (a1 m c) (a2 m c) (rowOf t r) (bw t r)) (fun k => a5 m c (ix1 k)) (fun k => a6 m c (ix2 (bw t r) k)) (fun k => a7 m c (ix2 (bw t r) k))
          (fun k j => a8 m c (ix2 k j)) j := by
  unfold qB
  rw [upd_block]
  simp only [b5, b6 m c t r, b7 m c t r, b8]

/-! ### The output arrays -/

theorem arr9 : (dats m 0 c).arrAt 9 cfg0.N = val_main_v50 (F := Ideal) (a0 m c) (a1 m c) (a2 m c) := by
  refine (dats m 0 c).arrAt_eq_of_covers 9 _ (by decide +kernel) fun t hf y => ?_
  blk_simp
  rw [after0_9]
  obtain ⟨r, j, rfl⟩ : ∃ (r : Fin 256) (j : Fin 1024), y = ix2 r j := ⟨y 0, y 1, eq_ix2 y⟩
  have e : (win0_9.blk t).view.emb (ix2 r j) = (ix2 (rowOf t r) j : S16384x1024.Idx) := by
    blk_ext [idx t, rowOf]
  rw [e]
  rw [out9_apply, upd_block, RefKP.xo_apply (n := rowOf t r) (hb := (bw t r).isLt)]
  rfl

theorem arr10 : (dats m 0 c).arrAt 10 cfg0.N = val_main_v51 (F := Ideal) (a0 m c) (a1 m c) (a2 m c) (a3 m c) (a4 m c) := by
  refine (dats m 0 c).arrAt_eq_of_covers 10 _ (by decide +kernel) fun t hf y => ?_
  blk_simp
  rw [after0_10]
  obtain ⟨z, j, r, rfl⟩ : ∃ (z : Fin 1) (j : Fin 1024) (r : Fin 256), y = ix3 z j r := ⟨y 0, y 1, y 2, eq_ix3 y⟩
  obtain rfl : z = 0 := Subsingleton.elim _ _
  have e : (win0_10.blk t).view.emb (ix3 0 j r) = (ix3 ⟨t.val / 8, by have := t_lt t; omega⟩ j ⟨t.val % 8 * 256 + r.val, by omega⟩ : S8x1024x2048.Idx) := by
    blk_ext [idx t, rowOf]
  rw [e]
  rw [out10_apply (hj := by omega), kv_block, RefKP.kt_apply (hj := by omega),
    show RefKP.row ⟨t.val / 8, by have := t_lt t; omega⟩ ⟨t.val % 8 * 256 + r.val, by omega⟩ = rowOf t r from
      Fin.ext (show t.val / 8 * 2048 + (t.val % 8 * 256 + r.val) = 256 * t.val + r.val by omega),
    show (⟨t.val / 8, by have := t_lt t; omega⟩ : Fin 8) = bw t r from
      Fin.ext (show t.val / 8 = (256 * t.val + r.val) / 2048 by omega)]

theorem arr11 : (dats m 0 c).arrAt 11 cfg0.N = val_main_v52 (F := Ideal) (a0 m c) (a1 m c) (a2 m c) (a3 m c) (a4 m c) := by
  refine (dats m 0 c).arrAt_eq_of_covers 11 _ (by decide +kernel) fun t hf y => ?_
  blk_simp
  rw [after0_11]
  obtain ⟨z, j, r, rfl⟩ : ∃ (z : Fin 1) (j : Fin 1024) (r : Fin 256), y = ix3 z j r := ⟨y 0, y 1, y 2, eq_ix3 y⟩
  obtain rfl : z = 0 := Subsingleton.elim _ _
  have e : (win0_11.blk t).view.emb (ix3 0 j r) = (ix3 ⟨t.val / 8, by have := t_lt t; omega⟩ j ⟨t.val % 8 * 256 + r.val, by omega⟩ : S8x1024x2048.Idx) := by
    blk_ext [idx t, rowOf]
  rw [e]
  rw [out11_apply (hj := by omega), kv_block, RefKP.vt_apply (hj := by omega),
    show RefKP.row ⟨t.val / 8, by have := t_lt t; omega⟩ ⟨t.val % 8 * 256 + r.val, by omega⟩ = rowOf t r from
      Fin.ext (show t.val / 8 * 2048 + (t.val % 8 * 256 + r.val) = 256 * t.val + r.val by omega),
    show (⟨t.val / 8, by have := t_lt t; omega⟩ : Fin 8) = bw t r from
      Fin.ext (show t.val / 8 = (256 * t.val + r.val) / 2048 by omega)]

theorem arr12 : (dats m 0 c).arrAt 12 cfg0.N = val_main_v54 (F := Ideal) (a0 m c) (a1 m c) (a2 m c) (a3 m c) (a4 m c) := by
  refine (dats m 0 c).arrAt_eq_of_covers 12 _ (by decide +kernel) fun t hf y => ?_
  blk_simp
  rw [after0_12]
  obtain ⟨r, j, rfl⟩ : ∃ (r : Fin 256) (j : Fin 1024), y = ix2 r j := ⟨y 0, y 1, eq_ix2 y⟩
  have e : (win0_12.blk t).view.emb (ix2 r j) = (ix2 (rowOf t r) j : S16384x1024.Idx) := by
    blk_ext [idx t, rowOf]
  rw [e]
  rw [out12_apply (hj := by omega), kv_block, RefKP.kb_apply (n := rowOf t r) (hb := (bw t r).isLt) (hj := by omega)]
  rfl

theorem arr13 : (dats m 0 c).arrAt 13 cfg0.N = val_main_v56 (F := Ideal) (a0 m c) (a1 m c) (a2 m c) (a3 m c) (a4 m c) := by
  refine (dats m 0 c).arrAt_eq_of_covers 13 _ (by decide +kernel) fun t hf y => ?_
  blk_simp
  rw [after0_13]
  obtain ⟨r, j, rfl⟩ : ∃ (r : Fin 256) (j : Fin 1024), y = ix2 r j := ⟨y 0, y 1, eq_ix2 y⟩
  have e : (win0_13.blk t).view.emb (ix2 r j) = (ix2 (rowOf t r) j : S16384x1024.Idx) := by
    blk_ext [idx t, rowOf]
  rw [e]
  rw [out13_apply (hj := by omega), kv_block, RefKP.vb_apply (n := rowOf t r) (hb := (bw t r).isLt) (hj := by omega)]
  rfl

theorem arr14 : (dats m 0 c).arrAt 14 cfg0.N = val_main_v49 (F := Ideal) (a0 m c) (a1 m c) (a2 m c) (a3 m c) (a4 m c) := by
  refine (dats m 0 c).arrAt_eq_of_covers 14 _ (by decide +kernel) fun t hf y => ?_
  blk_simp
  rw [after0_14]
  obtain ⟨z, z', j, rfl⟩ : ∃ (z z' : Fin 1) (j : Fin 1024), y = ix3 z z' j := ⟨y 0, y 1, y 2, eq_ix3 y⟩
  obtain rfl : z = 0 := Subsingleton.elim _ _
  obtain rfl : z' = 0 := Subsingleton.elim _ _
  have e : (win0_14.blk t).view.emb (ix3 0 0 j) = (ix3 ⟨t.val, t_lt t⟩ 0 j : S64x1x1024.Idx) := by
    blk_ext [idx t, rowOf]
  rw [e]
  rw [out14_apply (hj := by omega), RefKP.km_apply (hb := by have := t_lt t; show t.val / 8 < 8; omega)
    (hr := fun r => by have := t_lt t; show t.val * 256 + r.val < 16384; omega) (hj := by omega)]
  refine congrArg (fun z : EReal => Ideal.div z _) (Finset.sum_congr rfl fun r _ => ?_)
  rw [kv_block, show (⟨t.val * 256 + r.val, by have := t_lt t; omega⟩ : Fin 16384) = rowOf t r from
      Fin.ext (show t.val * 256 + r.val = 256 * t.val + r.val by omega),
    show (⟨t.val / 8, by have := t_lt t; omega⟩ : Fin 8) = bw t r from
      Fin.ext (show t.val / 8 = (256 * t.val + r.val) / 2048 by omega)]

theorem arr15 : (dats m 0 c).arrAt 15 cfg0.N = val_main_v57 (F := Ideal) (a0 m c) (a1 m c) (a2 m c) (a5 m c) (a6 m c) (a7 m c) (a8 m c) := by
  refine (dats m 0 c).arrAt_eq_of_covers 15 _ (by decide +kernel) fun t hf y => ?_
  blk_simp
  rw [after0_15]
  obtain ⟨r, j, rfl⟩ : ∃ (r : Fin 256) (j : Fin 1024), y = ix2 r j := ⟨y 0, y 1, eq_ix2 y⟩
  have e : (win0_15.blk t).view.emb (ix2 r j) = (ix2 (rowOf t r) j : S16384x1024.Idx) := by
    blk_ext [idx t, rowOf]
  rw [e]
  rw [out15_apply, q_block, RefKP.qo_apply (n := rowOf t r) (hb := (bw t r).isLt)]
  rfl

end Cert.Mix.ArrKP
-- ==== Proof.ClaimKP.lean ====
module

public import proofs.«01_k».proof.Defs
public import proofs.«01_k».proof.Proof.ArrKP
public import proofs.«01_k».proof.Proof.Gen.KvqPRefIdeal.Run

/-! The claim about the prompt attention input: the kernel's results are its reference's. -/

@[expose] public section

noncomputable section

namespace Cert.Mix.ClaimKP

open Idealize.ShloMosaic Idealize.SL.Sem Cert.KvqPRefIdeal.Read Cert.Mix.ArrKP

theorem algebraic : Cert.algebraic_KvqPIdeal_KvqPRefIdeal := by
  intro m g m' g' _ hagree
  refine ⟨fun c => val_main_v50 (F := Ideal) (a0 m c) (a1 m c) (a2 m c),
    fun c => val_main_v51 (F := Ideal) (a0 m c) (a1 m c) (a2 m c) (a3 m c) (a4 m c),
    fun c => val_main_v52 (F := Ideal) (a0 m c) (a1 m c) (a2 m c) (a3 m c) (a4 m c),
    fun c => val_main_v54 (F := Ideal) (a0 m c) (a1 m c) (a2 m c) (a3 m c) (a4 m c),
    fun c => val_main_v56 (F := Ideal) (a0 m c) (a1 m c) (a2 m c) (a3 m c) (a4 m c),
    fun c => val_main_v49 (F := Ideal) (a0 m c) (a1 m c) (a2 m c) (a3 m c) (a4 m c),
    fun c => val_main_v57 (F := Ideal) (a0 m c) (a1 m c) (a2 m c) (a5 m c) (a6 m c) (a7 m c) (a8 m c), ?_, ?_⟩
  · refine (θ_run Cert.KvqPIdeal.defs _ _).mono (fun r h c => ?_) (Cert.KvqPIdeal.Value.run_blocks (F := Ideal) m g)
    obtain ⟨h0, h1, h2, h3, h4, h5, h6, h7⟩ := h c
    exact ⟨h0.trans (arr9 m c), h1.trans (arr10 m c), h2.trans (arr11 m c), h3.trans (arr12 m c), h4.trans (arr13 m c), h5.trans (arr14 m c), h6.trans (arr15 m c), h7⟩
  · refine (θ_run Cert.KvqPRefIdeal.defs _ _).mono (fun r h c => ?_) (Cert.KvqPRefIdeal.Value.run (F := Ideal) m' g')
    obtain ⟨h0, h1, h2, h3, h4, h5, h6, h7⟩ := h c
    obtain ⟨e0, e1, e2, e3, e4, e5, e6, e7, e8⟩ := hagree c
    refine ⟨h0.trans ((val_main_v50_eq ..).trans ?_), h1.trans ((val_main_v51_eq ..).trans ?_), h2.trans ((val_main_v52_eq ..).trans ?_), h3.trans ((val_main_v54_eq ..).trans ?_), h4.trans ((val_main_v56_eq ..).trans ?_), h5.trans ((val_main_v49_eq ..).trans ?_), h6.trans ((val_main_v57_eq ..).trans ?_), h7⟩
    · rw [e0, e1, e2]
    · rw [e0, e1, e2, e3, e4]
    · rw [e0, e1, e2, e3, e4]
    · rw [e0, e1, e2, e3, e4]
    · rw [e0, e1, e2, e3, e4]
    · rw [e0, e1, e2, e3, e4]
    · rw [e0, e1, e2, e5, e6, e7, e8]

theorem frameRef : Cert.quiescent_KvqPRefIdeal := fun m ρ _ =>
  (θ_run Cert.KvqPRefIdeal.defs _ _).mono (fun _ h => ⟨fun c => (h c).2.2.2.2.2.2.2, sem_eq_zero_of_no_sems (by decide) _⟩)
    (Cert.KvqPRefIdeal.Value.run (F := Ideal) m ρ)

end Cert.Mix.ClaimKP
-- ==== Proof.KerKS.lean ====
module

public import proofs.«01_k».proof.Proof.Gen.KvqSIdeal.Value
public import proofs.«01_k».proof.Proof.MathK
public import Idealize.ShloMosaic.Lib.Claim
public import Idealize.ShloMosaic.Lib.Pointwise
public import Idealize.ShloMosaic.Lib.Pipeline.ReadBack
public import Idealize.ShloMosaic.Lib.Pipeline.ValueKit

/-! The sample attention input's kernel: what one grid point leaves in its output blocks. -/

@[expose] public section

noncomputable section

namespace Cert.Mix.KerKS

open Cert.KvqSIdeal Cert.KvqSIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (v0 : Vec Ideal S256x1024 .f32) (v1 v6 v7 : Vec Ideal S1x256x1024 .f32) (v3 : Vec Ideal S1024x256 .f32) (g gm : Vec Ideal S1x1024 .f32)
  (w : Vec Ideal S1024x2048 .bf16) (wq : Vec Ideal S1024x1024 .bf16)

/-- Row `r` of a block, the peer's part added. -/
abbrev updB (r : Fin 256) : Fin 1024 → EReal := upd (fun k => v0 (ix2 r k)) (fun k => v1 (ix3 0 r k)) (fun k => v3 (ix2 k r))

/-- The projection of row `r` of a block. -/
abbrev kvB (r : Fin 256) (j : Fin 2048) : EReal := nproj (updB v0 v1 v3 r) (fun k => g (ix2 0 k)) (fun k j => w (ix2 k j)) j

/-- The query of row `r` of a block. -/
abbrev qB (r : Fin 256) (j : Fin 1024) : EReal :=
  hproj (updB v0 v1 v3 r) (fun k => gm (ix2 0 k)) (fun k => v6 (ix3 0 r k)) (fun k => v7 (ix3 0 r k)) (fun k j => wq (ix2 k j)) j

theorem upd_apply (r : Fin 256) (k : Fin 1024) : k0_pay1 v0 v1 v3 (ix2 r k) = updB v0 v1 v3 r k := by
  pointwise [k0_pay1]
  rfl

theorem kv_apply (r : Fin 256) (j : Fin 2048) : k0_pay2 v0 v1 v3 g w (ix2 r j) = kvB v0 v1 v3 g w r j := by
  pointwise [k0_pay2, upd_apply, dot_S256x1024_S1024x2048_S256x2048_1_0_0_1_n_n]
  rfl

theorem q_apply (r : Fin 256) (j : Fin 1024) : k0_pay8 (k0_pay1 v0 v1 v3) gm v6 v7 wq (ix2 r j) = qB v0 v1 v6 v7 v3 gm wq r j := by
  pointwise [k0_pay8, upd_apply, dot_S256x1024_S1024x1024_S256x1024_1_0_0_1_n_n]
  rfl

end Payloads

section Outputs

variable (x0 : Vec Ideal S256x1024 .f32) (x1 : Vec Ideal S1024x256 .f32) (x2 : Vec Ideal S1x256x1024 .f32) (x3 : Vec Ideal S1x1024 .f32)
  (x4 : Vec Ideal S1024x2048 .bf16) (x5 : Vec Ideal S1x1024 .f32) (x6 x7 : Vec Ideal S1x256x1024 .f32) (x8 : Vec Ideal S1024x1024 .bf16)

theorem out9_apply (r : Fin 256) (j : Fin 1024) : out0_9 x0 x1 x2 x3 x4 x5 x6 x7 x8 (ix2 r j) = updB x0 x2 x1 r j := by
  unfold out0_9
  rw [View.canon_unit_zero hz2]
  simp only [View.ld_unit_zero (S := S256x1024) hz2, View.ld_unit_zero (S := S1x1024) hz2, View.ld_unit_zero (S := S1024x256) hz2,
    View.ld_unit_zero (S := S1x256x1024) hz3, View.ld_unit_zero (S := S1024x2048) hz2, View.ld_unit_zero (S := S1024x1024) hz2]
  exact upd_apply ..

theorem out10_apply (r : Fin 256) (j : Fin 1024) (hj : j.val < 2048) : out0_10 x0 x1 x2 x3 x4 x5 x6 x7 x8 (ix2 r j) = kvB x0 x2 x1 x3 x4 r ⟨j.val, hj⟩ := by
  unfold out0_10
  rw [View.canon_unit_zero hz2]
  simp only [View.ld_unit_zero (S := S256x1024) hz2, View.ld_unit_zero (S := S1x1024) hz2, View.ld_unit_zero (S := S1024x256) hz2,
    View.ld_unit_zero (S := S1x256x1024) hz3, View.ld_unit_zero (S := S1024x2048) hz2, View.ld_unit_zero (S := S1024x1024) hz2]
  pointwise [k0_pay3, kv_apply]

theorem out11_apply (r : Fin 256) (j : Fin 1024) (hj : 1024 + j.val < 2048) : out0_11 x0 x1 x2 x3 x4 x5 x6 x7 x8 (ix2 r j) = kvB x0 x2 x1 x3 x4 r ⟨1024 + j.val, hj⟩ := by
  unfold out0_11
  rw [View.canon_unit_zero hz2]
  simp only [View.ld_unit_zero (S := S256x1024) hz2, View.ld_unit_zero (S := S1x1024) hz2, View.ld_unit_zero (S := S1024x256) hz2,
    View.ld_unit_zero (S := S1x256x1024) hz3, View.ld_unit_zero (S := S1024x2048) hz2, View.ld_unit_zero (S := S1024x1024) hz2]
  pointwise [k0_pay4, kv_apply]

theorem out15_apply (r : Fin 256) (j : Fin 1024) : out0_15 x0 x1 x2 x3 x4 x5 x6 x7 x8 (ix2 r j) = qB x0 x2 x6 x7 x1 x5 x8 r j := by
  unfold out0_15
  rw [View.canon_unit_zero hz2]
  simp only [View.ld_unit_zero (S := S256x1024) hz2, View.ld_unit_zero (S := S1x1024) hz2, View.ld_unit_zero (S := S1024x256) hz2,
    View.ld_unit_zero (S := S1x256x1024) hz3, View.ld_unit_zero (S := S1024x2048) hz2, View.ld_unit_zero (S := S1024x1024) hz2]
  exact q_apply ..

end Outputs

end Cert.Mix.KerKS
-- ==== Proof.RefKS.lean ====
module

public import proofs.«01_k».proof.Proof.MathK
public import proofs.«01_k».proof.Proof.Gen.KvqSRefIdeal.Read

/-! The sample attention input's reference read at an index. -/

@[expose] public section

noncomputable section

namespace Cert.Mix.RefKS

open Cert.KvqSRefIdeal Cert.KvqSRefIdeal.Read Idealize.ShloMosaic

variable (x0 : (⟨S1024x1024, .f32⟩ : BufTy).Contents (Elt Ideal)) (x1 : (⟨S1024x1024, .f32⟩ : BufTy).Contents (Elt Ideal))
  (x2 x6 x7 : (⟨S128x1024, .f32⟩ : BufTy).Contents (Elt Ideal)) (x3 x5 : (⟨S1024, .f32⟩ : BufTy).Contents (Elt Ideal))
  (x4 : (⟨S1024x2048, .f32⟩ : BufTy).Contents (Elt Ideal)) (x8 : (⟨S1024x1024, .f32⟩ : BufTy).Contents (Elt Ideal))

/-- Row `t` of sequence `b`. -/
def row (b : Fin 128) (t : Fin 8) : Fin 1024 := ⟨b.val * 8 + t.val, by omega⟩

/-- The updated row `n`. -/
abbrev updR (n : Fin 1024) (b : Fin 128) : Fin 1024 → EReal :=
  upd (fun k => x0 (ix2 n k)) (fun k => x2 (ix2 b k)) (fun k => x1 (ix2 k n))

theorem x_apply (b : Fin 128) (t : Fin 8) (k : Fin 1024) : val_main_v0 (F := Ideal) x0 (ix3 b t k) = x0 (ix2 (row b t) k) := by
  rw [val_main_v0_apply]; congr 1; funext a
  match a with
  | ⟨0, _⟩ => exact Fin.ext (show ((b.val * 8 + t.val) * 1024 + k.val) / 1024 = b.val * 8 + t.val by omega)
  | ⟨1, _⟩ => exact Fin.ext (show ((b.val * 8 + t.val) * 1024 + k.val) % 1024 = k.val by omega)

theorem p_apply (b : Fin 128) (t : Fin 8) (k : Fin 1024) : val_main_v3 (F := Ideal) x1 (ix3 b t k) = x1 (ix2 k (row b t)) := by
  rw [val_main_v3_apply, val_main_v2_apply]; congr 1; funext a
  match a with
  | ⟨0, _⟩ => exact Fin.ext (show ((b.val * 8 + t.val) * 1024 + k.val) % 1024 = k.val by omega)
  | ⟨1, _⟩ => exact Fin.ext (show ((b.val * 8 + t.val) * 1024 + k.val) / 1024 = b.val * 8 + t.val by omega)

theorem upd_apply (b : Fin 128) (t : Fin 8) (k : Fin 1024) :
    val_main_v6 (F := Ideal) x0 x1 x2 (ix3 b t k) = updR x0 x1 x2 (row b t) b k := by
  pointwise [val_main_v6, val_main_v5, val_main_v4, val_main_v1, x_apply, p_apply]
  rfl

theorem kn_apply (b : Fin 128) (t : Fin 8) (k : Fin 1024) :
    val_main_v19 (F := Ideal) x0 x1 x2 x3 (ix3 b t k) = nrm (updR x0 x1 x2 (row b t) b) (x3 (ix1 k)) k := by
  pointwise [val_main_v19, val_main_v18, val_main_v17, val_main_v16, val_main_v15, val_main_v14, val_main_v13, val_main_v12, val_main_v11,
    val_main_v10, val_main_v9, val_main_v8, val_main_v7, val_main_cst, val_main_cst_0, val_main_cst_1, upd_apply]
  rfl

theorem kv_apply (b : Fin 128) (t : Fin 8) (j : Fin 2048) :
    val_main_v20 (F := Ideal) x0 x1 x2 x3 x4 (ix3 b t j)
      = nproj (updR x0 x1 x2 (row b t) b) (fun k => x3 (ix1 k)) (fun k j => x4 (ix2 k j)) j := by
  pointwise [val_main_v20, dot_S128x8x1024_S1024x2048_S128x8x2048_2_0_01_1_n_n, kn_apply]
  rfl

theorem h_apply (b : Fin 128) (t : Fin 8) (k : Fin 1024) :
    val_main_v43 (F := Ideal) x0 x1 x2 x5 x6 x7 (ix3 b t k)
      = hid (updR x0 x1 x2 (row b t) b) (fun j => x5 (ix1 j)) (fun j => x6 (ix2 b j)) (fun j => x7 (ix2 b j)) k := by
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_cst_2, val_main_cst_3, val_main_cst_4, val_main_cst_5, upd_apply]
  rfl

theorem q_apply (b : Fin 128) (t : Fin 8) (j : Fin 1024) :
    val_main_v44 (F := Ideal) x0 x1 x2 x5 x6 x7 x8 (ix3 b t j)
      = hproj (updR x0 x1 x2 (row b t) b) (fun j => x5 (ix1 j)) (fun j => x6 (ix2 b j)) (fun j => x7 (ix2 b j)) (fun k j => x8 (ix2 k j)) j := by
  pointwise [val_main_v44, dot_S128x8x1024_S1024x1024_S128x8x1024_2_0_01_1_n_n, h_apply]
  rfl

/-! ### The results, row by row -/

theorem row_at (n : Fin 1024) (h1 : n.val / 8 < 128) (h2 : n.val % 8 < 8) : row ⟨n.val / 8, h1⟩ ⟨n.val % 8, h2⟩ = n :=
  Fin.ext (show n.val / 8 * 8 + n.val % 8 = n.val by omega)

theorem xo_apply (n : Fin 1024) (j : Fin 1024) (hb : n.val / 8 < 128) : val_main_v45 (F := Ideal) x0 x1 x2 (ix2 n j)
    = updR x0 x1 x2 n ⟨n.val / 8, hb⟩ j := by
  pointwise [val_main_v45, upd_apply, row_at]

theorem k_apply (n : Fin 1024) (j : Fin 1024) (hb : n.val / 8 < 128) (hj : j.val < 2048) : val_main_v46 (F := Ideal) x0 x1 x2 x3 x4 (ix2 n j)
    = nproj (updR x0 x1 x2 n ⟨n.val / 8, hb⟩) (fun k => x3 (ix1 k)) (fun k j => x4 (ix2 k j)) ⟨j.val, hj⟩ := by
  pointwise [val_main_v46, val_main_v21, kv_apply, row_at]

theorem v_apply (n : Fin 1024) (j : Fin 1024) (hb : n.val / 8 < 128) (hj : 1024 + j.val < 2048) : val_main_v47 (F := Ideal) x0 x1 x2 x3 x4 (ix2 n j)
    = nproj (updR x0 x1 x2 n ⟨n.val / 8, hb⟩) (fun k => x3 (ix1 k)) (fun k j => x4 (ix2 k j)) ⟨1024 + j.val, hj⟩ := by
  pointwise [val_main_v47, val_main_v22, kv_apply, row_at]

theorem qo_apply (n : Fin 1024) (j : Fin 1024) (hb : n.val / 8 < 128) : val_main_v48 (F := Ideal) x0 x1 x2 x5 x6 x7 x8 (ix2 n j)
    = hproj (updR x0 x1 x2 n ⟨n.val / 8, hb⟩) (fun j => x5 (ix1 j)) (fun j => x6 (ix2 ⟨n.val / 8, hb⟩ j)) (fun j => x7 (ix2 ⟨n.val / 8, hb⟩ j)) (fun k j => x8 (ix2 k j)) j := by
  pointwise [val_main_v48, q_apply, row_at]

end Cert.Mix.RefKS
-- ==== Proof.ArrKS.lean ====
module

public import proofs.«01_k».proof.Proof.KerKS
public import proofs.«01_k».proof.Proof.RefKS

/-! The sample attention input's kernel: its output arrays are the reference's results. -/

@[expose] public section

noncomputable section

namespace Cert.Mix.ArrKS

open Cert.KvqSIdeal Cert.KvqSIdeal.Gen Idealize.ShloMosaic Idealize.ShloMosaic.TcCoe Idealize.SL.Sem
open Cert.Mix.KerKS Cert.KvqSRefIdeal.Read

variable (m : (ℓ : Loc nD τ sig) → Buf (Elt Ideal) ℓ) (c : Dev nD) (t : Fin cfg0.N)

/-! ### The arguments -/

abbrev a0 : (⟨S1024x1024, .f32⟩ : BufTy).Contents (Elt Ideal) := m ((c : Thread nD τ).loc main_arg0)
abbrev a1 : (⟨S1024x1024, .f32⟩ : BufTy).Contents (Elt Ideal) := m ((c : Thread nD τ).loc main_arg1)
abbrev a2 : (⟨S128x1024, .f32⟩ : BufTy).Contents (Elt Ideal) := m ((c : Thread nD τ).loc main_arg2)
abbrev a3 : (⟨S1024, .f32⟩ : BufTy).Contents (Elt Ideal) := m ((c : Thread nD τ).loc main_arg3)
abbrev a4 : (⟨S1024x2048, .f32⟩ : BufTy).Contents (Elt Ideal) := m ((c : Thread nD τ).loc main_arg4)
abbrev a5 : (⟨S1024, .f32⟩ : BufTy).Contents (Elt Ideal) := m ((c : Thread nD τ).loc main_arg5)
abbrev a6 : (⟨S128x1024, .f32⟩ : BufTy).Contents (Elt Ideal) := m ((c : Thread nD τ).loc main_arg6)
abbrev a7 : (⟨S128x1024, .f32⟩ : BufTy).Contents (Elt Ideal) := m ((c : Thread nD τ).loc main_arg7)
abbrev a8 : (⟨S1024x1024, .f32⟩ : BufTy).Contents (Elt Ideal) := m ((c : Thread nD τ).loc main_arg8)

theorem idx : ∀ t : Fin cfg0.N, win0_0.index t = ![t.val, 0] ∧ win0_1.index t = ![0, t.val] ∧ win0_2.index t = ![t.val, 0, 0]
    ∧ win0_3.index t = ![0, 0] ∧ win0_4.index t = ![0, 0] ∧ win0_5.index t = ![0, 0] ∧ win0_6.index t = ![t.val, 0, 0]
    ∧ win0_7.index t = ![t.val, 0, 0] ∧ win0_8.index t = ![0, 0] ∧ win0_9.index t = ![t.val, 0]
    ∧ win0_10.index t = ![t.val, 0] ∧ win0_11.index t = ![t.val, 0] ∧ win0_15.index t = ![t.val, 0] := by decide +kernel

theorem t_lt : t.val < 4 := t.isLt

/-- The row of the whole that is row `r` of block `t`. -/
def rowOf (r : Fin 256) : Fin 1024 := ⟨256 * t.val + r.val, by have := t_lt t; omega⟩

/-- The sequence of row `r` of block `t`. -/
def bw (r : Fin 256) : Fin 128 := ⟨(256 * t.val + r.val) / 8, by have := t_lt t; omega⟩

/-! ### The blocks read -/

theorem b0 (r : Fin 256) (k : Fin 1024) : iblk m c 0 t (ix2 r k) = a0 m c (ix2 (rowOf t r) k) := by
  blk_ext [iblk, idx t, rowOf]

theorem b1 (r : Fin 256) (k : Fin 1024) : iblk m c 1 t (ix2 k r) = a1 m c (ix2 k (rowOf t r)) := by
  blk_ext [iblk, idx t, rowOf]

theorem b2 (r : Fin 256) (k : Fin 1024) : iblk m c 2 t (ix3 0 r k) = a2 m c (ix2 (bw t r) k) := by
  have e : (win0_2.blk t).view.emb (ix3 0 r k) = (ix3 ⟨t.val, t.isLt⟩ r k : S4x256x1024.Idx) := by blk_ext [idx t]
  show V m c main_v6 ((win0_2.blk t).view.emb (ix3 0 r k)) = _
  rw [e]
  entry_read
  pointwise
  show m ((c : Thread nD τ).loc main_arg2) _ = _
  congr 2
  exact Fin.ext (show t.val * 32 + r.val / 8 = (256 * t.val + r.val) / 8 by omega)

theorem b6 (r : Fin 256) (k : Fin 1024) : iblk m c 6 t (ix3 0 r k) = a6 m c (ix2 (bw t r) k) := by
  have e : (win0_6.blk t).view.emb (ix3 0 r k) = (ix3 ⟨t.val, t.isLt⟩ r k : S4x256x1024.Idx) := by blk_ext [idx t]
  show V m c main_v9 ((win0_6.blk t).view.emb (ix3 0 r k)) = _
  rw [e]
  entry_read
  pointwise
  show m ((c : Thread nD τ).loc main_arg6) _ = _
  congr 2
  exact Fin.ext (show t.val * 32 + r.val / 8 = (256 * t.val + r.val) / 8 by omega)

theorem b7 (r : Fin 256) (k : Fin 1024) : iblk m c 7 t (ix3 0 r k) = a7 m c (ix2 (bw t r) k) := by
  have e : (win0_7.blk t).view.emb (ix3 0 r k) = (ix3 ⟨t.val, t.isLt⟩ r k : S4x256x1024.Idx) := by blk_ext [idx t]
  show V m c main_v12 ((win0_7.blk t).view.emb (ix3 0 r k)) = _
  rw [e]
  entry_read
  pointwise
  show m ((c : Thread nD τ).loc main_arg7) _ = _
  congr 2
  exact Fin.ext (show t.val * 32 + r.val / 8 = (256 * t.val + r.val) / 8 by omega)

theorem b3 (k : Fin 1024) : iblk m c 3 t (ix2 0 k) = a3 m c (ix1 k) := by
  have e : (win0_3.blk t).view.emb (ix2 0 k) = (ix2 0 k : S1x1024.Idx) := by blk_ext [idx t]
  show V m c main_v0 ((win0_3.blk t).view.emb (ix2 0 k)) = _
  rw [e]
  entry_read
  pointwise

theorem b5 (k : Fin 1024) : iblk m c 5 t (ix2 0 k) = a5 m c (ix1 k) := by
  have e : (win0_5.blk t).view.emb (ix2 0 k) = (ix2 0 k : S1x1024.Idx) := by blk_ext [idx t]
  show V m c main_v2 ((win0_5.blk t).view.emb (ix2 0 k)) = _
  rw [e]
  entry_read
  pointwise

theorem b4 (k : Fin 1024) (j : Fin 2048) : iblk m c 4 t (ix2 k j) = a4 m c (ix2 k j) := by
  have e : (win0_4.blk t).view.emb (ix2 k j) = (ix2 k j : S1024x2048.Idx) := by blk_ext [idx t]
  show V m c main_v1 ((win0_4.blk t).view.emb (ix2 k j)) = _
  rw [e]
  entry_read
  pointwise

theorem b8 (k : Fin 1024) (j : Fin 1024) : iblk m c 8 t (ix2 k j) = a8 m c (ix2 k j) := by
  have e : (win0_8.blk t).view.emb (ix2 k j) = (ix2 k j : S1024x1024.Idx) := by blk_ext [idx t]
  show V m c main_v3 ((win0_8.blk t).view.emb (ix2 k j)) = _
  rw [e]
  entry_read
  pointwise

theorem upd_block (r : Fin 256) : updB (iblk m c 0 t) (iblk m c 2 t) (iblk m c 1 t) r = RefKS.updR (a0 m c) (a1 m c) (a2 m c) (rowOf t r) (bw t r) := by
  funext k
  show upd _ _ _ k = upd _ _ _ k
  simp only [b0, b1, b2 m c t r]

theorem kv_block (r : Fin 256) (j : Fin 2048) : kvB (iblk m c 0 t) (iblk m c 2 t) (iblk m c 1 t) (iblk m c 3 t) (iblk m c 4 t) r j
    = nproj (RefKS.updR (a0 m c) (a1 m c) (a2 m c) (rowOf t r) (bw t r)) (fun k => a3 m c (ix1 k)) (fun k j => a4 m c (ix2 k j)) j := by
  unfold kvB
  rw [upd_block]
  simp only [b3, b4]

theorem q_block (r : Fin 256) (j : Fin 1024) :
    qB (iblk m c 0 t) (iblk m c 2 t) (iblk m c 6 t) (iblk m c 7 t) (iblk m c 1 t) (iblk m c 5 t) (iblk m c 8 t) r j
      = hproj (RefKS.updR (a0 m c) (a1 m c) (a2 m c) (rowOf t r) (bw t r)) (fun k => a5 m c (ix1 k)) (fun k => a6 m c (ix2 (bw t r) k)) (fun k => a7 m c (ix2 (bw t r) k))
          (fun k j => a8 m c (ix2 k j)) j := by
  unfold qB
  rw [upd_block]
  simp only [b5, b6 m c t r, b7 m c t r, b8]

/-! ### The output arrays -/

theorem arr9 : (dats m 0 c).arrAt 9 cfg0.N = val_main_v45 (F := Ideal) (a0 m c) (a1 m c) (a2 m c) := by
  refine (dats m 0 c).arrAt_eq_of_covers 9 _ (by decide +kernel) fun t hf y => ?_
  blk_simp
  rw [after0_9]
  obtain ⟨r, j, rfl⟩ : ∃ (r : Fin 256) (j : Fin 1024), y = ix2 r j := ⟨y 0, y 1, eq_ix2 y⟩
  have e : (win0_9.blk t).view.emb (ix2 r j) = (ix2 (rowOf t r) j : S1024x1024.Idx) := by
    blk_ext [idx t, rowOf]
  rw [e]
  rw [out9_apply, upd_block, RefKS.xo_apply (n := rowOf t r) (hb := (bw t r).isLt)]
  rfl

theorem arr10 : (dats m 0 c).arrAt 10 cfg0.N = val_main_v46 (F := Ideal) (a0 m c) (a1 m c) (a2 m c) (a3 m c) (a4 m c) := by
  refine (dats m 0 c).arrAt_eq_of_covers 10 _ (by decide +kernel) fun t hf y => ?_
  blk_simp
  rw [after0_10]
  obtain ⟨r, j, rfl⟩ : ∃ (r : Fin 256) (j : Fin 1024), y = ix2 r j := ⟨y 0, y 1, eq_ix2 y⟩
  have e : (win0_10.blk t).view.emb (ix2 r j) = (ix2 (rowOf t r) j : S1024x1024.Idx) := by
    blk_ext [idx t, rowOf]
  rw [e]
  rw [out10_apply (hj := by omega), kv_block, RefKS.k_apply (n := rowOf t r) (hb := (bw t r).isLt) (hj := by omega)]
  rfl

theorem arr11 : (dats m 0 c).arrAt 11 cfg0.N = val_main_v47 (F := Ideal) (a0 m c) (a1 m c) (a2 m c) (a3 m c) (a4 m c) := by
  refine (dats m 0 c).arrAt_eq_of_covers 11 _ (by decide +kernel) fun t hf y => ?_
  blk_simp
  rw [after0_11]
  obtain ⟨r, j, rfl⟩ : ∃ (r : Fin 256) (j : Fin 1024), y = ix2 r j := ⟨y 0, y 1, eq_ix2 y⟩
  have e : (win0_11.blk t).view.emb (ix2 r j) = (ix2 (rowOf t r) j : S1024x1024.Idx) := by
    blk_ext [idx t, rowOf]
  rw [e]
  rw [out11_apply (hj := by omega), kv_block, RefKS.v_apply (n := rowOf t r) (hb := (bw t r).isLt) (hj := by omega)]
  rfl

theorem arr15 : (dats m 0 c).arrAt 15 cfg0.N = val_main_v48 (F := Ideal) (a0 m c) (a1 m c) (a2 m c) (a5 m c) (a6 m c) (a7 m c) (a8 m c) := by
  refine (dats m 0 c).arrAt_eq_of_covers 15 _ (by decide +kernel) fun t hf y => ?_
  blk_simp
  rw [after0_15]
  obtain ⟨r, j, rfl⟩ : ∃ (r : Fin 256) (j : Fin 1024), y = ix2 r j := ⟨y 0, y 1, eq_ix2 y⟩
  have e : (win0_15.blk t).view.emb (ix2 r j) = (ix2 (rowOf t r) j : S1024x1024.Idx) := by
    blk_ext [idx t, rowOf]
  rw [e]
  rw [out15_apply, q_block, RefKS.qo_apply (n := rowOf t r) (hb := (bw t r).isLt)]
  rfl

end Cert.Mix.ArrKS
-- ==== Proof.ClaimKS.lean ====
module

public import proofs.«01_k».proof.Defs
public import proofs.«01_k».proof.Proof.ArrKS
public import proofs.«01_k».proof.Proof.Gen.KvqSRefIdeal.Run

/-! The claim about the sample attention input: the kernel's results are its reference's. -/

@[expose] public section

noncomputable section

namespace Cert.Mix.ClaimKS

open Idealize.ShloMosaic Idealize.SL.Sem Cert.KvqSRefIdeal.Read Cert.Mix.ArrKS

theorem algebraic : Cert.algebraic_KvqSIdeal_KvqSRefIdeal := by
  intro m g m' g' _ hagree
  refine ⟨fun c => val_main_v45 (F := Ideal) (a0 m c) (a1 m c) (a2 m c),
    fun c => val_main_v46 (F := Ideal) (a0 m c) (a1 m c) (a2 m c) (a3 m c) (a4 m c),
    fun c => val_main_v47 (F := Ideal) (a0 m c) (a1 m c) (a2 m c) (a3 m c) (a4 m c),
    fun c => val_main_v48 (F := Ideal) (a0 m c) (a1 m c) (a2 m c) (a5 m c) (a6 m c) (a7 m c) (a8 m c), ?_, ?_⟩
  · refine (θ_run Cert.KvqSIdeal.defs _ _).mono (fun r h c => ?_) (Cert.KvqSIdeal.Value.run_blocks (F := Ideal) m g)
    obtain ⟨h0, h1, h2, _, _, _, h3, h4⟩ := h c
    exact ⟨h0.trans (arr9 m c), h1.trans (arr10 m c), h2.trans (arr11 m c), h3.trans (arr15 m c), h4⟩
  · refine (θ_run Cert.KvqSRefIdeal.defs _ _).mono (fun r h c => ?_) (Cert.KvqSRefIdeal.Value.run (F := Ideal) m' g')
    obtain ⟨h0, h1, h2, h3, h4⟩ := h c
    obtain ⟨e0, e1, e2, e3, e4, e5, e6, e7, e8⟩ := hagree c
    refine ⟨h0.trans ((val_main_v45_eq ..).trans ?_), h1.trans ((val_main_v46_eq ..).trans ?_), h2.trans ((val_main_v47_eq ..).trans ?_), h3.trans ((val_main_v48_eq ..).trans ?_), h4⟩
    · rw [e0, e1, e2]
    · rw [e0, e1, e2, e3, e4]
    · rw [e0, e1, e2, e3, e4]
    · rw [e0, e1, e2, e5, e6, e7, e8]

theorem frameRef : Cert.quiescent_KvqSRefIdeal := fun m ρ _ =>
  (θ_run Cert.KvqSRefIdeal.defs _ _).mono (fun _ h => ⟨fun c => (h c).2.2.2.2, sem_eq_zero_of_no_sems (by decide) _⟩)
    (Cert.KvqSRefIdeal.Value.run (F := Ideal) m ρ)

end Cert.Mix.ClaimKS
-- ==== Proof.ClaimOP.lean ====
module

public import proofs.«01_k».proof.Defs
public import proofs.«01_k».proof.Proof.Gen.ProjPIdeal.Value
public import proofs.«01_k».proof.Proof.Gen.ProjPRefIdeal.Read
public import proofs.«01_k».proof.Proof.Gen.ProjPRefIdeal.Run
public import proofs.«01_k».proof.Proof.MathK
public import Idealize.ShloMosaic.Lib.Claim
public import Idealize.ShloMosaic.Lib.Pointwise
public import Idealize.ShloMosaic.Lib.Pipeline.ReadBack
public import Idealize.ShloMosaic.Lib.Pipeline.ValueKit

/-! The claim about the prompt output projection: the kernel's result is its reference's. -/

@[expose] public section

noncomputable section

namespace Cert.Mix.ClaimOP

open Cert.ProjPIdeal Cert.ProjPIdeal.Gen Idealize.ShloMosaic Idealize.ShloMosaic.TcCoe Idealize.SL.Sem
open Cert.ProjPRefIdeal.Read

theorem hz2 : (![0, 0] : Fin 2 → Nat) = fun _ => 0 := funext fun a => by fin_cases a <;> rfl
theorem hz3 : (![0, 0, 0] : Fin 3 → Nat) = fun _ => 0 := funext fun a => by fin_cases a <;> rfl

section Reference

variable (x0 : (⟨S16384x1024, .f32⟩ : BufTy).Contents (Elt Ideal)) (x1 : (⟨S16384x1024, .bf16⟩ : BufTy).Contents (Elt Ideal))
  (x2 : (⟨S8x1024, .f32⟩ : BufTy).Contents (Elt Ideal)) (x3 : (⟨S1024x1024, .f32⟩ : BufTy).Contents (Elt Ideal))

/-- Row `t` of sequence `b`. -/
def row (b : Fin 8) (t : Fin 2048) : Fin 16384 := ⟨b.val * 2048 + t.val, by omega⟩

theorem x_apply (b : Fin 8) (t : Fin 2048) (k : Fin 1024) : val_main_v0 (F := Ideal) x0 (ix3 b t k) = x0 (ix2 (row b t) k) := by
  rw [val_main_v0_apply]; congr 1; funext a
  match a with
  | ⟨0, _⟩ => exact Fin.ext (show ((b.val * 2048 + t.val) * 1024 + k.val) / 1024 = b.val * 2048 + t.val by omega)
  | ⟨1, _⟩ => exact Fin.ext (show ((b.val * 2048 + t.val) * 1024 + k.val) % 1024 = k.val by omega)

theorem row_at (n : Fin 16384) (h1 : n.val / 2048 < 8) (h2 : n.val % 2048 < 2048) : row ⟨n.val / 2048, h1⟩ ⟨n.val % 2048, h2⟩ = n :=
  Fin.ext (show n.val / 2048 * 2048 + n.val % 2048 = n.val by omega)

theorem a_apply (b : Fin 8) (t : Fin 2048) (k : Fin 1024) : val_main_v3 (F := Ideal) x1 (ix3 b t k) = x1 (ix2 (row b t) k) := by
  rw [val_main_v3_apply]
  show x1 _ = _
  congr 1; funext a
  match a with
  | ⟨0, _⟩ => exact Fin.ext (show ((b.val * 2048 + t.val) * 1024 + k.val) / 1024 = b.val * 2048 + t.val by omega)
  | ⟨1, _⟩ => exact Fin.ext (show ((b.val * 2048 + t.val) * 1024 + k.val) % 1024 = k.val by omega)

theorem ref_apply (n : Fin 16384) (j : Fin 1024) (hb : n.val / 2048 < 8) : val_main_v8 (F := Ideal) x0 x1 x2 x3 (ix2 n j)
    = resAt (fun k => x0 (ix2 n k)) (fun k => x2 (ix2 ⟨n.val / 2048, hb⟩ k)) (fun k => x1 (ix2 n k)) (fun k j => x3 (ix2 k j)) j := by
  pointwise [val_main_v8, val_main_v7, val_main_v6, val_main_v5, val_main_v4, val_main_v1, Cert.ProjPRefIdeal.dot_S8x2048x1024_S1024x1024_S8x2048x1024_2_0_01_1_n_n, x_apply, a_apply, row_at]
  rfl

end Reference

section Kernel

variable (x0 : Vec Ideal S256x1024 .f32) (x1 : Vec Ideal S256x1024 .bf16) (x2 : Vec Ideal S1x1x1024 .f32) (x3 : Vec Ideal S1024x1024 .bf16)

theorem out4_apply (r : Fin 256) (j : Fin 1024) : out0_4 x0 x1 x2 x3 (ix2 r j) = resAt (fun k => x0 (ix2 r k)) (fun k => x2 (ix3 0 0 k)) (fun k => x1 (ix2 r k)) (fun k j => x3 (ix2 k j)) j := by
  unfold out0_4
  rw [View.canon_unit_zero hz2]
  simp only [View.ld_unit_zero (S := S256x1024) hz2, View.ld_unit_zero (S := S1x1x1024) hz3, View.ld_unit_zero (S := S1024x1024) hz2]
  pointwise [k0_pay1, dot_S256x1024_S1024x1024_S256x1024_1_0_0_1_n_n]
  rfl

end Kernel

variable (m : (ℓ : Loc nD τ sig) → Buf (Elt Ideal) ℓ) (c : Dev nD) (t : Fin cfg0.N)

/-! ### The arguments -/

abbrev a0 : (⟨S16384x1024, .f32⟩ : BufTy).Contents (Elt Ideal) := m ((c : Thread nD τ).loc main_arg0)
abbrev a1 : (⟨S16384x1024, .bf16⟩ : BufTy).Contents (Elt Ideal) := m ((c : Thread nD τ).loc main_arg1)
abbrev a2 : (⟨S8x1024, .f32⟩ : BufTy).Contents (Elt Ideal) := m ((c : Thread nD τ).loc main_arg2)
abbrev a3 : (⟨S1024x1024, .f32⟩ : BufTy).Contents (Elt Ideal) := m ((c : Thread nD τ).loc main_arg3)

theorem idx : ∀ t : Fin cfg0.N, win0_0.index t = ![t.val, 0] ∧ win0_1.index t = ![t.val, 0] ∧ win0_2.index t = ![t.val / 8, 0, 0]
    ∧ win0_3.index t = ![0, 0] ∧ win0_4.index t = ![t.val, 0] := by decide +kernel

theorem t_lt : t.val < 64 := t.isLt

/-- The row of the whole that is row `r` of block `t`. -/
def rowOf (r : Fin 256) : Fin 16384 := ⟨256 * t.val + r.val, by have := t_lt t; omega⟩

/-- The sequence of row `r` of block `t`. -/
def bw (r : Fin 256) : Fin 8 := ⟨(256 * t.val + r.val) / 2048, by have := t_lt t; omega⟩

/-! ### The blocks read -/

theorem b0 (r : Fin 256) (k : Fin 1024) : iblk m c 0 t (ix2 r k) = a0 m c (ix2 (rowOf t r) k) := by
  blk_ext [iblk, idx t, rowOf]

theorem b1 (r : Fin 256) (k : Fin 1024) : iblk m c 1 t (ix2 r k) = a1 m c (ix2 (rowOf t r) k) := by
  blk_ext [iblk, idx t, rowOf]

theorem b2 (r : Fin 256) (k : Fin 1024) : iblk m c 2 t (ix3 0 0 k) = a2 m c (ix2 (bw t r) k) := by
  have e : (win0_2.blk t).view.emb (ix3 0 0 k) = (ix3 (bw t r) 0 k : S8x1x1024.Idx) := by blk_ext [idx t, bw]
  show V m c main_v1 ((win0_2.blk t).view.emb (ix3 0 0 k)) = _
  rw [e]
  entry_read
  pointwise

theorem b3 (k j : Fin 1024) : iblk m c 3 t (ix2 k j) = a3 m c (ix2 k j) := by
  have e : (win0_3.blk t).view.emb (ix2 k j) = (ix2 k j : S1024x1024.Idx) := by blk_ext [idx t]
  show V m c main_v0 ((win0_3.blk t).view.emb (ix2 k j)) = _
  rw [e]
  entry_read
  pointwise

/-- The output array is the reference's result. -/
theorem arr4 : (dats m 0 c).arrAt 4 cfg0.N = val_main_v8 (F := Ideal) (a0 m c) (a1 m c) (a2 m c) (a3 m c) := by
  refine (dats m 0 c).arrAt_eq_of_covers 4 _ (by decide +kernel) fun t hf y => ?_
  blk_simp
  rw [after0_4]
  obtain ⟨r, j, rfl⟩ : ∃ (r : Fin 256) (j : Fin 1024), y = ix2 r j := ⟨y 0, y 1, eq_ix2 y⟩
  have e : (win0_4.blk t).view.emb (ix2 r j) = (ix2 (rowOf t r) j : S16384x1024.Idx) := by
    blk_ext [idx t, rowOf]
  rw [e, out4_apply, ref_apply (n := rowOf t r) (hb := (bw t r).isLt)]
  simp only [b0, b1, b2 m c t r, b3]
  rfl

theorem algebraic : Cert.algebraic_ProjPIdeal_ProjPRefIdeal := by
  intro m g m' g' _ hagree
  refine ⟨fun c => val_main_v8 (F := Ideal) (a0 m c) (a1 m c) (a2 m c) (a3 m c), ?_, ?_⟩
  · refine (θ_run Cert.ProjPIdeal.defs _ _).mono (fun r h c => ?_) (Cert.ProjPIdeal.Value.run_blocks (F := Ideal) m g)
    obtain ⟨h0, h1⟩ := h c
    exact ⟨h0.trans (arr4 m c), h1⟩
  · refine (θ_run Cert.ProjPRefIdeal.defs _ _).mono (fun r h c => ?_) (Cert.ProjPRefIdeal.Value.run (F := Ideal) m' g')
    obtain ⟨h0, h1⟩ := h c
    obtain ⟨e0, e1, e2, e3⟩ := hagree c
    refine ⟨h0.trans ((val_main_v8_eq ..).trans ?_), h1⟩
    rw [e0, e1, e2, e3]

theorem frameRef : Cert.quiescent_ProjPRefIdeal := fun m ρ _ =>
  (θ_run Cert.ProjPRefIdeal.defs _ _).mono (fun _ h => ⟨fun c => (h c).2, sem_eq_zero_of_no_sems (by decide) _⟩)
    (Cert.ProjPRefIdeal.Value.run (F := Ideal) m ρ)

end Cert.Mix.ClaimOP
-- ==== Proof.ClaimOS.lean ====
module

public import proofs.«01_k».proof.Defs
public import proofs.«01_k».proof.Proof.Gen.ProjSIdeal.Value
public import proofs.«01_k».proof.Proof.Gen.ProjSRefIdeal.Read
public import proofs.«01_k».proof.Proof.Gen.ProjSRefIdeal.Run
public import proofs.«01_k».proof.Proof.MathK
public import Idealize.ShloMosaic.Lib.Claim
public import Idealize.ShloMosaic.Lib.Pointwise
public import Idealize.ShloMosaic.Lib.Pipeline.ReadBack
public import Idealize.ShloMosaic.Lib.Pipeline.ValueKit

/-! The claim about the sample output projection: the kernel's result is its reference's. -/

@[expose] public section

noncomputable section

namespace Cert.Mix.ClaimOS

open Cert.ProjSIdeal Cert.ProjSIdeal.Gen Idealize.ShloMosaic Idealize.ShloMosaic.TcCoe Idealize.SL.Sem
open Cert.ProjSRefIdeal.Read

theorem hz2 : (![0, 0] : Fin 2 → Nat) = fun _ => 0 := funext fun a => by fin_cases a <;> rfl
theorem hz3 : (![0, 0, 0] : Fin 3 → Nat) = fun _ => 0 := funext fun a => by fin_cases a <;> rfl

section Reference

variable (x0 : (⟨S1024x1024, .f32⟩ : BufTy).Contents (Elt Ideal)) (x1 : (⟨S1024x1024, .f32⟩ : BufTy).Contents (Elt Ideal))
  (x2 : (⟨S128x1024, .f32⟩ : BufTy).Contents (Elt Ideal)) (x3 : (⟨S1024x1024, .f32⟩ : BufTy).Contents (Elt Ideal))

/-- Row `t` of sequence `b`. -/
def row (b : Fin 128) (t : Fin 8) : Fin 1024 := ⟨b.val * 8 + t.val, by omega⟩

theorem x_apply (b : Fin 128) (t : Fin 8) (k : Fin 1024) : val_main_v0 (F := Ideal) x0 (ix3 b t k) = x0 (ix2 (row b t) k) := by
  rw [val_main_v0_apply]; congr 1; funext a
  match a with
  | ⟨0, _⟩ => exact Fin.ext (show ((b.val * 8 + t.val) * 1024 + k.val) / 1024 = b.val * 8 + t.val by omega)
  | ⟨1, _⟩ => exact Fin.ext (show ((b.val * 8 + t.val) * 1024 + k.val) % 1024 = k.val by omega)

theorem row_at (n : Fin 1024) (h1 : n.val / 8 < 128) (h2 : n.val % 8 < 8) : row ⟨n.val / 8, h1⟩ ⟨n.val % 8, h2⟩ = n :=
  Fin.ext (show n.val / 8 * 8 + n.val % 8 = n.val by omega)

theorem a_apply (b : Fin 128) (t : Fin 8) (k : Fin 1024) : val_main_v2 (F := Ideal) x1 (ix3 b t k) = x1 (ix2 (row b t) k) := by
  rw [val_main_v2_apply]; congr 1; funext a
  match a with
  | ⟨0, _⟩ => exact Fin.ext (show ((b.val * 8 + t.val) * 1024 + k.val) / 1024 = b.val * 8 + t.val by omega)
  | ⟨1, _⟩ => exact Fin.ext (show ((b.val * 8 + t.val) * 1024 + k.val) % 1024 = k.val by omega)

theorem ref_apply (n : Fin 1024) (j : Fin 1024) (hb : n.val / 8 < 128) : val_main_v7 (F := Ideal) x0 x1 x2 x3 (ix2 n j)
    = resAt (fun k => x0 (ix2 n k)) (fun k => x2 (ix2 ⟨n.val / 8, hb⟩ k)) (fun k => x1 (ix2 n k)) (fun k j => x3 (ix2 k j)) j := by
  pointwise [val_main_v7, val_main_v6, val_main_v5, val_main_v4, val_main_v3, val_main_v1, Cert.ProjSRefIdeal.dot_S128x8x1024_S1024x1024_S128x8x1024_2_0_01_1_n_n, x_apply, a_apply, row_at]
  rfl

end Reference

section Kernel

variable (x0 : Vec Ideal S256x1024 .f32) (x1 : Vec Ideal S256x1024 .f32) (x2 : Vec Ideal S1x256x1024 .f32) (x3 : Vec Ideal S1024x1024 .bf16)

theorem out4_apply (r : Fin 256) (j : Fin 1024) : out0_4 x0 x1 x2 x3 (ix2 r j) = resAt (fun k => x0 (ix2 r k)) (fun k => x2 (ix3 0 r k)) (fun k => x1 (ix2 r k)) (fun k j => x3 (ix2 k j)) j := by
  unfold out0_4
  rw [View.canon_unit_zero hz2]
  simp only [View.ld_unit_zero (S := S256x1024) hz2, View.ld_unit_zero (S := S1x256x1024) hz3, View.ld_unit_zero (S := S1024x1024) hz2]
  pointwise [k0_pay1, dot_S256x1024_S1024x1024_S256x1024_1_0_0_1_n_n]
  rfl

end Kernel

variable (m : (ℓ : Loc nD τ sig) → Buf (Elt Ideal) ℓ) (c : Dev nD) (t : Fin cfg0.N)

/-! ### The arguments -/

abbrev a0 : (⟨S1024x1024, .f32⟩ : BufTy).Contents (Elt Ideal) := m ((c : Thread nD τ).loc main_arg0)
abbrev a1 : (⟨S1024x1024, .f32⟩ : BufTy).Contents (Elt Ideal) := m ((c : Thread nD τ).loc main_arg1)
abbrev a2 : (⟨S128x1024, .f32⟩ : BufTy).Contents (Elt Ideal) := m ((c : Thread nD τ).loc main_arg2)
abbrev a3 : (⟨S1024x1024, .f32⟩ : BufTy).Contents (Elt Ideal) := m ((c : Thread nD τ).loc main_arg3)

theorem idx : ∀ t : Fin cfg0.N, win0_0.index t = ![t.val, 0] ∧ win0_1.index t = ![t.val, 0] ∧ win0_2.index t = ![t.val, 0, 0]
    ∧ win0_3.index t = ![0, 0] ∧ win0_4.index t = ![t.val, 0] := by decide +kernel

theorem t_lt : t.val < 4 := t.isLt

/-- The row of the whole that is row `r` of block `t`. -/
def rowOf (r : Fin 256) : Fin 1024 := ⟨256 * t.val + r.val, by have := t_lt t; omega⟩

/-- The sequence of row `r` of block `t`. -/
def bw (r : Fin 256) : Fin 128 := ⟨(256 * t.val + r.val) / 8, by have := t_lt t; omega⟩

/-! ### The blocks read -/

theorem b0 (r : Fin 256) (k : Fin 1024) : iblk m c 0 t (ix2 r k) = a0 m c (ix2 (rowOf t r) k) := by
  blk_ext [iblk, idx t, rowOf]

theorem b1 (r : Fin 256) (k : Fin 1024) : iblk m c 1 t (ix2 r k) = a1 m c (ix2 (rowOf t r) k) := by
  blk_ext [iblk, idx t, rowOf]

theorem b2 (r : Fin 256) (k : Fin 1024) : iblk m c 2 t (ix3 0 r k) = a2 m c (ix2 (bw t r) k) := by
  have e : (win0_2.blk t).view.emb (ix3 0 r k) = (ix3 ⟨t.val, t.isLt⟩ r k : S4x256x1024.Idx) := by blk_ext [idx t]
  show V m c main_v3 ((win0_2.blk t).view.emb (ix3 0 r k)) = _
  rw [e]
  entry_read
  pointwise
  show m ((c : Thread nD τ).loc main_arg2) _ = _
  congr 2
  exact Fin.ext (show t.val * 32 + r.val / 8 = (256 * t.val + r.val) / 8 by omega)

theorem b3 (k j : Fin 1024) : iblk m c 3 t (ix2 k j) = a3 m c (ix2 k j) := by
  have e : (win0_3.blk t).view.emb (ix2 k j) = (ix2 k j : S1024x1024.Idx) := by blk_ext [idx t]
  show V m c main_v0 ((win0_3.blk t).view.emb (ix2 k j)) = _
  rw [e]
  entry_read
  pointwise

/-- The output array is the reference's result. -/
theorem arr4 : (dats m 0 c).arrAt 4 cfg0.N = val_main_v7 (F := Ideal) (a0 m c) (a1 m c) (a2 m c) (a3 m c) := by
  refine (dats m 0 c).arrAt_eq_of_covers 4 _ (by decide +kernel) fun t hf y => ?_
  blk_simp
  rw [after0_4]
  obtain ⟨r, j, rfl⟩ : ∃ (r : Fin 256) (j : Fin 1024), y = ix2 r j := ⟨y 0, y 1, eq_ix2 y⟩
  have e : (win0_4.blk t).view.emb (ix2 r j) = (ix2 (rowOf t r) j : S1024x1024.Idx) := by
    blk_ext [idx t, rowOf]
  rw [e, out4_apply, ref_apply (n := rowOf t r) (hb := (bw t r).isLt)]
  simp only [b0, b1, b2 m c t r, b3]
  rfl

theorem algebraic : Cert.algebraic_ProjSIdeal_ProjSRefIdeal := by
  intro m g m' g' _ hagree
  refine ⟨fun c => val_main_v7 (F := Ideal) (a0 m c) (a1 m c) (a2 m c) (a3 m c), ?_, ?_⟩
  · refine (θ_run Cert.ProjSIdeal.defs _ _).mono (fun r h c => ?_) (Cert.ProjSIdeal.Value.run_blocks (F := Ideal) m g)
    obtain ⟨h0, h1⟩ := h c
    exact ⟨h0.trans (arr4 m c), h1⟩
  · refine (θ_run Cert.ProjSRefIdeal.defs _ _).mono (fun r h c => ?_) (Cert.ProjSRefIdeal.Value.run (F := Ideal) m' g')
    obtain ⟨h0, h1⟩ := h c
    obtain ⟨e0, e1, e2, e3⟩ := hagree c
    refine ⟨h0.trans ((val_main_v7_eq ..).trans ?_), h1⟩
    rw [e0, e1, e2, e3]

theorem frameRef : Cert.quiescent_ProjSRefIdeal := fun m ρ _ =>
  (θ_run Cert.ProjSRefIdeal.defs _ _).mono (fun _ h => ⟨fun c => (h c).2, sem_eq_zero_of_no_sems (by decide) _⟩)
    (Cert.ProjSRefIdeal.Value.run (F := Ideal) m ρ)

end Cert.Mix.ClaimOS
-- ==== Proof.ClaimFP.lean ====
module

public import proofs.«01_k».proof.Defs
public import proofs.«01_k».proof.Proof.Gen.FinalPIdeal.Value
public import proofs.«01_k».proof.Proof.Gen.FinalPRefIdeal.Read
public import proofs.«01_k».proof.Proof.Gen.FinalPRefIdeal.Run
public import proofs.«01_k».proof.Proof.MathK
public import Idealize.ShloMosaic.Lib.Claim
public import Idealize.ShloMosaic.Lib.Pointwise
public import Idealize.ShloMosaic.Lib.Pipeline.ReadBack
public import Idealize.ShloMosaic.Lib.Pipeline.ValueKit

/-! The claim about the prompt final norm: the kernel's result is its reference's. -/

@[expose] public section

noncomputable section

namespace Cert.Mix.ClaimFP

open Cert.FinalPIdeal Cert.FinalPIdeal.Gen Idealize.ShloMosaic Idealize.ShloMosaic.TcCoe Idealize.SL.Sem
open Cert.FinalPRefIdeal.Read

theorem hz2 : (![0, 0] : Fin 2 → Nat) = fun _ => 0 := funext fun a => by fin_cases a <;> rfl
theorem hz3 : (![0, 0, 0] : Fin 3 → Nat) = fun _ => 0 := funext fun a => by fin_cases a <;> rfl

section Reference

variable (x0 : (⟨S16384x1024, .f32⟩ : BufTy).Contents (Elt Ideal)) (x1 : (⟨S1024x16384, .f32⟩ : BufTy).Contents (Elt Ideal))
  (x2 : (⟨S8x1024, .f32⟩ : BufTy).Contents (Elt Ideal)) (x3 : (⟨S1024, .f32⟩ : BufTy).Contents (Elt Ideal))

/-- Row `t` of sequence `b`. -/
def row (b : Fin 8) (t : Fin 2048) : Fin 16384 := ⟨b.val * 2048 + t.val, by omega⟩

theorem x_apply (b : Fin 8) (t : Fin 2048) (k : Fin 1024) : val_main_v0 (F := Ideal) x0 (ix3 b t k) = x0 (ix2 (row b t) k) := by
  rw [val_main_v0_apply]; congr 1; funext a
  match a with
  | ⟨0, _⟩ => exact Fin.ext (show ((b.val * 2048 + t.val) * 1024 + k.val) / 1024 = b.val * 2048 + t.val by omega)
  | ⟨1, _⟩ => exact Fin.ext (show ((b.val * 2048 + t.val) * 1024 + k.val) % 1024 = k.val by omega)

theorem row_at (n : Fin 16384) (h1 : n.val / 2048 < 8) (h2 : n.val % 2048 < 2048) : row ⟨n.val / 2048, h1⟩ ⟨n.val % 2048, h2⟩ = n :=
  Fin.ext (show n.val / 2048 * 2048 + n.val % 2048 = n.val by omega)

theorem p_apply (b : Fin 8) (t : Fin 2048) (k : Fin 1024) : val_main_v3 (F := Ideal) x1 (ix3 b t k) = x1 (ix2 k (row b t)) := by
  rw [val_main_v3_apply, val_main_v2_apply]; congr 1; funext a
  match a with
  | ⟨0, _⟩ => exact Fin.ext (show ((b.val * 2048 + t.val) * 1024 + k.val) % 1024 = k.val by omega)
  | ⟨1, _⟩ => exact Fin.ext (show ((b.val * 2048 + t.val) * 1024 + k.val) / 1024 = b.val * 2048 + t.val by omega)

/-- The updated row `n`. -/
abbrev updR (n : Fin 16384) (b : Fin 8) : Fin 1024 → EReal :=
  upd (fun k => x0 (ix2 n k)) (fun k => x2 (ix2 b k)) (fun k => x1 (ix2 k n))

theorem updR_apply (b : Fin 8) (t : Fin 2048) (k : Fin 1024) :
    val_main_v6 (F := Ideal) x0 x1 x2 (ix3 b t k) = updR x0 x1 x2 (row b t) b k := by
  pointwise [val_main_v6, val_main_v5, val_main_v4, val_main_v1, x_apply, p_apply]
  rfl

theorem ref_apply (n : Fin 16384) (j : Fin 1024) (hb : n.val / 2048 < 8) : val_main_v20 (F := Ideal) x0 x1 x2 x3 (ix2 n j)
    = nrm (updR x0 x1 x2 n ⟨n.val / 2048, hb⟩) (x3 (ix1 j)) j := by
  pointwise [val_main_v20, val_main_v19, val_main_v18, val_main_v17, val_main_v16, val_main_v15, val_main_v14, val_main_v13, val_main_v12,
    val_main_v11, val_main_v10, val_main_v9, val_main_v8, val_main_v7, val_main_cst, val_main_cst_0, val_main_cst_1, updR_apply, row_at]
  rfl

end Reference

section Kernel

variable (x0 : Vec Ideal S256x1024 .f32) (x1 : Vec Ideal S1024x256 .f32) (x2 : Vec Ideal S1x1x1024 .f32) (x3 : Vec Ideal S1x1024 .f32)

theorem out4_apply (r : Fin 256) (j : Fin 1024) : out0_4 x0 x1 x2 x3 (ix2 r j) = nrm (upd (fun k => x0 (ix2 r k)) (fun k => x2 (ix3 0 0 k)) (fun k => x1 (ix2 k r))) (x3 (ix2 0 j)) j := by
  unfold out0_4
  rw [View.canon_unit_zero hz2]
  simp only [View.ld_unit_zero (S := S256x1024) hz2, View.ld_unit_zero (S := S1x1x1024) hz3, View.ld_unit_zero (S := S1x1024) hz2, View.ld_unit_zero (S := S1024x256) hz2]
  pointwise [k0_pay1]
  rfl

end Kernel

variable (m : (ℓ : Loc nD τ sig) → Buf (Elt Ideal) ℓ) (c : Dev nD) (t : Fin cfg0.N)

/-! ### The arguments -/

abbrev a0 : (⟨S16384x1024, .f32⟩ : BufTy).Contents (Elt Ideal) := m ((c : Thread nD τ).loc main_arg0)
abbrev a1 : (⟨S1024x16384, .f32⟩ : BufTy).Contents (Elt Ideal) := m ((c : Thread nD τ).loc main_arg1)
abbrev a2 : (⟨S8x1024, .f32⟩ : BufTy).Contents (Elt Ideal) := m ((c : Thread nD τ).loc main_arg2)
abbrev a3 : (⟨S1024, .f32⟩ : BufTy).Contents (Elt Ideal) := m ((c : Thread nD τ).loc main_arg3)

theorem idx : ∀ t : Fin cfg0.N, win0_0.index t = ![t.val, 0] ∧ win0_1.index t = ![0, t.val] ∧ win0_2.index t = ![t.val / 8, 0, 0]
    ∧ win0_3.index t = ![0, 0] ∧ win0_4.index t = ![t.val, 0] := by decide +kernel

theorem t_lt : t.val < 64 := t.isLt

/-- The row of the whole that is row `r` of block `t`. -/
def rowOf (r : Fin 256) : Fin 16384 := ⟨256 * t.val + r.val, by have := t_lt t; omega⟩

/-- The sequence of row `r` of block `t`. -/
def bw (r : Fin 256) : Fin 8 := ⟨(256 * t.val + r.val) / 2048, by have := t_lt t; omega⟩

/-! ### The blocks read -/

theorem b0 (r : Fin 256) (k : Fin 1024) : iblk m c 0 t (ix2 r k) = a0 m c (ix2 (rowOf t r) k) := by
  blk_ext [iblk, idx t, rowOf]

theorem b1 (r : Fin 256) (k : Fin 1024) : iblk m c 1 t (ix2 k r) = a1 m c (ix2 k (rowOf t r)) := by
  blk_ext [iblk, idx t, rowOf]

theorem b2 (r : Fin 256) (k : Fin 1024) : iblk m c 2 t (ix3 0 0 k) = a2 m c (ix2 (bw t r) k) := by
  have e : (win0_2.blk t).view.emb (ix3 0 0 k) = (ix3 (bw t r) 0 k : S8x1x1024.Idx) := by blk_ext [idx t, bw]
  show V m c main_v1 ((win0_2.blk t).view.emb (ix3 0 0 k)) = _
  rw [e]
  entry_read
  pointwise

theorem b3 (k : Fin 1024) : iblk m c 3 t (ix2 0 k) = a3 m c (ix1 k) := by
  have e : (win0_3.blk t).view.emb (ix2 0 k) = (ix2 0 k : S1x1024.Idx) := by blk_ext [idx t]
  show V m c main_v0 ((win0_3.blk t).view.emb (ix2 0 k)) = _
  rw [e]
  entry_read
  pointwise

/-- The output array is the reference's result. -/
theorem arr4 : (dats m 0 c).arrAt 4 cfg0.N = val_main_v20 (F := Ideal) (a0 m c) (a1 m c) (a2 m c) (a3 m c) := by
  refine (dats m 0 c).arrAt_eq_of_covers 4 _ (by decide +kernel) fun t hf y => ?_
  blk_simp
  rw [after0_4]
  obtain ⟨r, j, rfl⟩ : ∃ (r : Fin 256) (j : Fin 1024), y = ix2 r j := ⟨y 0, y 1, eq_ix2 y⟩
  have e : (win0_4.blk t).view.emb (ix2 r j) = (ix2 (rowOf t r) j : S16384x1024.Idx) := by
    blk_ext [idx t, rowOf]
  rw [e, out4_apply, ref_apply (n := rowOf t r) (hb := (bw t r).isLt)]
  simp only [b0, b1, b2 m c t r, b3]
  rfl

theorem algebraic : Cert.algebraic_FinalPIdeal_FinalPRefIdeal := by
  intro m g m' g' _ hagree
  refine ⟨fun c => val_main_v20 (F := Ideal) (a0 m c) (a1 m c) (a2 m c) (a3 m c), ?_, ?_⟩
  · refine (θ_run Cert.FinalPIdeal.defs _ _).mono (fun r h c => ?_) (Cert.FinalPIdeal.Value.run_blocks (F := Ideal) m g)
    obtain ⟨h0, h1⟩ := h c
    exact ⟨h0.trans (arr4 m c), h1⟩
  · refine (θ_run Cert.FinalPRefIdeal.defs _ _).mono (fun r h c => ?_) (Cert.FinalPRefIdeal.Value.run (F := Ideal) m' g')
    obtain ⟨h0, h1⟩ := h c
    obtain ⟨e0, e1, e2, e3⟩ := hagree c
    refine ⟨h0.trans ((val_main_v20_eq ..).trans ?_), h1⟩
    rw [e0, e1, e2, e3]

theorem frameRef : Cert.quiescent_FinalPRefIdeal := fun m ρ _ =>
  (θ_run Cert.FinalPRefIdeal.defs _ _).mono (fun _ h => ⟨fun c => (h c).2, sem_eq_zero_of_no_sems (by decide) _⟩)
    (Cert.FinalPRefIdeal.Value.run (F := Ideal) m ρ)

end Cert.Mix.ClaimFP
-- ==== Proof.ClaimFS.lean ====
module

public import proofs.«01_k».proof.Defs
public import proofs.«01_k».proof.Proof.Gen.FinalSIdeal.Value
public import proofs.«01_k».proof.Proof.Gen.FinalSRefIdeal.Read
public import proofs.«01_k».proof.Proof.Gen.FinalSRefIdeal.Run
public import proofs.«01_k».proof.Proof.MathK
public import Idealize.ShloMosaic.Lib.Claim
public import Idealize.ShloMosaic.Lib.Pointwise
public import Idealize.ShloMosaic.Lib.Pipeline.ReadBack
public import Idealize.ShloMosaic.Lib.Pipeline.ValueKit

/-! The claim about the sample final norm: the kernel's result is its reference's. -/

@[expose] public section

noncomputable section

namespace Cert.Mix.ClaimFS

open Cert.FinalSIdeal Cert.FinalSIdeal.Gen Idealize.ShloMosaic Idealize.ShloMosaic.TcCoe Idealize.SL.Sem
open Cert.FinalSRefIdeal.Read

theorem hz2 : (![0, 0] : Fin 2 → Nat) = fun _ => 0 := funext fun a => by fin_cases a <;> rfl
theorem hz3 : (![0, 0, 0] : Fin 3 → Nat) = fun _ => 0 := funext fun a => by fin_cases a <;> rfl

section Reference

variable (x0 : (⟨S1024x1024, .f32⟩ : BufTy).Contents (Elt Ideal)) (x1 : (⟨S1024x1024, .f32⟩ : BufTy).Contents (Elt Ideal))
  (x2 : (⟨S128x1024, .f32⟩ : BufTy).Contents (Elt Ideal)) (x3 : (⟨S1024, .f32⟩ : BufTy).Contents (Elt Ideal))

/-- Row `t` of sequence `b`. -/
def row (b : Fin 128) (t : Fin 8) : Fin 1024 := ⟨b.val * 8 + t.val, by omega⟩

theorem x_apply (b : Fin 128) (t : Fin 8) (k : Fin 1024) : val_main_v0 (F := Ideal) x0 (ix3 b t k) = x0 (ix2 (row b t) k) := by
  rw [val_main_v0_apply]; congr 1; funext a
  match a with
  | ⟨0, _⟩ => exact Fin.ext (show ((b.val * 8 + t.val) * 1024 + k.val) / 1024 = b.val * 8 + t.val by omega)
  | ⟨1, _⟩ => exact Fin.ext (show ((b.val * 8 + t.val) * 1024 + k.val) % 1024 = k.val by omega)

theorem row_at (n : Fin 1024) (h1 : n.val / 8 < 128) (h2 : n.val % 8 < 8) : row ⟨n.val / 8, h1⟩ ⟨n.val % 8, h2⟩ = n :=
  Fin.ext (show n.val / 8 * 8 + n.val % 8 = n.val by omega)

theorem p_apply (b : Fin 128) (t : Fin 8) (k : Fin 1024) : val_main_v3 (F := Ideal) x1 (ix3 b t k) = x1 (ix2 k (row b t)) := by
  rw [val_main_v3_apply, val_main_v2_apply]; congr 1; funext a
  match a with
  | ⟨0, _⟩ => exact Fin.ext (show ((b.val * 8 + t.val) * 1024 + k.val) % 1024 = k.val by omega)
  | ⟨1, _⟩ => exact Fin.ext (show ((b.val * 8 + t.val) * 1024 + k.val) / 1024 = b.val * 8 + t.val by omega)

/-- The updated row `n`. -/
abbrev updR (n : Fin 1024) (b : Fin 128) : Fin 1024 → EReal :=
  upd (fun k => x0 (ix2 n k)) (fun k => x2 (ix2 b k)) (fun k => x1 (ix2 k n))

theorem updR_apply (b : Fin 128) (t : Fin 8) (k : Fin 1024) :
    val_main_v6 (F := Ideal) x0 x1 x2 (ix3 b t k) = updR x0 x1 x2 (row b t) b k := by
  pointwise [val_main_v6, val_main_v5, val_main_v4, val_main_v1, x_apply, p_apply]
  rfl

theorem ref_apply (n : Fin 1024) (j : Fin 1024) (hb : n.val / 8 < 128) : val_main_v20 (F := Ideal) x0 x1 x2 x3 (ix2 n j)
    = nrm (updR x0 x1 x2 n ⟨n.val / 8, hb⟩) (x3 (ix1 j)) j := by
  pointwise [val_main_v20, val_main_v19, val_main_v18, val_main_v17, val_main_v16, val_main_v15, val_main_v14, val_main_v13, val_main_v12,
    val_main_v11, val_main_v10, val_main_v9, val_main_v8, val_main_v7, val_main_cst, val_main_cst_0, val_main_cst_1, updR_apply, row_at]
  rfl

end Reference

section Kernel

variable (x0 : Vec Ideal S256x1024 .f32) (x1 : Vec Ideal S1024x256 .f32) (x2 : Vec Ideal S1x256x1024 .f32) (x3 : Vec Ideal S1x1024 .f32)

theorem out4_apply (r : Fin 256) (j : Fin 1024) : out0_4 x0 x1 x2 x3 (ix2 r j) = nrm (upd (fun k => x0 (ix2 r k)) (fun k => x2 (ix3 0 r k)) (fun k => x1 (ix2 k r))) (x3 (ix2 0 j)) j := by
  unfold out0_4
  rw [View.canon_unit_zero hz2]
  simp only [View.ld_unit_zero (S := S256x1024) hz2, View.ld_unit_zero (S := S1x256x1024) hz3, View.ld_unit_zero (S := S1x1024) hz2, View.ld_unit_zero (S := S1024x256) hz2]
  pointwise [k0_pay1]
  rfl

end Kernel

variable (m : (ℓ : Loc nD τ sig) → Buf (Elt Ideal) ℓ) (c : Dev nD) (t : Fin cfg0.N)

/-! ### The arguments -/

abbrev a0 : (⟨S1024x1024, .f32⟩ : BufTy).Contents (Elt Ideal) := m ((c : Thread nD τ).loc main_arg0)
abbrev a1 : (⟨S1024x1024, .f32⟩ : BufTy).Contents (Elt Ideal) := m ((c : Thread nD τ).loc main_arg1)
abbrev a2 : (⟨S128x1024, .f32⟩ : BufTy).Contents (Elt Ideal) := m ((c : Thread nD τ).loc main_arg2)
abbrev a3 : (⟨S1024, .f32⟩ : BufTy).Contents (Elt Ideal) := m ((c : Thread nD τ).loc main_arg3)

theorem idx : ∀ t : Fin cfg0.N, win0_0.index t = ![t.val, 0] ∧ win0_1.index t = ![0, t.val] ∧ win0_2.index t = ![t.val, 0, 0]
    ∧ win0_3.index t = ![0, 0] ∧ win0_4.index t = ![t.val, 0] := by decide +kernel

theorem t_lt : t.val < 4 := t.isLt

/-- The row of the whole that is row `r` of block `t`. -/
def rowOf (r : Fin 256) : Fin 1024 := ⟨256 * t.val + r.val, by have := t_lt t; omega⟩

/-- The sequence of row `r` of block `t`. -/
def bw (r : Fin 256) : Fin 128 := ⟨(256 * t.val + r.val) / 8, by have := t_lt t; omega⟩

/-! ### The blocks read -/

theorem b0 (r : Fin 256) (k : Fin 1024) : iblk m c 0 t (ix2 r k) = a0 m c (ix2 (rowOf t r) k) := by
  blk_ext [iblk, idx t, rowOf]

theorem b1 (r : Fin 256) (k : Fin 1024) : iblk m c 1 t (ix2 k r) = a1 m c (ix2 k (rowOf t r)) := by
  blk_ext [iblk, idx t, rowOf]

theorem b2 (r : Fin 256) (k : Fin 1024) : iblk m c 2 t (ix3 0 r k) = a2 m c (ix2 (bw t r) k) := by
  have e : (win0_2.blk t).view.emb (ix3 0 r k) = (ix3 ⟨t.val, t.isLt⟩ r k : S4x256x1024.Idx) := by blk_ext [idx t]
  show V m c main_v3 ((win0_2.blk t).view.emb (ix3 0 r k)) = _
  rw [e]
  entry_read
  pointwise
  show m ((c : Thread nD τ).loc main_arg2) _ = _
  congr 2
  exact Fin.ext (show t.val * 32 + r.val / 8 = (256 * t.val + r.val) / 8 by omega)

theorem b3 (k : Fin 1024) : iblk m c 3 t (ix2 0 k) = a3 m c (ix1 k) := by
  have e : (win0_3.blk t).view.emb (ix2 0 k) = (ix2 0 k : S1x1024.Idx) := by blk_ext [idx t]
  show V m c main_v0 ((win0_3.blk t).view.emb (ix2 0 k)) = _
  rw [e]
  entry_read
  pointwise

/-- The output array is the reference's result. -/
theorem arr4 : (dats m 0 c).arrAt 4 cfg0.N = val_main_v20 (F := Ideal) (a0 m c) (a1 m c) (a2 m c) (a3 m c) := by
  refine (dats m 0 c).arrAt_eq_of_covers 4 _ (by decide +kernel) fun t hf y => ?_
  blk_simp
  rw [after0_4]
  obtain ⟨r, j, rfl⟩ : ∃ (r : Fin 256) (j : Fin 1024), y = ix2 r j := ⟨y 0, y 1, eq_ix2 y⟩
  have e : (win0_4.blk t).view.emb (ix2 r j) = (ix2 (rowOf t r) j : S1024x1024.Idx) := by
    blk_ext [idx t, rowOf]
  rw [e, out4_apply, ref_apply (n := rowOf t r) (hb := (bw t r).isLt)]
  simp only [b0, b1, b2 m c t r, b3]
  rfl

theorem algebraic : Cert.algebraic_FinalSIdeal_FinalSRefIdeal := by
  intro m g m' g' _ hagree
  refine ⟨fun c => val_main_v20 (F := Ideal) (a0 m c) (a1 m c) (a2 m c) (a3 m c), ?_, ?_⟩
  · refine (θ_run Cert.FinalSIdeal.defs _ _).mono (fun r h c => ?_) (Cert.FinalSIdeal.Value.run_blocks (F := Ideal) m g)
    obtain ⟨h0, h1⟩ := h c
    exact ⟨h0.trans (arr4 m c), h1⟩
  · refine (θ_run Cert.FinalSRefIdeal.defs _ _).mono (fun r h c => ?_) (Cert.FinalSRefIdeal.Value.run (F := Ideal) m' g')
    obtain ⟨h0, h1⟩ := h c
    obtain ⟨e0, e1, e2, e3⟩ := hagree c
    refine ⟨h0.trans ((val_main_v20_eq ..).trans ?_), h1⟩
    rw [e0, e1, e2, e3]

theorem frameRef : Cert.quiescent_FinalSRefIdeal := fun m ρ _ =>
  (θ_run Cert.FinalSRefIdeal.defs _ _).mono (fun _ h => ⟨fun c => (h c).2, sem_eq_zero_of_no_sems (by decide) _⟩)
    (Cert.FinalSRefIdeal.Value.run (F := Ideal) m ρ)

end Cert.Mix.ClaimFS
-- ==== Proof.MathR.lean ====
module

public import proofs.«01_k».proof.Proof.Math

/-! The routing's products on one row, over the extended reals. -/

@[expose] public section

set_option backward.proofsInPublic true

noncomputable section

namespace Cert.Mix

open Idealize.ShloMosaic

/-- One column of the query of a modulated normed row. -/
def que (x gm sc sh : Fin 1024 → EReal) (w : Fin 2048 → Fin 1024 → EReal) (r : Fin 2048) : EReal :=
  ∑ k, w r k * hid x gm sc sh k

/-- The score of a key `s` for half `p` of head `h` of the query `q`. -/
def sco (q : Fin 2048 → EReal) (p : Fin 2) (h : Fin 8) (s : Fin 128 → EReal) : EReal :=
  ∑ d : Fin 128, s d * q ⟨(2 * h.val + p.val) * 128 + d.val, by omega⟩

end Cert.Mix
-- ==== Proof.KerR.lean ====
module

public import proofs.«01_k».proof.Proof.Gen.RouteIdeal.Value
public import proofs.«01_k».proof.Proof.MathR
public import Idealize.ShloMosaic.Lib.Claim
public import Idealize.ShloMosaic.Lib.VecWindow
public import Idealize.ShloMosaic.Lib.Pointwise
public import Idealize.ShloMosaic.Lib.Pipeline.ReadBack
public import Idealize.ShloMosaic.Lib.Pipeline.ValueKit

/-! The routing's kernel: what one grid point leaves in its blocks of the normed rows and of the scores. -/

@[expose] public section

set_option backward.proofsInPublic true
set_option maxRecDepth 16384

noncomputable section

namespace Cert.Mix.KerR

open Cert.RouteIdeal Cert.RouteIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (v0 : Vec Ideal S256x1024 .f32) (v1 : Vec Ideal S1x1024 .f32) (v15 v21 : Vec Ideal S1x1x1024 .f32) (v28 : Vec Ideal S1x2048x1024 .bf16)

/-- Row `r` of a block, normed and modulated. -/
abbrev hidB (r : Fin 256) : Fin 1024 → EReal :=
  hid (fun k => v0 (ix2 r k)) (fun k => v1 (ix2 0 k)) (fun k => v15 (ix3 0 0 k)) (fun k => v21 (ix3 0 0 k))

/-- The query of row `r` of a block. -/
abbrev queB (r : Fin 256) : Fin 2048 → EReal :=
  que (fun k => v0 (ix2 r k)) (fun k => v1 (ix2 0 k)) (fun k => v15 (ix3 0 0 k)) (fun k => v21 (ix3 0 0 k)) (fun q k => v28 (ix3 0 q k))

theorem hid_apply (k : Fin 1024) (r : Fin 256) : k0_pay2398 v0 v1 v15 v21 (ix2 k r) = hidB v0 v1 v15 v21 r k := by
  pointwise [k0_pay2398]
  rfl

theorem que_apply (q : Fin 2048) (r : Fin 256) : k0_pay2399 v0 v1 v15 v21 v28 (ix2 q r) = queB v0 v1 v15 v21 v28 r q := by
  pointwise [k0_pay2399, hid_apply, dot_S2048x1024_S1024x256_S2048x256_1_0_0_1_n_n]
  rfl

variable (v41 : Vec Ideal S1x1x1x128x128 .bf16) (v44 : Vec Ideal S128x256 .bf16)

theorem pay4_apply (y : Fin 128) (r : Fin 256) : k0_pay4 v41 v44 (ix2 y r) = (∑ d : Fin 128, v41 (ix5 0 0 0 y d) * v44 (ix2 d r) : EReal) := by
  pointwise [k0_pay4, dot_S128x128_S128x256_S128x256_1_0_0_1_n_n]

theorem pay5_apply (y : Fin 128) (r : Fin 256) : k0_pay5 v41 v44 (ix2 y r) = (∑ d : Fin 128, v41 (ix5 0 0 0 y d) * v44 (ix2 d r) : EReal) := by
  pointwise [k0_pay5, dot_S128x128_S128x256_S128x256_1_0_0_1_n_n]

theorem pay8_apply (y l : Fin 128) : k0_pay8 v41 v44 (ix4 0 0 y l) = (∑ d : Fin 128, v41 (ix5 0 0 0 y d) * v44 (ix2 d ⟨l.val, by omega⟩) : EReal) := by
  pointwise [k0_pay8, k0_pay6, pay4_apply]

theorem pay9_apply (y l : Fin 128) : k0_pay9 v41 v44 (ix4 0 0 y l) = (∑ d : Fin 128, v41 (ix5 0 0 0 y d) * v44 (ix2 d ⟨l.val, by omega⟩) : EReal) := by
  pointwise [k0_pay9, k0_pay7, pay5_apply]

theorem pay1180_apply (y l : Fin 128) :
    k0_pay1180 (k0_pay4 v41 v44) (ix4 0 0 y l) = (∑ d : Fin 128, v41 (ix5 0 0 0 y d) * v44 (ix2 d ⟨128 + l.val, by omega⟩) : EReal) := by
  pointwise [k0_pay1180, k0_pay1178, pay4_apply]

theorem pay1181_apply (y l : Fin 128) :
    k0_pay1181 (k0_pay5 v41 v44) (ix4 0 0 y l) = (∑ d : Fin 128, v41 (ix5 0 0 0 y d) * v44 (ix2 d ⟨128 + l.val, by omega⟩) : EReal) := by
  pointwise [k0_pay1181, k0_pay1179, pay5_apply]

end Payloads

/-! ### The loop over the heads -/

theorem off1 : ∀ k : Fin k0_t1_loop.trips, k0_off1 k = ![0, 0, k.val, 0, 0] := by decide +kernel
theorem off2a : ∀ k : Fin k0_t1_loop.trips, k0_off2 k 0#32 = ![(2 * k.val) * 128, 0] := by decide +kernel
theorem off2b : ∀ k : Fin k0_t1_loop.trips, k0_off2 k 1#32 = ![(2 * k.val + 1) * 128, 0] := by decide +kernel
theorem off3 : ∀ k : Fin k0_t1_loop.trips, k0_off3 k = ![0, 1, k.val, 0, 0] := by decide +kernel
theorem off4 : ∀ k : Fin k0_t1_loop.trips, k0_off4 k = ![0, k.val, 0, 0] := by decide +kernel
theorem off6 : ∀ k : Fin k0_t1_loop.trips, k0_off6 k = ![1, k.val, 0, 0] := by decide +kernel
theorem trips_le : ∀ k : Fin k0_t1_loop.trips, k.val < 8 := by decide +kernel

section Trip

variable (c : Dev nD)  (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x2048x1024 .bf16) (harg5 : arg5.IsWhole) (arg6 : Memref sig .tc .vmem S1x2x8x128x128 .bf16) (harg6 : arg6.IsWhole) (arg7 : Memref sig .tc .vmem S1024x256 .bf16) (harg7 : arg7.IsWhole) (arg8 : Memref sig .tc .vmem S2x8x128x128 .f32) (harg8 : arg8.IsWhole) (arg9 : Memref sig .tc .vmem S2x8x128x128 .f32) (harg9 : arg9.IsWhole) (arg10 : Memref sig .tc .vmem S2x8x128x128 .f32) (harg10 : arg10.IsWhole) (arg11 : Memref sig .tc .vmem S2x8x128x128 .f32) (harg11 : arg11.IsWhole) (arg12 : Memref sig .tc .vmem S2x8x1x128 .f32) (harg12 : arg12.IsWhole) (arg13 : Memref sig .tc .vmem S2048x256 .bf16) (harg13 : arg13.IsWhole) (X_arg6 : BufTy.Contents (Elt Ideal) arg6.view.ty) (X_arg13 : BufTy.Contents (Elt Ideal) arg13.view.ty)

theorem trip0 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 k).1
    = [⟨Rect.unit (k0_off6 k) ![1, 1, 128, 128] (k0_off6_inb k), k0_pay1180 (k0_pay4
          (arg6.view.readAt (Elt Ideal) (Rect.unit (k0_off1 k) ![1, 1, 1, 128, 128] (k0_off1_inb k)).toLoadRect X_arg6)
          (arg13.view.readAt (Elt Ideal) (Rect.unit (k0_off2 k 0#32) ![128, 256] (k0_off2_inb k 0)).toLoadRect X_arg13))⟩,
       ⟨Rect.unit (k0_off4 k) ![1, 1, 128, 128] (k0_off4_inb k), k0_pay8
          (arg6.view.readAt (Elt Ideal) (Rect.unit (k0_off1 k) ![1, 1, 1, 128, 128] (k0_off1_inb k)).toLoadRect X_arg6)
          (arg13.view.readAt (Elt Ideal) (Rect.unit (k0_off2 k 0#32) ![128, 256] (k0_off2_inb k 0)).toLoadRect X_arg13)⟩] := by
  dsimp only [tripL_k0_t1]
  unfold trip_k0_t1
  dsimp only
  sl_unfold_words
  rfl

theorem trip1 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 k).2.1
    = [⟨Rect.unit (k0_off6 k) ![1, 1, 128, 128] (k0_off6_inb k), k0_pay1181 (k0_pay5
          (arg6.view.readAt (Elt Ideal) (Rect.unit (k0_off3 k) ![1, 1, 1, 128, 128] (k0_off3_inb k)).toLoadRect X_arg6)
          (arg13.view.readAt (Elt Ideal) (Rect.unit (k0_off2 k 1#32) ![128, 256] (k0_off2_inb k 1)).toLoadRect X_arg13))⟩,
       ⟨Rect.unit (k0_off4 k) ![1, 1, 128, 128] (k0_off4_inb k), k0_pay9
          (arg6.view.readAt (Elt Ideal) (Rect.unit (k0_off3 k) ![1, 1, 1, 128, 128] (k0_off3_inb k)).toLoadRect X_arg6)
          (arg13.view.readAt (Elt Ideal) (Rect.unit (k0_off2 k 1#32) ![128, 256] (k0_off2_inb k 1)).toLoadRect X_arg13)⟩] := by
  dsimp only [tripL_k0_t1]
  unfold trip_k0_t1
  dsimp only
  sl_unfold_words
  rfl

variable (x5 : Vec Ideal S1x2x8x128x128 .bf16) (P : Vec Ideal S2048x256 .bf16)

/-- The score of half `p` at an index of a block, from the keys and the queries. -/
def val (p : Fin 2) (b : Fin 2) (h : Fin 8) (y l : Fin 128) : EReal :=
  sco (fun q => P (ix2 q ⟨128 * b.val + l.val, by omega⟩)) p h (fun d => x5 (ix5 0 p h y d))

variable {x5 P}

theorem ldK (k : Fin k0_t1_loop.trips) (h6 : arg6.view.read (Elt Ideal) X_arg6 = x5) (y d : Fin 128) (h : Fin 8) (hh : h.val = k.val) :
    (arg6.view.readAt (Elt Ideal) (Rect.unit (s := S1x2x8x128x128) (k0_off1 k) ![1, 1, 1, 128, 128] (k0_off1_inb k)).toLoadRect X_arg6 : S1x1x1x128x128.Idx → Elt Ideal .bf16) (ix5 0 0 0 y d) = x5 (ix5 0 0 h y d) := by
  rw [View.readAt_eq_ld, h6]
  refine View.ld_unit_apply_of _ _ _ _ _ _ fun a => ?_
  refine Eq.trans ?_ (congrArg (· + _) (congrFun (off1 k) a).symm)
  fin_cases a
  · rfl
  · rfl
  · exact hh
  · exact (Nat.zero_add _).symm
  · exact (Nat.zero_add _).symm

theorem ldK1 (k : Fin k0_t1_loop.trips) (h6 : arg6.view.read (Elt Ideal) X_arg6 = x5) (y d : Fin 128) (h : Fin 8) (hh : h.val = k.val) :
    (arg6.view.readAt (Elt Ideal) (Rect.unit (s := S1x2x8x128x128) (k0_off3 k) ![1, 1, 1, 128, 128] (k0_off3_inb k)).toLoadRect X_arg6 : S1x1x1x128x128.Idx → Elt Ideal .bf16) (ix5 0 0 0 y d) = x5 (ix5 0 1 h y d) := by
  rw [View.readAt_eq_ld, h6]
  refine View.ld_unit_apply_of _ _ _ _ _ _ fun a => ?_
  refine Eq.trans ?_ (congrArg (· + _) (congrFun (off3 k) a).symm)
  fin_cases a
  · rfl
  · rfl
  · exact hh
  · exact (Nat.zero_add _).symm
  · exact (Nat.zero_add _).symm

theorem ldQ (k : Fin k0_t1_loop.trips) (h13 : arg13.view.read (Elt Ideal) X_arg13 = P) (d : Fin 128) (r : Fin 256) (q : Fin 2048)
    (hq : q.val = 2 * k.val * 128 + d.val) :
    (arg13.view.readAt (Elt Ideal) (Rect.unit (s := S2048x256) (k0_off2 k 0#32) ![128, 256] (k0_off2_inb k 0)).toLoadRect X_arg13 : S128x256.Idx → Elt Ideal .bf16) (ix2 d r) = P (ix2 q r) := by
  rw [View.readAt_eq_ld, h13]
  refine View.ld_unit_apply_of _ _ _ _ _ _ fun a => ?_
  refine Eq.trans ?_ (congrArg (· + _) (congrFun (off2a k) a).symm)
  fin_cases a
  · exact hq
  · exact (Nat.zero_add _).symm

theorem ldQ1 (k : Fin k0_t1_loop.trips) (h13 : arg13.view.read (Elt Ideal) X_arg13 = P) (d : Fin 128) (r : Fin 256) (q : Fin 2048)
    (hq : q.val = (2 * k.val + 1) * 128 + d.val) :
    (arg13.view.readAt (Elt Ideal) (Rect.unit (s := S2048x256) (k0_off2 k 1#32) ![128, 256] (k0_off2_inb k 1)).toLoadRect X_arg13 : S128x256.Idx → Elt Ideal .bf16) (ix2 d r) = P (ix2 q r) := by
  rw [View.readAt_eq_ld, h13]
  refine View.ld_unit_apply_of _ _ _ _ _ _ fun a => ?_
  refine Eq.trans ?_ (congrArg (· + _) (congrFun (off2b k) a).symm)
  fin_cases a
  · exact hq
  · exact (Nat.zero_add _).symm

theorem allAt_append {S : Shape} {e : EltTy} {L M : List (View.Piece (Elt Ideal) S e)} {y : S.Idx} {v : Elt Ideal e}
    (h1 : View.AllAt L y v) (h2 : View.AllAt M y v) : View.AllAt (L ++ M) y v := fun p hp =>
  (List.mem_append.mp hp).elim (h1 p) (h2 p)

theorem at0 (h6 : arg6.view.read (Elt Ideal) X_arg6 = x5) (h13 : arg13.view.read (Elt Ideal) X_arg13 = P) (b : Fin 2) (h : Fin 8) (y l : Fin 128)
    (k : Fin k0_t1_loop.trips) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 k).1 (ix4 b h y l) (val x5 P 0 b h y l) := by
  rw [trip0]
  refine View.allAt_cons_unit _ _ _ _ _ (fun x hx => ?_) (View.allAt_cons_unit _ _ _ _ _ (fun x hx => ?_) (View.allAt_nil _ _))
  · rw [off6 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 1 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay1180_apply _ _ y l).trans (Finset.sum_congr rfl fun d _ => ?_)
    rw [ldK (h6 := h6) (h := h) (hh := by omega) .., ldQ (h13 := h13) (q := ⟨(2 * h.val + 0) * 128 + d.val, by omega⟩) (hq := by show (2 * h.val + 0) * 128 + d.val = _; omega) ..]
    refine congrArg (fun z : Fin 256 => (x5 _ * P (ix2 _ z) : EReal)) (Fin.ext ?_)
    show 128 + l.val = 128 * b.val + l.val
    omega
  · rw [off4 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 0 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay8_apply _ _ y l).trans (Finset.sum_congr rfl fun d _ => ?_)
    rw [ldK (h6 := h6) (h := h) (hh := by omega) .., ldQ (h13 := h13) (q := ⟨(2 * h.val + 0) * 128 + d.val, by omega⟩) (hq := by show (2 * h.val + 0) * 128 + d.val = _; omega) ..]
    refine congrArg (fun z : Fin 256 => (x5 _ * P (ix2 _ z) : EReal)) (Fin.ext ?_)
    show l.val = 128 * b.val + l.val
    omega

theorem all0 (h6 : arg6.view.read (Elt Ideal) X_arg6 = x5) (h13 : arg13.view.read (Elt Ideal) X_arg13 = P) (b : Fin 2) (h : Fin 8) (y l : Fin 128)
    (n : ℕ) (hn : n ≤ k0_t1_loop.trips) : View.AllAt (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 n).1 (ix4 b h y l) (val x5 P 0 b h y l) := by
  induction n with
  | zero => exact View.allAt_nil _ _
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 ⟨n, hn⟩
    dsimp only at e
    rw [e]
    exact allAt_append (at0 c i arg1 harg1 arg2 harg2 arg3 harg3 arg4 harg4 arg5 harg5 arg6 harg6 arg7 harg7 arg8 harg8 arg9 harg9 arg10 harg10 arg11 harg11 arg12 harg12 arg13 harg13 X_arg6 X_arg13 h6 h13 b h y l ⟨n, hn⟩) (ih (Nat.le_of_succ_le hn))

theorem at1 (h6 : arg6.view.read (Elt Ideal) X_arg6 = x5) (h13 : arg13.view.read (Elt Ideal) X_arg13 = P) (b : Fin 2) (h : Fin 8) (y l : Fin 128)
    (k : Fin k0_t1_loop.trips) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 k).2.1 (ix4 b h y l) (val x5 P 1 b h y l) := by
  rw [trip1]
  refine View.allAt_cons_unit _ _ _ _ _ (fun x hx => ?_) (View.allAt_cons_unit _ _ _ _ _ (fun x hx => ?_) (View.allAt_nil _ _))
  · rw [off6 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 1 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay1181_apply _ _ y l).trans (Finset.sum_congr rfl fun d _ => ?_)
    rw [ldK1 (h6 := h6) (h := h) (hh := by omega) .., ldQ1 (h13 := h13) (q := ⟨(2 * h.val + 1) * 128 + d.val, by omega⟩) (hq := by show (2 * h.val + 1) * 128 + d.val = _; omega) ..]
    refine congrArg (fun z : Fin 256 => (x5 _ * P (ix2 _ z) : EReal)) (Fin.ext ?_)
    show 128 + l.val = 128 * b.val + l.val
    omega
  · rw [off4 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 0 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay9_apply _ _ y l).trans (Finset.sum_congr rfl fun d _ => ?_)
    rw [ldK1 (h6 := h6) (h := h) (hh := by omega) .., ldQ1 (h13 := h13) (q := ⟨(2 * h.val + 1) * 128 + d.val, by omega⟩) (hq := by show (2 * h.val + 1) * 128 + d.val = _; omega) ..]
    refine congrArg (fun z : Fin 256 => (x5 _ * P (ix2 _ z) : EReal)) (Fin.ext ?_)
    show l.val = 128 * b.val + l.val
    omega

theorem all1 (h6 : arg6.view.read (Elt Ideal) X_arg6 = x5) (h13 : arg13.view.read (Elt Ideal) X_arg13 = P) (b : Fin 2) (h : Fin 8) (y l : Fin 128)
    (n : ℕ) (hn : n ≤ k0_t1_loop.trips) : View.AllAt (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 n).2.1 (ix4 b h y l) (val x5 P 1 b h y l) := by
  induction n with
  | zero => exact View.allAt_nil _ _
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 ⟨n, hn⟩
    dsimp only at e
    rw [e]
    exact allAt_append (at1 c i arg1 harg1 arg2 harg2 arg3 harg3 arg4 harg4 arg5 harg5 arg6 harg6 arg7 harg7 arg8 harg8 arg9 harg9 arg10 harg10 arg11 harg11 arg12 harg12 arg13 harg13 X_arg6 X_arg13 h6 h13 b h y l ⟨n, hn⟩) (ih (Nat.le_of_succ_le hn))

end Trip

/-! ### The blocks -/

section Outputs

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x2048x1024 .bf16) (harg5 : arg5.IsWhole) (arg6 : Memref sig .tc .vmem S1x2x8x128x128 .bf16) (harg6 : arg6.IsWhole) (arg7 : Memref sig .tc .vmem S1024x256 .bf16) (harg7 : arg7.IsWhole) (arg8 : Memref sig .tc .vmem S2x8x128x128 .f32) (harg8 : arg8.IsWhole) (arg9 : Memref sig .tc .vmem S2x8x128x128 .f32) (harg9 : arg9.IsWhole) (arg10 : Memref sig .tc .vmem S2x8x128x128 .f32) (harg10 : arg10.IsWhole) (arg11 : Memref sig .tc .vmem S2x8x128x128 .f32) (harg11 : arg11.IsWhole) (arg12 : Memref sig .tc .vmem S2x8x1x128 .f32) (harg12 : arg12.IsWhole) (arg13 : Memref sig .tc .vmem S2048x256 .bf16) (harg13 : arg13.IsWhole)
    (x0 : Vec Ideal S256x1024 .f32) (x1 : Vec Ideal S1x1024 .f32) (x2 : Vec Ideal S1x1x1024 .f32) (x3 : Vec Ideal S1x1x1024 .f32) (x4 : Vec Ideal S1x2048x1024 .bf16) (x5 : Vec Ideal S1x2x8x128x128 .bf16)

theorem out6_apply (k : Fin 1024) (r : Fin 256) : out0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix2 k r) = hidB x0 x1 x2 x3 r k := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun0_A
  dsimp only
  unfold kernelRun0_A.sl.H6_1
  rw [View.canon_unit_zero hz2]
  simp only [View.readAt_eq_ld, Memref.IsWhole.read_unread, View.ld_unit_zero (S := S256x1024) hz2, View.ld_unit_zero (S := S1x1024) hz2,
    View.ld_unit_zero (S := S1x1x1024) hz3]
  exact hid_apply ..

theorem out7_apply (b : Fin 2) (h : Fin 8) (y l : Fin 128) : out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
    = sco (queB x0 x1 x2 x3 x4 ⟨128 * b.val + l.val, by omega⟩) 0 h (fun d => x5 (ix5 0 0 h y d)) := by
  have hc := cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  refine (View.canon_eq_of_allAt _ _ (val x5 (k0_pay2399 x0 x1 x2 x3 x4) 0 b h y l) hc ?_).trans ?_
  · unfold kernelRun0_A
    dsimp only
    sl_unfold_words
    refine all0 c i arg1 harg1 arg2 harg2 arg3 harg3 arg4 harg4 arg5 harg5 arg6 harg6 arg7 harg7 arg8 harg8 arg9 harg9 arg10 harg10 arg11 harg11 arg12 harg12 arg13 harg13 _ _ (Memref.IsWhole.read_unread ..) ?_ b h y l _ (le_of_eq rfl)
    refine (View.read_writes_full ..).trans ?_
    simp only [View.readAt_eq_ld, Memref.IsWhole.read_unread, View.ld_unit_zero (S := S256x1024) hz2, View.ld_unit_zero (S := S1x1024) hz2,
      View.ld_unit_zero (S := S1x1x1024) hz3, View.ld_unit_zero (S := S1x2048x1024) hz3]
  · unfold val
    simp only [que_apply]

theorem out8_apply (b : Fin 2) (h : Fin 8) (y l : Fin 128) : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
    = sco (queB x0 x1 x2 x3 x4 ⟨128 * b.val + l.val, by omega⟩) 1 h (fun d => x5 (ix5 0 1 h y d)) := by
  have hc := cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  refine (View.canon_eq_of_allAt _ _ (val x5 (k0_pay2399 x0 x1 x2 x3 x4) 1 b h y l) hc ?_).trans ?_
  · unfold kernelRun0_A
    dsimp only
    sl_unfold_words
    refine all1 c i arg1 harg1 arg2 harg2 arg3 harg3 arg4 harg4 arg5 harg5 arg6 harg6 arg7 harg7 arg8 harg8 arg9 harg9 arg10 harg10 arg11 harg11 arg12 harg12 arg13 harg13 _ _ (Memref.IsWhole.read_unread ..) ?_ b h y l _ (le_of_eq rfl)
    refine (View.read_writes_full ..).trans ?_
    simp only [View.readAt_eq_ld, Memref.IsWhole.read_unread, View.ld_unit_zero (S := S256x1024) hz2, View.ld_unit_zero (S := S1x1024) hz2,
      View.ld_unit_zero (S := S1x1x1024) hz3, View.ld_unit_zero (S := S1x2048x1024) hz3]
  · unfold val
    simp only [que_apply]

end Outputs

end Cert.Mix.KerR
-- ==== Proof.RefR.lean ====
module

public import proofs.«01_k».proof.Proof.MathR
public import proofs.«01_k».proof.Proof.Gen.RouteRefIdeal.Read

/-! The routing's reference read at an index. -/

@[expose] public section

set_option backward.proofsInPublic true

noncomputable section

namespace Cert.Mix.RefR

open Cert.RouteRefIdeal Cert.RouteRefIdeal.Read Idealize.ShloMosaic

variable (x0 : (⟨S16384x1024, .f32⟩ : BufTy).Contents (Elt Ideal)) (x1 : (⟨S1024, .f32⟩ : BufTy).Contents (Elt Ideal))
  (x2 x3 : (⟨S8x1024, .f32⟩ : BufTy).Contents (Elt Ideal)) (x4 : (⟨S2x2048x1024, .bf16⟩ : BufTy).Contents (Elt Ideal))
  (x5 : (⟨S2x2x8x128x128, .f32⟩ : BufTy).Contents (Elt Ideal))

/-- Row `t` of sequence `b`. -/
def row (b : Fin 8) (t : Fin 2048) : Fin 16384 := ⟨b.val * 2048 + t.val, by omega⟩

/-- The sequence of row `n`. -/
def seqOf (n : Fin 16384) : Fin 8 := ⟨n.val / 2048, by omega⟩

/-- The modulated normed row `n`. -/
abbrev hidR (n : Fin 16384) : Fin 1024 → EReal :=
  hid (fun k => x0 (ix2 n k)) (fun k => x1 (ix1 k)) (fun k => x2 (ix2 (seqOf n) k)) (fun k => x3 (ix2 (seqOf n) k))

/-- The query of row `n`. -/
abbrev queR (n : Fin 16384) : Fin 2048 → EReal :=
  que (fun k => x0 (ix2 n k)) (fun k => x1 (ix1 k)) (fun k => x2 (ix2 (seqOf n) k)) (fun k => x3 (ix2 (seqOf n) k)) (fun r k => x4 (ix3 0 r k))

theorem x_apply (b : Fin 8) (t : Fin 2048) (k : Fin 1024) : val_main_v0 (F := Ideal) x0 (ix3 b t k) = x0 (ix2 (row b t) k) := by
  rw [val_main_v0_apply]; congr 1; funext a
  match a with
  | ⟨0, _⟩ => exact Fin.ext (show ((b.val * 2048 + t.val) * 1024 + k.val) / 1024 = b.val * 2048 + t.val by omega)
  | ⟨1, _⟩ => exact Fin.ext (show ((b.val * 2048 + t.val) * 1024 + k.val) % 1024 = k.val by omega)

theorem h_apply (b : Fin 8) (t : Fin 2048) (k : Fin 1024) :
    val_main_v21 (F := Ideal) x0 x1 x2 x3 (ix3 b t k)
      = hid (fun j => x0 (ix2 (row b t) j)) (fun j => x1 (ix1 j)) (fun j => x2 (ix2 b j)) (fun j => x3 (ix2 b j)) k := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_cst, val_main_cst_0, val_main_cst_1, val_main_cst_2, x_apply]
  rfl

theorem h2_apply (n : Fin 16384) (k : Fin 1024) : val_main_v22 (F := Ideal) x0 x1 x2 x3 (ix2 n k) = hidR x0 x1 x2 x3 n k := by
  have e : idx_main_v22 (ix2 n k) = ix3 (seqOf n) ⟨n.val % 2048, by omega⟩ k := by
    funext a
    match a with
    | ⟨0, _⟩ => exact Fin.ext (show (n.val * 1024 + k.val) / 2097152 = n.val / 2048 by omega)
    | ⟨1, _⟩ => exact Fin.ext (show (n.val * 1024 + k.val) / 1024 % 2048 = n.val % 2048 by omega)
    | ⟨2, _⟩ => exact Fin.ext (show (n.val * 1024 + k.val) % 1024 = k.val by omega)
  rw [val_main_v22_apply, e, h_apply,
    show row (seqOf n) ⟨n.val % 2048, by omega⟩ = n from Fin.ext (show n.val / 2048 * 2048 + n.val % 2048 = n.val by omega)]

theorem w_apply (r : Fin 2048) (k : Fin 1024) : val_main_v24 (F := Ideal) x4 (ix2 r k) = x4 (ix3 0 r k) := by
  rw [val_main_v24_apply, val_main_v23_apply]; congr 1; funext a
  match a with
  | ⟨0, _⟩ => exact Fin.ext (by show _ = 0; simp)
  | ⟨1, _⟩ => exact Fin.ext (show (r.val * 1024 + k.val) / 1024 % 2048 = r.val by omega)
  | ⟨2, _⟩ => exact Fin.ext (show (r.val * 1024 + k.val) % 1024 = k.val by omega)

theorem q_apply (n : Fin 16384) (r : Fin 2048) : val_main_v27 (F := Ideal) x0 x1 x2 x3 x4 (ix2 n r) = queR x0 x1 x2 x3 x4 n r := by
  pointwise [val_main_v27, val_main_v26, val_main_v25, dot_S16384x1024_S1024x2048_S16384x2048_1_0_0_1_n_n, h2_apply, w_apply]
  exact Finset.sum_congr rfl fun k _ => mul_comm _ _

theorem q4_apply (n : Fin 16384) (h : Fin 8) (p : Fin 2) (d : Fin 128) : val_main_v28 (F := Ideal) x0 x1 x2 x3 x4 (ix4 n h p d)
    = queR x0 x1 x2 x3 x4 n ⟨(2 * h.val + p.val) * 128 + d.val, by omega⟩ := by
  have e : idx_main_v28 (ix4 n h p d) = ix2 n ⟨(2 * h.val + p.val) * 128 + d.val, by omega⟩ := by
    funext a
    match a with
    | ⟨0, _⟩ => exact Fin.ext (show (((n.val * 8 + h.val) * 2 + p.val) * 128 + d.val) / 2048 = n.val by omega)
    | ⟨1, _⟩ => exact Fin.ext (show (((n.val * 8 + h.val) * 2 + p.val) * 128 + d.val) % 2048 = (2 * h.val + p.val) * 128 + d.val by omega)
  rw [val_main_v28_apply, e, q_apply]

theorem s_apply (p : Fin 2) (h : Fin 8) (y d : Fin 128) : val_main_v30 (F := Ideal) x5 (ix4 p h y d) = x5 (ix5 0 p h y d) := by
  rw [val_main_v30_apply, val_main_v29_apply]; congr 1; funext a
  match a with
  | ⟨0, _⟩ => exact Fin.ext (by show _ = 0; simp)
  | ⟨1, _⟩ => exact Fin.ext (show (((p.val * 8 + h.val) * 128 + y.val) * 128 + d.val) / 131072 % 2 = p.val by omega)
  | ⟨2, _⟩ => exact Fin.ext (show (((p.val * 8 + h.val) * 128 + y.val) * 128 + d.val) / 16384 % 8 = h.val by omega)
  | ⟨3, _⟩ => exact Fin.ext (show (((p.val * 8 + h.val) * 128 + y.val) * 128 + d.val) / 128 % 128 = y.val by omega)
  | ⟨4, _⟩ => exact Fin.ext (show (((p.val * 8 + h.val) * 128 + y.val) * 128 + d.val) % 128 = d.val by omega)

theorem sc_apply (h : Fin 8) (p : Fin 2) (y : Fin 128) (n : Fin 16384) : val_main_v31 (F := Ideal) x0 x1 x2 x3 x4 x5 (ix4 h p y n)
    = sco (queR x0 x1 x2 x3 x4 n) p h (fun d => x5 (ix5 0 p h y d)) := by
  pointwise [val_main_v31, dot_S2x8x128x128_S16384x8x2x128_S8x2x128x16384_3_3_2_0_10_12, s_apply, q4_apply]
  rfl

theorem sct_apply (n : Fin 16384) (h : Fin 8) (p : Fin 2) (y : Fin 128) : val_main_v32 (F := Ideal) x0 x1 x2 x3 x4 x5 (ix4 n h p y)
    = sco (queR x0 x1 x2 x3 x4 n) p h (fun d => x5 (ix5 0 p h y d)) := by
  rw [val_main_v32_apply, show idx_main_v32 (ix4 n h p y) = ix4 h p y n from funext fun a => by fin_cases a <;> rfl, sc_apply]

theorem ht_apply (k : Fin 1024) (n : Fin 16384) : val_main_v34 (F := Ideal) x0 x1 x2 x3 (ix2 k n) = hidR x0 x1 x2 x3 n k := by
  pointwise [val_main_v34, val_main_v33, h2_apply]

/-- Lane `l` of block `g` of 128 rows. -/
def lane (g l : Fin 128) : Fin 16384 := ⟨g.val * 128 + l.val, by omega⟩

theorem s0_apply (g : Fin 128) (h : Fin 8) (y l : Fin 128) : val_main_v38 (F := Ideal) x0 x1 x2 x3 x4 x5 (ix4 g h y l)
    = sco (queR x0 x1 x2 x3 x4 (lane g l)) 0 h (fun d => x5 (ix5 0 0 h y d)) := by
  have e1 : idx_main_v38 (ix4 g h y l) = ix4 g l h y := funext fun a => by fin_cases a <;> rfl
  have e2 : idx_main_v37 (ix4 g l h y) = ix3 (lane g l) h y := by
    funext a
    match a with
    | ⟨0, _⟩ => exact Fin.ext (show (((g.val * 128 + l.val) * 8 + h.val) * 128 + y.val) / 1024 = g.val * 128 + l.val by omega)
    | ⟨1, _⟩ => exact Fin.ext (show (((g.val * 128 + l.val) * 8 + h.val) * 128 + y.val) / 128 % 8 = h.val by omega)
    | ⟨2, _⟩ => exact Fin.ext (show (((g.val * 128 + l.val) * 8 + h.val) * 128 + y.val) % 128 = y.val by omega)
  have e3 : ∀ n : Fin 16384, idx_main_v36 (ix3 n h y) = ix4 n h 0 y := fun n => by
    funext a
    match a with
    | ⟨0, _⟩ => exact Fin.ext (show ((n.val * 8 + h.val) * 128 + y.val) / 1024 = n.val by omega)
    | ⟨1, _⟩ => exact Fin.ext (show ((n.val * 8 + h.val) * 128 + y.val) / 128 % 8 = h.val by omega)
    | ⟨2, _⟩ => rfl
    | ⟨3, _⟩ => exact Fin.ext (show ((n.val * 8 + h.val) * 128 + y.val) % 128 = y.val by omega)
  have e4 : ∀ n : Fin 16384, idx_main_v35 (ix4 n h 0 y) = ix4 n h 0 y := fun n => funext fun a => by fin_cases a <;> rfl
  rw [val_main_v38_apply, e1, val_main_v37_apply, e2, val_main_v36_apply, e3, val_main_v35_apply, e4, sct_apply]

theorem s1_apply (g : Fin 128) (h : Fin 8) (y l : Fin 128) : val_main_v42 (F := Ideal) x0 x1 x2 x3 x4 x5 (ix4 g h y l)
    = sco (queR x0 x1 x2 x3 x4 (lane g l)) 1 h (fun d => x5 (ix5 0 1 h y d)) := by
  have e1 : idx_main_v42 (ix4 g h y l) = ix4 g l h y := funext fun a => by fin_cases a <;> rfl
  have e2 : idx_main_v41 (ix4 g l h y) = ix3 (lane g l) h y := by
    funext a
    match a with
    | ⟨0, _⟩ => exact Fin.ext (show (((g.val * 128 + l.val) * 8 + h.val) * 128 + y.val) / 1024 = g.val * 128 + l.val by omega)
    | ⟨1, _⟩ => exact Fin.ext (show (((g.val * 128 + l.val) * 8 + h.val) * 128 + y.val) / 128 % 8 = h.val by omega)
    | ⟨2, _⟩ => exact Fin.ext (show (((g.val * 128 + l.val) * 8 + h.val) * 128 + y.val) % 128 = y.val by omega)
  have e3 : ∀ n : Fin 16384, idx_main_v40 (ix3 n h y) = ix4 n h 0 y := fun n => by
    funext a
    match a with
    | ⟨0, _⟩ => exact Fin.ext (show ((n.val * 8 + h.val) * 128 + y.val) / 1024 = n.val by omega)
    | ⟨1, _⟩ => exact Fin.ext (show ((n.val * 8 + h.val) * 128 + y.val) / 128 % 8 = h.val by omega)
    | ⟨2, _⟩ => rfl
    | ⟨3, _⟩ => exact Fin.ext (show ((n.val * 8 + h.val) * 128 + y.val) % 128 = y.val by omega)
  have e4 : ∀ n : Fin 16384, idx_main_v39 (ix4 n h 0 y) = ix4 n h 1 y := fun n => funext fun a => by fin_cases a <;> rfl
  rw [val_main_v42_apply, e1, val_main_v41_apply, e2, val_main_v40_apply, e3, val_main_v39_apply, e4, sct_apply]

end Cert.Mix.RefR
-- ==== Proof.ClaimR.lean ====
module

public import proofs.«01_k».proof.Defs
public import proofs.«01_k».proof.Proof.KerR
public import proofs.«01_k».proof.Proof.RefR
public import proofs.«01_k».proof.Proof.Gen.RouteRefIdeal.Run

/-! The claim about the prompt's routing: the kernel's normed rows and scores are its reference's. -/

@[expose] public section

set_option backward.proofsInPublic true

noncomputable section

namespace Cert.Mix.ClaimR

open Cert.RouteIdeal Cert.RouteIdeal.Gen Idealize.ShloMosaic Idealize.ShloMosaic.TcCoe Idealize.SL.Sem
open Cert.RouteRefIdeal.Read Cert.Mix.KerR

variable (m : (ℓ : Loc nD τ sig) → Buf (Elt Ideal) ℓ) (c : Dev nD) (t : Fin cfg0.N)

/-! ### The arguments -/

abbrev a0 : (⟨S16384x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S8x1024, .f32⟩ : BufTy).Contents (Elt Ideal) := m ((c : Thread nD τ).loc main_arg2)
abbrev a3 : (⟨S8x1024, .f32⟩ : BufTy).Contents (Elt Ideal) := m ((c : Thread nD τ).loc main_arg3)
abbrev a4 : (⟨S2x2048x1024, .bf16⟩ : BufTy).Contents (Elt Ideal) := m ((c : Thread nD τ).loc main_arg4)
abbrev a5 : (⟨S2x2x8x128x128, .f32⟩ : BufTy).Contents (Elt Ideal) := m ((c : Thread nD τ).loc main_arg5)

theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![0, 0, 0] ∧ win0_5.index t = ![0, 0, 0, 0, 0] ∧ win0_6.index t = ![0, t.val]
    ∧ win0_7.index t = ![t.val, 0, 0, 0] ∧ win0_8.index t = ![t.val, 0, 0, 0] := by decide +kernel

theorem t_lt : t.val < 64 := t.isLt

/-- The row of the whole that is row `r` of block `t`. -/
def rowOf (r : Fin 256) : Fin 16384 := ⟨256 * t.val + r.val, by have := t_lt t; omega⟩

/-- The block of 128 rows that is half `b` of block `t`. -/
def half (b : Fin 2) : Fin 128 := ⟨2 * t.val + b.val, by have := t_lt t; omega⟩

/-! ### The blocks read -/

theorem b0 (r : Fin 256) (k : Fin 1024) : iblk m c 0 t (ix2 r k) = a0 m c (ix2 (rowOf t r) k) := by
  blk_ext [iblk, idx t, rowOf]

theorem b1 (k : Fin 1024) : iblk m c 1 t (ix2 0 k) = a1 m c (ix1 k) := by
  have e : (win0_1.blk t).view.emb (ix2 0 k) = (ix2 0 k : S1x1024.Idx) := by blk_ext [idx t]
  show V m c main_v0 ((win0_1.blk t).view.emb (ix2 0 k)) = _
  rw [e]
  entry_read
  pointwise

theorem b2 (r : Fin 256) (k : Fin 1024) : iblk m c 2 t (ix3 0 0 k) = a2 m c (ix2 (RefR.seqOf (rowOf t r)) k) := by
  have e : (win0_2.blk t).view.emb (ix3 0 0 k) = (ix3 (RefR.seqOf (rowOf t r)) 0 k : S8x1x1024.Idx) := by
    blk_ext [idx t, RefR.seqOf, rowOf]
  show V m c main_v2 ((win0_2.blk t).view.emb (ix3 0 0 k)) = _
  rw [e]
  entry_read
  pointwise

theorem b3 (r : Fin 256) (k : Fin 1024) : iblk m c 3 t (ix3 0 0 k) = a3 m c (ix2 (RefR.seqOf (rowOf t r)) k) := by
  have e : (win0_3.blk t).view.emb (ix3 0 0 k) = (ix3 (RefR.seqOf (rowOf t r)) 0 k : S8x1x1024.Idx) := by
    blk_ext [idx t, RefR.seqOf, rowOf]
  show V m c main_v3 ((win0_3.blk t).view.emb (ix3 0 0 k)) = _
  rw [e]
  entry_read
  pointwise

theorem b4 (q : Fin 2048) (k : Fin 1024) : iblk m c 4 t (ix3 0 q k) = a4 m c (ix3 0 q k) := by
  blk_ext [iblk, idx t]

theorem b5 (p : Fin 2) (h : Fin 8) (y d : Fin 128) : iblk m c 5 t (ix5 0 p h y d) = a5 m c (ix5 0 p h y d) := by
  have e : (win0_5.blk t).view.emb (ix5 0 p h y d) = (ix5 0 p h y d : S2x2x8x128x128.Idx) := by blk_ext [idx t]
  show V m c main_v1 ((win0_5.blk t).view.emb (ix5 0 p h y d)) = _
  rw [e]
  entry_read
  pointwise

theorem hid_block (r : Fin 256) : hidB (iblk m c 0 t) (iblk m c 1 t) (iblk m c 2 t) (iblk m c 3 t) r
    = RefR.hidR (a0 m c) (a1 m c) (a2 m c) (a3 m c) (rowOf t r) := by
  unfold hidB
  simp only [b0, b1, b2 m c t r, b3 m c t r]

theorem que_block (r : Fin 256) : queB (iblk m c 0 t) (iblk m c 1 t) (iblk m c 2 t) (iblk m c 3 t) (iblk m c 4 t) r
    = RefR.queR (a0 m c) (a1 m c) (a2 m c) (a3 m c) (a4 m c) (rowOf t r) := by
  unfold queB
  simp only [b0, b1, b2 m c t r, b3 m c t r, b4]

/-! ### The output arrays -/

theorem arr6 : (dats m 0 c).arrAt 6 cfg0.N = val_main_v34 (F := Ideal) (a0 m c) (a1 m c) (a2 m c) (a3 m c) := by
  refine (dats m 0 c).arrAt_eq_of_covers 6 _ (by decide +kernel) fun t hf y => ?_
  blk_simp
  rw [after0_6]
  unfold outsAt0
  dsimp only
  obtain ⟨k, r, rfl⟩ : ∃ (k : Fin 1024) (r : Fin 256), y = ix2 k r := ⟨y 0, y 1, eq_ix2 y⟩
  have e : (win0_6.blk t).view.emb (ix2 k r) = (ix2 k (rowOf t r) : S1024x16384.Idx) := by
    blk_ext [idx t, rowOf]
  rw [e, RefR.ht_apply]
  rw [out6_apply, hid_block]

theorem lane_half (b : Fin 2) (l : Fin 128) : RefR.lane (half t b) l = rowOf t ⟨128 * b.val + l.val, by omega⟩ :=
  Fin.ext (show (2 * t.val + b.val) * 128 + l.val = 256 * t.val + (128 * b.val + l.val) by omega)

theorem arr7 : (dats m 0 c).arrAt 7 cfg0.N = val_main_v38 (F := Ideal) (a0 m c) (a1 m c) (a2 m c) (a3 m c) (a4 m c) (a5 m c) := by
  refine (dats m 0 c).arrAt_eq_of_covers 7 _ (by decide +kernel) fun t hf y => ?_
  blk_simp
  rw [after0_7]
  unfold outsAt0
  dsimp only
  obtain ⟨b, h, s, l, rfl⟩ : ∃ (b : Fin 2) (h : Fin 8) (s l : Fin 128), y = ix4 b h s l := ⟨y 0, y 1, y 2, y 3, eq_ix4 y⟩
  have e : (win0_7.blk t).view.emb (ix4 b h s l) = (ix4 (half t b) h s l : S128x8x128x128.Idx) := by
    blk_ext [idx t, half]
  rw [e, RefR.s0_apply, lane_half]
  rw [out7_apply, que_block]
  simp only [b5]

theorem arr8 : (dats m 0 c).arrAt 8 cfg0.N = val_main_v42 (F := Ideal) (a0 m c) (a1 m c) (a2 m c) (a3 m c) (a4 m c) (a5 m c) := by
  refine (dats m 0 c).arrAt_eq_of_covers 8 _ (by decide +kernel) fun t hf y => ?_
  blk_simp
  rw [after0_8]
  unfold outsAt0
  dsimp only
  obtain ⟨b, h, s, l, rfl⟩ : ∃ (b : Fin 2) (h : Fin 8) (s l : Fin 128), y = ix4 b h s l := ⟨y 0, y 1, y 2, y 3, eq_ix4 y⟩
  have e : (win0_8.blk t).view.emb (ix4 b h s l) = (ix4 (half t b) h s l : S128x8x128x128.Idx) := by
    blk_ext [idx t, half]
  rw [e, RefR.s1_apply, lane_half]
  rw [out8_apply, que_block]
  simp only [b5]

theorem algebraic : Cert.algebraic_RouteIdeal_RouteRefIdeal := by
  intro m g m' g' _ hagree
  refine ⟨fun c => val_main_v34 (F := Ideal) (a0 m c) (a1 m c) (a2 m c) (a3 m c),
    fun c => val_main_v38 (F := Ideal) (a0 m c) (a1 m c) (a2 m c) (a3 m c) (a4 m c) (a5 m c),
    fun c => val_main_v42 (F := Ideal) (a0 m c) (a1 m c) (a2 m c) (a3 m c) (a4 m c) (a5 m c), ?_, ?_⟩
  · refine (θ_run Cert.RouteIdeal.defs _ _).mono (fun r h c => ?_) (Cert.RouteIdeal.Value.run_blocks (F := Ideal) m g)
    obtain ⟨h0, h1, h2, -, -, -, h3⟩ := h c
    exact ⟨h0.trans (arr6 m c), h1.trans (arr7 m c), h2.trans (arr8 m c), h3⟩
  · refine (θ_run Cert.RouteRefIdeal.defs _ _).mono (fun r h c => ?_) (Cert.RouteRefIdeal.Value.run (F := Ideal) m' g')
    obtain ⟨h0, h1, h2, h3⟩ := h c
    obtain ⟨e0, e1, e2, e3, e4, e5⟩ := hagree c
    refine ⟨h0.trans ((val_main_v34_eq ..).trans ?_), h1.trans ((val_main_v38_eq ..).trans ?_), h2.trans ((val_main_v42_eq ..).trans ?_), h3⟩
    · rw [e0, e1, e2, e3]
    · rw [e0, e1, e2, e3, e4, e5]
    · rw [e0, e1, e2, e3, e4, e5]

theorem frameRef : Cert.quiescent_RouteRefIdeal := fun m ρ _ =>
  (θ_run Cert.RouteRefIdeal.defs _ _).mono (fun _ h => ⟨fun c => (h c).2.2.2, sem_eq_zero_of_no_sems (by decide) _⟩)
    (Cert.RouteRefIdeal.Value.run (F := Ideal) m ρ)

end Cert.Mix.ClaimR
-- ==== Proof.KerRS.lean ====
module

public import proofs.«01_k».proof.Proof.Gen.RouteSIdeal.Value
public import proofs.«01_k».proof.Proof.MathR
public import Idealize.ShloMosaic.Lib.Claim
public import Idealize.ShloMosaic.Lib.VecWindow
public import Idealize.ShloMosaic.Lib.Pointwise
public import Idealize.ShloMosaic.Lib.Pipeline.ReadBack
public import Idealize.ShloMosaic.Lib.Pipeline.ValueKit

/-! The samples' routing's kernel: what one grid point leaves in its blocks of the normed rows and of the scores. -/

@[expose] public section

set_option backward.proofsInPublic true
set_option maxRecDepth 16384

noncomputable section

namespace Cert.Mix.KerRS

open Cert.RouteSIdeal Cert.RouteSIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (v0 : Vec Ideal S256x1024 .f32) (v1 : Vec Ideal S1x1024 .f32) (v15 v21 : Vec Ideal S1x256x1024 .f32) (v28 : Vec Ideal S1x2048x1024 .bf16)

/-- Row `r` of a block, normed and modulated. -/
abbrev hidB (r : Fin 256) : Fin 1024 → EReal :=
  hid (fun k => v0 (ix2 r k)) (fun k => v1 (ix2 0 k)) (fun k => v15 (ix3 0 r k)) (fun k => v21 (ix3 0 r k))

/-- The query of row `r` of a block. -/
abbrev queB (r : Fin 256) : Fin 2048 → EReal :=
  que (fun k => v0 (ix2 r k)) (fun k => v1 (ix2 0 k)) (fun k => v15 (ix3 0 r k)) (fun k => v21 (ix3 0 r k)) (fun q k => v28 (ix3 0 q k))

theorem hid_apply (k : Fin 1024) (r : Fin 256) : k0_pay2398 v0 v1 v15 v21 (ix2 k r) = hidB v0 v1 v15 v21 r k := by
  pointwise [k0_pay2398]
  rfl

theorem que_apply (q : Fin 2048) (r : Fin 256) : k0_pay2399 v0 v1 v15 v21 v28 (ix2 q r) = queB v0 v1 v15 v21 v28 r q := by
  pointwise [k0_pay2399, hid_apply, dot_S2048x1024_S1024x256_S2048x256_1_0_0_1_n_n]
  rfl

variable (v41 : Vec Ideal S1x1x1x128x128 .bf16) (v44 : Vec Ideal S128x256 .bf16)

theorem pay4_apply (y : Fin 128) (r : Fin 256) : k0_pay4 v41 v44 (ix2 y r) = (∑ d : Fin 128, v41 (ix5 0 0 0 y d) * v44 (ix2 d r) : EReal) := by
  pointwise [k0_pay4, dot_S128x128_S128x256_S128x256_1_0_0_1_n_n]

theorem pay5_apply (y : Fin 128) (r : Fin 256) : k0_pay5 v41 v44 (ix2 y r) = (∑ d : Fin 128, v41 (ix5 0 0 0 y d) * v44 (ix2 d r) : EReal) := by
  pointwise [k0_pay5, dot_S128x128_S128x256_S128x256_1_0_0_1_n_n]

theorem pay8_apply (y l : Fin 128) : k0_pay8 v41 v44 (ix4 0 0 y l) = (∑ d : Fin 128, v41 (ix5 0 0 0 y d) * v44 (ix2 d ⟨l.val, by omega⟩) : EReal) := by
  pointwise [k0_pay8, k0_pay6, pay4_apply]

theorem pay9_apply (y l : Fin 128) : k0_pay9 v41 v44 (ix4 0 0 y l) = (∑ d : Fin 128, v41 (ix5 0 0 0 y d) * v44 (ix2 d ⟨l.val, by omega⟩) : EReal) := by
  pointwise [k0_pay9, k0_pay7, pay5_apply]

theorem pay1180_apply (y l : Fin 128) :
    k0_pay1180 (k0_pay4 v41 v44) (ix4 0 0 y l) = (∑ d : Fin 128, v41 (ix5 0 0 0 y d) * v44 (ix2 d ⟨128 + l.val, by omega⟩) : EReal) := by
  pointwise [k0_pay1180, k0_pay1178, pay4_apply]

theorem pay1181_apply (y l : Fin 128) :
    k0_pay1181 (k0_pay5 v41 v44) (ix4 0 0 y l) = (∑ d : Fin 128, v41 (ix5 0 0 0 y d) * v44 (ix2 d ⟨128 + l.val, by omega⟩) : EReal) := by
  pointwise [k0_pay1181, k0_pay1179, pay5_apply]

end Payloads

/-! ### The loop over the heads -/

theorem off1 : ∀ k : Fin k0_t1_loop.trips, k0_off1 k = ![0, 0, k.val, 0, 0] := by decide +kernel
theorem off2a : ∀ k : Fin k0_t1_loop.trips, k0_off2 k 0#32 = ![(2 * k.val) * 128, 0] := by decide +kernel
theorem off2b : ∀ k : Fin k0_t1_loop.trips, k0_off2 k 1#32 = ![(2 * k.val + 1) * 128, 0] := by decide +kernel
theorem off3 : ∀ k : Fin k0_t1_loop.trips, k0_off3 k = ![0, 1, k.val, 0, 0] := by decide +kernel
theorem off4 : ∀ k : Fin k0_t1_loop.trips, k0_off4 k = ![0, k.val, 0, 0] := by decide +kernel
theorem off6 : ∀ k : Fin k0_t1_loop.trips, k0_off6 k = ![1, k.val, 0, 0] := by decide +kernel
theorem trips_le : ∀ k : Fin k0_t1_loop.trips, k.val < 8 := by decide +kernel

section Trip

variable (c : Dev nD)  (i : grid0.Coords) (arg1 : Memref sig .tc .vmem S256x1024 .f32) (harg1 : arg1.IsWhole) (arg2 : Memref sig .tc .vmem S1x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x2048x1024 .bf16) (harg5 : arg5.IsWhole) (arg6 : Memref sig .tc .vmem S1x2x8x128x128 .bf16) (harg6 : arg6.IsWhole) (arg7 : Memref sig .tc .vmem S1024x256 .bf16) (harg7 : arg7.IsWhole) (arg8 : Memref sig .tc .vmem S2x8x128x128 .f32) (harg8 : arg8.IsWhole) (arg9 : Memref sig .tc .vmem S2x8x128x128 .f32) (harg9 : arg9.IsWhole) (arg10 : Memref sig .tc .vmem S2x8x128x128 .f32) (harg10 : arg10.IsWhole) (arg11 : Memref sig .tc .vmem S2x8x128x128 .f32) (harg11 : arg11.IsWhole) (arg12 : Memref sig .tc .vmem S2x8x1x128 .f32) (harg12 : arg12.IsWhole) (arg13 : Memref sig .tc .vmem S2048x256 .bf16) (harg13 : arg13.IsWhole) (c0_i32 : BitVec 32) (X_arg6 : BufTy.Contents (Elt Ideal) arg6.view.ty) (X_arg13 : BufTy.Contents (Elt Ideal) arg13.view.ty)

theorem trip0 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 k).1
    = [⟨Rect.unit (k0_off6 k) ![1, 1, 128, 128] (k0_off6_inb k), k0_pay1180 (k0_pay4
          (arg6.view.readAt (Elt Ideal) (Rect.unit (k0_off1 k) ![1, 1, 1, 128, 128] (k0_off1_inb k)).toLoadRect X_arg6)
          (arg13.view.readAt (Elt Ideal) (Rect.unit (k0_off2 k 0#32) ![128, 256] (k0_off2_inb k 0)).toLoadRect X_arg13))⟩,
       ⟨Rect.unit (k0_off4 k) ![1, 1, 128, 128] (k0_off4_inb k), k0_pay8
          (arg6.view.readAt (Elt Ideal) (Rect.unit (k0_off1 k) ![1, 1, 1, 128, 128] (k0_off1_inb k)).toLoadRect X_arg6)
          (arg13.view.readAt (Elt Ideal) (Rect.unit (k0_off2 k 0#32) ![128, 256] (k0_off2_inb k 0)).toLoadRect X_arg13)⟩] := by
  dsimp only [tripL_k0_t1]
  unfold trip_k0_t1
  dsimp only
  sl_unfold_words
  rfl

theorem trip1 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 k).2.1
    = [⟨Rect.unit (k0_off6 k) ![1, 1, 128, 128] (k0_off6_inb k), k0_pay1181 (k0_pay5
          (arg6.view.readAt (Elt Ideal) (Rect.unit (k0_off3 k) ![1, 1, 1, 128, 128] (k0_off3_inb k)).toLoadRect X_arg6)
          (arg13.view.readAt (Elt Ideal) (Rect.unit (k0_off2 k 1#32) ![128, 256] (k0_off2_inb k 1)).toLoadRect X_arg13))⟩,
       ⟨Rect.unit (k0_off4 k) ![1, 1, 128, 128] (k0_off4_inb k), k0_pay9
          (arg6.view.readAt (Elt Ideal) (Rect.unit (k0_off3 k) ![1, 1, 1, 128, 128] (k0_off3_inb k)).toLoadRect X_arg6)
          (arg13.view.readAt (Elt Ideal) (Rect.unit (k0_off2 k 1#32) ![128, 256] (k0_off2_inb k 1)).toLoadRect X_arg13)⟩] := by
  dsimp only [tripL_k0_t1]
  unfold trip_k0_t1
  dsimp only
  sl_unfold_words
  rfl

variable (x5 : Vec Ideal S1x2x8x128x128 .bf16) (P : Vec Ideal S2048x256 .bf16)

/-- The score of half `p` at an index of a block, from the keys and the queries. -/
def val (p : Fin 2) (b : Fin 2) (h : Fin 8) (y l : Fin 128) : EReal :=
  sco (fun q => P (ix2 q ⟨128 * b.val + l.val, by omega⟩)) p h (fun d => x5 (ix5 0 p h y d))

variable {x5 P}

theorem ldK (k : Fin k0_t1_loop.trips) (h6 : arg6.view.read (Elt Ideal) X_arg6 = x5) (y d : Fin 128) (h : Fin 8) (hh : h.val = k.val) :
    (arg6.view.readAt (Elt Ideal) (Rect.unit (s := S1x2x8x128x128) (k0_off1 k) ![1, 1, 1, 128, 128] (k0_off1_inb k)).toLoadRect X_arg6 : S1x1x1x128x128.Idx → Elt Ideal .bf16) (ix5 0 0 0 y d) = x5 (ix5 0 0 h y d) := by
  rw [View.readAt_eq_ld, h6]
  refine View.ld_unit_apply_of _ _ _ _ _ _ fun a => ?_
  refine Eq.trans ?_ (congrArg (· + _) (congrFun (off1 k) a).symm)
  fin_cases a
  · rfl
  · rfl
  · exact hh
  · exact (Nat.zero_add _).symm
  · exact (Nat.zero_add _).symm

theorem ldK1 (k : Fin k0_t1_loop.trips) (h6 : arg6.view.read (Elt Ideal) X_arg6 = x5) (y d : Fin 128) (h : Fin 8) (hh : h.val = k.val) :
    (arg6.view.readAt (Elt Ideal) (Rect.unit (s := S1x2x8x128x128) (k0_off3 k) ![1, 1, 1, 128, 128] (k0_off3_inb k)).toLoadRect X_arg6 : S1x1x1x128x128.Idx → Elt Ideal .bf16) (ix5 0 0 0 y d) = x5 (ix5 0 1 h y d) := by
  rw [View.readAt_eq_ld, h6]
  refine View.ld_unit_apply_of _ _ _ _ _ _ fun a => ?_
  refine Eq.trans ?_ (congrArg (· + _) (congrFun (off3 k) a).symm)
  fin_cases a
  · rfl
  · rfl
  · exact hh
  · exact (Nat.zero_add _).symm
  · exact (Nat.zero_add _).symm

theorem ldQ (k : Fin k0_t1_loop.trips) (h13 : arg13.view.read (Elt Ideal) X_arg13 = P) (d : Fin 128) (r : Fin 256) (q : Fin 2048)
    (hq : q.val = 2 * k.val * 128 + d.val) :
    (arg13.view.readAt (Elt Ideal) (Rect.unit (s := S2048x256) (k0_off2 k 0#32) ![128, 256] (k0_off2_inb k 0)).toLoadRect X_arg13 : S128x256.Idx → Elt Ideal .bf16) (ix2 d r) = P (ix2 q r) := by
  rw [View.readAt_eq_ld, h13]
  refine View.ld_unit_apply_of _ _ _ _ _ _ fun a => ?_
  refine Eq.trans ?_ (congrArg (· + _) (congrFun (off2a k) a).symm)
  fin_cases a
  · exact hq
  · exact (Nat.zero_add _).symm

theorem ldQ1 (k : Fin k0_t1_loop.trips) (h13 : arg13.view.read (Elt Ideal) X_arg13 = P) (d : Fin 128) (r : Fin 256) (q : Fin 2048)
    (hq : q.val = (2 * k.val + 1) * 128 + d.val) :
    (arg13.view.readAt (Elt Ideal) (Rect.unit (s := S2048x256) (k0_off2 k 1#32) ![128, 256] (k0_off2_inb k 1)).toLoadRect X_arg13 : S128x256.Idx → Elt Ideal .bf16) (ix2 d r) = P (ix2 q r) := by
  rw [View.readAt_eq_ld, h13]
  refine View.ld_unit_apply_of _ _ _ _ _ _ fun a => ?_
  refine Eq.trans ?_ (congrArg (· + _) (congrFun (off2b k) a).symm)
  fin_cases a
  · exact hq
  · exact (Nat.zero_add _).symm

theorem allAt_append {S : Shape} {e : EltTy} {L M : List (View.Piece (Elt Ideal) S e)} {y : S.Idx} {v : Elt Ideal e}
    (h1 : View.AllAt L y v) (h2 : View.AllAt M y v) : View.AllAt (L ++ M) y v := fun p hp =>
  (List.mem_append.mp hp).elim (h1 p) (h2 p)

theorem at0 (h6 : arg6.view.read (Elt Ideal) X_arg6 = x5) (h13 : arg13.view.read (Elt Ideal) X_arg13 = P) (b : Fin 2) (h : Fin 8) (y l : Fin 128)
    (k : Fin k0_t1_loop.trips) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 k).1 (ix4 b h y l) (val x5 P 0 b h y l) := by
  rw [trip0]
  refine View.allAt_cons_unit _ _ _ _ _ (fun x hx => ?_) (View.allAt_cons_unit _ _ _ _ _ (fun x hx => ?_) (View.allAt_nil _ _))
  · rw [off6 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 1 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay1180_apply _ _ y l).trans (Finset.sum_congr rfl fun d _ => ?_)
    rw [ldK (h6 := h6) (h := h) (hh := by omega) .., ldQ (h13 := h13) (q := ⟨(2 * h.val + 0) * 128 + d.val, by omega⟩) (hq := by show (2 * h.val + 0) * 128 + d.val = _; omega) ..]
    refine congrArg (fun z : Fin 256 => (x5 _ * P (ix2 _ z) : EReal)) (Fin.ext ?_)
    show 128 + l.val = 128 * b.val + l.val
    omega
  · rw [off4 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 0 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay8_apply _ _ y l).trans (Finset.sum_congr rfl fun d _ => ?_)
    rw [ldK (h6 := h6) (h := h) (hh := by omega) .., ldQ (h13 := h13) (q := ⟨(2 * h.val + 0) * 128 + d.val, by omega⟩) (hq := by show (2 * h.val + 0) * 128 + d.val = _; omega) ..]
    refine congrArg (fun z : Fin 256 => (x5 _ * P (ix2 _ z) : EReal)) (Fin.ext ?_)
    show l.val = 128 * b.val + l.val
    omega

theorem all0 (h6 : arg6.view.read (Elt Ideal) X_arg6 = x5) (h13 : arg13.view.read (Elt Ideal) X_arg13 = P) (b : Fin 2) (h : Fin 8) (y l : Fin 128)
    (n : ℕ) (hn : n ≤ k0_t1_loop.trips) : View.AllAt (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 n).1 (ix4 b h y l) (val x5 P 0 b h y l) := by
  induction n with
  | zero => exact View.allAt_nil _ _
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 ⟨n, hn⟩
    dsimp only at e
    rw [e]
    exact allAt_append (at0 c i arg1 harg1 arg2 harg2 arg3 harg3 arg4 harg4 arg5 harg5 arg6 harg6 arg7 harg7 arg8 harg8 arg9 harg9 arg10 harg10 arg11 harg11 arg12 harg12 arg13 harg13 c0_i32 X_arg6 X_arg13 h6 h13 b h y l ⟨n, hn⟩) (ih (Nat.le_of_succ_le hn))

theorem at1 (h6 : arg6.view.read (Elt Ideal) X_arg6 = x5) (h13 : arg13.view.read (Elt Ideal) X_arg13 = P) (b : Fin 2) (h : Fin 8) (y l : Fin 128)
    (k : Fin k0_t1_loop.trips) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 k).2.1 (ix4 b h y l) (val x5 P 1 b h y l) := by
  rw [trip1]
  refine View.allAt_cons_unit _ _ _ _ _ (fun x hx => ?_) (View.allAt_cons_unit _ _ _ _ _ (fun x hx => ?_) (View.allAt_nil _ _))
  · rw [off6 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 1 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay1181_apply _ _ y l).trans (Finset.sum_congr rfl fun d _ => ?_)
    rw [ldK1 (h6 := h6) (h := h) (hh := by omega) .., ldQ1 (h13 := h13) (q := ⟨(2 * h.val + 1) * 128 + d.val, by omega⟩) (hq := by show (2 * h.val + 1) * 128 + d.val = _; omega) ..]
    refine congrArg (fun z : Fin 256 => (x5 _ * P (ix2 _ z) : EReal)) (Fin.ext ?_)
    show 128 + l.val = 128 * b.val + l.val
    omega
  · rw [off4 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 0 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay9_apply _ _ y l).trans (Finset.sum_congr rfl fun d _ => ?_)
    rw [ldK1 (h6 := h6) (h := h) (hh := by omega) .., ldQ1 (h13 := h13) (q := ⟨(2 * h.val + 1) * 128 + d.val, by omega⟩) (hq := by show (2 * h.val + 1) * 128 + d.val = _; omega) ..]
    refine congrArg (fun z : Fin 256 => (x5 _ * P (ix2 _ z) : EReal)) (Fin.ext ?_)
    show l.val = 128 * b.val + l.val
    omega

theorem all1 (h6 : arg6.view.read (Elt Ideal) X_arg6 = x5) (h13 : arg13.view.read (Elt Ideal) X_arg13 = P) (b : Fin 2) (h : Fin 8) (y l : Fin 128)
    (n : ℕ) (hn : n ≤ k0_t1_loop.trips) : View.AllAt (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 n).2.1 (ix4 b h y l) (val x5 P 1 b h y l) := by
  induction n with
  | zero => exact View.allAt_nil _ _
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 ⟨n, hn⟩
    dsimp only at e
    rw [e]
    exact allAt_append (at1 c i arg1 harg1 arg2 harg2 arg3 harg3 arg4 harg4 arg5 harg5 arg6 harg6 arg7 harg7 arg8 harg8 arg9 harg9 arg10 harg10 arg11 harg11 arg12 harg12 arg13 harg13 c0_i32 X_arg6 X_arg13 h6 h13 b h y l ⟨n, hn⟩) (ih (Nat.le_of_succ_le hn))

end Trip

/-! ### The blocks -/

section Outputs

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x2048x1024 .bf16) (harg5 : arg5.IsWhole) (arg6 : Memref sig .tc .vmem S1x2x8x128x128 .bf16) (harg6 : arg6.IsWhole) (arg7 : Memref sig .tc .vmem S1024x256 .bf16) (harg7 : arg7.IsWhole) (arg8 : Memref sig .tc .vmem S2x8x128x128 .f32) (harg8 : arg8.IsWhole) (arg9 : Memref sig .tc .vmem S2x8x128x128 .f32) (harg9 : arg9.IsWhole) (arg10 : Memref sig .tc .vmem S2x8x128x128 .f32) (harg10 : arg10.IsWhole) (arg11 : Memref sig .tc .vmem S2x8x128x128 .f32) (harg11 : arg11.IsWhole) (arg12 : Memref sig .tc .vmem S2x8x1x128 .f32) (harg12 : arg12.IsWhole) (arg13 : Memref sig .tc .vmem S2048x256 .bf16) (harg13 : arg13.IsWhole)
    (x0 : Vec Ideal S256x1024 .f32) (x1 : Vec Ideal S1x1024 .f32) (x2 : Vec Ideal S1x256x1024 .f32) (x3 : Vec Ideal S1x256x1024 .f32) (x4 : Vec Ideal S1x2048x1024 .bf16) (x5 : Vec Ideal S1x2x8x128x128 .bf16)

theorem out6_apply (k : Fin 1024) (r : Fin 256) : out0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix2 k r) = hidB x0 x1 x2 x3 r k := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun0_A
  dsimp only
  unfold kernelRun0_A.sl.H6_1
  rw [View.canon_unit_zero hz2]
  simp only [View.readAt_eq_ld, Memref.IsWhole.read_unread, View.ld_unit_zero (S := S256x1024) hz2, View.ld_unit_zero (S := S1x1024) hz2,
    View.ld_unit_zero (S := S1x256x1024) hz3]
  exact hid_apply ..

theorem out7_apply (b : Fin 2) (h : Fin 8) (y l : Fin 128) : out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
    = sco (queB x0 x1 x2 x3 x4 ⟨128 * b.val + l.val, by omega⟩) 0 h (fun d => x5 (ix5 0 0 h y d)) := by
  have hc := cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  refine (View.canon_eq_of_allAt _ _ (val x5 (k0_pay2399 x0 x1 x2 x3 x4) 0 b h y l) hc ?_).trans ?_
  · unfold kernelRun0_A
    dsimp only
    sl_unfold_words
    refine all0 c i arg1 harg1 arg2 harg2 arg3 harg3 arg4 harg4 arg5 harg5 arg6 harg6 arg7 harg7 arg8 harg8 arg9 harg9 arg10 harg10 arg11 harg11 arg12 harg12 arg13 harg13 _ _ _ (Memref.IsWhole.read_unread ..) ?_ b h y l _ (le_of_eq rfl)
    refine (View.read_writes_full ..).trans ?_
    simp only [View.readAt_eq_ld, Memref.IsWhole.read_unread, View.ld_unit_zero (S := S256x1024) hz2, View.ld_unit_zero (S := S1x1024) hz2,
      View.ld_unit_zero (S := S1x256x1024) hz3, View.ld_unit_zero (S := S1x2048x1024) hz3]
  · unfold val
    simp only [que_apply]

theorem out8_apply (b : Fin 2) (h : Fin 8) (y l : Fin 128) : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
    = sco (queB x0 x1 x2 x3 x4 ⟨128 * b.val + l.val, by omega⟩) 1 h (fun d => x5 (ix5 0 1 h y d)) := by
  have hc := cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  refine (View.canon_eq_of_allAt _ _ (val x5 (k0_pay2399 x0 x1 x2 x3 x4) 1 b h y l) hc ?_).trans ?_
  · unfold kernelRun0_A
    dsimp only
    sl_unfold_words
    refine all1 c i arg1 harg1 arg2 harg2 arg3 harg3 arg4 harg4 arg5 harg5 arg6 harg6 arg7 harg7 arg8 harg8 arg9 harg9 arg10 harg10 arg11 harg11 arg12 harg12 arg13 harg13 _ _ _ (Memref.IsWhole.read_unread ..) ?_ b h y l _ (le_of_eq rfl)
    refine (View.read_writes_full ..).trans ?_
    simp only [View.readAt_eq_ld, Memref.IsWhole.read_unread, View.ld_unit_zero (S := S256x1024) hz2, View.ld_unit_zero (S := S1x1024) hz2,
      View.ld_unit_zero (S := S1x256x1024) hz3, View.ld_unit_zero (S := S1x2048x1024) hz3]
  · unfold val
    simp only [que_apply]

end Outputs

end Cert.Mix.KerRS
-- ==== Proof.RefRS.lean ====
module

public import proofs.«01_k».proof.Proof.MathR
public import proofs.«01_k».proof.Proof.Gen.RouteSRefIdeal.Read

/-! The samples' routing's reference read at an index. -/

@[expose] public section

set_option backward.proofsInPublic true

noncomputable section

namespace Cert.Mix.RefRS

open Cert.RouteSRefIdeal Cert.RouteSRefIdeal.Read Idealize.ShloMosaic

variable (x0 : (⟨S1024x1024, .f32⟩ : BufTy).Contents (Elt Ideal)) (x1 : (⟨S1024, .f32⟩ : BufTy).Contents (Elt Ideal))
  (x2 x3 : (⟨S128x1024, .f32⟩ : BufTy).Contents (Elt Ideal)) (x4 : (⟨S2x2048x1024, .bf16⟩ : BufTy).Contents (Elt Ideal))
  (x5 : (⟨S2x2x8x128x128, .f32⟩ : BufTy).Contents (Elt Ideal))

/-- Row `t` of sequence `b`. -/
def row (b : Fin 128) (t : Fin 8) : Fin 1024 := ⟨b.val * 8 + t.val, by omega⟩

/-- The sequence of row `n`. -/
def seqOf (n : Fin 1024) : Fin 128 := ⟨n.val / 8, by omega⟩

/-- The modulated normed row `n`. -/
abbrev hidR (n : Fin 1024) : Fin 1024 → EReal :=
  hid (fun k => x0 (ix2 n k)) (fun k => x1 (ix1 k)) (fun k => x2 (ix2 (seqOf n) k)) (fun k => x3 (ix2 (seqOf n) k))

/-- The query of row `n`. -/
abbrev queR (n : Fin 1024) : Fin 2048 → EReal :=
  que (fun k => x0 (ix2 n k)) (fun k => x1 (ix1 k)) (fun k => x2 (ix2 (seqOf n) k)) (fun k => x3 (ix2 (seqOf n) k)) (fun r k => x4 (ix3 0 r k))

theorem x_apply (b : Fin 128) (t : Fin 8) (k : Fin 1024) : val_main_v0 (F := Ideal) x0 (ix3 b t k) = x0 (ix2 (row b t) k) := by
  rw [val_main_v0_apply]; congr 1; funext a
  match a with
  | ⟨0, _⟩ => exact Fin.ext (show ((b.val * 8 + t.val) * 1024 + k.val) / 1024 = b.val * 8 + t.val by omega)
  | ⟨1, _⟩ => exact Fin.ext (show ((b.val * 8 + t.val) * 1024 + k.val) % 1024 = k.val by omega)

theorem h_apply (b : Fin 128) (t : Fin 8) (k : Fin 1024) :
    val_main_v21 (F := Ideal) x0 x1 x2 x3 (ix3 b t k)
      = hid (fun j => x0 (ix2 (row b t) j)) (fun j => x1 (ix1 j)) (fun j => x2 (ix2 b j)) (fun j => x3 (ix2 b j)) k := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_cst, val_main_cst_0, val_main_cst_1, val_main_cst_2, x_apply]
  rfl

theorem h2_apply (n : Fin 1024) (k : Fin 1024) : val_main_v22 (F := Ideal) x0 x1 x2 x3 (ix2 n k) = hidR x0 x1 x2 x3 n k := by
  have e : idx_main_v22 (ix2 n k) = ix3 (seqOf n) ⟨n.val % 8, by omega⟩ k := by
    funext a
    match a with
    | ⟨0, _⟩ => exact Fin.ext (show (n.val * 1024 + k.val) / 8192 = n.val / 8 by omega)
    | ⟨1, _⟩ => exact Fin.ext (show (n.val * 1024 + k.val) / 1024 % 8 = n.val % 8 by omega)
    | ⟨2, _⟩ => exact Fin.ext (show (n.val * 1024 + k.val) % 1024 = k.val by omega)
  rw [val_main_v22_apply, e, h_apply,
    show row (seqOf n) ⟨n.val % 8, by omega⟩ = n from Fin.ext (show n.val / 8 * 8 + n.val % 8 = n.val by omega)]

theorem w_apply (r : Fin 2048) (k : Fin 1024) : val_main_v24 (F := Ideal) x4 (ix2 r k) = x4 (ix3 0 r k) := by
  rw [val_main_v24_apply, val_main_v23_apply]; congr 1; funext a
  match a with
  | ⟨0, _⟩ => exact Fin.ext (by show _ = 0; simp)
  | ⟨1, _⟩ => exact Fin.ext (show (r.val * 1024 + k.val) / 1024 % 2048 = r.val by omega)
  | ⟨2, _⟩ => exact Fin.ext (show (r.val * 1024 + k.val) % 1024 = k.val by omega)

theorem q_apply (n : Fin 1024) (r : Fin 2048) : val_main_v27 (F := Ideal) x0 x1 x2 x3 x4 (ix2 n r) = queR x0 x1 x2 x3 x4 n r := by
  pointwise [val_main_v27, val_main_v26, val_main_v25, dot_S1024x1024_S1024x2048_S1024x2048_1_0_0_1_n_n, h2_apply, w_apply]
  exact Finset.sum_congr rfl fun k _ => mul_comm _ _

theorem q4_apply (n : Fin 1024) (h : Fin 8) (p : Fin 2) (d : Fin 128) : val_main_v28 (F := Ideal) x0 x1 x2 x3 x4 (ix4 n h p d)
    = queR x0 x1 x2 x3 x4 n ⟨(2 * h.val + p.val) * 128 + d.val, by omega⟩ := by
  have e : idx_main_v28 (ix4 n h p d) = ix2 n ⟨(2 * h.val + p.val) * 128 + d.val, by omega⟩ := by
    funext a
    match a with
    | ⟨0, _⟩ => exact Fin.ext (show (((n.val * 8 + h.val) * 2 + p.val) * 128 + d.val) / 2048 = n.val by omega)
    | ⟨1, _⟩ => exact Fin.ext (show (((n.val * 8 + h.val) * 2 + p.val) * 128 + d.val) % 2048 = (2 * h.val + p.val) * 128 + d.val by omega)
  rw [val_main_v28_apply, e, q_apply]

theorem s_apply (p : Fin 2) (h : Fin 8) (y d : Fin 128) : val_main_v30 (F := Ideal) x5 (ix4 p h y d) = x5 (ix5 0 p h y d) := by
  rw [val_main_v30_apply, val_main_v29_apply]; congr 1; funext a
  match a with
  | ⟨0, _⟩ => exact Fin.ext (by show _ = 0; simp)
  | ⟨1, _⟩ => exact Fin.ext (show (((p.val * 8 + h.val) * 128 + y.val) * 128 + d.val) / 131072 % 2 = p.val by omega)
  | ⟨2, _⟩ => exact Fin.ext (show (((p.val * 8 + h.val) * 128 + y.val) * 128 + d.val) / 16384 % 8 = h.val by omega)
  | ⟨3, _⟩ => exact Fin.ext (show (((p.val * 8 + h.val) * 128 + y.val) * 128 + d.val) / 128 % 128 = y.val by omega)
  | ⟨4, _⟩ => exact Fin.ext (show (((p.val * 8 + h.val) * 128 + y.val) * 128 + d.val) % 128 = d.val by omega)

theorem sc_apply (h : Fin 8) (p : Fin 2) (y : Fin 128) (n : Fin 1024) : val_main_v31 (F := Ideal) x0 x1 x2 x3 x4 x5 (ix4 h p y n)
    = sco (queR x0 x1 x2 x3 x4 n) p h (fun d => x5 (ix5 0 p h y d)) := by
  pointwise [val_main_v31, dot_S2x8x128x128_S1024x8x2x128_S8x2x128x1024_3_3_2_0_10_12, s_apply, q4_apply]
  rfl

theorem sct_apply (n : Fin 1024) (h : Fin 8) (p : Fin 2) (y : Fin 128) : val_main_v32 (F := Ideal) x0 x1 x2 x3 x4 x5 (ix4 n h p y)
    = sco (queR x0 x1 x2 x3 x4 n) p h (fun d => x5 (ix5 0 p h y d)) := by
  rw [val_main_v32_apply, show idx_main_v32 (ix4 n h p y) = ix4 h p y n from funext fun a => by fin_cases a <;> rfl, sc_apply]

theorem ht_apply (k : Fin 1024) (n : Fin 1024) : val_main_v34 (F := Ideal) x0 x1 x2 x3 (ix2 k n) = hidR x0 x1 x2 x3 n k := by
  pointwise [val_main_v34, val_main_v33, h2_apply]

/-- Lane `l` of block `g` of 128 rows. -/
def lane (g : Fin 8) (l : Fin 128) : Fin 1024 := ⟨g.val * 128 + l.val, by omega⟩

theorem s0_apply (g h : Fin 8) (y l : Fin 128) : val_main_v38 (F := Ideal) x0 x1 x2 x3 x4 x5 (ix4 g h y l)
    = sco (queR x0 x1 x2 x3 x4 (lane g l)) 0 h (fun d => x5 (ix5 0 0 h y d)) := by
  have e1 : idx_main_v38 (ix4 g h y l) = ix4 g l h y := funext fun a => by fin_cases a <;> rfl
  have e2 : idx_main_v37 (ix4 g l h y) = ix3 (lane g l) h y := by
    funext a
    match a with
    | ⟨0, _⟩ => exact Fin.ext (show (((g.val * 128 + l.val) * 8 + h.val) * 128 + y.val) / 1024 = g.val * 128 + l.val by omega)
    | ⟨1, _⟩ => exact Fin.ext (show (((g.val * 128 + l.val) * 8 + h.val) * 128 + y.val) / 128 % 8 = h.val by omega)
    | ⟨2, _⟩ => exact Fin.ext (show (((g.val * 128 + l.val) * 8 + h.val) * 128 + y.val) % 128 = y.val by omega)
  have e3 : ∀ n : Fin 1024, idx_main_v36 (ix3 n h y) = ix4 n h 0 y := fun n => by
    funext a
    match a with
    | ⟨0, _⟩ => exact Fin.ext (show ((n.val * 8 + h.val) * 128 + y.val) / 1024 = n.val by omega)
    | ⟨1, _⟩ => exact Fin.ext (show ((n.val * 8 + h.val) * 128 + y.val) / 128 % 8 = h.val by omega)
    | ⟨2, _⟩ => rfl
    | ⟨3, _⟩ => exact Fin.ext (show ((n.val * 8 + h.val) * 128 + y.val) % 128 = y.val by omega)
  have e4 : ∀ n : Fin 1024, idx_main_v35 (ix4 n h 0 y) = ix4 n h 0 y := fun n => funext fun a => by fin_cases a <;> rfl
  rw [val_main_v38_apply, e1, val_main_v37_apply, e2, val_main_v36_apply, e3, val_main_v35_apply, e4, sct_apply]

theorem s1_apply (g h : Fin 8) (y l : Fin 128) : val_main_v42 (F := Ideal) x0 x1 x2 x3 x4 x5 (ix4 g h y l)
    = sco (queR x0 x1 x2 x3 x4 (lane g l)) 1 h (fun d => x5 (ix5 0 1 h y d)) := by
  have e1 : idx_main_v42 (ix4 g h y l) = ix4 g l h y := funext fun a => by fin_cases a <;> rfl
  have e2 : idx_main_v41 (ix4 g l h y) = ix3 (lane g l) h y := by
    funext a
    match a with
    | ⟨0, _⟩ => exact Fin.ext (show (((g.val * 128 + l.val) * 8 + h.val) * 128 + y.val) / 1024 = g.val * 128 + l.val by omega)
    | ⟨1, _⟩ => exact Fin.ext (show (((g.val * 128 + l.val) * 8 + h.val) * 128 + y.val) / 128 % 8 = h.val by omega)
    | ⟨2, _⟩ => exact Fin.ext (show (((g.val * 128 + l.val) * 8 + h.val) * 128 + y.val) % 128 = y.val by omega)
  have e3 : ∀ n : Fin 1024, idx_main_v40 (ix3 n h y) = ix4 n h 0 y := fun n => by
    funext a
    match a with
    | ⟨0, _⟩ => exact Fin.ext (show ((n.val * 8 + h.val) * 128 + y.val) / 1024 = n.val by omega)
    | ⟨1, _⟩ => exact Fin.ext (show ((n.val * 8 + h.val) * 128 + y.val) / 128 % 8 = h.val by omega)
    | ⟨2, _⟩ => rfl
    | ⟨3, _⟩ => exact Fin.ext (show ((n.val * 8 + h.val) * 128 + y.val) % 128 = y.val by omega)
  have e4 : ∀ n : Fin 1024, idx_main_v39 (ix4 n h 0 y) = ix4 n h 1 y := fun n => funext fun a => by fin_cases a <;> rfl
  rw [val_main_v42_apply, e1, val_main_v41_apply, e2, val_main_v40_apply, e3, val_main_v39_apply, e4, sct_apply]

end Cert.Mix.RefRS
-- ==== Proof.ClaimRS.lean ====
module

public import proofs.«01_k».proof.Defs
public import proofs.«01_k».proof.Proof.KerRS
public import proofs.«01_k».proof.Proof.RefRS
public import proofs.«01_k».proof.Proof.Gen.RouteSRefIdeal.Run

/-! The claim about the samples' routing: the kernel's normed rows and scores are its reference's. -/

@[expose] public section

set_option backward.proofsInPublic true

noncomputable section

namespace Cert.Mix.ClaimRS

open Cert.RouteSIdeal Cert.RouteSIdeal.Gen Idealize.ShloMosaic Idealize.ShloMosaic.TcCoe Idealize.SL.Sem
open Cert.RouteSRefIdeal.Read Cert.Mix.KerRS

variable (m : (ℓ : Loc nD τ sig) → Buf (Elt Ideal) ℓ) (c : Dev nD) (t : Fin cfg0.N)

/-! ### The arguments -/

abbrev a0 : (⟨S1024x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S128x1024, .f32⟩ : BufTy).Contents (Elt Ideal) := m ((c : Thread nD τ).loc main_arg2)
abbrev a3 : (⟨S128x1024, .f32⟩ : BufTy).Contents (Elt Ideal) := m ((c : Thread nD τ).loc main_arg3)
abbrev a4 : (⟨S2x2048x1024, .bf16⟩ : BufTy).Contents (Elt Ideal) := m ((c : Thread nD τ).loc main_arg4)
abbrev a5 : (⟨S2x2x8x128x128, .f32⟩ : BufTy).Contents (Elt Ideal) := m ((c : Thread nD τ).loc main_arg5)

theorem idx : ∀ t : Fin cfg0.N, win0_0.index t = ![t.val, 0] ∧ win0_1.index t = ![0, 0] ∧ win0_2.index t = ![t.val, 0, 0]
    ∧ win0_3.index t = ![t.val, 0, 0] ∧ win0_4.index t = ![0, 0, 0] ∧ win0_5.index t = ![0, 0, 0, 0, 0] ∧ win0_6.index t = ![0, t.val]
    ∧ win0_7.index t = ![t.val, 0, 0, 0] ∧ win0_8.index t = ![t.val, 0, 0, 0] := by decide +kernel

theorem t_lt : t.val < 4 := t.isLt

/-- The row of the whole that is row `r` of block `t`. -/
def rowOf (r : Fin 256) : Fin 1024 := ⟨256 * t.val + r.val, by have := t_lt t; omega⟩

/-- The block of 128 rows that is half `b` of block `t`. -/
def half (b : Fin 2) : Fin 8 := ⟨2 * t.val + b.val, by have := t_lt t; omega⟩

/-! ### The blocks read -/

theorem b0 (r : Fin 256) (k : Fin 1024) : iblk m c 0 t (ix2 r k) = a0 m c (ix2 (rowOf t r) k) := by
  blk_ext [iblk, idx t, rowOf]

theorem b1 (k : Fin 1024) : iblk m c 1 t (ix2 0 k) = a1 m c (ix1 k) := by
  have e : (win0_1.blk t).view.emb (ix2 0 k) = (ix2 0 k : S1x1024.Idx) := by blk_ext [idx t]
  show V m c main_v0 ((win0_1.blk t).view.emb (ix2 0 k)) = _
  rw [e]
  entry_read
  pointwise

theorem b2 (r : Fin 256) (k : Fin 1024) : iblk m c 2 t (ix3 0 r k) = a2 m c (ix2 (RefRS.seqOf (rowOf t r)) k) := by
  have e : (win0_2.blk t).view.emb (ix3 0 r k) = (ix3 ⟨t.val, t.isLt⟩ r k : S4x256x1024.Idx) := by blk_ext [idx t]
  show V m c main_v4 ((win0_2.blk t).view.emb (ix3 0 r k)) = _
  rw [e]
  entry_read
  pointwise
  show m ((c : Thread nD τ).loc main_arg2) _ = _
  congr 2
  exact Fin.ext (show t.val * 32 + r.val / 8 = (256 * t.val + r.val) / 8 by omega)

theorem b3 (r : Fin 256) (k : Fin 1024) : iblk m c 3 t (ix3 0 r k) = a3 m c (ix2 (RefRS.seqOf (rowOf t r)) k) := by
  have e : (win0_3.blk t).view.emb (ix3 0 r k) = (ix3 ⟨t.val, t.isLt⟩ r k : S4x256x1024.Idx) := by blk_ext [idx t]
  show V m c main_v7 ((win0_3.blk t).view.emb (ix3 0 r k)) = _
  rw [e]
  entry_read
  pointwise
  show m ((c : Thread nD τ).loc main_arg3) _ = _
  congr 2
  exact Fin.ext (show t.val * 32 + r.val / 8 = (256 * t.val + r.val) / 8 by omega)

theorem b4 (q : Fin 2048) (k : Fin 1024) : iblk m c 4 t (ix3 0 q k) = a4 m c (ix3 0 q k) := by
  blk_ext [iblk, idx t]

theorem b5 (p : Fin 2) (h : Fin 8) (y d : Fin 128) : iblk m c 5 t (ix5 0 p h y d) = a5 m c (ix5 0 p h y d) := by
  have e : (win0_5.blk t).view.emb (ix5 0 p h y d) = (ix5 0 p h y d : S2x2x8x128x128.Idx) := by blk_ext [idx t]
  show V m c main_v1 ((win0_5.blk t).view.emb (ix5 0 p h y d)) = _
  rw [e]
  entry_read
  pointwise

theorem hid_block (r : Fin 256) : hidB (iblk m c 0 t) (iblk m c 1 t) (iblk m c 2 t) (iblk m c 3 t) r
    = RefRS.hidR (a0 m c) (a1 m c) (a2 m c) (a3 m c) (rowOf t r) := by
  unfold hidB
  simp only [b0, b1, b2, b3]

theorem que_block (r : Fin 256) : queB (iblk m c 0 t) (iblk m c 1 t) (iblk m c 2 t) (iblk m c 3 t) (iblk m c 4 t) r
    = RefRS.queR (a0 m c) (a1 m c) (a2 m c) (a3 m c) (a4 m c) (rowOf t r) := by
  unfold queB
  simp only [b0, b1, b2, b3, b4]

/-! ### The output arrays -/

theorem arr6 : (dats m 0 c).arrAt 6 cfg0.N = val_main_v34 (F := Ideal) (a0 m c) (a1 m c) (a2 m c) (a3 m c) := by
  refine (dats m 0 c).arrAt_eq_of_covers 6 _ (by decide +kernel) fun t hf y => ?_
  blk_simp
  rw [after0_6]
  unfold outsAt0
  dsimp only
  obtain ⟨k, r, rfl⟩ : ∃ (k : Fin 1024) (r : Fin 256), y = ix2 k r := ⟨y 0, y 1, eq_ix2 y⟩
  have e : (win0_6.blk t).view.emb (ix2 k r) = (ix2 k (rowOf t r) : S1024x1024.Idx) := by
    blk_ext [idx t, rowOf]
  rw [e, RefRS.ht_apply]
  rw [out6_apply, hid_block]

theorem lane_half (b : Fin 2) (l : Fin 128) : RefRS.lane (half t b) l = rowOf t ⟨128 * b.val + l.val, by omega⟩ :=
  Fin.ext (show (2 * t.val + b.val) * 128 + l.val = 256 * t.val + (128 * b.val + l.val) by omega)

theorem arr7 : (dats m 0 c).arrAt 7 cfg0.N = val_main_v38 (F := Ideal) (a0 m c) (a1 m c) (a2 m c) (a3 m c) (a4 m c) (a5 m c) := by
  refine (dats m 0 c).arrAt_eq_of_covers 7 _ (by decide +kernel) fun t hf y => ?_
  blk_simp
  rw [after0_7]
  unfold outsAt0
  dsimp only
  obtain ⟨b, h, s, l, rfl⟩ : ∃ (b : Fin 2) (h : Fin 8) (s l : Fin 128), y = ix4 b h s l := ⟨y 0, y 1, y 2, y 3, eq_ix4 y⟩
  have e : (win0_7.blk t).view.emb (ix4 b h s l) = (ix4 (half t b) h s l : S8x8x128x128.Idx) := by
    blk_ext [idx t, half]
  rw [e, RefRS.s0_apply, lane_half]
  rw [out7_apply, que_block]
  simp only [b5]

theorem arr8 : (dats m 0 c).arrAt 8 cfg0.N = val_main_v42 (F := Ideal) (a0 m c) (a1 m c) (a2 m c) (a3 m c) (a4 m c) (a5 m c) := by
  refine (dats m 0 c).arrAt_eq_of_covers 8 _ (by decide +kernel) fun t hf y => ?_
  blk_simp
  rw [after0_8]
  unfold outsAt0
  dsimp only
  obtain ⟨b, h, s, l, rfl⟩ : ∃ (b : Fin 2) (h : Fin 8) (s l : Fin 128), y = ix4 b h s l := ⟨y 0, y 1, y 2, y 3, eq_ix4 y⟩
  have e : (win0_8.blk t).view.emb (ix4 b h s l) = (ix4 (half t b) h s l : S8x8x128x128.Idx) := by
    blk_ext [idx t, half]
  rw [e, RefRS.s1_apply, lane_half]
  rw [out8_apply, que_block]
  simp only [b5]

theorem algebraic : Cert.algebraic_RouteSIdeal_RouteSRefIdeal := by
  intro m g m' g' _ hagree
  refine ⟨fun c => val_main_v34 (F := Ideal) (a0 m c) (a1 m c) (a2 m c) (a3 m c),
    fun c => val_main_v38 (F := Ideal) (a0 m c) (a1 m c) (a2 m c) (a3 m c) (a4 m c) (a5 m c),
    fun c => val_main_v42 (F := Ideal) (a0 m c) (a1 m c) (a2 m c) (a3 m c) (a4 m c) (a5 m c), ?_, ?_⟩
  · refine (θ_run Cert.RouteSIdeal.defs _ _).mono (fun r h c => ?_) (Cert.RouteSIdeal.Value.run_blocks (F := Ideal) m g)
    obtain ⟨h0, h1, h2, -, -, -, h3⟩ := h c
    exact ⟨h0.trans (arr6 m c), h1.trans (arr7 m c), h2.trans (arr8 m c), h3⟩
  · refine (θ_run Cert.RouteSRefIdeal.defs _ _).mono (fun r h c => ?_) (Cert.RouteSRefIdeal.Value.run (F := Ideal) m' g')
    obtain ⟨h0, h1, h2, h3⟩ := h c
    obtain ⟨e0, e1, e2, e3, e4, e5⟩ := hagree c
    refine ⟨h0.trans ((val_main_v34_eq ..).trans ?_), h1.trans ((val_main_v38_eq ..).trans ?_), h2.trans ((val_main_v42_eq ..).trans ?_), h3⟩
    · rw [e0, e1, e2, e3]
    · rw [e0, e1, e2, e3, e4, e5]
    · rw [e0, e1, e2, e3, e4, e5]

theorem frameRef : Cert.quiescent_RouteSRefIdeal := fun m ρ _ =>
  (θ_run Cert.RouteSRefIdeal.defs _ _).mono (fun _ h => ⟨fun c => (h c).2.2.2, sem_eq_zero_of_no_sems (by decide) _⟩)
    (Cert.RouteSRefIdeal.Value.run (F := Ideal) m ρ)

end Cert.Mix.ClaimRS
-- ==== Proof.KerRU.lean ====
module

public import proofs.«01_k».proof.Proof.Gen.RouteUIdeal.Value
public import proofs.«01_k».proof.Proof.MathR
public import Idealize.ShloMosaic.Lib.Claim
public import Idealize.ShloMosaic.Lib.VecWindow
public import Idealize.ShloMosaic.Lib.Pointwise
public import Idealize.ShloMosaic.Lib.Pipeline.ReadBack
public import Idealize.ShloMosaic.Lib.Pipeline.ValueKit

/-! The routing's kernel: what one grid point leaves in its blocks of the normed rows and of the scores, with the second layer's tables. -/

@[expose] public section

set_option backward.proofsInPublic true
set_option maxRecDepth 16384

noncomputable section

namespace Cert.Mix.KerRU

open Cert.RouteUIdeal Cert.RouteUIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (v0 : Vec Ideal S256x1024 .f32) (v1 : Vec Ideal S1x1024 .f32) (v15 v21 : Vec Ideal S1x1x1024 .f32) (v28 : Vec Ideal S1x2048x1024 .bf16)

/-- Row `r` of a block, normed and modulated. -/
abbrev hidB (r : Fin 256) : Fin 1024 → EReal :=
  hid (fun k => v0 (ix2 r k)) (fun k => v1 (ix2 0 k)) (fun k => v15 (ix3 0 0 k)) (fun k => v21 (ix3 0 0 k))

/-- The query of row `r` of a block. -/
abbrev queB (r : Fin 256) : Fin 2048 → EReal :=
  que (fun k => v0 (ix2 r k)) (fun k => v1 (ix2 0 k)) (fun k => v15 (ix3 0 0 k)) (fun k => v21 (ix3 0 0 k)) (fun q k => v28 (ix3 0 q k))

theorem hid_apply (k : Fin 1024) (r : Fin 256) : k0_pay2398 v0 v1 v15 v21 (ix2 k r) = hidB v0 v1 v15 v21 r k := by
  pointwise [k0_pay2398]
  rfl

theorem que_apply (q : Fin 2048) (r : Fin 256) : k0_pay2399 v0 v1 v15 v21 v28 (ix2 q r) = queB v0 v1 v15 v21 v28 r q := by
  pointwise [k0_pay2399, hid_apply, dot_S2048x1024_S1024x256_S2048x256_1_0_0_1_n_n]
  rfl

variable (v41 : Vec Ideal S1x1x1x128x128 .bf16) (v44 : Vec Ideal S128x256 .bf16)

theorem pay4_apply (y : Fin 128) (r : Fin 256) : k0_pay4 v41 v44 (ix2 y r) = (∑ d : Fin 128, v41 (ix5 0 0 0 y d) * v44 (ix2 d r) : EReal) := by
  pointwise [k0_pay4, dot_S128x128_S128x256_S128x256_1_0_0_1_n_n]

theorem pay5_apply (y : Fin 128) (r : Fin 256) : k0_pay5 v41 v44 (ix2 y r) = (∑ d : Fin 128, v41 (ix5 0 0 0 y d) * v44 (ix2 d r) : EReal) := by
  pointwise [k0_pay5, dot_S128x128_S128x256_S128x256_1_0_0_1_n_n]

theorem pay8_apply (y l : Fin 128) : k0_pay8 v41 v44 (ix4 0 0 y l) = (∑ d : Fin 128, v41 (ix5 0 0 0 y d) * v44 (ix2 d ⟨l.val, by omega⟩) : EReal) := by
  pointwise [k0_pay8, k0_pay6, pay4_apply]

theorem pay9_apply (y l : Fin 128) : k0_pay9 v41 v44 (ix4 0 0 y l) = (∑ d : Fin 128, v41 (ix5 0 0 0 y d) * v44 (ix2 d ⟨l.val, by omega⟩) : EReal) := by
  pointwise [k0_pay9, k0_pay7, pay5_apply]

theorem pay1180_apply (y l : Fin 128) :
    k0_pay1180 (k0_pay4 v41 v44) (ix4 0 0 y l) = (∑ d : Fin 128, v41 (ix5 0 0 0 y d) * v44 (ix2 d ⟨128 + l.val, by omega⟩) : EReal) := by
  pointwise [k0_pay1180, k0_pay1178, pay4_apply]

theorem pay1181_apply (y l : Fin 128) :
    k0_pay1181 (k0_pay5 v41 v44) (ix4 0 0 y l) = (∑ d : Fin 128, v41 (ix5 0 0 0 y d) * v44 (ix2 d ⟨128 + l.val, by omega⟩) : EReal) := by
  pointwise [k0_pay1181, k0_pay1179, pay5_apply]

end Payloads

/-! ### The loop over the heads -/

theorem off1 : ∀ k : Fin k0_t1_loop.trips, k0_off1 k = ![0, 0, k.val, 0, 0] := by decide +kernel
theorem off2a : ∀ k : Fin k0_t1_loop.trips, k0_off2 k 0#32 = ![(2 * k.val) * 128, 0] := by decide +kernel
theorem off2b : ∀ k : Fin k0_t1_loop.trips, k0_off2 k 1#32 = ![(2 * k.val + 1) * 128, 0] := by decide +kernel
theorem off3 : ∀ k : Fin k0_t1_loop.trips, k0_off3 k = ![0, 1, k.val, 0, 0] := by decide +kernel
theorem off4 : ∀ k : Fin k0_t1_loop.trips, k0_off4 k = ![0, k.val, 0, 0] := by decide +kernel
theorem off6 : ∀ k : Fin k0_t1_loop.trips, k0_off6 k = ![1, k.val, 0, 0] := by decide +kernel
theorem trips_le : ∀ k : Fin k0_t1_loop.trips, k.val < 8 := by decide +kernel

section Trip

variable (c : Dev nD)  (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x2048x1024 .bf16) (harg5 : arg5.IsWhole) (arg6 : Memref sig .tc .vmem S1x2x8x128x128 .bf16) (harg6 : arg6.IsWhole) (arg7 : Memref sig .tc .vmem S1024x256 .bf16) (harg7 : arg7.IsWhole) (arg8 : Memref sig .tc .vmem S2x8x128x128 .f32) (harg8 : arg8.IsWhole) (arg9 : Memref sig .tc .vmem S2x8x128x128 .f32) (harg9 : arg9.IsWhole) (arg10 : Memref sig .tc .vmem S2x8x128x128 .f32) (harg10 : arg10.IsWhole) (arg11 : Memref sig .tc .vmem S2x8x128x128 .f32) (harg11 : arg11.IsWhole) (arg12 : Memref sig .tc .vmem S2x8x1x128 .f32) (harg12 : arg12.IsWhole) (arg13 : Memref sig .tc .vmem S2048x256 .bf16) (harg13 : arg13.IsWhole) (X_arg6 : BufTy.Contents (Elt Ideal) arg6.view.ty) (X_arg13 : BufTy.Contents (Elt Ideal) arg13.view.ty)

theorem trip0 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 k).1
    = [⟨Rect.unit (k0_off6 k) ![1, 1, 128, 128] (k0_off6_inb k), k0_pay1180 (k0_pay4
          (arg6.view.readAt (Elt Ideal) (Rect.unit (k0_off1 k) ![1, 1, 1, 128, 128] (k0_off1_inb k)).toLoadRect X_arg6)
          (arg13.view.readAt (Elt Ideal) (Rect.unit (k0_off2 k 0#32) ![128, 256] (k0_off2_inb k 0)).toLoadRect X_arg13))⟩,
       ⟨Rect.unit (k0_off4 k) ![1, 1, 128, 128] (k0_off4_inb k), k0_pay8
          (arg6.view.readAt (Elt Ideal) (Rect.unit (k0_off1 k) ![1, 1, 1, 128, 128] (k0_off1_inb k)).toLoadRect X_arg6)
          (arg13.view.readAt (Elt Ideal) (Rect.unit (k0_off2 k 0#32) ![128, 256] (k0_off2_inb k 0)).toLoadRect X_arg13)⟩] := by
  dsimp only [tripL_k0_t1]
  unfold trip_k0_t1
  dsimp only
  sl_unfold_words
  rfl

theorem trip1 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 k).2.1
    = [⟨Rect.unit (k0_off6 k) ![1, 1, 128, 128] (k0_off6_inb k), k0_pay1181 (k0_pay5
          (arg6.view.readAt (Elt Ideal) (Rect.unit (k0_off3 k) ![1, 1, 1, 128, 128] (k0_off3_inb k)).toLoadRect X_arg6)
          (arg13.view.readAt (Elt Ideal) (Rect.unit (k0_off2 k 1#32) ![128, 256] (k0_off2_inb k 1)).toLoadRect X_arg13))⟩,
       ⟨Rect.unit (k0_off4 k) ![1, 1, 128, 128] (k0_off4_inb k), k0_pay9
          (arg6.view.readAt (Elt Ideal) (Rect.unit (k0_off3 k) ![1, 1, 1, 128, 128] (k0_off3_inb k)).toLoadRect X_arg6)
          (arg13.view.readAt (Elt Ideal) (Rect.unit (k0_off2 k 1#32) ![128, 256] (k0_off2_inb k 1)).toLoadRect X_arg13)⟩] := by
  dsimp only [tripL_k0_t1]
  unfold trip_k0_t1
  dsimp only
  sl_unfold_words
  rfl

variable (x5 : Vec Ideal S1x2x8x128x128 .bf16) (P : Vec Ideal S2048x256 .bf16)

/-- The score of half `p` at an index of a block, from the keys and the queries. -/
def val (p : Fin 2) (b : Fin 2) (h : Fin 8) (y l : Fin 128) : EReal :=
  sco (fun q => P (ix2 q ⟨128 * b.val + l.val, by omega⟩)) p h (fun d => x5 (ix5 0 p h y d))

variable {x5 P}

theorem ldK (k : Fin k0_t1_loop.trips) (h6 : arg6.view.read (Elt Ideal) X_arg6 = x5) (y d : Fin 128) (h : Fin 8) (hh : h.val = k.val) :
    (arg6.view.readAt (Elt Ideal) (Rect.unit (s := S1x2x8x128x128) (k0_off1 k) ![1, 1, 1, 128, 128] (k0_off1_inb k)).toLoadRect X_arg6 : S1x1x1x128x128.Idx → Elt Ideal .bf16) (ix5 0 0 0 y d) = x5 (ix5 0 0 h y d) := by
  rw [View.readAt_eq_ld, h6]
  refine View.ld_unit_apply_of _ _ _ _ _ _ fun a => ?_
  refine Eq.trans ?_ (congrArg (· + _) (congrFun (off1 k) a).symm)
  fin_cases a
  · rfl
  · rfl
  · exact hh
  · exact (Nat.zero_add _).symm
  · exact (Nat.zero_add _).symm

theorem ldK1 (k : Fin k0_t1_loop.trips) (h6 : arg6.view.read (Elt Ideal) X_arg6 = x5) (y d : Fin 128) (h : Fin 8) (hh : h.val = k.val) :
    (arg6.view.readAt (Elt Ideal) (Rect.unit (s := S1x2x8x128x128) (k0_off3 k) ![1, 1, 1, 128, 128] (k0_off3_inb k)).toLoadRect X_arg6 : S1x1x1x128x128.Idx → Elt Ideal .bf16) (ix5 0 0 0 y d) = x5 (ix5 0 1 h y d) := by
  rw [View.readAt_eq_ld, h6]
  refine View.ld_unit_apply_of _ _ _ _ _ _ fun a => ?_
  refine Eq.trans ?_ (congrArg (· + _) (congrFun (off3 k) a).symm)
  fin_cases a
  · rfl
  · rfl
  · exact hh
  · exact (Nat.zero_add _).symm
  · exact (Nat.zero_add _).symm

theorem ldQ (k : Fin k0_t1_loop.trips) (h13 : arg13.view.read (Elt Ideal) X_arg13 = P) (d : Fin 128) (r : Fin 256) (q : Fin 2048)
    (hq : q.val = 2 * k.val * 128 + d.val) :
    (arg13.view.readAt (Elt Ideal) (Rect.unit (s := S2048x256) (k0_off2 k 0#32) ![128, 256] (k0_off2_inb k 0)).toLoadRect X_arg13 : S128x256.Idx → Elt Ideal .bf16) (ix2 d r) = P (ix2 q r) := by
  rw [View.readAt_eq_ld, h13]
  refine View.ld_unit_apply_of _ _ _ _ _ _ fun a => ?_
  refine Eq.trans ?_ (congrArg (· + _) (congrFun (off2a k) a).symm)
  fin_cases a
  · exact hq
  · exact (Nat.zero_add _).symm

theorem ldQ1 (k : Fin k0_t1_loop.trips) (h13 : arg13.view.read (Elt Ideal) X_arg13 = P) (d : Fin 128) (r : Fin 256) (q : Fin 2048)
    (hq : q.val = (2 * k.val + 1) * 128 + d.val) :
    (arg13.view.readAt (Elt Ideal) (Rect.unit (s := S2048x256) (k0_off2 k 1#32) ![128, 256] (k0_off2_inb k 1)).toLoadRect X_arg13 : S128x256.Idx → Elt Ideal .bf16) (ix2 d r) = P (ix2 q r) := by
  rw [View.readAt_eq_ld, h13]
  refine View.ld_unit_apply_of _ _ _ _ _ _ fun a => ?_
  refine Eq.trans ?_ (congrArg (· + _) (congrFun (off2b k) a).symm)
  fin_cases a
  · exact hq
  · exact (Nat.zero_add _).symm

theorem allAt_append {S : Shape} {e : EltTy} {L M : List (View.Piece (Elt Ideal) S e)} {y : S.Idx} {v : Elt Ideal e}
    (h1 : View.AllAt L y v) (h2 : View.AllAt M y v) : View.AllAt (L ++ M) y v := fun p hp =>
  (List.mem_append.mp hp).elim (h1 p) (h2 p)

theorem at0 (h6 : arg6.view.read (Elt Ideal) X_arg6 = x5) (h13 : arg13.view.read (Elt Ideal) X_arg13 = P) (b : Fin 2) (h : Fin 8) (y l : Fin 128)
    (k : Fin k0_t1_loop.trips) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 k).1 (ix4 b h y l) (val x5 P 0 b h y l) := by
  rw [trip0]
  refine View.allAt_cons_unit _ _ _ _ _ (fun x hx => ?_) (View.allAt_cons_unit _ _ _ _ _ (fun x hx => ?_) (View.allAt_nil _ _))
  · rw [off6 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 1 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay1180_apply _ _ y l).trans (Finset.sum_congr rfl fun d _ => ?_)
    rw [ldK (h6 := h6) (h := h) (hh := by omega) .., ldQ (h13 := h13) (q := ⟨(2 * h.val + 0) * 128 + d.val, by omega⟩) (hq := by show (2 * h.val + 0) * 128 + d.val = _; omega) ..]
    refine congrArg (fun z : Fin 256 => (x5 _ * P (ix2 _ z) : EReal)) (Fin.ext ?_)
    show 128 + l.val = 128 * b.val + l.val
    omega
  · rw [off4 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 0 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay8_apply _ _ y l).trans (Finset.sum_congr rfl fun d _ => ?_)
    rw [ldK (h6 := h6) (h := h) (hh := by omega) .., ldQ (h13 := h13) (q := ⟨(2 * h.val + 0) * 128 + d.val, by omega⟩) (hq := by show (2 * h.val + 0) * 128 + d.val = _; omega) ..]
    refine congrArg (fun z : Fin 256 => (x5 _ * P (ix2 _ z) : EReal)) (Fin.ext ?_)
    show l.val = 128 * b.val + l.val
    omega

theorem all0 (h6 : arg6.view.read (Elt Ideal) X_arg6 = x5) (h13 : arg13.view.read (Elt Ideal) X_arg13 = P) (b : Fin 2) (h : Fin 8) (y l : Fin 128)
    (n : ℕ) (hn : n ≤ k0_t1_loop.trips) : View.AllAt (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 n).1 (ix4 b h y l) (val x5 P 0 b h y l) := by
  induction n with
  | zero => exact View.allAt_nil _ _
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 ⟨n, hn⟩
    dsimp only at e
    rw [e]
    exact allAt_append (at0 c i arg1 harg1 arg2 harg2 arg3 harg3 arg4 harg4 arg5 harg5 arg6 harg6 arg7 harg7 arg8 harg8 arg9 harg9 arg10 harg10 arg11 harg11 arg12 harg12 arg13 harg13 X_arg6 X_arg13 h6 h13 b h y l ⟨n, hn⟩) (ih (Nat.le_of_succ_le hn))

theorem at1 (h6 : arg6.view.read (Elt Ideal) X_arg6 = x5) (h13 : arg13.view.read (Elt Ideal) X_arg13 = P) (b : Fin 2) (h : Fin 8) (y l : Fin 128)
    (k : Fin k0_t1_loop.trips) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 k).2.1 (ix4 b h y l) (val x5 P 1 b h y l) := by
  rw [trip1]
  refine View.allAt_cons_unit _ _ _ _ _ (fun x hx => ?_) (View.allAt_cons_unit _ _ _ _ _ (fun x hx => ?_) (View.allAt_nil _ _))
  · rw [off6 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 1 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay1181_apply _ _ y l).trans (Finset.sum_congr rfl fun d _ => ?_)
    rw [ldK1 (h6 := h6) (h := h) (hh := by omega) .., ldQ1 (h13 := h13) (q := ⟨(2 * h.val + 1) * 128 + d.val, by omega⟩) (hq := by show (2 * h.val + 1) * 128 + d.val = _; omega) ..]
    refine congrArg (fun z : Fin 256 => (x5 _ * P (ix2 _ z) : EReal)) (Fin.ext ?_)
    show 128 + l.val = 128 * b.val + l.val
    omega
  · rw [off4 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 0 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay9_apply _ _ y l).trans (Finset.sum_congr rfl fun d _ => ?_)
    rw [ldK1 (h6 := h6) (h := h) (hh := by omega) .., ldQ1 (h13 := h13) (q := ⟨(2 * h.val + 1) * 128 + d.val, by omega⟩) (hq := by show (2 * h.val + 1) * 128 + d.val = _; omega) ..]
    refine congrArg (fun z : Fin 256 => (x5 _ * P (ix2 _ z) : EReal)) (Fin.ext ?_)
    show l.val = 128 * b.val + l.val
    omega

theorem all1 (h6 : arg6.view.read (Elt Ideal) X_arg6 = x5) (h13 : arg13.view.read (Elt Ideal) X_arg13 = P) (b : Fin 2) (h : Fin 8) (y l : Fin 128)
    (n : ℕ) (hn : n ≤ k0_t1_loop.trips) : View.AllAt (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 n).2.1 (ix4 b h y l) (val x5 P 1 b h y l) := by
  induction n with
  | zero => exact View.allAt_nil _ _
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 X_arg6 X_arg13 ⟨n, hn⟩
    dsimp only at e
    rw [e]
    exact allAt_append (at1 c i arg1 harg1 arg2 harg2 arg3 harg3 arg4 harg4 arg5 harg5 arg6 harg6 arg7 harg7 arg8 harg8 arg9 harg9 arg10 harg10 arg11 harg11 arg12 harg12 arg13 harg13 X_arg6 X_arg13 h6 h13 b h y l ⟨n, hn⟩) (ih (Nat.le_of_succ_le hn))

end Trip

/-! ### The blocks -/

section Outputs

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x2048x1024 .bf16) (harg5 : arg5.IsWhole) (arg6 : Memref sig .tc .vmem S1x2x8x128x128 .bf16) (harg6 : arg6.IsWhole) (arg7 : Memref sig .tc .vmem S1024x256 .bf16) (harg7 : arg7.IsWhole) (arg8 : Memref sig .tc .vmem S2x8x128x128 .f32) (harg8 : arg8.IsWhole) (arg9 : Memref sig .tc .vmem S2x8x128x128 .f32) (harg9 : arg9.IsWhole) (arg10 : Memref sig .tc .vmem S2x8x128x128 .f32) (harg10 : arg10.IsWhole) (arg11 : Memref sig .tc .vmem S2x8x128x128 .f32) (harg11 : arg11.IsWhole) (arg12 : Memref sig .tc .vmem S2x8x1x128 .f32) (harg12 : arg12.IsWhole) (arg13 : Memref sig .tc .vmem S2048x256 .bf16) (harg13 : arg13.IsWhole)
    (x0 : Vec Ideal S256x1024 .f32) (x1 : Vec Ideal S1x1024 .f32) (x2 : Vec Ideal S1x1x1024 .f32) (x3 : Vec Ideal S1x1x1024 .f32) (x4 : Vec Ideal S1x2048x1024 .bf16) (x5 : Vec Ideal S1x2x8x128x128 .bf16)

theorem out6_apply (k : Fin 1024) (r : Fin 256) : out0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix2 k r) = hidB x0 x1 x2 x3 r k := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun0_A
  dsimp only
  unfold kernelRun0_A.sl.H6_1
  rw [View.canon_unit_zero hz2]
  simp only [View.readAt_eq_ld, Memref.IsWhole.read_unread, View.ld_unit_zero (S := S256x1024) hz2, View.ld_unit_zero (S := S1x1024) hz2,
    View.ld_unit_zero (S := S1x1x1024) hz3]
  exact hid_apply ..

theorem out7_apply (b : Fin 2) (h : Fin 8) (y l : Fin 128) : out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
    = sco (queB x0 x1 x2 x3 x4 ⟨128 * b.val + l.val, by omega⟩) 0 h (fun d => x5 (ix5 0 0 h y d)) := by
  have hc := cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  refine (View.canon_eq_of_allAt _ _ (val x5 (k0_pay2399 x0 x1 x2 x3 x4) 0 b h y l) hc ?_).trans ?_
  · unfold kernelRun0_A
    dsimp only
    sl_unfold_words
    refine all0 c i arg1 harg1 arg2 harg2 arg3 harg3 arg4 harg4 arg5 harg5 arg6 harg6 arg7 harg7 arg8 harg8 arg9 harg9 arg10 harg10 arg11 harg11 arg12 harg12 arg13 harg13 _ _ (Memref.IsWhole.read_unread ..) ?_ b h y l _ (le_of_eq rfl)
    refine (View.read_writes_full ..).trans ?_
    simp only [View.readAt_eq_ld, Memref.IsWhole.read_unread, View.ld_unit_zero (S := S256x1024) hz2, View.ld_unit_zero (S := S1x1024) hz2,
      View.ld_unit_zero (S := S1x1x1024) hz3, View.ld_unit_zero (S := S1x2048x1024) hz3]
  · unfold val
    simp only [que_apply]

theorem out8_apply (b : Fin 2) (h : Fin 8) (y l : Fin 128) : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
    = sco (queB x0 x1 x2 x3 x4 ⟨128 * b.val + l.val, by omega⟩) 1 h (fun d => x5 (ix5 0 1 h y d)) := by
  have hc := cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  refine (View.canon_eq_of_allAt _ _ (val x5 (k0_pay2399 x0 x1 x2 x3 x4) 1 b h y l) hc ?_).trans ?_
  · unfold kernelRun0_A
    dsimp only
    sl_unfold_words
    refine all1 c i arg1 harg1 arg2 harg2 arg3 harg3 arg4 harg4 arg5 harg5 arg6 harg6 arg7 harg7 arg8 harg8 arg9 harg9 arg10 harg10 arg11 harg11 arg12 harg12 arg13 harg13 _ _ (Memref.IsWhole.read_unread ..) ?_ b h y l _ (le_of_eq rfl)
    refine (View.read_writes_full ..).trans ?_
    simp only [View.readAt_eq_ld, Memref.IsWhole.read_unread, View.ld_unit_zero (S := S256x1024) hz2, View.ld_unit_zero (S := S1x1024) hz2,
      View.ld_unit_zero (S := S1x1x1024) hz3, View.ld_unit_zero (S := S1x2048x1024) hz3]
  · unfold val
    simp only [que_apply]

end Outputs

end Cert.Mix.KerRU
-- ==== Proof.RefRU.lean ====
module

public import proofs.«01_k».proof.Proof.MathR
public import proofs.«01_k».proof.Proof.Gen.RouteURefIdeal.Read

/-! The routing's reference read at an index, with the second layer's tables. -/

@[expose] public section

set_option backward.proofsInPublic true

noncomputable section

namespace Cert.Mix.RefRU

open Cert.RouteURefIdeal Cert.RouteURefIdeal.Read Idealize.ShloMosaic

variable (x0 : (⟨S16384x1024, .f32⟩ : BufTy).Contents (Elt Ideal)) (x1 : (⟨S1024, .f32⟩ : BufTy).Contents (Elt Ideal))
  (x2 x3 : (⟨S8x1024, .f32⟩ : BufTy).Contents (Elt Ideal)) (x4 : (⟨S2x2048x1024, .bf16⟩ : BufTy).Contents (Elt Ideal))
  (x5 : (⟨S2x2x8x128x128, .f32⟩ : BufTy).Contents (Elt Ideal))

/-- Row `t` of sequence `b`. -/
def row (b : Fin 8) (t : Fin 2048) : Fin 16384 := ⟨b.val * 2048 + t.val, by omega⟩

/-- The sequence of row `n`. -/
def seqOf (n : Fin 16384) : Fin 8 := ⟨n.val / 2048, by omega⟩

/-- The modulated normed row `n`. -/
abbrev hidR (n : Fin 16384) : Fin 1024 → EReal :=
  hid (fun k => x0 (ix2 n k)) (fun k => x1 (ix1 k)) (fun k => x2 (ix2 (seqOf n) k)) (fun k => x3 (ix2 (seqOf n) k))

/-- The query of row `n`. -/
abbrev queR (n : Fin 16384) : Fin 2048 → EReal :=
  que (fun k => x0 (ix2 n k)) (fun k => x1 (ix1 k)) (fun k => x2 (ix2 (seqOf n) k)) (fun k => x3 (ix2 (seqOf n) k)) (fun r k => x4 (ix3 1 r k))

theorem x_apply (b : Fin 8) (t : Fin 2048) (k : Fin 1024) : val_main_v0 (F := Ideal) x0 (ix3 b t k) = x0 (ix2 (row b t) k) := by
  rw [val_main_v0_apply]; congr 1; funext a
  match a with
  | ⟨0, _⟩ => exact Fin.ext (show ((b.val * 2048 + t.val) * 1024 + k.val) / 1024 = b.val * 2048 + t.val by omega)
  | ⟨1, _⟩ => exact Fin.ext (show ((b.val * 2048 + t.val) * 1024 + k.val) % 1024 = k.val by omega)

theorem h_apply (b : Fin 8) (t : Fin 2048) (k : Fin 1024) :
    val_main_v21 (F := Ideal) x0 x1 x2 x3 (ix3 b t k)
      = hid (fun j => x0 (ix2 (row b t) j)) (fun j => x1 (ix1 j)) (fun j => x2 (ix2 b j)) (fun j => x3 (ix2 b j)) k := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_cst, val_main_cst_0, val_main_cst_1, val_main_cst_2, x_apply]
  rfl

theorem h2_apply (n : Fin 16384) (k : Fin 1024) : val_main_v22 (F := Ideal) x0 x1 x2 x3 (ix2 n k) = hidR x0 x1 x2 x3 n k := by
  have e : idx_main_v22 (ix2 n k) = ix3 (seqOf n) ⟨n.val % 2048, by omega⟩ k := by
    funext a
    match a with
    | ⟨0, _⟩ => exact Fin.ext (show (n.val * 1024 + k.val) / 2097152 = n.val / 2048 by omega)
    | ⟨1, _⟩ => exact Fin.ext (show (n.val * 1024 + k.val) / 1024 % 2048 = n.val % 2048 by omega)
    | ⟨2, _⟩ => exact Fin.ext (show (n.val * 1024 + k.val) % 1024 = k.val by omega)
  rw [val_main_v22_apply, e, h_apply,
    show row (seqOf n) ⟨n.val % 2048, by omega⟩ = n from Fin.ext (show n.val / 2048 * 2048 + n.val % 2048 = n.val by omega)]

theorem w_apply (r : Fin 2048) (k : Fin 1024) : val_main_v24 (F := Ideal) x4 (ix2 r k) = x4 (ix3 1 r k) := by
  rw [val_main_v24_apply, val_main_v23_apply]; congr 1; funext a
  match a with
  | ⟨0, _⟩ => rfl
  | ⟨1, _⟩ => exact Fin.ext (show (r.val * 1024 + k.val) / 1024 % 2048 = r.val by omega)
  | ⟨2, _⟩ => exact Fin.ext (show (r.val * 1024 + k.val) % 1024 = k.val by omega)

theorem q_apply (n : Fin 16384) (r : Fin 2048) : val_main_v27 (F := Ideal) x0 x1 x2 x3 x4 (ix2 n r) = queR x0 x1 x2 x3 x4 n r := by
  pointwise [val_main_v27, val_main_v26, val_main_v25, dot_S16384x1024_S1024x2048_S16384x2048_1_0_0_1_n_n, h2_apply, w_apply]
  exact Finset.sum_congr rfl fun k _ => mul_comm _ _

theorem q4_apply (n : Fin 16384) (h : Fin 8) (p : Fin 2) (d : Fin 128) : val_main_v28 (F := Ideal) x0 x1 x2 x3 x4 (ix4 n h p d)
    = queR x0 x1 x2 x3 x4 n ⟨(2 * h.val + p.val) * 128 + d.val, by omega⟩ := by
  have e : idx_main_v28 (ix4 n h p d) = ix2 n ⟨(2 * h.val + p.val) * 128 + d.val, by omega⟩ := by
    funext a
    match a with
    | ⟨0, _⟩ => exact Fin.ext (show (((n.val * 8 + h.val) * 2 + p.val) * 128 + d.val) / 2048 = n.val by omega)
    | ⟨1, _⟩ => exact Fin.ext (show (((n.val * 8 + h.val) * 2 + p.val) * 128 + d.val) % 2048 = (2 * h.val + p.val) * 128 + d.val by omega)
  rw [val_main_v28_apply, e, q_apply]

theorem s_apply (p : Fin 2) (h : Fin 8) (y d : Fin 128) : val_main_v30 (F := Ideal) x5 (ix4 p h y d) = x5 (ix5 1 p h y d) := by
  rw [val_main_v30_apply, val_main_v29_apply]; congr 1; funext a
  match a with
  | ⟨0, _⟩ => rfl
  | ⟨1, _⟩ => exact Fin.ext (show (((p.val * 8 + h.val) * 128 + y.val) * 128 + d.val) / 131072 % 2 = p.val by omega)
  | ⟨2, _⟩ => exact Fin.ext (show (((p.val * 8 + h.val) * 128 + y.val) * 128 + d.val) / 16384 % 8 = h.val by omega)
  | ⟨3, _⟩ => exact Fin.ext (show (((p.val * 8 + h.val) * 128 + y.val) * 128 + d.val) / 128 % 128 = y.val by omega)
  | ⟨4, _⟩ => exact Fin.ext (show (((p.val * 8 + h.val) * 128 + y.val) * 128 + d.val) % 128 = d.val by omega)

theorem sc_apply (h : Fin 8) (p : Fin 2) (y : Fin 128) (n : Fin 16384) : val_main_v31 (F := Ideal) x0 x1 x2 x3 x4 x5 (ix4 h p y n)
    = sco (queR x0 x1 x2 x3 x4 n) p h (fun d => x5 (ix5 1 p h y d)) := by
  pointwise [val_main_v31, dot_S2x8x128x128_S16384x8x2x128_S8x2x128x16384_3_3_2_0_10_12, s_apply, q4_apply]
  rfl

theorem sct_apply (n : Fin 16384) (h : Fin 8) (p : Fin 2) (y : Fin 128) : val_main_v32 (F := Ideal) x0 x1 x2 x3 x4 x5 (ix4 n h p y)
    = sco (queR x0 x1 x2 x3 x4 n) p h (fun d => x5 (ix5 1 p h y d)) := by
  rw [val_main_v32_apply, show idx_main_v32 (ix4 n h p y) = ix4 h p y n from funext fun a => by fin_cases a <;> rfl, sc_apply]

theorem ht_apply (k : Fin 1024) (n : Fin 16384) : val_main_v34 (F := Ideal) x0 x1 x2 x3 (ix2 k n) = hidR x0 x1 x2 x3 n k := by
  pointwise [val_main_v34, val_main_v33, h2_apply]

/-- Lane `l` of block `g` of 128 rows. -/
def lane (g l : Fin 128) : Fin 16384 := ⟨g.val * 128 + l.val, by omega⟩

theorem s0_apply (g : Fin 128) (h : Fin 8) (y l : Fin 128) : val_main_v38 (F := Ideal) x0 x1 x2 x3 x4 x5 (ix4 g h y l)
    = sco (queR x0 x1 x2 x3 x4 (lane g l)) 0 h (fun d => x5 (ix5 1 0 h y d)) := by
  have e1 : idx_main_v38 (ix4 g h y l) = ix4 g l h y := funext fun a => by fin_cases a <;> rfl
  have e2 : idx_main_v37 (ix4 g l h y) = ix3 (lane g l) h y := by
    funext a
    match a with
    | ⟨0, _⟩ => exact Fin.ext (show (((g.val * 128 + l.val) * 8 + h.val) * 128 + y.val) / 1024 = g.val * 128 + l.val by omega)
    | ⟨1, _⟩ => exact Fin.ext (show (((g.val * 128 + l.val) * 8 + h.val) * 128 + y.val) / 128 % 8 = h.val by omega)
    | ⟨2, _⟩ => exact Fin.ext (show (((g.val * 128 + l.val) * 8 + h.val) * 128 + y.val) % 128 = y.val by omega)
  have e3 : ∀ n : Fin 16384, idx_main_v36 (ix3 n h y) = ix4 n h 0 y := fun n => by
    funext a
    match a with
    | ⟨0, _⟩ => exact Fin.ext (show ((n.val * 8 + h.val) * 128 + y.val) / 1024 = n.val by omega)
    | ⟨1, _⟩ => exact Fin.ext (show ((n.val * 8 + h.val) * 128 + y.val) / 128 % 8 = h.val by omega)
    | ⟨2, _⟩ => rfl
    | ⟨3, _⟩ => exact Fin.ext (show ((n.val * 8 + h.val) * 128 + y.val) % 128 = y.val by omega)
  have e4 : ∀ n : Fin 16384, idx_main_v35 (ix4 n h 0 y) = ix4 n h 0 y := fun n => funext fun a => by fin_cases a <;> rfl
  rw [val_main_v38_apply, e1, val_main_v37_apply, e2, val_main_v36_apply, e3, val_main_v35_apply, e4, sct_apply]

theorem s1_apply (g : Fin 128) (h : Fin 8) (y l : Fin 128) : val_main_v42 (F := Ideal) x0 x1 x2 x3 x4 x5 (ix4 g h y l)
    = sco (queR x0 x1 x2 x3 x4 (lane g l)) 1 h (fun d => x5 (ix5 1 1 h y d)) := by
  have e1 : idx_main_v42 (ix4 g h y l) = ix4 g l h y := funext fun a => by fin_cases a <;> rfl
  have e2 : idx_main_v41 (ix4 g l h y) = ix3 (lane g l) h y := by
    funext a
    match a with
    | ⟨0, _⟩ => exact Fin.ext (show (((g.val * 128 + l.val) * 8 + h.val) * 128 + y.val) / 1024 = g.val * 128 + l.val by omega)
    | ⟨1, _⟩ => exact Fin.ext (show (((g.val * 128 + l.val) * 8 + h.val) * 128 + y.val) / 128 % 8 = h.val by omega)
    | ⟨2, _⟩ => exact Fin.ext (show (((g.val * 128 + l.val) * 8 + h.val) * 128 + y.val) % 128 = y.val by omega)
  have e3 : ∀ n : Fin 16384, idx_main_v40 (ix3 n h y) = ix4 n h 0 y := fun n => by
    funext a
    match a with
    | ⟨0, _⟩ => exact Fin.ext (show ((n.val * 8 + h.val) * 128 + y.val) / 1024 = n.val by omega)
    | ⟨1, _⟩ => exact Fin.ext (show ((n.val * 8 + h.val) * 128 + y.val) / 128 % 8 = h.val by omega)
    | ⟨2, _⟩ => rfl
    | ⟨3, _⟩ => exact Fin.ext (show ((n.val * 8 + h.val) * 128 + y.val) % 128 = y.val by omega)
  have e4 : ∀ n : Fin 16384, idx_main_v39 (ix4 n h 0 y) = ix4 n h 1 y := fun n => funext fun a => by fin_cases a <;> rfl
  rw [val_main_v42_apply, e1, val_main_v41_apply, e2, val_main_v40_apply, e3, val_main_v39_apply, e4, sct_apply]

end Cert.Mix.RefRU
-- ==== Proof.ClaimRU.lean ====
module

public import proofs.«01_k».proof.Defs
public import proofs.«01_k».proof.Proof.KerRU
public import proofs.«01_k».proof.Proof.RefRU
public import proofs.«01_k».proof.Proof.Gen.RouteURefIdeal.Run

/-! The claim about the prompt's routing: the kernel's normed rows and scores are its reference's, with the second layer's tables. -/

@[expose] public section

set_option backward.proofsInPublic true

noncomputable section

namespace Cert.Mix.ClaimRU

open Cert.RouteUIdeal Cert.RouteUIdeal.Gen Idealize.ShloMosaic Idealize.ShloMosaic.TcCoe Idealize.SL.Sem
open Cert.RouteURefIdeal.Read Cert.Mix.KerRU

variable (m : (ℓ : Loc nD τ sig) → Buf (Elt Ideal) ℓ) (c : Dev nD) (t : Fin cfg0.N)

/-! ### The arguments -/

abbrev a0 : (⟨S16384x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S8x1024, .f32⟩ : BufTy).Contents (Elt Ideal) := m ((c : Thread nD τ).loc main_arg2)
abbrev a3 : (⟨S8x1024, .f32⟩ : BufTy).Contents (Elt Ideal) := m ((c : Thread nD τ).loc main_arg3)
abbrev a4 : (⟨S2x2048x1024, .bf16⟩ : BufTy).Contents (Elt Ideal) := m ((c : Thread nD τ).loc main_arg4)
abbrev a5 : (⟨S2x2x8x128x128, .f32⟩ : BufTy).Contents (Elt Ideal) := m ((c : Thread nD τ).loc main_arg5)

theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![1, 0, 0] ∧ win0_5.index t = ![1, 0, 0, 0, 0] ∧ win0_6.index t = ![0, t.val]
    ∧ win0_7.index t = ![t.val, 0, 0, 0] ∧ win0_8.index t = ![t.val, 0, 0, 0] := by decide +kernel

theorem t_lt : t.val < 64 := t.isLt

/-- The row of the whole that is row `r` of block `t`. -/
def rowOf (r : Fin 256) : Fin 16384 := ⟨256 * t.val + r.val, by have := t_lt t; omega⟩

/-- The block of 128 rows that is half `b` of block `t`. -/
def half (b : Fin 2) : Fin 128 := ⟨2 * t.val + b.val, by have := t_lt t; omega⟩

/-! ### The blocks read -/

theorem b0 (r : Fin 256) (k : Fin 1024) : iblk m c 0 t (ix2 r k) = a0 m c (ix2 (rowOf t r) k) := by
  blk_ext [iblk, idx t, rowOf]

theorem b1 (k : Fin 1024) : iblk m c 1 t (ix2 0 k) = a1 m c (ix1 k) := by
  have e : (win0_1.blk t).view.emb (ix2 0 k) = (ix2 0 k : S1x1024.Idx) := by blk_ext [idx t]
  show V m c main_v0 ((win0_1.blk t).view.emb (ix2 0 k)) = _
  rw [e]
  entry_read
  pointwise

theorem b2 (r : Fin 256) (k : Fin 1024) : iblk m c 2 t (ix3 0 0 k) = a2 m c (ix2 (RefRU.seqOf (rowOf t r)) k) := by
  have e : (win0_2.blk t).view.emb (ix3 0 0 k) = (ix3 (RefRU.seqOf (rowOf t r)) 0 k : S8x1x1024.Idx) := by
    blk_ext [idx t, RefRU.seqOf, rowOf]
  show V m c main_v2 ((win0_2.blk t).view.emb (ix3 0 0 k)) = _
  rw [e]
  entry_read
  pointwise

theorem b3 (r : Fin 256) (k : Fin 1024) : iblk m c 3 t (ix3 0 0 k) = a3 m c (ix2 (RefRU.seqOf (rowOf t r)) k) := by
  have e : (win0_3.blk t).view.emb (ix3 0 0 k) = (ix3 (RefRU.seqOf (rowOf t r)) 0 k : S8x1x1024.Idx) := by
    blk_ext [idx t, RefRU.seqOf, rowOf]
  show V m c main_v3 ((win0_3.blk t).view.emb (ix3 0 0 k)) = _
  rw [e]
  entry_read
  pointwise

theorem b4 (q : Fin 2048) (k : Fin 1024) : iblk m c 4 t (ix3 0 q k) = a4 m c (ix3 1 q k) := by
  blk_ext [iblk, idx t]

theorem b5 (p : Fin 2) (h : Fin 8) (y d : Fin 128) : iblk m c 5 t (ix5 0 p h y d) = a5 m c (ix5 1 p h y d) := by
  have e : (win0_5.blk t).view.emb (ix5 0 p h y d) = (ix5 1 p h y d : S2x2x8x128x128.Idx) := by blk_ext [idx t]
  show V m c main_v1 ((win0_5.blk t).view.emb (ix5 0 p h y d)) = _
  rw [e]
  entry_read
  pointwise

theorem hid_block (r : Fin 256) : hidB (iblk m c 0 t) (iblk m c 1 t) (iblk m c 2 t) (iblk m c 3 t) r
    = RefRU.hidR (a0 m c) (a1 m c) (a2 m c) (a3 m c) (rowOf t r) := by
  unfold hidB
  simp only [b0, b1, b2 m c t r, b3 m c t r]

theorem que_block (r : Fin 256) : queB (iblk m c 0 t) (iblk m c 1 t) (iblk m c 2 t) (iblk m c 3 t) (iblk m c 4 t) r
    = RefRU.queR (a0 m c) (a1 m c) (a2 m c) (a3 m c) (a4 m c) (rowOf t r) := by
  unfold queB
  simp only [b0, b1, b2 m c t r, b3 m c t r, b4]

/-! ### The output arrays -/

theorem arr6 : (dats m 0 c).arrAt 6 cfg0.N = val_main_v34 (F := Ideal) (a0 m c) (a1 m c) (a2 m c) (a3 m c) := by
  refine (dats m 0 c).arrAt_eq_of_covers 6 _ (by decide +kernel) fun t hf y => ?_
  blk_simp
  rw [after0_6]
  unfold outsAt0
  dsimp only
  obtain ⟨k, r, rfl⟩ : ∃ (k : Fin 1024) (r : Fin 256), y = ix2 k r := ⟨y 0, y 1, eq_ix2 y⟩
  have e : (win0_6.blk t).view.emb (ix2 k r) = (ix2 k (rowOf t r) : S1024x16384.Idx) := by
    blk_ext [idx t, rowOf]
  rw [e, RefRU.ht_apply]
  rw [out6_apply, hid_block]

theorem lane_half (b : Fin 2) (l : Fin 128) : RefRU.lane (half t b) l = rowOf t ⟨128 * b.val + l.val, by omega⟩ :=
  Fin.ext (show (2 * t.val + b.val) * 128 + l.val = 256 * t.val + (128 * b.val + l.val) by omega)

theorem arr7 : (dats m 0 c).arrAt 7 cfg0.N = val_main_v38 (F := Ideal) (a0 m c) (a1 m c) (a2 m c) (a3 m c) (a4 m c) (a5 m c) := by
  refine (dats m 0 c).arrAt_eq_of_covers 7 _ (by decide +kernel) fun t hf y => ?_
  blk_simp
  rw [after0_7]
  unfold outsAt0
  dsimp only
  obtain ⟨b, h, s, l, rfl⟩ : ∃ (b : Fin 2) (h : Fin 8) (s l : Fin 128), y = ix4 b h s l := ⟨y 0, y 1, y 2, y 3, eq_ix4 y⟩
  have e : (win0_7.blk t).view.emb (ix4 b h s l) = (ix4 (half t b) h s l : S128x8x128x128.Idx) := by
    blk_ext [idx t, half]
  rw [e, RefRU.s0_apply, lane_half]
  rw [out7_apply, que_block]
  simp only [b5]

theorem arr8 : (dats m 0 c).arrAt 8 cfg0.N = val_main_v42 (F := Ideal) (a0 m c) (a1 m c) (a2 m c) (a3 m c) (a4 m c) (a5 m c) := by
  refine (dats m 0 c).arrAt_eq_of_covers 8 _ (by decide +kernel) fun t hf y => ?_
  blk_simp
  rw [after0_8]
  unfold outsAt0
  dsimp only
  obtain ⟨b, h, s, l, rfl⟩ : ∃ (b : Fin 2) (h : Fin 8) (s l : Fin 128), y = ix4 b h s l := ⟨y 0, y 1, y 2, y 3, eq_ix4 y⟩
  have e : (win0_8.blk t).view.emb (ix4 b h s l) = (ix4 (half t b) h s l : S128x8x128x128.Idx) := by
    blk_ext [idx t, half]
  rw [e, RefRU.s1_apply, lane_half]
  rw [out8_apply, que_block]
  simp only [b5]

theorem algebraic : Cert.algebraic_RouteUIdeal_RouteURefIdeal := by
  intro m g m' g' _ hagree
  refine ⟨fun c => val_main_v34 (F := Ideal) (a0 m c) (a1 m c) (a2 m c) (a3 m c),
    fun c => val_main_v38 (F := Ideal) (a0 m c) (a1 m c) (a2 m c) (a3 m c) (a4 m c) (a5 m c),
    fun c => val_main_v42 (F := Ideal) (a0 m c) (a1 m c) (a2 m c) (a3 m c) (a4 m c) (a5 m c), ?_, ?_⟩
  · refine (θ_run Cert.RouteUIdeal.defs _ _).mono (fun r h c => ?_) (Cert.RouteUIdeal.Value.run_blocks (F := Ideal) m g)
    obtain ⟨h0, h1, h2, -, -, -, h3⟩ := h c
    exact ⟨h0.trans (arr6 m c), h1.trans (arr7 m c), h2.trans (arr8 m c), h3⟩
  · refine (θ_run Cert.RouteURefIdeal.defs _ _).mono (fun r h c => ?_) (Cert.RouteURefIdeal.Value.run (F := Ideal) m' g')
    obtain ⟨h0, h1, h2, h3⟩ := h c
    obtain ⟨e0, e1, e2, e3, e4, e5⟩ := hagree c
    refine ⟨h0.trans ((val_main_v34_eq ..).trans ?_), h1.trans ((val_main_v38_eq ..).trans ?_), h2.trans ((val_main_v42_eq ..).trans ?_), h3⟩
    · rw [e0, e1, e2, e3]
    · rw [e0, e1, e2, e3, e4, e5]
    · rw [e0, e1, e2, e3, e4, e5]

theorem frameRef : Cert.quiescent_RouteURefIdeal := fun m ρ _ =>
  (θ_run Cert.RouteURefIdeal.defs _ _).mono (fun _ h => ⟨fun c => (h c).2.2.2, sem_eq_zero_of_no_sems (by decide) _⟩)
    (Cert.RouteURefIdeal.Value.run (F := Ideal) m ρ)

end Cert.Mix.ClaimRU
-- ==== Proof.KerRV.lean ====
module

public import proofs.«01_k».proof.Proof.Gen.RouteVIdeal.Value
public import proofs.«01_k».proof.Proof.MathR
public import Idealize.ShloMosaic.Lib.Claim
public import Idealize.ShloMosaic.Lib.VecWindow
public import Idealize.ShloMosaic.Lib.Pointwise
public import Idealize.ShloMosaic.Lib.Pipeline.ReadBack
public import Idealize.ShloMosaic.Lib.Pipeline.ValueKit

/-! The samples' routing's kernel: what one grid point leaves in its blocks of the normed rows and of the scores, with the second layer's tables. -/

@[expose] public section

set_option backward.proofsInPublic true
set_option maxRecDepth 16384

noncomputable section

namespace Cert.Mix.KerRV

open Cert.RouteVIdeal Cert.RouteVIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (v0 : Vec Ideal S256x1024 .f32) (v1 : Vec Ideal S1x1024 .f32) (v15 v21 : Vec Ideal S1x256x1024 .f32) (v28 : Vec Ideal S1x2048x1024 .bf16)

/-- Row `r` of a block, normed and modulated. -/
abbrev hidB (r : Fin 256) : Fin 1024 → EReal :=
  hid (fun k => v0 (ix2 r k)) (fun k => v1 (ix2 0 k)) (fun k => v15 (ix3 0 r k)) (fun k => v21 (ix3 0 r k))

/-- The query of row `r` of a block. -/
abbrev queB (r : Fin 256) : Fin 2048 → EReal :=
  que (fun k => v0 (ix2 r k)) (fun k => v1 (ix2 0 k)) (fun k => v15 (ix3 0 r k)) (fun k => v21 (ix3 0 r k)) (fun q k => v28 (ix3 0 q k))

theorem hid_apply (k : Fin 1024) (r : Fin 256) : k0_pay2398 v0 v1 v15 v21 (ix2 k r) = hidB v0 v1 v15 v21 r k := by
  pointwise [k0_pay2398]
  rfl

theorem que_apply (q : Fin 2048) (r : Fin 256) : k0_pay2399 v0 v1 v15 v21 v28 (ix2 q r) = queB v0 v1 v15 v21 v28 r q := by
  pointwise [k0_pay2399, hid_apply, dot_S2048x1024_S1024x256_S2048x256_1_0_0_1_n_n]
  rfl

variable (v41 : Vec Ideal S1x1x1x128x128 .bf16) (v44 : Vec Ideal S128x256 .bf16)

theorem pay4_apply (y : Fin 128) (r : Fin 256) : k0_pay4 v41 v44 (ix2 y r) = (∑ d : Fin 128, v41 (ix5 0 0 0 y d) * v44 (ix2 d r) : EReal) := by
  pointwise [k0_pay4, dot_S128x128_S128x256_S128x256_1_0_0_1_n_n]

theorem pay5_apply (y : Fin 128) (r : Fin 256) : k0_pay5 v41 v44 (ix2 y r) = (∑ d : Fin 128, v41 (ix5 0 0 0 y d) * v44 (ix2 d r) : EReal) := by
  pointwise [k0_pay5, dot_S128x128_S128x256_S128x256_1_0_0_1_n_n]

theorem pay8_apply (y l : Fin 128) : k0_pay8 v41 v44 (ix4 0 0 y l) = (∑ d : Fin 128, v41 (ix5 0 0 0 y d) * v44 (ix2 d ⟨l.val, by omega⟩) : EReal) := by
  pointwise [k0_pay8, k0_pay6, pay4_apply]

theorem pay9_apply (y l : Fin 128) : k0_pay9 v41 v44 (ix4 0 0 y l) = (∑ d : Fin 128, v41 (ix5 0 0 0 y d) * v44 (ix2 d ⟨l.val, by omega⟩) : EReal) := by
  pointwise [k0_pay9, k0_pay7, pay5_apply]

theorem pay1180_apply (y l : Fin 128) :
    k0_pay1180 (k0_pay4 v41 v44) (ix4 0 0 y l) = (∑ d : Fin 128, v41 (ix5 0 0 0 y d) * v44 (ix2 d ⟨128 + l.val, by omega⟩) : EReal) := by
  pointwise [k0_pay1180, k0_pay1178, pay4_apply]

theorem pay1181_apply (y l : Fin 128) :
    k0_pay1181 (k0_pay5 v41 v44) (ix4 0 0 y l) = (∑ d : Fin 128, v41 (ix5 0 0 0 y d) * v44 (ix2 d ⟨128 + l.val, by omega⟩) : EReal) := by
  pointwise [k0_pay1181, k0_pay1179, pay5_apply]

end Payloads

/-! ### The loop over the heads -/

theorem off1 : ∀ k : Fin k0_t1_loop.trips, k0_off1 k = ![0, 0, k.val, 0, 0] := by decide +kernel
theorem off2a : ∀ k : Fin k0_t1_loop.trips, k0_off2 k 0#32 = ![(2 * k.val) * 128, 0] := by decide +kernel
theorem off2b : ∀ k : Fin k0_t1_loop.trips, k0_off2 k 1#32 = ![(2 * k.val + 1) * 128, 0] := by decide +kernel
theorem off3 : ∀ k : Fin k0_t1_loop.trips, k0_off3 k = ![0, 1, k.val, 0, 0] := by decide +kernel
theorem off4 : ∀ k : Fin k0_t1_loop.trips, k0_off4 k = ![0, k.val, 0, 0] := by decide +kernel
theorem off6 : ∀ k : Fin k0_t1_loop.trips, k0_off6 k = ![1, k.val, 0, 0] := by decide +kernel
theorem trips_le : ∀ k : Fin k0_t1_loop.trips, k.val < 8 := by decide +kernel

section Trip

variable (c : Dev nD)  (i : grid0.Coords) (arg1 : Memref sig .tc .vmem S256x1024 .f32) (harg1 : arg1.IsWhole) (arg2 : Memref sig .tc .vmem S1x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x2048x1024 .bf16) (harg5 : arg5.IsWhole) (arg6 : Memref sig .tc .vmem S1x2x8x128x128 .bf16) (harg6 : arg6.IsWhole) (arg7 : Memref sig .tc .vmem S1024x256 .bf16) (harg7 : arg7.IsWhole) (arg8 : Memref sig .tc .vmem S2x8x128x128 .f32) (harg8 : arg8.IsWhole) (arg9 : Memref sig .tc .vmem S2x8x128x128 .f32) (harg9 : arg9.IsWhole) (arg10 : Memref sig .tc .vmem S2x8x128x128 .f32) (harg10 : arg10.IsWhole) (arg11 : Memref sig .tc .vmem S2x8x128x128 .f32) (harg11 : arg11.IsWhole) (arg12 : Memref sig .tc .vmem S2x8x1x128 .f32) (harg12 : arg12.IsWhole) (arg13 : Memref sig .tc .vmem S2048x256 .bf16) (harg13 : arg13.IsWhole) (c0_i32 : BitVec 32) (X_arg6 : BufTy.Contents (Elt Ideal) arg6.view.ty) (X_arg13 : BufTy.Contents (Elt Ideal) arg13.view.ty)

theorem trip0 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 k).1
    = [⟨Rect.unit (k0_off6 k) ![1, 1, 128, 128] (k0_off6_inb k), k0_pay1180 (k0_pay4
          (arg6.view.readAt (Elt Ideal) (Rect.unit (k0_off1 k) ![1, 1, 1, 128, 128] (k0_off1_inb k)).toLoadRect X_arg6)
          (arg13.view.readAt (Elt Ideal) (Rect.unit (k0_off2 k 0#32) ![128, 256] (k0_off2_inb k 0)).toLoadRect X_arg13))⟩,
       ⟨Rect.unit (k0_off4 k) ![1, 1, 128, 128] (k0_off4_inb k), k0_pay8
          (arg6.view.readAt (Elt Ideal) (Rect.unit (k0_off1 k) ![1, 1, 1, 128, 128] (k0_off1_inb k)).toLoadRect X_arg6)
          (arg13.view.readAt (Elt Ideal) (Rect.unit (k0_off2 k 0#32) ![128, 256] (k0_off2_inb k 0)).toLoadRect X_arg13)⟩] := by
  dsimp only [tripL_k0_t1]
  unfold trip_k0_t1
  dsimp only
  sl_unfold_words
  rfl

theorem trip1 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 k).2.1
    = [⟨Rect.unit (k0_off6 k) ![1, 1, 128, 128] (k0_off6_inb k), k0_pay1181 (k0_pay5
          (arg6.view.readAt (Elt Ideal) (Rect.unit (k0_off3 k) ![1, 1, 1, 128, 128] (k0_off3_inb k)).toLoadRect X_arg6)
          (arg13.view.readAt (Elt Ideal) (Rect.unit (k0_off2 k 1#32) ![128, 256] (k0_off2_inb k 1)).toLoadRect X_arg13))⟩,
       ⟨Rect.unit (k0_off4 k) ![1, 1, 128, 128] (k0_off4_inb k), k0_pay9
          (arg6.view.readAt (Elt Ideal) (Rect.unit (k0_off3 k) ![1, 1, 1, 128, 128] (k0_off3_inb k)).toLoadRect X_arg6)
          (arg13.view.readAt (Elt Ideal) (Rect.unit (k0_off2 k 1#32) ![128, 256] (k0_off2_inb k 1)).toLoadRect X_arg13)⟩] := by
  dsimp only [tripL_k0_t1]
  unfold trip_k0_t1
  dsimp only
  sl_unfold_words
  rfl

variable (x5 : Vec Ideal S1x2x8x128x128 .bf16) (P : Vec Ideal S2048x256 .bf16)

/-- The score of half `p` at an index of a block, from the keys and the queries. -/
def val (p : Fin 2) (b : Fin 2) (h : Fin 8) (y l : Fin 128) : EReal :=
  sco (fun q => P (ix2 q ⟨128 * b.val + l.val, by omega⟩)) p h (fun d => x5 (ix5 0 p h y d))

variable {x5 P}

theorem ldK (k : Fin k0_t1_loop.trips) (h6 : arg6.view.read (Elt Ideal) X_arg6 = x5) (y d : Fin 128) (h : Fin 8) (hh : h.val = k.val) :
    (arg6.view.readAt (Elt Ideal) (Rect.unit (s := S1x2x8x128x128) (k0_off1 k) ![1, 1, 1, 128, 128] (k0_off1_inb k)).toLoadRect X_arg6 : S1x1x1x128x128.Idx → Elt Ideal .bf16) (ix5 0 0 0 y d) = x5 (ix5 0 0 h y d) := by
  rw [View.readAt_eq_ld, h6]
  refine View.ld_unit_apply_of _ _ _ _ _ _ fun a => ?_
  refine Eq.trans ?_ (congrArg (· + _) (congrFun (off1 k) a).symm)
  fin_cases a
  · rfl
  · rfl
  · exact hh
  · exact (Nat.zero_add _).symm
  · exact (Nat.zero_add _).symm

theorem ldK1 (k : Fin k0_t1_loop.trips) (h6 : arg6.view.read (Elt Ideal) X_arg6 = x5) (y d : Fin 128) (h : Fin 8) (hh : h.val = k.val) :
    (arg6.view.readAt (Elt Ideal) (Rect.unit (s := S1x2x8x128x128) (k0_off3 k) ![1, 1, 1, 128, 128] (k0_off3_inb k)).toLoadRect X_arg6 : S1x1x1x128x128.Idx → Elt Ideal .bf16) (ix5 0 0 0 y d) = x5 (ix5 0 1 h y d) := by
  rw [View.readAt_eq_ld, h6]
  refine View.ld_unit_apply_of _ _ _ _ _ _ fun a => ?_
  refine Eq.trans ?_ (congrArg (· + _) (congrFun (off3 k) a).symm)
  fin_cases a
  · rfl
  · rfl
  · exact hh
  · exact (Nat.zero_add _).symm
  · exact (Nat.zero_add _).symm

theorem ldQ (k : Fin k0_t1_loop.trips) (h13 : arg13.view.read (Elt Ideal) X_arg13 = P) (d : Fin 128) (r : Fin 256) (q : Fin 2048)
    (hq : q.val = 2 * k.val * 128 + d.val) :
    (arg13.view.readAt (Elt Ideal) (Rect.unit (s := S2048x256) (k0_off2 k 0#32) ![128, 256] (k0_off2_inb k 0)).toLoadRect X_arg13 : S128x256.Idx → Elt Ideal .bf16) (ix2 d r) = P (ix2 q r) := by
  rw [View.readAt_eq_ld, h13]
  refine View.ld_unit_apply_of _ _ _ _ _ _ fun a => ?_
  refine Eq.trans ?_ (congrArg (· + _) (congrFun (off2a k) a).symm)
  fin_cases a
  · exact hq
  · exact (Nat.zero_add _).symm

theorem ldQ1 (k : Fin k0_t1_loop.trips) (h13 : arg13.view.read (Elt Ideal) X_arg13 = P) (d : Fin 128) (r : Fin 256) (q : Fin 2048)
    (hq : q.val = (2 * k.val + 1) * 128 + d.val) :
    (arg13.view.readAt (Elt Ideal) (Rect.unit (s := S2048x256) (k0_off2 k 1#32) ![128, 256] (k0_off2_inb k 1)).toLoadRect X_arg13 : S128x256.Idx → Elt Ideal .bf16) (ix2 d r) = P (ix2 q r) := by
  rw [View.readAt_eq_ld, h13]
  refine View.ld_unit_apply_of _ _ _ _ _ _ fun a => ?_
  refine Eq.trans ?_ (congrArg (· + _) (congrFun (off2b k) a).symm)
  fin_cases a
  · exact hq
  · exact (Nat.zero_add _).symm

theorem allAt_append {S : Shape} {e : EltTy} {L M : List (View.Piece (Elt Ideal) S e)} {y : S.Idx} {v : Elt Ideal e}
    (h1 : View.AllAt L y v) (h2 : View.AllAt M y v) : View.AllAt (L ++ M) y v := fun p hp =>
  (List.mem_append.mp hp).elim (h1 p) (h2 p)

theorem at0 (h6 : arg6.view.read (Elt Ideal) X_arg6 = x5) (h13 : arg13.view.read (Elt Ideal) X_arg13 = P) (b : Fin 2) (h : Fin 8) (y l : Fin 128)
    (k : Fin k0_t1_loop.trips) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 k).1 (ix4 b h y l) (val x5 P 0 b h y l) := by
  rw [trip0]
  refine View.allAt_cons_unit _ _ _ _ _ (fun x hx => ?_) (View.allAt_cons_unit _ _ _ _ _ (fun x hx => ?_) (View.allAt_nil _ _))
  · rw [off6 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 1 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay1180_apply _ _ y l).trans (Finset.sum_congr rfl fun d _ => ?_)
    rw [ldK (h6 := h6) (h := h) (hh := by omega) .., ldQ (h13 := h13) (q := ⟨(2 * h.val + 0) * 128 + d.val, by omega⟩) (hq := by show (2 * h.val + 0) * 128 + d.val = _; omega) ..]
    refine congrArg (fun z : Fin 256 => (x5 _ * P (ix2 _ z) : EReal)) (Fin.ext ?_)
    show 128 + l.val = 128 * b.val + l.val
    omega
  · rw [off4 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 0 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay8_apply _ _ y l).trans (Finset.sum_congr rfl fun d _ => ?_)
    rw [ldK (h6 := h6) (h := h) (hh := by omega) .., ldQ (h13 := h13) (q := ⟨(2 * h.val + 0) * 128 + d.val, by omega⟩) (hq := by show (2 * h.val + 0) * 128 + d.val = _; omega) ..]
    refine congrArg (fun z : Fin 256 => (x5 _ * P (ix2 _ z) : EReal)) (Fin.ext ?_)
    show l.val = 128 * b.val + l.val
    omega

theorem all0 (h6 : arg6.view.read (Elt Ideal) X_arg6 = x5) (h13 : arg13.view.read (Elt Ideal) X_arg13 = P) (b : Fin 2) (h : Fin 8) (y l : Fin 128)
    (n : ℕ) (hn : n ≤ k0_t1_loop.trips) : View.AllAt (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 n).1 (ix4 b h y l) (val x5 P 0 b h y l) := by
  induction n with
  | zero => exact View.allAt_nil _ _
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 ⟨n, hn⟩
    dsimp only at e
    rw [e]
    exact allAt_append (at0 c i arg1 harg1 arg2 harg2 arg3 harg3 arg4 harg4 arg5 harg5 arg6 harg6 arg7 harg7 arg8 harg8 arg9 harg9 arg10 harg10 arg11 harg11 arg12 harg12 arg13 harg13 c0_i32 X_arg6 X_arg13 h6 h13 b h y l ⟨n, hn⟩) (ih (Nat.le_of_succ_le hn))

theorem at1 (h6 : arg6.view.read (Elt Ideal) X_arg6 = x5) (h13 : arg13.view.read (Elt Ideal) X_arg13 = P) (b : Fin 2) (h : Fin 8) (y l : Fin 128)
    (k : Fin k0_t1_loop.trips) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 k).2.1 (ix4 b h y l) (val x5 P 1 b h y l) := by
  rw [trip1]
  refine View.allAt_cons_unit _ _ _ _ _ (fun x hx => ?_) (View.allAt_cons_unit _ _ _ _ _ (fun x hx => ?_) (View.allAt_nil _ _))
  · rw [off6 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 1 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay1181_apply _ _ y l).trans (Finset.sum_congr rfl fun d _ => ?_)
    rw [ldK1 (h6 := h6) (h := h) (hh := by omega) .., ldQ1 (h13 := h13) (q := ⟨(2 * h.val + 1) * 128 + d.val, by omega⟩) (hq := by show (2 * h.val + 1) * 128 + d.val = _; omega) ..]
    refine congrArg (fun z : Fin 256 => (x5 _ * P (ix2 _ z) : EReal)) (Fin.ext ?_)
    show 128 + l.val = 128 * b.val + l.val
    omega
  · rw [off4 k] at hx
    obtain ⟨a0, a1, a2, a3, rfl⟩ : ∃ (a0 a1 : Fin 1) (a2 a3 : Fin 128), x = ix4 a0 a1 a2 a3 := ⟨x 0, x 1, x 2, x 3, eq_ix4 x⟩
    obtain rfl := Subsingleton.elim a0 0
    obtain rfl := Subsingleton.elim a1 0
    have g0 : b.val = 0 + 0 := hx 0
    have g1 : h.val = k.val + 0 := hx 1
    have g2 : y.val = 0 + a2.val := hx 2
    have g3 : l.val = 0 + a3.val := hx 3
    obtain rfl : y = a2 := Fin.ext (by omega)
    obtain rfl : l = a3 := Fin.ext (by omega)
    unfold val sco
    refine (pay9_apply _ _ y l).trans (Finset.sum_congr rfl fun d _ => ?_)
    rw [ldK1 (h6 := h6) (h := h) (hh := by omega) .., ldQ1 (h13 := h13) (q := ⟨(2 * h.val + 1) * 128 + d.val, by omega⟩) (hq := by show (2 * h.val + 1) * 128 + d.val = _; omega) ..]
    refine congrArg (fun z : Fin 256 => (x5 _ * P (ix2 _ z) : EReal)) (Fin.ext ?_)
    show l.val = 128 * b.val + l.val
    omega

theorem all1 (h6 : arg6.view.read (Elt Ideal) X_arg6 = x5) (h13 : arg13.view.read (Elt Ideal) X_arg13 = P) (b : Fin 2) (h : Fin 8) (y l : Fin 128)
    (n : ℕ) (hn : n ≤ k0_t1_loop.trips) : View.AllAt (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 n).2.1 (ix4 b h y l) (val x5 P 1 b h y l) := by
  induction n with
  | zero => exact View.allAt_nil _ _
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 c0_i32 X_arg6 X_arg13 ⟨n, hn⟩
    dsimp only at e
    rw [e]
    exact allAt_append (at1 c i arg1 harg1 arg2 harg2 arg3 harg3 arg4 harg4 arg5 harg5 arg6 harg6 arg7 harg7 arg8 harg8 arg9 harg9 arg10 harg10 arg11 harg11 arg12 harg12 arg13 harg13 c0_i32 X_arg6 X_arg13 h6 h13 b h y l ⟨n, hn⟩) (ih (Nat.le_of_succ_le hn))

end Trip

/-! ### The blocks -/

section Outputs

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x2048x1024 .bf16) (harg5 : arg5.IsWhole) (arg6 : Memref sig .tc .vmem S1x2x8x128x128 .bf16) (harg6 : arg6.IsWhole) (arg7 : Memref sig .tc .vmem S1024x256 .bf16) (harg7 : arg7.IsWhole) (arg8 : Memref sig .tc .vmem S2x8x128x128 .f32) (harg8 : arg8.IsWhole) (arg9 : Memref sig .tc .vmem S2x8x128x128 .f32) (harg9 : arg9.IsWhole) (arg10 : Memref sig .tc .vmem S2x8x128x128 .f32) (harg10 : arg10.IsWhole) (arg11 : Memref sig .tc .vmem S2x8x128x128 .f32) (harg11 : arg11.IsWhole) (arg12 : Memref sig .tc .vmem S2x8x1x128 .f32) (harg12 : arg12.IsWhole) (arg13 : Memref sig .tc .vmem S2048x256 .bf16) (harg13 : arg13.IsWhole)
    (x0 : Vec Ideal S256x1024 .f32) (x1 : Vec Ideal S1x1024 .f32) (x2 : Vec Ideal S1x256x1024 .f32) (x3 : Vec Ideal S1x256x1024 .f32) (x4 : Vec Ideal S1x2048x1024 .bf16) (x5 : Vec Ideal S1x2x8x128x128 .bf16)

theorem out6_apply (k : Fin 1024) (r : Fin 256) : out0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix2 k r) = hidB x0 x1 x2 x3 r k := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun0_A
  dsimp only
  unfold kernelRun0_A.sl.H6_1
  rw [View.canon_unit_zero hz2]
  simp only [View.readAt_eq_ld, Memref.IsWhole.read_unread, View.ld_unit_zero (S := S256x1024) hz2, View.ld_unit_zero (S := S1x1024) hz2,
    View.ld_unit_zero (S := S1x256x1024) hz3]
  exact hid_apply ..

theorem out7_apply (b : Fin 2) (h : Fin 8) (y l : Fin 128) : out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
    = sco (queB x0 x1 x2 x3 x4 ⟨128 * b.val + l.val, by omega⟩) 0 h (fun d => x5 (ix5 0 0 h y d)) := by
  have hc := cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  refine (View.canon_eq_of_allAt _ _ (val x5 (k0_pay2399 x0 x1 x2 x3 x4) 0 b h y l) hc ?_).trans ?_
  · unfold kernelRun0_A
    dsimp only
    sl_unfold_words
    refine all0 c i arg1 harg1 arg2 harg2 arg3 harg3 arg4 harg4 arg5 harg5 arg6 harg6 arg7 harg7 arg8 harg8 arg9 harg9 arg10 harg10 arg11 harg11 arg12 harg12 arg13 harg13 _ _ _ (Memref.IsWhole.read_unread ..) ?_ b h y l _ (le_of_eq rfl)
    refine (View.read_writes_full ..).trans ?_
    simp only [View.readAt_eq_ld, Memref.IsWhole.read_unread, View.ld_unit_zero (S := S256x1024) hz2, View.ld_unit_zero (S := S1x1024) hz2,
      View.ld_unit_zero (S := S1x256x1024) hz3, View.ld_unit_zero (S := S1x2048x1024) hz3]
  · unfold val
    simp only [que_apply]

theorem out8_apply (b : Fin 2) (h : Fin 8) (y l : Fin 128) : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
    = sco (queB x0 x1 x2 x3 x4 ⟨128 * b.val + l.val, by omega⟩) 1 h (fun d => x5 (ix5 0 1 h y d)) := by
  have hc := cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b h y l)
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  refine (View.canon_eq_of_allAt _ _ (val x5 (k0_pay2399 x0 x1 x2 x3 x4) 1 b h y l) hc ?_).trans ?_
  · unfold kernelRun0_A
    dsimp only
    sl_unfold_words
    refine all1 c i arg1 harg1 arg2 harg2 arg3 harg3 arg4 harg4 arg5 harg5 arg6 harg6 arg7 harg7 arg8 harg8 arg9 harg9 arg10 harg10 arg11 harg11 arg12 harg12 arg13 harg13 _ _ _ (Memref.IsWhole.read_unread ..) ?_ b h y l _ (le_of_eq rfl)
    refine (View.read_writes_full ..).trans ?_
    simp only [View.readAt_eq_ld, Memref.IsWhole.read_unread, View.ld_unit_zero (S := S256x1024) hz2, View.ld_unit_zero (S := S1x1024) hz2,
      View.ld_unit_zero (S := S1x256x1024) hz3, View.ld_unit_zero (S := S1x2048x1024) hz3]
  · unfold val
    simp only [que_apply]

end Outputs

end Cert.Mix.KerRV
-- ==== Proof.RefRV.lean ====
module

public import proofs.«01_k».proof.Proof.MathR
public import proofs.«01_k».proof.Proof.Gen.RouteVRefIdeal.Read

/-! The samples' routing's reference read at an index, with the second layer's tables. -/

@[expose] public section

set_option backward.proofsInPublic true

noncomputable section

namespace Cert.Mix.RefRV

open Cert.RouteVRefIdeal Cert.RouteVRefIdeal.Read Idealize.ShloMosaic

variable (x0 : (⟨S1024x1024, .f32⟩ : BufTy).Contents (Elt Ideal)) (x1 : (⟨S1024, .f32⟩ : BufTy).Contents (Elt Ideal))
  (x2 x3 : (⟨S128x1024, .f32⟩ : BufTy).Contents (Elt Ideal)) (x4 : (⟨S2x2048x1024, .bf16⟩ : BufTy).Contents (Elt Ideal))
  (x5 : (⟨S2x2x8x128x128, .f32⟩ : BufTy).Contents (Elt Ideal))

/-- Row `t` of sequence `b`. -/
def row (b : Fin 128) (t : Fin 8) : Fin 1024 := ⟨b.val * 8 + t.val, by omega⟩

/-- The sequence of row `n`. -/
def seqOf (n : Fin 1024) : Fin 128 := ⟨n.val / 8, by omega⟩

/-- The modulated normed row `n`. -/
abbrev hidR (n : Fin 1024) : Fin 1024 → EReal :=
  hid (fun k => x0 (ix2 n k)) (fun k => x1 (ix1 k)) (fun k => x2 (ix2 (seqOf n) k)) (fun k => x3 (ix2 (seqOf n) k))

/-- The query of row `n`. -/
abbrev queR (n : Fin 1024) : Fin 2048 → EReal :=
  que (fun k => x0 (ix2 n k)) (fun k => x1 (ix1 k)) (fun k => x2 (ix2 (seqOf n) k)) (fun k => x3 (ix2 (seqOf n) k)) (fun r k => x4 (ix3 1 r k))

theorem x_apply (b : Fin 128) (t : Fin 8) (k : Fin 1024) : val_main_v0 (F := Ideal) x0 (ix3 b t k) = x0 (ix2 (row b t) k) := by
  rw [val_main_v0_apply]; congr 1; funext a
  match a with
  | ⟨0, _⟩ => exact Fin.ext (show ((b.val * 8 + t.val) * 1024 + k.val) / 1024 = b.val * 8 + t.val by omega)
  | ⟨1, _⟩ => exact Fin.ext (show ((b.val * 8 + t.val) * 1024 + k.val) % 1024 = k.val by omega)

theorem h_apply (b : Fin 128) (t : Fin 8) (k : Fin 1024) :
    val_main_v21 (F := Ideal) x0 x1 x2 x3 (ix3 b t k)
      = hid (fun j => x0 (ix2 (row b t) j)) (fun j => x1 (ix1 j)) (fun j => x2 (ix2 b j)) (fun j => x3 (ix2 b j)) k := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_cst, val_main_cst_0, val_main_cst_1, val_main_cst_2, x_apply]
  rfl

theorem h2_apply (n : Fin 1024) (k : Fin 1024) : val_main_v22 (F := Ideal) x0 x1 x2 x3 (ix2 n k) = hidR x0 x1 x2 x3 n k := by
  have e : idx_main_v22 (ix2 n k) = ix3 (seqOf n) ⟨n.val % 8, by omega⟩ k := by
    funext a
    match a with
    | ⟨0, _⟩ => exact Fin.ext (show (n.val * 1024 + k.val) / 8192 = n.val / 8 by omega)
    | ⟨1, _⟩ => exact Fin.ext (show (n.val * 1024 + k.val) / 1024 % 8 = n.val % 8 by omega)
    | ⟨2, _⟩ => exact Fin.ext (show (n.val * 1024 + k.val) % 1024 = k.val by omega)
  rw [val_main_v22_apply, e, h_apply,
    show row (seqOf n) ⟨n.val % 8, by omega⟩ = n from Fin.ext (show n.val / 8 * 8 + n.val % 8 = n.val by omega)]

theorem w_apply (r : Fin 2048) (k : Fin 1024) : val_main_v24 (F := Ideal) x4 (ix2 r k) = x4 (ix3 1 r k) := by
  rw [val_main_v24_apply, val_main_v23_apply]; congr 1; funext a
  match a with
  | ⟨0, _⟩ => rfl
  | ⟨1, _⟩ => exact Fin.ext (show (r.val * 1024 + k.val) / 1024 % 2048 = r.val by omega)
  | ⟨2, _⟩ => exact Fin.ext (show (r.val * 1024 + k.val) % 1024 = k.val by omega)

theorem q_apply (n : Fin 1024) (r : Fin 2048) : val_main_v27 (F := Ideal) x0 x1 x2 x3 x4 (ix2 n r) = queR x0 x1 x2 x3 x4 n r := by
  pointwise [val_main_v27, val_main_v26, val_main_v25, dot_S1024x1024_S1024x2048_S1024x2048_1_0_0_1_n_n, h2_apply, w_apply]
  exact Finset.sum_congr rfl fun k _ => mul_comm _ _

theorem q4_apply (n : Fin 1024) (h : Fin 8) (p : Fin 2) (d : Fin 128) : val_main_v28 (F := Ideal) x0 x1 x2 x3 x4 (ix4 n h p d)
    = queR x0 x1 x2 x3 x4 n ⟨(2 * h.val + p.val) * 128 + d.val, by omega⟩ := by
  have e : idx_main_v28 (ix4 n h p d) = ix2 n ⟨(2 * h.val + p.val) * 128 + d.val, by omega⟩ := by
    funext a
    match a with
    | ⟨0, _⟩ => exact Fin.ext (show (((n.val * 8 + h.val) * 2 + p.val) * 128 + d.val) / 2048 = n.val by omega)
    | ⟨1, _⟩ => exact Fin.ext (show (((n.val * 8 + h.val) * 2 + p.val) * 128 + d.val) % 2048 = (2 * h.val + p.val) * 128 + d.val by omega)
  rw [val_main_v28_apply, e, q_apply]

theorem s_apply (p : Fin 2) (h : Fin 8) (y d : Fin 128) : val_main_v30 (F := Ideal) x5 (ix4 p h y d) = x5 (ix5 1 p h y d) := by
  rw [val_main_v30_apply, val_main_v29_apply]; congr 1; funext a
  match a with
  | ⟨0, _⟩ => rfl
  | ⟨1, _⟩ => exact Fin.ext (show (((p.val * 8 + h.val) * 128 + y.val) * 128 + d.val) / 131072 % 2 = p.val by omega)
  | ⟨2, _⟩ => exact Fin.ext (show (((p.val * 8 + h.val) * 128 + y.val) * 128 + d.val) / 16384 % 8 = h.val by omega)
  | ⟨3, _⟩ => exact Fin.ext (show (((p.val * 8 + h.val) * 128 + y.val) * 128 + d.val) / 128 % 128 = y.val by omega)
  | ⟨4, _⟩ => exact Fin.ext (show (((p.val * 8 + h.val) * 128 + y.val) * 128 + d.val) % 128 = d.val by omega)

theorem sc_apply (h : Fin 8) (p : Fin 2) (y : Fin 128) (n : Fin 1024) : val_main_v31 (F := Ideal) x0 x1 x2 x3 x4 x5 (ix4 h p y n)
    = sco (queR x0 x1 x2 x3 x4 n) p h (fun d => x5 (ix5 1 p h y d)) := by
  pointwise [val_main_v31, dot_S2x8x128x128_S1024x8x2x128_S8x2x128x1024_3_3_2_0_10_12, s_apply, q4_apply]
  rfl

theorem sct_apply (n : Fin 1024) (h : Fin 8) (p : Fin 2) (y : Fin 128) : val_main_v32 (F := Ideal) x0 x1 x2 x3 x4 x5 (ix4 n h p y)
    = sco (queR x0 x1 x2 x3 x4 n) p h (fun d => x5 (ix5 1 p h y d)) := by
  rw [val_main_v32_apply, show idx_main_v32 (ix4 n h p y) = ix4 h p y n from funext fun a => by fin_cases a <;> rfl, sc_apply]

theorem ht_apply (k : Fin 1024) (n : Fin 1024) : val_main_v34 (F := Ideal) x0 x1 x2 x3 (ix2 k n) = hidR x0 x1 x2 x3 n k := by
  pointwise [val_main_v34, val_main_v33, h2_apply]

/-- Lane `l` of block `g` of 128 rows. -/
def lane (g : Fin 8) (l : Fin 128) : Fin 1024 := ⟨g.val * 128 + l.val, by omega⟩

theorem s0_apply (g h : Fin 8) (y l : Fin 128) : val_main_v38 (F := Ideal) x0 x1 x2 x3 x4 x5 (ix4 g h y l)
    = sco (queR x0 x1 x2 x3 x4 (lane g l)) 0 h (fun d => x5 (ix5 1 0 h y d)) := by
  have e1 : idx_main_v38 (ix4 g h y l) = ix4 g l h y := funext fun a => by fin_cases a <;> rfl
  have e2 : idx_main_v37 (ix4 g l h y) = ix3 (lane g l) h y := by
    funext a
    match a with
    | ⟨0, _⟩ => exact Fin.ext (show (((g.val * 128 + l.val) * 8 + h.val) * 128 + y.val) / 1024 = g.val * 128 + l.val by omega)
    | ⟨1, _⟩ => exact Fin.ext (show (((g.val * 128 + l.val) * 8 + h.val) * 128 + y.val) / 128 % 8 = h.val by omega)
    | ⟨2, _⟩ => exact Fin.ext (show (((g.val * 128 + l.val) * 8 + h.val) * 128 + y.val) % 128 = y.val by omega)
  have e3 : ∀ n : Fin 1024, idx_main_v36 (ix3 n h y) = ix4 n h 0 y := fun n => by
    funext a
    match a with
    | ⟨0, _⟩ => exact Fin.ext (show ((n.val * 8 + h.val) * 128 + y.val) / 1024 = n.val by omega)
    | ⟨1, _⟩ => exact Fin.ext (show ((n.val * 8 + h.val) * 128 + y.val) / 128 % 8 = h.val by omega)
    | ⟨2, _⟩ => rfl
    | ⟨3, _⟩ => exact Fin.ext (show ((n.val * 8 + h.val) * 128 + y.val) % 128 = y.val by omega)
  have e4 : ∀ n : Fin 1024, idx_main_v35 (ix4 n h 0 y) = ix4 n h 0 y := fun n => funext fun a => by fin_cases a <;> rfl
  rw [val_main_v38_apply, e1, val_main_v37_apply, e2, val_main_v36_apply, e3, val_main_v35_apply, e4, sct_apply]

theorem s1_apply (g h : Fin 8) (y l : Fin 128) : val_main_v42 (F := Ideal) x0 x1 x2 x3 x4 x5 (ix4 g h y l)
    = sco (queR x0 x1 x2 x3 x4 (lane g l)) 1 h (fun d => x5 (ix5 1 1 h y d)) := by
  have e1 : idx_main_v42 (ix4 g h y l) = ix4 g l h y := funext fun a => by fin_cases a <;> rfl
  have e2 : idx_main_v41 (ix4 g l h y) = ix3 (lane g l) h y := by
    funext a
    match a with
    | ⟨0, _⟩ => exact Fin.ext (show (((g.val * 128 + l.val) * 8 + h.val) * 128 + y.val) / 1024 = g.val * 128 + l.val by omega)
    | ⟨1, _⟩ => exact Fin.ext (show (((g.val * 128 + l.val) * 8 + h.val) * 128 + y.val) / 128 % 8 = h.val by omega)
    | ⟨2, _⟩ => exact Fin.ext (show (((g.val * 128 + l.val) * 8 + h.val) * 128 + y.val) % 128 = y.val by omega)
  have e3 : ∀ n : Fin 1024, idx_main_v40 (ix3 n h y) = ix4 n h 0 y := fun n => by
    funext a
    match a with
    | ⟨0, _⟩ => exact Fin.ext (show ((n.val * 8 + h.val) * 128 + y.val) / 1024 = n.val by omega)
    | ⟨1, _⟩ => exact Fin.ext (show ((n.val * 8 + h.val) * 128 + y.val) / 128 % 8 = h.val by omega)
    | ⟨2, _⟩ => rfl
    | ⟨3, _⟩ => exact Fin.ext (show ((n.val * 8 + h.val) * 128 + y.val) % 128 = y.val by omega)
  have e4 : ∀ n : Fin 1024, idx_main_v39 (ix4 n h 0 y) = ix4 n h 1 y := fun n => funext fun a => by fin_cases a <;> rfl
  rw [val_main_v42_apply, e1, val_main_v41_apply, e2, val_main_v40_apply, e3, val_main_v39_apply, e4, sct_apply]

end Cert.Mix.RefRV
-- ==== Proof.ClaimRV.lean ====
module

public import proofs.«01_k».proof.Defs
public import proofs.«01_k».proof.Proof.KerRV
public import proofs.«01_k».proof.Proof.RefRV
public import proofs.«01_k».proof.Proof.Gen.RouteVRefIdeal.Run

/-! The claim about the samples' routing: the kernel's normed rows and scores are its reference's, with the second layer's tables. -/

@[expose] public section

set_option backward.proofsInPublic true

noncomputable section

namespace Cert.Mix.ClaimRV

open Cert.RouteVIdeal Cert.RouteVIdeal.Gen Idealize.ShloMosaic Idealize.ShloMosaic.TcCoe Idealize.SL.Sem
open Cert.RouteVRefIdeal.Read Cert.Mix.KerRV

variable (m : (ℓ : Loc nD τ sig) → Buf (Elt Ideal) ℓ) (c : Dev nD) (t : Fin cfg0.N)

/-! ### The arguments -/

abbrev a0 : (⟨S1024x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S128x1024, .f32⟩ : BufTy).Contents (Elt Ideal) := m ((c : Thread nD τ).loc main_arg2)
abbrev a3 : (⟨S128x1024, .f32⟩ : BufTy).Contents (Elt Ideal) := m ((c : Thread nD τ).loc main_arg3)
abbrev a4 : (⟨S2x2048x1024, .bf16⟩ : BufTy).Contents (Elt Ideal) := m ((c : Thread nD τ).loc main_arg4)
abbrev a5 : (⟨S2x2x8x128x128, .f32⟩ : BufTy).Contents (Elt Ideal) := m ((c : Thread nD τ).loc main_arg5)

theorem idx : ∀ t : Fin cfg0.N, win0_0.index t = ![t.val, 0] ∧ win0_1.index t = ![0, 0] ∧ win0_2.index t = ![t.val, 0, 0]
    ∧ win0_3.index t = ![t.val, 0, 0] ∧ win0_4.index t = ![1, 0, 0] ∧ win0_5.index t = ![1, 0, 0, 0, 0] ∧ win0_6.index t = ![0, t.val]
    ∧ win0_7.index t = ![t.val, 0, 0, 0] ∧ win0_8.index t = ![t.val, 0, 0, 0] := by decide +kernel

theorem t_lt : t.val < 4 := t.isLt

/-- The row of the whole that is row `r` of block `t`. -/
def rowOf (r : Fin 256) : Fin 1024 := ⟨256 * t.val + r.val, by have := t_lt t; omega⟩

/-- The block of 128 rows that is half `b` of block `t`. -/
def half (b : Fin 2) : Fin 8 := ⟨2 * t.val + b.val, by have := t_lt t; omega⟩

/-! ### The blocks read -/

theorem b0 (r : Fin 256) (k : Fin 1024) : iblk m c 0 t (ix2 r k) = a0 m c (ix2 (rowOf t r) k) := by
  blk_ext [iblk, idx t, rowOf]

theorem b1 (k : Fin 1024) : iblk m c 1 t (ix2 0 k) = a1 m c (ix1 k) := by
  have e : (win0_1.blk t).view.emb (ix2 0 k) = (ix2 0 k : S1x1024.Idx) := by blk_ext [idx t]
  show V m c main_v0 ((win0_1.blk t).view.emb (ix2 0 k)) = _
  rw [e]
  entry_read
  pointwise

theorem b2 (r : Fin 256) (k : Fin 1024) : iblk m c 2 t (ix3 0 r k) = a2 m c (ix2 (RefRV.seqOf (rowOf t r)) k) := by
  have e : (win0_2.blk t).view.emb (ix3 0 r k) = (ix3 ⟨t.val, t.isLt⟩ r k : S4x256x1024.Idx) := by blk_ext [idx t]
  show V m c main_v4 ((win0_2.blk t).view.emb (ix3 0 r k)) = _
  rw [e]
  entry_read
  pointwise
  show m ((c : Thread nD τ).loc main_arg2) _ = _
  congr 2
  exact Fin.ext (show t.val * 32 + r.val / 8 = (256 * t.val + r.val) / 8 by omega)

theorem b3 (r : Fin 256) (k : Fin 1024) : iblk m c 3 t (ix3 0 r k) = a3 m c (ix2 (RefRV.seqOf (rowOf t r)) k) := by
  have e : (win0_3.blk t).view.emb (ix3 0 r k) = (ix3 ⟨t.val, t.isLt⟩ r k : S4x256x1024.Idx) := by blk_ext [idx t]
  show V m c main_v7 ((win0_3.blk t).view.emb (ix3 0 r k)) = _
  rw [e]
  entry_read
  pointwise
  show m ((c : Thread nD τ).loc main_arg3) _ = _
  congr 2
  exact Fin.ext (show t.val * 32 + r.val / 8 = (256 * t.val + r.val) / 8 by omega)

theorem b4 (q : Fin 2048) (k : Fin 1024) : iblk m c 4 t (ix3 0 q k) = a4 m c (ix3 1 q k) := by
  blk_ext [iblk, idx t]

theorem b5 (p : Fin 2) (h : Fin 8) (y d : Fin 128) : iblk m c 5 t (ix5 0 p h y d) = a5 m c (ix5 1 p h y d) := by
  have e : (win0_5.blk t).view.emb (ix5 0 p h y d) = (ix5 1 p h y d : S2x2x8x128x128.Idx) := by blk_ext [idx t]
  show V m c main_v1 ((win0_5.blk t).view.emb (ix5 0 p h y d)) = _
  rw [e]
  entry_read
  pointwise

theorem hid_block (r : Fin 256) : hidB (iblk m c 0 t) (iblk m c 1 t) (iblk m c 2 t) (iblk m c 3 t) r
    = RefRV.hidR (a0 m c) (a1 m c) (a2 m c) (a3 m c) (rowOf t r) := by
  unfold hidB
  simp only [b0, b1, b2, b3]

theorem que_block (r : Fin 256) : queB (iblk m c 0 t) (iblk m c 1 t) (iblk m c 2 t) (iblk m c 3 t) (iblk m c 4 t) r
    = RefRV.queR (a0 m c) (a1 m c) (a2 m c) (a3 m c) (a4 m c) (rowOf t r) := by
  unfold queB
  simp only [b0, b1, b2, b3, b4]

/-! ### The output arrays -/

theorem arr6 : (dats m 0 c).arrAt 6 cfg0.N = val_main_v34 (F := Ideal) (a0 m c) (a1 m c) (a2 m c) (a3 m c) := by
  refine (dats m 0 c).arrAt_eq_of_covers 6 _ (by decide +kernel) fun t hf y => ?_
  blk_simp
  rw [after0_6]
  unfold outsAt0
  dsimp only
  obtain ⟨k, r, rfl⟩ : ∃ (k : Fin 1024) (r : Fin 256), y = ix2 k r := ⟨y 0, y 1, eq_ix2 y⟩
  have e : (win0_6.blk t).view.emb (ix2 k r) = (ix2 k (rowOf t r) : S1024x1024.Idx) := by
    blk_ext [idx t, rowOf]
  rw [e, RefRV.ht_apply]
  rw [out6_apply, hid_block]

theorem lane_half (b : Fin 2) (l : Fin 128) : RefRV.lane (half t b) l = rowOf t ⟨128 * b.val + l.val, by omega⟩ :=
  Fin.ext (show (2 * t.val + b.val) * 128 + l.val = 256 * t.val + (128 * b.val + l.val) by omega)

theorem arr7 : (dats m 0 c).arrAt 7 cfg0.N = val_main_v38 (F := Ideal) (a0 m c) (a1 m c) (a2 m c) (a3 m c) (a4 m c) (a5 m c) := by
  refine (dats m 0 c).arrAt_eq_of_covers 7 _ (by decide +kernel) fun t hf y => ?_
  blk_simp
  rw [after0_7]
  unfold outsAt0
  dsimp only
  obtain ⟨b, h, s, l, rfl⟩ : ∃ (b : Fin 2) (h : Fin 8) (s l : Fin 128), y = ix4 b h s l := ⟨y 0, y 1, y 2, y 3, eq_ix4 y⟩
  have e : (win0_7.blk t).view.emb (ix4 b h s l) = (ix4 (half t b) h s l : S8x8x128x128.Idx) := by
    blk_ext [idx t, half]
  rw [e, RefRV.s0_apply, lane_half]
  rw [out7_apply, que_block]
  simp only [b5]

theorem arr8 : (dats m 0 c).arrAt 8 cfg0.N = val_main_v42 (F := Ideal) (a0 m c) (a1 m c) (a2 m c) (a3 m c) (a4 m c) (a5 m c) := by
  refine (dats m 0 c).arrAt_eq_of_covers 8 _ (by decide +kernel) fun t hf y => ?_
  blk_simp
  rw [after0_8]
  unfold outsAt0
  dsimp only
  obtain ⟨b, h, s, l, rfl⟩ : ∃ (b : Fin 2) (h : Fin 8) (s l : Fin 128), y = ix4 b h s l := ⟨y 0, y 1, y 2, y 3, eq_ix4 y⟩
  have e : (win0_8.blk t).view.emb (ix4 b h s l) = (ix4 (half t b) h s l : S8x8x128x128.Idx) := by
    blk_ext [idx t, half]
  rw [e, RefRV.s1_apply, lane_half]
  rw [out8_apply, que_block]
  simp only [b5]

theorem algebraic : Cert.algebraic_RouteVIdeal_RouteVRefIdeal := by
  intro m g m' g' _ hagree
  refine ⟨fun c => val_main_v34 (F := Ideal) (a0 m c) (a1 m c) (a2 m c) (a3 m c),
    fun c => val_main_v38 (F := Ideal) (a0 m c) (a1 m c) (a2 m c) (a3 m c) (a4 m c) (a5 m c),
    fun c => val_main_v42 (F := Ideal) (a0 m c) (a1 m c) (a2 m c) (a3 m c) (a4 m c) (a5 m c), ?_, ?_⟩
  · refine (θ_run Cert.RouteVIdeal.defs _ _).mono (fun r h c => ?_) (Cert.RouteVIdeal.Value.run_blocks (F := Ideal) m g)
    obtain ⟨h0, h1, h2, -, -, -, h3⟩ := h c
    exact ⟨h0.trans (arr6 m c), h1.trans (arr7 m c), h2.trans (arr8 m c), h3⟩
  · refine (θ_run Cert.RouteVRefIdeal.defs _ _).mono (fun r h c => ?_) (Cert.RouteVRefIdeal.Value.run (F := Ideal) m' g')
    obtain ⟨h0, h1, h2, h3⟩ := h c
    obtain ⟨e0, e1, e2, e3, e4, e5⟩ := hagree c
    refine ⟨h0.trans ((val_main_v34_eq ..).trans ?_), h1.trans ((val_main_v38_eq ..).trans ?_), h2.trans ((val_main_v42_eq ..).trans ?_), h3⟩
    · rw [e0, e1, e2, e3]
    · rw [e0, e1, e2, e3, e4, e5]
    · rw [e0, e1, e2, e3, e4, e5]

theorem frameRef : Cert.quiescent_RouteVRefIdeal := fun m ρ _ =>
  (θ_run Cert.RouteVRefIdeal.defs _ _).mono (fun _ h => ⟨fun c => (h c).2.2.2, sem_eq_zero_of_no_sems (by decide) _⟩)
    (Cert.RouteVRefIdeal.Value.run (F := Ideal) m ρ)

end Cert.Mix.ClaimRV
-- ==== Proof.ClaimM.lean ====
module

public import proofs.«01_k».proof.Defs
public import proofs.«01_k».proof.Proof.Gen.AdaIdeal.Value
public import proofs.«01_k».proof.Proof.Gen.AdaRefIdeal.Read
public import proofs.«01_k».proof.Proof.Gen.AdaRefIdeal.Run
public import Idealize.ShloMosaic.Lib.Claim
public import Idealize.ShloMosaic.Lib.Pointwise
public import Idealize.ShloMosaic.Lib.Pipeline.ReadBack
public import Idealize.ShloMosaic.Lib.Pipeline.ValueKit

/-! The claim about the modulation: the kernel's result is its reference's. -/

@[expose] public section

set_option backward.proofsInPublic true

noncomputable section

namespace Cert.Mix.ClaimM

open Cert.AdaIdeal Cert.AdaIdeal.Gen Idealize.ShloMosaic Idealize.ShloMosaic.TcCoe Idealize.SL.Sem
open Cert.AdaRefIdeal.Read

theorem hz2 : (![0, 0] : Fin 2 → Nat) = fun _ => 0 := funext fun a => by fin_cases a <;> rfl
theorem hz3 : (![0, 0, 0] : Fin 3 → Nat) = fun _ => 0 := funext fun a => by fin_cases a <;> rfl

/-- One element of the modulation: the activated row `c` times a column of the weights, with its bias. -/
def modAt (c w : Fin 1024 → EReal) (b : EReal) : EReal := (∑ k, c k * Ideal.div 1 (1 + Ideal.exp (-c k)) * w k) + b

section Reference

variable (x0 : (⟨S8x1024, .f32⟩ : BufTy).Contents (Elt Ideal)) (x1 : (⟨S128x1024, .f32⟩ : BufTy).Contents (Elt Ideal))
  (x2 : (⟨S2x1024x6144, .f32⟩ : BufTy).Contents (Elt Ideal)) (x3 : (⟨S2x6144, .f32⟩ : BufTy).Contents (Elt Ideal))

/-- The rows of the prompts, then those of the samples. -/
def rows (n : Fin 136) (k : Fin 1024) : EReal :=
  if h : n.val < 8 then x0 (ix2 ⟨n.val, h⟩ k) else x1 (ix2 ⟨n.val - 8, by omega⟩ k)

theorem p_apply (l : Fin 2) (n : Fin 8) (j : Fin 6144) : val_main_v5 (F := Ideal) x0 x2 x3 (ix3 l n j)
    = modAt (fun k => x0 (ix2 n k)) (fun k => x2 (ix3 l k j)) (x3 (ix2 l j)) := by
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0,
    Cert.AdaRefIdeal.dot_S2x1024x6144_S8x1024_S2x6144x8_1_1_02_0_n_n]
  exact congrArg (· + x3 (ix2 l j)) (Finset.sum_congr rfl fun k _ => mul_comm _ _)

theorem s_apply (l : Fin 2) (n : Fin 128) (j : Fin 6144) : val_main_v11 (F := Ideal) x1 x2 x3 (ix3 l n j)
    = modAt (fun k => x1 (ix2 n k)) (fun k => x2 (ix3 l k j)) (x3 (ix2 l j)) := by
  pointwise [val_main_v11, val_main_v10, val_main_v9, val_main_v8, val_main_v7, val_main_v6, val_main_call1_v5, val_main_call1_v4, val_main_call1_v3, val_main_call1_v2, val_main_call1_v1, val_main_call1_v0, val_main_call1_cst, val_main_call1_cst_0,
    Cert.AdaRefIdeal.dot_S2x1024x6144_S128x1024_S2x6144x128_1_1_02_0_n_n]
  exact congrArg (· + x3 (ix2 l j)) (Finset.sum_congr rfl fun k _ => mul_comm _ _)

theorem ref_apply (l : Fin 2) (n : Fin 136) (j : Fin 6144) : val_main_v12 (F := Ideal) x0 x1 x2 x3 (ix3 l n j)
    = modAt (rows x0 x1 n) (fun k => x2 (ix3 l k j)) (x3 (ix2 l j)) := by
  pointwise [val_main_v12]
  by_cases h : n.val < 8
  · have e : rows x0 x1 n = fun k => x0 (ix2 ⟨n.val, h⟩ k) := funext fun k => dif_pos h
    rw [dif_pos h, p_apply, e]
  · have e : rows x0 x1 n = fun k => x1 (ix2 ⟨n.val - 8, by omega⟩ k) := funext fun k => dif_neg h
    rw [dif_neg h, s_apply, e]

end Reference

section Kernel

variable (x0 : Vec Ideal S136x1024 .f32) (x1 : Vec Ideal S1x1024x1536 .f32) (x2 : Vec Ideal S1x1x1536 .f32)

theorem out3_apply (n : Fin 136) (j : Fin 1536) : out0_3 x0 x1 x2 (ix3 0 n j)
    = modAt (fun k => x0 (ix2 n k)) (fun k => x1 (ix3 0 k j)) (x2 (ix3 0 0 j)) := by
  unfold out0_3
  rw [View.canon_unit_zero hz3]
  simp only [View.ld_unit_zero (S := S136x1024) hz2, View.ld_unit_zero (S := S1x1024x1536) hz3, View.ld_unit_zero (S := S1x1x1536) hz3]
  pointwise [k0_pay1, dot_S136x1024_S1024x1536_S136x1536_1_0_0_1_n_n]
  rfl

end Kernel

variable (m : (ℓ : Loc nD τ sig) → Buf (Elt Ideal) ℓ) (c : Dev nD) (t : Fin cfg0.N)

/-! ### The arguments -/

abbrev a0 : (⟨S8x1024, .f32⟩ : BufTy).Contents (Elt Ideal) := m ((c : Thread nD τ).loc main_arg0)
abbrev a1 : (⟨S128x1024, .f32⟩ : BufTy).Contents (Elt Ideal) := m ((c : Thread nD τ).loc main_arg1)
abbrev a2 : (⟨S2x1024x6144, .f32⟩ : BufTy).Contents (Elt Ideal) := m ((c : Thread nD τ).loc main_arg2)
abbrev a3 : (⟨S2x6144, .f32⟩ : BufTy).Contents (Elt Ideal) := m ((c : Thread nD τ).loc main_arg3)

theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] := by decide +kernel

theorem t_lt : t.val < 8 := t.isLt

/-- The layer of block `t`. -/
def layer : Fin 2 := ⟨t.val / 4, by have := t_lt t; omega⟩

/-- The column of the whole that is column `j` of block `t`. -/
def colOf (j : Fin 1536) : Fin 6144 := ⟨1536 * (t.val % 4) + j.val, by omega⟩

/-! ### The blocks read -/

theorem b0 (n : Fin 136) (k : Fin 1024) : iblk m c 0 t (ix2 n k) = rows (a0 m c) (a1 m c) n k := by
  have e : (win0_0.blk t).view.emb (ix2 n k) = (ix2 n k : S136x1024.Idx) := by blk_ext [idx t]
  show V m c main_v0 ((win0_0.blk t).view.emb (ix2 n k)) = _
  rw [e]
  entry_read
  pointwise
  rfl

theorem b1 (k : Fin 1024) (j : Fin 1536) : iblk m c 1 t (ix3 0 k j) = a2 m c (ix3 (layer t) k (colOf t j)) := by
  blk_ext [iblk, idx t, layer, colOf]

theorem b2 (j : Fin 1536) : iblk m c 2 t (ix3 0 0 j) = a3 m c (ix2 (layer t) (colOf t j)) := by
  have e : (win0_2.blk t).view.emb (ix3 0 0 j) = (ix3 (layer t) 0 (colOf t j) : S2x1x6144.Idx) := by blk_ext [idx t, layer, colOf]
  show V m c main_v1 ((win0_2.blk t).view.emb (ix3 0 0 j)) = _
  rw [e]
  entry_read
  pointwise

/-- The output array is the reference's result. -/
theorem arr3 : (dats m 0 c).arrAt 3 cfg0.N = val_main_v12 (F := Ideal) (a0 m c) (a1 m c) (a2 m c) (a3 m c) := by
  refine (dats m 0 c).arrAt_eq_of_covers 3 _ (by decide +kernel) fun t hf y => ?_
  blk_simp
  rw [after0_3]
  obtain ⟨z, n, j, rfl⟩ : ∃ (z : Fin 1) (n : Fin 136) (j : Fin 1536), y = ix3 z n j := ⟨y 0, y 1, y 2, eq_ix3 y⟩
  obtain rfl : z = 0 := Subsingleton.elim _ _
  have e : (win0_3.blk t).view.emb (ix3 0 n j) = (ix3 (layer t) n (colOf t j) : S2x136x6144.Idx) := by
    blk_ext [idx t, layer, colOf]
  rw [e, out3_apply, ref_apply]
  simp only [b0, b1, b2]

theorem algebraic : Cert.algebraic_AdaIdeal_AdaRefIdeal := by
  intro m g m' g' _ hagree
  refine ⟨fun c => val_main_v12 (F := Ideal) (a0 m c) (a1 m c) (a2 m c) (a3 m c), ?_, ?_⟩
  · refine (θ_run Cert.AdaIdeal.defs _ _).mono (fun r h c => ?_) (Cert.AdaIdeal.Value.run_blocks (F := Ideal) m g)
    obtain ⟨h0, h1⟩ := h c
    exact ⟨h0.trans (arr3 m c), h1⟩
  · refine (θ_run Cert.AdaRefIdeal.defs _ _).mono (fun r h c => ?_) (Cert.AdaRefIdeal.Value.run (F := Ideal) m' g')
    obtain ⟨h0, h1⟩ := h c
    obtain ⟨e0, e1, e2, e3⟩ := hagree c
    refine ⟨h0.trans ((val_main_v12_eq ..).trans ?_), h1⟩
    rw [e0, e1, e2, e3]

theorem frameRef : Cert.quiescent_AdaRefIdeal := fun m ρ _ =>
  (θ_run Cert.AdaRefIdeal.defs _ _).mono (fun _ h => ⟨fun c => (h c).2, sem_eq_zero_of_no_sems (by decide) _⟩)
    (Cert.AdaRefIdeal.Value.run (F := Ideal) m ρ)

end Cert.Mix.ClaimM
-- ==== Proof.ClaimTrQ.lean ====
module

public import proofs.«01_k».proof.Defs
public import proofs.«01_k».proof.Proof.Gen.TrQIdeal.Value
public import proofs.«01_k».proof.Proof.Gen.TrQRefIdeal.Read
public import proofs.«01_k».proof.Proof.Gen.TrQRefIdeal.Run
public import Idealize.ShloMosaic.Lib.Claim
public import Idealize.ShloMosaic.Lib.Pointwise
public import Idealize.ShloMosaic.Lib.Pipeline.ReadBack
public import Idealize.ShloMosaic.Lib.Pipeline.ValueKit

/-! The claim about the transpose of the query weights: the kernel's result is its reference's. -/

@[expose] public section

set_option backward.proofsInPublic true

noncomputable section

namespace Cert.Mix.ClaimTrQ

open Cert.TrQIdeal Cert.TrQIdeal.Gen Idealize.ShloMosaic Idealize.ShloMosaic.TcCoe Idealize.SL.Sem
open Cert.TrQRefIdeal.Read

theorem hz3 : (![0, 0, 0] : Fin 3 → Nat) = fun _ => 0 := funext fun a => by fin_cases a <;> rfl

theorem ref_apply (x : (⟨S2x1024x2048, .f32⟩ : BufTy).Contents (Elt Ideal)) (l : Fin 2) (j : Fin 2048) (r : Fin 1024) :
    val_main_v1 (F := Ideal) x (ix3 l j r) = x (ix3 l r j) := by
  pointwise [val_main_v1, val_main_v0]

theorem out1_apply (x : Vec Ideal S1x512x2048 .f32) (j : Fin 2048) (r : Fin 512) : out0_1 x (ix3 0 j r) = x (ix3 0 r j) := by
  unfold out0_1
  rw [View.canon_unit_zero hz3]
  simp only [View.ld_unit_zero (S := S1x512x2048) hz3]
  pointwise [k0_pay1]

variable (m : (ℓ : Loc nD τ sig) → Buf (Elt Ideal) ℓ) (c : Dev nD) (t : Fin cfg0.N)

/-- The weights. -/
abbrev a0 : (⟨S2x1024x2048, .f32⟩ : BufTy).Contents (Elt Ideal) := m ((c : Thread nD τ).loc main_arg0)

theorem idx : ∀ t : Fin cfg0.N, win0_0.index t = ![t.val / 2, t.val % 2, 0] ∧ win0_1.index t = ![t.val / 2, 0, t.val % 2] := by decide +kernel

theorem t_lt : t.val < 4 := t.isLt

/-- The layer of block `t`. -/
def layer : Fin 2 := ⟨t.val / 2, by have := t_lt t; omega⟩

/-- The row of the weights that is row `r` of block `t`. -/
def rowOf (r : Fin 512) : Fin 1024 := ⟨512 * (t.val % 2) + r.val, by omega⟩

theorem b0 (r : Fin 512) (j : Fin 2048) : iblk m c 0 t (ix3 0 r j) = a0 m c (ix3 (layer t) (rowOf t r) j) := by
  blk_ext [iblk, idx t, layer, rowOf]

/-- The output array is the reference's result. -/
theorem arr1 : (dats m 0 c).arrAt 1 cfg0.N = val_main_v1 (F := Ideal) (a0 m c) := by
  refine (dats m 0 c).arrAt_eq_of_covers 1 _ (by decide +kernel) fun t hf y => ?_
  blk_simp
  rw [after0_1]
  obtain ⟨z, j, r, rfl⟩ : ∃ (z : Fin 1) (j : Fin 2048) (r : Fin 512), y = ix3 z j r := ⟨y 0, y 1, y 2, eq_ix3 y⟩
  obtain rfl : z = 0 := Subsingleton.elim _ _
  have e : (win0_1.blk t).view.emb (ix3 0 j r) = (ix3 (layer t) j (rowOf t r) : S2x2048x1024.Idx) := by
    blk_ext [idx t, layer, rowOf]
  rw [e, out1_apply, ref_apply, b0]

theorem algebraic : Cert.algebraic_TrQIdeal_TrQRefIdeal := by
  intro m g m' g' _ hagree
  refine ⟨fun c => val_main_v1 (F := Ideal) (a0 m c), ?_, ?_⟩
  · refine (θ_run Cert.TrQIdeal.defs _ _).mono (fun r h c => ?_) (Cert.TrQIdeal.Value.run_blocks (F := Ideal) m g)
    obtain ⟨h0, h1⟩ := h c
    exact ⟨h0.trans (arr1 m c), h1⟩
  · refine (θ_run Cert.TrQRefIdeal.defs _ _).mono (fun r h c => ?_) (Cert.TrQRefIdeal.Value.run (F := Ideal) m' g')
    obtain ⟨h0, h1⟩ := h c
    have e0 := hagree c
    refine ⟨h0.trans ((val_main_v1_eq ..).trans ?_), h1⟩
    rw [e0]

theorem frameRef : Cert.quiescent_TrQRefIdeal := fun m ρ _ =>
  (θ_run Cert.TrQRefIdeal.defs _ _).mono (fun _ h => ⟨fun c => (h c).2, sem_eq_zero_of_no_sems (by decide) _⟩)
    (Cert.TrQRefIdeal.Value.run (F := Ideal) m ρ)

end Cert.Mix.ClaimTrQ
-- ==== Proof.ClaimTrV.lean ====
module

public import proofs.«01_k».proof.Defs
public import proofs.«01_k».proof.Proof.Gen.TrVIdeal.Value
public import proofs.«01_k».proof.Proof.Gen.TrVRefIdeal.Read
public import proofs.«01_k».proof.Proof.Gen.TrVRefIdeal.Run
public import Idealize.ShloMosaic.Lib.Claim
public import Idealize.ShloMosaic.Lib.Pointwise
public import Idealize.ShloMosaic.Lib.Pipeline.ReadBack
public import Idealize.ShloMosaic.Lib.Pipeline.ValueKit

/-! The claim about the transpose of the experts' output weights: the kernel's result is its reference's. -/

@[expose] public section

set_option backward.proofsInPublic true

noncomputable section

namespace Cert.Mix.ClaimTrV

open Cert.TrVIdeal Cert.TrVIdeal.Gen Idealize.ShloMosaic Idealize.ShloMosaic.TcCoe Idealize.SL.Sem
open Cert.TrVRefIdeal.Read

theorem hz3 : (![0, 0, 0] : Fin 3 → Nat) = fun _ => 0 := funext fun a => by fin_cases a <;> rfl

theorem ref_apply (x : (⟨S2x16384x1024, .f32⟩ : BufTy).Contents (Elt Ideal)) (l : Fin 2) (j : Fin 1024) (r : Fin 16384) :
    val_main_v1 (F := Ideal) x (ix3 l j r) = x (ix3 l r j) := by
  pointwise [val_main_v1, val_main_v0]

theorem out1_apply (x : Vec Ideal S1x512x1024 .f32) (j : Fin 1024) (r : Fin 512) : out0_1 x (ix3 0 j r) = x (ix3 0 r j) := by
  unfold out0_1
  rw [View.canon_unit_zero hz3]
  simp only [View.ld_unit_zero (S := S1x512x1024) hz3]
  pointwise [k0_pay1]

variable (m : (ℓ : Loc nD τ sig) → Buf (Elt Ideal) ℓ) (c : Dev nD) (t : Fin cfg0.N)

/-- The weights. -/
abbrev a0 : (⟨S2x16384x1024, .f32⟩ : BufTy).Contents (Elt Ideal) := m ((c : Thread nD τ).loc main_arg0)

theorem idx : ∀ t : Fin cfg0.N, win0_0.index t = ![t.val / 32, t.val % 32, 0] ∧ win0_1.index t = ![t.val / 32, 0, t.val % 32] := by decide +kernel

theorem t_lt : t.val < 64 := t.isLt

/-- The layer of block `t`. -/
def layer : Fin 2 := ⟨t.val / 32, by have := t_lt t; omega⟩

/-- The row of the weights that is row `r` of block `t`. -/
def rowOf (r : Fin 512) : Fin 16384 := ⟨512 * (t.val % 32) + r.val, by omega⟩

theorem b0 (r : Fin 512) (j : Fin 1024) : iblk m c 0 t (ix3 0 r j) = a0 m c (ix3 (layer t) (rowOf t r) j) := by
  blk_ext [iblk, idx t, layer, rowOf]

/-- The output array is the reference's result. -/
theorem arr1 : (dats m 0 c).arrAt 1 cfg0.N = val_main_v1 (F := Ideal) (a0 m c) := by
  refine (dats m 0 c).arrAt_eq_of_covers 1 _ (by decide +kernel) fun t hf y => ?_
  blk_simp
  rw [after0_1]
  obtain ⟨z, j, r, rfl⟩ : ∃ (z : Fin 1) (j : Fin 1024) (r : Fin 512), y = ix3 z j r := ⟨y 0, y 1, y 2, eq_ix3 y⟩
  obtain rfl : z = 0 := Subsingleton.elim _ _
  have e : (win0_1.blk t).view.emb (ix3 0 j r) = (ix3 (layer t) j (rowOf t r) : S2x1024x16384.Idx) := by
    blk_ext [idx t, layer, rowOf]
  rw [e, out1_apply, ref_apply, b0]

theorem algebraic : Cert.algebraic_TrVIdeal_TrVRefIdeal := by
  intro m g m' g' _ hagree
  refine ⟨fun c => val_main_v1 (F := Ideal) (a0 m c), ?_, ?_⟩
  · refine (θ_run Cert.TrVIdeal.defs _ _).mono (fun r h c => ?_) (Cert.TrVIdeal.Value.run_blocks (F := Ideal) m g)
    obtain ⟨h0, h1⟩ := h c
    exact ⟨h0.trans (arr1 m c), h1⟩
  · refine (θ_run Cert.TrVRefIdeal.defs _ _).mono (fun r h c => ?_) (Cert.TrVRefIdeal.Value.run (F := Ideal) m' g')
    obtain ⟨h0, h1⟩ := h c
    have e0 := hagree c
    refine ⟨h0.trans ((val_main_v1_eq ..).trans ?_), h1⟩
    rw [e0]

theorem frameRef : Cert.quiescent_TrVRefIdeal := fun m ρ _ =>
  (θ_run Cert.TrVRefIdeal.defs _ _).mono (fun _ h => ⟨fun c => (h c).2, sem_eq_zero_of_no_sems (by decide) _⟩)
    (Cert.TrVRefIdeal.Value.run (F := Ideal) m ρ)

end Cert.Mix.ClaimTrV
-- ==== Proof.MathA.lean ====
module

public import Idealize.ShloMosaic.Lib.Pointwise

/-! The attention's arithmetic over the extended reals: a block is kept when fewer than three earlier blocks have a
larger gate, and a row of the result is a mean of the values weighted by the exponentials of the logits. -/

@[expose] public section

noncomputable section

namespace Cert.Mix

open Idealize.ShloMosaic

section Third

variable {ι : Type*} [Fintype ι] [DecidableEq ι]

/-- The largest value of a family. -/
def most (g : ι → EReal) : EReal := Finset.univ.fold max ⊥ g

theorem le_most (g : ι → EReal) (x : ι) : g x ≤ most g := Finset.le_sup (f := g) (Finset.mem_univ x)

theorem exists_most [Nonempty ι] (g : ι → EReal) : ∃ x, g x = most g := by
  obtain ⟨x, -, h⟩ := Finset.exists_mem_eq_sup Finset.univ Finset.univ_nonempty g
  exact ⟨x, h.symm⟩

theorem lt_most (g : ι → EReal) (c : EReal) : c < most g ↔ ∃ x, c < g x := by
  show c < Finset.univ.sup g ↔ _
  rw [Finset.lt_sup_iff]
  simp

/-- A family with its largest value struck out. -/
def strip (g : ι → EReal) (x : ι) : EReal := if g x = most g then ⊥ else g x

/-- The members of a family larger than a bound. -/
def above (g : ι → EReal) (c : EReal) : Finset ι := Finset.univ.filter fun x => c < g x

theorem mem_above (g : ι → EReal) (c : EReal) (x : ι) : x ∈ above g c ↔ c < g x := by simp [above]

theorem lt_strip (g : ι → EReal) (c : EReal) (x : ι) : c < strip g x ↔ c < g x ∧ g x ≠ most g := by
  unfold strip
  split
  · next h => simp [h]
  · next h => simp [h]

/-- Striking out the largest of distinct values leaves one value fewer above a bound. -/
theorem card_strip (g : ι → EReal) (c : EReal) (h : Set.InjOn g (above g c)) : (above (strip g) c).card = (above g c).card - 1 := by
  rcases (above g c).eq_empty_or_nonempty with e | ⟨z, hz⟩
  · have : above (strip g) c = ∅ := by
      ext x
      have hx : x ∉ above g c := by simp [e]
      rw [mem_above] at hx
      simp [mem_above, lt_strip, hx]
    rw [this, e]; rfl
  · haveI : Nonempty ι := ⟨z⟩
    obtain ⟨a, ha⟩ := exists_most g
    have hA : a ∈ above g c := (mem_above g c a).2 (lt_of_lt_of_le ((mem_above g c z).1 hz) (ha ▸ le_most g z))
    have : above (strip g) c = (above g c).erase a := by
      ext x
      rw [mem_above, lt_strip, Finset.mem_erase, mem_above]
      constructor
      · rintro ⟨h1, h2⟩
        exact ⟨fun hx => h2 (hx ▸ ha), h1⟩
      · rintro ⟨h1, h2⟩
        exact ⟨h2, fun hx => h1 (h ((mem_above g c x).2 h2) hA (hx.trans ha.symm))⟩
    rw [this, Finset.card_erase_of_mem hA]

/-- The third largest value. -/
def third (g : ι → EReal) : EReal := most (strip (strip g))

/-- Of values distinct above it, one is at least the third largest when fewer than three are larger. -/
theorem third_le (g : ι → EReal) (c : EReal) (h : Set.InjOn g (above g c)) : third g ≤ c ↔ (above g c).card < 3 := by
  have hs : Set.InjOn (strip g) (above (strip g) c) := fun x hx y hy e => by
    have hx := (lt_strip g c x).1 ((mem_above _ c x).1 hx)
    have hy := (lt_strip g c y).1 ((mem_above _ c y).1 hy)
    unfold strip at e
    rw [if_neg hx.2, if_neg hy.2] at e
    exact h ((mem_above g c x).2 hx.1) ((mem_above g c y).2 hy.1) e
  have k1 := card_strip g c h
  have k2 := card_strip (strip g) c hs
  have k3 : c < third g ↔ 0 < (above (strip (strip g)) c).card := by
    unfold third
    rw [lt_most, Finset.card_pos]
    exact ⟨fun ⟨x, hx⟩ => ⟨x, (mem_above _ c x).2 hx⟩, fun ⟨x, hx⟩ => ⟨x, (mem_above _ c x).1 hx⟩⟩
  rw [← not_lt, k3]
  omega

end Third

/-- The mean of the values of the blocks up to `n`, weighted by the exponentials of their logits. -/
def meanN (n : ℕ) (S V : ℕ → Fin 256 → EReal) : EReal :=
  Ideal.div
    (∑ j ∈ Finset.range (n + 1), ∑ l, Ideal.exp (S j l - (Finset.range (n + 1)).sup fun j => most (S j)) * V j l)
    (∑ j ∈ Finset.range (n + 1), ∑ l, Ideal.exp (S j l - (Finset.range (n + 1)).sup fun j => most (S j)))

/-- The mean of the values of all keys, weighted by the exponentials of their logits. -/
def meanAll (L V : Fin 2048 → EReal) : EReal :=
  Ideal.div (∑ s, Ideal.exp (L s - most L) * V s) (∑ s, Ideal.exp (L s - most L))

theorem sum_blocks (f : ℕ → Fin 256 → EReal) :
    ∑ s : Fin 2048, f (s.val / 256) ⟨s.val % 256, Nat.mod_lt _ (by norm_num)⟩ = ∑ j ∈ Finset.range 8, ∑ l, f j l := by
  rw [Finset.sum_range, ← Fintype.sum_prod_type' (f := fun (j : Fin 8) (l : Fin 256) => f j.val l)]
  refine (Equiv.sum_comp (finProdFinEquiv (m := 8) (n := 256)).symm (fun x : Fin 8 × Fin 256 => f x.1.val x.2)).symm.trans ?_ |>.symm
  rfl

/-- Blocks whose logits are all at the bottom carry no weight. -/
theorem meanAll_eq (i : ℕ) (hi : i < 8) (S V : ℕ → Fin 256 → EReal) (L W : Fin 2048 → EReal)
    (hL : ∀ s, L s = if s.val / 256 ≤ i then S (s.val / 256) ⟨s.val % 256, Nat.mod_lt _ (by norm_num)⟩ else ⊥)
    (hW : ∀ s, W s = V (s.val / 256) ⟨s.val % 256, Nat.mod_lt _ (by norm_num)⟩) : meanAll L W = meanN i S V := by
  have hM : most L = (Finset.range (i + 1)).sup fun j => most (S j) := by
    apply le_antisymm
    · refine Finset.sup_le fun s _ => ?_
      rw [hL]
      split
      · next h =>
        exact (le_most (S (s.val / 256)) _).trans
          (Finset.le_sup (f := fun j => most (S j)) (Finset.mem_range.2 (Nat.lt_succ_of_le h)))
      · exact bot_le
    · refine Finset.sup_le fun j hj => Finset.sup_le fun l _ => ?_
      have hj := Finset.mem_range.1 hj
      have h := le_most L ⟨256 * j + l.val, by omega⟩
      rw [hL] at h
      have e1 : (256 * j + l.val) / 256 = j := by omega
      have e2 : (256 * j + l.val) % 256 = l.val := by omega
      simp only [e1, e2] at h
      rwa [if_pos (by omega)] at h
  have key : ∀ g : ℕ → Fin 256 → EReal, (∀ j, i < j → ∀ l, g j l = 0) →
      ∑ s : Fin 2048, g (s.val / 256) ⟨s.val % 256, Nat.mod_lt _ (by norm_num)⟩ = ∑ j ∈ Finset.range (i + 1), ∑ l, g j l := by
    intro g hg
    rw [sum_blocks]
    refine (Finset.sum_subset (fun j hj => Finset.mem_range.2 ?_) fun j _ hj => ?_).symm
    · have := Finset.mem_range.1 hj; omega
    · have : i < j := by rw [Finset.mem_range] at hj; omega
      exact Finset.sum_eq_zero fun l _ => hg j this l
  unfold meanAll meanN
  rw [hM]
  generalize ((Finset.range (i + 1)).sup fun j => most (S j)) = M
  have e1 := key (fun j l => if j ≤ i then Ideal.exp (S j l - M) else 0) fun j hj l => if_neg (by omega)
  have e2 := key (fun j l => if j ≤ i then Ideal.exp (S j l - M) * V j l else 0) fun j hj l => if_neg (by omega)
  have c1 : ∀ s, Ideal.exp (L s - M) = if s.val / 256 ≤ i then Ideal.exp (S (s.val / 256) ⟨s.val % 256, Nat.mod_lt _ (by norm_num)⟩ - M) else 0 := by
    intro s
    rw [hL]
    split
    · rfl
    · rw [sub_eq_add_neg, EReal.bot_add, Ideal.exp_bot]
  congr 1
  · refine (Finset.sum_congr rfl fun s _ => ?_).trans (e2.trans (Finset.sum_congr rfl fun j hj => Finset.sum_congr rfl fun l _ => ?_))
    · rw [c1, hW]
      split
      · rfl
      · exact zero_mul _
    · rw [if_pos (by have := Finset.mem_range.1 hj; omega)]
  · refine (Finset.sum_congr rfl fun s _ => c1 s).trans (e1.trans (Finset.sum_congr rfl fun j hj => Finset.sum_congr rfl fun l _ => ?_))
    rw [if_pos (by have := Finset.mem_range.1 hj; omega)]

end Cert.Mix
-- ==== Proof.TileA.lean ====
module

public import proofs.«01_k».proof.Proof.Gen.AttnIdeal.Value
public import proofs.«01_k».proof.Proof.MathA
public import Idealize.ShloMosaic.Lib.Claim
public import Idealize.ShloMosaic.Lib.Pointwise
public import Idealize.ShloMosaic.Lib.Pipeline.ReadBack
public import Idealize.ShloMosaic.Lib.Pipeline.ValueKit

/-! The steps of the attention kernel on one tile of queries, each read at an index. -/

@[expose] public section

noncomputable section

namespace Cert.Mix.TileA

open Cert.AttnIdeal Cert.AttnIdeal.Gen Idealize.ShloMosaic Idealize.ShloMosaic.TcCoe Idealize.SL.Sem

/-- The lane numbers of a tile. -/
def lane : IVec S256x128 32 := iota .tc S256x128 32 [1] iota_S256x128_d1_w32

/-- The lane numbers of the rows of gates. -/
def lanes : IVec S512x128 32 := iota .tc S512x128 32 [1] iota_S512x128_d1_w32

/-- The two heads' queries one above the other, each with the other's lanes zero. -/
def masked (q : Vec Ideal S256x128 .f32) : FVec Ideal S512x128 .f32 :=
  concatenate S512x128 0
    [⟨S256x128, (select (cmpi .slt lane (broadcast S256x128 64#32)) q (broadcast S256x128 (Scalar.ofBits .f32 0x00000000#32 : Ideal .f32)) : Vec Ideal S256x128 .f32)⟩,
     ⟨S256x128, (select (cmpi .sge lane (broadcast S256x128 64#32)) q (broadcast S256x128 (Scalar.ofBits .f32 0x00000000#32 : Ideal .f32)) : Vec Ideal S256x128 .f32)⟩]
    concatenates_S256x128_S256x128_S512x128_d0

/-- The scaled products of a tile's queries with a block of keys. -/
def raw (q : Vec Ideal S256x128 .f32) (k : Vec Ideal S256x128 .bf16) : FVec Ideal S512x256 .f32 :=
  mulf (matmul (φ₂ := .bf16) dot_S512x128_S256x128_S512x256_1_1_0_0_n_n none (truncf .bf16 (masked q) bitsLt_bf16_f32) k (constant S512x256 .f32 0x00000000#32))
    (broadcast S512x256 (Scalar.ofBits .f32 0x3E000000#32 : Ideal .f32))

/-- The gates of the blocks before the tile's own, the others at the bottom. -/
def gated (i : BitVec 32) (q : Vec Ideal S256x128 .f32) (km : Vec Ideal S1x8x128 .f32) : FVec Ideal S512x128 .f32 :=
  select (cmpi .slt lanes (broadcast S512x128 i))
    (matmul dot_S512x128_S128x128_S512x128_1_1_0_0_n_n (some .fp32) (masked q) (k0_pay3 (F := Ideal) km) (constant S512x128 .f32 0x00000000#32))
    (broadcast S512x128 (Scalar.ofBits .f32 0xFF800000#32 : Ideal .f32))

/-- The largest of each row of gates, along the row. -/
def mostG (g : FVec Ideal S512x128 .f32) : FVec Ideal S512x128 .f32 :=
  broadcastTo S512x128 (shapeCast S512x1 (multiReduction .maximumf [1] S512 g 0xFF800000#32 reduces_S512x128_S512 (.inl rfl) rfl) shapeCasts_S512_S512x1)
    broadcasts_S512x1_S512x128

/-- Each row of gates with its largest struck out. -/
def stripG (g : FVec Ideal S512x128 .f32) : FVec Ideal S512x128 .f32 :=
  select (cmpf .oeq g (mostG g)) (broadcast S512x128 (Scalar.ofBits .f32 0xFF800000#32 : Ideal .f32)) g

/-- The penalty of each block: nothing from the third largest gate up, the mask below. -/
def pen (i : BitVec 32) (q : Vec Ideal S256x128 .f32) (km : Vec Ideal S1x8x128 .f32) : FVec Ideal S512x128 .f32 :=
  select (cmpf .oge (gated i q km) (mostG (stripG (stripG (gated i q km)))))
    (broadcast S512x128 (Scalar.ofBits .f32 0x00000000#32 : Ideal .f32))
    (broadcast S512x128 (Named.named κ "mask" 0xF149F2CA#32 : Ideal .f32))

/-- One column of the penalties. -/
def colL (p : FVec Ideal S512x128 .f32) : ℕ → FVec Ideal S512x1 .f32
  | 0 => extractStridedSlice S512x1 ![0, 0] p slices_S512x128_o0_0_S512x1
  | 1 => extractStridedSlice S512x1 ![0, 1] p slices_S512x128_o0_1_S512x1
  | 2 => extractStridedSlice S512x1 ![0, 2] p slices_S512x128_o0_2_S512x1
  | 3 => extractStridedSlice S512x1 ![0, 3] p slices_S512x128_o0_3_S512x1
  | 4 => extractStridedSlice S512x1 ![0, 4] p slices_S512x128_o0_4_S512x1
  | 5 => extractStridedSlice S512x1 ![0, 5] p slices_S512x128_o0_5_S512x1
  | _ => extractStridedSlice S512x1 ![0, 6] p slices_S512x128_o0_6_S512x1

/-- What is added to the bias of block `j` for the queries of block `i`: nothing while no more than three blocks are past. -/
def penC (i : ℕ) (q : Vec Ideal S256x128 .f32) (km : Vec Ideal S1x8x128 .f32) (j : ℕ) : FVec Ideal S512x1 .f32 :=
  if i ≤ 3 then broadcast S512x1 (Scalar.ofBits .f32 0x00000000#32 : Ideal .f32) else colL (pen (BitVec.ofNat 32 i) q km) j

/-- The same along the rows of a block. -/
def penB (i : ℕ) (q : Vec Ideal S256x128 .f32) (km : Vec Ideal S1x8x128 .f32) (j : ℕ) : FVec Ideal S512x256 .f32 :=
  if i ≤ 3 then broadcast S512x256 (Scalar.ofBits .f32 0x00000000#32 : Ideal .f32)
  else broadcastTo S512x256 (colL (pen (BitVec.ofNat 32 i) q km) j) broadcasts_S512x1_S512x256

/-- The logits of block `j` for the queries of block `i`. -/
def lg (i : ℕ) (q : Vec Ideal S256x128 .f32) (K : ℕ → Vec Ideal S256x128 .bf16) (km : Vec Ideal S1x8x128 .f32) (bo bp : Vec Ideal S1x512x256 .f32)
    (cc : FVec Ideal S512x1 .f32) (j : ℕ) : FVec Ideal S512x256 .f32 :=
  if j = i then addf (raw q (K j)) (shapeCast S512x256 bo shapeCasts_S1x512x256_S512x256)
  else if j + 1 = i then addf (raw q (K j)) (addf (shapeCast S512x256 bp shapeCasts_S1x512x256_S512x256) (penB i q km j))
  else addf (raw q (K j)) (broadcastTo S512x256 (addf cc (penC i q km j)) broadcasts_S512x1_S512x256)

/-- The largest logit of each row of a block. -/
def rowmax (s : FVec Ideal S512x256 .f32) : FVec Ideal S512x1 .f32 :=
  shapeCast S512x1 (multiReduction .maximumf [1] S512 s 0xFF800000#32 reduces_S512x256_S512 (.inl rfl) rfl) shapeCasts_S512_S512x1

/-- The exponentials of a block of logits. -/
def expo (m : FVec Ideal S512x1 .f32) (s : FVec Ideal S512x256 .f32) : FVec Ideal S512x256 .f32 :=
  exp (subf s (broadcastTo S512x256 m broadcasts_S512x1_S512x256))

/-- The sum of each row of a block of weights. -/
def rowsum (p : FVec Ideal S512x256 .f32) : FVec Ideal S512x1 .f32 :=
  shapeCast S512x1 (multiReduction .add [1] S512 p 0x00000000#32 reduces_S512x256_S512 (.inl rfl) rfl) shapeCasts_S512_S512x1

/-- The weighted sum of a block of values. -/
def mix (p : FVec Ideal S512x256 .f32) (v : Vec Ideal S256x128 .bf16) : FVec Ideal S512x128 .f32 :=
  matmul (φ₂ := .bf16) dot_S512x256_S256x128_S512x128_1_0_0_1_n_n none (truncf .bf16 p bitsLt_bf16_f32) v (constant S512x128 .f32 0x00000000#32)

/-- The largest logit of each row of the blocks up to `n`. -/
def topN (s : ℕ → FVec Ideal S512x256 .f32) : ℕ → FVec Ideal S512x1 .f32
  | 0 => rowmax (s 0)
  | n + 1 => maximumf (topN s n) (rowmax (s (n + 1)))

/-- The sum of the weights of the blocks up to `n`. -/
def sumN (m : FVec Ideal S512x1 .f32) (s : ℕ → FVec Ideal S512x256 .f32) : ℕ → FVec Ideal S512x1 .f32
  | 0 => rowsum (expo m (s 0))
  | n + 1 => addf (sumN m s n) (rowsum (expo m (s (n + 1))))

/-- The weighted sum of the values of the blocks up to `n`. -/
def mixN (m : FVec Ideal S512x1 .f32) (s : ℕ → FVec Ideal S512x256 .f32) (v : ℕ → Vec Ideal S256x128 .bf16) : ℕ → FVec Ideal S512x128 .f32
  | 0 => mix (expo m (s 0)) (v 0)
  | n + 1 => addf (mixN m s v n) (mix (expo m (s (n + 1))) (v (n + 1)))

/-- A tile's result: each head's own lanes of the weighted mean of the values. -/
def tileN (n : ℕ) (s : ℕ → FVec Ideal S512x256 .f32) (v : ℕ → Vec Ideal S256x128 .bf16) : Vec Ideal S256x128 .bf16 :=
  truncf .bf16 (select (cmpi .slt lane (broadcast S256x128 64#32))
    (extractStridedSlice S256x128 ![0, 0] (divf (mixN (topN s n) s v n) (broadcastTo S512x128 (sumN (topN s n) s n) broadcasts_S512x1_S512x128))
      slices_S512x128_o0_0_S256x128)
    (extractStridedSlice S256x128 ![256, 0] (divf (mixN (topN s n) s v n) (broadcastTo S512x128 (sumN (topN s n) s n) broadcasts_S512x1_S512x128))
      slices_S512x128_o256_0_S256x128)) bitsLt_bf16_f32

section Reads

variable (q : Vec Ideal S256x128 .f32) (k : Vec Ideal S256x128 .bf16) (km : Vec Ideal S1x8x128 .f32)

/-- A row of the masked queries. -/
def mq (r : Fin 512) (d : Fin 128) : EReal :=
  if h : r.val < 256 then (if d.val < 64 then q (ix2 ⟨r.val, h⟩ d) else 0)
  else (if 64 ≤ d.val then q (ix2 ⟨r.val - 256, by omega⟩ d) else 0)

theorem sel_dec {α : Type} (p : Prop) [Decidable p] (a b : α) : Scalar.select (BitVec.ofBool (decide p)) a b = if p then a else b := by
  by_cases h : p <;> simp [Scalar.select, h]

theorem sel_slt {α : Type} (m n : Nat) (hm : m < 2 ^ (32 - 1)) (hn : n < 2 ^ (32 - 1)) (a b : α) :
    Scalar.select (IntOp.cmpi .slt (BitVec.ofNat 32 m) (BitVec.ofNat 32 n)) a b = if m < n then a else b := by
  rw [WordCmp.cmpi_slt_ofNat hm hn, sel_dec]

theorem sel_sge {α : Type} (m n : Nat) (hm : m < 2 ^ (32 - 1)) (hn : n < 2 ^ (32 - 1)) (a b : α) :
    Scalar.select (IntOp.cmpi .sge (BitVec.ofNat 32 m) (BitVec.ofNat 32 n)) a b = if n ≤ m then a else b := by
  rw [WordCmp.cmpi_sge_ofNat hm hn, sel_dec]

theorem ninf : Ideal.ofBits .f32 0xFF800000#32 = ⊥ := by
  simp [Ideal.ofBits, Ideal.ieee]

theorem masked_apply (r : Fin 512) (d : Fin 128) : masked q (ix2 r d) = mq q r d := by
  pointwise [masked, lane]
  unfold mq
  split
  · exact sel_slt d.val 64 (by omega) (by omega) _ _
  · exact sel_sge d.val 64 (by omega) (by omega) _ _

theorem raw_apply (r : Fin 512) (l : Fin 256) : raw q k (ix2 r l) = (∑ d, mq q r d * k (ix2 l d)) * Ideal.ofBits .f32 0x3E000000#32 := by
  pointwise [raw, dot_S512x128_S256x128_S512x256_1_1_0_0_n_n, masked_apply]

theorem gated_apply (i : Nat) (hi : i < 8) (r : Fin 512) (x : Fin 128) : gated (BitVec.ofNat 32 i) q km (ix2 r x)
    = if x.val < i then ∑ d, mq q r d * (if h : x.val < 8 then km (ix3 0 ⟨x.val, h⟩ d) else 0) else ⊥ := by
  pointwise [gated, lanes, k0_pay3, dot_S512x128_S128x128_S512x128_1_1_0_0_n_n, masked_apply]
  rw [ninf]
  exact sel_slt x.val i (by omega) (by omega) _ _

theorem mostG_apply (g : FVec Ideal S512x128 .f32) (r : Fin 512) (x : Fin 128) : mostG g (ix2 r x) = most fun x => g (ix2 r x) := by
  pointwise [mostG]
  rw [ninf]
  rfl

theorem rowmax_apply (s : FVec Ideal S512x256 .f32) (r : Fin 512) : rowmax s (ix2 r 0) = most fun x => s (ix2 r x) := by
  pointwise [rowmax]
  rw [ninf]
  rfl

theorem stripG_apply (g : FVec Ideal S512x128 .f32) (r : Fin 512) (x : Fin 128) : stripG g (ix2 r x) = strip (fun x => g (ix2 r x)) x := by
  pointwise [stripG, mostG_apply]
  rw [ninf]
  rfl

theorem colL_apply (p : FVec Ideal S512x128 .f32) (j : ℕ) (hj : j < 7) (r : Fin 512) : colL p j (ix2 r 0) = p (ix2 r ⟨j, by omega⟩) := by
  interval_cases j <;> pointwise [colL] <;> rfl

/-- The penalty at a row and a block. -/
theorem pen_apply (i : ℕ) (hi : i < 8) (r : Fin 512) (x : Fin 128) : pen (BitVec.ofNat 32 i) q km (ix2 r x)
    = if third (fun x => gated (BitVec.ofNat 32 i) q km (ix2 r x)) ≤ gated (BitVec.ofNat 32 i) q km (ix2 r x) then 0 else ⊥ := by
  pointwise [pen, mostG_apply, stripG_apply]
  rw [show (Named.named κ "mask" 0xF149F2CA#32 : Ideal .f32) = ⊥ from rfl]
  rfl

theorem expo_apply (m : FVec Ideal S512x1 .f32) (s : FVec Ideal S512x256 .f32) (r : Fin 512) (l : Fin 256) :
    expo m s (ix2 r l) = Ideal.exp (s (ix2 r l) - m (ix2 r 0)) := by
  pointwise [expo]

theorem rowsum_apply (p : FVec Ideal S512x256 .f32) (r : Fin 512) : rowsum p (ix2 r 0) = ∑ l, p (ix2 r l) := by
  pointwise [rowsum]

theorem mix_apply (p : FVec Ideal S512x256 .f32) (v : Vec Ideal S256x128 .bf16) (r : Fin 512) (c : Fin 128) :
    mix p v (ix2 r c) = ∑ l, p (ix2 r l) * v (ix2 l c) := by
  pointwise [mix, dot_S512x256_S256x128_S512x128_1_0_0_1_n_n]

theorem topN_apply (s : ℕ → FVec Ideal S512x256 .f32) (n : ℕ) (r : Fin 512) :
    topN s n (ix2 r 0) = (Finset.range (n + 1)).sup fun j => most fun x => s j (ix2 r x) := by
  induction n with
  | zero => simp [topN, rowmax_apply]
  | succ n ih =>
    rw [Finset.range_add_one, Finset.sup_insert, ← ih, sup_comm]
    exact congrArg (max _) (rowmax_apply _ r)

theorem sumN_apply (m : FVec Ideal S512x1 .f32) (s : ℕ → FVec Ideal S512x256 .f32) (n : ℕ) (r : Fin 512) :
    sumN m s n (ix2 r 0) = ∑ j ∈ Finset.range (n + 1), ∑ l, Ideal.exp (s j (ix2 r l) - m (ix2 r 0)) := by
  induction n with
  | zero => simp [sumN, rowsum_apply, expo_apply]
  | succ n ih =>
    rw [Finset.sum_range_succ, ← ih]
    refine congrArg (_ + ·) ((rowsum_apply _ r).trans ?_)
    simp only [expo_apply]

theorem mixN_apply (m : FVec Ideal S512x1 .f32) (s : ℕ → FVec Ideal S512x256 .f32) (v : ℕ → Vec Ideal S256x128 .bf16) (n : ℕ) (r : Fin 512)
    (c : Fin 128) :
    mixN m s v n (ix2 r c) = ∑ j ∈ Finset.range (n + 1), ∑ l, Ideal.exp (s j (ix2 r l) - m (ix2 r 0)) * v j (ix2 l c) := by
  induction n with
  | zero => simp [mixN, mix_apply, expo_apply]
  | succ n ih =>
    rw [Finset.sum_range_succ, ← ih]
    refine congrArg (_ + ·) ((mix_apply _ _ r c).trans ?_)
    simp only [expo_apply]

/-- The row of the two heads' rows that a lane of a tile's row takes. -/
def hrow (T : Fin 256) (c : Fin 128) : Fin 512 := if c.val < 64 then ⟨T.val, by omega⟩ else ⟨256 + T.val, by omega⟩

theorem tileN_apply (n : ℕ) (s : ℕ → FVec Ideal S512x256 .f32) (v : ℕ → Vec Ideal S256x128 .bf16) (T : Fin 256) (c : Fin 128) :
    tileN n s v (ix2 T c) = meanN n (fun j l => s j (ix2 (hrow T c) l)) (fun j l => v j (ix2 l c)) := by
  have key : ∀ r : Fin 512, Ideal.div (mixN (topN s n) s v n (ix2 r c)) (sumN (topN s n) s n (ix2 r 0))
      = meanN n (fun j l => s j (ix2 r l)) (fun j l => v j (ix2 l c)) := fun r => by
    rw [mixN_apply, sumN_apply, topN_apply]; rfl
  pointwise [tileN, lane]
  refine (sel_slt c.val 64 (by omega) (by omega) _ _).trans ?_
  unfold hrow
  split <;> exact key _

/-- The logits at a row and a key. -/
theorem lg_apply (i : ℕ) (hi : i < 8) (K : ℕ → Vec Ideal S256x128 .bf16) (bo bp : Vec Ideal S1x512x256 .f32) (cc : FVec Ideal S512x1 .f32)
    (j : ℕ) (hj : j ≤ i) (r : Fin 512) (l : Fin 256) :
    lg i q K km bo bp cc j (ix2 r l) = (∑ d, mq q r d * K j (ix2 l d)) * Ideal.ofBits .f32 0x3E000000#32
      + (if j = i then bo (ix3 0 r l)
         else (if j + 1 = i then bp (ix3 0 r l) else cc (ix2 r 0))
           + if i ≤ 3 then 0 else pen (BitVec.ofNat 32 i) q km (ix2 r ⟨j, by omega⟩)) := by
  have hR := raw_apply q (K j) r l
  generalize (∑ d, mq q r d * K j (ix2 l d)) * Ideal.ofBits .f32 0x3E000000#32 = R at hR ⊢
  have hC : j < 7 → penC i q km j (ix2 r 0) = if i ≤ 3 then 0 else pen (BitVec.ofNat 32 i) q km (ix2 r ⟨j, by omega⟩) := fun h => by
    unfold penC
    split
    · pointwise
    · exact colL_apply _ j h r
  have hB : j < 7 → penB i q km j (ix2 r l) = if i ≤ 3 then 0 else pen (BitVec.ofNat 32 i) q km (ix2 r ⟨j, by omega⟩) := fun h => by
    unfold penB
    split
    · pointwise
    · have := colL_apply (pen (BitVec.ofNat 32 i) q km) j h r
      pointwise [this]
  unfold lg
  split
  · pointwise [hR]
  · split
    · have := hB (by omega)
      pointwise [hR, this]
    · have := hC (by omega)
      pointwise [hR, this]

end Reads

end Cert.Mix.TileA
-- ==== Proof.OutA.lean ====
module

public import proofs.«01_k».proof.Proof.TileA

/-! The attention kernel: what one grid point leaves in its block of the result. -/

@[expose] public section

set_option maxRecDepth 16384

noncomputable section

namespace Cert.Mix.OutA

open Cert.AttnIdeal Cert.AttnIdeal.Gen Idealize.ShloMosaic Idealize.ShloMosaic.TcCoe Idealize.SL.Sem Cert.Mix.TileA

variable (c : Dev nD) (i : grid0.Coords) (arg2 : Memref sig .tc .smem S16 .f32) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x128 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S2048x128 .bf16) (harg9 : arg9.IsWhole)
    (x0 : Vec Ideal S16 .f32) (x1 : Vec Ideal S2048x128 .f32) (x2 : Vec Ideal S2048x128 .bf16) (x3 : Vec Ideal S2048x128 .bf16) (x4 : Vec Ideal S1x8x128 .f32) (x5 : Vec Ideal S1x512x256 .f32) (x6 : Vec Ideal S1x512x256 .f32)

theorem hz3 : (![0, 0, 0] : Fin 3 → Nat) = fun _ => 0 := funext fun a => by fin_cases a <;> rfl

/-- Block `j` of the keys or values. -/
def blk {e : EltTy} (x : Vec Ideal S2048x128 e) (j : ℕ) : Vec Ideal S256x128 e :=
  fun y => x (ix2 ⟨(256 * j + (y 0).val) % 2048, Nat.mod_lt _ (by norm_num)⟩ (y 1))

theorem ld_blk {e : EltTy} (x : Vec Ideal S2048x128 e) (o j : ℕ) (ho : o = 256 * j) (hj : j < 8) (h) :
    View.ld x (Rect.unit (s := S2048x128) ![o, 0] ![256, 128] h) = blk x j := by
  subst ho
  funext y
  have hy : (y 0).val < 256 := (y 0).isLt
  refine congrArg x (funext fun a => Fin.ext ?_)
  fin_cases a
  · show 256 * j + 1 * (y 0).val = (256 * j + (y 0).val) % 2048
    omega
  · show 0 + 1 * (y 1).val = (y 1).val
    omega

/-- A row of the tile's result. -/
def rowA (cc : FVec Ideal S512x1 .f32) (r : Fin 2048) (j : Fin 128) : EReal :=
  meanN (r.val / 256)
    (fun jj l => lg (r.val / 256) (blk x1 (r.val / 256)) (blk x2) x4 x5 x6 cc jj (ix2 (hrow ⟨r.val % 256, Nat.mod_lt _ (by norm_num)⟩ j) l))
    (fun jj l => blk x3 jj (ix2 l j))

theorem piece (cc : FVec Ideal S512x1 .f32) (n : ℕ) (P : Vec Ideal S256x128 .bf16) (hP : P = tileN n (lg n (blk x1 n) (blk x2) x4 x5 x6 cc) (blk x3))
    (x : S256x128.Idx) (r : Fin 2048) (j : Fin 128) (h0 : r.val = 256 * n + (x 0).val) (h1 : j.val = (x 1).val) :
    P x = rowA x1 x2 x3 x4 x5 x6 cc r j := by
  have hx : (x 0).val < 256 := (x 0).isLt
  obtain ⟨a, b, rfl⟩ : ∃ (a : Fin 256) (b : Fin 128), x = ix2 a b := ⟨x 0, x 1, eq_ix2 x⟩
  have hb : j = b := Fin.ext h1
  subst hb
  have h0 : r.val = 256 * n + a.val := h0
  have e1 : r.val / 256 = n := by omega
  have e2 : (⟨r.val % 256, Nat.mod_lt _ (by norm_num)⟩ : Fin 256) = a := Fin.ext (by show r.val % 256 = a.val; omega)
  rw [hP, tileN_apply]
  unfold rowA
  rw [e1, e2]

set_option maxHeartbeats 2000000 in
theorem out_apply (r : Fin 2048) (j : Fin 128) :
    out0_A_7 c i arg2 harg2 arg3 harg3 arg4 harg4 arg5 harg5 arg6 harg6 arg7 harg7 arg8 harg8 arg9 harg9 x0 x1 x2 x3 x4 x5 x6 (ix2 r j)
      = rowA x1 x2 x3 x4 x5 x6 (k0_pay2 (x0 (ix1 ⟨2 * (i 1).val, by have : (i 1).val < 8 := (i 1).isLt; omega⟩))
          (x0 (ix1 ⟨2 * (i 1).val + 1, by have : (i 1).val < 8 := (i 1).isLt; omega⟩))) r j := by
  unfold out0_A_7
  rw [View.read_writes_eq_canon _ _ _ (cover0_A_7 c i _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x512x256) hz3, View.ld_unit_zero (S := S1x8x128) hz3]
  have hi : (i 1).val < 8 := (i 1).isLt
  simp only [ld_blk _ 0 0 rfl (by norm_num), ld_blk _ 256 1 rfl (by norm_num), ld_blk _ 512 2 rfl (by norm_num), ld_blk _ 768 3 rfl (by norm_num),
    ld_blk _ 1024 4 rfl (by norm_num), ld_blk _ 1280 5 rfl (by norm_num), ld_blk _ 1536 6 rfl (by norm_num), ld_blk _ 1792 7 rfl (by norm_num)]
  generalize hcc : k0_pay2 (F := Ideal) _ _ = cc
  have ecc : k0_pay2 (x0 (ix1 ⟨2 * (i 1).val, by omega⟩)) (x0 (ix1 ⟨2 * (i 1).val + 1, by omega⟩)) = cc := by
    rw [← hcc]
    congr 1
    · refine congrArg x0 (funext fun a => Fin.ext ?_)
      fin_cases a
      exact (by decide : ∀ n < 8, 2 * n = BitVec.toNat (Scalar.indexCast (Scalar.muli 2#32 (BitVec.ofNat 32 n))) + 1 * 0) _ hi
    · refine congrArg x0 (funext fun a => Fin.ext ?_)
      fin_cases a
      exact (by decide : ∀ n < 8, 2 * n + 1 = BitVec.toNat (Scalar.indexCast (Scalar.addi (Scalar.muli 2#32 (BitVec.ofNat 32 n)) 1#32)) + 1 * 0) _ hi
  rw [ecc]
  canon_tiles x h
  · exact piece x1 x2 x3 x4 x5 x6 cc 7 _ (by simp only [tileN, topN, sumN, mixN, lg, penC, penB, colL, Nat.reduceAdd, Nat.reduceEqDiff, Nat.reduceLeDiff, reduceIte, ↓reduceIte]; rfl) x r j h0 h1
  · exact piece x1 x2 x3 x4 x5 x6 cc 6 _ (by simp only [tileN, topN, sumN, mixN, lg, penC, penB, colL, Nat.reduceAdd, Nat.reduceEqDiff, Nat.reduceLeDiff, reduceIte, ↓reduceIte]; rfl) x r j h0 h1
  · exact piece x1 x2 x3 x4 x5 x6 cc 5 _ (by simp only [tileN, topN, sumN, mixN, lg, penC, penB, colL, Nat.reduceAdd, Nat.reduceEqDiff, Nat.reduceLeDiff, reduceIte, ↓reduceIte]; rfl) x r j h0 h1
  · exact piece x1 x2 x3 x4 x5 x6 cc 4 _ (by simp only [tileN, topN, sumN, mixN, lg, penC, penB, colL, Nat.reduceAdd, Nat.reduceEqDiff, Nat.reduceLeDiff, reduceIte, ↓reduceIte]; rfl) x r j h0 h1
  · exact piece x1 x2 x3 x4 x5 x6 cc 3 _ (by simp only [tileN, topN, sumN, mixN, lg, penC, penB, colL, Nat.reduceAdd, Nat.reduceEqDiff, Nat.reduceLeDiff, reduceIte, ↓reduceIte]; rfl) x r j h0 h1
  · exact piece x1 x2 x3 x4 x5 x6 cc 2 _ (by simp only [tileN, topN, sumN, mixN, lg, penC, penB, colL, Nat.reduceAdd, Nat.reduceEqDiff, Nat.reduceLeDiff, reduceIte, ↓reduceIte]; rfl) x r j h0 h1
  · exact piece x1 x2 x3 x4 x5 x6 cc 1 _ (by simp only [tileN, topN, sumN, mixN, lg, penC, penB, colL, Nat.reduceAdd, Nat.reduceEqDiff, Nat.reduceLeDiff, reduceIte, ↓reduceIte]; rfl) x r j h0 h1
  · exact piece x1 x2 x3 x4 x5 x6 cc 0 _ (by simp only [tileN, topN, sumN, mixN, lg, penC, penB, colL, Nat.reduceAdd, Nat.reduceEqDiff, Nat.reduceLeDiff, reduceIte, ↓reduceIte]; rfl) x r j (by have h0 : r.val = (x 0).val := h0; omega) h1

end Cert.Mix.OutA
-- ==== Proof.RefA.lean ====
module

public import proofs.«01_k».proof.Proof.MathA
public import proofs.«01_k».proof.Proof.Gen.AttnRefIdeal.Read
public import Idealize.ShloMosaic.Lib.WordCmp

/-! The prompt attention's reference read at an index. -/

@[expose] public section

noncomputable section

namespace Cert.Mix.RefA

open scoped Classical

open Cert.AttnRefIdeal Cert.AttnRefIdeal.Read Cert.AttnRefIdeal.Gen Idealize.ShloMosaic

variable (x0 : (⟨S16384x1024, .f32⟩ : BufTy).Contents (Elt Ideal)) (x1 x2 : (⟨S16384x1024, .bf16⟩ : BufTy).Contents (Elt Ideal))
  (x3 : (⟨S64x1x1024, .f32⟩ : BufTy).Contents (Elt Ideal)) (x4 x5 : (⟨S8x512x256, .f32⟩ : BufTy).Contents (Elt Ideal))
  (x6 : (⟨S16, .f32⟩ : BufTy).Contents (Elt Ideal))

theorem ninf : Ideal.ofBits .f32 0xFF800000#32 = ⊥ := by
  simp [Ideal.ofBits, Ideal.ieee]

theorem one32 : Ideal.ofBits .f32 0x3F800000#32 = 1 := Ideal.ofBits_one_f32

theorem zero32 : Ideal.ofBits .f32 0x00000000#32 = 0 := by
  simp [Ideal.ofBits, Ideal.ieee]

theorem three32 : Ideal.ofBits .f32 0x40400000#32 = ((3 : ℕ) : EReal) := by
  simp [Ideal.ofBits, Ideal.ieee, ← EReal.coe_mul]
  norm_num
  first | rfl | norm_cast

theorem most_apply (y : FVec Ideal S8x16x2048x2048 .f32) (b : Fin 8) (h : Fin 16) (t : Fin 2048) :
    (Host.reduce FloatOps.maximumf y (constant S_ .f32 0xFF800000#32) reducesTo_S8x16x2048x2048_S8x16x2048_d3 h_S_ : FVec Ideal S8x16x2048 .f32) (ix3 b h t)
      = most fun s => y (ix4 b h t s) := by
  pointwise
  rw [ninf]
  rfl

theorem sel_dec {α : Type} (p : Prop) [Decidable p] (a b : α) : Scalar.select (BitVec.ofBool (decide p)) a b = if p then a else b := by
  by_cases h : p <;> simp [Scalar.select, h]

/-- Row `t` of sequence `b`. -/
def row (b : Fin 8) (t : Fin 2048) : Fin 16384 := ⟨b.val * 2048 + t.val, by omega⟩

/-- Lane `d` of head `h`. -/
def hc (h : Fin 16) (d : Fin 64) : Fin 1024 := ⟨h.val * 64 + d.val, by omega⟩

/-- The product of a query with the mean key of block `j`. -/
def gate (b : Fin 8) (h : Fin 16) (t : Fin 2048) (j : Fin 8) : EReal :=
  ∑ d, x0 (ix2 (row b t) (hc h d)) * x3 (ix3 ⟨b.val * 8 + j.val, by omega⟩ 0 (hc h d))

/-- The gates of the past blocks. -/
def gates (b : Fin 8) (h : Fin 16) (t : Fin 2048) (j : Fin 8) : EReal := if j.val < t.val / 256 then gate x0 x3 b h t j else ⊥

/-- Whether a query attends to block `j`. -/
def chosen (b : Fin 8) (h : Fin 16) (t : Fin 2048) (j : Fin 8) : Prop :=
  ((above (gates x0 x3 b h t) (gates x0 x3 b h t j)).card < 3 ∧ j.val < t.val / 256) ∨ j.val = t.val / 256

/-- The bias of a query and a key. -/
def bias (h : Fin 16) (t s : Fin 2048) : EReal :=
  if t.val / 256 = s.val / 256 then x4 (ix3 ⟨h.val / 2, by omega⟩ ⟨h.val % 2 * 256 + t.val % 256, by omega⟩ ⟨s.val % 256, by omega⟩)
  else if t.val / 256 = s.val / 256 + 1 then x5 (ix3 ⟨h.val / 2, by omega⟩ ⟨h.val % 2 * 256 + t.val % 256, by omega⟩ ⟨s.val % 256, by omega⟩)
  else x6 (ix1 h)

/-- The logit of a query and a key. -/
def logit (b : Fin 8) (h : Fin 16) (t s : Fin 2048) : EReal :=
  if chosen x0 x3 b h t ⟨s.val / 256, by omega⟩ then
    (∑ d, x0 (ix2 (row b t) (hc h d)) * x1 (ix2 (row b s) (hc h d))) * Ideal.ofBits .f32 0x3E000000#32 + bias x4 x5 x6 h t s
  else ⊥

theorem q_apply (b : Fin 8) (t : Fin 2048) (h : Fin 16) (d : Fin 64) : val_main_v0 (F := Ideal) x0 (ix4 b t h d) = x0 (ix2 (row b t) (hc h d)) := by
  rw [val_main_v0_apply]; congr 1; funext a
  match a with
  | ⟨0, _⟩ => exact Fin.ext (show (((b.val * 2048 + t.val) * 16 + h.val) * 64 + d.val) / 1024 = b.val * 2048 + t.val by omega)
  | ⟨1, _⟩ => exact Fin.ext (show (((b.val * 2048 + t.val) * 16 + h.val) * 64 + d.val) % 1024 = h.val * 64 + d.val by omega)

theorem km_apply (b : Fin 8) (j : Fin 8) (h : Fin 16) (d : Fin 64) :
    val_main_v14 (F := Ideal) x3 (ix4 b j h d) = x3 (ix3 ⟨b.val * 8 + j.val, by omega⟩ 0 (hc h d)) := by
  rw [val_main_v14_apply]; congr 1; funext a
  match a with
  | ⟨0, _⟩ => exact Fin.ext (show (((b.val * 8 + j.val) * 16 + h.val) * 64 + d.val) / 1024 = b.val * 8 + j.val by omega)
  | ⟨1, _⟩ => rfl
  | ⟨2, _⟩ => exact Fin.ext (show (((b.val * 8 + j.val) * 16 + h.val) * 64 + d.val) % 1024 = h.val * 64 + d.val by omega)

theorem q_apply' (b : Fin 8) (t : Fin 2048) (h : Fin 16) (d : Fin 64) : val_main_v13 (F := Ideal) x0 (ix4 b t h d) = x0 (ix2 (row b t) (hc h d)) :=
  q_apply x0 b t h d

theorem k_apply (b : Fin 8) (t : Fin 2048) (h : Fin 16) (d : Fin 64) : val_main_v2 (F := Ideal) x1 (ix4 b t h d) = x1 (ix2 (row b t) (hc h d)) := by
  rw [val_main_v2_apply, val_main_v1_apply]
  refine congrArg x1 (funext fun a => ?_)
  match a with
  | ⟨0, _⟩ => exact Fin.ext (show (((b.val * 2048 + t.val) * 16 + h.val) * 64 + d.val) / 1024 = b.val * 2048 + t.val by omega)
  | ⟨1, _⟩ => exact Fin.ext (show (((b.val * 2048 + t.val) * 16 + h.val) * 64 + d.val) % 1024 = h.val * 64 + d.val by omega)

theorem v_apply (b : Fin 8) (t : Fin 2048) (h : Fin 16) (d : Fin 64) : val_main_v4 (F := Ideal) x2 (ix4 b t h d) = x2 (ix2 (row b t) (hc h d)) :=
  k_apply x2 b t h d

theorem gate_apply (b : Fin 8) (h : Fin 16) (t : Fin 2048) (j : Fin 8) : val_main_v15 (F := Ideal) x0 x3 (ix4 b h t j) = gate x0 x3 b h t j := by
  pointwise [val_main_v15, dot_S8x2048x16x64_S8x8x16x64_S8x16x2048x8_3_3_1_1_02_02, km_apply, q_apply']
  rfl

theorem own_apply (t : Fin 2048) : val_main_v7 (F := Ideal) (ix1 t) = BitVec.ofNat 32 (t.val / 256) := by
  pointwise [val_main_v7, val_main_v6]

theorem past_apply (t : Fin 2048) (j : Fin 8) : val_main_v12 (F := Ideal) (ix2 t j) = BitVec.ofBool (decide (j.val < t.val / 256)) := by
  pointwise [val_main_v12, val_main_v11, val_main_v10, val_main_v9, val_main_v8, val_main_v5, own_apply]
  exact WordCmp.cmpi_slt_ofNat (by omega) (by omega)

theorem same_apply (t : Fin 2048) (j : Fin 8) : val_main_v34 (F := Ideal) (ix2 t j) = BitVec.ofBool (decide (j.val = t.val / 256)) := by
  pointwise [val_main_v34, val_main_v33, val_main_v32, val_main_v31, val_main_v30, val_main_v5, own_apply]
  exact WordCmp.cmpi_eq_ofNat (by omega) (by omega)

theorem gates_apply (b : Fin 8) (h : Fin 16) (t : Fin 2048) (j : Fin 8) : val_main_v16 (F := Ideal) x0 x3 (ix4 b h t j) = gates x0 x3 b h t j := by
  pointwise [val_main_v16, val_main_call0_v2, val_main_call0_v1, val_main_call0_v0, val_main_cst, gate_apply, past_apply]
  unfold gates
  rw [← ninf]
  rfl

theorem beats_apply (b : Fin 8) (h : Fin 16) (t : Fin 2048) (j x : Fin 8) : val_main_v22 (F := Ideal) x0 x3 (ix5 b h t j x)
    = if gates x0 x3 b h t j < gates x0 x3 b h t x then Ideal.ofBits .f32 0x3F800000#32 else Ideal.ofBits .f32 0x00000000#32 := by
  pointwise [val_main_v22, val_main_v21, val_main_v20, val_main_v19, val_main_v18, val_main_v17, val_main_call1_v0,
    val_main_call1_v1, val_main_cst_0, val_main_cst_1, gates_apply]

theorem larger_apply (b : Fin 8) (h : Fin 16) (t : Fin 2048) (j : Fin 8) : val_main_v24 (F := Ideal) x0 x3 (ix4 b h t j)
    = ((above (gates x0 x3 b h t) (gates x0 x3 b h t j)).card : EReal) := by
  have e : val_main_v24 (F := Ideal) x0 x3 (ix4 b h t j)
      = ∑ x, if gates x0 x3 b h t j < gates x0 x3 b h t x then Ideal.ofBits .f32 0x3F800000#32 else Ideal.ofBits .f32 0x00000000#32 := by
    pointwise [val_main_v24, val_main_cst_2]
    refine Finset.sum_congr rfl fun x _ => (beats_apply x0 x3 b h t j x).trans ?_
    rw [one32, zero32]
  rw [e, above, ← Finset.sum_boole]
  refine Finset.sum_congr rfl fun x _ => ?_
  rw [one32, zero32]

theorem chosen_apply (b : Fin 8) (h : Fin 16) (t : Fin 2048) (j : Fin 8) :
    val_main_v37 (F := Ideal) x0 x3 (ix4 b h t j) = BitVec.ofBool (decide (chosen x0 x3 b h t j)) := by
  have e : ((above (gates x0 x3 b h t) (gates x0 x3 b h t j)).card : EReal) < Ideal.ofBits .f32 0x40400000#32
      ↔ (above (gates x0 x3 b h t) (gates x0 x3 b h t j)).card < 3 := by
    rw [three32]
    exact Nat.cast_lt (α := EReal)
  pointwise [val_main_v37, val_main_v36, val_main_v35, val_main_v29, val_main_v28, val_main_v27, val_main_v26, val_main_v25, val_main_cst_3,
    past_apply, same_apply, larger_apply, e]
  show BitVec.ofBool _ &&& BitVec.ofBool _ ||| BitVec.ofBool _ = _
  rw [BitVec.ofBool_and_ofBool, BitVec.ofBool_or_ofBool, ← Bool.decide_and, ← Bool.decide_or]
  exact congrArg BitVec.ofBool (decide_eq_decide.2 Iff.rfl)

theorem own_bias_apply (h : Fin 16) (T S : Fin 256) : val_main_v43 (F := Ideal) x4 (ix5 h 0 T 0 S)
    = x4 (ix3 ⟨h.val / 2, by omega⟩ ⟨h.val % 2 * 256 + T.val, by omega⟩ S) := by
  rw [val_main_v43_apply]; congr 1; funext a
  match a with
  | ⟨0, _⟩ => exact Fin.ext (show _ = h.val / 2 by simp; omega)
  | ⟨1, _⟩ => exact Fin.ext (show _ = h.val % 2 * 256 + T.val by simp; omega)
  | ⟨2, _⟩ => exact Fin.ext (show _ = S.val by simp)

theorem prev_bias_apply (h : Fin 16) (T S : Fin 256) : val_main_v49 (F := Ideal) x5 (ix5 h 0 T 0 S)
    = x5 (ix3 ⟨h.val / 2, by omega⟩ ⟨h.val % 2 * 256 + T.val, by omega⟩ S) :=
  own_bias_apply x5 h T S

theorem bias_apply (h : Fin 16) (t s : Fin 2048) : val_main_v53 (F := Ideal) x4 x5 x6 (ix3 h t s) = bias x4 x5 x6 h t s := by
  pointwise [val_main_v53, val_main_v52, val_main_v51, val_main_v50, val_main_call2_v0, val_main_call2_v1, val_main_call2_v2, val_main_call3_v0, val_main_call3_v1,
    val_main_v48, val_main_v47, val_main_v46, val_main_v45, val_main_v44, val_main_c, val_main_v42, val_main_v41, val_main_v40, val_main_v39, val_main_v38, val_main_v5,
    own_bias_apply, prev_bias_apply]
  have e : IntOp.addi (BitVec.ofNat 32 (s.val / 256)) 1#32 = BitVec.ofNat 32 (s.val / 256 + 1) := (BitVec.ofNat_add ..).symm
  rw [e, WordCmp.cmpi_eq_ofNat (by omega) (by omega), WordCmp.cmpi_eq_ofNat (by omega) (by omega), sel_dec, sel_dec]
  rfl

theorem logit_apply (b : Fin 8) (h : Fin 16) (t s : Fin 2048) : val_main_v63 (F := Ideal) x0 x1 x3 x4 x5 x6 (ix4 b h t s) = logit x0 x1 x3 x4 x5 x6 b h t s := by
  pointwise [val_main_v63, val_main_v62, val_main_v61, val_main_v60, val_main_v59, val_main_v58, val_main_v57, val_main_cst_4, val_main_call4_v0, val_main_call4_v1,
    val_main_cst_5, val_main_v56, val_main_v55, val_main_v54, dot_S8x2048x16x64_S8x2048x16x64_S8x16x2048x2048_3_3_1_1_02_02, q_apply, k_apply, bias_apply, chosen_apply]
  unfold logit
  rw [← ninf]
  rfl

theorem peak_apply (b : Fin 8) (h : Fin 16) (t : Fin 2048) : val_main_v64 (F := Ideal) x0 x1 x3 x4 x5 x6 (ix3 b h t)
    = most (logit x0 x1 x3 x4 x5 x6 b h t) :=
  (most_apply (val_main_v63 (F := Ideal) x0 x1 x3 x4 x5 x6) b h t).trans
    (congrArg most (funext fun s => logit_apply x0 x1 x3 x4 x5 x6 b h t s))

theorem p_apply (b : Fin 8) (h : Fin 16) (t s : Fin 2048) : val_main_v68 (F := Ideal) x0 x1 x3 x4 x5 x6 (ix4 b h t s)
    = Ideal.exp (logit x0 x1 x3 x4 x5 x6 b h t s - most (logit x0 x1 x3 x4 x5 x6 b h t)) := by
  have e : idx_main_v65 (idx_main_v66 (ix4 b h t s)) = ix3 b h t := by
    funext a
    match a with
    | ⟨0, _⟩ => rfl
    | ⟨1, _⟩ => rfl
    | ⟨2, _⟩ => rfl
  rw [val_main_v68_apply, val_main_v67_apply, val_main_v66_apply, val_main_v65_apply, e, peak_apply, logit_apply]
  rfl

theorem out_apply (n : Fin 16384) (c : Fin 1024) (b : Fin 8) (t : Fin 2048) (h : Fin 16) (d : Fin 64) (hn : n = row b t) (hcd : c = hc h d) :
    val_main_v77 (F := Ideal) x0 x1 x2 x3 x4 x5 x6 (ix2 n c)
      = meanAll (logit x0 x1 x3 x4 x5 x6 b h t) (fun s => x2 (ix2 (row b s) (hc h d))) := by
  have e : val_main_v76 (F := Ideal) x0 x1 x2 x3 x4 x5 x6 (ix2 n c) = val_main_v75 (F := Ideal) x0 x1 x2 x3 x4 x5 x6 (ix4 b t h d) := by
    subst hn hcd
    rw [val_main_v76_apply]; congr 1; funext a
    match a with
    | ⟨0, _⟩ => exact Fin.ext (show ((b.val * 2048 + t.val) * 1024 + (h.val * 64 + d.val)) / 2097152 = b.val by omega)
    | ⟨1, _⟩ => exact Fin.ext (show ((b.val * 2048 + t.val) * 1024 + (h.val * 64 + d.val)) / 1024 % 2048 = t.val by omega)
    | ⟨2, _⟩ => exact Fin.ext (show ((b.val * 2048 + t.val) * 1024 + (h.val * 64 + d.val)) / 64 % 16 = h.val by omega)
    | ⟨3, _⟩ => exact Fin.ext (show ((b.val * 2048 + t.val) * 1024 + (h.val * 64 + d.val)) % 64 = d.val by omega)
  pointwise [val_main_v77, e, val_main_v75, val_main_v74, val_main_v73, val_main_v72, val_main_v71, val_main_v70, val_main_v69, val_main_cst_7,
    dot_S8x2048x16x64_S8x16x2048x2048_S8x16x64x2048_1_3_3_2_02_01, p_apply, v_apply]
  unfold meanAll
  exact congrArg (Ideal.div · _) (Finset.sum_congr rfl fun s _ => mul_comm _ _)

end Cert.Mix.RefA
-- ==== Proof.LinkA.lean ====
module

public import proofs.«01_k».proof.Proof.OutA
public import proofs.«01_k».proof.Proof.RefA

/-! One grid point of the attention kernel computes the reference's rows of its two heads. -/

@[expose] public section

set_option backward.proofsInPublic true

noncomputable section

namespace Cert.Mix.LinkA

open Cert.AttnIdeal Idealize.ShloMosaic Cert.Mix.TileA Cert.Mix.OutA Cert.Mix.RefA
open scoped Classical

theorem pick (R B : EReal) (p : Prop) : R + (B + if p then 0 else ⊥) = if p then R + B else ⊥ := by
  split
  · rw [add_zero]
  · rw [EReal.add_bot, EReal.add_bot]

/-- Of the masked queries' lanes only the head's own 64 count. -/
theorem sum_mq (q : Vec Ideal S256x128 .f32) (w : Fin 128 → EReal) (T : Fin 256) (j : Fin 128) :
    ∑ d, mq q (hrow T j) d * w d = ∑ d : Fin 64, q (ix2 T ⟨j.val / 64 * 64 + d.val, by omega⟩) * w ⟨j.val / 64 * 64 + d.val, by omega⟩ := by
  refine (Fin.sum_univ_add (a := 64) (b := 64) fun d : Fin 128 => mq q (hrow T j) d * w d).trans ?_
  by_cases hj : j.val < 64
  · have e0 : j.val / 64 = 0 := by omega
    have er : hrow T j = ⟨T.val, by omega⟩ := if_pos hj
    rw [er, Finset.sum_eq_zero (s := Finset.univ) (f := fun d : Fin 64 => mq q _ (Fin.natAdd 64 d) * w (Fin.natAdd 64 d)), add_zero]
    · refine Finset.sum_congr rfl fun d _ => ?_
      have ed : (⟨j.val / 64 * 64 + d.val, by omega⟩ : Fin 128) = Fin.castAdd 64 d := Fin.ext (by show j.val / 64 * 64 + d.val = d.val; omega)
      rw [ed]
      unfold mq
      rw [dif_pos T.isLt, if_pos (show (Fin.castAdd 64 d).val < 64 from d.isLt)]
    · intro d _
      unfold mq
      rw [dif_pos T.isLt, if_neg (show ¬(Fin.natAdd 64 d).val < 64 by show ¬64 + d.val < 64; omega), zero_mul]
  · have e0 : j.val / 64 = 1 := by omega
    have er : hrow T j = ⟨256 + T.val, by omega⟩ := if_neg hj
    rw [er, Finset.sum_eq_zero (s := Finset.univ) (f := fun d : Fin 64 => mq q _ (Fin.castAdd 64 d) * w (Fin.castAdd 64 d)), zero_add]
    · refine Finset.sum_congr rfl fun d _ => ?_
      have ed : (⟨j.val / 64 * 64 + d.val, by omega⟩ : Fin 128) = Fin.natAdd 64 d := Fin.ext (by show j.val / 64 * 64 + d.val = 64 + d.val; omega)
      have et : (⟨256 + T.val - 256, by omega⟩ : Fin 256) = T := Fin.ext (by show 256 + T.val - 256 = T.val; omega)
      rw [ed]
      unfold mq
      rw [dif_neg (show ¬256 + T.val < 256 by omega), if_pos (show 64 ≤ (Fin.natAdd 64 d).val by show 64 ≤ 64 + d.val; omega)]
      show q (ix2 (⟨256 + T.val - 256, _⟩ : Fin 256) _) * _ = _
      rw [et]
    · intro d _
      unfold mq
      rw [dif_neg (show ¬256 + T.val < 256 by omega), if_neg (show ¬64 ≤ (Fin.castAdd 64 d).val from Nat.not_le.2 d.isLt), zero_mul]

section Point

variable (b : Fin 8) (hp : Fin 8) (x1 : Vec Ideal S2048x128 .f32) (x2 x3 : Vec Ideal S2048x128 .bf16) (x4 : Vec Ideal S1x8x128 .f32)
  (x5 x6 : Vec Ideal S1x512x256 .f32) (cc : FVec Ideal S512x1 .f32)
  (a0 : Vec Ideal S16384x1024 .f32) (a1 a2 : Vec Ideal S16384x1024 .bf16) (a3 : Vec Ideal S64x1x1024 .f32) (a4 a5 : Vec Ideal S8x512x256 .f32)
  (a6 : Vec Ideal S16 .f32)
  (h1 : ∀ r j, x1 (ix2 r j) = a0 (ix2 (row b r) ⟨hp.val * 128 + j.val, by omega⟩))
  (h2 : ∀ r j, x2 (ix2 r j) = a1 (ix2 (row b r) ⟨hp.val * 128 + j.val, by omega⟩))
  (h3 : ∀ r j, x3 (ix2 r j) = a2 (ix2 (row b r) ⟨hp.val * 128 + j.val, by omega⟩))
  (h4 : ∀ x j, x4 (ix3 0 x j) = a3 (ix3 ⟨b.val * 8 + x.val, by omega⟩ 0 ⟨hp.val * 128 + j.val, by omega⟩))
  (h5 : ∀ r l, x5 (ix3 0 r l) = a4 (ix3 hp r l))
  (h6 : ∀ r l, x6 (ix3 0 r l) = a5 (ix3 hp r l))

/-- The head of a lane of a pair of heads. -/
def hd (hp : Fin 8) (j : Fin 128) : Fin 16 := ⟨2 * hp.val + j.val / 64, by omega⟩

theorem hc_hd (j : Fin 128) (d : Fin 64) : (⟨hp.val * 128 + (j.val / 64 * 64 + d.val), by omega⟩ : Fin 1024) = hc (hd hp j) d :=
  Fin.ext (by show hp.val * 128 + (j.val / 64 * 64 + d.val) = (2 * hp.val + j.val / 64) * 64 + d.val; omega)

theorem row_blk (r : Fin 2048) : (⟨(256 * (r.val / 256) + r.val % 256) % 2048, Nat.mod_lt _ (by norm_num)⟩ : Fin 2048) = r :=
  Fin.ext (by show (256 * (r.val / 256) + r.val % 256) % 2048 = r.val; omega)

/-- The row of a block that a row of the sequence is. -/
def tl (r : Fin 2048) : Fin 256 := ⟨r.val % 256, Nat.mod_lt _ (by norm_num)⟩

theorem blk_at {e : EltTy} (x : Vec Ideal S2048x128 e) (r : Fin 2048) (j : Fin 128) : blk x (r.val / 256) (ix2 (tl r) j) = x (ix2 r j) :=
  congrArg (fun n => x (ix2 n j)) (row_blk r)

include h1 h2 in
theorem raw_eq (r s : Fin 2048) (j : Fin 128) :
    ∑ d, mq (blk x1 (r.val / 256)) (hrow (tl r) j) d * blk x2 (s.val / 256) (ix2 (tl s) d)
      = ∑ d, a0 (ix2 (row b r) (hc (hd hp j) d)) * a1 (ix2 (row b s) (hc (hd hp j) d)) := by
  rw [sum_mq]
  refine Finset.sum_congr rfl fun d _ => ?_
  rw [blk_at, blk_at, h1, h2]
  show a0 (ix2 _ ⟨hp.val * 128 + (j.val / 64 * 64 + d.val), _⟩) * a1 (ix2 _ ⟨hp.val * 128 + (j.val / 64 * 64 + d.val), _⟩) = _
  rw [hc_hd]

include h1 h4 in
theorem gated_eq (r : Fin 2048) (j : Fin 128) (x : Fin 128) :
    gated (BitVec.ofNat 32 (r.val / 256)) (blk x1 (r.val / 256)) x4 (ix2 (hrow (tl r) j) x)
      = if h : x.val < 8 then gates a0 a3 b (hd hp j) r ⟨x.val, h⟩ else ⊥ := by
  rw [gated_apply (blk x1 (r.val / 256)) x4 (r.val / 256) (by omega)]
  by_cases h : x.val < 8
  · rw [dif_pos h]
    unfold gates
    by_cases hx : x.val < r.val / 256
    · rw [if_pos hx, if_pos (show (⟨x.val, h⟩ : Fin 8).val < r.val / 256 from hx), sum_mq]
      refine Finset.sum_congr rfl fun d _ => ?_
      rw [blk_at, h1, dif_pos h, h4]
      show a0 (ix2 _ ⟨hp.val * 128 + (j.val / 64 * 64 + d.val), _⟩) * a3 (ix3 _ _ ⟨hp.val * 128 + (j.val / 64 * 64 + d.val), _⟩) = _
      rw [hc_hd]
    · rw [if_neg hx, if_neg (show ¬(⟨x.val, h⟩ : Fin 8).val < r.val / 256 from hx)]
  · rw [dif_neg h, if_neg (by omega)]

variable (hdist : ∀ h t (x y : Fin 8), x.val < t.val / 256 → y.val < t.val / 256 → gate a0 a3 b h t x = gate a0 a3 b h t y → x = y)

theorem mem_gates (h : Fin 16) (t : Fin 2048) (c : EReal) (x : Fin 8) (hx : x ∈ above (gates a0 a3 b h t) c) : x.val < t.val / 256 := by
  rw [mem_above] at hx
  unfold gates at hx
  by_contra hn
  rw [if_neg hn] at hx
  exact not_lt_bot hx

/-- With no more than three past blocks, all are chosen. -/
theorem few (h : Fin 16) (t : Fin 2048) (x : Fin 8) (ht : t.val / 256 ≤ 3) (hx : x.val < t.val / 256) :
    (above (gates a0 a3 b h t) (gates a0 a3 b h t x)).card < 3 := by
  have hs : above (gates a0 a3 b h t) (gates a0 a3 b h t x) ⊆ Finset.univ.filter fun y : Fin 8 => y.val < t.val / 256 ∧ y ≠ x := fun y hy =>
    Finset.mem_filter.2 ⟨Finset.mem_univ _, mem_gates b a0 a3 h t _ y hy, fun e => by
      subst e
      exact lt_irrefl _ ((mem_above _ _ _).1 hy)⟩
  refine lt_of_le_of_lt (Finset.card_le_card hs) ?_
  generalize t.val / 256 = i at ht hx
  clear hs
  revert x
  interval_cases i <;> decide

include h1 h4 hdist in
/-- The third largest gate keeps the blocks with fewer than three larger gates. -/
theorem kept (r : Fin 2048) (j : Fin 128) (x : Fin 8) (hx : x.val < r.val / 256) :
    pen (BitVec.ofNat 32 (r.val / 256)) (blk x1 (r.val / 256)) x4 (ix2 (hrow (tl r) j) ⟨x.val, by omega⟩)
      = if (above (gates a0 a3 b (hd hp j) r) (gates a0 a3 b (hd hp j) r x)).card < 3 then 0 else ⊥ := by
  rw [pen_apply _ _ _ (by omega)]
  have eG : (fun y => gated (BitVec.ofNat 32 (r.val / 256)) (blk x1 (r.val / 256)) x4 (ix2 (hrow (tl r) j) y))
      = fun y : Fin 128 => if h : y.val < 8 then gates a0 a3 b (hd hp j) r ⟨y.val, h⟩ else ⊥ :=
    funext fun y => gated_eq b hp x1 x4 a0 a3 h1 h4 r j y
  have ex := congrFun eG ⟨x.val, by omega⟩
  simp only [x.isLt, dif_pos] at ex
  rw [eG, ex]
  generalize hc : gates a0 a3 b (hd hp j) r x = c
  have hm : ∀ y : Fin 128, y ∈ above (fun y : Fin 128 => if h : y.val < 8 then gates a0 a3 b (hd hp j) r ⟨y.val, h⟩ else ⊥) c
      ↔ ∃ h : y.val < 8, (⟨y.val, h⟩ : Fin 8) ∈ above (gates a0 a3 b (hd hp j) r) c := fun y => by
    rw [mem_above]
    by_cases h : y.val < 8
    · simp [h, mem_above]
    · simp [h]
  have hinj : Set.InjOn (fun y : Fin 128 => if h : y.val < 8 then gates a0 a3 b (hd hp j) r ⟨y.val, h⟩ else ⊥)
      (above (fun y : Fin 128 => if h : y.val < 8 then gates a0 a3 b (hd hp j) r ⟨y.val, h⟩ else ⊥) c) := fun y hy z hz e => by
    obtain ⟨y8, hy⟩ := (hm y).1 hy
    obtain ⟨z8, hz⟩ := (hm z).1 hz
    have hy := mem_gates b a0 a3 _ _ _ _ hy
    have hz := mem_gates b a0 a3 _ _ _ _ hz
    simp only [y8, z8, dif_pos, gates, hy, hz, if_pos] at e
    exact Fin.ext (Fin.mk.inj (hdist _ _ _ _ hy hz e))
  have hcard : (above (fun y : Fin 128 => if h : y.val < 8 then gates a0 a3 b (hd hp j) r ⟨y.val, h⟩ else ⊥) c).card
      = (above (gates a0 a3 b (hd hp j) r) c).card := by
    symm
    refine Finset.card_bij (fun y _ => ⟨y.val, by omega⟩) (fun y hy => (hm _).2 ⟨y.isLt, hy⟩) (fun y _ z _ e => Fin.ext (Fin.mk.inj e)) fun y hy => ?_
    obtain ⟨y8, hy⟩ := (hm y).1 hy
    exact ⟨_, hy, rfl⟩
  rw [← hcard]
  exact if_congr (third_le _ _ hinj) rfl rfl

include h1 h2 h4 h5 h6 hdist in
theorem logit_eq (r s : Fin 2048) (j : Fin 128) (hcc : cc (ix2 (hrow (tl r) j) 0) = a6 (ix1 (hd hp j))) :
    logit a0 a1 a3 a4 a5 a6 b (hd hp j) r s
      = if s.val / 256 ≤ r.val / 256 then lg (r.val / 256) (blk x1 (r.val / 256)) (blk x2) x4 x5 x6 cc (s.val / 256) (ix2 (hrow (tl r) j) (tl s)) else ⊥ := by
  have hrowv : hrow (tl r) j = ⟨(hd hp j).val % 2 * 256 + r.val % 256, by omega⟩ := by
    unfold hrow
    split
    · exact Fin.ext (by show r.val % 256 = (2 * hp.val + j.val / 64) % 2 * 256 + r.val % 256; omega)
    · exact Fin.ext (by show 256 + r.val % 256 = (2 * hp.val + j.val / 64) % 2 * 256 + r.val % 256; omega)
  have ehp : hp = ⟨(hd hp j).val / 2, by omega⟩ := Fin.ext (by show hp.val = (2 * hp.val + j.val / 64) / 2; omega)
  split
  · next hle =>
    rw [lg_apply _ _ _ (by omega) _ _ _ _ _ hle, raw_eq b hp x1 x2 a0 a1 h1 h2 r s j, h5, h6, hcc]
    unfold logit bias
    generalize (∑ d, a0 (ix2 (row b r) (hc (hd hp j) d)) * a1 (ix2 (row b s) (hc (hd hp j) d))) * Ideal.ofBits .f32 0x3E000000#32 = R
    by_cases he : s.val / 256 = r.val / 256
    · rw [if_pos (show chosen a0 a3 b (hd hp j) r ⟨s.val / 256, by omega⟩ from Or.inr he), if_pos he, if_pos he.symm]
      congr 2
      rw [← hrowv, ← ehp]; rfl
    · have hlt : s.val / 256 < r.val / 256 := by omega
      have hP : (if r.val / 256 ≤ 3 then (0 : EReal) else pen (BitVec.ofNat 32 (r.val / 256)) (blk x1 (r.val / 256)) x4 (ix2 (hrow (tl r) j) ⟨s.val / 256, by omega⟩))
          = if chosen a0 a3 b (hd hp j) r ⟨s.val / 256, by omega⟩ then 0 else ⊥ := by
        have hch : chosen a0 a3 b (hd hp j) r ⟨s.val / 256, by omega⟩
            ↔ (above (gates a0 a3 b (hd hp j) r) (gates a0 a3 b (hd hp j) r ⟨s.val / 256, by omega⟩)).card < 3 := by
          unfold chosen
          constructor
          · rintro (h | h)
            · exact h.1
            · exact absurd h he
          · exact fun h => Or.inl ⟨h, hlt⟩
        split
        · next h3 => rw [if_pos (hch.2 (few b a0 a3 _ _ _ h3 hlt))]
        · exact (kept b hp x1 x4 a0 a3 h1 h4 hdist r j ⟨s.val / 256, by omega⟩ hlt).trans (if_congr hch.symm rfl rfl)
      rw [if_neg he, hP, pick, if_neg (Ne.symm he)]
      refine if_congr Iff.rfl (congrArg (R + ·) ?_) rfl
      by_cases h1 : s.val / 256 + 1 = r.val / 256
      · rw [if_pos h1, if_pos h1.symm, ← hrowv, ← ehp]; rfl
      · rw [if_neg h1, if_neg (Ne.symm h1)]
  · next hle =>
    unfold logit
    rw [if_neg]
    rintro (h | h)
    · exact hle (le_of_lt h.2)
    · exact hle (le_of_eq h)

include h1 h2 h3 h4 h5 h6 hdist in
/-- A row of a tile's result is the reference's. -/
theorem rowA_eq (r : Fin 2048) (j : Fin 128) (hcc : cc (ix2 (hrow (tl r) j) 0) = a6 (ix1 (hd hp j))) :
    rowA x1 x2 x3 x4 x5 x6 cc r j
      = meanAll (logit a0 a1 a3 a4 a5 a6 b (hd hp j) r) (fun s => a2 (ix2 (row b s) (hc (hd hp j) ⟨j.val % 64, by omega⟩))) := by
  refine (meanAll_eq (r.val / 256) (by omega) _ _ _ _ (fun s => logit_eq b hp x1 x2 x4 x5 x6 cc a0 a1 a3 a4 a5 a6 h1 h2 h4 h5 h6 hdist r s j hcc)
    fun s => ?_).symm
  refine Eq.trans ?_ (blk_at x3 s j).symm
  rw [h3]
  congr 2
  exact Fin.ext (by show (2 * hp.val + j.val / 64) * 64 + j.val % 64 = hp.val * 128 + j.val; omega)

end Point

end Cert.Mix.LinkA
-- ==== Proof.PreA.lean ====
module

public import proofs.«01_k».proof.Proof.RefA
public import proofs.«01_k».proof.Proof.Gen.Pre_distinct_gates

/-! The precondition of the prompt attention's claim read at an index. -/

@[expose] public section

noncomputable section

namespace Cert.Mix.PreA

open Cert.Pre_distinct_gates Cert.Pre_distinct_gates.Gen Idealize.ShloMosaic Cert.Mix.RefA

variable (x0 : FVec Ideal S16384x1024 .f32) (x1 x2 : FVec Ideal S16384x1024 .bf16) (x3 : FVec Ideal S64x1x1024 .f32)
  (x4 x5 : FVec Ideal S8x512x256 .f32) (x6 : FVec Ideal S16 .f32)

theorem fn_apply (b : Fin 8) (h : Fin 16) (t : Fin 2048) (j j' : Fin 8) :
    fn (F := Ideal) x0 x1 x2 x3 x4 x5 x6 (ix5 b h t j j')
      = BitVec.ofBool (decide (gate x0 x3 b h t j ≠ gate x0 x3 b h t j')) ||| ~~~(BitVec.ofBool (decide (j.val < j'.val)) &&& BitVec.ofBool (decide (j'.val < t.val / 256))) := by
  pointwise [fn, fn_part1]
  rw [WordCmp.cmpi_slt_ofNat (by omega) (by omega), WordCmp.cmpi_slt_ofNat (by omega) (by omega)]
  rfl

/-- No two blocks before a query's own have the same gate. -/
theorem distinct (hp : fn (F := Ideal) x0 x1 x2 x3 x4 x5 x6 = fun _ => 1#1) (b : Fin 8) (h : Fin 16) (t : Fin 2048) (j j' : Fin 8)
    (hj : j.val < t.val / 256) (hj' : j'.val < t.val / 256) (e : gate x0 x3 b h t j = gate x0 x3 b h t j') : j = j' := by
  have key : ∀ a c : Fin 8, a.val < c.val → c.val < t.val / 256 → gate x0 x3 b h t a ≠ gate x0 x3 b h t c := fun a c h1 h2 h3 => by
    have e := (fn_apply x0 x1 x2 x3 x4 x5 x6 b h t a c).symm.trans (congrFun hp _)
    rw [decide_eq_false (not_not.2 h3), decide_eq_true h1, decide_eq_true h2] at e
    exact absurd e (by decide)
  rcases lt_trichotomy j.val j'.val with hl | hl | hl
  · exact absurd e (key j j' hl hj')
  · exact Fin.ext hl
  · exact absurd e.symm (key j' j hl hj)

end Cert.Mix.PreA
-- ==== Proof.ClaimA.lean ====
module

public import proofs.«01_k».proof.Defs
public import proofs.«01_k».proof.Proof.LinkA
public import proofs.«01_k».proof.Proof.PreA
public import proofs.«01_k».proof.Proof.Gen.AttnRefIdeal.Run

/-! The claim about the prompt's attention: the kernel's result is its reference's. -/

@[expose] public section

noncomputable section

namespace Cert.Mix.ClaimA

open Cert.AttnIdeal Cert.AttnIdeal.Gen Idealize.ShloMosaic Idealize.ShloMosaic.TcCoe Idealize.SL.Sem
open Cert.AttnRefIdeal.Read Cert.Mix.TileA Cert.Mix.OutA Cert.Mix.RefA Cert.Mix.LinkA

/-- The bias far back at a row: the row's own head's. -/
theorem far_bias (u w : EReal) (r : Fin 512) : k0_pay2 (F := Ideal) u w (ix2 r 0) = if r.val < 256 then u else w := by
  pointwise [k0_pay2]
  exact sel_slt r.val 256 (by omega) (by omega) u w

variable (m : (ℓ : Loc nD τ sig) → Buf (Elt Ideal) ℓ) (c : Dev nD) (t : Fin cfg0.N)

/-! ### The arguments -/

abbrev a0 : (⟨S16384x1024, .f32⟩ : BufTy).Contents (Elt Ideal) := m ((c : Thread nD τ).loc main_arg0)
abbrev a1 : (⟨S16384x1024, .bf16⟩ : BufTy).Contents (Elt Ideal) := m ((c : Thread nD τ).loc main_arg1)
abbrev a2 : (⟨S16384x1024, .bf16⟩ : BufTy).Contents (Elt Ideal) := m ((c : Thread nD τ).loc main_arg2)
abbrev a3 : (⟨S64x1x1024, .f32⟩ : BufTy).Contents (Elt Ideal) := m ((c : Thread nD τ).loc main_arg3)
abbrev a4 : (⟨S8x512x256, .f32⟩ : BufTy).Contents (Elt Ideal) := m ((c : Thread nD τ).loc main_arg4)
abbrev a5 : (⟨S8x512x256, .f32⟩ : BufTy).Contents (Elt Ideal) := m ((c : Thread nD τ).loc main_arg5)
abbrev a6 : (⟨S16, .f32⟩ : BufTy).Contents (Elt Ideal) := m ((c : Thread nD τ).loc main_arg6)

theorem idx : ∀ t : Fin cfg0.N, win0_0.index t = ![0] ∧ win0_1.index t = ![t.val / 8, t.val % 8] ∧ win0_2.index t = ![t.val / 8, t.val % 8]
    ∧ win0_3.index t = ![t.val / 8, t.val % 8] ∧ win0_4.index t = ![t.val / 8, 0, t.val % 8] ∧ win0_5.index t = ![t.val % 8, 0, 0]
    ∧ win0_6.index t = ![t.val % 8, 0, 0] ∧ win0_7.index t = ![t.val / 8, t.val % 8] := by decide +kernel

theorem pair_eq : ∀ t : Fin cfg0.N, ((grid0.coords t) 1).val = t.val % 8 := by decide +kernel

theorem t_lt : t.val < 64 := t.isLt

/-- The sequence of grid point `t`. -/
def sq : Fin 8 := ⟨t.val / 8, by have := t_lt t; omega⟩

/-- The pair of heads of grid point `t`. -/
def pr : Fin 8 := ⟨t.val % 8, by omega⟩

/-! ### The blocks read -/

theorem b0 (n : Fin 16) : iblk m c 0 t (ix1 n) = a6 m c (ix1 n) := by
  blk_ext [iblk, idx t]

theorem b1 (r : Fin 2048) (j : Fin 128) : iblk m c 1 t (ix2 r j) = a0 m c (ix2 (row (sq t) r) ⟨(pr t).val * 128 + j.val, by omega⟩) := by
  blk_ext [iblk, idx t, sq, pr, row]

theorem b2 (r : Fin 2048) (j : Fin 128) : iblk m c 2 t (ix2 r j) = a1 m c (ix2 (row (sq t) r) ⟨(pr t).val * 128 + j.val, by omega⟩) := by
  blk_ext [iblk, idx t, sq, pr, row]

theorem b3 (r : Fin 2048) (j : Fin 128) : iblk m c 3 t (ix2 r j) = a2 m c (ix2 (row (sq t) r) ⟨(pr t).val * 128 + j.val, by omega⟩) := by
  blk_ext [iblk, idx t, sq, pr, row]

theorem b4 (x : Fin 8) (j : Fin 128) : iblk m c 4 t (ix3 0 x j)
    = a3 m c (ix3 ⟨(sq t).val * 8 + x.val, by omega⟩ 0 ⟨(pr t).val * 128 + j.val, by omega⟩) := by
  have e : (win0_4.blk t).view.emb (ix3 0 x j) = (ix3 (sq t) x ⟨(pr t).val * 128 + j.val, by omega⟩ : S8x8x1024.Idx) := by blk_ext [idx t, sq, pr]
  show V m c main_v0 ((win0_4.blk t).view.emb (ix3 0 x j)) = _
  rw [e]
  entry_read
  pointwise

theorem b5 (r : Fin 512) (l : Fin 256) : iblk m c 5 t (ix3 0 r l) = a4 m c (ix3 (pr t) r l) := by
  blk_ext [iblk, idx t, pr]

theorem b6 (r : Fin 512) (l : Fin 256) : iblk m c 6 t (ix3 0 r l) = a5 m c (ix3 (pr t) r l) := by
  blk_ext [iblk, idx t, pr]

theorem arr7 (h : ∀ h t (x y : Fin 8) (b : Fin 8), x.val < t.val / 256 → y.val < t.val / 256 →
      gate (a0 m c) (a3 m c) b h t x = gate (a0 m c) (a3 m c) b h t y → x = y) :
    (dats m 0 c).arrAt 7 cfg0.N = val_main_v77 (F := Ideal) (a0 m c) (a1 m c) (a2 m c) (a3 m c) (a4 m c) (a5 m c) (a6 m c) := by
  refine (dats m 0 c).arrAt_eq_of_covers 7 _ (by decide +kernel) fun t hf y => ?_
  blk_simp
  rw [after0_7]
  obtain ⟨r, j, rfl⟩ : ∃ (r : Fin 2048) (j : Fin 128), y = ix2 r j := ⟨y 0, y 1, eq_ix2 y⟩
  have e : (win0_7.blk t).view.emb (ix2 r j) = (ix2 (row (sq t) r) ⟨(pr t).val * 128 + j.val, by omega⟩ : S16384x1024.Idx) := by
    blk_ext [idx t, sq, pr, row]
  rw [e]
  rw [RefA.out_apply _ _ _ _ _ _ _ (row (sq t) r) _ (sq t) r (hd (pr t) j) ⟨j.val % 64, by omega⟩ rfl
    (Fin.ext (by show (pr t).val * 128 + j.val = (2 * (pr t).val + j.val / 64) * 64 + j.val % 64; omega))]
  refine (OutA.out_apply ..).trans (LinkA.rowA_eq (sq t) (pr t) _ _ _ _ _ _ _ _ _ _ _ _ _ _ (b1 m c t) (b2 m c t) (b3 m c t) (b4 m c t) (b5 m c t)
    (b6 m c t) (fun h' t' x y => h h' t' x y (sq t)) r j ?_)
  rw [far_bias, b0, b0]
  have ep := pair_eq t
  have er : (hrow (tl r) j).val < 256 ↔ j.val < 64 := by
    unfold hrow
    split
    · next hj => exact ⟨fun _ => hj, fun _ => (tl r).isLt⟩
    · next hj => exact ⟨fun h => absurd h (by show ¬256 + (tl r).val < 256; omega), fun h => absurd h hj⟩
  rw [if_congr er rfl rfl]
  split
  · exact congrArg (fun n => a6 m c (ix1 n)) (Fin.ext (by show 2 * ((grid0.coords t) 1).val = 2 * (t.val % 8) + j.val / 64; omega))
  · exact congrArg (fun n => a6 m c (ix1 n)) (Fin.ext (by show 2 * ((grid0.coords t) 1).val + 1 = 2 * (t.val % 8) + j.val / 64; omega))

theorem algebraic : Cert.algebraic_AttnIdeal_AttnRefIdeal_pre_distinct_gates := by
  intro m g m' g' hpre hagree
  refine ⟨fun c => val_main_v77 (F := Ideal) (a0 m c) (a1 m c) (a2 m c) (a3 m c) (a4 m c) (a5 m c) (a6 m c), ?_, ?_⟩
  · refine (θ_run Cert.AttnIdeal.defs _ _).mono (fun r h c => ?_) (Cert.AttnIdeal.Value.run_blocks (F := Ideal) m g)
    obtain ⟨h0, h1⟩ := h c
    exact ⟨h0.trans (arr7 m c fun h t x y b => PreA.distinct _ _ _ _ _ _ _ (hpre c) b h t x y), h1⟩
  · refine (θ_run Cert.AttnRefIdeal.defs _ _).mono (fun r h c => ?_) (Cert.AttnRefIdeal.Value.run (F := Ideal) m' g')
    obtain ⟨h0, h1⟩ := h c
    obtain ⟨e0, e1, e2, e3, e4, e5, e6⟩ := hagree c
    refine ⟨h0.trans ((val_main_v77_eq ..).trans ?_), h1⟩
    rw [e0, e1, e2, e3, e4, e5, e6]

theorem frameRef : Cert.quiescent_AttnRefIdeal := fun m ρ _ =>
  (θ_run Cert.AttnRefIdeal.defs _ _).mono (fun _ h => ⟨fun c => (h c).2, sem_eq_zero_of_no_sems (by decide) _⟩)
    (Cert.AttnRefIdeal.Value.run (F := Ideal) m ρ)

/-- The same with the precondition, which it does not use. -/
theorem frameRefPre : Cert.quiescent_AttnRefIdeal_pre_distinct_gates := fun m ρ _ => frameRef m ρ trivial

end Cert.Mix.ClaimA
-- ==== Proof.lean ====
module

public import proofs.«01_k».proof.Defs
public import proofs.«01_k».proof.Proof.Gen.Route
public import proofs.«01_k».proof.Proof.Gen.RouteIdeal
public import proofs.«01_k».proof.Proof.Gen.RouteRefIdeal
public import proofs.«01_k».proof.Proof.Gen.Route.Frame
public import proofs.«01_k».proof.Proof.Gen.RouteIdeal.Value
public import proofs.«01_k».proof.Proof.Gen.RouteRefIdeal.Run
public import proofs.«01_k».proof.Proof.Gen.RouteRefIdeal.Read
public import proofs.«01_k».proof.Proof.Gen.Ada
public import proofs.«01_k».proof.Proof.Gen.AdaIdeal
public import proofs.«01_k».proof.Proof.Gen.AdaRefIdeal
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.TrQ
public import proofs.«01_k».proof.Proof.Gen.TrQIdeal
public import proofs.«01_k».proof.Proof.Gen.TrQRefIdeal
public import proofs.«01_k».proof.Proof.Gen.TrQ.Frame
public import proofs.«01_k».proof.Proof.Gen.TrQIdeal.Value
public import proofs.«01_k».proof.Proof.Gen.TrQRefIdeal.Run
public import proofs.«01_k».proof.Proof.Gen.TrQRefIdeal.Read
public import proofs.«01_k».proof.Proof.Gen.TrV
public import proofs.«01_k».proof.Proof.Gen.TrVIdeal
public import proofs.«01_k».proof.Proof.Gen.TrVRefIdeal
public import proofs.«01_k».proof.Proof.Gen.TrV.Frame
public import proofs.«01_k».proof.Proof.Gen.TrVIdeal.Value
public import proofs.«01_k».proof.Proof.Gen.TrVRefIdeal.Run
public import proofs.«01_k».proof.Proof.Gen.TrVRefIdeal.Read
public import proofs.«01_k».proof.Proof.Gen.RouteS
public import proofs.«01_k».proof.Proof.Gen.RouteSIdeal
public import proofs.«01_k».proof.Proof.Gen.RouteSRefIdeal
public import proofs.«01_k».proof.Proof.Gen.RouteS.Frame
public import proofs.«01_k».proof.Proof.Gen.RouteSIdeal.Value
public import proofs.«01_k».proof.Proof.Gen.RouteSRefIdeal.Run
public import proofs.«01_k».proof.Proof.Gen.RouteSRefIdeal.Read
public import proofs.«01_k».proof.Proof.Gen.RouteU
public import proofs.«01_k».proof.Proof.Gen.RouteUIdeal
public import proofs.«01_k».proof.Proof.Gen.RouteURefIdeal
public import proofs.«01_k».proof.Proof.Gen.RouteU.Frame
public import proofs.«01_k».proof.Proof.Gen.RouteUIdeal.Value
public import proofs.«01_k».proof.Proof.Gen.RouteURefIdeal.Run
public import proofs.«01_k».proof.Proof.Gen.RouteURefIdeal.Read
public import proofs.«01_k».proof.Proof.Gen.RouteV
public import proofs.«01_k».proof.Proof.Gen.RouteVIdeal
public import proofs.«01_k».proof.Proof.Gen.RouteVRefIdeal
public import proofs.«01_k».proof.Proof.Gen.RouteV.Frame
public import proofs.«01_k».proof.Proof.Gen.RouteVIdeal.Value
public import proofs.«01_k».proof.Proof.Gen.RouteVRefIdeal.Run
public import proofs.«01_k».proof.Proof.Gen.RouteVRefIdeal.Read
public import proofs.«01_k».proof.Proof.Gen.MixP
public import proofs.«01_k».proof.Proof.Gen.MixPIdeal
public import proofs.«01_k».proof.Proof.Gen.MixPRefIdeal
public import proofs.«01_k».proof.Proof.Gen.MixS
public import proofs.«01_k».proof.Proof.Gen.MixSIdeal
public import proofs.«01_k».proof.Proof.Gen.MixSRefIdeal
public import proofs.«01_k».proof.Proof.Gen.KvqP
public import proofs.«01_k».proof.Proof.Gen.KvqPIdeal
public import proofs.«01_k».proof.Proof.Gen.KvqPRefIdeal
public import proofs.«01_k».proof.Proof.Gen.KvqS
public import proofs.«01_k».proof.Proof.Gen.KvqSIdeal
public import proofs.«01_k».proof.Proof.Gen.KvqSRefIdeal
public import proofs.«01_k».proof.Proof.Gen.ProjP
public import proofs.«01_k».proof.Proof.Gen.ProjPIdeal
public import proofs.«01_k».proof.Proof.Gen.ProjPRefIdeal
public import proofs.«01_k».proof.Proof.Gen.ProjS
public import proofs.«01_k».proof.Proof.Gen.ProjSIdeal
public import proofs.«01_k».proof.Proof.Gen.ProjSRefIdeal
public import proofs.«01_k».proof.Proof.Gen.FinalP
public import proofs.«01_k».proof.Proof.Gen.FinalPIdeal
public import proofs.«01_k».proof.Proof.Gen.FinalPRefIdeal
public import proofs.«01_k».proof.Proof.Gen.FinalS
public import proofs.«01_k».proof.Proof.Gen.FinalSIdeal
public import proofs.«01_k».proof.Proof.Gen.FinalSRefIdeal
public import proofs.«01_k».proof.Proof.Gen.Attn
public import proofs.«01_k».proof.Proof.Gen.AttnIdeal
public import proofs.«01_k».proof.Proof.Gen.AttnRefIdeal
public import proofs.«01_k».proof.Proof.Gen.Pre_distinct_gates
public import proofs.«01_k».proof.Proof.Gen.MixP.Frame
public import proofs.«01_k».proof.Proof.Gen.MixS.Frame
public import proofs.«01_k».proof.Proof.Gen.KvqP.Frame
public import proofs.«01_k».proof.Proof.Gen.KvqS.Frame
public import proofs.«01_k».proof.Proof.Gen.ProjP.Frame
public import proofs.«01_k».proof.Proof.Gen.ProjS.Frame
public import proofs.«01_k».proof.Proof.Gen.FinalP.Frame
public import proofs.«01_k».proof.Proof.Gen.FinalS.Frame
public import proofs.«01_k».proof.Proof.Gen.Attn.Frame
public import proofs.«01_k».proof.Proof.Gen.MixPIdeal.Value
public import proofs.«01_k».proof.Proof.Gen.MixPRefIdeal.Run
public import proofs.«01_k».proof.Proof.Gen.MixPRefIdeal.Read
public import proofs.«01_k».proof.Proof.Gen.MixSIdeal.Value
public import proofs.«01_k».proof.Proof.Gen.MixSRefIdeal.Run
public import proofs.«01_k».proof.Proof.Gen.MixSRefIdeal.Read
public import proofs.«01_k».proof.Proof.Gen.KvqPIdeal.Value
public import proofs.«01_k».proof.Proof.Gen.KvqPRefIdeal.Run
public import proofs.«01_k».proof.Proof.Gen.KvqPRefIdeal.Read
public import proofs.«01_k».proof.Proof.Gen.KvqSIdeal.Value
public import proofs.«01_k».proof.Proof.Gen.KvqSRefIdeal.Run
public import proofs.«01_k».proof.Proof.Gen.KvqSRefIdeal.Read
public import proofs.«01_k».proof.Proof.Gen.ProjPIdeal.Value
public import proofs.«01_k».proof.Proof.Gen.ProjPRefIdeal.Run
public import proofs.«01_k».proof.Proof.Gen.ProjPRefIdeal.Read
public import proofs.«01_k».proof.Proof.Gen.ProjSIdeal.Value
public import proofs.«01_k».proof.Proof.Gen.ProjSRefIdeal.Run
public import proofs.«01_k».proof.Proof.Gen.ProjSRefIdeal.Read
public import proofs.«01_k».proof.Proof.Gen.FinalPIdeal.Value
public import proofs.«01_k».proof.Proof.Gen.FinalPRefIdeal.Run
public import proofs.«01_k».proof.Proof.Gen.FinalPRefIdeal.Read
public import proofs.«01_k».proof.Proof.Gen.FinalSIdeal.Value
public import proofs.«01_k».proof.Proof.Gen.FinalSRefIdeal.Run
public import proofs.«01_k».proof.Proof.Gen.FinalSRefIdeal.Read
public import proofs.«01_k».proof.Proof.Gen.AttnIdeal.Value
public import proofs.«01_k».proof.Proof.Gen.AttnRefIdeal.Run
public import proofs.«01_k».proof.Proof.Gen.AttnRefIdeal.Read
public import proofs.«01_k».proof.Proof.ClaimP
public import proofs.«01_k».proof.Proof.ClaimS
public import proofs.«01_k».proof.Proof.ClaimKP
public import proofs.«01_k».proof.Proof.ClaimKS
public import proofs.«01_k».proof.Proof.ClaimOP
public import proofs.«01_k».proof.Proof.ClaimOS
public import proofs.«01_k».proof.Proof.ClaimFP
public import proofs.«01_k».proof.Proof.ClaimFS
public import proofs.«01_k».proof.Proof.ClaimR
public import proofs.«01_k».proof.Proof.ClaimRS
public import proofs.«01_k».proof.Proof.ClaimRU
public import proofs.«01_k».proof.Proof.ClaimRV
public import proofs.«01_k».proof.Proof.ClaimM
public import proofs.«01_k».proof.Proof.ClaimTrQ
public import proofs.«01_k».proof.Proof.ClaimTrV
public import proofs.«01_k».proof.Proof.ClaimA
public import Idealize.ShloMosaic.Adequacy
public import Idealize.ShloMosaic.Init

@[expose] public section

noncomputable section

namespace Cert.Proof

open Idealize.ShloMosaic Idealize.SL.Sem Cert.MixP

theorem claim : Cert.Claim :=
  ⟨Cert.MixP.Gen.facts, Cert.MixPIdeal.Gen.facts, Cert.MixPRefIdeal.Gen.facts, Cert.MixS.Gen.facts, Cert.MixSIdeal.Gen.facts,
    Cert.MixSRefIdeal.Gen.facts, Cert.KvqP.Gen.facts, Cert.KvqPIdeal.Gen.facts, Cert.KvqPRefIdeal.Gen.facts, Cert.KvqS.Gen.facts,
    Cert.KvqSIdeal.Gen.facts, Cert.KvqSRefIdeal.Gen.facts, Cert.ProjP.Gen.facts, Cert.ProjPIdeal.Gen.facts,
    Cert.ProjPRefIdeal.Gen.facts, Cert.ProjS.Gen.facts, Cert.ProjSIdeal.Gen.facts, Cert.ProjSRefIdeal.Gen.facts,
    Cert.FinalP.Gen.facts, Cert.FinalPIdeal.Gen.facts, Cert.FinalPRefIdeal.Gen.facts, Cert.FinalS.Gen.facts,
    Cert.FinalSIdeal.Gen.facts, Cert.FinalSRefIdeal.Gen.facts, Cert.Route.Gen.facts, Cert.RouteIdeal.Gen.facts,
    Cert.RouteRefIdeal.Gen.facts,
    Cert.RouteS.Gen.facts, Cert.RouteSIdeal.Gen.facts, Cert.RouteSRefIdeal.Gen.facts,
    Cert.RouteU.Gen.facts, Cert.RouteUIdeal.Gen.facts, Cert.RouteURefIdeal.Gen.facts,
    Cert.RouteV.Gen.facts, Cert.RouteVIdeal.Gen.facts, Cert.RouteVRefIdeal.Gen.facts,
    Cert.Ada.Gen.facts, Cert.AdaIdeal.Gen.facts, Cert.AdaRefIdeal.Gen.facts, Cert.TrQ.Gen.facts, Cert.TrQIdeal.Gen.facts, Cert.TrQRefIdeal.Gen.facts, Cert.TrV.Gen.facts, Cert.TrVIdeal.Gen.facts, Cert.TrVRefIdeal.Gen.facts,
    Cert.Attn.Gen.facts, Cert.AttnIdeal.Gen.facts,
    Cert.AttnRefIdeal.Gen.facts, Cert.Pre_distinct_gates.Gen.facts,
    fun m ρ _ => Cert.MixP.Gen.frame m ρ, fun m ρ _ => Cert.MixPIdeal.Gen.frame m ρ, Cert.Mix.ClaimP.frameRef,
    fun m ρ _ => Cert.MixS.Gen.frame m ρ, fun m ρ _ => Cert.MixSIdeal.Gen.frame m ρ, Cert.Mix.ClaimS.frameRef,
    fun m ρ _ => Cert.KvqP.Gen.frame m ρ, fun m ρ _ => Cert.KvqPIdeal.Gen.frame m ρ, Cert.Mix.ClaimKP.frameRef,
    fun m ρ _ => Cert.KvqS.Gen.frame m ρ, fun m ρ _ => Cert.KvqSIdeal.Gen.frame m ρ, Cert.Mix.ClaimKS.frameRef,
    fun m ρ _ => Cert.ProjP.Gen.frame m ρ, fun m ρ _ => Cert.ProjPIdeal.Gen.frame m ρ, Cert.Mix.ClaimOP.frameRef,
    fun m ρ _ => Cert.ProjS.Gen.frame m ρ, fun m ρ _ => Cert.ProjSIdeal.Gen.frame m ρ, Cert.Mix.ClaimOS.frameRef,
    fun m ρ _ => Cert.FinalP.Gen.frame m ρ, fun m ρ _ => Cert.FinalPIdeal.Gen.frame m ρ, Cert.Mix.ClaimFP.frameRef,
    fun m ρ _ => Cert.FinalS.Gen.frame m ρ, fun m ρ _ => Cert.FinalSIdeal.Gen.frame m ρ, Cert.Mix.ClaimFS.frameRef,
    fun m ρ _ => Cert.Route.Gen.frame m ρ, fun m ρ _ => Cert.RouteIdeal.Gen.frame m ρ, Cert.Mix.ClaimR.frameRef,
    fun m ρ _ => Cert.RouteS.Gen.frame m ρ, fun m ρ _ => Cert.RouteSIdeal.Gen.frame m ρ, Cert.Mix.ClaimRS.frameRef,
    fun m ρ _ => Cert.RouteU.Gen.frame m ρ, fun m ρ _ => Cert.RouteUIdeal.Gen.frame m ρ, Cert.Mix.ClaimRU.frameRef,
    fun m ρ _ => Cert.RouteV.Gen.frame m ρ, fun m ρ _ => Cert.RouteVIdeal.Gen.frame m ρ, Cert.Mix.ClaimRV.frameRef,
    fun m ρ _ => Cert.Ada.Gen.frame m ρ, fun m ρ _ => Cert.AdaIdeal.Gen.frame m ρ, Cert.Mix.ClaimM.frameRef,
    fun m ρ _ => Cert.TrQ.Gen.frame m ρ, fun m ρ _ => Cert.TrQIdeal.Gen.frame m ρ, Cert.Mix.ClaimTrQ.frameRef,
    fun m ρ _ => Cert.TrV.Gen.frame m ρ, fun m ρ _ => Cert.TrVIdeal.Gen.frame m ρ, Cert.Mix.ClaimTrV.frameRef,
    fun m ρ _ => Cert.Attn.Gen.frame m ρ, fun m ρ _ => Cert.AttnIdeal.Gen.frame m ρ,
    fun m ρ _ => Cert.AttnIdeal.Gen.frame m ρ, Cert.Mix.ClaimA.frameRef, Cert.Mix.ClaimA.frameRefPre,
    trivial, Cert.Mix.ClaimP.algebraic,
    trivial, Cert.Mix.ClaimS.algebraic,
    trivial, Cert.Mix.ClaimKP.algebraic,
    trivial, Cert.Mix.ClaimKS.algebraic,
    trivial, Cert.Mix.ClaimOP.algebraic,
    trivial, Cert.Mix.ClaimOS.algebraic,
    trivial, Cert.Mix.ClaimFP.algebraic,
    trivial, Cert.Mix.ClaimFS.algebraic,
    trivial, Cert.Mix.ClaimR.algebraic,
    trivial, Cert.Mix.ClaimRS.algebraic,
    trivial, Cert.Mix.ClaimRU.algebraic,
    trivial, Cert.Mix.ClaimRV.algebraic,
    trivial, Cert.Mix.ClaimM.algebraic,
    trivial, Cert.Mix.ClaimTrQ.algebraic,
    trivial, Cert.Mix.ClaimTrV.algebraic,
    IdealRules.named_const.statement Cert.AttnIdeal.κ "mask" .f32 0xF149F2CA#32 ⊥ rfl, Cert.Mix.ClaimA.algebraic⟩

end Cert.Proof
